-- ==== Defs.lean ====
def Pre_Kernel [hPre_near_named : Cert.Pre_near_named.Facts] (m : (ℓ : Loc Cert.Kernel.nD Cert.Kernel.τ Cert.Kernel.sig) → Buf (Elt Bits) ℓ) : Prop :=
  ∀ c : Dev Cert.Kernel.nD,
    (Cert.Pre_near_named.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_near_named : Cert.Pre_near_named.Facts] (m : (ℓ : Loc Cert.KernelIdeal.nD Cert.KernelIdeal.τ Cert.KernelIdeal.sig) → Buf (Elt Ideal) ℓ) : Prop :=
  ∀ c : Dev Cert.KernelIdeal.nD,
    (Cert.Pre_near_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_near_named_cent_finite [hPre_near_named_cent_finite : Cert.Pre_near_named_cent_finite.Facts] (m : (ℓ : Loc Cert.KernelIdeal.nD Cert.KernelIdeal.τ Cert.KernelIdeal.sig) → Buf (Elt Ideal) ℓ) : Prop :=
  ∀ c : Dev Cert.KernelIdeal.nD,
    (Cert.Pre_near_named_cent_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_near_named : Cert.Pre_near_named.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_near_named.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_ReferenceIdeal_near_named_cent_finite [hPre_near_named_cent_finite : Cert.Pre_near_named_cent_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_near_named_cent_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Nearest (m : (ℓ : Loc Cert.Nearest.nD Cert.Nearest.τ Cert.Nearest.sig) → Buf (Elt Bits) ℓ) : Prop :=
  True

def Pre_NearestIdeal (m : (ℓ : Loc Cert.NearestIdeal.nD Cert.NearestIdeal.τ Cert.NearestIdeal.sig) → Buf (Elt Ideal) ℓ) : Prop :=
  True

def Pre_NearestRefIdeal (m : (ℓ : Loc Cert.NearestRefIdeal.nD Cert.NearestRefIdeal.τ Cert.NearestRefIdeal.sig) → Buf (Elt Ideal) ℓ) : Prop :=
  True

def Pre_SampleIdeal (m : (ℓ : Loc Cert.SampleIdeal.nD Cert.SampleIdeal.τ Cert.SampleIdeal.sig) → Buf (Elt Ideal) ℓ) : Prop :=
  True

def Pre_SampleRefIdeal (m : (ℓ : Loc Cert.SampleRefIdeal.nD Cert.SampleRefIdeal.τ Cert.SampleRefIdeal.sig) → Buf (Elt Ideal) ℓ) : Prop :=
  True

def Pre_Features (m : (ℓ : Loc Cert.Features.nD Cert.Features.τ Cert.Features.sig) → Buf (Elt Bits) ℓ) : Prop :=
  True

def Pre_FeaturesIdeal (m : (ℓ : Loc Cert.FeaturesIdeal.nD Cert.FeaturesIdeal.τ Cert.FeaturesIdeal.sig) → Buf (Elt Ideal) ℓ) : Prop :=
  True

def Pre_FeaturesRefIdeal (m : (ℓ : Loc Cert.FeaturesRefIdeal.nD Cert.FeaturesRefIdeal.τ Cert.FeaturesRefIdeal.sig) → Buf (Elt Ideal) ℓ) : Prop :=
  True

def quiescent_Kernel [hKernel : Cert.Kernel.Facts] [hPre_near_named : Cert.Pre_near_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_near_named : Cert.Pre_near_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_near_named_cent_finite [hKernelIdeal : Cert.KernelIdeal.Facts] [hPre_near_named_cent_finite : Cert.Pre_near_named_cent_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_near_named_cent_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_near_named : Cert.Pre_near_named.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_near_named_cent_finite [hReferenceIdeal : Cert.ReferenceIdeal.Facts] [hPre_near_named_cent_finite : Cert.Pre_near_named_cent_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_near_named_cent_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Nearest [hNearest : Cert.Nearest.Facts] : Prop :=
  ∀ (m : (ℓ : Loc Cert.Nearest.nD Cert.Nearest.τ Cert.Nearest.sig) → Buf (Elt Bits) ℓ) (g : Dev Cert.Nearest.nD → PrngReg), Pre_Nearest m →
    θ_run (Cert.Nearest.defs (F := Bits)) (onTc (τ := Cert.Nearest.τ) (Cert.Nearest.main (F := Bits))) ⟨m, fun _ => 0, g⟩ (fun r => (∀ c : Dev Cert.Nearest.nD,
      r.2.mem ((c.tc : Thread Cert.Nearest.nD Cert.Nearest.τ).loc Cert.Nearest.main_arg0) = m ((c.tc : Thread Cert.Nearest.nD Cert.Nearest.τ).loc Cert.Nearest.main_arg0)
      ∧ r.2.mem ((c.tc : Thread Cert.Nearest.nD Cert.Nearest.τ).loc Cert.Nearest.main_arg1) = m ((c.tc : Thread Cert.Nearest.nD Cert.Nearest.τ).loc Cert.Nearest.main_arg1))
      ∧ r.2.sem = fun _ => 0)

def quiescent_NearestIdeal [hNearestIdeal : Cert.NearestIdeal.Facts] : Prop :=
  ∀ (m : (ℓ : Loc Cert.NearestIdeal.nD Cert.NearestIdeal.τ Cert.NearestIdeal.sig) → Buf (Elt Ideal) ℓ) (g : Dev Cert.NearestIdeal.nD → PrngReg), Pre_NearestIdeal m →
    θ_run (Cert.NearestIdeal.defs (F := Ideal)) (onTc (τ := Cert.NearestIdeal.τ) (Cert.NearestIdeal.main (F := Ideal))) ⟨m, fun _ => 0, g⟩ (fun r => (∀ c : Dev Cert.NearestIdeal.nD,
      r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
      ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1))
      ∧ r.2.sem = fun _ => 0)

def quiescent_NearestRefIdeal [hNearestRefIdeal : Cert.NearestRefIdeal.Facts] : Prop :=
  ∀ (m : (ℓ : Loc Cert.NearestRefIdeal.nD Cert.NearestRefIdeal.τ Cert.NearestRefIdeal.sig) → Buf (Elt Ideal) ℓ) (g : Dev Cert.NearestRefIdeal.nD → PrngReg), Pre_NearestRefIdeal m →
    θ_run (Cert.NearestRefIdeal.defs (F := Ideal)) (onTc (τ := Cert.NearestRefIdeal.τ) (Cert.NearestRefIdeal.main (F := Ideal))) ⟨m, fun _ => 0, g⟩ (fun r => (∀ c : Dev Cert.NearestRefIdeal.nD,
      r.2.mem ((c.tc : Thread Cert.NearestRefIdeal.nD Cert.NearestRefIdeal.τ).loc Cert.NearestRefIdeal.main_arg0) = m ((c.tc : Thread Cert.NearestRefIdeal.nD Cert.NearestRefIdeal.τ).loc Cert.NearestRefIdeal.main_arg0)
      ∧ r.2.mem ((c.tc : Thread Cert.NearestRefIdeal.nD Cert.NearestRefIdeal.τ).loc Cert.NearestRefIdeal.main_arg1) = m ((c.tc : Thread Cert.NearestRefIdeal.nD Cert.NearestRefIdeal.τ).loc Cert.NearestRefIdeal.main_arg1))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0))
      ∧ r.2.sem = fun _ => 0)

def quiescent_Features [hFeatures : Cert.Features.Facts] : Prop :=
  ∀ (m : (ℓ : Loc Cert.Features.nD Cert.Features.τ Cert.Features.sig) → Buf (Elt Bits) ℓ) (g : Dev Cert.Features.nD → PrngReg), Pre_Features m →
    θ_run (Cert.Features.defs (F := Bits)) (onTc (τ := Cert.Features.τ) (Cert.Features.main (F := Bits))) ⟨m, fun _ => 0, g⟩ (fun r => (∀ c : Dev Cert.Features.nD,
      r.2.mem ((c.tc : Thread Cert.Features.nD Cert.Features.τ).loc Cert.Features.main_arg0) = m ((c.tc : Thread Cert.Features.nD Cert.Features.τ).loc Cert.Features.main_arg0)
      ∧ r.2.mem ((c.tc : Thread Cert.Features.nD Cert.Features.τ).loc Cert.Features.main_arg1) = m ((c.tc : Thread Cert.Features.nD Cert.Features.τ).loc Cert.Features.main_arg1)
      ∧ r.2.mem ((c.tc : Thread Cert.Features.nD Cert.Features.τ).loc Cert.Features.main_arg2) = m ((c.tc : Thread Cert.Features.nD Cert.Features.τ).loc Cert.Features.main_arg2)
      ∧ r.2.mem ((c.tc : Thread Cert.Features.nD Cert.Features.τ).loc Cert.Features.main_arg3) = m ((c.tc : Thread Cert.Features.nD Cert.Features.τ).loc Cert.Features.main_arg3)
      ∧ r.2.mem ((c.tc : Thread Cert.Features.nD Cert.Features.τ).loc Cert.Features.main_arg4) = m ((c.tc : Thread Cert.Features.nD Cert.Features.τ).loc Cert.Features.main_arg4)
      ∧ r.2.mem ((c.tc : Thread Cert.Features.nD Cert.Features.τ).loc Cert.Features.main_arg5) = m ((c.tc : Thread Cert.Features.nD Cert.Features.τ).loc Cert.Features.main_arg5)
      ∧ r.2.mem ((c.tc : Thread Cert.Features.nD Cert.Features.τ).loc Cert.Features.main_arg6) = m ((c.tc : Thread Cert.Features.nD Cert.Features.τ).loc Cert.Features.main_arg6)
      ∧ r.2.mem ((c.tc : Thread Cert.Features.nD Cert.Features.τ).loc Cert.Features.main_arg7) = m ((c.tc : Thread Cert.Features.nD Cert.Features.τ).loc Cert.Features.main_arg7)
      ∧ r.2.mem ((c.tc : Thread Cert.Features.nD Cert.Features.τ).loc Cert.Features.main_arg8) = m ((c.tc : Thread Cert.Features.nD Cert.Features.τ).loc Cert.Features.main_arg8)
      ∧ r.2.mem ((c.tc : Thread Cert.Features.nD Cert.Features.τ).loc Cert.Features.main_arg9) = m ((c.tc : Thread Cert.Features.nD Cert.Features.τ).loc Cert.Features.main_arg9)
      ∧ r.2.mem ((c.tc : Thread Cert.Features.nD Cert.Features.τ).loc Cert.Features.main_arg10) = m ((c.tc : Thread Cert.Features.nD Cert.Features.τ).loc Cert.Features.main_arg10)
      ∧ r.2.mem ((c.tc : Thread Cert.Features.nD Cert.Features.τ).loc Cert.Features.main_arg11) = m ((c.tc : Thread Cert.Features.nD Cert.Features.τ).loc Cert.Features.main_arg11))
      ∧ r.2.sem = fun _ => 0)

def quiescent_FeaturesIdeal [hFeaturesIdeal : Cert.FeaturesIdeal.Facts] : Prop :=
  ∀ (m : (ℓ : Loc Cert.FeaturesIdeal.nD Cert.FeaturesIdeal.τ Cert.FeaturesIdeal.sig) → Buf (Elt Ideal) ℓ) (g : Dev Cert.FeaturesIdeal.nD → PrngReg), Pre_FeaturesIdeal m →
    θ_run (Cert.FeaturesIdeal.defs (F := Ideal)) (onTc (τ := Cert.FeaturesIdeal.τ) (Cert.FeaturesIdeal.main (F := Ideal))) ⟨m, fun _ => 0, g⟩ (fun r => (∀ c : Dev Cert.FeaturesIdeal.nD,
      r.2.mem ((c.tc : Thread Cert.FeaturesIdeal.nD Cert.FeaturesIdeal.τ).loc Cert.FeaturesIdeal.main_arg0) = m ((c.tc : Thread Cert.FeaturesIdeal.nD Cert.FeaturesIdeal.τ).loc Cert.FeaturesIdeal.main_arg0)
      ∧ r.2.mem ((c.tc : Thread Cert.FeaturesIdeal.nD Cert.FeaturesIdeal.τ).loc Cert.FeaturesIdeal.main_arg1) = m ((c.tc : Thread Cert.FeaturesIdeal.nD Cert.FeaturesIdeal.τ).loc Cert.FeaturesIdeal.main_arg1)
      ∧ r.2.mem ((c.tc : Thread Cert.FeaturesIdeal.nD Cert.FeaturesIdeal.τ).loc Cert.FeaturesIdeal.main_arg2) = m ((c.tc : Thread Cert.FeaturesIdeal.nD Cert.FeaturesIdeal.τ).loc Cert.FeaturesIdeal.main_arg2)
      ∧ r.2.mem ((c.tc : Thread Cert.FeaturesIdeal.nD Cert.FeaturesIdeal.τ).loc Cert.FeaturesIdeal.main_arg3) = m ((c.tc : Thread Cert.FeaturesIdeal.nD Cert.FeaturesIdeal.τ).loc Cert.FeaturesIdeal.main_arg3)
      ∧ r.2.mem ((c.tc : Thread Cert.FeaturesIdeal.nD Cert.FeaturesIdeal.τ).loc Cert.FeaturesIdeal.main_arg4) = m ((c.tc : Thread Cert.FeaturesIdeal.nD Cert.FeaturesIdeal.τ).loc Cert.FeaturesIdeal.main_arg4)
      ∧ r.2.mem ((c.tc : Thread Cert.FeaturesIdeal.nD Cert.FeaturesIdeal.τ).loc Cert.FeaturesIdeal.main_arg5) = m ((c.tc : Thread Cert.FeaturesIdeal.nD Cert.FeaturesIdeal.τ).loc Cert.FeaturesIdeal.main_arg5)
      ∧ r.2.mem ((c.tc : Thread Cert.FeaturesIdeal.nD Cert.FeaturesIdeal.τ).loc Cert.FeaturesIdeal.main_arg6) = m ((c.tc : Thread Cert.FeaturesIdeal.nD Cert.FeaturesIdeal.τ).loc Cert.FeaturesIdeal.main_arg6)
      ∧ r.2.mem ((c.tc : Thread Cert.FeaturesIdeal.nD Cert.FeaturesIdeal.τ).loc Cert.FeaturesIdeal.main_arg7) = m ((c.tc : Thread Cert.FeaturesIdeal.nD Cert.FeaturesIdeal.τ).loc Cert.FeaturesIdeal.main_arg7)
      ∧ r.2.mem ((c.tc : Thread Cert.FeaturesIdeal.nD Cert.FeaturesIdeal.τ).loc Cert.FeaturesIdeal.main_arg8) = m ((c.tc : Thread Cert.FeaturesIdeal.nD Cert.FeaturesIdeal.τ).loc Cert.FeaturesIdeal.main_arg8)
      ∧ r.2.mem ((c.tc : Thread Cert.FeaturesIdeal.nD Cert.FeaturesIdeal.τ).loc Cert.FeaturesIdeal.main_arg9) = m ((c.tc : Thread Cert.FeaturesIdeal.nD Cert.FeaturesIdeal.τ).loc Cert.FeaturesIdeal.main_arg9)
      ∧ r.2.mem ((c.tc : Thread Cert.FeaturesIdeal.nD Cert.FeaturesIdeal.τ).loc Cert.FeaturesIdeal.main_arg10) = m ((c.tc : Thread Cert.FeaturesIdeal.nD Cert.FeaturesIdeal.τ).loc Cert.FeaturesIdeal.main_arg10)
      ∧ r.2.mem ((c.tc : Thread Cert.FeaturesIdeal.nD Cert.FeaturesIdeal.τ).loc Cert.FeaturesIdeal.main_arg11) = m ((c.tc : Thread Cert.FeaturesIdeal.nD Cert.FeaturesIdeal.τ).loc Cert.FeaturesIdeal.main_arg11))
      ∧ r.2.sem = fun _ => 0)

def quiescent_FeaturesRefIdeal [hFeaturesRefIdeal : Cert.FeaturesRefIdeal.Facts] : Prop :=
  ∀ (m : (ℓ : Loc Cert.FeaturesRefIdeal.nD Cert.FeaturesRefIdeal.τ Cert.FeaturesRefIdeal.sig) → Buf (Elt Ideal) ℓ) (g : Dev Cert.FeaturesRefIdeal.nD → PrngReg), Pre_FeaturesRefIdeal m →
    θ_run (Cert.FeaturesRefIdeal.defs (F := Ideal)) (onTc (τ := Cert.FeaturesRefIdeal.τ) (Cert.FeaturesRefIdeal.main (F := Ideal))) ⟨m, fun _ => 0, g⟩ (fun r => (∀ c : Dev Cert.FeaturesRefIdeal.nD,
      r.2.mem ((c.tc : Thread Cert.FeaturesRefIdeal.nD Cert.FeaturesRefIdeal.τ).loc Cert.FeaturesRefIdeal.main_arg0) = m ((c.tc : Thread Cert.FeaturesRefIdeal.nD Cert.FeaturesRefIdeal.τ).loc Cert.FeaturesRefIdeal.main_arg0)
      ∧ r.2.mem ((c.tc : Thread Cert.FeaturesRefIdeal.nD Cert.FeaturesRefIdeal.τ).loc Cert.FeaturesRefIdeal.main_arg1) = m ((c.tc : Thread Cert.FeaturesRefIdeal.nD Cert.FeaturesRefIdeal.τ).loc Cert.FeaturesRefIdeal.main_arg1)
      ∧ r.2.mem ((c.tc : Thread Cert.FeaturesRefIdeal.nD Cert.FeaturesRefIdeal.τ).loc Cert.FeaturesRefIdeal.main_arg2) = m ((c.tc : Thread Cert.FeaturesRefIdeal.nD Cert.FeaturesRefIdeal.τ).loc Cert.FeaturesRefIdeal.main_arg2)
      ∧ r.2.mem ((c.tc : Thread Cert.FeaturesRefIdeal.nD Cert.FeaturesRefIdeal.τ).loc Cert.FeaturesRefIdeal.main_arg3) = m ((c.tc : Thread Cert.FeaturesRefIdeal.nD Cert.FeaturesRefIdeal.τ).loc Cert.FeaturesRefIdeal.main_arg3)
      ∧ r.2.mem ((c.tc : Thread Cert.FeaturesRefIdeal.nD Cert.FeaturesRefIdeal.τ).loc Cert.FeaturesRefIdeal.main_arg4) = m ((c.tc : Thread Cert.FeaturesRefIdeal.nD Cert.FeaturesRefIdeal.τ).loc Cert.FeaturesRefIdeal.main_arg4)
      ∧ r.2.mem ((c.tc : Thread Cert.FeaturesRefIdeal.nD Cert.FeaturesRefIdeal.τ).loc Cert.FeaturesRefIdeal.main_arg5) = m ((c.tc : Thread Cert.FeaturesRefIdeal.nD Cert.FeaturesRefIdeal.τ).loc Cert.FeaturesRefIdeal.main_arg5)
      ∧ r.2.mem ((c.tc : Thread Cert.FeaturesRefIdeal.nD Cert.FeaturesRefIdeal.τ).loc Cert.FeaturesRefIdeal.main_arg6) = m ((c.tc : Thread Cert.FeaturesRefIdeal.nD Cert.FeaturesRefIdeal.τ).loc Cert.FeaturesRefIdeal.main_arg6)
      ∧ r.2.mem ((c.tc : Thread Cert.FeaturesRefIdeal.nD Cert.FeaturesRefIdeal.τ).loc Cert.FeaturesRefIdeal.main_arg7) = m ((c.tc : Thread Cert.FeaturesRefIdeal.nD Cert.FeaturesRefIdeal.τ).loc Cert.FeaturesRefIdeal.main_arg7)
      ∧ r.2.mem ((c.tc : Thread Cert.FeaturesRefIdeal.nD Cert.FeaturesRefIdeal.τ).loc Cert.FeaturesRefIdeal.main_arg8) = m ((c.tc : Thread Cert.FeaturesRefIdeal.nD Cert.FeaturesRefIdeal.τ).loc Cert.FeaturesRefIdeal.main_arg8)
      ∧ r.2.mem ((c.tc : Thread Cert.FeaturesRefIdeal.nD Cert.FeaturesRefIdeal.τ).loc Cert.FeaturesRefIdeal.main_arg9) = m ((c.tc : Thread Cert.FeaturesRefIdeal.nD Cert.FeaturesRefIdeal.τ).loc Cert.FeaturesRefIdeal.main_arg9)
      ∧ r.2.mem ((c.tc : Thread Cert.FeaturesRefIdeal.nD Cert.FeaturesRefIdeal.τ).loc Cert.FeaturesRefIdeal.main_arg10) = m ((c.tc : Thread Cert.FeaturesRefIdeal.nD Cert.FeaturesRefIdeal.τ).loc Cert.FeaturesRefIdeal.main_arg10)
      ∧ r.2.mem ((c.tc : Thread Cert.FeaturesRefIdeal.nD Cert.FeaturesRefIdeal.τ).loc Cert.FeaturesRefIdeal.main_arg11) = m ((c.tc : Thread Cert.FeaturesRefIdeal.nD Cert.FeaturesRefIdeal.τ).loc Cert.FeaturesRefIdeal.main_arg11))
      ∧ r.2.sem = fun _ => 0)

def preserves_Kernel_KernelIdeal : Prop :=
  True

def algebraic_KernelIdeal_ReferenceIdeal_pre_near_named_cent_finite [hKernelIdeal : Cert.KernelIdeal.Facts] [hReferenceIdeal : Cert.ReferenceIdeal.Facts] [hPre_near_named_cent_finite : Cert.Pre_near_named_cent_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_near_named_cent_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Nearest_NearestIdeal : Prop :=
  True

def algebraic_NearestIdeal_NearestRefIdeal [hNearestIdeal : Cert.NearestIdeal.Facts] [hNearestRefIdeal : Cert.NearestRefIdeal.Facts] : Prop :=
  ∀ (m : (ℓ : Loc Cert.NearestIdeal.nD Cert.NearestIdeal.τ Cert.NearestIdeal.sig) → Buf (Elt Ideal) ℓ) (g : Dev Cert.NearestIdeal.nD → PrngReg)
    (m' : (ℓ : Loc Cert.NearestRefIdeal.nD Cert.NearestRefIdeal.τ Cert.NearestRefIdeal.sig) → Buf (Elt Ideal) ℓ) (g' : Dev Cert.NearestRefIdeal.nD → PrngReg), Pre_NearestIdeal m →
    (∀ c : Dev Cert.NearestIdeal.nD,
      m' ((c.tc : Thread Cert.NearestRefIdeal.nD Cert.NearestRefIdeal.τ).loc Cert.NearestRefIdeal.main_arg0) = m ((c.tc : Thread Cert.NearestIdeal.nD Cert.NearestIdeal.τ).loc Cert.NearestIdeal.main_arg0)
      ∧ m' ((c.tc : Thread Cert.NearestRefIdeal.nD Cert.NearestRefIdeal.τ).loc Cert.NearestRefIdeal.main_arg1) = m ((c.tc : Thread Cert.NearestIdeal.nD Cert.NearestIdeal.τ).loc Cert.NearestIdeal.main_arg1)) →
    ∃ (v0 : (c : Dev Cert.NearestIdeal.nD) → Buf (Elt Ideal) ((c.tc : Thread Cert.NearestIdeal.nD Cert.NearestIdeal.τ).loc Cert.NearestIdeal.main_v14)),
      θ_run (Cert.NearestIdeal.defs (F := Ideal)) (onTc (τ := Cert.NearestIdeal.τ) (Cert.NearestIdeal.main (F := Ideal))) ⟨m, fun _ => 0, g⟩ (fun r => ∀ c : Dev Cert.NearestIdeal.nD,
          r.2.mem ((c.tc : Thread Cert.NearestIdeal.nD Cert.NearestIdeal.τ).loc Cert.NearestIdeal.main_v14) = v0 c
          ∧ r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0)
          ∧ r.2.mem ((c.tc : Thread Cert.NearestIdeal.nD Cert.NearestIdeal.τ).loc Cert.NearestIdeal.main_arg1) = m ((c.tc : Thread Cert.NearestIdeal.nD Cert.NearestIdeal.τ).loc Cert.NearestIdeal.main_arg1))
      ∧ θ_run (Cert.NearestRefIdeal.defs (F := Ideal)) (onTc (τ := Cert.NearestRefIdeal.τ) (Cert.NearestRefIdeal.main (F := Ideal))) ⟨m', fun _ => 0, g'⟩ (fun r => ∀ c : Dev Cert.NearestRefIdeal.nD,
          r.2.mem ((c.tc : Thread Cert.NearestRefIdeal.nD Cert.NearestRefIdeal.τ).loc Cert.NearestRefIdeal.main_v9) = v0 c
          ∧ r.2.mem ((c.tc : Thread Cert.NearestRefIdeal.nD Cert.NearestRefIdeal.τ).loc Cert.NearestRefIdeal.main_arg0) = m' ((c.tc : Thread Cert.NearestRefIdeal.nD Cert.NearestRefIdeal.τ).loc Cert.NearestRefIdeal.main_arg0)
          ∧ r.2.mem ((c.tc : Thread Cert.NearestRefIdeal.nD Cert.NearestRefIdeal.τ).loc Cert.NearestRefIdeal.main_arg1) = m' ((c.tc : Thread Cert.NearestRefIdeal.nD Cert.NearestRefIdeal.τ).loc Cert.NearestRefIdeal.main_arg1))

def algebraic_SampleIdeal_SampleRefIdeal [hSampleIdeal : Cert.SampleIdeal.Facts] [hSampleRefIdeal : Cert.SampleRefIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)) →
    ∃ (v0 : (c : Dev Cert.SampleIdeal.nD) → Buf (Elt Ideal) ((c.tc : Thread Cert.SampleIdeal.nD Cert.SampleIdeal.τ).loc Cert.SampleIdeal.main_v11)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v11) = v0 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v6_4) = v0 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0))

def preserves_Features_FeaturesIdeal : Prop :=
  True

def algebraic_FeaturesIdeal_FeaturesRefIdeal [hFeaturesIdeal : Cert.FeaturesIdeal.Facts] [hFeaturesRefIdeal : Cert.FeaturesRefIdeal.Facts] : Prop :=
  ∀ (m : (ℓ : Loc Cert.FeaturesIdeal.nD Cert.FeaturesIdeal.τ Cert.FeaturesIdeal.sig) → Buf (Elt Ideal) ℓ) (g : Dev Cert.FeaturesIdeal.nD → PrngReg)
    (m' : (ℓ : Loc Cert.FeaturesRefIdeal.nD Cert.FeaturesRefIdeal.τ Cert.FeaturesRefIdeal.sig) → Buf (Elt Ideal) ℓ) (g' : Dev Cert.FeaturesRefIdeal.nD → PrngReg), Pre_FeaturesIdeal m →
    (∀ c : Dev Cert.FeaturesIdeal.nD,
      m' ((c.tc : Thread Cert.FeaturesRefIdeal.nD Cert.FeaturesRefIdeal.τ).loc Cert.FeaturesRefIdeal.main_arg0) = m ((c.tc : Thread Cert.FeaturesIdeal.nD Cert.FeaturesIdeal.τ).loc Cert.FeaturesIdeal.main_arg0)
      ∧ m' ((c.tc : Thread Cert.FeaturesRefIdeal.nD Cert.FeaturesRefIdeal.τ).loc Cert.FeaturesRefIdeal.main_arg1) = m ((c.tc : Thread Cert.FeaturesIdeal.nD Cert.FeaturesIdeal.τ).loc Cert.FeaturesIdeal.main_arg1)
      ∧ m' ((c.tc : Thread Cert.FeaturesRefIdeal.nD Cert.FeaturesRefIdeal.τ).loc Cert.FeaturesRefIdeal.main_arg2) = m ((c.tc : Thread Cert.FeaturesIdeal.nD Cert.FeaturesIdeal.τ).loc Cert.FeaturesIdeal.main_arg2)
      ∧ m' ((c.tc : Thread Cert.FeaturesRefIdeal.nD Cert.FeaturesRefIdeal.τ).loc Cert.FeaturesRefIdeal.main_arg3) = m ((c.tc : Thread Cert.FeaturesIdeal.nD Cert.FeaturesIdeal.τ).loc Cert.FeaturesIdeal.main_arg3)
      ∧ m' ((c.tc : Thread Cert.FeaturesRefIdeal.nD Cert.FeaturesRefIdeal.τ).loc Cert.FeaturesRefIdeal.main_arg4) = m ((c.tc : Thread Cert.FeaturesIdeal.nD Cert.FeaturesIdeal.τ).loc Cert.FeaturesIdeal.main_arg4)
      ∧ m' ((c.tc : Thread Cert.FeaturesRefIdeal.nD Cert.FeaturesRefIdeal.τ).loc Cert.FeaturesRefIdeal.main_arg5) = m ((c.tc : Thread Cert.FeaturesIdeal.nD Cert.FeaturesIdeal.τ).loc Cert.FeaturesIdeal.main_arg5)
      ∧ m' ((c.tc : Thread Cert.FeaturesRefIdeal.nD Cert.FeaturesRefIdeal.τ).loc Cert.FeaturesRefIdeal.main_arg6) = m ((c.tc : Thread Cert.FeaturesIdeal.nD Cert.FeaturesIdeal.τ).loc Cert.FeaturesIdeal.main_arg6)
      ∧ m' ((c.tc : Thread Cert.FeaturesRefIdeal.nD Cert.FeaturesRefIdeal.τ).loc Cert.FeaturesRefIdeal.main_arg7) = m ((c.tc : Thread Cert.FeaturesIdeal.nD Cert.FeaturesIdeal.τ).loc Cert.FeaturesIdeal.main_arg7)
      ∧ m' ((c.tc : Thread Cert.FeaturesRefIdeal.nD Cert.FeaturesRefIdeal.τ).loc Cert.FeaturesRefIdeal.main_arg8) = m ((c.tc : Thread Cert.FeaturesIdeal.nD Cert.FeaturesIdeal.τ).loc Cert.FeaturesIdeal.main_arg8)
      ∧ m' ((c.tc : Thread Cert.FeaturesRefIdeal.nD Cert.FeaturesRefIdeal.τ).loc Cert.FeaturesRefIdeal.main_arg9) = m ((c.tc : Thread Cert.FeaturesIdeal.nD Cert.FeaturesIdeal.τ).loc Cert.FeaturesIdeal.main_arg9)
      ∧ m' ((c.tc : Thread Cert.FeaturesRefIdeal.nD Cert.FeaturesRefIdeal.τ).loc Cert.FeaturesRefIdeal.main_arg10) = m ((c.tc : Thread Cert.FeaturesIdeal.nD Cert.FeaturesIdeal.τ).loc Cert.FeaturesIdeal.main_arg10)
      ∧ m' ((c.tc : Thread Cert.FeaturesRefIdeal.nD Cert.FeaturesRefIdeal.τ).loc Cert.FeaturesRefIdeal.main_arg11) = m ((c.tc : Thread Cert.FeaturesIdeal.nD Cert.FeaturesIdeal.τ).loc Cert.FeaturesIdeal.main_arg11)) →
    ∃ (v0 : (c : Dev Cert.FeaturesIdeal.nD) → Buf (Elt Ideal) ((c.tc : Thread Cert.FeaturesIdeal.nD Cert.FeaturesIdeal.τ).loc Cert.FeaturesIdeal.main_v16)),
      θ_run (Cert.FeaturesIdeal.defs (F := Ideal)) (onTc (τ := Cert.FeaturesIdeal.τ) (Cert.FeaturesIdeal.main (F := Ideal))) ⟨m, fun _ => 0, g⟩ (fun r => ∀ c : Dev Cert.FeaturesIdeal.nD,
          r.2.mem ((c.tc : Thread Cert.FeaturesIdeal.nD Cert.FeaturesIdeal.τ).loc Cert.FeaturesIdeal.main_v16) = v0 c
          ∧ r.2.mem ((c.tc : Thread Cert.FeaturesIdeal.nD Cert.FeaturesIdeal.τ).loc Cert.FeaturesIdeal.main_arg0) = m ((c.tc : Thread Cert.FeaturesIdeal.nD Cert.FeaturesIdeal.τ).loc Cert.FeaturesIdeal.main_arg0)
          ∧ r.2.mem ((c.tc : Thread Cert.FeaturesIdeal.nD Cert.FeaturesIdeal.τ).loc Cert.FeaturesIdeal.main_arg1) = m ((c.tc : Thread Cert.FeaturesIdeal.nD Cert.FeaturesIdeal.τ).loc Cert.FeaturesIdeal.main_arg1)
          ∧ r.2.mem ((c.tc : Thread Cert.FeaturesIdeal.nD Cert.FeaturesIdeal.τ).loc Cert.FeaturesIdeal.main_arg2) = m ((c.tc : Thread Cert.FeaturesIdeal.nD Cert.FeaturesIdeal.τ).loc Cert.FeaturesIdeal.main_arg2)
          ∧ r.2.mem ((c.tc : Thread Cert.FeaturesIdeal.nD Cert.FeaturesIdeal.τ).loc Cert.FeaturesIdeal.main_arg3) = m ((c.tc : Thread Cert.FeaturesIdeal.nD Cert.FeaturesIdeal.τ).loc Cert.FeaturesIdeal.main_arg3)
          ∧ r.2.mem ((c.tc : Thread Cert.FeaturesIdeal.nD Cert.FeaturesIdeal.τ).loc Cert.FeaturesIdeal.main_arg4) = m ((c.tc : Thread Cert.FeaturesIdeal.nD Cert.FeaturesIdeal.τ).loc Cert.FeaturesIdeal.main_arg4)
          ∧ r.2.mem ((c.tc : Thread Cert.FeaturesIdeal.nD Cert.FeaturesIdeal.τ).loc Cert.FeaturesIdeal.main_arg5) = m ((c.tc : Thread Cert.FeaturesIdeal.nD Cert.FeaturesIdeal.τ).loc Cert.FeaturesIdeal.main_arg5)
          ∧ r.2.mem ((c.tc : Thread Cert.FeaturesIdeal.nD Cert.FeaturesIdeal.τ).loc Cert.FeaturesIdeal.main_arg6) = m ((c.tc : Thread Cert.FeaturesIdeal.nD Cert.FeaturesIdeal.τ).loc Cert.FeaturesIdeal.main_arg6)
          ∧ r.2.mem ((c.tc : Thread Cert.FeaturesIdeal.nD Cert.FeaturesIdeal.τ).loc Cert.FeaturesIdeal.main_arg7) = m ((c.tc : Thread Cert.FeaturesIdeal.nD Cert.FeaturesIdeal.τ).loc Cert.FeaturesIdeal.main_arg7)
          ∧ r.2.mem ((c.tc : Thread Cert.FeaturesIdeal.nD Cert.FeaturesIdeal.τ).loc Cert.FeaturesIdeal.main_arg8) = m ((c.tc : Thread Cert.FeaturesIdeal.nD Cert.FeaturesIdeal.τ).loc Cert.FeaturesIdeal.main_arg8)
          ∧ r.2.mem ((c.tc : Thread Cert.FeaturesIdeal.nD Cert.FeaturesIdeal.τ).loc Cert.FeaturesIdeal.main_arg9) = m ((c.tc : Thread Cert.FeaturesIdeal.nD Cert.FeaturesIdeal.τ).loc Cert.FeaturesIdeal.main_arg9)
          ∧ r.2.mem ((c.tc : Thread Cert.FeaturesIdeal.nD Cert.FeaturesIdeal.τ).loc Cert.FeaturesIdeal.main_arg10) = m ((c.tc : Thread Cert.FeaturesIdeal.nD Cert.FeaturesIdeal.τ).loc Cert.FeaturesIdeal.main_arg10)
          ∧ r.2.mem ((c.tc : Thread Cert.FeaturesIdeal.nD Cert.FeaturesIdeal.τ).loc Cert.FeaturesIdeal.main_arg11) = m ((c.tc : Thread Cert.FeaturesIdeal.nD Cert.FeaturesIdeal.τ).loc Cert.FeaturesIdeal.main_arg11))
      ∧ θ_run (Cert.FeaturesRefIdeal.defs (F := Ideal)) (onTc (τ := Cert.FeaturesRefIdeal.τ) (Cert.FeaturesRefIdeal.main (F := Ideal))) ⟨m', fun _ => 0, g'⟩ (fun r => ∀ c : Dev Cert.FeaturesRefIdeal.nD,
          r.2.mem ((c.tc : Thread Cert.FeaturesRefIdeal.nD Cert.FeaturesRefIdeal.τ).loc Cert.FeaturesRefIdeal.main_v87) = v0 c
          ∧ r.2.mem ((c.tc : Thread Cert.FeaturesRefIdeal.nD Cert.FeaturesRefIdeal.τ).loc Cert.FeaturesRefIdeal.main_arg0) = m' ((c.tc : Thread Cert.FeaturesRefIdeal.nD Cert.FeaturesRefIdeal.τ).loc Cert.FeaturesRefIdeal.main_arg0)
          ∧ r.2.mem ((c.tc : Thread Cert.FeaturesRefIdeal.nD Cert.FeaturesRefIdeal.τ).loc Cert.FeaturesRefIdeal.main_arg1) = m' ((c.tc : Thread Cert.FeaturesRefIdeal.nD Cert.FeaturesRefIdeal.τ).loc Cert.FeaturesRefIdeal.main_arg1)
          ∧ r.2.mem ((c.tc : Thread Cert.FeaturesRefIdeal.nD Cert.FeaturesRefIdeal.τ).loc Cert.FeaturesRefIdeal.main_arg2) = m' ((c.tc : Thread Cert.FeaturesRefIdeal.nD Cert.FeaturesRefIdeal.τ).loc Cert.FeaturesRefIdeal.main_arg2)
          ∧ r.2.mem ((c.tc : Thread Cert.FeaturesRefIdeal.nD Cert.FeaturesRefIdeal.τ).loc Cert.FeaturesRefIdeal.main_arg3) = m' ((c.tc : Thread Cert.FeaturesRefIdeal.nD Cert.FeaturesRefIdeal.τ).loc Cert.FeaturesRefIdeal.main_arg3)
          ∧ r.2.mem ((c.tc : Thread Cert.FeaturesRefIdeal.nD Cert.FeaturesRefIdeal.τ).loc Cert.FeaturesRefIdeal.main_arg4) = m' ((c.tc : Thread Cert.FeaturesRefIdeal.nD Cert.FeaturesRefIdeal.τ).loc Cert.FeaturesRefIdeal.main_arg4)
          ∧ r.2.mem ((c.tc : Thread Cert.FeaturesRefIdeal.nD Cert.FeaturesRefIdeal.τ).loc Cert.FeaturesRefIdeal.main_arg5) = m' ((c.tc : Thread Cert.FeaturesRefIdeal.nD Cert.FeaturesRefIdeal.τ).loc Cert.FeaturesRefIdeal.main_arg5)
          ∧ r.2.mem ((c.tc : Thread Cert.FeaturesRefIdeal.nD Cert.FeaturesRefIdeal.τ).loc Cert.FeaturesRefIdeal.main_arg6) = m' ((c.tc : Thread Cert.FeaturesRefIdeal.nD Cert.FeaturesRefIdeal.τ).loc Cert.FeaturesRefIdeal.main_arg6)
          ∧ r.2.mem ((c.tc : Thread Cert.FeaturesRefIdeal.nD Cert.FeaturesRefIdeal.τ).loc Cert.FeaturesRefIdeal.main_arg7) = m' ((c.tc : Thread Cert.FeaturesRefIdeal.nD Cert.FeaturesRefIdeal.τ).loc Cert.FeaturesRefIdeal.main_arg7)
          ∧ r.2.mem ((c.tc : Thread Cert.FeaturesRefIdeal.nD Cert.FeaturesRefIdeal.τ).loc Cert.FeaturesRefIdeal.main_arg8) = m' ((c.tc : Thread Cert.FeaturesRefIdeal.nD Cert.FeaturesRefIdeal.τ).loc Cert.FeaturesRefIdeal.main_arg8)
          ∧ r.2.mem ((c.tc : Thread Cert.FeaturesRefIdeal.nD Cert.FeaturesRefIdeal.τ).loc Cert.FeaturesRefIdeal.main_arg9) = m' ((c.tc : Thread Cert.FeaturesRefIdeal.nD Cert.FeaturesRefIdeal.τ).loc Cert.FeaturesRefIdeal.main_arg9)
          ∧ r.2.mem ((c.tc : Thread Cert.FeaturesRefIdeal.nD Cert.FeaturesRefIdeal.τ).loc Cert.FeaturesRefIdeal.main_arg10) = m' ((c.tc : Thread Cert.FeaturesRefIdeal.nD Cert.FeaturesRefIdeal.τ).loc Cert.FeaturesRefIdeal.main_arg10)
          ∧ r.2.mem ((c.tc : Thread Cert.FeaturesRefIdeal.nD Cert.FeaturesRefIdeal.τ).loc Cert.FeaturesRefIdeal.main_arg11) = m' ((c.tc : Thread Cert.FeaturesRefIdeal.nD Cert.FeaturesRefIdeal.τ).loc Cert.FeaturesRefIdeal.main_arg11))

def Claim : Prop :=
  ∃ (hKernel : Cert.Kernel.Facts) (hKernelIdeal : Cert.KernelIdeal.Facts) (hReferenceIdeal : Cert.ReferenceIdeal.Facts) (hNearest : Cert.Nearest.Facts) (hNearestIdeal : Cert.NearestIdeal.Facts) (hNearestRefIdeal : Cert.NearestRefIdeal.Facts) (hSampleIdeal : Cert.SampleIdeal.Facts) (hSampleRefIdeal : Cert.SampleRefIdeal.Facts) (hFeatures : Cert.Features.Facts) (hFeaturesIdeal : Cert.FeaturesIdeal.Facts) (hFeaturesRefIdeal : Cert.FeaturesRefIdeal.Facts) (hPre_near_named : Cert.Pre_near_named.Facts) (hPre_near_named_cent_finite : Cert.Pre_near_named_cent_finite.Facts),
    quiescent_Kernel (hKernel := hKernel) (hPre_near_named := hPre_near_named)
    ∧ quiescent_KernelIdeal (hKernelIdeal := hKernelIdeal) (hPre_near_named := hPre_near_named)
    ∧ quiescent_KernelIdeal_pre_near_named_cent_finite (hKernelIdeal := hKernelIdeal) (hPre_near_named_cent_finite := hPre_near_named_cent_finite)
    ∧ quiescent_ReferenceIdeal (hReferenceIdeal := hReferenceIdeal) (hPre_near_named := hPre_near_named)
    ∧ quiescent_ReferenceIdeal_pre_near_named_cent_finite (hReferenceIdeal := hReferenceIdeal) (hPre_near_named_cent_finite := hPre_near_named_cent_finite)
    ∧ quiescent_Nearest (hNearest := hNearest)
    ∧ quiescent_NearestIdeal (hNearestIdeal := hNearestIdeal)
    ∧ quiescent_NearestRefIdeal (hNearestRefIdeal := hNearestRefIdeal)
    ∧ quiescent_SampleIdeal (hSampleIdeal := hSampleIdeal)
    ∧ quiescent_SampleRefIdeal (hSampleRefIdeal := hSampleRefIdeal)
    ∧ quiescent_Features (hFeatures := hFeatures)
    ∧ quiescent_FeaturesIdeal (hFeaturesIdeal := hFeaturesIdeal)
    ∧ quiescent_FeaturesRefIdeal (hFeaturesRefIdeal := hFeaturesRefIdeal)
    ∧ preserves_Kernel_KernelIdeal
    ∧ algebraic_KernelIdeal_ReferenceIdeal_pre_near_named_cent_finite (hKernelIdeal := hKernelIdeal) (hReferenceIdeal := hReferenceIdeal) (hPre_near_named_cent_finite := hPre_near_named_cent_finite)
    ∧ preserves_Nearest_NearestIdeal
    ∧ algebraic_NearestIdeal_NearestRefIdeal (hNearestIdeal := hNearestIdeal) (hNearestRefIdeal := hNearestRefIdeal)
    ∧ algebraic_SampleIdeal_SampleRefIdeal (hSampleIdeal := hSampleIdeal) (hSampleRefIdeal := hSampleRefIdeal)
    ∧ preserves_Features_FeaturesIdeal
    ∧ algebraic_FeaturesIdeal_FeaturesRefIdeal (hFeaturesIdeal := hFeaturesIdeal) (hFeaturesRefIdeal := hFeaturesRefIdeal)
-- ==== Pre_near_named.lean ====
abbrev S20480 : Shape := ⟨1, ![20480]⟩
abbrev S20000x2 : Shape := ⟨2, ![20000, 2]⟩
abbrev S512x2 : Shape := ⟨2, ![512, 2]⟩
abbrev S20000 : Shape := ⟨1, ![20000]⟩
abbrev S_ : Shape := ⟨0, ![]⟩

class Facts : Prop where
  slices_S20480_S20000_0 : S20480.Slices ![0] S20000
  bcast_S_S20000 : S_.BroadcastsInDim S20000 (![] : Fin 0 → Fin S20000.rank)
  reducesTo_S20000_S_d0 : S20000.ReducesTo [0] S_
  h_S_ : 0 < S_.numel

variable [Facts]

def fn {F : FTy → Type} [FloatOps F] (main_arg0 : IVec S20480 32) (main_arg1 : FVec F S20000x2 .f32) (main_arg2 : FVec F S512x2 .f32) : IVec S_ 1 :=
  let main_v0 : IVec S20000 32 := (extractStridedSlice S20000 ![0] · slices_S20480_S20000_0) main_arg0
  let main_c : IVec S_ 32 := constantI S_ 32 0#32
  let main_v1 : IVec S20000 32 := broadcastInDim S20000 ![] bcast_S_S20000 main_c
  let main_v2 : IVec S20000 1 := cmpi .sge main_v0 main_v1
  let main_c_0 : IVec S_ 1 := constantI S_ 1 1#1
  let main_v3 : IVec S_ 1 := (fun x v => Host.reduce IntOp.andi x v reducesTo_S20000_S_d0 h_S_) main_v2 main_c_0
  main_v3
-- ==== Pre_near_named_cent_finite.lean ====
abbrev S20480 : Shape := ⟨1, ![20480]⟩
abbrev S20000x2 : Shape := ⟨2, ![20000, 2]⟩
abbrev S512x2 : Shape := ⟨2, ![512, 2]⟩
abbrev S20000 : Shape := ⟨1, ![20000]⟩
abbrev S_ : Shape := ⟨0, ![]⟩

class Facts : Prop where
  slices_S20480_S20000_0 : S20480.Slices ![0] S20000
  bcast_S_S20000 : S_.BroadcastsInDim S20000 (![] : Fin 0 → Fin S20000.rank)
  reducesTo_S20000_S_d0 : S20000.ReducesTo [0] S_
  h_S_ : 0 < S_.numel
  bcast_S_S512x2 : S_.BroadcastsInDim S512x2 (![] : Fin 0 → Fin S512x2.rank)
  reducesTo_S512x2_S_d0_1 : S512x2.ReducesTo [0, 1] S_

variable [Facts]

def fn {F : FTy → Type} [FloatOps F] (main_arg0 : IVec S20480 32) (main_arg1 : FVec F S20000x2 .f32) (main_arg2 : FVec F S512x2 .f32) : IVec S_ 1 :=
  let main_v0 : IVec S20000 32 := (extractStridedSlice S20000 ![0] · slices_S20480_S20000_0) main_arg0
  let main_c : IVec S_ 32 := constantI S_ 32 0#32
  let main_v1 : IVec S20000 32 := broadcastInDim S20000 ![] bcast_S_S20000 main_c
  let main_v2 : IVec S20000 1 := cmpi .sge main_v0 main_v1
  let main_c_0 : IVec S_ 1 := constantI S_ 1 1#1
  let main_v3 : IVec S_ 1 := (fun x v => Host.reduce IntOp.andi x v reducesTo_S20000_S_d0 h_S_) main_v2 main_c_0
  let main_v4 : FVec F S512x2 .f32 := Host.absf main_arg2
  let main_cst : FVec F S_ .f32 := constant S_ .f32 0x7F800000#32
  let main_v5 : FVec F S512x2 .f32 := broadcastInDim S512x2 ![] bcast_S_S512x2 main_cst
  let main_v6 : IVec S512x2 1 := cmpf .olt main_v4 main_v5
  let main_c_1 : IVec S_ 1 := constantI S_ 1 1#1
  let main_v7 : IVec S_ 1 := (fun x v => Host.reduce IntOp.andi x v reducesTo_S512x2_S_d0_1 h_S_) main_v6 main_c_1
  let main_v8 : IVec S_ 1 := andi main_v3 main_v7
  main_v8
-- ==== Kernel.lean ====
abbrev S20480 : Shape := ⟨1, ![20480]⟩
abbrev S20000x2 : Shape := ⟨2, ![20000, 2]⟩
abbrev S512x2 : Shape := ⟨2, ![512, 2]⟩
abbrev S_ : Shape := ⟨0, ![]⟩
abbrev S20000x1 : Shape := ⟨2, ![20000, 1]⟩
abbrev S20000 : Shape := ⟨1, ![20000]⟩
abbrev S512x1 : Shape := ⟨2, ![512, 1]⟩
abbrev S512 : Shape := ⟨1, ![512]⟩
abbrev S16384 : Shape := ⟨1, ![16384]⟩
abbrev S1280 : Shape := ⟨1, ![1280]⟩
abbrev S16x512 : Shape := ⟨2, ![16, 512]⟩
abbrev S16x1024 : Shape := ⟨2, ![16, 1024]⟩
abbrev S1024 : Shape := ⟨1, ![1024]⟩
abbrev S32 : Shape := ⟨1, ![32]⟩
abbrev S16x16384 : Shape := ⟨2, ![16, 16384]⟩
abbrev S16 : Shape := ⟨1, ![16]⟩
abbrev S1x512 : Shape := ⟨2, ![1, 512]⟩
abbrev S1x16 : Shape := ⟨2, ![1, 16]⟩
abbrev S1x16384 : Shape := ⟨2, ![1, 16384]⟩
abbrev S1 : Shape := ⟨1, ![1]⟩

abbrev nBuf : Table → Nat
  | .hbm => 27
  | .shared => 2
  | .local .scVector .vmem => 14
  | _ => 0

abbrev bufTy : (tb : Table) → Fin (nBuf tb) → BufTy
  | .hbm, ⟨0, _⟩ => ⟨S20480, .i32⟩
  | .hbm, ⟨1, _⟩ => ⟨S20000x2, .f32⟩
  | .hbm, ⟨2, _⟩ => ⟨S512x2, .f32⟩
  | .hbm, ⟨3, _⟩ => ⟨S20480, .i32⟩
  | .hbm, ⟨4, _⟩ => ⟨S_, .i32⟩
  | .hbm, ⟨5, _⟩ => ⟨S20480, .i32⟩
  | .hbm, ⟨6, _⟩ => ⟨S20480, .i1⟩
  | .hbm, ⟨7, _⟩ => ⟨S_, .i32⟩
  | .hbm, ⟨8, _⟩ => ⟨S_, .i32⟩
  | .hbm, ⟨9, _⟩ => ⟨S20480, .i32⟩
  | .hbm, ⟨10, _⟩ => ⟨S20480, .i32⟩
  | .hbm, ⟨11, _⟩ => ⟨S20000x1, .f32⟩
  | .hbm, ⟨12, _⟩ => ⟨S20000, .f32⟩
  | .hbm, ⟨13, _⟩ => ⟨S_, .i32⟩
  | .hbm, ⟨14, _⟩ => ⟨S_, .f32⟩
  | .hbm, ⟨15, _⟩ => ⟨S20480, .f32⟩
  | .hbm, ⟨16, _⟩ => ⟨S20000x1, .f32⟩
  | .hbm, ⟨17, _⟩ => ⟨S20000, .f32⟩
  | .hbm, ⟨18, _⟩ => ⟨S_, .i32⟩
  | .hbm, ⟨19, _⟩ => ⟨S_, .f32⟩
  | .hbm, ⟨20, _⟩ => ⟨S20480, .f32⟩
  | .hbm, ⟨21, _⟩ => ⟨S512x1, .f32⟩
  | .hbm, ⟨22, _⟩ => ⟨S512, .f32⟩
  | .hbm, ⟨23, _⟩ => ⟨S512x1, .f32⟩
  | .hbm, ⟨24, _⟩ => ⟨S512, .f32⟩
  | .hbm, ⟨25, _⟩ => ⟨S16384, .f32⟩
  | .hbm, ⟨26, _⟩ => ⟨S16384, .f32⟩
  | .shared, ⟨0, _⟩ => ⟨S16x512, .i32⟩
  | .shared, ⟨1, _⟩ => ⟨S16x16384, .i32⟩
  | .local .scVector .vmem, ⟨0, _⟩ => ⟨S1280, .i32⟩
  | .local .scVector .vmem, ⟨1, _⟩ => ⟨S512, .i32⟩
  | .local .scVector .vmem, ⟨2, _⟩ => ⟨S16x512, .i32⟩
  | .local .scVector .vmem, ⟨3, _⟩ => ⟨S512, .i32⟩
  | .local .scVector .vmem, ⟨4, _⟩ => ⟨S512, .i32⟩
  | .local .scVector .vmem, ⟨5, _⟩ => ⟨S16384, .i32⟩
  | .local .scVector .vmem, ⟨6, _⟩ => ⟨S16x1024, .i32⟩
  | .local .scVector .vmem, ⟨7, _⟩ => ⟨S1024, .i32⟩
  | .local .scVector .vmem, ⟨8, _⟩ => ⟨S20480, .f32⟩
  | .local .scVector .vmem, ⟨9, _⟩ => ⟨S20480, .f32⟩
  | .local .scVector .vmem, ⟨10, _⟩ => ⟨S32, .f32⟩
  | .local .scVector .vmem, ⟨11, _⟩ => ⟨S32, .f32⟩
  | .local .scVector .vmem, ⟨12, _⟩ => ⟨S1024, .f32⟩
  | .local .scVector .vmem, ⟨13, _⟩ => ⟨S1024, .f32⟩
  | _, _ => ⟨S20480, .i32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 5 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_call2_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v3_scv : Ref sig .scVector := ⟨.hbm, 10, rfl⟩
abbrev main_v6_scv : Ref sig .scVector := ⟨.hbm, 15, rfl⟩
abbrev main_v9_scv : Ref sig .scVector := ⟨.hbm, 20, rfl⟩
abbrev main_v11_scv : Ref sig .scVector := ⟨.hbm, 22, rfl⟩
abbrev main_v13_scv : Ref sig .scVector := ⟨.hbm, 24, rfl⟩
abbrev main_v14_0_scv : Ref sig .scVector := ⟨.hbm, 25, rfl⟩
abbrev main_v14_1_scv : Ref sig .scVector := ⟨.hbm, 26, rfl⟩
abbrev cc0_scratch14 : Ref sig .scVector := ⟨.shared, 0, rfl⟩
abbrev cc0_scratch15 : Ref sig .scVector := ⟨.shared, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc0_scratch13 : Ref sig .scVector := ⟨.vmem, 13, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![1, 16], ![false, false]⟩

def k0_off1 (i : grid0.Coords) : Fin 1 → Nat :=
  let arg1 : BitVec 32 := BitVec.ofNat 32 (i 1).val
  let c1280_i32 : BitVec 32 := 1280#32
  let v0 : BitVec 32 := Scalar.muli arg1 c1280_i32
  ![v0.toNat]
def k0_off2 (i : grid0.Coords) : Fin 1 → Nat :=
  let arg1 : BitVec 32 := BitVec.ofNat 32 (i 1).val
  let c32_i32 : BitVec 32 := 32#32
  let v1 : BitVec 32 := Scalar.muli arg1 c32_i32
  ![v1.toNat]
@[reducible] def k0_t1_loop : Scf.Loop 32 :=
  let c0_i32_2 : BitVec 32 := 0#32
  let c80_i32 : BitVec 32 := 80#32
  let v37 : BitVec 32 := Scalar.addi c0_i32_2 c80_i32
  let c1_i32 : BitVec 32 := 1#32
  ⟨c0_i32_2, v37, c1_i32⟩
def k0_off3 (k0_t1 : Fin k0_t1_loop.trips) : Fin 1 → Nat :=
  let c0_i32_2 : BitVec 32 := 0#32
  let c1_i32 : BitVec 32 := 1#32
  let arg27 : BitVec 32 := Scf.iv c0_i32_2 c1_i32 k0_t1
  let c16_i32_934 : BitVec 32 := 16#32
  let v2964 : BitVec 32 := Scalar.muli arg27 c16_i32_934
  let v2965 : Index := Scalar.indexCast v2964
  ![v2965.toNat]

def k0_chk1 (v2970 : IVec S16 32) : Prop :=
  (∀ a x, ((![v2970] : Fin 1 → IVec S16 32) a x).toNat < S512.size a) ∧
  (∀ a x, ((![v2970] : Fin 1 → IVec S16 32) a x).toNat < S512.size a)
theorem k0_idx1_inb : ∀ (v2970 : IVec S16 32) (k0_hw1 : k0_chk1 v2970), ∀ a x, ((![v2970] : Fin 1 → IVec S16 32) a x).toNat < S512.size a := fun v2970 k0_hw1 => k0_hw1.1
theorem k0_idx2_inb : ∀ (v2970 : IVec S16 32) (k0_hw1 : k0_chk1 v2970), ∀ a x, ((![v2970] : Fin 1 → IVec S16 32) a x).toNat < S512.size a := fun v2970 k0_hw1 => k0_hw1.2
def k0_off4 (i : grid0.Coords) : Fin 2 → Nat :=
  let arg1 : BitVec 32 := BitVec.ofNat 32 (i 1).val
  let c0_i32_934_r3 : BitVec 32 := 0#32
  ![arg1.toNat, 0]
@[reducible] def k0_t2_loop : Scf.Loop 32 :=
  let c0_i32_70 : BitVec 32 := 0#32
  let c16_i32 : BitVec 32 := 16#32
  let v102 : BitVec 32 := Scalar.addi c0_i32_70 c16_i32
  let c1_i32_71 : BitVec 32 := 1#32
  ⟨c0_i32_70, v102, c1_i32_71⟩
def k0_off5 (k0_t2 : Fin k0_t2_loop.trips) : Fin 2 → Nat :=
  let c0_i32_70 : BitVec 32 := 0#32
  let c1_i32_71 : BitVec 32 := 1#32
  let arg27 : BitVec 32 := Scf.iv c0_i32_70 c1_i32_71 k0_t2
  let v2966 : Index := Scalar.indexCast arg27
  let c0_934 : Index := 0#32
  ![v2966.toNat, 0]
def k0_off6 (k0_t2 : Fin k0_t2_loop.trips) : Fin 2 → Nat :=
  let c0_i32_70 : BitVec 32 := 0#32
  let c1_i32_71 : BitVec 32 := 1#32
  let arg27 : BitVec 32 := Scf.iv c0_i32_70 c1_i32_71 k0_t2
  let v2976 : Index := Scalar.indexCast arg27
  let c16_939 : Index := 16#32
  ![v2976.toNat, 16]
def k0_off7 (k0_t2 : Fin k0_t2_loop.trips) : Fin 2 → Nat :=
  let c0_i32_70 : BitVec 32 := 0#32
  let c1_i32_71 : BitVec 32 := 1#32
  let arg27 : BitVec 32 := Scf.iv c0_i32_70 c1_i32_71 k0_t2
  let v2986 : Index := Scalar.indexCast arg27
  let c32_944 : Index := 32#32
  ![v2986.toNat, 32]
def k0_off8 (k0_t2 : Fin k0_t2_loop.trips) : Fin 2 → Nat :=
  let c0_i32_70 : BitVec 32 := 0#32
  let c1_i32_71 : BitVec 32 := 1#32
  let arg27 : BitVec 32 := Scf.iv c0_i32_70 c1_i32_71 k0_t2
  let v2996 : Index := Scalar.indexCast arg27
  let c48_949 : Index := 48#32
  ![v2996.toNat, 48]
def k0_off9 (k0_t2 : Fin k0_t2_loop.trips) : Fin 2 → Nat :=
  let c0_i32_70 : BitVec 32 := 0#32
  let c1_i32_71 : BitVec 32 := 1#32
  let arg27 : BitVec 32 := Scf.iv c0_i32_70 c1_i32_71 k0_t2
  let v3006 : Index := Scalar.indexCast arg27
  let c64_954 : Index := 64#32
  ![v3006.toNat, 64]
def k0_off10 (k0_t2 : Fin k0_t2_loop.trips) : Fin 2 → Nat :=
  let c0_i32_70 : BitVec 32 := 0#32
  let c1_i32_71 : BitVec 32 := 1#32
  let arg27 : BitVec 32 := Scf.iv c0_i32_70 c1_i32_71 k0_t2
  let v3016 : Index := Scalar.indexCast arg27
  let c80_959 : Index := 80#32
  ![v3016.toNat, 80]
def k0_off11 (k0_t2 : Fin k0_t2_loop.trips) : Fin 2 → Nat :=
  let c0_i32_70 : BitVec 32 := 0#32
  let c1_i32_71 : BitVec 32 := 1#32
  let arg27 : BitVec 32 := Scf.iv c0_i32_70 c1_i32_71 k0_t2
  let v3026 : Index := Scalar.indexCast arg27
  let c96_964 : Index := 96#32
  ![v3026.toNat, 96]
def k0_off12 (k0_t2 : Fin k0_t2_loop.trips) : Fin 2 → Nat :=
  let c0_i32_70 : BitVec 32 := 0#32
  let c1_i32_71 : BitVec 32 := 1#32
  let arg27 : BitVec 32 := Scf.iv c0_i32_70 c1_i32_71 k0_t2
  let v3036 : Index := Scalar.indexCast arg27
  let c112_969 : Index := 112#32
  ![v3036.toNat, 112]
def k0_off13 (k0_t2 : Fin k0_t2_loop.trips) : Fin 2 → Nat :=
  let c0_i32_70 : BitVec 32 := 0#32
  let c1_i32_71 : BitVec 32 := 1#32
  let arg27 : BitVec 32 := Scf.iv c0_i32_70 c1_i32_71 k0_t2
  let v3046 : Index := Scalar.indexCast arg27
  let c128_974 : Index := 128#32
  ![v3046.toNat, 128]
def k0_off14 (k0_t2 : Fin k0_t2_loop.trips) : Fin 2 → Nat :=
  let c0_i32_70 : BitVec 32 := 0#32
  let c1_i32_71 : BitVec 32 := 1#32
  let arg27 : BitVec 32 := Scf.iv c0_i32_70 c1_i32_71 k0_t2
  let v3056 : Index := Scalar.indexCast arg27
  let c144_979 : Index := 144#32
  ![v3056.toNat, 144]
def k0_off15 (k0_t2 : Fin k0_t2_loop.trips) : Fin 2 → Nat :=
  let c0_i32_70 : BitVec 32 := 0#32
  let c1_i32_71 : BitVec 32 := 1#32
  let arg27 : BitVec 32 := Scf.iv c0_i32_70 c1_i32_71 k0_t2
  let v3066 : Index := Scalar.indexCast arg27
  let c160_984 : Index := 160#32
  ![v3066.toNat, 160]
def k0_off16 (k0_t2 : Fin k0_t2_loop.trips) : Fin 2 → Nat :=
  let c0_i32_70 : BitVec 32 := 0#32
  let c1_i32_71 : BitVec 32 := 1#32
  let arg27 : BitVec 32 := Scf.iv c0_i32_70 c1_i32_71 k0_t2
  let v3076 : Index := Scalar.indexCast arg27
  let c176_989 : Index := 176#32
  ![v3076.toNat, 176]
def k0_off17 (k0_t2 : Fin k0_t2_loop.trips) : Fin 2 → Nat :=
  let c0_i32_70 : BitVec 32 := 0#32
  let c1_i32_71 : BitVec 32 := 1#32
  let arg27 : BitVec 32 := Scf.iv c0_i32_70 c1_i32_71 k0_t2
  let v3086 : Index := Scalar.indexCast arg27
  let c192_994 : Index := 192#32
  ![v3086.toNat, 192]
def k0_off18 (k0_t2 : Fin k0_t2_loop.trips) : Fin 2 → Nat :=
  let c0_i32_70 : BitVec 32 := 0#32
  let c1_i32_71 : BitVec 32 := 1#32
  let arg27 : BitVec 32 := Scf.iv c0_i32_70 c1_i32_71 k0_t2
  let v3096 : Index := Scalar.indexCast arg27
  let c208_999 : Index := 208#32
  ![v3096.toNat, 208]
def k0_off19 (k0_t2 : Fin k0_t2_loop.trips) : Fin 2 → Nat :=
  let c0_i32_70 : BitVec 32 := 0#32
  let c1_i32_71 : BitVec 32 := 1#32
  let arg27 : BitVec 32 := Scf.iv c0_i32_70 c1_i32_71 k0_t2
  let v3106 : Index := Scalar.indexCast arg27
  let c224_1004 : Index := 224#32
  ![v3106.toNat, 224]
def k0_off20 (k0_t2 : Fin k0_t2_loop.trips) : Fin 2 → Nat :=
  let c0_i32_70 : BitVec 32 := 0#32
  let c1_i32_71 : BitVec 32 := 1#32
  let arg27 : BitVec 32 := Scf.iv c0_i32_70 c1_i32_71 k0_t2
  let v3116 : Index := Scalar.indexCast arg27
  let c240_1009 : Index := 240#32
  ![v3116.toNat, 240]
def k0_off21 (k0_t2 : Fin k0_t2_loop.trips) : Fin 2 → Nat :=
  let c0_i32_70 : BitVec 32 := 0#32
  let c1_i32_71 : BitVec 32 := 1#32
  let arg27 : BitVec 32 := Scf.iv c0_i32_70 c1_i32_71 k0_t2
  let v3126 : Index := Scalar.indexCast arg27
  let c256_1014 : Index := 256#32
  ![v3126.toNat, 256]
def k0_off22 (k0_t2 : Fin k0_t2_loop.trips) : Fin 2 → Nat :=
  let c0_i32_70 : BitVec 32 := 0#32
  let c1_i32_71 : BitVec 32 := 1#32
  let arg27 : BitVec 32 := Scf.iv c0_i32_70 c1_i32_71 k0_t2
  let v3136 : Index := Scalar.indexCast arg27
  let c272_1019 : Index := 272#32
  ![v3136.toNat, 272]
def k0_off23 (k0_t2 : Fin k0_t2_loop.trips) : Fin 2 → Nat :=
  let c0_i32_70 : BitVec 32 := 0#32
  let c1_i32_71 : BitVec 32 := 1#32
  let arg27 : BitVec 32 := Scf.iv c0_i32_70 c1_i32_71 k0_t2
  let v3146 : Index := Scalar.indexCast arg27
  let c288_1024 : Index := 288#32
  ![v3146.toNat, 288]
def k0_off24 (k0_t2 : Fin k0_t2_loop.trips) : Fin 2 → Nat :=
  let c0_i32_70 : BitVec 32 := 0#32
  let c1_i32_71 : BitVec 32 := 1#32
  let arg27 : BitVec 32 := Scf.iv c0_i32_70 c1_i32_71 k0_t2
  let v3156 : Index := Scalar.indexCast arg27
  let c304_1029 : Index := 304#32
  ![v3156.toNat, 304]
def k0_off25 (k0_t2 : Fin k0_t2_loop.trips) : Fin 2 → Nat :=
  let c0_i32_70 : BitVec 32 := 0#32
  let c1_i32_71 : BitVec 32 := 1#32
  let arg27 : BitVec 32 := Scf.iv c0_i32_70 c1_i32_71 k0_t2
  let v3166 : Index := Scalar.indexCast arg27
  let c320_1034 : Index := 320#32
  ![v3166.toNat, 320]
def k0_off26 (k0_t2 : Fin k0_t2_loop.trips) : Fin 2 → Nat :=
  let c0_i32_70 : BitVec 32 := 0#32
  let c1_i32_71 : BitVec 32 := 1#32
  let arg27 : BitVec 32 := Scf.iv c0_i32_70 c1_i32_71 k0_t2
  let v3176 : Index := Scalar.indexCast arg27
  let c336_1039 : Index := 336#32
  ![v3176.toNat, 336]
def k0_off27 (k0_t2 : Fin k0_t2_loop.trips) : Fin 2 → Nat :=
  let c0_i32_70 : BitVec 32 := 0#32
  let c1_i32_71 : BitVec 32 := 1#32
  let arg27 : BitVec 32 := Scf.iv c0_i32_70 c1_i32_71 k0_t2
  let v3186 : Index := Scalar.indexCast arg27
  let c352_1044 : Index := 352#32
  ![v3186.toNat, 352]
def k0_off28 (k0_t2 : Fin k0_t2_loop.trips) : Fin 2 → Nat :=
  let c0_i32_70 : BitVec 32 := 0#32
  let c1_i32_71 : BitVec 32 := 1#32
  let arg27 : BitVec 32 := Scf.iv c0_i32_70 c1_i32_71 k0_t2
  let v3196 : Index := Scalar.indexCast arg27
  let c368_1049 : Index := 368#32
  ![v3196.toNat, 368]
def k0_off29 (k0_t2 : Fin k0_t2_loop.trips) : Fin 2 → Nat :=
  let c0_i32_70 : BitVec 32 := 0#32
  let c1_i32_71 : BitVec 32 := 1#32
  let arg27 : BitVec 32 := Scf.iv c0_i32_70 c1_i32_71 k0_t2
  let v3206 : Index := Scalar.indexCast arg27
  let c384_1054 : Index := 384#32
  ![v3206.toNat, 384]
def k0_off30 (k0_t2 : Fin k0_t2_loop.trips) : Fin 2 → Nat :=
  let c0_i32_70 : BitVec 32 := 0#32
  let c1_i32_71 : BitVec 32 := 1#32
  let arg27 : BitVec 32 := Scf.iv c0_i32_70 c1_i32_71 k0_t2
  let v3216 : Index := Scalar.indexCast arg27
  let c400_1059 : Index := 400#32
  ![v3216.toNat, 400]
def k0_off31 (k0_t2 : Fin k0_t2_loop.trips) : Fin 2 → Nat :=
  let c0_i32_70 : BitVec 32 := 0#32
  let c1_i32_71 : BitVec 32 := 1#32
  let arg27 : BitVec 32 := Scf.iv c0_i32_70 c1_i32_71 k0_t2
  let v3226 : Index := Scalar.indexCast arg27
  let c416_1064 : Index := 416#32
  ![v3226.toNat, 416]
def k0_off32 (k0_t2 : Fin k0_t2_loop.trips) : Fin 2 → Nat :=
  let c0_i32_70 : BitVec 32 := 0#32
  let c1_i32_71 : BitVec 32 := 1#32
  let arg27 : BitVec 32 := Scf.iv c0_i32_70 c1_i32_71 k0_t2
  let v3236 : Index := Scalar.indexCast arg27
  let c432_1069 : Index := 432#32
  ![v3236.toNat, 432]
def k0_off33 (k0_t2 : Fin k0_t2_loop.trips) : Fin 2 → Nat :=
  let c0_i32_70 : BitVec 32 := 0#32
  let c1_i32_71 : BitVec 32 := 1#32
  let arg27 : BitVec 32 := Scf.iv c0_i32_70 c1_i32_71 k0_t2
  let v3246 : Index := Scalar.indexCast arg27
  let c448_1074 : Index := 448#32
  ![v3246.toNat, 448]
def k0_off34 (k0_t2 : Fin k0_t2_loop.trips) : Fin 2 → Nat :=
  let c0_i32_70 : BitVec 32 := 0#32
  let c1_i32_71 : BitVec 32 := 1#32
  let arg27 : BitVec 32 := Scf.iv c0_i32_70 c1_i32_71 k0_t2
  let v3256 : Index := Scalar.indexCast arg27
  let c464_1079 : Index := 464#32
  ![v3256.toNat, 464]
def k0_off35 (k0_t2 : Fin k0_t2_loop.trips) : Fin 2 → Nat :=
  let c0_i32_70 : BitVec 32 := 0#32
  let c1_i32_71 : BitVec 32 := 1#32
  let arg27 : BitVec 32 := Scf.iv c0_i32_70 c1_i32_71 k0_t2
  let v3266 : Index := Scalar.indexCast arg27
  let c480_1084 : Index := 480#32
  ![v3266.toNat, 480]
def k0_off36 (k0_t2 : Fin k0_t2_loop.trips) : Fin 2 → Nat :=
  let c0_i32_70 : BitVec 32 := 0#32
  let c1_i32_71 : BitVec 32 := 1#32
  let arg27 : BitVec 32 := Scf.iv c0_i32_70 c1_i32_71 k0_t2
  let v3276 : Index := Scalar.indexCast arg27
  let c496_1089 : Index := 496#32
  ![v3276.toNat, 496]
@[reducible] def k0_t3_loop : Scf.Loop 32 :=
  let c0_i32_74 : BitVec 32 := 0#32
  let c128_i32 : BitVec 32 := 128#32
  let v103 : BitVec 32 := Scalar.addi c0_i32_74 c128_i32
  let c1_i32_75 : BitVec 32 := 1#32
  ⟨c0_i32_74, v103, c1_i32_75⟩
def k0_off37 (k0_t3 : Fin k0_t3_loop.trips) (c0_i32_935 : BitVec 32) : Fin 1 → Nat :=
  let c0_i32_74 : BitVec 32 := 0#32
  let c1_i32_75 : BitVec 32 := 1#32
  let arg27 : BitVec 32 := Scf.iv c0_i32_74 c1_i32_75 k0_t3
  let c128_i32_934 : BitVec 32 := 128#32
  let v2964 : BitVec 32 := Scalar.muli arg27 c128_i32_934
  let v2965 : BitVec 32 := Scalar.addi v2964 c0_i32_935
  let v2966 : Index := Scalar.indexCast v2965
  ![v2966.toNat]
@[reducible] def k0_t4_loop : Scf.Loop 32 :=
  let c0_i32_78 : BitVec 32 := 0#32
  let c80_i32_79 : BitVec 32 := 80#32
  let v104 : BitVec 32 := Scalar.addi c0_i32_78 c80_i32_79
  let c1_i32_80 : BitVec 32 := 1#32
  ⟨c0_i32_78, v104, c1_i32_80⟩
def k0_off38 (k0_t4 : Fin k0_t4_loop.trips) : Fin 1 → Nat :=
  let c0_i32_78 : BitVec 32 := 0#32
  let c1_i32_80 : BitVec 32 := 1#32
  let arg27 : BitVec 32 := Scf.iv c0_i32_78 c1_i32_80 k0_t4
  let c16_i32_934 : BitVec 32 := 16#32
  let v2964 : BitVec 32 := Scalar.muli arg27 c16_i32_934
  let v2965 : Index := Scalar.indexCast v2964
  ![v2965.toNat]

def k0_chk2 (v2970 : IVec S16 32) : Prop :=
  (∀ a x, ((![v2970] : Fin 1 → IVec S16 32) a x).toNat < S512.size a) ∧
  (∀ a x, ((![v2970] : Fin 1 → IVec S16 32) a x).toNat < S512.size a)
theorem k0_idx3_inb : ∀ (v2970 : IVec S16 32) (k0_hw2 : k0_chk2 v2970), ∀ a x, ((![v2970] : Fin 1 → IVec S16 32) a x).toNat < S512.size a := fun v2970 k0_hw2 => k0_hw2.1
theorem k0_idx4_inb : ∀ (v2970 : IVec S16 32) (k0_hw2 : k0_chk2 v2970), ∀ a x, ((![v2970] : Fin 1 → IVec S16 32) a x).toNat < S512.size a := fun v2970 k0_hw2 => k0_hw2.2

def k0_chk3 (v2983 : IVec S16 32) : Prop :=
  (∀ a x, ((![v2983] : Fin 1 → IVec S16 32) a x).toNat < S16384.size a)
theorem k0_idx5_inb : ∀ (v2983 : IVec S16 32) (k0_hw3 : k0_chk3 v2983), ∀ a x, ((![v2983] : Fin 1 → IVec S16 32) a x).toNat < S16384.size a := fun v2983 k0_hw3 => k0_hw3
def k0_off39 (i : grid0.Coords) : Fin 2 → Nat :=
  let arg1 : BitVec 32 := BitVec.ofNat 32 (i 1).val
  let c0_i32_934_r5 : BitVec 32 := 0#32
  ![arg1.toNat, 0]
def k0_off40 (i : grid0.Coords) : Fin 2 → Nat :=
  let c0_i32_934_r6 : BitVec 32 := 0#32
  let arg1 : BitVec 32 := BitVec.ofNat 32 (i 1).val
  let c32_i32_83 : BitVec 32 := 32#32
  let v105 : BitVec 32 := Scalar.muli arg1 c32_i32_83
  let c32_i32_84 : BitVec 32 := 32#32
  let v106 : BitVec 32 := Scalar.muli v105 c32_i32_84
  ![0, v106.toNat]
@[reducible] def k0_t5_loop : Scf.Loop 32 :=
  let c0_i32_86 : BitVec 32 := 0#32
  let c64_i32 : BitVec 32 := 64#32
  let v107 : BitVec 32 := Scalar.addi c0_i32_86 c64_i32
  let c1_i32_87 : BitVec 32 := 1#32
  ⟨c0_i32_86, v107, c1_i32_87⟩
def k0_off41 (k0_t5 : Fin k0_t5_loop.trips) : Fin 2 → Nat :=
  let c0_i32_935 : BitVec 32 := 0#32
  let v2965 : Index := Scalar.indexCast c0_i32_935
  let c0_i32_86 : BitVec 32 := 0#32
  let c1_i32_87 : BitVec 32 := 1#32
  let arg27 : BitVec 32 := Scf.iv c0_i32_86 c1_i32_87 k0_t5
  let c16_i32_934 : BitVec 32 := 16#32
  let v2964 : BitVec 32 := Scalar.muli arg27 c16_i32_934
  let v2966 : Index := Scalar.indexCast v2964
  ![0, v2966.toNat]
def k0_off42 (k0_t5 : Fin k0_t5_loop.trips) : Fin 2 → Nat :=
  let c1_i32_937 : BitVec 32 := 1#32
  let v2969 : Index := Scalar.indexCast c1_i32_937
  let c0_i32_86 : BitVec 32 := 0#32
  let c1_i32_87 : BitVec 32 := 1#32
  let arg27 : BitVec 32 := Scf.iv c0_i32_86 c1_i32_87 k0_t5
  let c16_i32_936 : BitVec 32 := 16#32
  let v2968 : BitVec 32 := Scalar.muli arg27 c16_i32_936
  let v2970 : Index := Scalar.indexCast v2968
  ![1, v2970.toNat]
def k0_off43 (k0_t5 : Fin k0_t5_loop.trips) : Fin 2 → Nat :=
  let c2_i32_939 : BitVec 32 := 2#32
  let v2974 : Index := Scalar.indexCast c2_i32_939
  let c0_i32_86 : BitVec 32 := 0#32
  let c1_i32_87 : BitVec 32 := 1#32
  let arg27 : BitVec 32 := Scf.iv c0_i32_86 c1_i32_87 k0_t5
  let c16_i32_938 : BitVec 32 := 16#32
  let v2973 : BitVec 32 := Scalar.muli arg27 c16_i32_938
  let v2975 : Index := Scalar.indexCast v2973
  ![2, v2975.toNat]
def k0_off44 (k0_t5 : Fin k0_t5_loop.trips) : Fin 2 → Nat :=
  let c3_i32_941 : BitVec 32 := 3#32
  let v2979 : Index := Scalar.indexCast c3_i32_941
  let c0_i32_86 : BitVec 32 := 0#32
  let c1_i32_87 : BitVec 32 := 1#32
  let arg27 : BitVec 32 := Scf.iv c0_i32_86 c1_i32_87 k0_t5
  let c16_i32_940 : BitVec 32 := 16#32
  let v2978 : BitVec 32 := Scalar.muli arg27 c16_i32_940
  let v2980 : Index := Scalar.indexCast v2978
  ![3, v2980.toNat]
def k0_off45 (k0_t5 : Fin k0_t5_loop.trips) : Fin 2 → Nat :=
  let c4_i32_943 : BitVec 32 := 4#32
  let v2984 : Index := Scalar.indexCast c4_i32_943
  let c0_i32_86 : BitVec 32 := 0#32
  let c1_i32_87 : BitVec 32 := 1#32
  let arg27 : BitVec 32 := Scf.iv c0_i32_86 c1_i32_87 k0_t5
  let c16_i32_942 : BitVec 32 := 16#32
  let v2983 : BitVec 32 := Scalar.muli arg27 c16_i32_942
  let v2985 : Index := Scalar.indexCast v2983
  ![4, v2985.toNat]
def k0_off46 (k0_t5 : Fin k0_t5_loop.trips) : Fin 2 → Nat :=
  let c5_i32_945 : BitVec 32 := 5#32
  let v2989 : Index := Scalar.indexCast c5_i32_945
  let c0_i32_86 : BitVec 32 := 0#32
  let c1_i32_87 : BitVec 32 := 1#32
  let arg27 : BitVec 32 := Scf.iv c0_i32_86 c1_i32_87 k0_t5
  let c16_i32_944 : BitVec 32 := 16#32
  let v2988 : BitVec 32 := Scalar.muli arg27 c16_i32_944
  let v2990 : Index := Scalar.indexCast v2988
  ![5, v2990.toNat]
def k0_off47 (k0_t5 : Fin k0_t5_loop.trips) : Fin 2 → Nat :=
  let c6_i32_947 : BitVec 32 := 6#32
  let v2994 : Index := Scalar.indexCast c6_i32_947
  let c0_i32_86 : BitVec 32 := 0#32
  let c1_i32_87 : BitVec 32 := 1#32
  let arg27 : BitVec 32 := Scf.iv c0_i32_86 c1_i32_87 k0_t5
  let c16_i32_946 : BitVec 32 := 16#32
  let v2993 : BitVec 32 := Scalar.muli arg27 c16_i32_946
  let v2995 : Index := Scalar.indexCast v2993
  ![6, v2995.toNat]
def k0_off48 (k0_t5 : Fin k0_t5_loop.trips) : Fin 2 → Nat :=
  let c7_i32_949 : BitVec 32 := 7#32
  let v2999 : Index := Scalar.indexCast c7_i32_949
  let c0_i32_86 : BitVec 32 := 0#32
  let c1_i32_87 : BitVec 32 := 1#32
  let arg27 : BitVec 32 := Scf.iv c0_i32_86 c1_i32_87 k0_t5
  let c16_i32_948 : BitVec 32 := 16#32
  let v2998 : BitVec 32 := Scalar.muli arg27 c16_i32_948
  let v3000 : Index := Scalar.indexCast v2998
  ![7, v3000.toNat]
def k0_off49 (k0_t5 : Fin k0_t5_loop.trips) : Fin 2 → Nat :=
  let c8_i32_951 : BitVec 32 := 8#32
  let v3004 : Index := Scalar.indexCast c8_i32_951
  let c0_i32_86 : BitVec 32 := 0#32
  let c1_i32_87 : BitVec 32 := 1#32
  let arg27 : BitVec 32 := Scf.iv c0_i32_86 c1_i32_87 k0_t5
  let c16_i32_950 : BitVec 32 := 16#32
  let v3003 : BitVec 32 := Scalar.muli arg27 c16_i32_950
  let v3005 : Index := Scalar.indexCast v3003
  ![8, v3005.toNat]
def k0_off50 (k0_t5 : Fin k0_t5_loop.trips) : Fin 2 → Nat :=
  let c9_i32_953 : BitVec 32 := 9#32
  let v3009 : Index := Scalar.indexCast c9_i32_953
  let c0_i32_86 : BitVec 32 := 0#32
  let c1_i32_87 : BitVec 32 := 1#32
  let arg27 : BitVec 32 := Scf.iv c0_i32_86 c1_i32_87 k0_t5
  let c16_i32_952 : BitVec 32 := 16#32
  let v3008 : BitVec 32 := Scalar.muli arg27 c16_i32_952
  let v3010 : Index := Scalar.indexCast v3008
  ![9, v3010.toNat]
def k0_off51 (k0_t5 : Fin k0_t5_loop.trips) : Fin 2 → Nat :=
  let c10_i32_955 : BitVec 32 := 10#32
  let v3014 : Index := Scalar.indexCast c10_i32_955
  let c0_i32_86 : BitVec 32 := 0#32
  let c1_i32_87 : BitVec 32 := 1#32
  let arg27 : BitVec 32 := Scf.iv c0_i32_86 c1_i32_87 k0_t5
  let c16_i32_954 : BitVec 32 := 16#32
  let v3013 : BitVec 32 := Scalar.muli arg27 c16_i32_954
  let v3015 : Index := Scalar.indexCast v3013
  ![10, v3015.toNat]
def k0_off52 (k0_t5 : Fin k0_t5_loop.trips) : Fin 2 → Nat :=
  let c11_i32_957 : BitVec 32 := 11#32
  let v3019 : Index := Scalar.indexCast c11_i32_957
  let c0_i32_86 : BitVec 32 := 0#32
  let c1_i32_87 : BitVec 32 := 1#32
  let arg27 : BitVec 32 := Scf.iv c0_i32_86 c1_i32_87 k0_t5
  let c16_i32_956 : BitVec 32 := 16#32
  let v3018 : BitVec 32 := Scalar.muli arg27 c16_i32_956
  let v3020 : Index := Scalar.indexCast v3018
  ![11, v3020.toNat]
def k0_off53 (k0_t5 : Fin k0_t5_loop.trips) : Fin 2 → Nat :=
  let c12_i32_959 : BitVec 32 := 12#32
  let v3024 : Index := Scalar.indexCast c12_i32_959
  let c0_i32_86 : BitVec 32 := 0#32
  let c1_i32_87 : BitVec 32 := 1#32
  let arg27 : BitVec 32 := Scf.iv c0_i32_86 c1_i32_87 k0_t5
  let c16_i32_958 : BitVec 32 := 16#32
  let v3023 : BitVec 32 := Scalar.muli arg27 c16_i32_958
  let v3025 : Index := Scalar.indexCast v3023
  ![12, v3025.toNat]
def k0_off54 (k0_t5 : Fin k0_t5_loop.trips) : Fin 2 → Nat :=
  let c13_i32_961 : BitVec 32 := 13#32
  let v3029 : Index := Scalar.indexCast c13_i32_961
  let c0_i32_86 : BitVec 32 := 0#32
  let c1_i32_87 : BitVec 32 := 1#32
  let arg27 : BitVec 32 := Scf.iv c0_i32_86 c1_i32_87 k0_t5
  let c16_i32_960 : BitVec 32 := 16#32
  let v3028 : BitVec 32 := Scalar.muli arg27 c16_i32_960
  let v3030 : Index := Scalar.indexCast v3028
  ![13, v3030.toNat]
def k0_off55 (k0_t5 : Fin k0_t5_loop.trips) : Fin 2 → Nat :=
  let c14_i32_963 : BitVec 32 := 14#32
  let v3034 : Index := Scalar.indexCast c14_i32_963
  let c0_i32_86 : BitVec 32 := 0#32
  let c1_i32_87 : BitVec 32 := 1#32
  let arg27 : BitVec 32 := Scf.iv c0_i32_86 c1_i32_87 k0_t5
  let c16_i32_962 : BitVec 32 := 16#32
  let v3033 : BitVec 32 := Scalar.muli arg27 c16_i32_962
  let v3035 : Index := Scalar.indexCast v3033
  ![14, v3035.toNat]
def k0_off56 (k0_t5 : Fin k0_t5_loop.trips) : Fin 2 → Nat :=
  let c15_i32_965 : BitVec 32 := 15#32
  let v3039 : Index := Scalar.indexCast c15_i32_965
  let c0_i32_86 : BitVec 32 := 0#32
  let c1_i32_87 : BitVec 32 := 1#32
  let arg27 : BitVec 32 := Scf.iv c0_i32_86 c1_i32_87 k0_t5
  let c16_i32_964 : BitVec 32 := 16#32
  let v3038 : BitVec 32 := Scalar.muli arg27 c16_i32_964
  let v3040 : Index := Scalar.indexCast v3038
  ![15, v3040.toNat]
def k0_off57 (k0_t5 : Fin k0_t5_loop.trips) : Fin 1 → Nat :=
  let c0_i32_86 : BitVec 32 := 0#32
  let c1_i32_87 : BitVec 32 := 1#32
  let arg27 : BitVec 32 := Scf.iv c0_i32_86 c1_i32_87 k0_t5
  let c16_i32_966 : BitVec 32 := 16#32
  let v3043 : BitVec 32 := Scalar.muli arg27 c16_i32_966
  let v3044 : Index := Scalar.indexCast v3043
  ![v3044.toNat]

def k0_chk4 (v116 : IVec S16 32) : Prop :=
  (∀ a x, ((![v116] : Fin 1 → IVec S16 32) a x).toNat < S512.size a)
theorem k0_idx6_inb : ∀ (v116 : IVec S16 32) (k0_hw4 : k0_chk4 v116), ∀ a x, ((![v116] : Fin 1 → IVec S16 32) a x).toNat < S512.size a := fun v116 k0_hw4 => k0_hw4

def k0_chk5 (v126 : IVec S16 32) : Prop :=
  (∀ a x, ((![v126] : Fin 1 → IVec S16 32) a x).toNat < S1024.size a)
theorem k0_idx7_inb : ∀ (v126 : IVec S16 32) (k0_hw5 : k0_chk5 v126), ∀ a x, ((![v126] : Fin 1 → IVec S16 32) a x).toNat < S1024.size a := fun v126 k0_hw5 => k0_hw5

def k0_chk6 (v145 : IVec S16 32) : Prop :=
  (∀ a x, ((![v145] : Fin 1 → IVec S16 32) a x).toNat < S20480.size a) ∧
  (∀ a x, ((![v145] : Fin 1 → IVec S16 32) a x).toNat < S20480.size a)
theorem k0_idx8_inb : ∀ (v145 : IVec S16 32) (k0_hw6 : k0_chk6 v145), ∀ a x, ((![v145] : Fin 1 → IVec S16 32) a x).toNat < S20480.size a := fun v145 k0_hw6 => k0_hw6.1
theorem k0_idx9_inb : ∀ (v145 : IVec S16 32) (k0_hw6 : k0_chk6 v145), ∀ a x, ((![v145] : Fin 1 → IVec S16 32) a x).toNat < S20480.size a := fun v145 k0_hw6 => k0_hw6.2

def k0_chk7 (v178 : IVec S16 32) : Prop :=
  (∀ a x, ((![v178] : Fin 1 → IVec S16 32) a x).toNat < S20480.size a) ∧
  (∀ a x, ((![v178] : Fin 1 → IVec S16 32) a x).toNat < S20480.size a)
theorem k0_idx10_inb : ∀ (v178 : IVec S16 32) (k0_hw7 : k0_chk7 v178), ∀ a x, ((![v178] : Fin 1 → IVec S16 32) a x).toNat < S20480.size a := fun v178 k0_hw7 => k0_hw7.1
theorem k0_idx11_inb : ∀ (v178 : IVec S16 32) (k0_hw7 : k0_chk7 v178), ∀ a x, ((![v178] : Fin 1 → IVec S16 32) a x).toNat < S20480.size a := fun v178 k0_hw7 => k0_hw7.2

def k0_chk8 (v205 : IVec S16 32) : Prop :=
  (∀ a x, ((![v205] : Fin 1 → IVec S16 32) a x).toNat < S512.size a)
theorem k0_idx12_inb : ∀ (v205 : IVec S16 32) (k0_hw8 : k0_chk8 v205), ∀ a x, ((![v205] : Fin 1 → IVec S16 32) a x).toNat < S512.size a := fun v205 k0_hw8 => k0_hw8

def k0_chk9 (v215 : IVec S16 32) : Prop :=
  (∀ a x, ((![v215] : Fin 1 → IVec S16 32) a x).toNat < S1024.size a)
theorem k0_idx13_inb : ∀ (v215 : IVec S16 32) (k0_hw9 : k0_chk9 v215), ∀ a x, ((![v215] : Fin 1 → IVec S16 32) a x).toNat < S1024.size a := fun v215 k0_hw9 => k0_hw9

def k0_chk10 (v234 : IVec S16 32) : Prop :=
  (∀ a x, ((![v234] : Fin 1 → IVec S16 32) a x).toNat < S20480.size a) ∧
  (∀ a x, ((![v234] : Fin 1 → IVec S16 32) a x).toNat < S20480.size a)
theorem k0_idx14_inb : ∀ (v234 : IVec S16 32) (k0_hw10 : k0_chk10 v234), ∀ a x, ((![v234] : Fin 1 → IVec S16 32) a x).toNat < S20480.size a := fun v234 k0_hw10 => k0_hw10.1
theorem k0_idx15_inb : ∀ (v234 : IVec S16 32) (k0_hw10 : k0_chk10 v234), ∀ a x, ((![v234] : Fin 1 → IVec S16 32) a x).toNat < S20480.size a := fun v234 k0_hw10 => k0_hw10.2

def k0_chk11 (v267 : IVec S16 32) : Prop :=
  (∀ a x, ((![v267] : Fin 1 → IVec S16 32) a x).toNat < S20480.size a) ∧
  (∀ a x, ((![v267] : Fin 1 → IVec S16 32) a x).toNat < S20480.size a)
theorem k0_idx16_inb : ∀ (v267 : IVec S16 32) (k0_hw11 : k0_chk11 v267), ∀ a x, ((![v267] : Fin 1 → IVec S16 32) a x).toNat < S20480.size a := fun v267 k0_hw11 => k0_hw11.1
theorem k0_idx17_inb : ∀ (v267 : IVec S16 32) (k0_hw11 : k0_chk11 v267), ∀ a x, ((![v267] : Fin 1 → IVec S16 32) a x).toNat < S20480.size a := fun v267 k0_hw11 => k0_hw11.2

def k0_chk12 (v294 : IVec S16 32) : Prop :=
  (∀ a x, ((![v294] : Fin 1 → IVec S16 32) a x).toNat < S512.size a)
theorem k0_idx18_inb : ∀ (v294 : IVec S16 32) (k0_hw12 : k0_chk12 v294), ∀ a x, ((![v294] : Fin 1 → IVec S16 32) a x).toNat < S512.size a := fun v294 k0_hw12 => k0_hw12

def k0_chk13 (v304 : IVec S16 32) : Prop :=
  (∀ a x, ((![v304] : Fin 1 → IVec S16 32) a x).toNat < S1024.size a)
theorem k0_idx19_inb : ∀ (v304 : IVec S16 32) (k0_hw13 : k0_chk13 v304), ∀ a x, ((![v304] : Fin 1 → IVec S16 32) a x).toNat < S1024.size a := fun v304 k0_hw13 => k0_hw13

def k0_chk14 (v323 : IVec S16 32) : Prop :=
  (∀ a x, ((![v323] : Fin 1 → IVec S16 32) a x).toNat < S20480.size a) ∧
  (∀ a x, ((![v323] : Fin 1 → IVec S16 32) a x).toNat < S20480.size a)
theorem k0_idx20_inb : ∀ (v323 : IVec S16 32) (k0_hw14 : k0_chk14 v323), ∀ a x, ((![v323] : Fin 1 → IVec S16 32) a x).toNat < S20480.size a := fun v323 k0_hw14 => k0_hw14.1
theorem k0_idx21_inb : ∀ (v323 : IVec S16 32) (k0_hw14 : k0_chk14 v323), ∀ a x, ((![v323] : Fin 1 → IVec S16 32) a x).toNat < S20480.size a := fun v323 k0_hw14 => k0_hw14.2

def k0_chk15 (v356 : IVec S16 32) : Prop :=
  (∀ a x, ((![v356] : Fin 1 → IVec S16 32) a x).toNat < S20480.size a) ∧
  (∀ a x, ((![v356] : Fin 1 → IVec S16 32) a x).toNat < S20480.size a)
theorem k0_idx22_inb : ∀ (v356 : IVec S16 32) (k0_hw15 : k0_chk15 v356), ∀ a x, ((![v356] : Fin 1 → IVec S16 32) a x).toNat < S20480.size a := fun v356 k0_hw15 => k0_hw15.1
theorem k0_idx23_inb : ∀ (v356 : IVec S16 32) (k0_hw15 : k0_chk15 v356), ∀ a x, ((![v356] : Fin 1 → IVec S16 32) a x).toNat < S20480.size a := fun v356 k0_hw15 => k0_hw15.2

def k0_chk16 (v383 : IVec S16 32) : Prop :=
  (∀ a x, ((![v383] : Fin 1 → IVec S16 32) a x).toNat < S512.size a)
theorem k0_idx24_inb : ∀ (v383 : IVec S16 32) (k0_hw16 : k0_chk16 v383), ∀ a x, ((![v383] : Fin 1 → IVec S16 32) a x).toNat < S512.size a := fun v383 k0_hw16 => k0_hw16

def k0_chk17 (v393 : IVec S16 32) : Prop :=
  (∀ a x, ((![v393] : Fin 1 → IVec S16 32) a x).toNat < S1024.size a)
theorem k0_idx25_inb : ∀ (v393 : IVec S16 32) (k0_hw17 : k0_chk17 v393), ∀ a x, ((![v393] : Fin 1 → IVec S16 32) a x).toNat < S1024.size a := fun v393 k0_hw17 => k0_hw17

def k0_chk18 (v412 : IVec S16 32) : Prop :=
  (∀ a x, ((![v412] : Fin 1 → IVec S16 32) a x).toNat < S20480.size a) ∧
  (∀ a x, ((![v412] : Fin 1 → IVec S16 32) a x).toNat < S20480.size a)
theorem k0_idx26_inb : ∀ (v412 : IVec S16 32) (k0_hw18 : k0_chk18 v412), ∀ a x, ((![v412] : Fin 1 → IVec S16 32) a x).toNat < S20480.size a := fun v412 k0_hw18 => k0_hw18.1
theorem k0_idx27_inb : ∀ (v412 : IVec S16 32) (k0_hw18 : k0_chk18 v412), ∀ a x, ((![v412] : Fin 1 → IVec S16 32) a x).toNat < S20480.size a := fun v412 k0_hw18 => k0_hw18.2

def k0_chk19 (v445 : IVec S16 32) : Prop :=
  (∀ a x, ((![v445] : Fin 1 → IVec S16 32) a x).toNat < S20480.size a) ∧
  (∀ a x, ((![v445] : Fin 1 → IVec S16 32) a x).toNat < S20480.size a)
theorem k0_idx28_inb : ∀ (v445 : IVec S16 32) (k0_hw19 : k0_chk19 v445), ∀ a x, ((![v445] : Fin 1 → IVec S16 32) a x).toNat < S20480.size a := fun v445 k0_hw19 => k0_hw19.1
theorem k0_idx29_inb : ∀ (v445 : IVec S16 32) (k0_hw19 : k0_chk19 v445), ∀ a x, ((![v445] : Fin 1 → IVec S16 32) a x).toNat < S20480.size a := fun v445 k0_hw19 => k0_hw19.2

def k0_chk20 (v472 : IVec S16 32) : Prop :=
  (∀ a x, ((![v472] : Fin 1 → IVec S16 32) a x).toNat < S512.size a)
theorem k0_idx30_inb : ∀ (v472 : IVec S16 32) (k0_hw20 : k0_chk20 v472), ∀ a x, ((![v472] : Fin 1 → IVec S16 32) a x).toNat < S512.size a := fun v472 k0_hw20 => k0_hw20

def k0_chk21 (v482 : IVec S16 32) : Prop :=
  (∀ a x, ((![v482] : Fin 1 → IVec S16 32) a x).toNat < S1024.size a)
theorem k0_idx31_inb : ∀ (v482 : IVec S16 32) (k0_hw21 : k0_chk21 v482), ∀ a x, ((![v482] : Fin 1 → IVec S16 32) a x).toNat < S1024.size a := fun v482 k0_hw21 => k0_hw21

def k0_chk22 (v501 : IVec S16 32) : Prop :=
  (∀ a x, ((![v501] : Fin 1 → IVec S16 32) a x).toNat < S20480.size a) ∧
  (∀ a x, ((![v501] : Fin 1 → IVec S16 32) a x).toNat < S20480.size a)
theorem k0_idx32_inb : ∀ (v501 : IVec S16 32) (k0_hw22 : k0_chk22 v501), ∀ a x, ((![v501] : Fin 1 → IVec S16 32) a x).toNat < S20480.size a := fun v501 k0_hw22 => k0_hw22.1
theorem k0_idx33_inb : ∀ (v501 : IVec S16 32) (k0_hw22 : k0_chk22 v501), ∀ a x, ((![v501] : Fin 1 → IVec S16 32) a x).toNat < S20480.size a := fun v501 k0_hw22 => k0_hw22.2

def k0_chk23 (v534 : IVec S16 32) : Prop :=
  (∀ a x, ((![v534] : Fin 1 → IVec S16 32) a x).toNat < S20480.size a) ∧
  (∀ a x, ((![v534] : Fin 1 → IVec S16 32) a x).toNat < S20480.size a)
theorem k0_idx34_inb : ∀ (v534 : IVec S16 32) (k0_hw23 : k0_chk23 v534), ∀ a x, ((![v534] : Fin 1 → IVec S16 32) a x).toNat < S20480.size a := fun v534 k0_hw23 => k0_hw23.1
theorem k0_idx35_inb : ∀ (v534 : IVec S16 32) (k0_hw23 : k0_chk23 v534), ∀ a x, ((![v534] : Fin 1 → IVec S16 32) a x).toNat < S20480.size a := fun v534 k0_hw23 => k0_hw23.2

def k0_chk24 (v561 : IVec S16 32) : Prop :=
  (∀ a x, ((![v561] : Fin 1 → IVec S16 32) a x).toNat < S512.size a)
theorem k0_idx36_inb : ∀ (v561 : IVec S16 32) (k0_hw24 : k0_chk24 v561), ∀ a x, ((![v561] : Fin 1 → IVec S16 32) a x).toNat < S512.size a := fun v561 k0_hw24 => k0_hw24

def k0_chk25 (v571 : IVec S16 32) : Prop :=
  (∀ a x, ((![v571] : Fin 1 → IVec S16 32) a x).toNat < S1024.size a)
theorem k0_idx37_inb : ∀ (v571 : IVec S16 32) (k0_hw25 : k0_chk25 v571), ∀ a x, ((![v571] : Fin 1 → IVec S16 32) a x).toNat < S1024.size a := fun v571 k0_hw25 => k0_hw25

def k0_chk26 (v590 : IVec S16 32) : Prop :=
  (∀ a x, ((![v590] : Fin 1 → IVec S16 32) a x).toNat < S20480.size a) ∧
  (∀ a x, ((![v590] : Fin 1 → IVec S16 32) a x).toNat < S20480.size a)
theorem k0_idx38_inb : ∀ (v590 : IVec S16 32) (k0_hw26 : k0_chk26 v590), ∀ a x, ((![v590] : Fin 1 → IVec S16 32) a x).toNat < S20480.size a := fun v590 k0_hw26 => k0_hw26.1
theorem k0_idx39_inb : ∀ (v590 : IVec S16 32) (k0_hw26 : k0_chk26 v590), ∀ a x, ((![v590] : Fin 1 → IVec S16 32) a x).toNat < S20480.size a := fun v590 k0_hw26 => k0_hw26.2

def k0_chk27 (v623 : IVec S16 32) : Prop :=
  (∀ a x, ((![v623] : Fin 1 → IVec S16 32) a x).toNat < S20480.size a) ∧
  (∀ a x, ((![v623] : Fin 1 → IVec S16 32) a x).toNat < S20480.size a)
theorem k0_idx40_inb : ∀ (v623 : IVec S16 32) (k0_hw27 : k0_chk27 v623), ∀ a x, ((![v623] : Fin 1 → IVec S16 32) a x).toNat < S20480.size a := fun v623 k0_hw27 => k0_hw27.1
theorem k0_idx41_inb : ∀ (v623 : IVec S16 32) (k0_hw27 : k0_chk27 v623), ∀ a x, ((![v623] : Fin 1 → IVec S16 32) a x).toNat < S20480.size a := fun v623 k0_hw27 => k0_hw27.2

def k0_chk28 (v650 : IVec S16 32) : Prop :=
  (∀ a x, ((![v650] : Fin 1 → IVec S16 32) a x).toNat < S512.size a)
theorem k0_idx42_inb : ∀ (v650 : IVec S16 32) (k0_hw28 : k0_chk28 v650), ∀ a x, ((![v650] : Fin 1 → IVec S16 32) a x).toNat < S512.size a := fun v650 k0_hw28 => k0_hw28

def k0_chk29 (v660 : IVec S16 32) : Prop :=
  (∀ a x, ((![v660] : Fin 1 → IVec S16 32) a x).toNat < S1024.size a)
theorem k0_idx43_inb : ∀ (v660 : IVec S16 32) (k0_hw29 : k0_chk29 v660), ∀ a x, ((![v660] : Fin 1 → IVec S16 32) a x).toNat < S1024.size a := fun v660 k0_hw29 => k0_hw29

def k0_chk30 (v679 : IVec S16 32) : Prop :=
  (∀ a x, ((![v679] : Fin 1 → IVec S16 32) a x).toNat < S20480.size a) ∧
  (∀ a x, ((![v679] : Fin 1 → IVec S16 32) a x).toNat < S20480.size a)
theorem k0_idx44_inb : ∀ (v679 : IVec S16 32) (k0_hw30 : k0_chk30 v679), ∀ a x, ((![v679] : Fin 1 → IVec S16 32) a x).toNat < S20480.size a := fun v679 k0_hw30 => k0_hw30.1
theorem k0_idx45_inb : ∀ (v679 : IVec S16 32) (k0_hw30 : k0_chk30 v679), ∀ a x, ((![v679] : Fin 1 → IVec S16 32) a x).toNat < S20480.size a := fun v679 k0_hw30 => k0_hw30.2

def k0_chk31 (v712 : IVec S16 32) : Prop :=
  (∀ a x, ((![v712] : Fin 1 → IVec S16 32) a x).toNat < S20480.size a) ∧
  (∀ a x, ((![v712] : Fin 1 → IVec S16 32) a x).toNat < S20480.size a)
theorem k0_idx46_inb : ∀ (v712 : IVec S16 32) (k0_hw31 : k0_chk31 v712), ∀ a x, ((![v712] : Fin 1 → IVec S16 32) a x).toNat < S20480.size a := fun v712 k0_hw31 => k0_hw31.1
theorem k0_idx47_inb : ∀ (v712 : IVec S16 32) (k0_hw31 : k0_chk31 v712), ∀ a x, ((![v712] : Fin 1 → IVec S16 32) a x).toNat < S20480.size a := fun v712 k0_hw31 => k0_hw31.2

def k0_chk32 (v739 : IVec S16 32) : Prop :=
  (∀ a x, ((![v739] : Fin 1 → IVec S16 32) a x).toNat < S512.size a)
theorem k0_idx48_inb : ∀ (v739 : IVec S16 32) (k0_hw32 : k0_chk32 v739), ∀ a x, ((![v739] : Fin 1 → IVec S16 32) a x).toNat < S512.size a := fun v739 k0_hw32 => k0_hw32

def k0_chk33 (v749 : IVec S16 32) : Prop :=
  (∀ a x, ((![v749] : Fin 1 → IVec S16 32) a x).toNat < S1024.size a)
theorem k0_idx49_inb : ∀ (v749 : IVec S16 32) (k0_hw33 : k0_chk33 v749), ∀ a x, ((![v749] : Fin 1 → IVec S16 32) a x).toNat < S1024.size a := fun v749 k0_hw33 => k0_hw33

def k0_chk34 (v768 : IVec S16 32) : Prop :=
  (∀ a x, ((![v768] : Fin 1 → IVec S16 32) a x).toNat < S20480.size a) ∧
  (∀ a x, ((![v768] : Fin 1 → IVec S16 32) a x).toNat < S20480.size a)
theorem k0_idx50_inb : ∀ (v768 : IVec S16 32) (k0_hw34 : k0_chk34 v768), ∀ a x, ((![v768] : Fin 1 → IVec S16 32) a x).toNat < S20480.size a := fun v768 k0_hw34 => k0_hw34.1
theorem k0_idx51_inb : ∀ (v768 : IVec S16 32) (k0_hw34 : k0_chk34 v768), ∀ a x, ((![v768] : Fin 1 → IVec S16 32) a x).toNat < S20480.size a := fun v768 k0_hw34 => k0_hw34.2

def k0_chk35 (v801 : IVec S16 32) : Prop :=
  (∀ a x, ((![v801] : Fin 1 → IVec S16 32) a x).toNat < S20480.size a) ∧
  (∀ a x, ((![v801] : Fin 1 → IVec S16 32) a x).toNat < S20480.size a)
theorem k0_idx52_inb : ∀ (v801 : IVec S16 32) (k0_hw35 : k0_chk35 v801), ∀ a x, ((![v801] : Fin 1 → IVec S16 32) a x).toNat < S20480.size a := fun v801 k0_hw35 => k0_hw35.1
theorem k0_idx53_inb : ∀ (v801 : IVec S16 32) (k0_hw35 : k0_chk35 v801), ∀ a x, ((![v801] : Fin 1 → IVec S16 32) a x).toNat < S20480.size a := fun v801 k0_hw35 => k0_hw35.2

def k0_chk36 (v828 : IVec S16 32) : Prop :=
  (∀ a x, ((![v828] : Fin 1 → IVec S16 32) a x).toNat < S512.size a)
theorem k0_idx54_inb : ∀ (v828 : IVec S16 32) (k0_hw36 : k0_chk36 v828), ∀ a x, ((![v828] : Fin 1 → IVec S16 32) a x).toNat < S512.size a := fun v828 k0_hw36 => k0_hw36

def k0_chk37 (v838 : IVec S16 32) : Prop :=
  (∀ a x, ((![v838] : Fin 1 → IVec S16 32) a x).toNat < S1024.size a)
theorem k0_idx55_inb : ∀ (v838 : IVec S16 32) (k0_hw37 : k0_chk37 v838), ∀ a x, ((![v838] : Fin 1 → IVec S16 32) a x).toNat < S1024.size a := fun v838 k0_hw37 => k0_hw37

def k0_chk38 (v857 : IVec S16 32) : Prop :=
  (∀ a x, ((![v857] : Fin 1 → IVec S16 32) a x).toNat < S20480.size a) ∧
  (∀ a x, ((![v857] : Fin 1 → IVec S16 32) a x).toNat < S20480.size a)
theorem k0_idx56_inb : ∀ (v857 : IVec S16 32) (k0_hw38 : k0_chk38 v857), ∀ a x, ((![v857] : Fin 1 → IVec S16 32) a x).toNat < S20480.size a := fun v857 k0_hw38 => k0_hw38.1
theorem k0_idx57_inb : ∀ (v857 : IVec S16 32) (k0_hw38 : k0_chk38 v857), ∀ a x, ((![v857] : Fin 1 → IVec S16 32) a x).toNat < S20480.size a := fun v857 k0_hw38 => k0_hw38.2

def k0_chk39 (v890 : IVec S16 32) : Prop :=
  (∀ a x, ((![v890] : Fin 1 → IVec S16 32) a x).toNat < S20480.size a) ∧
  (∀ a x, ((![v890] : Fin 1 → IVec S16 32) a x).toNat < S20480.size a)
theorem k0_idx58_inb : ∀ (v890 : IVec S16 32) (k0_hw39 : k0_chk39 v890), ∀ a x, ((![v890] : Fin 1 → IVec S16 32) a x).toNat < S20480.size a := fun v890 k0_hw39 => k0_hw39.1
theorem k0_idx59_inb : ∀ (v890 : IVec S16 32) (k0_hw39 : k0_chk39 v890), ∀ a x, ((![v890] : Fin 1 → IVec S16 32) a x).toNat < S20480.size a := fun v890 k0_hw39 => k0_hw39.2

def k0_chk40 (v917 : IVec S16 32) : Prop :=
  (∀ a x, ((![v917] : Fin 1 → IVec S16 32) a x).toNat < S512.size a)
theorem k0_idx60_inb : ∀ (v917 : IVec S16 32) (k0_hw40 : k0_chk40 v917), ∀ a x, ((![v917] : Fin 1 → IVec S16 32) a x).toNat < S512.size a := fun v917 k0_hw40 => k0_hw40

def k0_chk41 (v927 : IVec S16 32) : Prop :=
  (∀ a x, ((![v927] : Fin 1 → IVec S16 32) a x).toNat < S1024.size a)
theorem k0_idx61_inb : ∀ (v927 : IVec S16 32) (k0_hw41 : k0_chk41 v927), ∀ a x, ((![v927] : Fin 1 → IVec S16 32) a x).toNat < S1024.size a := fun v927 k0_hw41 => k0_hw41

def k0_chk42 (v946 : IVec S16 32) : Prop :=
  (∀ a x, ((![v946] : Fin 1 → IVec S16 32) a x).toNat < S20480.size a) ∧
  (∀ a x, ((![v946] : Fin 1 → IVec S16 32) a x).toNat < S20480.size a)
theorem k0_idx62_inb : ∀ (v946 : IVec S16 32) (k0_hw42 : k0_chk42 v946), ∀ a x, ((![v946] : Fin 1 → IVec S16 32) a x).toNat < S20480.size a := fun v946 k0_hw42 => k0_hw42.1
theorem k0_idx63_inb : ∀ (v946 : IVec S16 32) (k0_hw42 : k0_chk42 v946), ∀ a x, ((![v946] : Fin 1 → IVec S16 32) a x).toNat < S20480.size a := fun v946 k0_hw42 => k0_hw42.2

def k0_chk43 (v979 : IVec S16 32) : Prop :=
  (∀ a x, ((![v979] : Fin 1 → IVec S16 32) a x).toNat < S20480.size a) ∧
  (∀ a x, ((![v979] : Fin 1 → IVec S16 32) a x).toNat < S20480.size a)
theorem k0_idx64_inb : ∀ (v979 : IVec S16 32) (k0_hw43 : k0_chk43 v979), ∀ a x, ((![v979] : Fin 1 → IVec S16 32) a x).toNat < S20480.size a := fun v979 k0_hw43 => k0_hw43.1
theorem k0_idx65_inb : ∀ (v979 : IVec S16 32) (k0_hw43 : k0_chk43 v979), ∀ a x, ((![v979] : Fin 1 → IVec S16 32) a x).toNat < S20480.size a := fun v979 k0_hw43 => k0_hw43.2

def k0_chk44 (v1006 : IVec S16 32) : Prop :=
  (∀ a x, ((![v1006] : Fin 1 → IVec S16 32) a x).toNat < S512.size a)
theorem k0_idx66_inb : ∀ (v1006 : IVec S16 32) (k0_hw44 : k0_chk44 v1006), ∀ a x, ((![v1006] : Fin 1 → IVec S16 32) a x).toNat < S512.size a := fun v1006 k0_hw44 => k0_hw44

def k0_chk45 (v1016 : IVec S16 32) : Prop :=
  (∀ a x, ((![v1016] : Fin 1 → IVec S16 32) a x).toNat < S1024.size a)
theorem k0_idx67_inb : ∀ (v1016 : IVec S16 32) (k0_hw45 : k0_chk45 v1016), ∀ a x, ((![v1016] : Fin 1 → IVec S16 32) a x).toNat < S1024.size a := fun v1016 k0_hw45 => k0_hw45

def k0_chk46 (v1035 : IVec S16 32) : Prop :=
  (∀ a x, ((![v1035] : Fin 1 → IVec S16 32) a x).toNat < S20480.size a) ∧
  (∀ a x, ((![v1035] : Fin 1 → IVec S16 32) a x).toNat < S20480.size a)
theorem k0_idx68_inb : ∀ (v1035 : IVec S16 32) (k0_hw46 : k0_chk46 v1035), ∀ a x, ((![v1035] : Fin 1 → IVec S16 32) a x).toNat < S20480.size a := fun v1035 k0_hw46 => k0_hw46.1
theorem k0_idx69_inb : ∀ (v1035 : IVec S16 32) (k0_hw46 : k0_chk46 v1035), ∀ a x, ((![v1035] : Fin 1 → IVec S16 32) a x).toNat < S20480.size a := fun v1035 k0_hw46 => k0_hw46.2

def k0_chk47 (v1068 : IVec S16 32) : Prop :=
  (∀ a x, ((![v1068] : Fin 1 → IVec S16 32) a x).toNat < S20480.size a) ∧
  (∀ a x, ((![v1068] : Fin 1 → IVec S16 32) a x).toNat < S20480.size a)
theorem k0_idx70_inb : ∀ (v1068 : IVec S16 32) (k0_hw47 : k0_chk47 v1068), ∀ a x, ((![v1068] : Fin 1 → IVec S16 32) a x).toNat < S20480.size a := fun v1068 k0_hw47 => k0_hw47.1
theorem k0_idx71_inb : ∀ (v1068 : IVec S16 32) (k0_hw47 : k0_chk47 v1068), ∀ a x, ((![v1068] : Fin 1 → IVec S16 32) a x).toNat < S20480.size a := fun v1068 k0_hw47 => k0_hw47.2

def k0_chk48 (v1095 : IVec S16 32) : Prop :=
  (∀ a x, ((![v1095] : Fin 1 → IVec S16 32) a x).toNat < S512.size a)
theorem k0_idx72_inb : ∀ (v1095 : IVec S16 32) (k0_hw48 : k0_chk48 v1095), ∀ a x, ((![v1095] : Fin 1 → IVec S16 32) a x).toNat < S512.size a := fun v1095 k0_hw48 => k0_hw48

def k0_chk49 (v1105 : IVec S16 32) : Prop :=
  (∀ a x, ((![v1105] : Fin 1 → IVec S16 32) a x).toNat < S1024.size a)
theorem k0_idx73_inb : ∀ (v1105 : IVec S16 32) (k0_hw49 : k0_chk49 v1105), ∀ a x, ((![v1105] : Fin 1 → IVec S16 32) a x).toNat < S1024.size a := fun v1105 k0_hw49 => k0_hw49

def k0_chk50 (v1124 : IVec S16 32) : Prop :=
  (∀ a x, ((![v1124] : Fin 1 → IVec S16 32) a x).toNat < S20480.size a) ∧
  (∀ a x, ((![v1124] : Fin 1 → IVec S16 32) a x).toNat < S20480.size a)
theorem k0_idx74_inb : ∀ (v1124 : IVec S16 32) (k0_hw50 : k0_chk50 v1124), ∀ a x, ((![v1124] : Fin 1 → IVec S16 32) a x).toNat < S20480.size a := fun v1124 k0_hw50 => k0_hw50.1
theorem k0_idx75_inb : ∀ (v1124 : IVec S16 32) (k0_hw50 : k0_chk50 v1124), ∀ a x, ((![v1124] : Fin 1 → IVec S16 32) a x).toNat < S20480.size a := fun v1124 k0_hw50 => k0_hw50.2

def k0_chk51 (v1157 : IVec S16 32) : Prop :=
  (∀ a x, ((![v1157] : Fin 1 → IVec S16 32) a x).toNat < S20480.size a) ∧
  (∀ a x, ((![v1157] : Fin 1 → IVec S16 32) a x).toNat < S20480.size a)
theorem k0_idx76_inb : ∀ (v1157 : IVec S16 32) (k0_hw51 : k0_chk51 v1157), ∀ a x, ((![v1157] : Fin 1 → IVec S16 32) a x).toNat < S20480.size a := fun v1157 k0_hw51 => k0_hw51.1
theorem k0_idx77_inb : ∀ (v1157 : IVec S16 32) (k0_hw51 : k0_chk51 v1157), ∀ a x, ((![v1157] : Fin 1 → IVec S16 32) a x).toNat < S20480.size a := fun v1157 k0_hw51 => k0_hw51.2

def k0_chk52 (v1184 : IVec S16 32) : Prop :=
  (∀ a x, ((![v1184] : Fin 1 → IVec S16 32) a x).toNat < S512.size a)
theorem k0_idx78_inb : ∀ (v1184 : IVec S16 32) (k0_hw52 : k0_chk52 v1184), ∀ a x, ((![v1184] : Fin 1 → IVec S16 32) a x).toNat < S512.size a := fun v1184 k0_hw52 => k0_hw52

def k0_chk53 (v1194 : IVec S16 32) : Prop :=
  (∀ a x, ((![v1194] : Fin 1 → IVec S16 32) a x).toNat < S1024.size a)
theorem k0_idx79_inb : ∀ (v1194 : IVec S16 32) (k0_hw53 : k0_chk53 v1194), ∀ a x, ((![v1194] : Fin 1 → IVec S16 32) a x).toNat < S1024.size a := fun v1194 k0_hw53 => k0_hw53

def k0_chk54 (v1213 : IVec S16 32) : Prop :=
  (∀ a x, ((![v1213] : Fin 1 → IVec S16 32) a x).toNat < S20480.size a) ∧
  (∀ a x, ((![v1213] : Fin 1 → IVec S16 32) a x).toNat < S20480.size a)
theorem k0_idx80_inb : ∀ (v1213 : IVec S16 32) (k0_hw54 : k0_chk54 v1213), ∀ a x, ((![v1213] : Fin 1 → IVec S16 32) a x).toNat < S20480.size a := fun v1213 k0_hw54 => k0_hw54.1
theorem k0_idx81_inb : ∀ (v1213 : IVec S16 32) (k0_hw54 : k0_chk54 v1213), ∀ a x, ((![v1213] : Fin 1 → IVec S16 32) a x).toNat < S20480.size a := fun v1213 k0_hw54 => k0_hw54.2

def k0_chk55 (v1246 : IVec S16 32) : Prop :=
  (∀ a x, ((![v1246] : Fin 1 → IVec S16 32) a x).toNat < S20480.size a) ∧
  (∀ a x, ((![v1246] : Fin 1 → IVec S16 32) a x).toNat < S20480.size a)
theorem k0_idx82_inb : ∀ (v1246 : IVec S16 32) (k0_hw55 : k0_chk55 v1246), ∀ a x, ((![v1246] : Fin 1 → IVec S16 32) a x).toNat < S20480.size a := fun v1246 k0_hw55 => k0_hw55.1
theorem k0_idx83_inb : ∀ (v1246 : IVec S16 32) (k0_hw55 : k0_chk55 v1246), ∀ a x, ((![v1246] : Fin 1 → IVec S16 32) a x).toNat < S20480.size a := fun v1246 k0_hw55 => k0_hw55.2

def k0_chk56 (v1273 : IVec S16 32) : Prop :=
  (∀ a x, ((![v1273] : Fin 1 → IVec S16 32) a x).toNat < S512.size a)
theorem k0_idx84_inb : ∀ (v1273 : IVec S16 32) (k0_hw56 : k0_chk56 v1273), ∀ a x, ((![v1273] : Fin 1 → IVec S16 32) a x).toNat < S512.size a := fun v1273 k0_hw56 => k0_hw56

def k0_chk57 (v1283 : IVec S16 32) : Prop :=
  (∀ a x, ((![v1283] : Fin 1 → IVec S16 32) a x).toNat < S1024.size a)
theorem k0_idx85_inb : ∀ (v1283 : IVec S16 32) (k0_hw57 : k0_chk57 v1283), ∀ a x, ((![v1283] : Fin 1 → IVec S16 32) a x).toNat < S1024.size a := fun v1283 k0_hw57 => k0_hw57

def k0_chk58 (v1302 : IVec S16 32) : Prop :=
  (∀ a x, ((![v1302] : Fin 1 → IVec S16 32) a x).toNat < S20480.size a) ∧
  (∀ a x, ((![v1302] : Fin 1 → IVec S16 32) a x).toNat < S20480.size a)
theorem k0_idx86_inb : ∀ (v1302 : IVec S16 32) (k0_hw58 : k0_chk58 v1302), ∀ a x, ((![v1302] : Fin 1 → IVec S16 32) a x).toNat < S20480.size a := fun v1302 k0_hw58 => k0_hw58.1
theorem k0_idx87_inb : ∀ (v1302 : IVec S16 32) (k0_hw58 : k0_chk58 v1302), ∀ a x, ((![v1302] : Fin 1 → IVec S16 32) a x).toNat < S20480.size a := fun v1302 k0_hw58 => k0_hw58.2

def k0_chk59 (v1335 : IVec S16 32) : Prop :=
  (∀ a x, ((![v1335] : Fin 1 → IVec S16 32) a x).toNat < S20480.size a) ∧
  (∀ a x, ((![v1335] : Fin 1 → IVec S16 32) a x).toNat < S20480.size a)
theorem k0_idx88_inb : ∀ (v1335 : IVec S16 32) (k0_hw59 : k0_chk59 v1335), ∀ a x, ((![v1335] : Fin 1 → IVec S16 32) a x).toNat < S20480.size a := fun v1335 k0_hw59 => k0_hw59.1
theorem k0_idx89_inb : ∀ (v1335 : IVec S16 32) (k0_hw59 : k0_chk59 v1335), ∀ a x, ((![v1335] : Fin 1 → IVec S16 32) a x).toNat < S20480.size a := fun v1335 k0_hw59 => k0_hw59.2

def k0_chk60 (v1362 : IVec S16 32) : Prop :=
  (∀ a x, ((![v1362] : Fin 1 → IVec S16 32) a x).toNat < S512.size a)
theorem k0_idx90_inb : ∀ (v1362 : IVec S16 32) (k0_hw60 : k0_chk60 v1362), ∀ a x, ((![v1362] : Fin 1 → IVec S16 32) a x).toNat < S512.size a := fun v1362 k0_hw60 => k0_hw60

def k0_chk61 (v1372 : IVec S16 32) : Prop :=
  (∀ a x, ((![v1372] : Fin 1 → IVec S16 32) a x).toNat < S1024.size a)
theorem k0_idx91_inb : ∀ (v1372 : IVec S16 32) (k0_hw61 : k0_chk61 v1372), ∀ a x, ((![v1372] : Fin 1 → IVec S16 32) a x).toNat < S1024.size a := fun v1372 k0_hw61 => k0_hw61

def k0_chk62 (v1391 : IVec S16 32) : Prop :=
  (∀ a x, ((![v1391] : Fin 1 → IVec S16 32) a x).toNat < S20480.size a) ∧
  (∀ a x, ((![v1391] : Fin 1 → IVec S16 32) a x).toNat < S20480.size a)
theorem k0_idx92_inb : ∀ (v1391 : IVec S16 32) (k0_hw62 : k0_chk62 v1391), ∀ a x, ((![v1391] : Fin 1 → IVec S16 32) a x).toNat < S20480.size a := fun v1391 k0_hw62 => k0_hw62.1
theorem k0_idx93_inb : ∀ (v1391 : IVec S16 32) (k0_hw62 : k0_chk62 v1391), ∀ a x, ((![v1391] : Fin 1 → IVec S16 32) a x).toNat < S20480.size a := fun v1391 k0_hw62 => k0_hw62.2

def k0_chk63 (v1424 : IVec S16 32) : Prop :=
  (∀ a x, ((![v1424] : Fin 1 → IVec S16 32) a x).toNat < S20480.size a) ∧
  (∀ a x, ((![v1424] : Fin 1 → IVec S16 32) a x).toNat < S20480.size a)
theorem k0_idx94_inb : ∀ (v1424 : IVec S16 32) (k0_hw63 : k0_chk63 v1424), ∀ a x, ((![v1424] : Fin 1 → IVec S16 32) a x).toNat < S20480.size a := fun v1424 k0_hw63 => k0_hw63.1
theorem k0_idx95_inb : ∀ (v1424 : IVec S16 32) (k0_hw63 : k0_chk63 v1424), ∀ a x, ((![v1424] : Fin 1 → IVec S16 32) a x).toNat < S20480.size a := fun v1424 k0_hw63 => k0_hw63.2

def k0_chk64 (v1451 : IVec S16 32) : Prop :=
  (∀ a x, ((![v1451] : Fin 1 → IVec S16 32) a x).toNat < S512.size a)
theorem k0_idx96_inb : ∀ (v1451 : IVec S16 32) (k0_hw64 : k0_chk64 v1451), ∀ a x, ((![v1451] : Fin 1 → IVec S16 32) a x).toNat < S512.size a := fun v1451 k0_hw64 => k0_hw64

def k0_chk65 (v1461 : IVec S16 32) : Prop :=
  (∀ a x, ((![v1461] : Fin 1 → IVec S16 32) a x).toNat < S1024.size a)
theorem k0_idx97_inb : ∀ (v1461 : IVec S16 32) (k0_hw65 : k0_chk65 v1461), ∀ a x, ((![v1461] : Fin 1 → IVec S16 32) a x).toNat < S1024.size a := fun v1461 k0_hw65 => k0_hw65

def k0_chk66 (v1480 : IVec S16 32) : Prop :=
  (∀ a x, ((![v1480] : Fin 1 → IVec S16 32) a x).toNat < S20480.size a) ∧
  (∀ a x, ((![v1480] : Fin 1 → IVec S16 32) a x).toNat < S20480.size a)
theorem k0_idx98_inb : ∀ (v1480 : IVec S16 32) (k0_hw66 : k0_chk66 v1480), ∀ a x, ((![v1480] : Fin 1 → IVec S16 32) a x).toNat < S20480.size a := fun v1480 k0_hw66 => k0_hw66.1
theorem k0_idx99_inb : ∀ (v1480 : IVec S16 32) (k0_hw66 : k0_chk66 v1480), ∀ a x, ((![v1480] : Fin 1 → IVec S16 32) a x).toNat < S20480.size a := fun v1480 k0_hw66 => k0_hw66.2

def k0_chk67 (v1513 : IVec S16 32) : Prop :=
  (∀ a x, ((![v1513] : Fin 1 → IVec S16 32) a x).toNat < S20480.size a) ∧
  (∀ a x, ((![v1513] : Fin 1 → IVec S16 32) a x).toNat < S20480.size a)
theorem k0_idx100_inb : ∀ (v1513 : IVec S16 32) (k0_hw67 : k0_chk67 v1513), ∀ a x, ((![v1513] : Fin 1 → IVec S16 32) a x).toNat < S20480.size a := fun v1513 k0_hw67 => k0_hw67.1
theorem k0_idx101_inb : ∀ (v1513 : IVec S16 32) (k0_hw67 : k0_chk67 v1513), ∀ a x, ((![v1513] : Fin 1 → IVec S16 32) a x).toNat < S20480.size a := fun v1513 k0_hw67 => k0_hw67.2

def k0_chk68 (v1540 : IVec S16 32) : Prop :=
  (∀ a x, ((![v1540] : Fin 1 → IVec S16 32) a x).toNat < S512.size a)
theorem k0_idx102_inb : ∀ (v1540 : IVec S16 32) (k0_hw68 : k0_chk68 v1540), ∀ a x, ((![v1540] : Fin 1 → IVec S16 32) a x).toNat < S512.size a := fun v1540 k0_hw68 => k0_hw68

def k0_chk69 (v1550 : IVec S16 32) : Prop :=
  (∀ a x, ((![v1550] : Fin 1 → IVec S16 32) a x).toNat < S1024.size a)
theorem k0_idx103_inb : ∀ (v1550 : IVec S16 32) (k0_hw69 : k0_chk69 v1550), ∀ a x, ((![v1550] : Fin 1 → IVec S16 32) a x).toNat < S1024.size a := fun v1550 k0_hw69 => k0_hw69

def k0_chk70 (v1569 : IVec S16 32) : Prop :=
  (∀ a x, ((![v1569] : Fin 1 → IVec S16 32) a x).toNat < S20480.size a) ∧
  (∀ a x, ((![v1569] : Fin 1 → IVec S16 32) a x).toNat < S20480.size a)
theorem k0_idx104_inb : ∀ (v1569 : IVec S16 32) (k0_hw70 : k0_chk70 v1569), ∀ a x, ((![v1569] : Fin 1 → IVec S16 32) a x).toNat < S20480.size a := fun v1569 k0_hw70 => k0_hw70.1
theorem k0_idx105_inb : ∀ (v1569 : IVec S16 32) (k0_hw70 : k0_chk70 v1569), ∀ a x, ((![v1569] : Fin 1 → IVec S16 32) a x).toNat < S20480.size a := fun v1569 k0_hw70 => k0_hw70.2

def k0_chk71 (v1602 : IVec S16 32) : Prop :=
  (∀ a x, ((![v1602] : Fin 1 → IVec S16 32) a x).toNat < S20480.size a) ∧
  (∀ a x, ((![v1602] : Fin 1 → IVec S16 32) a x).toNat < S20480.size a)
theorem k0_idx106_inb : ∀ (v1602 : IVec S16 32) (k0_hw71 : k0_chk71 v1602), ∀ a x, ((![v1602] : Fin 1 → IVec S16 32) a x).toNat < S20480.size a := fun v1602 k0_hw71 => k0_hw71.1
theorem k0_idx107_inb : ∀ (v1602 : IVec S16 32) (k0_hw71 : k0_chk71 v1602), ∀ a x, ((![v1602] : Fin 1 → IVec S16 32) a x).toNat < S20480.size a := fun v1602 k0_hw71 => k0_hw71.2

def k0_chk72 (v1629 : IVec S16 32) : Prop :=
  (∀ a x, ((![v1629] : Fin 1 → IVec S16 32) a x).toNat < S512.size a)
theorem k0_idx108_inb : ∀ (v1629 : IVec S16 32) (k0_hw72 : k0_chk72 v1629), ∀ a x, ((![v1629] : Fin 1 → IVec S16 32) a x).toNat < S512.size a := fun v1629 k0_hw72 => k0_hw72

def k0_chk73 (v1639 : IVec S16 32) : Prop :=
  (∀ a x, ((![v1639] : Fin 1 → IVec S16 32) a x).toNat < S1024.size a)
theorem k0_idx109_inb : ∀ (v1639 : IVec S16 32) (k0_hw73 : k0_chk73 v1639), ∀ a x, ((![v1639] : Fin 1 → IVec S16 32) a x).toNat < S1024.size a := fun v1639 k0_hw73 => k0_hw73

def k0_chk74 (v1658 : IVec S16 32) : Prop :=
  (∀ a x, ((![v1658] : Fin 1 → IVec S16 32) a x).toNat < S20480.size a) ∧
  (∀ a x, ((![v1658] : Fin 1 → IVec S16 32) a x).toNat < S20480.size a)
theorem k0_idx110_inb : ∀ (v1658 : IVec S16 32) (k0_hw74 : k0_chk74 v1658), ∀ a x, ((![v1658] : Fin 1 → IVec S16 32) a x).toNat < S20480.size a := fun v1658 k0_hw74 => k0_hw74.1
theorem k0_idx111_inb : ∀ (v1658 : IVec S16 32) (k0_hw74 : k0_chk74 v1658), ∀ a x, ((![v1658] : Fin 1 → IVec S16 32) a x).toNat < S20480.size a := fun v1658 k0_hw74 => k0_hw74.2

def k0_chk75 (v1691 : IVec S16 32) : Prop :=
  (∀ a x, ((![v1691] : Fin 1 → IVec S16 32) a x).toNat < S20480.size a) ∧
  (∀ a x, ((![v1691] : Fin 1 → IVec S16 32) a x).toNat < S20480.size a)
theorem k0_idx112_inb : ∀ (v1691 : IVec S16 32) (k0_hw75 : k0_chk75 v1691), ∀ a x, ((![v1691] : Fin 1 → IVec S16 32) a x).toNat < S20480.size a := fun v1691 k0_hw75 => k0_hw75.1
theorem k0_idx113_inb : ∀ (v1691 : IVec S16 32) (k0_hw75 : k0_chk75 v1691), ∀ a x, ((![v1691] : Fin 1 → IVec S16 32) a x).toNat < S20480.size a := fun v1691 k0_hw75 => k0_hw75.2

def k0_chk76 (v1718 : IVec S16 32) : Prop :=
  (∀ a x, ((![v1718] : Fin 1 → IVec S16 32) a x).toNat < S512.size a)
theorem k0_idx114_inb : ∀ (v1718 : IVec S16 32) (k0_hw76 : k0_chk76 v1718), ∀ a x, ((![v1718] : Fin 1 → IVec S16 32) a x).toNat < S512.size a := fun v1718 k0_hw76 => k0_hw76

def k0_chk77 (v1728 : IVec S16 32) : Prop :=
  (∀ a x, ((![v1728] : Fin 1 → IVec S16 32) a x).toNat < S1024.size a)
theorem k0_idx115_inb : ∀ (v1728 : IVec S16 32) (k0_hw77 : k0_chk77 v1728), ∀ a x, ((![v1728] : Fin 1 → IVec S16 32) a x).toNat < S1024.size a := fun v1728 k0_hw77 => k0_hw77

def k0_chk78 (v1747 : IVec S16 32) : Prop :=
  (∀ a x, ((![v1747] : Fin 1 → IVec S16 32) a x).toNat < S20480.size a) ∧
  (∀ a x, ((![v1747] : Fin 1 → IVec S16 32) a x).toNat < S20480.size a)
theorem k0_idx116_inb : ∀ (v1747 : IVec S16 32) (k0_hw78 : k0_chk78 v1747), ∀ a x, ((![v1747] : Fin 1 → IVec S16 32) a x).toNat < S20480.size a := fun v1747 k0_hw78 => k0_hw78.1
theorem k0_idx117_inb : ∀ (v1747 : IVec S16 32) (k0_hw78 : k0_chk78 v1747), ∀ a x, ((![v1747] : Fin 1 → IVec S16 32) a x).toNat < S20480.size a := fun v1747 k0_hw78 => k0_hw78.2

def k0_chk79 (v1780 : IVec S16 32) : Prop :=
  (∀ a x, ((![v1780] : Fin 1 → IVec S16 32) a x).toNat < S20480.size a) ∧
  (∀ a x, ((![v1780] : Fin 1 → IVec S16 32) a x).toNat < S20480.size a)
theorem k0_idx118_inb : ∀ (v1780 : IVec S16 32) (k0_hw79 : k0_chk79 v1780), ∀ a x, ((![v1780] : Fin 1 → IVec S16 32) a x).toNat < S20480.size a := fun v1780 k0_hw79 => k0_hw79.1
theorem k0_idx119_inb : ∀ (v1780 : IVec S16 32) (k0_hw79 : k0_chk79 v1780), ∀ a x, ((![v1780] : Fin 1 → IVec S16 32) a x).toNat < S20480.size a := fun v1780 k0_hw79 => k0_hw79.2

def k0_chk80 (v1807 : IVec S16 32) : Prop :=
  (∀ a x, ((![v1807] : Fin 1 → IVec S16 32) a x).toNat < S512.size a)
theorem k0_idx120_inb : ∀ (v1807 : IVec S16 32) (k0_hw80 : k0_chk80 v1807), ∀ a x, ((![v1807] : Fin 1 → IVec S16 32) a x).toNat < S512.size a := fun v1807 k0_hw80 => k0_hw80

def k0_chk81 (v1817 : IVec S16 32) : Prop :=
  (∀ a x, ((![v1817] : Fin 1 → IVec S16 32) a x).toNat < S1024.size a)
theorem k0_idx121_inb : ∀ (v1817 : IVec S16 32) (k0_hw81 : k0_chk81 v1817), ∀ a x, ((![v1817] : Fin 1 → IVec S16 32) a x).toNat < S1024.size a := fun v1817 k0_hw81 => k0_hw81

def k0_chk82 (v1836 : IVec S16 32) : Prop :=
  (∀ a x, ((![v1836] : Fin 1 → IVec S16 32) a x).toNat < S20480.size a) ∧
  (∀ a x, ((![v1836] : Fin 1 → IVec S16 32) a x).toNat < S20480.size a)
theorem k0_idx122_inb : ∀ (v1836 : IVec S16 32) (k0_hw82 : k0_chk82 v1836), ∀ a x, ((![v1836] : Fin 1 → IVec S16 32) a x).toNat < S20480.size a := fun v1836 k0_hw82 => k0_hw82.1
theorem k0_idx123_inb : ∀ (v1836 : IVec S16 32) (k0_hw82 : k0_chk82 v1836), ∀ a x, ((![v1836] : Fin 1 → IVec S16 32) a x).toNat < S20480.size a := fun v1836 k0_hw82 => k0_hw82.2

def k0_chk83 (v1869 : IVec S16 32) : Prop :=
  (∀ a x, ((![v1869] : Fin 1 → IVec S16 32) a x).toNat < S20480.size a) ∧
  (∀ a x, ((![v1869] : Fin 1 → IVec S16 32) a x).toNat < S20480.size a)
theorem k0_idx124_inb : ∀ (v1869 : IVec S16 32) (k0_hw83 : k0_chk83 v1869), ∀ a x, ((![v1869] : Fin 1 → IVec S16 32) a x).toNat < S20480.size a := fun v1869 k0_hw83 => k0_hw83.1
theorem k0_idx125_inb : ∀ (v1869 : IVec S16 32) (k0_hw83 : k0_chk83 v1869), ∀ a x, ((![v1869] : Fin 1 → IVec S16 32) a x).toNat < S20480.size a := fun v1869 k0_hw83 => k0_hw83.2

def k0_chk84 (v1896 : IVec S16 32) : Prop :=
  (∀ a x, ((![v1896] : Fin 1 → IVec S16 32) a x).toNat < S512.size a)
theorem k0_idx126_inb : ∀ (v1896 : IVec S16 32) (k0_hw84 : k0_chk84 v1896), ∀ a x, ((![v1896] : Fin 1 → IVec S16 32) a x).toNat < S512.size a := fun v1896 k0_hw84 => k0_hw84

def k0_chk85 (v1906 : IVec S16 32) : Prop :=
  (∀ a x, ((![v1906] : Fin 1 → IVec S16 32) a x).toNat < S1024.size a)
theorem k0_idx127_inb : ∀ (v1906 : IVec S16 32) (k0_hw85 : k0_chk85 v1906), ∀ a x, ((![v1906] : Fin 1 → IVec S16 32) a x).toNat < S1024.size a := fun v1906 k0_hw85 => k0_hw85

def k0_chk86 (v1925 : IVec S16 32) : Prop :=
  (∀ a x, ((![v1925] : Fin 1 → IVec S16 32) a x).toNat < S20480.size a) ∧
  (∀ a x, ((![v1925] : Fin 1 → IVec S16 32) a x).toNat < S20480.size a)
theorem k0_idx128_inb : ∀ (v1925 : IVec S16 32) (k0_hw86 : k0_chk86 v1925), ∀ a x, ((![v1925] : Fin 1 → IVec S16 32) a x).toNat < S20480.size a := fun v1925 k0_hw86 => k0_hw86.1
theorem k0_idx129_inb : ∀ (v1925 : IVec S16 32) (k0_hw86 : k0_chk86 v1925), ∀ a x, ((![v1925] : Fin 1 → IVec S16 32) a x).toNat < S20480.size a := fun v1925 k0_hw86 => k0_hw86.2

def k0_chk87 (v1958 : IVec S16 32) : Prop :=
  (∀ a x, ((![v1958] : Fin 1 → IVec S16 32) a x).toNat < S20480.size a) ∧
  (∀ a x, ((![v1958] : Fin 1 → IVec S16 32) a x).toNat < S20480.size a)
theorem k0_idx130_inb : ∀ (v1958 : IVec S16 32) (k0_hw87 : k0_chk87 v1958), ∀ a x, ((![v1958] : Fin 1 → IVec S16 32) a x).toNat < S20480.size a := fun v1958 k0_hw87 => k0_hw87.1
theorem k0_idx131_inb : ∀ (v1958 : IVec S16 32) (k0_hw87 : k0_chk87 v1958), ∀ a x, ((![v1958] : Fin 1 → IVec S16 32) a x).toNat < S20480.size a := fun v1958 k0_hw87 => k0_hw87.2

def k0_chk88 (v1985 : IVec S16 32) : Prop :=
  (∀ a x, ((![v1985] : Fin 1 → IVec S16 32) a x).toNat < S512.size a)
theorem k0_idx132_inb : ∀ (v1985 : IVec S16 32) (k0_hw88 : k0_chk88 v1985), ∀ a x, ((![v1985] : Fin 1 → IVec S16 32) a x).toNat < S512.size a := fun v1985 k0_hw88 => k0_hw88

def k0_chk89 (v1995 : IVec S16 32) : Prop :=
  (∀ a x, ((![v1995] : Fin 1 → IVec S16 32) a x).toNat < S1024.size a)
theorem k0_idx133_inb : ∀ (v1995 : IVec S16 32) (k0_hw89 : k0_chk89 v1995), ∀ a x, ((![v1995] : Fin 1 → IVec S16 32) a x).toNat < S1024.size a := fun v1995 k0_hw89 => k0_hw89

def k0_chk90 (v2014 : IVec S16 32) : Prop :=
  (∀ a x, ((![v2014] : Fin 1 → IVec S16 32) a x).toNat < S20480.size a) ∧
  (∀ a x, ((![v2014] : Fin 1 → IVec S16 32) a x).toNat < S20480.size a)
theorem k0_idx134_inb : ∀ (v2014 : IVec S16 32) (k0_hw90 : k0_chk90 v2014), ∀ a x, ((![v2014] : Fin 1 → IVec S16 32) a x).toNat < S20480.size a := fun v2014 k0_hw90 => k0_hw90.1
theorem k0_idx135_inb : ∀ (v2014 : IVec S16 32) (k0_hw90 : k0_chk90 v2014), ∀ a x, ((![v2014] : Fin 1 → IVec S16 32) a x).toNat < S20480.size a := fun v2014 k0_hw90 => k0_hw90.2

def k0_chk91 (v2047 : IVec S16 32) : Prop :=
  (∀ a x, ((![v2047] : Fin 1 → IVec S16 32) a x).toNat < S20480.size a) ∧
  (∀ a x, ((![v2047] : Fin 1 → IVec S16 32) a x).toNat < S20480.size a)
theorem k0_idx136_inb : ∀ (v2047 : IVec S16 32) (k0_hw91 : k0_chk91 v2047), ∀ a x, ((![v2047] : Fin 1 → IVec S16 32) a x).toNat < S20480.size a := fun v2047 k0_hw91 => k0_hw91.1
theorem k0_idx137_inb : ∀ (v2047 : IVec S16 32) (k0_hw91 : k0_chk91 v2047), ∀ a x, ((![v2047] : Fin 1 → IVec S16 32) a x).toNat < S20480.size a := fun v2047 k0_hw91 => k0_hw91.2

def k0_chk92 (v2074 : IVec S16 32) : Prop :=
  (∀ a x, ((![v2074] : Fin 1 → IVec S16 32) a x).toNat < S512.size a)
theorem k0_idx138_inb : ∀ (v2074 : IVec S16 32) (k0_hw92 : k0_chk92 v2074), ∀ a x, ((![v2074] : Fin 1 → IVec S16 32) a x).toNat < S512.size a := fun v2074 k0_hw92 => k0_hw92

def k0_chk93 (v2084 : IVec S16 32) : Prop :=
  (∀ a x, ((![v2084] : Fin 1 → IVec S16 32) a x).toNat < S1024.size a)
theorem k0_idx139_inb : ∀ (v2084 : IVec S16 32) (k0_hw93 : k0_chk93 v2084), ∀ a x, ((![v2084] : Fin 1 → IVec S16 32) a x).toNat < S1024.size a := fun v2084 k0_hw93 => k0_hw93

def k0_chk94 (v2103 : IVec S16 32) : Prop :=
  (∀ a x, ((![v2103] : Fin 1 → IVec S16 32) a x).toNat < S20480.size a) ∧
  (∀ a x, ((![v2103] : Fin 1 → IVec S16 32) a x).toNat < S20480.size a)
theorem k0_idx140_inb : ∀ (v2103 : IVec S16 32) (k0_hw94 : k0_chk94 v2103), ∀ a x, ((![v2103] : Fin 1 → IVec S16 32) a x).toNat < S20480.size a := fun v2103 k0_hw94 => k0_hw94.1
theorem k0_idx141_inb : ∀ (v2103 : IVec S16 32) (k0_hw94 : k0_chk94 v2103), ∀ a x, ((![v2103] : Fin 1 → IVec S16 32) a x).toNat < S20480.size a := fun v2103 k0_hw94 => k0_hw94.2

def k0_chk95 (v2136 : IVec S16 32) : Prop :=
  (∀ a x, ((![v2136] : Fin 1 → IVec S16 32) a x).toNat < S20480.size a) ∧
  (∀ a x, ((![v2136] : Fin 1 → IVec S16 32) a x).toNat < S20480.size a)
theorem k0_idx142_inb : ∀ (v2136 : IVec S16 32) (k0_hw95 : k0_chk95 v2136), ∀ a x, ((![v2136] : Fin 1 → IVec S16 32) a x).toNat < S20480.size a := fun v2136 k0_hw95 => k0_hw95.1
theorem k0_idx143_inb : ∀ (v2136 : IVec S16 32) (k0_hw95 : k0_chk95 v2136), ∀ a x, ((![v2136] : Fin 1 → IVec S16 32) a x).toNat < S20480.size a := fun v2136 k0_hw95 => k0_hw95.2

def k0_chk96 (v2163 : IVec S16 32) : Prop :=
  (∀ a x, ((![v2163] : Fin 1 → IVec S16 32) a x).toNat < S512.size a)
theorem k0_idx144_inb : ∀ (v2163 : IVec S16 32) (k0_hw96 : k0_chk96 v2163), ∀ a x, ((![v2163] : Fin 1 → IVec S16 32) a x).toNat < S512.size a := fun v2163 k0_hw96 => k0_hw96

def k0_chk97 (v2173 : IVec S16 32) : Prop :=
  (∀ a x, ((![v2173] : Fin 1 → IVec S16 32) a x).toNat < S1024.size a)
theorem k0_idx145_inb : ∀ (v2173 : IVec S16 32) (k0_hw97 : k0_chk97 v2173), ∀ a x, ((![v2173] : Fin 1 → IVec S16 32) a x).toNat < S1024.size a := fun v2173 k0_hw97 => k0_hw97

def k0_chk98 (v2192 : IVec S16 32) : Prop :=
  (∀ a x, ((![v2192] : Fin 1 → IVec S16 32) a x).toNat < S20480.size a) ∧
  (∀ a x, ((![v2192] : Fin 1 → IVec S16 32) a x).toNat < S20480.size a)
theorem k0_idx146_inb : ∀ (v2192 : IVec S16 32) (k0_hw98 : k0_chk98 v2192), ∀ a x, ((![v2192] : Fin 1 → IVec S16 32) a x).toNat < S20480.size a := fun v2192 k0_hw98 => k0_hw98.1
theorem k0_idx147_inb : ∀ (v2192 : IVec S16 32) (k0_hw98 : k0_chk98 v2192), ∀ a x, ((![v2192] : Fin 1 → IVec S16 32) a x).toNat < S20480.size a := fun v2192 k0_hw98 => k0_hw98.2

def k0_chk99 (v2225 : IVec S16 32) : Prop :=
  (∀ a x, ((![v2225] : Fin 1 → IVec S16 32) a x).toNat < S20480.size a) ∧
  (∀ a x, ((![v2225] : Fin 1 → IVec S16 32) a x).toNat < S20480.size a)
theorem k0_idx148_inb : ∀ (v2225 : IVec S16 32) (k0_hw99 : k0_chk99 v2225), ∀ a x, ((![v2225] : Fin 1 → IVec S16 32) a x).toNat < S20480.size a := fun v2225 k0_hw99 => k0_hw99.1
theorem k0_idx149_inb : ∀ (v2225 : IVec S16 32) (k0_hw99 : k0_chk99 v2225), ∀ a x, ((![v2225] : Fin 1 → IVec S16 32) a x).toNat < S20480.size a := fun v2225 k0_hw99 => k0_hw99.2

def k0_chk100 (v2252 : IVec S16 32) : Prop :=
  (∀ a x, ((![v2252] : Fin 1 → IVec S16 32) a x).toNat < S512.size a)
theorem k0_idx150_inb : ∀ (v2252 : IVec S16 32) (k0_hw100 : k0_chk100 v2252), ∀ a x, ((![v2252] : Fin 1 → IVec S16 32) a x).toNat < S512.size a := fun v2252 k0_hw100 => k0_hw100

def k0_chk101 (v2262 : IVec S16 32) : Prop :=
  (∀ a x, ((![v2262] : Fin 1 → IVec S16 32) a x).toNat < S1024.size a)
theorem k0_idx151_inb : ∀ (v2262 : IVec S16 32) (k0_hw101 : k0_chk101 v2262), ∀ a x, ((![v2262] : Fin 1 → IVec S16 32) a x).toNat < S1024.size a := fun v2262 k0_hw101 => k0_hw101

def k0_chk102 (v2281 : IVec S16 32) : Prop :=
  (∀ a x, ((![v2281] : Fin 1 → IVec S16 32) a x).toNat < S20480.size a) ∧
  (∀ a x, ((![v2281] : Fin 1 → IVec S16 32) a x).toNat < S20480.size a)
theorem k0_idx152_inb : ∀ (v2281 : IVec S16 32) (k0_hw102 : k0_chk102 v2281), ∀ a x, ((![v2281] : Fin 1 → IVec S16 32) a x).toNat < S20480.size a := fun v2281 k0_hw102 => k0_hw102.1
theorem k0_idx153_inb : ∀ (v2281 : IVec S16 32) (k0_hw102 : k0_chk102 v2281), ∀ a x, ((![v2281] : Fin 1 → IVec S16 32) a x).toNat < S20480.size a := fun v2281 k0_hw102 => k0_hw102.2

def k0_chk103 (v2314 : IVec S16 32) : Prop :=
  (∀ a x, ((![v2314] : Fin 1 → IVec S16 32) a x).toNat < S20480.size a) ∧
  (∀ a x, ((![v2314] : Fin 1 → IVec S16 32) a x).toNat < S20480.size a)
theorem k0_idx154_inb : ∀ (v2314 : IVec S16 32) (k0_hw103 : k0_chk103 v2314), ∀ a x, ((![v2314] : Fin 1 → IVec S16 32) a x).toNat < S20480.size a := fun v2314 k0_hw103 => k0_hw103.1
theorem k0_idx155_inb : ∀ (v2314 : IVec S16 32) (k0_hw103 : k0_chk103 v2314), ∀ a x, ((![v2314] : Fin 1 → IVec S16 32) a x).toNat < S20480.size a := fun v2314 k0_hw103 => k0_hw103.2

def k0_chk104 (v2341 : IVec S16 32) : Prop :=
  (∀ a x, ((![v2341] : Fin 1 → IVec S16 32) a x).toNat < S512.size a)
theorem k0_idx156_inb : ∀ (v2341 : IVec S16 32) (k0_hw104 : k0_chk104 v2341), ∀ a x, ((![v2341] : Fin 1 → IVec S16 32) a x).toNat < S512.size a := fun v2341 k0_hw104 => k0_hw104

def k0_chk105 (v2351 : IVec S16 32) : Prop :=
  (∀ a x, ((![v2351] : Fin 1 → IVec S16 32) a x).toNat < S1024.size a)
theorem k0_idx157_inb : ∀ (v2351 : IVec S16 32) (k0_hw105 : k0_chk105 v2351), ∀ a x, ((![v2351] : Fin 1 → IVec S16 32) a x).toNat < S1024.size a := fun v2351 k0_hw105 => k0_hw105

def k0_chk106 (v2370 : IVec S16 32) : Prop :=
  (∀ a x, ((![v2370] : Fin 1 → IVec S16 32) a x).toNat < S20480.size a) ∧
  (∀ a x, ((![v2370] : Fin 1 → IVec S16 32) a x).toNat < S20480.size a)
theorem k0_idx158_inb : ∀ (v2370 : IVec S16 32) (k0_hw106 : k0_chk106 v2370), ∀ a x, ((![v2370] : Fin 1 → IVec S16 32) a x).toNat < S20480.size a := fun v2370 k0_hw106 => k0_hw106.1
theorem k0_idx159_inb : ∀ (v2370 : IVec S16 32) (k0_hw106 : k0_chk106 v2370), ∀ a x, ((![v2370] : Fin 1 → IVec S16 32) a x).toNat < S20480.size a := fun v2370 k0_hw106 => k0_hw106.2

def k0_chk107 (v2403 : IVec S16 32) : Prop :=
  (∀ a x, ((![v2403] : Fin 1 → IVec S16 32) a x).toNat < S20480.size a) ∧
  (∀ a x, ((![v2403] : Fin 1 → IVec S16 32) a x).toNat < S20480.size a)
theorem k0_idx160_inb : ∀ (v2403 : IVec S16 32) (k0_hw107 : k0_chk107 v2403), ∀ a x, ((![v2403] : Fin 1 → IVec S16 32) a x).toNat < S20480.size a := fun v2403 k0_hw107 => k0_hw107.1
theorem k0_idx161_inb : ∀ (v2403 : IVec S16 32) (k0_hw107 : k0_chk107 v2403), ∀ a x, ((![v2403] : Fin 1 → IVec S16 32) a x).toNat < S20480.size a := fun v2403 k0_hw107 => k0_hw107.2

def k0_chk108 (v2430 : IVec S16 32) : Prop :=
  (∀ a x, ((![v2430] : Fin 1 → IVec S16 32) a x).toNat < S512.size a)
theorem k0_idx162_inb : ∀ (v2430 : IVec S16 32) (k0_hw108 : k0_chk108 v2430), ∀ a x, ((![v2430] : Fin 1 → IVec S16 32) a x).toNat < S512.size a := fun v2430 k0_hw108 => k0_hw108

def k0_chk109 (v2440 : IVec S16 32) : Prop :=
  (∀ a x, ((![v2440] : Fin 1 → IVec S16 32) a x).toNat < S1024.size a)
theorem k0_idx163_inb : ∀ (v2440 : IVec S16 32) (k0_hw109 : k0_chk109 v2440), ∀ a x, ((![v2440] : Fin 1 → IVec S16 32) a x).toNat < S1024.size a := fun v2440 k0_hw109 => k0_hw109

def k0_chk110 (v2459 : IVec S16 32) : Prop :=
  (∀ a x, ((![v2459] : Fin 1 → IVec S16 32) a x).toNat < S20480.size a) ∧
  (∀ a x, ((![v2459] : Fin 1 → IVec S16 32) a x).toNat < S20480.size a)
theorem k0_idx164_inb : ∀ (v2459 : IVec S16 32) (k0_hw110 : k0_chk110 v2459), ∀ a x, ((![v2459] : Fin 1 → IVec S16 32) a x).toNat < S20480.size a := fun v2459 k0_hw110 => k0_hw110.1
theorem k0_idx165_inb : ∀ (v2459 : IVec S16 32) (k0_hw110 : k0_chk110 v2459), ∀ a x, ((![v2459] : Fin 1 → IVec S16 32) a x).toNat < S20480.size a := fun v2459 k0_hw110 => k0_hw110.2

def k0_chk111 (v2492 : IVec S16 32) : Prop :=
  (∀ a x, ((![v2492] : Fin 1 → IVec S16 32) a x).toNat < S20480.size a) ∧
  (∀ a x, ((![v2492] : Fin 1 → IVec S16 32) a x).toNat < S20480.size a)
theorem k0_idx166_inb : ∀ (v2492 : IVec S16 32) (k0_hw111 : k0_chk111 v2492), ∀ a x, ((![v2492] : Fin 1 → IVec S16 32) a x).toNat < S20480.size a := fun v2492 k0_hw111 => k0_hw111.1
theorem k0_idx167_inb : ∀ (v2492 : IVec S16 32) (k0_hw111 : k0_chk111 v2492), ∀ a x, ((![v2492] : Fin 1 → IVec S16 32) a x).toNat < S20480.size a := fun v2492 k0_hw111 => k0_hw111.2

def k0_chk112 (v2519 : IVec S16 32) : Prop :=
  (∀ a x, ((![v2519] : Fin 1 → IVec S16 32) a x).toNat < S512.size a)
theorem k0_idx168_inb : ∀ (v2519 : IVec S16 32) (k0_hw112 : k0_chk112 v2519), ∀ a x, ((![v2519] : Fin 1 → IVec S16 32) a x).toNat < S512.size a := fun v2519 k0_hw112 => k0_hw112

def k0_chk113 (v2529 : IVec S16 32) : Prop :=
  (∀ a x, ((![v2529] : Fin 1 → IVec S16 32) a x).toNat < S1024.size a)
theorem k0_idx169_inb : ∀ (v2529 : IVec S16 32) (k0_hw113 : k0_chk113 v2529), ∀ a x, ((![v2529] : Fin 1 → IVec S16 32) a x).toNat < S1024.size a := fun v2529 k0_hw113 => k0_hw113

def k0_chk114 (v2548 : IVec S16 32) : Prop :=
  (∀ a x, ((![v2548] : Fin 1 → IVec S16 32) a x).toNat < S20480.size a) ∧
  (∀ a x, ((![v2548] : Fin 1 → IVec S16 32) a x).toNat < S20480.size a)
theorem k0_idx170_inb : ∀ (v2548 : IVec S16 32) (k0_hw114 : k0_chk114 v2548), ∀ a x, ((![v2548] : Fin 1 → IVec S16 32) a x).toNat < S20480.size a := fun v2548 k0_hw114 => k0_hw114.1
theorem k0_idx171_inb : ∀ (v2548 : IVec S16 32) (k0_hw114 : k0_chk114 v2548), ∀ a x, ((![v2548] : Fin 1 → IVec S16 32) a x).toNat < S20480.size a := fun v2548 k0_hw114 => k0_hw114.2

def k0_chk115 (v2581 : IVec S16 32) : Prop :=
  (∀ a x, ((![v2581] : Fin 1 → IVec S16 32) a x).toNat < S20480.size a) ∧
  (∀ a x, ((![v2581] : Fin 1 → IVec S16 32) a x).toNat < S20480.size a)
theorem k0_idx172_inb : ∀ (v2581 : IVec S16 32) (k0_hw115 : k0_chk115 v2581), ∀ a x, ((![v2581] : Fin 1 → IVec S16 32) a x).toNat < S20480.size a := fun v2581 k0_hw115 => k0_hw115.1
theorem k0_idx173_inb : ∀ (v2581 : IVec S16 32) (k0_hw115 : k0_chk115 v2581), ∀ a x, ((![v2581] : Fin 1 → IVec S16 32) a x).toNat < S20480.size a := fun v2581 k0_hw115 => k0_hw115.2

def k0_chk116 (v2608 : IVec S16 32) : Prop :=
  (∀ a x, ((![v2608] : Fin 1 → IVec S16 32) a x).toNat < S512.size a)
theorem k0_idx174_inb : ∀ (v2608 : IVec S16 32) (k0_hw116 : k0_chk116 v2608), ∀ a x, ((![v2608] : Fin 1 → IVec S16 32) a x).toNat < S512.size a := fun v2608 k0_hw116 => k0_hw116

def k0_chk117 (v2618 : IVec S16 32) : Prop :=
  (∀ a x, ((![v2618] : Fin 1 → IVec S16 32) a x).toNat < S1024.size a)
theorem k0_idx175_inb : ∀ (v2618 : IVec S16 32) (k0_hw117 : k0_chk117 v2618), ∀ a x, ((![v2618] : Fin 1 → IVec S16 32) a x).toNat < S1024.size a := fun v2618 k0_hw117 => k0_hw117

def k0_chk118 (v2637 : IVec S16 32) : Prop :=
  (∀ a x, ((![v2637] : Fin 1 → IVec S16 32) a x).toNat < S20480.size a) ∧
  (∀ a x, ((![v2637] : Fin 1 → IVec S16 32) a x).toNat < S20480.size a)
theorem k0_idx176_inb : ∀ (v2637 : IVec S16 32) (k0_hw118 : k0_chk118 v2637), ∀ a x, ((![v2637] : Fin 1 → IVec S16 32) a x).toNat < S20480.size a := fun v2637 k0_hw118 => k0_hw118.1
theorem k0_idx177_inb : ∀ (v2637 : IVec S16 32) (k0_hw118 : k0_chk118 v2637), ∀ a x, ((![v2637] : Fin 1 → IVec S16 32) a x).toNat < S20480.size a := fun v2637 k0_hw118 => k0_hw118.2

def k0_chk119 (v2670 : IVec S16 32) : Prop :=
  (∀ a x, ((![v2670] : Fin 1 → IVec S16 32) a x).toNat < S20480.size a) ∧
  (∀ a x, ((![v2670] : Fin 1 → IVec S16 32) a x).toNat < S20480.size a)
theorem k0_idx178_inb : ∀ (v2670 : IVec S16 32) (k0_hw119 : k0_chk119 v2670), ∀ a x, ((![v2670] : Fin 1 → IVec S16 32) a x).toNat < S20480.size a := fun v2670 k0_hw119 => k0_hw119.1
theorem k0_idx179_inb : ∀ (v2670 : IVec S16 32) (k0_hw119 : k0_chk119 v2670), ∀ a x, ((![v2670] : Fin 1 → IVec S16 32) a x).toNat < S20480.size a := fun v2670 k0_hw119 => k0_hw119.2

def k0_chk120 (v2697 : IVec S16 32) : Prop :=
  (∀ a x, ((![v2697] : Fin 1 → IVec S16 32) a x).toNat < S512.size a)
theorem k0_idx180_inb : ∀ (v2697 : IVec S16 32) (k0_hw120 : k0_chk120 v2697), ∀ a x, ((![v2697] : Fin 1 → IVec S16 32) a x).toNat < S512.size a := fun v2697 k0_hw120 => k0_hw120

def k0_chk121 (v2707 : IVec S16 32) : Prop :=
  (∀ a x, ((![v2707] : Fin 1 → IVec S16 32) a x).toNat < S1024.size a)
theorem k0_idx181_inb : ∀ (v2707 : IVec S16 32) (k0_hw121 : k0_chk121 v2707), ∀ a x, ((![v2707] : Fin 1 → IVec S16 32) a x).toNat < S1024.size a := fun v2707 k0_hw121 => k0_hw121

def k0_chk122 (v2726 : IVec S16 32) : Prop :=
  (∀ a x, ((![v2726] : Fin 1 → IVec S16 32) a x).toNat < S20480.size a) ∧
  (∀ a x, ((![v2726] : Fin 1 → IVec S16 32) a x).toNat < S20480.size a)
theorem k0_idx182_inb : ∀ (v2726 : IVec S16 32) (k0_hw122 : k0_chk122 v2726), ∀ a x, ((![v2726] : Fin 1 → IVec S16 32) a x).toNat < S20480.size a := fun v2726 k0_hw122 => k0_hw122.1
theorem k0_idx183_inb : ∀ (v2726 : IVec S16 32) (k0_hw122 : k0_chk122 v2726), ∀ a x, ((![v2726] : Fin 1 → IVec S16 32) a x).toNat < S20480.size a := fun v2726 k0_hw122 => k0_hw122.2

def k0_chk123 (v2759 : IVec S16 32) : Prop :=
  (∀ a x, ((![v2759] : Fin 1 → IVec S16 32) a x).toNat < S20480.size a) ∧
  (∀ a x, ((![v2759] : Fin 1 → IVec S16 32) a x).toNat < S20480.size a)
theorem k0_idx184_inb : ∀ (v2759 : IVec S16 32) (k0_hw123 : k0_chk123 v2759), ∀ a x, ((![v2759] : Fin 1 → IVec S16 32) a x).toNat < S20480.size a := fun v2759 k0_hw123 => k0_hw123.1
theorem k0_idx185_inb : ∀ (v2759 : IVec S16 32) (k0_hw123 : k0_chk123 v2759), ∀ a x, ((![v2759] : Fin 1 → IVec S16 32) a x).toNat < S20480.size a := fun v2759 k0_hw123 => k0_hw123.2

def k0_chk124 (v2786 : IVec S16 32) : Prop :=
  (∀ a x, ((![v2786] : Fin 1 → IVec S16 32) a x).toNat < S512.size a)
theorem k0_idx186_inb : ∀ (v2786 : IVec S16 32) (k0_hw124 : k0_chk124 v2786), ∀ a x, ((![v2786] : Fin 1 → IVec S16 32) a x).toNat < S512.size a := fun v2786 k0_hw124 => k0_hw124

def k0_chk125 (v2796 : IVec S16 32) : Prop :=
  (∀ a x, ((![v2796] : Fin 1 → IVec S16 32) a x).toNat < S1024.size a)
theorem k0_idx187_inb : ∀ (v2796 : IVec S16 32) (k0_hw125 : k0_chk125 v2796), ∀ a x, ((![v2796] : Fin 1 → IVec S16 32) a x).toNat < S1024.size a := fun v2796 k0_hw125 => k0_hw125

def k0_chk126 (v2815 : IVec S16 32) : Prop :=
  (∀ a x, ((![v2815] : Fin 1 → IVec S16 32) a x).toNat < S20480.size a) ∧
  (∀ a x, ((![v2815] : Fin 1 → IVec S16 32) a x).toNat < S20480.size a)
theorem k0_idx188_inb : ∀ (v2815 : IVec S16 32) (k0_hw126 : k0_chk126 v2815), ∀ a x, ((![v2815] : Fin 1 → IVec S16 32) a x).toNat < S20480.size a := fun v2815 k0_hw126 => k0_hw126.1
theorem k0_idx189_inb : ∀ (v2815 : IVec S16 32) (k0_hw126 : k0_chk126 v2815), ∀ a x, ((![v2815] : Fin 1 → IVec S16 32) a x).toNat < S20480.size a := fun v2815 k0_hw126 => k0_hw126.2

def k0_chk127 (v2848 : IVec S16 32) : Prop :=
  (∀ a x, ((![v2848] : Fin 1 → IVec S16 32) a x).toNat < S20480.size a) ∧
  (∀ a x, ((![v2848] : Fin 1 → IVec S16 32) a x).toNat < S20480.size a)
theorem k0_idx190_inb : ∀ (v2848 : IVec S16 32) (k0_hw127 : k0_chk127 v2848), ∀ a x, ((![v2848] : Fin 1 → IVec S16 32) a x).toNat < S20480.size a := fun v2848 k0_hw127 => k0_hw127.1
theorem k0_idx191_inb : ∀ (v2848 : IVec S16 32) (k0_hw127 : k0_chk127 v2848), ∀ a x, ((![v2848] : Fin 1 → IVec S16 32) a x).toNat < S20480.size a := fun v2848 k0_hw127 => k0_hw127.2

def k0_chk128 (v2875 : IVec S16 32) : Prop :=
  (∀ a x, ((![v2875] : Fin 1 → IVec S16 32) a x).toNat < S512.size a)
theorem k0_idx192_inb : ∀ (v2875 : IVec S16 32) (k0_hw128 : k0_chk128 v2875), ∀ a x, ((![v2875] : Fin 1 → IVec S16 32) a x).toNat < S512.size a := fun v2875 k0_hw128 => k0_hw128

def k0_chk129 (v2885 : IVec S16 32) : Prop :=
  (∀ a x, ((![v2885] : Fin 1 → IVec S16 32) a x).toNat < S1024.size a)
theorem k0_idx193_inb : ∀ (v2885 : IVec S16 32) (k0_hw129 : k0_chk129 v2885), ∀ a x, ((![v2885] : Fin 1 → IVec S16 32) a x).toNat < S1024.size a := fun v2885 k0_hw129 => k0_hw129

def k0_chk130 (v2904 : IVec S16 32) : Prop :=
  (∀ a x, ((![v2904] : Fin 1 → IVec S16 32) a x).toNat < S20480.size a) ∧
  (∀ a x, ((![v2904] : Fin 1 → IVec S16 32) a x).toNat < S20480.size a)
theorem k0_idx194_inb : ∀ (v2904 : IVec S16 32) (k0_hw130 : k0_chk130 v2904), ∀ a x, ((![v2904] : Fin 1 → IVec S16 32) a x).toNat < S20480.size a := fun v2904 k0_hw130 => k0_hw130.1
theorem k0_idx195_inb : ∀ (v2904 : IVec S16 32) (k0_hw130 : k0_chk130 v2904), ∀ a x, ((![v2904] : Fin 1 → IVec S16 32) a x).toNat < S20480.size a := fun v2904 k0_hw130 => k0_hw130.2

def k0_chk131 (v2937 : IVec S16 32) : Prop :=
  (∀ a x, ((![v2937] : Fin 1 → IVec S16 32) a x).toNat < S20480.size a) ∧
  (∀ a x, ((![v2937] : Fin 1 → IVec S16 32) a x).toNat < S20480.size a)
theorem k0_idx196_inb : ∀ (v2937 : IVec S16 32) (k0_hw131 : k0_chk131 v2937), ∀ a x, ((![v2937] : Fin 1 → IVec S16 32) a x).toNat < S20480.size a := fun v2937 k0_hw131 => k0_hw131.1
theorem k0_idx197_inb : ∀ (v2937 : IVec S16 32) (k0_hw131 : k0_chk131 v2937), ∀ a x, ((![v2937] : Fin 1 → IVec S16 32) a x).toNat < S20480.size a := fun v2937 k0_hw131 => k0_hw131.2
def k0_off58 (i : grid0.Coords) : Fin 1 → Nat :=
  let arg1 : BitVec 32 := BitVec.ofNat 32 (i 1).val
  let c32_i32_930 : BitVec 32 := 32#32
  let v2960 : BitVec 32 := Scalar.muli arg1 c32_i32_930
  let c32_i32_931 : BitVec 32 := 32#32
  let v2961 : BitVec 32 := Scalar.muli v2960 c32_i32_931
  ![v2961.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S20480 : Shape := ⟨1, ![20480]⟩
abbrev S20000x2 : Shape := ⟨2, ![20000, 2]⟩
abbrev S512x2 : Shape := ⟨2, ![512, 2]⟩
abbrev S20000 : Shape := ⟨1, ![20000]⟩
abbrev S1x20000 : Shape := ⟨2, ![1, 20000]⟩
abbrev S512 : Shape := ⟨1, ![512]⟩
abbrev S512x1 : Shape := ⟨2, ![512, 1]⟩
abbrev S512x20000 : Shape := ⟨2, ![512, 20000]⟩
abbrev S_ : Shape := ⟨0, ![]⟩
abbrev S512x32 : Shape := ⟨2, ![512, 32]⟩
abbrev S512x1x1 : Shape := ⟨3, ![512, 1, 1]⟩
abbrev S1 : Shape := ⟨1, ![1]⟩
abbrev S1x1x1 : Shape := ⟨3, ![1, 1, 1]⟩
abbrev S32 : Shape := ⟨1, ![32]⟩
abbrev S1x32 : Shape := ⟨2, ![1, 32]⟩
abbrev S512x32x1 : Shape := ⟨3, ![512, 32, 1]⟩
abbrev S512x32x2 : Shape := ⟨3, ![512, 32, 2]⟩
abbrev S512x1x2 : Shape := ⟨3, ![512, 1, 2]⟩
abbrev S16384 : Shape := ⟨1, ![16384]⟩

abbrev nBuf : Space → Nat
  | .hbm => 104
  | .vmem => 0
  | .smem => 0
  | _ => 0

abbrev bufTy : (tb : Table) → Fin (tcTables nBuf tb) → BufTy
  | .hbm, ⟨0, _⟩ => ⟨S20480, .i32⟩
  | .hbm, ⟨1, _⟩ => ⟨S20000x2, .f32⟩
  | .hbm, ⟨2, _⟩ => ⟨S512x2, .f32⟩
  | .hbm, ⟨3, _⟩ => ⟨S20000, .i32⟩
  | .hbm, ⟨4, _⟩ => ⟨S20000, .i32⟩
  | .hbm, ⟨5, _⟩ => ⟨S1x20000, .i32⟩
  | .hbm, ⟨6, _⟩ => ⟨S512, .i32⟩
  | .hbm, ⟨7, _⟩ => ⟨S512x1, .i32⟩
  | .hbm, ⟨8, _⟩ => ⟨S512x20000, .i32⟩
  | .hbm, ⟨9, _⟩ => ⟨S512x20000, .i32⟩
  | .hbm, ⟨10, _⟩ => ⟨S512x20000, .i1⟩
  | .hbm, ⟨11, _⟩ => ⟨S512x20000, .i32⟩
  | .hbm, ⟨12, _⟩ => ⟨S_, .i32⟩
  | .hbm, ⟨13, _⟩ => ⟨S512, .i32⟩
  | .hbm, ⟨14, _⟩ => ⟨S1x20000, .i32⟩
  | .hbm, ⟨15, _⟩ => ⟨S_, .i32⟩
  | .hbm, ⟨16, _⟩ => ⟨S_, .i32⟩
  | .hbm, ⟨17, _⟩ => ⟨S512x20000, .i32⟩
  | .hbm, ⟨18, _⟩ => ⟨S512x20000, .i32⟩
  | .hbm, ⟨19, _⟩ => ⟨S512x20000, .i32⟩
  | .hbm, ⟨20, _⟩ => ⟨S512x20000, .i32⟩
  | .hbm, ⟨21, _⟩ => ⟨S512x32, .i32⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S_, .i32⟩
  | .hbm, ⟨26, _⟩ => ⟨S512, .i32⟩
  | .hbm, ⟨27, _⟩ => ⟨S512, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S512, .i32⟩
  | .hbm, ⟨32, _⟩ => ⟨S512, .i32⟩
  | .hbm, ⟨33, _⟩ => ⟨S_, .i32⟩
  | .hbm, ⟨34, _⟩ => ⟨S512, .i32⟩
  | .hbm, ⟨35, _⟩ => ⟨S512, .i32⟩
  | .hbm, ⟨36, _⟩ => ⟨S512x1, .i32⟩
  | .hbm, ⟨37, _⟩ => ⟨S_, .i32⟩
  | .hbm, ⟨38, _⟩ => ⟨S512x1, .i32⟩
  | .hbm, ⟨39, _⟩ => ⟨S512x1, .i1⟩
  | .hbm, ⟨40, _⟩ => ⟨S_, .i32⟩
  | .hbm, ⟨41, _⟩ => ⟨S512x1, .i32⟩
  | .hbm, ⟨42, _⟩ => ⟨S512x1, .i32⟩
  | .hbm, ⟨43, _⟩ => ⟨S512x1, .i32⟩
  | .hbm, ⟨44, _⟩ => ⟨S512x1x1, .i32⟩
  | .hbm, ⟨45, _⟩ => ⟨S1, .i32⟩
  | .hbm, ⟨46, _⟩ => ⟨S_, .i32⟩
  | .hbm, ⟨47, _⟩ => ⟨S512x1x1, .i32⟩
  | .hbm, ⟨48, _⟩ => ⟨S512x1x1, .i1⟩
  | .hbm, ⟨49, _⟩ => ⟨S1x1x1, .i32⟩
  | .hbm, ⟨50, _⟩ => ⟨S512x1x1, .i32⟩
  | .hbm, ⟨51, _⟩ => ⟨S512x1x1, .i1⟩
  | .hbm, ⟨52, _⟩ => ⟨S512x1x1, .i1⟩
  | .hbm, ⟨53, _⟩ => ⟨S_, .i1⟩
  | .hbm, ⟨54, _⟩ => ⟨S512x1, .i1⟩
  | .hbm, ⟨55, _⟩ => ⟨S512x1, .i32⟩
  | .hbm, ⟨56, _⟩ => ⟨S_, .i32⟩
  | .hbm, ⟨57, _⟩ => ⟨S512x1, .i32⟩
  | .hbm, ⟨58, _⟩ => ⟨S512x1, .i32⟩
  | .hbm, ⟨59, _⟩ => ⟨S32, .i32⟩
  | .hbm, ⟨60, _⟩ => ⟨S1x32, .i32⟩
  | .hbm, ⟨61, _⟩ => ⟨S512x1, .i32⟩
  | .hbm, ⟨62, _⟩ => ⟨S512x32, .i32⟩
  | .hbm, ⟨63, _⟩ => ⟨S512x32, .i32⟩
  | .hbm, ⟨64, _⟩ => ⟨S512x32, .i1⟩
  | .hbm, ⟨65, _⟩ => ⟨S512x32, .i32⟩
  | .hbm, ⟨66, _⟩ => ⟨S512x32, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S512x32, .i32⟩
  | .hbm, ⟨71, _⟩ => ⟨S512x32, .i32⟩
  | .hbm, ⟨72, _⟩ => ⟨S_, .i32⟩
  | .hbm, ⟨73, _⟩ => ⟨S512x32, .i32⟩
  | .hbm, ⟨74, _⟩ => ⟨S512x32, .i32⟩
  | .hbm, ⟨75, _⟩ => ⟨S_, .i32⟩
  | .hbm, ⟨76, _⟩ => ⟨S512x32, .i32⟩
  | .hbm, ⟨77, _⟩ => ⟨S512x32, .i1⟩
  | .hbm, ⟨78, _⟩ => ⟨S_, .i32⟩
  | .hbm, ⟨79, _⟩ => ⟨S512x32, .i32⟩
  | .hbm, ⟨80, _⟩ => ⟨S512x32, .i32⟩
  | .hbm, ⟨81, _⟩ => ⟨S512x32, .i32⟩
  | .hbm, ⟨82, _⟩ => ⟨S512x32x1, .i32⟩
  | .hbm, ⟨83, _⟩ => ⟨S512x32x2, .f32⟩
  | .hbm, ⟨84, _⟩ => ⟨S_, .i32⟩
  | .hbm, ⟨85, _⟩ => ⟨S512, .i32⟩
  | .hbm, ⟨86, _⟩ => ⟨S512, .i1⟩
  | .hbm, ⟨87, _⟩ => ⟨S_, .f32⟩
  | .hbm, ⟨88, _⟩ => ⟨S512x32x2, .f32⟩
  | .hbm, ⟨89, _⟩ => ⟨S_, .i32⟩
  | .hbm, ⟨90, _⟩ => ⟨S1, .i32⟩
  | .hbm, ⟨91, _⟩ => ⟨S512x32x2, .f32⟩
  | .hbm, ⟨92, _⟩ => ⟨S512x1x1, .i1⟩
  | .hbm, ⟨93, _⟩ => ⟨S512x32x2, .i1⟩
  | .hbm, ⟨94, _⟩ => ⟨S512x32x2, .f32⟩
  | .hbm, ⟨95, _⟩ => ⟨S512x1x2, .f32⟩
  | .hbm, ⟨96, _⟩ => ⟨S512x32x2, .f32⟩
  | .hbm, ⟨97, _⟩ => ⟨S512x32x2, .f32⟩
  | .hbm, ⟨98, _⟩ => ⟨S512x32x1, .f32⟩
  | .hbm, ⟨99, _⟩ => ⟨S512x32, .f32⟩
  | .hbm, ⟨100, _⟩ => ⟨S16384, .f32⟩
  | .hbm, ⟨101, _⟩ => ⟨S512x32x1, .f32⟩
  | .hbm, ⟨102, _⟩ => ⟨S512x32, .f32⟩
  | .hbm, ⟨103, _⟩ => ⟨S16384, .f32⟩
  | _, _ => ⟨S20480, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_c_4 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_v18 : Ref sig .tc := ⟨.hbm, 35, rfl⟩
abbrev main_v19 : Ref sig .tc := ⟨.hbm, 36, rfl⟩
abbrev main_call3_c : Ref sig .tc := ⟨.hbm, 37, rfl⟩
abbrev main_call3_v0 : Ref sig .tc := ⟨.hbm, 38, rfl⟩
abbrev main_call3_v1 : Ref sig .tc := ⟨.hbm, 39, rfl⟩
abbrev main_call3_c_0 : Ref sig .tc := ⟨.hbm, 40, rfl⟩
abbrev main_call3_v2 : Ref sig .tc := ⟨.hbm, 41, rfl⟩
abbrev main_call3_v3 : Ref sig .tc := ⟨.hbm, 42, rfl⟩
abbrev main_call3_v4 : Ref sig .tc := ⟨.hbm, 43, rfl⟩
abbrev main_call3_v5 : Ref sig .tc := ⟨.hbm, 44, rfl⟩
abbrev main_call3_c_1 : Ref sig .tc := ⟨.hbm, 45, rfl⟩
abbrev main_call3_c_2 : Ref sig .tc := ⟨.hbm, 46, rfl⟩
abbrev main_call3_v6 : Ref sig .tc := ⟨.hbm, 47, rfl⟩
abbrev main_call3_v7 : Ref sig .tc := ⟨.hbm, 48, rfl⟩
abbrev main_call3_v8 : Ref sig .tc := ⟨.hbm, 49, rfl⟩
abbrev main_call3_v9 : Ref sig .tc := ⟨.hbm, 50, rfl⟩
abbrev main_call3_v10 : Ref sig .tc := ⟨.hbm, 51, rfl⟩
abbrev main_call3_v11 : Ref sig .tc := ⟨.hbm, 52, rfl⟩
abbrev main_call3_c_3 : Ref sig .tc := ⟨.hbm, 53, rfl⟩
abbrev main_call3_v12 : Ref sig .tc := ⟨.hbm, 54, rfl⟩
abbrev main_call3_v13 : Ref sig .tc := ⟨.hbm, 55, rfl⟩
abbrev main_call3_c_4 : Ref sig .tc := ⟨.hbm, 56, rfl⟩
abbrev main_call3_v14 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_call4_v0 : Ref sig .tc := ⟨.hbm, 65, rfl⟩
abbrev main_v27 : Ref sig .tc := ⟨.hbm, 66, rfl⟩
abbrev main_c_5 : Ref sig .tc := ⟨.hbm, 67, rfl⟩
abbrev main_c_6 : Ref sig .tc := ⟨.hbm, 68, rfl⟩
abbrev main_call5_v0 : Ref sig .tc := ⟨.hbm, 69, rfl⟩
abbrev main_call5_v1 : Ref sig .tc := ⟨.hbm, 70, rfl⟩
abbrev main_call5_v2 : Ref sig .tc := ⟨.hbm, 71, rfl⟩
abbrev main_call5_v3 : Ref sig .tc := ⟨.hbm, 72, rfl⟩
abbrev main_call5_v4 : Ref sig .tc := ⟨.hbm, 73, rfl⟩
abbrev main_v28 : Ref sig .tc := ⟨.hbm, 74, rfl⟩
abbrev main_c_7 : Ref sig .tc := ⟨.hbm, 75, rfl⟩
abbrev main_v29 : Ref sig .tc := ⟨.hbm, 76, rfl⟩
abbrev main_v30 : Ref sig .tc := ⟨.hbm, 77, rfl⟩
abbrev main_c_8 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_c_9 : Ref sig .tc := ⟨.hbm, 84, rfl⟩
abbrev main_v36 : Ref sig .tc := ⟨.hbm, 85, rfl⟩
abbrev main_v37 : Ref sig .tc := ⟨.hbm, 86, rfl⟩
abbrev main_cst : Ref sig .tc := ⟨.hbm, 87, rfl⟩
abbrev main_v38 : Ref sig .tc := ⟨.hbm, 88, rfl⟩
abbrev main_c_10 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_call6_v0 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩

abbrev nD : Nat := 1
abbrev τ : Topo := Topo.v7x

variable {F : FTy → Type} [FloatOps F]
-- ==== Nearest.lean ====
abbrev S20000x2 : Shape := ⟨2, ![20000, 2]⟩
abbrev S512x2 : Shape := ⟨2, ![512, 2]⟩
abbrev S20000x1 : Shape := ⟨2, ![20000, 1]⟩
abbrev S20000 : Shape := ⟨1, ![20000]⟩
abbrev S_ : Shape := ⟨0, ![]⟩
abbrev S20480 : Shape := ⟨1, ![20480]⟩
abbrev S20480x1 : Shape := ⟨2, ![20480, 1]⟩
abbrev S512x1 : Shape := ⟨2, ![512, 1]⟩
abbrev S512 : Shape := ⟨1, ![512]⟩
abbrev S1x512 : Shape := ⟨2, ![1, 512]⟩
abbrev S1024x1 : Shape := ⟨2, ![1024, 1]⟩
abbrev S1024x512 : Shape := ⟨2, ![1024, 512]⟩
abbrev S1024 : Shape := ⟨1, ![1024]⟩

abbrev nBuf : Space → Nat
  | .hbm => 21
  | .vmem => 8
  | .smem => 0
  | _ => 0

abbrev bufTy : (tb : Table) → Fin (tcTables nBuf tb) → BufTy
  | .hbm, ⟨0, _⟩ => ⟨S20000x2, .f32⟩
  | .hbm, ⟨1, _⟩ => ⟨S512x2, .f32⟩
  | .hbm, ⟨2, _⟩ => ⟨S20000x1, .f32⟩
  | .hbm, ⟨3, _⟩ => ⟨S20000, .f32⟩
  | .hbm, ⟨4, _⟩ => ⟨S_, .i32⟩
  | .hbm, ⟨5, _⟩ => ⟨S_, .f32⟩
  | .hbm, ⟨6, _⟩ => ⟨S20480, .f32⟩
  | .hbm, ⟨7, _⟩ => ⟨S20480x1, .f32⟩
  | .hbm, ⟨8, _⟩ => ⟨S20000x1, .f32⟩
  | .hbm, ⟨9, _⟩ => ⟨S20000, .f32⟩
  | .hbm, ⟨10, _⟩ => ⟨S_, .i32⟩
  | .hbm, ⟨11, _⟩ => ⟨S_, .f32⟩
  | .hbm, ⟨12, _⟩ => ⟨S20480, .f32⟩
  | .hbm, ⟨13, _⟩ => ⟨S20480x1, .f32⟩
  | .hbm, ⟨14, _⟩ => ⟨S512x1, .f32⟩
  | .hbm, ⟨15, _⟩ => ⟨S512, .f32⟩
  | .hbm, ⟨16, _⟩ => ⟨S1x512, .f32⟩
  | .hbm, ⟨17, _⟩ => ⟨S512x1, .f32⟩
  | .hbm, ⟨18, _⟩ => ⟨S512, .f32⟩
  | .hbm, ⟨19, _⟩ => ⟨S1x512, .f32⟩
  | .hbm, ⟨20, _⟩ => ⟨S20480x1, .i32⟩
  | .local _ .vmem, ⟨0, _⟩ => ⟨S1024x1, .f32⟩
  | .local _ .vmem, ⟨1, _⟩ => ⟨S1024x1, .f32⟩
  | .local _ .vmem, ⟨2, _⟩ => ⟨S1024x1, .f32⟩
  | .local _ .vmem, ⟨3, _⟩ => ⟨S1024x1, .f32⟩
  | .local _ .vmem, ⟨4, _⟩ => ⟨S1x512, .f32⟩
  | .local _ .vmem, ⟨5, _⟩ => ⟨S1x512, .f32⟩
  | .local _ .vmem, ⟨6, _⟩ => ⟨S1024x1, .i32⟩
  | .local _ .vmem, ⟨7, _⟩ => ⟨S1024x1, .i32⟩
  | _, _ => ⟨S20000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_call1_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NearestRefIdeal.lean ====
abbrev S20000x2 : Shape := ⟨2, ![20000, 2]⟩
abbrev S512x2 : Shape := ⟨2, ![512, 2]⟩
abbrev S_ : Shape := ⟨0, ![]⟩
abbrev S20480x2 : Shape := ⟨2, ![20480, 2]⟩
abbrev S20480x1x2 : Shape := ⟨3, ![20480, 1, 2]⟩
abbrev S1x512x2 : Shape := ⟨3, ![1, 512, 2]⟩
abbrev S20480x512x2 : Shape := ⟨3, ![20480, 512, 2]⟩
abbrev S20480x512 : Shape := ⟨2, ![20480, 512]⟩
abbrev S20480 : Shape := ⟨1, ![20480]⟩
abbrev S20480x1 : Shape := ⟨2, ![20480, 1]⟩

abbrev nBuf : Space → Nat
  | .hbm => 19
  | .vmem => 0
  | .smem => 0
  | _ => 0

abbrev bufTy : (tb : Table) → Fin (tcTables nBuf tb) → BufTy
  | .hbm, ⟨0, _⟩ => ⟨S20000x2, .f32⟩
  | .hbm, ⟨1, _⟩ => ⟨S512x2, .f32⟩
  | .hbm, ⟨2, _⟩ => ⟨S_, .i32⟩
  | .hbm, ⟨3, _⟩ => ⟨S_, .f32⟩
  | .hbm, ⟨4, _⟩ => ⟨S20480x2, .f32⟩
  | .hbm, ⟨5, _⟩ => ⟨S20480x1x2, .f32⟩
  | .hbm, ⟨6, _⟩ => ⟨S1x512x2, .f32⟩
  | .hbm, ⟨7, _⟩ => ⟨S20480x512x2, .f32⟩
  | .hbm, ⟨8, _⟩ => ⟨S20480x512x2, .f32⟩
  | .hbm, ⟨9, _⟩ => ⟨S20480x512x2, .f32⟩
  | .hbm, ⟨10, _⟩ => ⟨S20480x512x2, .f32⟩
  | .hbm, ⟨11, _⟩ => ⟨S_, .f32⟩
  | .hbm, ⟨12, _⟩ => ⟨S20480x512, .f32⟩
  | .hbm, ⟨13, _⟩ => ⟨S20480x512, .i32⟩
  | .hbm, ⟨14, _⟩ => ⟨S_, .f32⟩
  | .hbm, ⟨15, _⟩ => ⟨S_, .i32⟩
  | .hbm, ⟨16, _⟩ => ⟨S20480, .f32⟩
  | .hbm, ⟨17, _⟩ => ⟨S20480, .i32⟩
  | .hbm, ⟨18, _⟩ => ⟨S20480x1, .i32⟩
  | _, _ => ⟨S20000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_call1_v0 : Ref sig .tc := ⟨.hbm, 13, rfl⟩
abbrev main_call1_cst : Ref sig .tc := ⟨.hbm, 14, rfl⟩
abbrev main_call1_c : Ref sig .tc := ⟨.hbm, 15, rfl⟩
abbrev main_call1_v1_0 : Ref sig .tc := ⟨.hbm, 16, rfl⟩
abbrev main_v8 : Ref sig .tc := ⟨.hbm, 17, rfl⟩
abbrev main_v9 : Ref sig .tc := ⟨.hbm, 18, rfl⟩

abbrev nD : Nat := 1
abbrev τ : Topo := Topo.v7x

variable {F : FTy → Type} [FloatOps F]
-- ==== SampleIdeal.lean ====
abbrev S20000x2 : Shape := ⟨2, ![20000, 2]⟩
abbrev S20000x1 : Shape := ⟨2, ![20000, 1]⟩
abbrev S20000 : Shape := ⟨1, ![20000]⟩
abbrev S_ : Shape := ⟨0, ![]⟩
abbrev S20480 : Shape := ⟨1, ![20480]⟩
abbrev S160x128 : Shape := ⟨2, ![160, 128]⟩
abbrev S1 : Shape := ⟨1, ![1]⟩
abbrev S512x2 : Shape := ⟨2, ![512, 2]⟩
abbrev S1x1 : Shape := ⟨2, ![1, 1]⟩
abbrev S1x160x128 : Shape := ⟨3, ![1, 160, 128]⟩
abbrev S1x1x1 : Shape := ⟨3, ![1, 1, 1]⟩

abbrev nBuf : Space → Nat
  | .hbm => 18
  | .vmem => 3
  | .smem => 4
  | _ => 0

abbrev bufTy : (tb : Table) → Fin (tcTables nBuf tb) → BufTy
  | .hbm, ⟨0, _⟩ => ⟨S20000x2, .f32⟩
  | .hbm, ⟨1, _⟩ => ⟨S20000x1, .f32⟩
  | .hbm, ⟨2, _⟩ => ⟨S20000, .f32⟩
  | .hbm, ⟨3, _⟩ => ⟨S_, .i32⟩
  | .hbm, ⟨4, _⟩ => ⟨S_, .f32⟩
  | .hbm, ⟨5, _⟩ => ⟨S20480, .f32⟩
  | .hbm, ⟨6, _⟩ => ⟨S160x128, .f32⟩
  | .hbm, ⟨7, _⟩ => ⟨S20000x1, .f32⟩
  | .hbm, ⟨8, _⟩ => ⟨S20000, .f32⟩
  | .hbm, ⟨9, _⟩ => ⟨S_, .i32⟩
  | .hbm, ⟨10, _⟩ => ⟨S_, .f32⟩
  | .hbm, ⟨11, _⟩ => ⟨S20480, .f32⟩
  | .hbm, ⟨12, _⟩ => ⟨S160x128, .f32⟩
  | .hbm, ⟨13, _⟩ => ⟨S20480, .f32⟩
  | .hbm, ⟨14, _⟩ => ⟨S20480, .f32⟩
  | .hbm, ⟨15, _⟩ => ⟨S_, .i32⟩
  | .hbm, ⟨16, _⟩ => ⟨S1, .i32⟩
  | .hbm, ⟨17, _⟩ => ⟨S512x2, .f32⟩
  | .local _ .vmem, ⟨0, _⟩ => ⟨S160x128, .f32⟩
  | .local _ .vmem, ⟨1, _⟩ => ⟨S160x128, .f32⟩
  | .local _ .vmem, ⟨2, _⟩ => ⟨S160x128, .f32⟩
  | .local _ .smem, ⟨0, _⟩ => ⟨S1, .i32⟩
  | .local _ .smem, ⟨1, _⟩ => ⟨S20480, .f32⟩
  | .local _ .smem, ⟨2, _⟩ => ⟨S20480, .f32⟩
  | .local _ .smem, ⟨3, _⟩ => ⟨S512x2, .f32⟩
  | _, _ => ⟨S20000x2, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_call0_v0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_call1_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev cc0_stg3_0 : Ref sig .tc := ⟨.vmem, 0, rfl⟩
abbrev cc0_stg4_0 : Ref sig .tc := ⟨.vmem, 1, rfl⟩
abbrev cc0_scratch0 : Ref sig .tc := ⟨.vmem, 2, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg5_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

def k0_off1 (v11 : BitVec 32) : Fin 1 → Nat :=
  let v12 : Index := Scalar.indexCast v11
  ![v12.toNat]

def k0_chk1 (v11 : BitVec 32) : Prop :=
  (∀ a, (k0_off1 v11) a + S1.size a ≤ S20480.size a)
theorem k0_off1_inb : ∀ (v11 : BitVec 32) (k0_hw1 : k0_chk1 v11), ∀ a, (k0_off1 v11) a + S1.size a ≤ S20480.size a := fun v11 k0_hw1 => k0_hw1

@[reducible] def k0_t1_loop : Scf.Loop 32 :=
  let c1_i32 : BitVec 32 := 1#32
  let c511_i32 : BitVec 32 := 511#32
  let v24 : BitVec 32 := Scalar.addi c1_i32 c511_i32
  let c1_i32_10 : BitVec 32 := 1#32
  ⟨c1_i32, v24, c1_i32_10⟩
def k0_off2 (v49 : BitVec 32) : Fin 1 → Nat :=
  let v57 : Index := Scalar.indexCast v49
  ![v57.toNat]

def k0_chk2 (v49 : BitVec 32) : Prop :=
  (∀ a, (k0_off2 v49) a + S1.size a ≤ S20480.size a)
theorem k0_off2_inb : ∀ (v49 : BitVec 32) (k0_hw2 : k0_chk2 v49), ∀ a, (k0_off2 v49) a + S1.size a ≤ S20480.size a := fun v49 k0_hw2 => k0_hw2

def k0_off3 (k0_t1 : Fin k0_t1_loop.trips) : Fin 2 → Nat :=
  let c1_i32 : BitVec 32 := 1#32
  let c1_i32_10 : BitVec 32 := 1#32
  let arg7 : BitVec 32 := Scf.iv c1_i32 c1_i32_10 k0_t1
  let v61 : Index := Scalar.indexCast arg7
  let c0_20 : Index := 0#32
  ![v61.toNat, 0]
def k0_off4 (k0_t1 : Fin k0_t1_loop.trips) : Fin 2 → Nat :=
  let c1_i32 : BitVec 32 := 1#32
  let c1_i32_10 : BitVec 32 := 1#32
  let arg7 : BitVec 32 := Scf.iv c1_i32 c1_i32_10 k0_t1
  let v63 : Index := Scalar.indexCast arg7
  let c1_21 : Index := 1#32
  ![v63.toNat, 1]
abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S20480 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S20480 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S160x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S160x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S512x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== SampleRefIdeal.lean ====
abbrev S20000x2 : Shape := ⟨2, ![20000, 2]⟩
abbrev S1x2 : Shape := ⟨2, ![1, 2]⟩
abbrev S2 : Shape := ⟨1, ![2]⟩
abbrev S_ : Shape := ⟨0, ![]⟩
abbrev S512x2 : Shape := ⟨2, ![512, 2]⟩
abbrev S1 : Shape := ⟨1, ![1]⟩
abbrev S20000 : Shape := ⟨1, ![20000]⟩

abbrev nBuf : Space → Nat
  | .hbm => 64
  | .vmem => 0
  | .smem => 0
  | _ => 0

abbrev bufTy : (tb : Table) → Fin (tcTables nBuf tb) → BufTy
  | .hbm, ⟨0, _⟩ => ⟨S20000x2, .f32⟩
  | .hbm, ⟨1, _⟩ => ⟨S1x2, .f32⟩
  | .hbm, ⟨2, _⟩ => ⟨S2, .f32⟩
  | .hbm, ⟨3, _⟩ => ⟨S_, .f32⟩
  | .hbm, ⟨4, _⟩ => ⟨S512x2, .f32⟩
  | .hbm, ⟨5, _⟩ => ⟨S_, .i32⟩
  | .hbm, ⟨6, _⟩ => ⟨S1, .i32⟩
  | .hbm, ⟨7, _⟩ => ⟨S512x2, .f32⟩
  | .hbm, ⟨8, _⟩ => ⟨S_, .f32⟩
  | .hbm, ⟨9, _⟩ => ⟨S20000, .f32⟩
  | .hbm, ⟨10, _⟩ => ⟨S_, .i32⟩
  | .hbm, ⟨11, _⟩ => ⟨S_, .i32⟩
  | .hbm, ⟨12, _⟩ => ⟨S20000x2, .f32⟩
  | .hbm, ⟨13, _⟩ => ⟨S_, .i32⟩
  | .hbm, ⟨14, _⟩ => ⟨S_, .i32⟩
  | .hbm, ⟨15, _⟩ => ⟨S20000, .f32⟩
  | .hbm, ⟨16, _⟩ => ⟨S512x2, .f32⟩
  | .hbm, ⟨17, _⟩ => ⟨S2, .f32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S1x2, .f32⟩
  | .hbm, ⟨23, _⟩ => ⟨S20000x2, .f32⟩
  | .hbm, ⟨24, _⟩ => ⟨S20000x2, .f32⟩
  | .hbm, ⟨25, _⟩ => ⟨S20000x2, .f32⟩
  | .hbm, ⟨26, _⟩ => ⟨S_, .f32⟩
  | .hbm, ⟨27, _⟩ => ⟨S20000, .f32⟩
  | .hbm, ⟨28, _⟩ => ⟨S_, .f32⟩
  | .hbm, ⟨29, _⟩ => ⟨S20000, .f32⟩
  | .hbm, ⟨30, _⟩ => ⟨S20000, .f32⟩
  | .hbm, ⟨31, _⟩ => ⟨S20000, .f32⟩
  | .hbm, ⟨32, _⟩ => ⟨S20000, .f32⟩
  | .hbm, ⟨33, _⟩ => ⟨S20000, .i32⟩
  | .hbm, ⟨34, _⟩ => ⟨S_, .f32⟩
  | .hbm, ⟨35, _⟩ => ⟨S_, .i32⟩
  | .hbm, ⟨36, _⟩ => ⟨S_, .f32⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S1x2, .f32⟩
  | .hbm, ⟨45, _⟩ => ⟨S2, .f32⟩
  | .hbm, ⟨46, _⟩ => ⟨S1x2, .f32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S512x2, .f32⟩
  | .hbm, ⟨55, _⟩ => ⟨S20000, .i32⟩
  | .hbm, ⟨56, _⟩ => ⟨S20000, .i32⟩
  | .hbm, ⟨57, _⟩ => ⟨S20000, .i1⟩
  | .hbm, ⟨58, _⟩ => ⟨S_, .f32⟩
  | .hbm, ⟨59, _⟩ => ⟨S_, .f32⟩
  | .hbm, ⟨60, _⟩ => ⟨S20000, .f32⟩
  | .hbm, ⟨61, _⟩ => ⟨S20000, .f32⟩
  | .hbm, ⟨62, _⟩ => ⟨S_, .i32⟩
  | .hbm, ⟨63, _⟩ => ⟨S_, .i32⟩
  | _, _ => ⟨S20000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_c_1 : Ref sig .tc := ⟨.hbm, 10, rfl⟩
abbrev main_c_2 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev main_v6_5 : Ref sig .tc := ⟨.hbm, 17, rfl⟩
abbrev main_while0c_c_8 : Ref sig .tc := ⟨.hbm, 18, rfl⟩
abbrev main_while0c_v7 : Ref sig .tc := ⟨.hbm, 19, rfl⟩
abbrev main_while0b_c_8 : Ref sig .tc := ⟨.hbm, 20, rfl⟩
abbrev main_while0b_v7 : Ref sig .tc := ⟨.hbm, 21, rfl⟩
abbrev main_while0b_v8 : Ref sig .tc := ⟨.hbm, 22, rfl⟩
abbrev main_while0b_v9 : Ref sig .tc := ⟨.hbm, 23, rfl⟩
abbrev main_while0b_v10 : Ref sig .tc := ⟨.hbm, 24, rfl⟩
abbrev main_while0b_v11 : Ref sig .tc := ⟨.hbm, 25, rfl⟩
abbrev main_while0b_cst_9 : Ref sig .tc := ⟨.hbm, 26, rfl⟩
abbrev main_while0b_v12 : Ref sig .tc := ⟨.hbm, 27, rfl⟩
abbrev main_while0b_cst_10 : Ref sig .tc := ⟨.hbm, 28, rfl⟩
abbrev main_while0b_v13 : Ref sig .tc := ⟨.hbm, 29, rfl⟩
abbrev main_while0b_v14 : Ref sig .tc := ⟨.hbm, 30, rfl⟩
abbrev main_while0b_v15 : Ref sig .tc := ⟨.hbm, 31, rfl⟩
abbrev main_while0b_v16 : Ref sig .tc := ⟨.hbm, 32, rfl⟩
abbrev main_while0b_call0_v0 : Ref sig .tc := ⟨.hbm, 33, rfl⟩
abbrev main_while0b_call0_cst : Ref sig .tc := ⟨.hbm, 34, rfl⟩
abbrev main_while0b_call0_c : Ref sig .tc := ⟨.hbm, 35, rfl⟩
abbrev main_while0b_call0_v1_0 : Ref sig .tc := ⟨.hbm, 36, rfl⟩
abbrev main_while0b_v17 : Ref sig .tc := ⟨.hbm, 37, rfl⟩
abbrev main_while0b_call1_c : Ref sig .tc := ⟨.hbm, 38, rfl⟩
abbrev main_while0b_call1_v0 : Ref sig .tc := ⟨.hbm, 39, rfl⟩
abbrev main_while0b_call1_c_0 : Ref sig .tc := ⟨.hbm, 40, rfl⟩
abbrev main_while0b_call1_v1 : Ref sig .tc := ⟨.hbm, 41, rfl⟩
abbrev main_while0b_call1_v2 : Ref sig .tc := ⟨.hbm, 42, rfl⟩
abbrev main_while0b_call1_c_1 : Ref sig .tc := ⟨.hbm, 43, rfl⟩
abbrev main_while0b_call1_v3 : Ref sig .tc := ⟨.hbm, 44, rfl⟩
abbrev main_while0b_v18 : Ref sig .tc := ⟨.hbm, 45, rfl⟩
abbrev main_while0b_call2_v0 : Ref sig .tc := ⟨.hbm, 46, rfl⟩
abbrev main_while0b_call2_c : Ref sig .tc := ⟨.hbm, 47, rfl⟩
abbrev main_while0b_call2_v1 : Ref sig .tc := ⟨.hbm, 48, rfl⟩
abbrev main_while0b_call2_v2 : Ref sig .tc := ⟨.hbm, 49, rfl⟩
abbrev main_while0b_call2_c_0 : Ref sig .tc := ⟨.hbm, 50, rfl⟩
abbrev main_while0b_call2_v3 : Ref sig .tc := ⟨.hbm, 51, rfl⟩
abbrev main_while0b_call2_v4 : Ref sig .tc := ⟨.hbm, 52, rfl⟩
abbrev main_while0b_call2_c_1 : Ref sig .tc := ⟨.hbm, 53, rfl⟩
abbrev main_while0b_v19 : Ref sig .tc := ⟨.hbm, 54, rfl⟩
abbrev main_while0b_v20 : Ref sig .tc := ⟨.hbm, 55, rfl⟩
abbrev main_while0b_v21 : Ref sig .tc := ⟨.hbm, 56, rfl⟩
abbrev main_while0b_v22 : Ref sig .tc := ⟨.hbm, 57, rfl⟩
abbrev main_while0b_cst_11 : Ref sig .tc := ⟨.hbm, 58, rfl⟩
abbrev main_while0b_call3_v0 : Ref sig .tc := ⟨.hbm, 59, rfl⟩
abbrev main_while0b_call3_v1 : Ref sig .tc := ⟨.hbm, 60, rfl⟩
abbrev main_while0b_v23 : Ref sig .tc := ⟨.hbm, 61, rfl⟩
abbrev main_while0b_c_12 : Ref sig .tc := ⟨.hbm, 62, rfl⟩
abbrev main_while0b_v24 : Ref sig .tc := ⟨.hbm, 63, rfl⟩

abbrev nD : Nat := 1
abbrev τ : Topo := Topo.v7x

variable {F : FTy → Type} [FloatOps F]

abbrev main_while0_count : Scf.Loop 32 := ⟨0#32, 511#32, 1#32⟩
-- ==== Features.lean ====
abbrev S16384 : Shape := ⟨1, ![16384]⟩
abbrev S40x64 : Shape := ⟨2, ![40, 64]⟩
abbrev S64 : Shape := ⟨1, ![64]⟩
abbrev S64x128 : Shape := ⟨2, ![64, 128]⟩
abbrev S128 : Shape := ⟨1, ![128]⟩
abbrev S128x16 : Shape := ⟨2, ![128, 16]⟩
abbrev S16 : Shape := ⟨1, ![16]⟩
abbrev S40 : Shape := ⟨1, ![40]⟩
abbrev S_ : Shape := ⟨0, ![]⟩
abbrev S40x1 : Shape := ⟨2, ![40, 1]⟩
abbrev S16384x1 : Shape := ⟨2, ![16384, 1]⟩
abbrev S1x64 : Shape := ⟨2, ![1, 64]⟩
abbrev S1x128 : Shape := ⟨2, ![1, 128]⟩
abbrev S1x16 : Shape := ⟨2, ![1, 16]⟩
abbrev S512x16 : Shape := ⟨2, ![512, 16]⟩
abbrev S1x20 : Shape := ⟨2, ![1, 20]⟩
abbrev S16384x20 : Shape := ⟨2, ![16384, 20]⟩
abbrev S16384x40 : Shape := ⟨2, ![16384, 40]⟩
abbrev S16384x64 : Shape := ⟨2, ![16384, 64]⟩
abbrev S16384x128 : Shape := ⟨2, ![16384, 128]⟩
abbrev S16384x16 : Shape := ⟨2, ![16384, 16]⟩
abbrev S512x32x16 : Shape := ⟨3, ![512, 32, 16]⟩

abbrev nBuf : Space → Nat
  | .hbm => 32
  | .vmem => 13
  | .smem => 0
  | _ => 0

abbrev bufTy : (tb : Table) → Fin (tcTables nBuf tb) → BufTy
  | .hbm, ⟨0, _⟩ => ⟨S16384, .f32⟩
  | .hbm, ⟨1, _⟩ => ⟨S16384, .f32⟩
  | .hbm, ⟨2, _⟩ => ⟨S40x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x16, .f32⟩
  | .hbm, ⟨11, _⟩ => ⟨S16, .f32⟩
  | .hbm, ⟨12, _⟩ => ⟨S40, .i32⟩
  | .hbm, ⟨13, _⟩ => ⟨S_, .i32⟩
  | .hbm, ⟨14, _⟩ => ⟨S40, .i32⟩
  | .hbm, ⟨15, _⟩ => ⟨S40, .i1⟩
  | .hbm, ⟨16, _⟩ => ⟨S_, .i32⟩
  | .hbm, ⟨17, _⟩ => ⟨S40, .i32⟩
  | .hbm, ⟨18, _⟩ => ⟨S40, .i32⟩
  | .hbm, ⟨19, _⟩ => ⟨S40, .i32⟩
  | .hbm, ⟨20, _⟩ => ⟨S40x1, .i32⟩
  | .hbm, ⟨21, _⟩ => ⟨S40x64, .f32⟩
  | .hbm, ⟨22, _⟩ => ⟨S16384x1, .f32⟩
  | .hbm, ⟨23, _⟩ => ⟨S16384x1, .f32⟩
  | .hbm, ⟨24, _⟩ => ⟨S1x64, .f32⟩
  | .hbm, ⟨25, _⟩ => ⟨S1x64, .f32⟩
  | .hbm, ⟨26, _⟩ => ⟨S1x64, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S1x16, .f32⟩
  | .hbm, ⟨31, _⟩ => ⟨S512x16, .f32⟩
  | .local _ .vmem, ⟨0, _⟩ => ⟨S16384x1, .f32⟩
  | .local _ .vmem, ⟨1, _⟩ => ⟨S16384x1, .f32⟩
  | .local _ .vmem, ⟨2, _⟩ => ⟨S40x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S64x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x16, .f32⟩
  | .local _ .vmem, ⟨11, _⟩ => ⟨S1x16, .f32⟩
  | .local _ .vmem, ⟨12, _⟩ => ⟨S512x16, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_c_0 : Ref sig .tc := ⟨.hbm, 13, rfl⟩
abbrev main_v0 : Ref sig .tc := ⟨.hbm, 14, rfl⟩
abbrev main_v1 : Ref sig .tc := ⟨.hbm, 15, rfl⟩
abbrev main_c_1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S16384x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S512x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== FeaturesRefIdeal.lean ====
abbrev S16384 : Shape := ⟨1, ![16384]⟩
abbrev S40x64 : Shape := ⟨2, ![40, 64]⟩
abbrev S64 : Shape := ⟨1, ![64]⟩
abbrev S64x128 : Shape := ⟨2, ![64, 128]⟩
abbrev S128 : Shape := ⟨1, ![128]⟩
abbrev S128x16 : Shape := ⟨2, ![128, 16]⟩
abbrev S16 : Shape := ⟨1, ![16]⟩
abbrev S16384x1 : Shape := ⟨2, ![16384, 1]⟩
abbrev S16384x2 : Shape := ⟨2, ![16384, 2]⟩
abbrev S10 : Shape := ⟨1, ![10]⟩
abbrev S_ : Shape := ⟨0, ![]⟩
abbrev S1x10x1 : Shape := ⟨3, ![1, 10, 1]⟩
abbrev S16384x1x2 : Shape := ⟨3, ![16384, 1, 2]⟩
abbrev S16384x10x2 : Shape := ⟨3, ![16384, 10, 2]⟩
abbrev S16384x10x2x1 : Shape := ⟨4, ![16384, 10, 2, 1]⟩
abbrev S16384x10x2x2 : Shape := ⟨4, ![16384, 10, 2, 2]⟩
abbrev S16384x40 : Shape := ⟨2, ![16384, 40]⟩
abbrev S16384x64 : Shape := ⟨2, ![16384, 64]⟩
abbrev S1x64 : Shape := ⟨2, ![1, 64]⟩
abbrev S16384x128 : Shape := ⟨2, ![16384, 128]⟩
abbrev S1x128 : Shape := ⟨2, ![1, 128]⟩
abbrev S16384x16 : Shape := ⟨2, ![16384, 16]⟩
abbrev S1x16 : Shape := ⟨2, ![1, 16]⟩
abbrev S512x32x16 : Shape := ⟨3, ![512, 32, 16]⟩
abbrev S512x16 : Shape := ⟨2, ![512, 16]⟩

abbrev nBuf : Space → Nat
  | .hbm => 115
  | .vmem => 0
  | .smem => 0
  | _ => 0

abbrev bufTy : (tb : Table) → Fin (tcTables nBuf tb) → BufTy
  | .hbm, ⟨0, _⟩ => ⟨S16384, .f32⟩
  | .hbm, ⟨1, _⟩ => ⟨S16384, .f32⟩
  | .hbm, ⟨2, _⟩ => ⟨S40x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x16, .f32⟩
  | .hbm, ⟨11, _⟩ => ⟨S16, .f32⟩
  | .hbm, ⟨12, _⟩ => ⟨S16384x1, .f32⟩
  | .hbm, ⟨13, _⟩ => ⟨S16384x1, .f32⟩
  | .hbm, ⟨14, _⟩ => ⟨S16384x2, .f32⟩
  | .hbm, ⟨15, _⟩ => ⟨S10, .i32⟩
  | .hbm, ⟨16, _⟩ => ⟨S10, .f32⟩
  | .hbm, ⟨17, _⟩ => ⟨S_, .f32⟩
  | .hbm, ⟨18, _⟩ => ⟨S10, .f32⟩
  | .hbm, ⟨19, _⟩ => ⟨S10, .f32⟩
  | .hbm, ⟨20, _⟩ => ⟨S_, .f32⟩
  | .hbm, ⟨21, _⟩ => ⟨S10, .f32⟩
  | .hbm, ⟨22, _⟩ => ⟨S10, .f32⟩
  | .hbm, ⟨23, _⟩ => ⟨S1x10x1, .f32⟩
  | .hbm, ⟨24, _⟩ => ⟨S16384x1x2, .f32⟩
  | .hbm, ⟨25, _⟩ => ⟨S16384x10x2, .f32⟩
  | .hbm, ⟨26, _⟩ => ⟨S16384x10x2, .f32⟩
  | .hbm, ⟨27, _⟩ => ⟨S16384x10x2, .f32⟩
  | .hbm, ⟨28, _⟩ => ⟨S16384x10x2, .f32⟩
  | .hbm, ⟨29, _⟩ => ⟨S16384x10x2, .f32⟩
  | .hbm, ⟨30, _⟩ => ⟨S16384x10x2x1, .f32⟩
  | .hbm, ⟨31, _⟩ => ⟨S16384x10x2x1, .f32⟩
  | .hbm, ⟨32, _⟩ => ⟨S16384x10x2x2, .f32⟩
  | .hbm, ⟨33, _⟩ => ⟨S16384x40, .f32⟩
  | .hbm, ⟨34, _⟩ => ⟨S16384x64, .f32⟩
  | .hbm, ⟨35, _⟩ => ⟨S1x64, .f32⟩
  | .hbm, ⟨36, _⟩ => ⟨S16384x64, .f32⟩
  | .hbm, ⟨37, _⟩ => ⟨S16384x64, .f32⟩
  | .hbm, ⟨38, _⟩ => ⟨S_, .f32⟩
  | .hbm, ⟨39, _⟩ => ⟨S64, .f32⟩
  | .hbm, ⟨40, _⟩ => ⟨S_, .f32⟩
  | .hbm, ⟨41, _⟩ => ⟨S64, .f32⟩
  | .hbm, ⟨42, _⟩ => ⟨S64, .f32⟩
  | .hbm, ⟨43, _⟩ => ⟨S1x64, .f32⟩
  | .hbm, ⟨44, _⟩ => ⟨S16384x64, .f32⟩
  | .hbm, ⟨45, _⟩ => ⟨S16384x64, .f32⟩
  | .hbm, ⟨46, _⟩ => ⟨S16384x64, .f32⟩
  | .hbm, ⟨47, _⟩ => ⟨S_, .f32⟩
  | .hbm, ⟨48, _⟩ => ⟨S64, .f32⟩
  | .hbm, ⟨49, _⟩ => ⟨S_, .f32⟩
  | .hbm, ⟨50, _⟩ => ⟨S64, .f32⟩
  | .hbm, ⟨51, _⟩ => ⟨S64, .f32⟩
  | .hbm, ⟨52, _⟩ => ⟨S1x64, .f32⟩
  | .hbm, ⟨53, _⟩ => ⟨S16384x64, .f32⟩
  | .hbm, ⟨54, _⟩ => ⟨S16384x64, .f32⟩
  | .hbm, ⟨55, _⟩ => ⟨S1x64, .f32⟩
  | .hbm, ⟨56, _⟩ => ⟨S16384x64, .f32⟩
  | .hbm, ⟨57, _⟩ => ⟨S16384x64, .f32⟩
  | .hbm, ⟨58, _⟩ => ⟨S_, .f32⟩
  | .hbm, ⟨59, _⟩ => ⟨S64, .f32⟩
  | .hbm, ⟨60, _⟩ => ⟨S64, .f32⟩
  | .hbm, ⟨61, _⟩ => ⟨S64, .f32⟩
  | .hbm, ⟨62, _⟩ => ⟨S1x64, .f32⟩
  | .hbm, ⟨63, _⟩ => ⟨S16384x64, .f32⟩
  | .hbm, ⟨64, _⟩ => ⟨S16384x64, .f32⟩
  | .hbm, ⟨65, _⟩ => ⟨S1x64, .f32⟩
  | .hbm, ⟨66, _⟩ => ⟨S16384x64, .f32⟩
  | .hbm, ⟨67, _⟩ => ⟨S16384x64, .f32⟩
  | .hbm, ⟨68, _⟩ => ⟨S_, .f32⟩
  | .hbm, ⟨69, _⟩ => ⟨S16384x64, .f32⟩
  | .hbm, ⟨70, _⟩ => ⟨S16384x64, .f32⟩
  | .hbm, ⟨71, _⟩ => ⟨S16384x128, .f32⟩
  | .hbm, ⟨72, _⟩ => ⟨S1x128, .f32⟩
  | .hbm, ⟨73, _⟩ => ⟨S16384x128, .f32⟩
  | .hbm, ⟨74, _⟩ => ⟨S16384x128, .f32⟩
  | .hbm, ⟨75, _⟩ => ⟨S_, .f32⟩
  | .hbm, ⟨76, _⟩ => ⟨S128, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S1x128, .f32⟩
  | .hbm, ⟨81, _⟩ => ⟨S16384x128, .f32⟩
  | .hbm, ⟨82, _⟩ => ⟨S16384x128, .f32⟩
  | .hbm, ⟨83, _⟩ => ⟨S16384x128, .f32⟩
  | .hbm, ⟨84, _⟩ => ⟨S_, .f32⟩
  | .hbm, ⟨85, _⟩ => ⟨S128, .f32⟩
  | .hbm, ⟨86, _⟩ => ⟨S_, .f32⟩
  | .hbm, ⟨87, _⟩ => ⟨S128, .f32⟩
  | .hbm, ⟨88, _⟩ => ⟨S128, .f32⟩
  | .hbm, ⟨89, _⟩ => ⟨S1x128, .f32⟩
  | .hbm, ⟨90, _⟩ => ⟨S16384x128, .f32⟩
  | .hbm, ⟨91, _⟩ => ⟨S16384x128, .f32⟩
  | .hbm, ⟨92, _⟩ => ⟨S1x128, .f32⟩
  | .hbm, ⟨93, _⟩ => ⟨S16384x128, .f32⟩
  | .hbm, ⟨94, _⟩ => ⟨S16384x128, .f32⟩
  | .hbm, ⟨95, _⟩ => ⟨S_, .f32⟩
  | .hbm, ⟨96, _⟩ => ⟨S128, .f32⟩
  | .hbm, ⟨97, _⟩ => ⟨S128, .f32⟩
  | .hbm, ⟨98, _⟩ => ⟨S128, .f32⟩
  | .hbm, ⟨99, _⟩ => ⟨S1x128, .f32⟩
  | .hbm, ⟨100, _⟩ => ⟨S16384x128, .f32⟩
  | .hbm, ⟨101, _⟩ => ⟨S16384x128, .f32⟩
  | .hbm, ⟨102, _⟩ => ⟨S1x128, .f32⟩
  | .hbm, ⟨103, _⟩ => ⟨S16384x128, .f32⟩
  | .hbm, ⟨104, _⟩ => ⟨S16384x128, .f32⟩
  | .hbm, ⟨105, _⟩ => ⟨S_, .f32⟩
  | .hbm, ⟨106, _⟩ => ⟨S16384x128, .f32⟩
  | .hbm, ⟨107, _⟩ => ⟨S16384x128, .f32⟩
  | .hbm, ⟨108, _⟩ => ⟨S16384x16, .f32⟩
  | .hbm, ⟨109, _⟩ => ⟨S1x16, .f32⟩
  | .hbm, ⟨110, _⟩ => ⟨S16384x16, .f32⟩
  | .hbm, ⟨111, _⟩ => ⟨S16384x16, .f32⟩
  | .hbm, ⟨112, _⟩ => ⟨S512x32x16, .f32⟩
  | .hbm, ⟨113, _⟩ => ⟨S_, .f32⟩
  | .hbm, ⟨114, _⟩ => ⟨S512x16, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_1 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_6 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_7 : Ref sig .tc := ⟨.hbm, 75, rfl⟩
abbrev main_v55 : Ref sig .tc := ⟨.hbm, 76, rfl⟩
abbrev main_cst_8 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_9 : Ref sig .tc := ⟨.hbm, 84, rfl⟩
abbrev main_v62 : Ref sig .tc := ⟨.hbm, 85, rfl⟩
abbrev main_cst_10 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_11 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_12 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_13 : Ref sig .tc := ⟨.hbm, 113, rfl⟩
abbrev main_v87 : Ref sig .tc := ⟨.hbm, 114, rfl⟩

abbrev nD : Nat := 1
abbrev τ : Topo := Topo.v7x

variable {F : FTy → Type} [FloatOps F]
-- ==== Proof.Count.lean ====
module

public import proofs.«01_k».proof.Proof.Gen.KernelIdeal.Skeleton

@[expose] public section

noncomputable section

/-! The arithmetic of the grouping: how many of the points before a position belong to a class, and which point is a
    class's `k`-th. A trip of the kernel's loops takes sixteen points; the lemmas here say what its scatters add to a
    table that holds counts, or to one that holds the points by class and rank. -/

namespace Cert.KernelIdeal.Group

open Idealize.ShloMosaic Idealize.SL.Sem
open Cert.KernelIdeal.Gen
open Cert.KernelIdeal.Facts₀ Cert.KernelIdeal.Facts

/-! ## Words -/

/-- Signed comparison of two words below `2^31` is comparison of the numbers. -/
theorem slt_small (x y : BitVec 32) (hx : x.toNat < 2 ^ 31) (hy : y.toNat < 2 ^ 31) : x.slt y = decide (x.toNat < y.toNat) := by
  rw [BitVec.slt_eq_decide, BitVec.toInt_eq_toNat_of_lt (by omega), BitVec.toInt_eq_toNat_of_lt (by omega)]
  simp

theorem ofBool_eq_one (b : Bool) : BitVec.ofBool b = 1 ↔ b = true := by cases b <;> decide

theorem cmpi_slt_one (x y : BitVec 32) (hx : x.toNat < 2 ^ 31) (hy : y.toNat < 2 ^ 31) : IntOp.cmpi .slt x y = 1 ↔ x.toNat < y.toNat := by
  unfold IntOp.cmpi; rw [ofBool_eq_one]; simp [slt_small x y hx hy]

theorem minsi_small (x y : BitVec 32) (hx : x.toNat < 2 ^ 31) (hy : y.toNat < 2 ^ 31) : (IntOp.minsi x y).toNat = min x.toNat y.toNat := by
  unfold IntOp.minsi; rw [slt_small x y hx hy]
  simp only [decide_eq_true_eq]; split <;> omega

theorem maxsi_small (x y : BitVec 32) (hx : x.toNat < 2 ^ 31) (hy : y.toNat < 2 ^ 31) : (IntOp.maxsi x y).toNat = max x.toNat y.toNat := by
  unfold IntOp.maxsi; rw [slt_small y x hy hx]
  simp only [decide_eq_true_eq]; split <;> omega

theorem toNat_ofNat_small {n : ℕ} (h : n < 2 ^ 31) : (BitVec.ofNat 32 n).toNat = n := by
  rw [BitVec.toNat_ofNat]; exact Nat.mod_eq_of_lt (by omega)

/-! ## The scatter, read at an index -/

section Fold

variable {K I V : Type} (P : K → Prop) [DecidablePred P] (Q : K → I → Prop) [∀ k i, Decidable (Q k i)] (val : K → V)

/-- Writes in turn, none of them at `j`: what was there stays. -/
theorem foldl_miss (l : List K) (f : I → V) (j : I) (h : ∀ k ∈ l, P k → ¬ Q k j) :
    l.foldl (fun g k => if P k then (fun i => if Q k i then val k else g i) else g) f j = f j := by
  induction l generalizing f with
  | nil => rfl
  | cons k l ih =>
    rw [List.foldl_cons, ih _ fun k' hk' => h k' (List.mem_cons_of_mem _ hk')]
    by_cases hp : P k
    · rw [if_pos hp, if_neg (h k List.mem_cons_self hp)]
    · rw [if_neg hp]

/-- Writes in turn, `k`'s at `j` and none after it there: `k`'s value stays. -/
theorem foldl_hit (l₁ l₂ : List K) (k : K) (f : I → V) (j : I) (hp : P k) (hq : Q k j) (h : ∀ k' ∈ l₂, P k' → ¬ Q k' j) :
    (l₁ ++ k :: l₂).foldl (fun g k => if P k then (fun i => if Q k i then val k else g i) else g) f j = val k := by
  rw [List.foldl_append, List.foldl_cons, foldl_miss P Q val l₂ _ j h, if_pos hp, if_pos hq]

end Fold

section Store

variable {F : FTy → Type} [FloatOps F] {s : Shape} {e : EltTy} {n : ℕ}

/-- A lane of a vector of `n` lanes. -/
abbrev lane (n : ℕ) (k : Fin n) : (⟨1, ![n]⟩ : Shape).Idx := Shape.ofLane (d := ![n]) k

/-- An element no set lane names keeps its value. -/
theorem storeIdx_miss (f : Vec F s e) (idxs : Fin s.rank → IVec ⟨1, ![n]⟩ 32) (v : Vec F ⟨1, ![n]⟩ e) (mask : IVec ⟨1, ![n]⟩ 1)
    (h : ∀ a x, (idxs a x).toNat < s.size a) (j : s.Idx)
    (hj : ∀ k : Fin n, mask (lane n k) = 1 → ¬ ∀ a, (j a).val = (idxs a (lane n k)).toNat) : storeIdx f idxs v mask false h j = f j := by
  unfold storeIdx
  simp only [Bool.false_eq_true, if_false]
  exact foldl_miss (fun k : Fin n => mask (lane n k) = 1) (fun k i => ∀ a, (i a).val = (idxAt idxs h (lane n k) a).val) (fun k => v (lane n k))
    (List.finRange n) f j fun k _ hk => hj k hk

/-- An element a set lane names, and no later set one, takes that lane's value. -/
theorem storeIdx_hit (f : Vec F s e) (idxs : Fin s.rank → IVec ⟨1, ![n]⟩ 32) (v : Vec F ⟨1, ![n]⟩ e) (mask : IVec ⟨1, ![n]⟩ 1)
    (h : ∀ a x, (idxs a x).toNat < s.size a) (j : s.Idx) (k : Fin n) (hk : mask (lane n k) = 1)
    (hj : ∀ a, (j a).val = (idxs a (lane n k)).toNat)
    (hlast : ∀ k' : Fin n, k < k' → mask (lane n k') = 1 → ¬ ∀ a, (j a).val = (idxs a (lane n k')).toNat) :
    storeIdx f idxs v mask false h j = v (lane n k) := by
  obtain ⟨l₁, l₂, hl⟩ := List.append_of_mem (List.mem_finRange k)
  have hs : (l₁ ++ k :: l₂).Pairwise (· < ·) := hl ▸ List.pairwise_lt_finRange n
  have h2 : ∀ k' ∈ l₂, k < k' := (List.pairwise_cons.mp (List.pairwise_append.mp hs).2.1).1
  have := foldl_hit (fun k : Fin n => mask (lane n k) = 1) (fun k i => ∀ a, (i a).val = (idxAt idxs h (lane n k) a).val)
    (fun k => v (lane n k)) l₁ l₂ k f j hk hj fun k' hk' hm => hlast k' (h2 k' hk') hm
  rw [← hl] at this
  unfold storeIdx
  simp only [Bool.false_eq_true, if_false]
  exact this

end Store

/-! ## Counts and ranks -/

variable (g : ℕ → ℕ)

/-- How many of the positions from `a` up to `b` have class `c`. -/
def cnt (c a b : ℕ) : ℕ := ((Finset.Ico a b).filter fun p => g p = c).card

/-- The sum of the positions from `a` up to `b` of class `s / 32` whose rank in the class (from position 0) is `s % 32`:
    there is at most one. -/
def sel (a b s : ℕ) : ℕ := ∑ p ∈ (Finset.Ico a b).filter (fun p => g p = s / 32 ∧ cnt g (s / 32) 0 p = s % 32), p

theorem cnt_le (c a b : ℕ) : cnt g c a b ≤ b - a := (Finset.card_filter_le _ _).trans (by rw [Nat.card_Ico])

theorem cnt_self (c a : ℕ) : cnt g c a a = 0 := by simp [cnt]
theorem sel_self (s a : ℕ) : sel g a a s = 0 := by simp [sel]

theorem cnt_add (c : ℕ) {a b d : ℕ} (h : a ≤ b) (h' : b ≤ d) : cnt g c a b + cnt g c b d = cnt g c a d := by
  unfold cnt
  rw [← Finset.Ico_union_Ico_eq_Ico h h', Finset.filter_union, Finset.card_union_of_disjoint]
  exact Finset.disjoint_filter_filter (Finset.Ico_disjoint_Ico_consecutive a b d)

theorem sel_add (s : ℕ) {a b d : ℕ} (h : a ≤ b) (h' : b ≤ d) : sel g a b s + sel g b d s = sel g a d s := by
  unfold sel
  rw [← Finset.Ico_union_Ico_eq_Ico h h', Finset.filter_union, Finset.sum_union]
  exact Finset.disjoint_filter_filter (Finset.Ico_disjoint_Ico_consecutive a b d)

theorem cnt_mono (c a : ℕ) {b d : ℕ} (h' : b ≤ d) : cnt g c a b ≤ cnt g c a d :=
  Finset.card_le_card (Finset.filter_subset_filter _ (Finset.Ico_subset_Ico_right h'))

/-- The rank grows past a position of the class. -/
theorem cnt_lt (c : ℕ) {p q : ℕ} (h : p < q) (hp : g p = c) : cnt g c 0 p < cnt g c 0 q := by
  refine Finset.card_lt_card ⟨Finset.filter_subset_filter _ (Finset.Ico_subset_Ico_right h.le), fun hs => ?_⟩
  have := hs (Finset.mem_filter.mpr ⟨Finset.mem_Ico.mpr ⟨Nat.zero_le _, h⟩, hp⟩)
  exact absurd (Finset.mem_Ico.mp (Finset.mem_filter.mp this).1).2 (lt_irrefl _)

/-- Two positions of one class with the same rank are one position. -/
theorem rank_inj (c : ℕ) {p q : ℕ} (hp : g p = c) (hq : g q = c) (h : cnt g c 0 p = cnt g c 0 q) : p = q := by
  rcases lt_trichotomy p q with h1 | h1 | h1
  · exact absurd h (cnt_lt g c h1 hp).ne
  · exact h1
  · exact absurd h (cnt_lt g c h1 hq).ne'

/-- The sum at a class and rank some position has is that position. -/
theorem sel_eq {a b s p : ℕ} (hp : a ≤ p ∧ p < b) (hg : g p = s / 32) (hr : cnt g (s / 32) 0 p = s % 32) : sel g a b s = p := by
  unfold sel
  rw [show (Finset.Ico a b).filter (fun p => g p = s / 32 ∧ cnt g (s / 32) 0 p = s % 32) = {p} from by
    ext q
    simp only [Finset.mem_filter, Finset.mem_Ico, Finset.mem_singleton]
    refine ⟨fun ⟨_, h1, h2⟩ => rank_inj g _ h1 hg (h2.trans hr.symm), ?_⟩
    rintro rfl; exact ⟨hp, hg, hr⟩, Finset.sum_singleton]

/-- And where none has, 0. -/
theorem sel_zero {a b s : ℕ} (h : ∀ p, a ≤ p → p < b → g p = s / 32 → cnt g (s / 32) 0 p ≠ s % 32) : sel g a b s = 0 := by
  unfold sel
  rw [Finset.filter_eq_empty_iff.mpr, Finset.sum_empty]
  intro p hp hh
  exact h p (Finset.mem_Ico.mp hp).1 (Finset.mem_Ico.mp hp).2 hh.1 hh.2

theorem sel_le {a b s : ℕ} : sel g a b s ≤ b := by
  by_cases h : ∃ p, (a ≤ p ∧ p < b) ∧ g p = s / 32 ∧ cnt g (s / 32) 0 p = s % 32
  · obtain ⟨p, hp, hg, hr⟩ := h
    rw [sel_eq g hp hg hr]; exact hp.2.le
  · rw [sel_zero g fun p h1 h2 h3 h4 => h ⟨p, ⟨h1, h2⟩, h3, h4⟩]; exact Nat.zero_le _

/-! ## A trip of sixteen points -/

section Trip

variable {F : FTy → Type} [FloatOps F]
variable (nw : ℕ → BitVec 32) (hnw : ∀ p, (nw p).toNat < 2 ^ 31)

/-- A point's class. -/
abbrev cls (nw : ℕ → BitVec 32) (p : ℕ) : ℕ := (nw p).toNat

variable {b : ℕ} {v : IVec S16 32} (hv : ∀ x, v x = nw (b + (x 0).val))

/-- The classes clipped to the table. -/
abbrev clip (v : IVec S16 32) : IVec S16 32 := k0_pay95 (F := F) v

/-- The lanes that hold a class of the table. -/
abbrev valid (v : IVec S16 32) : IVec S16 1 := k0_pay94 (F := F) v

include hnw hv

theorem valid_iff (x : S16.Idx) : valid (F := F) v x = 1 ↔ cls nw (b + (x 0).val) < 512 := by
  show IntOp.cmpi .slt (v x) 512#32 = 1 ↔ _
  rw [cmpi_slt_one _ _ (hv x ▸ hnw _) (by decide), hv x]; rfl

theorem clip_toNat (x : S16.Idx) : (clip (F := F) v x).toNat = min (cls nw (b + (x 0).val)) 511 := by
  show (IntOp.minsi (v x) 511#32).toNat = _
  rw [minsi_small _ _ (hv x ▸ hnw _) (by decide), hv x]; rfl

theorem clip_lt (a : Fin 1) (x : S16.Idx) : ((![clip (F := F) v] : Fin 1 → IVec S16 32) a x).toNat < S512.size a := by
  obtain rfl : a = 0 := Subsingleton.elim _ _
  show (clip (F := F) v x).toNat < 512
  rw [clip_toNat nw hnw hv]; omega

theorem clip_eq_iff (x y : S16.Idx) (hx : cls nw (b + (x 0).val) < 512) (hy : cls nw (b + (y 0).val) < 512) :
    clip (F := F) v x = clip (F := F) v y ↔ cls nw (b + (x 0).val) = cls nw (b + (y 0).val) := by
  rw [← BitVec.toNat_inj, clip_toNat nw hnw hv, clip_toNat nw hnw hv]; omega

/-- A valid lane's count: how many points of its class the trip has met, its own included. -/
theorem scan_count (x : S16.Idx) (hx : cls nw (b + (x 0).val) < 512) :
    (scanCount (valid (F := F) v) (clip (F := F) v)).2 x
      = BitVec.ofNat 32 (cnt (cls nw) (cls nw (b + (x 0).val)) b (b + (x 0).val + 1)) := by
  unfold scanCount
  dsimp only
  rw [if_pos ((valid_iff nw hnw hv x).mpr hx)]
  congr 1
  refine Finset.card_nbij (fun j : S16.Idx => b + (j 0).val) ?_ ?_ ?_
  · intro j hj
    obtain ⟨-, h1, h2, h3⟩ := Finset.mem_filter.mp hj
    rw [Shape.rowMajor_val_one, Shape.rowMajor_val_one] at h1
    have h2' := (valid_iff nw hnw hv j).mp h2
    exact Finset.mem_filter.mpr ⟨Finset.mem_Ico.mpr ⟨Nat.le_add_right _ _, by show b + (j 0).val < _; omega⟩, (clip_eq_iff nw hnw hv j x h2' hx).mp h3⟩
  · intro j _ j' _ h
    funext a
    obtain rfl : a = 0 := Subsingleton.elim _ _
    exact Fin.ext (by simpa using h)
  · intro q hq
    obtain ⟨h1, h2⟩ := Finset.mem_filter.mp (Finset.mem_coe.mp hq)
    have h1' := Finset.mem_Ico.mp h1
    have hx16 : (x 0).val < 16 := (x 0).isLt
    have hq16 : q - b < 16 := by omega
    have hb : b + ((lane 16 ⟨q - b, hq16⟩ : S16.Idx) 0).val = q := by
      show b + (q - b) = q; omega
    refine ⟨lane 16 ⟨q - b, hq16⟩, ?_, hb⟩
    have hv' : cls nw (b + ((lane 16 ⟨q - b, hq16⟩ : S16.Idx) 0).val) = cls nw (b + (x 0).val) := by rw [hb]; exact h2
    refine Finset.mem_coe.mpr (Finset.mem_filter.mpr ⟨Finset.mem_univ _, ?_, (valid_iff nw hnw hv _).mpr (hv' ▸ hx),
      (clip_eq_iff nw hnw hv _ x (hv' ▸ hx) hx).mpr hv'⟩)
    rw [Shape.rowMajor_val_one, Shape.rowMajor_val_one]
    omega

/-- The lanes the count marks: valid ones with no later lane of their class. -/
theorem scan_last (x : S16.Idx) :
    (scanCount (valid (F := F) v) (clip (F := F) v)).1 x = 1
      ↔ cls nw (b + (x 0).val) < 512 ∧ ∀ q, b + (x 0).val < q → q < b + 16 → cls nw q ≠ cls nw (b + (x 0).val) := by
  unfold scanCount
  dsimp only
  have hif : ∀ p : Prop, ∀ [Decidable p], ((if p then 1 else 0 : BitVec 1) = 1) ↔ p := fun p _ => by split <;> simp_all
  rw [hif, valid_iff nw hnw hv]
  refine and_congr_right fun hx => ⟨fun h q h1 h2 he => ?_, fun h j hj hh => ?_⟩
  · have hq16 : q - b < 16 := by omega
    have hb : b + ((lane 16 ⟨q - b, hq16⟩ : S16.Idx) 0).val = q := by
      show b + (q - b) = q; omega
    have hv' : cls nw (b + ((lane 16 ⟨q - b, hq16⟩ : S16.Idx) 0).val) = cls nw (b + (x 0).val) := by rw [hb]; exact he
    refine h (lane 16 ⟨q - b, hq16⟩) ?_ ⟨(valid_iff nw hnw hv _).mpr (hv' ▸ hx), (clip_eq_iff nw hnw hv _ x (hv' ▸ hx) hx).mpr hv'⟩
    rw [Shape.rowMajor_val_one, Shape.rowMajor_val_one]
    omega
  · rw [Shape.rowMajor_val_one, Shape.rowMajor_val_one] at hj
    have h16 : (j 0).val < 16 := (j 0).isLt
    have h2' := (valid_iff nw hnw hv j).mp hh.1
    exact h (b + (j 0).val) (by omega) (by omega) ((clip_eq_iff nw hnw hv j x h2' hx).mp hh.2)

/-- A table of the counts up to a trip, after the trip's scatter of the running counts: the counts past the trip. -/
theorem count_step (a : ℕ) (hab : a ≤ b) (f : IVec S512 32) (hf : ∀ y, f y = BitVec.ofNat 32 (cnt (cls nw) (y 0).val a b))
    (h h' : ∀ a x, ((![clip (F := F) v] : Fin 1 → IVec S16 32) a x).toNat < S512.size a) (y : S512.Idx) :
    storeIdx (F := F) (e := .i32) f ![clip (F := F) v]
        (k0_pay97 (F := F) v (clip (F := F) v) (loadIdx (F := F) (e := .i32) f ![clip (F := F) v] h)) (k0_pay96 (F := F) v (clip (F := F) v)) false h' y
      = BitVec.ofNat 32 (cnt (cls nw) (y 0).val a (b + 16)) := by
  have hy : (y 0).val < 512 := (y 0).isLt
  rw [← cnt_add (cls nw) (y 0).val hab (Nat.le_add_right b 16)]
  by_cases hex : ((Finset.Ico b (b + 16)).filter fun q => cls nw q = (y 0).val).Nonempty
  · obtain ⟨q, hq, hmax⟩ : ∃ q ∈ (Finset.Ico b (b + 16)).filter (fun q => cls nw q = (y 0).val),
        ∀ q' ∈ (Finset.Ico b (b + 16)).filter (fun q => cls nw q = (y 0).val), q' ≤ q := ⟨_, Finset.max'_mem _ hex, fun q' hq' => Finset.le_max' _ q' hq'⟩
    obtain ⟨hqI, hqc⟩ := Finset.mem_filter.mp hq
    obtain ⟨hq1, hq2⟩ := Finset.mem_Ico.mp hqI
    have hlast : ∀ q', q < q' → q' < b + 16 → cls nw q' ≠ (y 0).val := fun q' h1 h2 he =>
      absurd (hmax q' (Finset.mem_filter.mpr ⟨Finset.mem_Ico.mpr ⟨by omega, h2⟩, he⟩)) (by omega)
    have hq16 : q - b < 16 := by omega
    have hb : b + ((lane 16 ⟨q - b, hq16⟩ : S16.Idx) 0).val = q := by
      show b + (q - b) = q; omega
    have hc : ∀ k : Fin 16, (b + ((lane 16 k : S16.Idx) 0).val) = b + k.val := fun _ => rfl
    have hat : ∀ a : Fin 1, (y a).val = ((![clip (F := F) v] : Fin 1 → IVec S16 32) a (lane 16 ⟨q - b, hq16⟩)).toNat := fun a => by
      obtain rfl : a = 0 := Subsingleton.elim _ _
      show (y 0).val = (clip (F := F) v (lane 16 ⟨q - b, hq16⟩)).toNat
      rw [clip_toNat nw hnw hv, hb, hqc]; omega
    rw [storeIdx_hit (F := F) (e := .i32) f ![clip (F := F) v] _ (k0_pay96 (F := F) v (clip (F := F) v)) h' y ⟨q - b, hq16⟩
      ((scan_last nw hnw hv _).mpr ⟨by rw [hb]; omega, fun q' h1 h2 => by rw [hb] at h1 ⊢; rw [hqc]; exact hlast q' h1 h2⟩) hat
      fun k hk hm hh => by
        obtain ⟨h1, -⟩ := (scan_last nw hnw hv _).mp hm
        have h2 : (y 0).val = (clip (F := F) v (lane 16 k)).toNat := hh 0
        rw [clip_toNat nw hnw hv, hc] at h2
        rw [hc] at h1
        exact hlast (b + k.val) (by have := Fin.lt_def.mp hk; simp only at this; omega) (by omega) (by omega)]
    show IntOp.addi (f (idxAt ![clip (F := F) v] h (lane 16 ⟨q - b, hq16⟩))) ((scanCount (valid (F := F) v) (clip (F := F) v)).2 _) = _
    rw [show idxAt ![clip (F := F) v] h (lane 16 ⟨q - b, hq16⟩) = y from funext fun a => Fin.ext (hat a).symm,
      scan_count nw hnw hv _ (by rw [hb]; omega), hb, hqc, hf]
    show BitVec.ofNat 32 _ + BitVec.ofNat 32 _ = _
    rw [← BitVec.ofNat_add]
    congr 2
    rw [← cnt_add (cls nw) (y 0).val (show b ≤ q + 1 by omega) (show q + 1 ≤ b + 16 by omega)]
    have : cnt (cls nw) (y 0).val (q + 1) (b + 16) = 0 := Finset.card_eq_zero.mpr (Finset.filter_eq_empty_iff.mpr fun p hp =>
      hlast p (by have := (Finset.mem_Ico.mp hp).1; omega) (Finset.mem_Ico.mp hp).2)
    omega
  · have hno : ∀ q, b ≤ q → q < b + 16 → cls nw q ≠ (y 0).val := fun q h1 h2 he =>
      hex ⟨q, Finset.mem_filter.mpr ⟨Finset.mem_Ico.mpr ⟨h1, h2⟩, he⟩⟩
    have h0 : cnt (cls nw) (y 0).val b (b + 16) = 0 := Finset.card_eq_zero.mpr (Finset.filter_eq_empty_iff.mpr fun p hp =>
      hno p (Finset.mem_Ico.mp hp).1 (Finset.mem_Ico.mp hp).2)
    rw [h0, Nat.add_zero, ← hf]
    refine storeIdx_miss (F := F) (e := .i32) f _ _ _ h' y fun k hk hh => ?_
    obtain ⟨h1, -⟩ := (scan_last nw hnw hv _).mp hk
    have h2 : (y 0).val = (clip (F := F) v (lane 16 k)).toNat := hh 0
    rw [clip_toNat nw hnw hv] at h2
    have hk16 := k.isLt
    exact hno (b + ((lane 16 k : S16.Idx) 0).val) (Nat.le_add_right _ _) (Nat.add_lt_add_left hk16 b) (by omega)

/-- A lane's rank: small, and on a valid lane the points of its class met before it. -/
theorem rank_lane (hb : b ≤ 20480) (f : IVec S512 32) (hf : ∀ y, f y = BitVec.ofNat 32 (cnt (cls nw) (y 0).val 0 b))
    (h : ∀ a x, ((![clip (F := F) v] : Fin 1 → IVec S16 32) a x).toNat < S512.size a) (x : S16.Idx) :
    ∃ r, r ≤ 20496 ∧ k0_pay108 (F := F) v (clip (F := F) v) (loadIdx (F := F) (e := .i32) f ![clip (F := F) v] h) x = BitVec.ofNat 32 r
      ∧ (cls nw (b + (x 0).val) < 512 → r = cnt (cls nw) (cls nw (b + (x 0).val)) 0 (b + (x 0).val)) := by
  have hx16 : (x 0).val < 16 := (x 0).isLt
  have hval : k0_pay108 (F := F) v (clip (F := F) v) (loadIdx (F := F) (e := .i32) f ![clip (F := F) v] h) x
      = BitVec.ofNat 32 (cnt (cls nw) (min (cls nw (b + (x 0).val)) 511) 0 b) + (scanCount (valid (F := F) v) (clip (F := F) v)).2 x - 1#32 := by
    show f (idxAt ![clip (F := F) v] h x) + (scanCount (valid (F := F) v) (clip (F := F) v)).2 x - 1#32 = _
    rw [hf]
    congr 4
    exact clip_toNat (F := F) nw hnw hv x
  by_cases hx : cls nw (b + (x 0).val) < 512
  · refine ⟨_, (cnt_le _ _ _ _).trans (by omega : b + (x 0).val - 0 ≤ _), ?_, fun _ => rfl⟩
    rw [hval, scan_count nw hnw hv x hx, min_eq_left (by omega), ← BitVec.ofNat_add, cnt_add _ _ (Nat.zero_le _) (by omega),
      ← cnt_add (cls nw) (cls nw (b + (x 0).val)) (Nat.zero_le (b + (x 0).val)) (Nat.le_succ _)]
    have h1 : cnt (cls nw) (cls nw (b + (x 0).val)) (b + (x 0).val) (b + (x 0).val + 1) = 1 := by
      unfold cnt
      rw [Nat.Ico_succ_singleton, Finset.filter_singleton, if_pos rfl, Finset.card_singleton]
    rw [h1, BitVec.ofNat_add]
    exact BitVec.add_sub_cancel _ _
  · refine ⟨_, (cnt_le (cls nw) (min (cls nw (b + (x 0).val)) 511) 0 b).trans (by omega), ?_, fun h => absurd h hx⟩
    rw [hval]
    have h1 : (scanCount (valid (F := F) v) (clip (F := F) v)).2 x = 1#32 := by
      unfold scanCount
      dsimp only
      rw [if_neg fun hh => hx ((valid_iff nw hnw hv x).mp hh)]
      rfl
    rw [h1]
    exact BitVec.add_sub_cancel _ _

/-- The slot a lane writes: its class's 32 slots, at its rank. -/
theorem slot_toNat (r : ℕ) (hr : r ≤ 20496) (w : IVec S16 32) (x : S16.Idx)
    (h : k0_pay108 (F := F) v (clip (F := F) v) w x = BitVec.ofNat 32 r) :
    (k0_pay111 (F := F) v (clip (F := F) v) w x).toNat = 32 * min (cls nw (b + (x 0).val)) 511 + min r 31 := by
  show (clip (F := F) v x * 32#32 + IntOp.minsi (k0_pay108 (F := F) v (clip (F := F) v) w x) 31#32).toNat = _
  rw [h, BitVec.toNat_add, BitVec.toNat_mul, clip_toNat nw hnw hv,
    minsi_small _ _ (by rw [toNat_ofNat_small (by omega)]; omega) (by decide), toNat_ofNat_small (by omega)]
  show (min (cls nw (b + (x 0).val)) 511 * 32 % 2 ^ 32 + min (BitVec.ofNat 32 r).toNat 31) % 2 ^ 32 = _
  rw [toNat_ofNat_small (by omega)]
  omega

/-- The slots are slots of the table. -/
theorem slot_lt (hb : b ≤ 20480) (f : IVec S512 32) (hf : ∀ y, f y = BitVec.ofNat 32 (cnt (cls nw) (y 0).val 0 b))
    (h : ∀ a x, ((![clip (F := F) v] : Fin 1 → IVec S16 32) a x).toNat < S512.size a) (a : Fin 1) (x : S16.Idx) :
    ((![k0_pay111 (F := F) v (clip (F := F) v) (loadIdx (F := F) (e := .i32) f ![clip (F := F) v] h)] : Fin 1 → IVec S16 32) a x).toNat
      < S16384.size a := by
  obtain rfl : a = 0 := Subsingleton.elim _ _
  obtain ⟨r, hr, he, -⟩ := rank_lane nw hnw hv hb f hf h x
  show (k0_pay111 (F := F) v (clip (F := F) v) _ x).toNat < 16384
  rw [slot_toNat nw hnw hv r hr _ x he]; omega

/-- A lane writes exactly when its class is one of the table and its rank is under 32. -/
theorem slot_mask (hb : b ≤ 20480) (f : IVec S512 32) (hf : ∀ y, f y = BitVec.ofNat 32 (cnt (cls nw) (y 0).val 0 b))
    (h : ∀ a x, ((![clip (F := F) v] : Fin 1 → IVec S16 32) a x).toNat < S512.size a) (x : S16.Idx) :
    k0_pay110 (F := F) v (clip (F := F) v) (loadIdx (F := F) (e := .i32) f ![clip (F := F) v] h) x = 1
      ↔ cls nw (b + (x 0).val) < 512 ∧ cnt (cls nw) (cls nw (b + (x 0).val)) 0 (b + (x 0).val) < 32 := by
  obtain ⟨r, hr, he, hrv⟩ := rank_lane nw hnw hv hb f hf h x
  have hand : ∀ p q : BitVec 1, IntOp.andi p q = 1 ↔ p = 1 ∧ q = 1 := by decide
  show IntOp.andi (valid (F := F) v x) (IntOp.cmpi .slt (k0_pay108 (F := F) v (clip (F := F) v) _ x) 32#32) = 1 ↔ _
  rw [hand, valid_iff nw hnw hv, he, cmpi_slt_one _ _ (by rw [toNat_ofNat_small (by omega)]; omega) (by decide), toNat_ofNat_small (by omega)]
  exact and_congr_right fun hx => by rw [← hrv hx]; rfl

/-- A table of the selected positions up to a trip, after the trip's scatter of its positions: those past the trip. -/
theorem sel_step (hb : b ≤ 20480) (f : IVec S512 32) (hf : ∀ y, f y = BitVec.ofNat 32 (cnt (cls nw) (y 0).val 0 b))
    (h : ∀ a x, ((![clip (F := F) v] : Fin 1 → IVec S16 32) a x).toNat < S512.size a)
    (a : ℕ) (hab : a ≤ b) (ft : IVec S16384 32) (hft : ∀ y, ft y = BitVec.ofNat 32 (sel (cls nw) a b (y 0).val))
    (w : IVec S16 32) (hw : ∀ x, w x = BitVec.ofNat 32 (b + (x 0).val))
    (h' : ∀ a x, ((![k0_pay111 (F := F) v (clip (F := F) v) (loadIdx (F := F) (e := .i32) f ![clip (F := F) v] h)] : Fin 1 → IVec S16 32) a x).toNat
      < S16384.size a) (y : S16384.Idx) :
    storeIdx (F := F) (e := .i32) ft ![k0_pay111 (F := F) v (clip (F := F) v) (loadIdx (F := F) (e := .i32) f ![clip (F := F) v] h)] w
        (k0_pay110 (F := F) v (clip (F := F) v) (loadIdx (F := F) (e := .i32) f ![clip (F := F) v] h)) false h' y
      = BitVec.ofNat 32 (sel (cls nw) a (b + 16) (y 0).val) := by
  have hy : (y 0).val < 16384 := (y 0).isLt
  have hc : ∀ k : Fin 16, (b + ((lane 16 k : S16.Idx) 0).val) = b + k.val := fun _ => rfl
  by_cases hex : ∃ q, (b ≤ q ∧ q < b + 16) ∧ cls nw q = (y 0).val / 32 ∧ cnt (cls nw) ((y 0).val / 32) 0 q = (y 0).val % 32
  · obtain ⟨q, ⟨hq1, hq2⟩, hqc, hqr⟩ := hex
    have hq16 : q - b < 16 := by omega
    have hbq : b + ((lane 16 ⟨q - b, hq16⟩ : S16.Idx) 0).val = q := by
      show b + (q - b) = q; omega
    rw [sel_eq (cls nw) ⟨hab.trans hq1, hq2⟩ hqc hqr]
    have hat : ∀ a : Fin 1, (y a).val = ((![k0_pay111 (F := F) v (clip (F := F) v) (loadIdx (F := F) (e := .i32) f ![clip (F := F) v] h)]
        : Fin 1 → IVec S16 32) a (lane 16 ⟨q - b, hq16⟩)).toNat := fun a => by
      obtain rfl : a = 0 := Subsingleton.elim _ _
      obtain ⟨r, hr, he, hrv⟩ := rank_lane nw hnw hv hb f hf h (lane 16 ⟨q - b, hq16⟩)
      show (y 0).val = (k0_pay111 (F := F) v (clip (F := F) v) _ (lane 16 ⟨q - b, hq16⟩)).toNat
      rw [slot_toNat nw hnw hv r hr _ _ he, hrv (by rw [hbq]; omega), hbq, hqc, hqr]; omega
    rw [storeIdx_hit (F := F) (e := .i32) ft _ w _ h' y ⟨q - b, hq16⟩ ((slot_mask nw hnw hv hb f hf h _).mpr ⟨by rw [hbq]; omega, by rw [hbq, hqc, hqr]; omega⟩)
      hat fun k hk hm hh => by
        obtain ⟨h1, h2⟩ := (slot_mask nw hnw hv hb f hf h _).mp hm
        obtain ⟨r, hr, he, hrv⟩ := rank_lane nw hnw hv hb f hf h (lane 16 k)
        have h3 : (y 0).val = (k0_pay111 (F := F) v (clip (F := F) v) _ (lane 16 k)).toNat := hh 0
        rw [slot_toNat nw hnw hv r hr _ _ he, hrv h1] at h3
        rw [hc] at h1 h2 h3
        have hk' := Fin.lt_def.mp hk
        simp only at hk'
        have h4 : cls nw (b + k.val) = (y 0).val / 32 := by omega
        rw [h4] at h2 h3
        exact absurd (rank_inj (cls nw) _ h4 hqc (by omega)) (by omega), hw, hbq]
  · have hno : ∀ q, b ≤ q → q < b + 16 → cls nw q = (y 0).val / 32 → cnt (cls nw) ((y 0).val / 32) 0 q ≠ (y 0).val % 32 :=
      fun q h1 h2 h3 h4 => hex ⟨q, ⟨h1, h2⟩, h3, h4⟩
    rw [← sel_add (cls nw) (y 0).val hab (Nat.le_add_right b 16), sel_zero (cls nw) hno, Nat.add_zero, ← hft]
    refine storeIdx_miss (F := F) (e := .i32) ft _ _ _ h' y fun k hk hh => ?_
    obtain ⟨h1, h2⟩ := (slot_mask nw hnw hv hb f hf h _).mp hk
    obtain ⟨r, hr, he, hrv⟩ := rank_lane nw hnw hv hb f hf h (lane 16 k)
    have h3 : (y 0).val = (k0_pay111 (F := F) v (clip (F := F) v) _ (lane 16 k)).toNat := hh 0
    rw [slot_toNat nw hnw hv r hr _ _ he, hrv h1] at h3
    rw [hc] at h1 h2 h3
    have hk16 := k.isLt
    have h4 : cls nw (b + k.val) = (y 0).val / 32 := by omega
    rw [h4] at h2 h3
    exact hno (b + k.val) (by omega) (by omega) h4 (by omega)

end Trip

end Cert.KernelIdeal.Group

end
-- ==== Proof.Cells.lean ====
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.ShareLeaves
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Count

@[expose] public section

noncomputable section

/-! The launch's ghost state: the two meetings of the sixteen tiles at one barrier semaphore, and the escrows through
    which they hand one another what they computed. The barrier semaphore is used twice, and a tile that has left the
    first meeting may arrive at the second before a slower tile has arrived at the first; so a unit on the semaphore
    carries only a fact (which escrows are filled), and the data itself lies in escrows, one per tile and meeting, out
    of which every tile takes its part with a token of its own. -/

namespace Cert.KernelIdeal.Group

open Cert.KernelIdeal.Gen
open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The one call owns two stages, one for each meeting at the barrier. -/
@[reducible] def blocks : Blocks 1 2 where
  first := fun _ => 0
  last := fun _ => 1
  fst := fun k => if k = 0 then 0 else 2
  blk := fun _ ι => ∃ j, ι = some j
  first_le_last := fun _ => by decide
  fst_val := fun q => by obtain rfl : q = 0 := Subsingleton.elim _ _; rfl
  fst_le := fun k q h => by
    obtain rfl : q = 0 := Subsingleton.elim _ _
    obtain rfl : k = 0 := Nat.le_zero.mp h
    exact le_rfl
  last_lt_fst := fun q => by obtain rfl : q = 0 := Subsingleton.elim _ _; decide
  blk_iff := fun _ ι => ⟨fun ⟨j, h⟩ => ⟨j, Fin.le_def.mpr (Nat.zero_le _), Fin.le_def.mpr (Nat.le_of_lt_succ j.isLt), h⟩, fun ⟨j, _, _, h⟩ => ⟨j, h⟩⟩

attribute [local instance] blocks

/-! ## The resource algebra -/

abbrev DCI : Type := Dev nD × Fin τ.nSC × Fin τ.nSub
/-- An escrow: a tile's, for one of the two meetings. -/
abbrev EKey : Type := DCI × Fin 2
abbrev UH : Type := URounds (GSem nD τ sig) ℕ
abbrev UB : Type := URounds (GSem nD τ sig) ℕ
abbrev UE : Type := URounds EKey ℕ
abbrev UU : Type := UH × ((UB × UE) × Counters)

local notation "𝕄" => MT nD τ sig (HIx 2) (Elt F) ℕ UU ℕ

abbrev EH : Emb UH (MT nD τ sig (HIx 2) (Elt F) ℕ UU ℕ) := embL
/-- The barrier cells' rounds. -/
def EB : Emb UB (MT nD τ sig (HIx 2) (Elt F) ℕ UU ℕ) :=
  (((Emb.inl : Emb UB (UB × UE)).trans (Emb.inl : Emb (UB × UE) ((UB × UE) × Counters))).trans (Emb.inr : Emb ((UB × UE) × Counters) UU)).trans
    (uEmb (nD := nD) (sig := sig) (Ix := HIx 2) (Val := Elt F) (Name := ℕ) (U := UU) (Lvl := ℕ)).toEmb
/-- The escrows' rounds. -/
def EE : Emb UE (MT nD τ sig (HIx 2) (Elt F) ℕ UU ℕ) :=
  (((Emb.inr : Emb UE (UB × UE)).trans (Emb.inl : Emb (UB × UE) ((UB × UE) × Counters))).trans (Emb.inr : Emb ((UB × UE) × Counters) UU)).trans
    (uEmb (nD := nD) (sig := sig) (Ix := HIx 2) (Val := Elt F) (Name := ℕ) (U := UU) (Lvl := ℕ)).toEmb
instance EB_landsIn : (EB : Emb UB 𝕄).LandsIn (upEmb : UEmb _ 𝕄) := by unfold EB; infer_instance
instance EE_landsIn : (EE : Emb UE 𝕄).LandsIn (upEmb : UEmb _ 𝕄) := by unfold EE; infer_instance

/-! ## The escrows -/

section Escrow

variable (pay : EKey → Fin τ.nSub → sProp (MT nD τ sig (HIx 2) (Elt F) ℕ UU ℕ)) [∀ k j, BI.Storable (upEmb : UEmb _ (MT nD τ sig (HIx 2) (Elt F) ℕ UU ℕ)) (pay k j)]

/-- An escrow: empty, or holding for each tile its part or the token the tile took it with. -/
def escBody (k : EKey) : sProp 𝕄 :=
  iprop(∃ R : ℕ, roundAuth EE k R ∅ 0 ∗ (⌜R = 0⌝ ∨ (⌜R = 1⌝ ∗ bigSep Finset.univ fun j : Fin τ.nSub => iprop(pay k j ∨ dutyTok EE k 0 j.val))))

instance escBody_storable (k : EKey) : BI.Storable (upEmb : UEmb _ 𝕄) (escBody pay k) := by unfold escBody; infer_instance

/-- The owner of an escrow fills it; from then on everyone can know that it is filled. -/
theorem esc_deposit (κ : ℕ) (k : EKey) :
    iprop(inv κ (escBody pay k) ∗ atPos EE k 0 ∅ 0 ∗ bigSep Finset.univ fun j : Fin τ.nSub => pay k j) ⊢ iprop(|={Set.univ}=> (reached EE k 1 : sProp 𝕄)) := by
  iintro ⟨Hi, Hat, Hp⟩
  imod (inv_acc (Set.mem_univ κ)) $$ Hi with ⟨Hb, Hclose⟩
  unfold escBody
  icases Hb with ⟨%R, Ha, -⟩
  ihave H := (persistent_entails_right (roundAuth_atPos_agree EE)) $$ [Ha Hat]
  · isplitl [Ha] <;> iassumption
  icases H with ⟨%h, Ha, Hat⟩
  obtain ⟨rfl, -⟩ := h
  imod (roundAuth_atPos_move EE (g := k) (R := 0) (C := ∅) (m := 0) 1 ∅ 0 (by omega)) $$ [Ha Hat] with ⟨Ha, -⟩
  · isplitl [Ha] <;> iassumption
  imod (roundAuth_witness EE) $$ Ha with ⟨Ha, Hr⟩
  ihave Hc := Hclose $$ [Ha Hp]
  · iexists 1
    isplitl [Ha]; · iexact Ha
    iright
    isplitr; · ipureintro; rfl
    iapply (SparseCore.ent (bigSep_mono (Φ := fun j : Fin τ.nSub => pay k j) (Ψ := fun j => iprop(pay k j ∨ dutyTok EE k 0 j.val)) fun j _ => BI.BIClass.or_intro_l (P := pay k j) (Q := dutyTok EE k 0 j.val)))
    iexact Hp
  imod Hc
  imodintro
  iexact Hr

/-- A tile takes its part of a filled escrow with its token. -/
theorem esc_claim (κ : ℕ) (k : EKey) (j : Fin τ.nSub) :
    iprop(inv κ (escBody pay k) ∗ reached EE k 1 ∗ dutyTok EE k 0 j.val) ⊢ iprop(|={Set.univ}=> (pay k j : sProp 𝕄)) := by
  iintro ⟨Hi, Hr, Ht⟩
  imod (inv_acc (Set.mem_univ κ)) $$ Hi with ⟨Hb, Hclose⟩
  unfold escBody
  icases Hb with ⟨%R, Ha, Hb⟩
  ihave H := (persistent_entails_right (roundAuth_reached_le EE)) $$ [Ha Hr]
  · isplitl [Ha] <;> iassumption
  icases H with ⟨%h, Ha, -⟩
  icases Hb with (%h0 | ⟨%h1, Hb⟩)
  · omega
  ihave Hb := (Entails.of_eq (SparseCore.bigSep_erase' (Φ := fun j : Fin τ.nSub => (iprop(pay k j ∨ dutyTok EE k 0 j.val) : sProp 𝕄)) (Finset.mem_univ j))) $$ Hb
  icases Hb with ⟨(Hp | Ht'), Hrest⟩
  · ihave Hc := Hclose $$ [Ha Hrest Ht]
    · iexists R
      isplitl [Ha]; · iexact Ha
      iright
      isplitr; · ipureintro; exact h1
      iapply (Entails.of_eq (SparseCore.bigSep_erase' (Φ := fun j : Fin τ.nSub => (iprop(pay k j ∨ dutyTok EE k 0 j.val) : sProp 𝕄)) (Finset.mem_univ j)).symm)
      isplitl [Ht]; · iright; iexact Ht
      iexact Hrest
    imod Hc
    imodintro
    iexact Hp
  · iexfalso
    iapply (dutyTok_dutyTok_false EE)
    isplitl [Ht] <;> iassumption

end Escrow

/-! ## The barrier cells -/

abbrev bcell (d : Dev nD) (c : Fin τ.nSC) (j : Fin τ.nSub) : GSem nD τ sig := (V d c j, .reg sc_bar0)

theorem sc_bar0_ne_go : (sc_bar0 : Sem sig) ≠ sc_go := by decide

def isBar (g : GSem nD τ sig) : Bool :=
  match g with
  | ((_, .scVector _ _), sm) => decide (sm = .reg sc_bar0)
  | _ => false

@[simp] theorem isBar_bcell (d : Dev nD) (c : Fin τ.nSC) (j : Fin τ.nSub) : isBar (bcell d c j) = true := by simp [isBar]

/-- The tile a duty is of: duty `16 ph + i` is tile `i`'s at meeting `ph`. -/
def dutyTile (n : ℕ) : Fin τ.nSub := ⟨n % 16, Nat.mod_lt _ (by decide)⟩

/-- Every tile's escrow of the first meeting is filled. -/
abbrev filled0 (d : Dev nD) (c : Fin τ.nSC) : sProp 𝕄 := bigSep Finset.univ fun k : Fin τ.nSub => reached EE ((d, c, k), 0) 1

/-- What an arrival tells: at the first meeting, that the arriving tile's escrow is filled; at the second, that all of the
    first meeting's are, and the arriving tile's second one. -/
def bPay (g : GSem nD τ sig) (n : ℕ) : sProp 𝕄 :=
  match g with
  | ((d, .scVector c _), _) =>
    if n < 16 then reached EE ((d, c, dutyTile n), 0) 1 else iprop(filled0 d c ∗ reached EE ((d, c, dutyTile n), 1) 1)
  | _ => iprop(emp)

/-- The barrier cells' schedule: one round of thirty-two unit duties, each tile's two arrivals. -/
def bRd : Rounds.Schedule (GSem nD τ sig) ℕ 𝕄 where
  duties g r := if isBar g ∧ r = 0 then Finset.range 32 else ∅
  amount _ _ _ := 1
  payload g _ n := bPay g n
  amount_pos _ _ _ _ := Nat.one_pos

instance bPay_persistent (g : GSem nD τ sig) (n : ℕ) : BI.Persistent (bPay (F := F) g n) := by
  unfold bPay
  rcases g with ⟨⟨d, _ | c | ⟨c, i⟩⟩, sm⟩ <;> dsimp only <;> (repeat' split) <;> infer_instance

instance bRd_payload_storable (g : GSem nD τ sig) (r n : ℕ) : BI.Storable (upEmb : UEmb _ 𝕄) ((bRd (F := F)).payload g r n) := by
  show BI.Storable upEmb (bPay g n)
  unfold bPay
  rcases g with ⟨⟨d, _ | c | ⟨c, i⟩⟩, sm⟩ <;> dsimp only <;> (repeat' split) <;> infer_instance

theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F)).duties (bcell d c j) 0 = Finset.range 32 := by
  simp [bRd, isBar]
theorem bRd_duties_succ (g : GSem nD τ sig) (r : ℕ) (hr : 1 ≤ r) : (bRd (F := F)).duties g r = ∅ :=
  if_neg fun h => absurd h.2 (Nat.ne_of_gt hr)
theorem bRd_expect (d : Dev nD) (c : Fin τ.nSC) (j : Fin τ.nSub) : (bRd (F := F)).expect (bcell d c j) 0 = 32 := by
  unfold Rounds.Schedule.expect; rw [bRd_duties₀]
  show ∑ x ∈ Finset.range 32, 1 = 32
  rw [Finset.sum_const, Finset.card_range]; rfl

/-- The duty of tile `i` at meeting `ph`. -/
abbrev duty (ph : Fin 2) (i : Fin τ.nSub) : ℕ := 16 * ph.val + i.val
theorem duty_mem (d : Dev nD) (c : Fin τ.nSC) (j : Fin τ.nSub) (ph : Fin 2) (i : Fin τ.nSub) : duty ph i ∈ (bRd (F := F)).duties (bcell d c j) 0 := by
  rw [bRd_duties₀, Finset.mem_range]
  have h1 := ph.isLt; have h2 : i.val < 16 := i.isLt
  show 16 * ph.val + i.val < 32; omega

/-- What a tile owes for one meeting: a unit on every tile's cell. -/
def oxPh (d : Dev nD) (c : Fin τ.nSC) (ph : Fin 2) : CellTallies nD τ sig (HIx 2) := ∑ j : Fin (grid0.bound 1), tallyAt (bcell d c (j.castLE hsub0)) (some ph) 1
/-- What it owes for both. -/
def oxV (d : Dev nD) (c : Fin τ.nSC) : CellTallies nD τ sig (HIx 2) := oxPh d c 1 + oxPh d c 0

theorem oxPh_none (d : Dev nD) (c : Fin τ.nSC) (ph : Fin 2) (g : GSem nD τ sig) : oxPh d c ph g none = 0 := by
  unfold oxPh
  rw [Finset.sum_apply, Finsupp.finsetSum_apply]
  exact Finset.sum_eq_zero fun j _ => by rw [tallyAt_apply, if_neg (fun e => nomatch e.2)]

theorem oxPh_apply_pos {d : Dev nD} {c : Fin τ.nSC} {ph : Fin 2} {g : GSem nD τ sig} {ι : HIx 2} (h : 0 < oxPh d c ph g ι) :
    ∃ j : Fin (grid0.bound 1), g = bcell d c (j.castLE hsub0) ∧ ι = some ph := by
  unfold oxPh at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

theorem oxV_none (d : Dev nD) (c : Fin τ.nSC) (g : GSem nD τ sig) : oxV d c g none = 0 := by
  unfold oxV; rw [Pi.add_apply, Finsupp.add_apply, oxPh_none, oxPh_none]

theorem oxV_apply_pos {d : Dev nD} {c : Fin τ.nSC} {g : GSem nD τ sig} {ι : HIx 2} (h : 0 < oxV d c g ι) :
    ∃ (j : Fin (grid0.bound 1)) (ph : Fin 2), g = bcell d c (j.castLE hsub0) ∧ ι = some ph := by
  unfold oxV at h
  rw [Pi.add_apply, Finsupp.add_apply] at h
  rcases Nat.eq_zero_or_pos (oxPh d c 1 g ι) with h1 | h1
  · rw [h1, zero_add] at h
    obtain ⟨j, h⟩ := oxPh_apply_pos h; exact ⟨j, 0, h⟩
  · obtain ⟨j, h⟩ := oxPh_apply_pos h1; exact ⟨j, 1, h⟩

/-! ## The two meetings -/

section Meet

variable [FloatOps F] {α : Type} (d : Dev nD) (c : Fin τ.nSC) (i : Fin τ.nSub)

theorem bPay_arrive0 (j : Fin τ.nSub) : (bPay (bcell d c j) (duty 0 i) : sProp 𝕄) = reached EE ((d, c, i), 0) 1 := by
  have h2 : i.val < 16 := i.isLt
  unfold bPay duty dutyTile; dsimp only
  have e : ((⟨(16 * ((0 : Fin 2) : ℕ) + i.val) % 16, Nat.mod_lt _ (by decide)⟩ : Fin τ.nSub)) = i := Fin.ext (by
    show (16 * 0 + i.val) % 16 = i.val; omega)
  rw [if_pos (by show 16 * 0 + i.val < 16; omega), e]

theorem bPay_arrive1 (j : Fin τ.nSub) : (bPay (bcell d c j) (duty 1 i) : sProp 𝕄) = iprop(filled0 d c ∗ reached EE ((d, c, i), 1) 1) := by
  have h2 : i.val < 16 := i.isLt
  unfold bPay duty dutyTile; dsimp only
  rw [if_neg (by show ¬ 16 * 1 + i.val < 16; omega)]
  have e : ((⟨(16 * ((1 : Fin 2) : ℕ) + i.val) % 16, Nat.mod_lt _ (by decide)⟩ : Fin τ.nSub)) = i := Fin.ext (by
    show (16 * 1 + i.val) % 16 = i.val; omega)
  rw [e]

/-- A tile's arrival at a meeting: a unit on every tile's barrier semaphore, telling `P`. -/
theorem wp_arrive {Q : α → sProp 𝕄} (κ : GSem nD τ sig → ℕ) (ph : Fin 2) (Pf : sProp 𝕄) [BI.Persistent Pf] (hPf : ∀ j, Pf ⊢ (bPay (bcell d c j) (duty ph i) : sProp 𝕄))
    (O : CellTallies nD τ sig (HIx 2)) (W : Waits sig (HIx 2)) (k : PUnit → Prog (TpuEff nD τ sig (Elt F) Λ₀ (.scVector c i)) α) :
    iprop((bigSep Finset.univ fun j : Fin τ.nSub => cellInv EB (bRd (F := F)) (κ (bcell d c j)) (bcell d c j))
        ∗ Pf ∗ (bigSep Finset.univ fun j : Fin τ.nSub => reached EB (bcell d c j) 0)
        ∗ owes (V d c i) (O + oxPh d c ph) W
        ∗ (bigSep Finset.univ fun j : Fin τ.nSub => dutyTok EB (bcell d c j) 0 (duty ph i)))
      ⊢ iprop((owes (V d c i) O W -∗ wp frame (wpE (defs₀ (F := F)) 𝒱₀ (V d c i) none) Set.univ (.op (TpuEff.semWait sc_bar0 (grid0.bound 1)) k) Q)
        -∗ wp frame (wpE (defs₀ (F := F)) 𝒱₀ (V d c i) none) Set.univ (SparseCore.subcoreBarrier sc_bar0 (grid0.bound 1) hsub0 >>= k) Q) := by
  classical
  rw [SparseCore.subcoreBarrier_bind, show (wp frame (wpE (defs₀ (F := F)) 𝒱₀ (V d c i) none) Set.univ (.op .deviceId _) Q : sProp 𝕄) = _ from wp_deviceId 𝒱₀ (V d c i) none Set.univ]
  have hsig : ∀ l : List (Fin (grid0.bound 1)), l.Nodup →
      iprop((bigSep Finset.univ fun j : Fin τ.nSub => cellInv EB (bRd (F := F)) (κ (bcell d c j)) (bcell d c j))
          ∗ Pf ∗ (bigSep Finset.univ fun j : Fin τ.nSub => reached EB (bcell d c j) 0)
          ∗ owes (V d c i) (O + ∑ j ∈ l.toFinset, tallyAt (bcell d c (j.castLE hsub0)) (some ph) 1) W
          ∗ (bigSep l.toFinset fun j : Fin (grid0.bound 1) => dutyTok EB (bcell d c (j.castLE hsub0)) 0 (duty ph i))
          ∗ (owes (V d c i) O W -∗ wp frame (wpE (defs₀ (F := F)) 𝒱₀ (V d c i) none) Set.univ (.op (TpuEff.semWait sc_bar0 (grid0.bound 1)) k) Q))
        ⊢ wp frame (wpE (defs₀ (F := F)) 𝒱₀ (V d c i) none) Set.univ
            (l.foldr (fun j r => .op (TpuEff.semSignal (d, .scVector c (j.castLE hsub0)) sc_bar0 1) fun _ => r) (.op (TpuEff.semWait sc_bar0 (grid0.bound 1)) k)) Q := by
    intro l hl
    induction l with
    | nil =>
      rw [List.toFinset_nil, List.foldr_nil, Finset.sum_empty, add_zero]
      iintro ⟨-, -, -, HO, -, Hk⟩; iapply Hk; iexact HO
    | cons j l ih =>
      rw [List.toFinset_cons, List.foldr_cons]
      have hj : j ∉ l.toFinset := fun h => (List.nodup_cons.mp hl).1 (List.mem_toFinset.mp h)
      rw [SparseCore.bigSep_insert' hj, Finset.sum_insert hj]
      iintro ⟨#Hinv, #Hpf, #Hr, HO, ⟨Htok, Htoks⟩, Hk⟩
      iapply (Rounds.wp_signal 𝒱₀ EB (bRd (F := F)) (V d c i) none (dst := V d c (j.castLE hsub0)) (sem := sc_bar0) (r := 0) (d := duty ph i) (k' := 1)
          (κ := κ (bcell d c (j.castLE hsub0))) (duty_mem d c _ ph i) rfl (some ph)
          (O₀ := O + (tallyAt (bcell d c (j.castLE hsub0)) (some ph) 1 + ∑ j ∈ l.toFinset, tallyAt (bcell d c (j.castLE hsub0)) (some ph) 1))
          (O + ∑ j ∈ l.toFinset, tallyAt (bcell d c (j.castLE hsub0)) (some ph) 1)
          (by rw [add_comm (tallyAt _ _ _) _, ← add_assoc]) (W := W)) $$ [HO Htok]
      · isplitr
        · iapply (SparseCore.ent (BI.bigSep_elim (Φ := fun j : Fin τ.nSub => (cellInv EB (bRd (F := F)) (κ (bcell d c j)) (bcell d c j) : sProp 𝕄)) (Finset.mem_univ (j.castLE hsub0)))) $$ Hinv
        isplitl [HO]; · iexact HO
        isplitl [Htok]; · iexact Htok
        isplitr
        · iapply (show Pf ⊢ ((bRd (F := F)).payload (bcell d c (j.castLE hsub0)) 0 (duty ph i) : sProp 𝕄) from hPf (j.castLE hsub0)) $$ Hpf
        iapply (SparseCore.ent (BI.bigSep_elim (Φ := fun j : Fin τ.nSub => (reached EB (bcell d c j) 0 : sProp 𝕄)) (Finset.mem_univ (j.castLE hsub0)))) $$ Hr
      iintro HO
      iapply (ih (List.nodup_cons.mp hl).2)
      isplitr; · iexact Hinv
      isplitr; · iexact Hpf
      isplitr; · iexact Hr
      isplitl [HO]; · iexact HO
      isplitl [Htoks] <;> iassumption
  have := hsig (List.finRange (grid0.bound 1)) (List.nodup_finRange _)
  rw [List.toFinset_finRange] at this
  iintro ⟨#Hinv, #Hpf, #Hr, HO, Htoks⟩ Hk
  iapply this
  isplitr; · iexact Hinv
  isplitr; · iexact Hpf
  isplitr; · iexact Hr
  isplitl [HO]; · unfold oxPh; iexact HO
  isplitl [Htoks]; · iexact Htoks
  iexact Hk

/-- What a tile has from the duties `S` its semaphore has taken. -/
abbrev taken (S : Finset ℕ) : sProp 𝕄 := bigSep S fun n => bPay (bcell d c i) n

/-- Sixteen of the thirty-two arrivals tell that every tile's first escrow is filled. -/
theorem filled0_of_taken (S : Finset ℕ) (hS : S ⊆ Finset.range 32) (hc : 16 ≤ S.card) : taken d c i S ⊢ (filled0 d c : sProp 𝕄) := by
  by_cases h : ∃ n ∈ S, 16 ≤ n
  · obtain ⟨n, hn, h16⟩ := h
    refine (SparseCore.ent (bigSep_elim (Φ := fun n => bPay (F := F) (bcell d c i) n) hn)).trans ?_
    unfold bPay; dsimp only
    rw [if_neg (by omega)]
    exact sep_elim_left
  · have hs : S = Finset.range 16 := Finset.eq_of_subset_of_card_le (fun n hn => Finset.mem_range.mpr (by
      by_contra h'; exact h ⟨n, hn, by omega⟩)) (by rw [Finset.card_range]; exact hc)
    subst hs
    refine bigSep_intro_persistent (S := (Finset.univ : Finset (Fin τ.nSub))) (R := taken d c i (Finset.range 16)) fun k _ => ?_
    · have hk : k.val < 16 := k.isLt
      refine (SparseCore.ent (bigSep_elim (Φ := fun n => bPay (F := F) (bcell d c i) n) (i := k.val) (Finset.mem_range.mpr hk))).trans ?_
      refine Entails.of_eq ?_
      rw [← bPay_arrive0 d c k i]; simp [duty]

/-- All thirty-two tell of the second ones too. -/
theorem filled1_of_taken (k : Fin τ.nSub) : taken d c i (Finset.range 32) ⊢ (reached EE ((d, c, k), 1) 1 : sProp 𝕄) := by
  have hk : k.val < 16 := k.isLt
  refine (SparseCore.ent (bigSep_elim (Φ := fun n => bPay (F := F) (bcell d c i) n) (i := duty 1 k) (Finset.mem_range.mpr (by show 16 * 1 + k.val < 32; omega)))).trans ?_
  rw [bPay_arrive1]
  exact sep_elim_right

/-- At the second meeting's end a tile may know both that every first and every second escrow is filled. -/
abbrev filled1 (d : Dev nD) (c : Fin τ.nSC) : sProp 𝕄 := bigSep Finset.univ fun k : Fin τ.nSub => reached EE ((d, c, k), 1) 1

variable (pay : EKey → Fin τ.nSub → sProp (MT nD τ sig (HIx 2) (Elt F) ℕ UU ℕ)) [∀ k j, BI.Storable (upEmb : UEmb _ (MT nD τ sig (HIx 2) (Elt F) ℕ UU ℕ)) (pay k j)]

/-- What every tile knows: the barrier cells' invariants and the escrows', and that every barrier cell's round is open. -/
abbrev known (κ : GSem nD τ sig → ℕ) (κE : EKey → ℕ) : sProp 𝕄 :=
  iprop((bigSep Finset.univ fun j : Fin τ.nSub => cellInv EB (bRd (F := F)) (κ (bcell d c j)) (bcell d c j))
    ∗ (bigSep Finset.univ fun k : Fin τ.nSub => bigSep Finset.univ fun ph : Fin 2 => inv (κE ((d, c, k), ph)) (escBody pay ((d, c, k), ph)))
    ∗ bigSep Finset.univ fun j : Fin τ.nSub => reached EB (bcell d c j) 0)

/-- One escrow's invariant. -/
theorem known_inv (κ : GSem nD τ sig → ℕ) (κE : EKey → ℕ) (k : Fin τ.nSub) (ph : Fin 2) :
    known d c pay κ κE ⊢ (inv (κE ((d, c, k), ph)) (escBody pay ((d, c, k), ph)) : sProp 𝕄) :=
  sep_elim_right.trans (sep_elim_left.trans ((SparseCore.ent (bigSep_elim
    (Φ := fun k : Fin τ.nSub => (bigSep Finset.univ fun ph : Fin 2 => inv (κE ((d, c, k), ph)) (escBody pay ((d, c, k), ph)) : sProp 𝕄)) (Finset.mem_univ k))).trans
      (SparseCore.ent (bigSep_elim (Φ := fun ph : Fin 2 => (inv (κE ((d, c, k), ph)) (escBody pay ((d, c, k), ph)) : sProp 𝕄)) (Finset.mem_univ ph)))))

/-- A tile takes its part out of every tile's escrow of one meeting. -/
theorem claim_all (κ : GSem nD τ sig → ℕ) (κE : EKey → ℕ) (ph : Fin 2) :
    iprop((known d c pay κ κE ∗ bigSep Finset.univ fun k : Fin τ.nSub => reached EE ((d, c, k), ph) 1)
        ∗ bigSep Finset.univ fun k : Fin τ.nSub => dutyTok EE ((d, c, k), ph) 0 i.val)
      ⊢ iprop(|={Set.univ}=> ((bigSep Finset.univ fun k : Fin τ.nSub => pay ((d, c, k), ph) i) : sProp 𝕄)) :=
  (bigSep_with_persistent (fun k _ => show iprop((known d c pay κ κE ∗ bigSep Finset.univ fun k : Fin τ.nSub => reached EE ((d, c, k), ph) 1)
      ∗ dutyTok EE ((d, c, k), ph) 0 i.val) ⊢ iprop(|={Set.univ}=> (pay ((d, c, k), ph) i : sProp 𝕄)) from by
    iintro ⟨⟨#Hk, #Hr⟩, Ht⟩
    iapply (esc_claim pay (κE ((d, c, k), ph)) ((d, c, k), ph) i)
    isplitr; · iapply (known_inv d c pay κ κE k ph); iexact Hk
    isplitr; · iapply (SparseCore.ent (bigSep_elim (Φ := fun k : Fin τ.nSub => (reached EE ((d, c, k), ph) 1 : sProp 𝕄)) (Finset.mem_univ k))); iexact Hr
    iexact Ht)).trans (bigSep_fupd _ _)

/-- THE FIRST MEETING. A tile fills its escrow, arrives, waits, and takes its part of every tile's escrow. -/
theorem wp_meet0 {Q : α → sProp 𝕄} (κ : GSem nD τ sig → ℕ) (κE : EKey → ℕ)
    (O : CellTallies nD τ sig (HIx 2)) (W : Waits sig (HIx 2)) (k : PUnit → Prog (TpuEff nD τ sig (Elt F) Λ₀ (.scVector c i)) α) :
    iprop(known d c pay κ κE
        ∗ owes (V d c i) (O + oxPh d c 0) W ∗ MayWait (V d c i) (.reg sc_bar0) (some 0) O
        ∗ (bigSep Finset.univ fun j : Fin τ.nSub => dutyTok EB (bcell d c j) 0 (duty 0 i))
        ∗ cred (tallyAt (bcell d c i) (some 0) (grid0.bound 1)) ∗ atPos EB (bcell d c i) 0 ∅ 0
        ∗ atPos EE ((d, c, i), 0) 0 ∅ 0 ∗ (bigSep Finset.univ fun k : Fin τ.nSub => dutyTok EE ((d, c, k), 0) 0 i.val)
        ∗ bigSep Finset.univ fun j : Fin τ.nSub => pay ((d, c, i), 0) j)
      ⊢ iprop((∀ S : Finset ℕ, (⌜S ⊆ Finset.range 32⌝ ∗ owes (V d c i) O (W ∪ {(SemLoc.reg sc_bar0, some 0)}) ∗ atPos EB (bcell d c i) 0 S 16 ∗ taken d c i S ∗ filled0 d c
            ∗ bigSep Finset.univ fun k : Fin τ.nSub => pay ((d, c, k), 0) i)
          -∗ wp frame (wpE (defs₀ (F := F)) 𝒱₀ (V d c i) none) Set.univ (k ⟨⟩) Q)
        -∗ wp frame (wpE (defs₀ (F := F)) 𝒱₀ (V d c i) none) Set.univ (SparseCore.subcoreBarrier sc_bar0 (grid0.bound 1) hsub0 >>= k) Q) := by
  iintro ⟨#Hkn, HO, Hmw, Htoks, Hcred, Hat, HatE, HtokE, Hpay⟩ Hk
  imod (esc_deposit pay (κE ((d, c, i), 0)) ((d, c, i), 0)) $$ [HatE Hpay] with #Hfull
  · isplitr; · iapply (known_inv d c pay κ κE i 0); iexact Hkn
    isplitl [HatE]; · iexact HatE
    iexact Hpay
  iapply (wp_arrive d c i κ 0 (reached EE ((d, c, i), 0) 1) (fun j => Entails.of_eq (bPay_arrive0 d c i j).symm) O W k) $$ [HO Htoks]
  · isplitr; · iapply (show known d c pay κ κE ⊢ _ from sep_elim_left); iexact Hkn
    isplitr; · iexact Hfull
    isplitr; · iapply (show known d c pay κ κE ⊢ _ from sep_elim_right.trans sep_elim_right); iexact Hkn
    isplitl [HO] <;> iassumption
  iintro HO
  iapply (Rounds.wp_wait 𝒱₀ EB (bRd (F := F)) (V d c i) none (sm := .reg sc_bar0) (k' := grid0.bound 1) (κ := κ (bcell d c i))
      (wpE_semWait_eq 𝒱₀ (V d c i) none Set.univ) (Set.mem_univ _) (cr := Finsupp.single (some 0) (grid0.bound 1)) (O := O) (W := W)
      {(SemLoc.reg sc_bar0, some 0)} (R := 0) (m := 0) (T := ∅) (by rw [Util.total_single]) (image_single_subset _ _ _)) $$ [Hcred HO Hmw Hat]
  · isplitr
    · iapply (show known d c pay κ κE ⊢ cellInv EB (bRd (F := F)) (κ (bcell d c i)) (bcell d c i) from sep_elim_left.trans (SparseCore.ent (bigSep_elim
        (Φ := fun j : Fin τ.nSub => (cellInv EB (bRd (F := F)) (κ (bcell d c j)) (bcell d c j) : sProp 𝕄)) (Finset.mem_univ i)))); iexact Hkn
    isplitl [Hcred]; · iexact Hcred
    isplitl [HO]; · iexact HO
    isplitl [Hmw] <;> iassumption
  iintro %S ⟨%hS, HO, Hat, Htk⟩
  obtain ⟨-, hS1, hS2⟩ := hS
  have hsub : S ⊆ Finset.range 32 := by rw [bRd_duties₀] at hS1; exact hS1
  have hcard : 16 ≤ S.card := by
    rw [bRd_duties₀, bRd_expect, Finset.card_sdiff_of_subset hsub, Finset.card_range] at hS2
    have := Finset.card_le_card hsub; rw [Finset.card_range] at this
    have h16 : grid0.bound 1 = 16 := rfl
    rw [h16] at hS2
    omega
  ihave #Htk' := (show bigSep (S \ ∅) (fun n => (bRd (F := F)).payload (bcell d c i) 0 n) ⊢ taken d c i S from Entails.of_eq (by rw [Finset.sdiff_empty]; rfl)) $$ Htk
  ihave #Hf0 := (filled0_of_taken d c i S hsub hcard) $$ Htk'
  imod (claim_all d c i pay κ κE 0) $$ [HtokE] with Hgot
  · isplitr
    · isplitr; · iexact Hkn
      iexact Hf0
    iexact HtokE
  iapply Hk $$ %S
  isplitr; · ipureintro; exact hsub
  isplitl [HO]; · iexact HO
  isplitl [Hat]; · iexact Hat
  isplitr; · iexact Htk'
  isplitr; · iexact Hf0
  iexact Hgot

/-- THE SECOND MEETING. The same, after which the tile's barrier semaphore is its own again, at zero. -/
theorem wp_meet1 {Q : α → sProp 𝕄} (κ : GSem nD τ sig → ℕ) (κE : EKey → ℕ) (S : Finset ℕ) (hS : S ⊆ Finset.range 32)
    (O : CellTallies nD τ sig (HIx 2)) (W : Waits sig (HIx 2)) (k : PUnit → Prog (TpuEff nD τ sig (Elt F) Λ₀ (.scVector c i)) α) :
    iprop(known d c pay κ κE
        ∗ owes (V d c i) (O + oxPh d c 1) W ∗ MayWait (V d c i) (.reg sc_bar0) (some 1) O
        ∗ (bigSep Finset.univ fun j : Fin τ.nSub => dutyTok EB (bcell d c j) 0 (duty 1 i))
        ∗ cred (tallyAt (bcell d c i) (some 1) (grid0.bound 1)) ∗ atPos EB (bcell d c i) 0 S 16 ∗ taken d c i S ∗ filled0 d c
        ∗ atPos EE ((d, c, i), 1) 0 ∅ 0 ∗ (bigSep Finset.univ fun k : Fin τ.nSub => dutyTok EE ((d, c, k), 1) 0 i.val)
        ∗ bigSep Finset.univ fun j : Fin τ.nSub => pay ((d, c, i), 1) j)
      ⊢ iprop(((owes (V d c i) O (insert (SemLoc.reg sc_bar0, some 1) W) ∗ semVal (bcell d c i) 0
            ∗ bigSep Finset.univ fun k : Fin τ.nSub => pay ((d, c, k), 1) i)
          -∗ wp frame (wpE (defs₀ (F := F)) 𝒱₀ (V d c i) none) Set.univ (k ⟨⟩) Q)
        -∗ wp frame (wpE (defs₀ (F := F)) 𝒱₀ (V d c i) none) Set.univ (SparseCore.subcoreBarrier sc_bar0 (grid0.bound 1) hsub0 >>= k) Q) := by
  iintro ⟨#Hkn, HO, Hmw, Htoks, Hcred, Hat, #Htk, #Hf0, HatE, HtokE, Hpay⟩ Hk
  imod (esc_deposit pay (κE ((d, c, i), 1)) ((d, c, i), 1)) $$ [HatE Hpay] with #Hfull
  · isplitr; · iapply (known_inv d c pay κ κE i 1); iexact Hkn
    isplitl [HatE]; · iexact HatE
    iexact Hpay
  iapply (wp_arrive d c i κ 1 iprop(filled0 d c ∗ reached EE ((d, c, i), 1) 1) (fun j => Entails.of_eq (bPay_arrive1 d c i j).symm) O W k) $$ [HO Htoks]
  · isplitr; · iapply (show known d c pay κ κE ⊢ _ from sep_elim_left); iexact Hkn
    isplitr
    · isplitr; · iexact Hf0
      iexact Hfull
    isplitr; · iapply (show known d c pay κ κE ⊢ _ from sep_elim_right.trans sep_elim_right); iexact Hkn
    isplitl [HO] <;> iassumption
  iintro HO
  ihave #Hci := (show known d c pay κ κE ⊢ cellInv EB (bRd (F := F)) (κ (bcell d c i)) (bcell d c i) from sep_elim_left.trans (SparseCore.ent (bigSep_elim
        (Φ := fun j : Fin τ.nSub => (cellInv EB (bRd (F := F)) (κ (bcell d c j)) (bcell d c j) : sProp 𝕄)) (Finset.mem_univ i)))) $$ Hkn
  iapply (Rounds.wp_wait_rest_token 𝒱₀ EB (bRd (F := F)) (V d c i) none (sm := .reg sc_bar0) (k' := grid0.bound 1) (κ := κ (bcell d c i))
      (wpE_semWait_eq 𝒱₀ (V d c i) none Set.univ) (Set.mem_univ _) (some 1) (O := O) (W := W) (R := 0) (m := 16) (T := S) (by rw [bRd_expect]; rfl)) $$ [Hcred HO Hmw Hat]
  · isplitr; · iexact Hci
    isplitl [Hcred]; · iexact Hcred
    isplitl [HO]; · iexact HO
    isplitl [Hmw] <;> iassumption
  iintro ⟨HO, Hat, -, Hrest⟩
  imod (Rounds.cell_close EB (bRd (F := F)) (g := bcell d c i) (κ := κ (bcell d c i)) (Set.mem_univ _) (fun h => h) (bRd_duties_succ _)) $$ [Hat] with Hbar
  · isplitr; · iexact Hci
    iexact Hat
  ihave #Hall := (show iprop(taken d c i S ∗ bigSep ((bRd (F := F)).duties (bcell d c i) 0 \ S) (fun n => (bRd (F := F)).payload (bcell d c i) 0 n)) ⊢ taken d c i (Finset.range 32) from by
      rw [bRd_duties₀]
      conv_rhs => unfold taken; rw [← Finset.union_sdiff_of_subset hS]
      exact Entails.of_eq (bigSep_union (Finset.disjoint_sdiff)).symm) $$ [Hrest]
  · isplitr; · iexact Htk
    iexact Hrest
  ihave #Hf1 := (bigSep_intro_persistent (S := (Finset.univ : Finset (Fin τ.nSub))) (R := taken d c i (Finset.range 32)) fun k _ => filled1_of_taken (F := F) d c i k) $$ Hall
  imod (claim_all d c i pay κ κE 1) $$ [HtokE] with Hgot
  · isplitr
    · isplitr; · iexact Hkn
      iexact Hf1
    iexact HtokE
  iapply Hk
  isplitl [HO]; · iexact HO
  isplitl [Hbar]; · iexact Hbar
  iexact Hgot

end Meet

end Cert.KernelIdeal.Group

end
-- ==== Proof.Launch.lean ====
module

public import proofs.«01_k».proof.Proof.Cells

@[expose] public section

noncomputable section

/-! What the call takes, what each tile of it takes and brings back, and how the launch splits the one into the other. -/

namespace Cert.KernelIdeal.Group

open Cert.KernelIdeal.Gen
open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf)

attribute [local instance] blocks

variable {F : FTy → Type}

local notation "𝕄" => MT nD τ sig (HIx 2) (Elt F) ℕ UU ℕ

/-! ## The contents -/

/-- The call's operands: each point's class, the points' coordinates, the centres' coordinates. -/
structure Con (F : FTy → Type) where
  near : Vec F S20480 .i32
  px : Vec F S20480 .f32
  py : Vec F S20480 .f32
  cx : Vec F S512 .f32
  cy : Vec F S512 .f32

/-- The index of a vector's element of a number (taken modulo the vector's length). -/
abbrev ix1 (n : ℕ) [NeZero n] (p : ℕ) : (⟨1, ![n]⟩ : Shape).Idx := lane n (Fin.ofNat n p)

namespace Con

/-- Point `p`'s class, as a word. -/
def nw (C : Con F) (p : ℕ) : BitVec 32 := C.near (ix1 20480 p)
/-- How many points class `c` has. -/
def count (C : Con F) (c : ℕ) : ℕ := cnt (cls C.nw) c 0 20480
/-- The point in slot `s`: the one of class `s / 32` that has `s % 32` points of the class before it. -/
def slot (C : Con F) (s : ℕ) : ℕ := sel (cls C.nw) 0 20480 s
/-- The point that fills a class's slots from its count on. -/
def last (C : Con F) (c : ℕ) : ℕ := C.slot (32 * c + (min (C.count c) 32 - 1))
/-- The point that class `c`'s slot `k` names. -/
def pick (C : Con F) (c k : ℕ) : ℕ := min 19999 (if k < min (C.count c) 32 then C.slot (32 * c + k) else C.last c)

/-- The tiles' histograms: row `w` counts the classes of the points `1280 w … 1280 w + 1279`. -/
def hist (C : Con F) : Vec F S16x512 .i32 :=
  fun x => BitVec.ofNat 32 (cnt (cls C.nw) (x 1).val (1280 * (x 0).val) (1280 * (x 0).val + 1280))
/-- The tiles' selections: row `w` holds the points of its range that are selected, each in its slot, and zero elsewhere. -/
def sels (C : Con F) : Vec F S16x16384 .i32 :=
  fun x => BitVec.ofNat 32 (sel (cls C.nw) (1280 * (x 0).val) (1280 * (x 0).val + 1280) (x 1).val)

variable [FloatOps F]

/-- The relative coordinate in slot `k` of class `c`. -/
def rel (C : Con F) (p : Vec F S20480 .f32) (cc : Vec F S512 .f32) (c k : ℕ) : F .f32 :=
  if C.count c = 0 then
    if k = 0 then Scalar.ofBits .f32 0x00000000#32 else Scalar.subf (Scalar.ofBits .f32 0x00000000#32) (cc (ix1 512 c))
  else FloatOps.subf (p (ix1 20480 (C.pick c k))) (cc (ix1 512 c))

/-- The call's two results. -/
def relx (C : Con F) : Vec F S16384 .f32 := fun x => C.rel C.px C.cx ((x 0).val / 32) ((x 0).val % 32)
def rely (C : Con F) : Vec F S16384 .f32 := fun x => C.rel C.py C.cy ((x 0).val / 32) ((x 0).val % 32)

end Con

/-! ## The buffers -/

abbrev nearLoc (d : Dev nD) : Loc nD τ sig := (SparseCore.T d).loc main_v3
abbrev pxLoc (d : Dev nD) : Loc nD τ sig := (SparseCore.T d).loc main_v6
abbrev pyLoc (d : Dev nD) : Loc nD τ sig := (SparseCore.T d).loc main_v9
abbrev cxLoc (d : Dev nD) : Loc nD τ sig := (SparseCore.T d).loc main_v11
abbrev cyLoc (d : Dev nD) : Loc nD τ sig := (SparseCore.T d).loc main_v13
abbrev oxLoc (d : Dev nD) : Loc nD τ sig := (SparseCore.T d).loc main_v14_0
abbrev oyLoc (d : Dev nD) : Loc nD τ sig := (SparseCore.T d).loc main_v14_1
/-- The two shared scratches of a SparseCore. -/
abbrev histRef (c : Fin τ.nSC) : DevRef τ sig := ⟨.shared, ⟨0, by decide⟩, c⟩
abbrev selRef (c : Fin τ.nSC) : DevRef τ sig := ⟨.shared, ⟨1, by decide⟩, c⟩
abbrev histLoc (d : Dev nD) (c : Fin τ.nSC) : Loc nD τ sig := (d, histRef c)
abbrev selLoc (d : Dev nD) (c : Fin τ.nSC) : Loc nD τ sig := (d, selRef c)

/-- Row `i` of the shared histograms, of the shared selections; a tile's columns of those; a tile's part of a result. -/
abbrev rowH (i : Fin τ.nSub) : Finset S16x512.Idx := Finset.univ.filter fun x => (x 0).val = i.val
abbrev rowS (i : Fin τ.nSub) : Finset S16x16384.Idx := Finset.univ.filter fun x => (x 0).val = i.val
abbrev colS (j : Fin τ.nSub) : Finset S16x16384.Idx := Finset.univ.filter fun x => (x 1).val / 1024 = j.val
abbrev outS (i : Fin τ.nSub) : Finset S16384.Idx := Finset.univ.filter fun x => (x 0).val / 1024 = i.val

/-- Tile `i`'s read share of what every tile reads. -/
abbrev lf (i : Fin τ.nSub) : PosShare TreeShare := leaf 4 fullShare ⟨i.val, i.isLt⟩

theorem pts_leaves {ℓ : Loc nD τ sig} (I : Finset (Idx ℓ)) (f : Buf (Elt F) ℓ) :
    (ℓ ↦[I]{fullShare} f : sProp 𝕄) = bigSep Finset.univ fun i : Fin τ.nSub => ℓ ↦[I]{lf i} f :=
  ShareLeaves.pointsTo_leaves I f 4 fullShare

/-- A region cut by a key into sixteen. -/
theorem pts_split {ℓ : Loc nD τ sig} (I : Finset (Idx ℓ)) (key : Idx ℓ → ℕ) (hk : ∀ x, key x < 16) (q : PosShare TreeShare) (f : Buf (Elt F) ℓ) :
    (ℓ ↦[I]{q} f : sProp 𝕄) = bigSep Finset.univ fun i : Fin τ.nSub => ℓ ↦[I.filter fun x => key x = i.val]{q} f := by
  classical
  rw [← pointsTo_biUnion Finset.univ (ℓ := ℓ) (fun i : Fin τ.nSub => I.filter fun x => key x = i.val)]
  · congr 1
    ext x
    simp only [Finset.mem_biUnion, Finset.mem_univ, true_and, Finset.mem_filter]
    exact ⟨fun h => ⟨⟨key x, hk x⟩, h, rfl⟩, fun ⟨_, h, _⟩ => h⟩
  · intro i _ j _ hij
    refine Finset.disjoint_left.mpr fun x hx hx' => hij (Fin.ext ?_)
    rw [← (Finset.mem_filter.mp hx).2, ← (Finset.mem_filter.mp hx').2]

/-! ## What goes through the escrows -/

variable (C : Dev nD → Con F)

/-- Tile `k`'s escrow of the first meeting: a share of its row of the histograms for every tile; of the second: every
    tile's columns of its row of the selections. -/
def pay (k : EKey) (j : Fin τ.nSub) : sProp 𝕄 :=
  if k.2 = 0 then histLoc k.1.1 k.1.2.1 ↦[rowH k.1.2.2]{lf j} (C k.1.1).hist
  else selLoc k.1.1 k.1.2.1 ↦[(rowS k.1.2.2).filter fun x => (x 1).val / 1024 = j.val]{fullShare} (C k.1.1).sels

instance pay_storable (k : EKey) (j : Fin τ.nSub) : BI.Storable (upEmb : UEmb _ 𝕄) (pay C k j) := by
  unfold pay; split <;> infer_instance

/-- A tile's row of the histograms, for everyone. -/
theorem pay0_row (d : Dev nD) (c : Fin τ.nSC) (i : Fin τ.nSub) :
    (bigSep Finset.univ fun j : Fin τ.nSub => pay C ((d, c, i), 0) j) = (histLoc d c ↦[rowH i]{fullShare} (C d).hist : sProp 𝕄) := by
  rw [pts_leaves]; rfl

/-- Everyone's rows of the histograms, at one tile's share. -/
theorem pay0_all (d : Dev nD) (c : Fin τ.nSC) (j : Fin τ.nSub) :
    (bigSep Finset.univ fun i : Fin τ.nSub => pay C ((d, c, i), 0) j) = (histLoc d c ↦{lf j} (C d).hist : sProp 𝕄) := by
  rw [pts_split (ℓ := histLoc d c) Finset.univ (fun x : S16x512.Idx => (x 0).val) (fun x => (x 0).isLt)]; rfl

/-- A tile's row of the selections, cut into everyone's columns. -/
theorem pay1_row (d : Dev nD) (c : Fin τ.nSC) (i : Fin τ.nSub) :
    (bigSep Finset.univ fun j : Fin τ.nSub => pay C ((d, c, i), 1) j) = (selLoc d c ↦[rowS i]{fullShare} (C d).sels : sProp 𝕄) := by
  rw [pts_split (ℓ := selLoc d c) (rowS i) (fun x : S16x16384.Idx => (x 1).val / 1024) (fun x => by
    have : (x 1).val < 16384 := (x 1).isLt
    omega)]; rfl

/-- Everyone's rows of the selections, in one tile's columns. -/
theorem pay1_all (d : Dev nD) (c : Fin τ.nSC) (j : Fin τ.nSub) :
    (bigSep Finset.univ fun i : Fin τ.nSub => pay C ((d, c, i), 1) j) = (selLoc d c ↦[colS j]{fullShare} (C d).sels : sProp 𝕄) := by
  rw [pts_split (ℓ := selLoc d c) (colS j) (fun x : S16x16384.Idx => (x 0).val) (fun x => (x 0).isLt)]
  refine bigSep_congr fun i _ => ?_
  have h : ((colS j).filter fun x => (x 0).val = i.val) = (rowS i).filter (fun x => (x 1).val / 1024 = j.val) := Finset.filter_comm _ _ _
  exact congrArg (fun I => (selLoc d c ↦[I]{fullShare} (C d).sels : sProp 𝕄)) h.symm

/-! ## What the launch deals each tile -/

/-- Tile `(c, i)`'s part of the ghost state: what everyone knows; its arrival tokens at both meetings, the credit for its own
    waits, its position; its two escrows' positions and its tokens in everyone's. -/
def bkit (d : Dev nD) (c : Fin τ.nSC) (i : Fin τ.nSub) : sProp 𝕄 :=
  iprop((∃ (κ : GSem nD τ sig → ℕ) (κE : EKey → ℕ), known d c (pay C) κ κE)
    ∗ (bigSep Finset.univ fun ph : Fin 2 => bigSep Finset.univ fun j : Fin τ.nSub => dutyTok EB (bcell d c j) 0 (duty ph i))
    ∗ (bigSep Finset.univ fun ph : Fin 2 => cred (tallyAt (bcell d c i) (some ph) (grid0.bound 1)))
    ∗ atPos EB (bcell d c i) 0 ∅ 0
    ∗ (bigSep Finset.univ fun ph : Fin 2 => atPos EE ((d, c, i), ph) 0 ∅ 0)
    ∗ bigSep Finset.univ fun ph : Fin 2 => bigSep Finset.univ fun k : Fin τ.nSub => dutyTok EE ((d, c, k), ph) 0 i.val)

variable [FloatOps F] (m : (ℓ : Loc nD τ sig) → Buf (Elt F) ℓ)

/-- The operands at a share. -/
abbrev ins (d : Dev nD) (q : PosShare TreeShare) : sProp 𝕄 :=
  iprop((nearLoc d ↦{q} (C d).near) ∗ (pxLoc d ↦{q} (C d).px) ∗ (pyLoc d ↦{q} (C d).py) ∗ (cxLoc d ↦{q} (C d).cx) ∗ cyLoc d ↦{q} (C d).cy)

/-- What a tile is handed: a share of the operands, its part of the results, its row of each shared scratch. -/
abbrev goP (d : Dev nD) (c : Fin τ.nSC) (i : Fin τ.nSub) : sProp 𝕄 :=
  iprop(ins C d (lf i) ∗ (oxLoc d ↦[outS i]{fullShare} m (oxLoc d)) ∗ (oyLoc d ↦[outS i]{fullShare} m (oyLoc d))
    ∗ (∃ f, histLoc d c ↦[rowH i]{fullShare} f) ∗ ∃ f, selLoc d c ↦[rowS i]{fullShare} f)
/-- What it hands back: the operands' share, its part of the results written, a share of the histograms, its columns of the
    selections. -/
abbrev tdP (d : Dev nD) (c : Fin τ.nSC) (i : Fin τ.nSub) : sProp 𝕄 :=
  iprop(ins C d (lf i) ∗ (oxLoc d ↦[outS i]{fullShare} (C d).relx) ∗ (oyLoc d ↦[outS i]{fullShare} (C d).rely)
    ∗ (histLoc d c ↦{lf i} (C d).hist) ∗ selLoc d c ↦[colS i]{fullShare} (C d).sels)

/-- The barrier semaphores at zero. -/
abbrev bars (d : Dev nD) (c : Fin ((K (F := F)).nCore 0)) : sProp 𝕄 :=
  bigSep Finset.univ fun i : Fin ((K (F := F)).nSub 0) => semVal (bcell d (coreOf c) ((K (F := F)).sub 0 i)) 0

/-- What the call takes and brings back. -/
abbrev stP (d : Dev nD) : sProp 𝕄 := iprop(ins C d fullShare ∗ (oxLoc d ↦{fullShare} m (oxLoc d)) ∗ oyLoc d ↦{fullShare} m (oyLoc d))
abbrev dnP (d : Dev nD) : sProp 𝕄 := iprop(ins C d fullShare ∗ (oxLoc d ↦{fullShare} (C d).relx) ∗ oyLoc d ↦{fullShare} (C d).rely)

set_option backward.proofsInPublic true in
/-- The call's payloads. -/
def P : (K (F := F)).Pay (N := 2) (nD := nD) (Val := Elt F) (Name := ℕ) (U := UU) where
  st := fun q d _ => match q with | 0 => stP C m d
  dn := fun q d c => match q with | 0 => iprop(dnP C d ∗ bars d c)
  go := fun q d c i => match q with
    | 0 => goP C m d (coreOf c) ((K (F := F)).sub 0 i)
  td := fun q d c i => match q with
    | 0 => iprop(tdP C d (coreOf c) ((K (F := F)).sub 0 i) ∗ semVal (bcell d (coreOf c) ((K (F := F)).sub 0 i)) 0)
  x := fun _ thr => match thr with
    | (d, .scVector c i) => if c.val < 1 then bkit C d c i else iprop(emp)
    | _ => iprop(emp)
  ox := fun _ thr => match thr with
    | (d, .scVector c _) => if c.val < 1 then oxV d c else 0
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      split at h
      · obtain ⟨j, ph, rfl, rfl⟩ := oxV_apply_pos h
        rw [(K (F := F)).lev_V_reg d c (j.castLE hsub0) (show (sc_bar0 : Sem sig) ≠ (K (F := F)).go from sc_bar0_ne_go)]
        have h2 := ph.isLt
        show 8 * 0 + 3 ≤ 8 * ph.val + 3 ∧ 8 * ph.val + 3 ≤ 8 * 1 + 5
        omega
      · exact absurd h (lt_irrefl 0)
  ox_tc := fun _ _ => rfl
  ox_sc := fun _ _ _ h => absurd rfl h
  ox_vc := by
    intro q d c i h
    obtain rfl : q = 0 := Subsingleton.elim _ _
    dsimp only at h
    split at h
    · next hc => exact ⟨rfl, hc, i.isLt⟩
    · exact absurd rfl h

instance P_storable : (P C m).IsStorable where
  st q d _ := match q with
    | 0 => (inferInstance : BI.Storable (upEmb : UEmb _ 𝕄) (stP C m d))
  dn q d c := match q with
    | 0 => (inferInstance : BI.Storable (upEmb : UEmb _ 𝕄) iprop(dnP C d ∗ bars d c))
  go q d c i := match q with
    | 0 => (inferInstance : BI.Storable (upEmb : UEmb _ 𝕄) (goP C m d (coreOf c) ((K (F := F)).sub 0 i)))
  td q d c i := match q with
    | 0 => (inferInstance : BI.Storable (upEmb : UEmb _ 𝕄) iprop(tdP C d (coreOf c) ((K (F := F)).sub 0 i) ∗ semVal (bcell d (coreOf c) ((K (F := F)).sub 0 i)) 0))

/-! ## The operands split over the tiles, and the results gathered -/

/-- The two shared scratches are among the sequencer's own buffers. -/
theorem ownBufs_S (d : Dev nD) (c : Fin τ.nSC) :
    (ownBufs (S d c) : sProp 𝕄)
      = iprop((∃ f, histLoc d c ↦{fullShare} f) ∗ (∃ f, selLoc d c ↦{fullShare} f)
          ∗ bigSep (((ownRefs (τ := τ) (.scScalar c)).erase (histRef c)).erase (selRef c)) fun b => iprop(∃ f, ((d, b) : Loc nD τ sig) ↦{fullShare} f)) := by
  unfold SparseCore.Cfg.ownBufs
  have h : histRef c ∈ ownRefs (τ := τ) (sig := sig) (.scScalar c) := (mem_ownRefs (p := Proc.scScalar c) (b := histRef c)).mpr rfl
  have h' : selRef c ∈ (ownRefs (τ := τ) (sig := sig) (.scScalar c)).erase (histRef c) :=
    Finset.mem_erase.mpr ⟨fun e => by
      have := congrArg (fun b : DevRef τ sig => b.idx.val) e
      exact absurd this (by decide : ¬ (1 : ℕ) = 0), (mem_ownRefs (p := Proc.scScalar c) (b := selRef c)).mpr rfl⟩
  rw [SparseCore.bigSep_erase' h, SparseCore.bigSep_erase' h']

theorem bigSep_tasks (Φ : Fin τ.nSub → sProp 𝕄) :
    (bigSep Finset.univ fun i : Fin ((K (F := F)).nSub 0) => Φ ((K (F := F)).sub 0 i)) = bigSep Finset.univ Φ :=
  bigSep_congr (I := Fin 16) fun i _ => congrArg Φ (Fin.ext rfl)

theorem ins_leaves (d : Dev nD) : (ins C d fullShare : sProp 𝕄) = bigSep Finset.univ fun i : Fin τ.nSub => ins C d (lf i) := by
  unfold ins
  rw [bigSep_sep', bigSep_sep', bigSep_sep', bigSep_sep', ← pts_leaves, ← pts_leaves, ← pts_leaves, ← pts_leaves, ← pts_leaves]

theorem out_lt (x : S16384.Idx) : (x 0).val / 1024 < 16 := by
  have : (x 0).val < 16384 := (x 0).isLt
  omega

theorem ox_rows (d : Dev nD) (f : Buf (Elt F) (oxLoc d)) :
    (oxLoc d ↦{fullShare} f : sProp 𝕄) = bigSep Finset.univ fun i : Fin τ.nSub => oxLoc d ↦[outS i]{fullShare} f :=
  pts_split (ℓ := oxLoc d) Finset.univ (fun x : S16384.Idx => (x 0).val / 1024) out_lt _ _
theorem oy_rows (d : Dev nD) (f : Buf (Elt F) (oyLoc d)) :
    (oyLoc d ↦{fullShare} f : sProp 𝕄) = bigSep Finset.univ fun i : Fin τ.nSub => oyLoc d ↦[outS i]{fullShare} f :=
  pts_split (ℓ := oyLoc d) Finset.univ (fun x : S16384.Idx => (x 0).val / 1024) out_lt _ _
theorem hist_rows (d : Dev nD) (c : Fin τ.nSC) (f : Buf (Elt F) (histLoc d c)) :
    (histLoc d c ↦{fullShare} f : sProp 𝕄) = bigSep Finset.univ fun i : Fin τ.nSub => histLoc d c ↦[rowH i]{fullShare} f :=
  pts_split (ℓ := histLoc d c) Finset.univ (fun x : S16x512.Idx => (x 0).val) (fun x => (x 0).isLt) _ _
theorem sel_rows (d : Dev nD) (c : Fin τ.nSC) (f : Buf (Elt F) (selLoc d c)) :
    (selLoc d c ↦{fullShare} f : sProp 𝕄) = bigSep Finset.univ fun i : Fin τ.nSub => selLoc d c ↦[rowS i]{fullShare} f :=
  pts_split (ℓ := selLoc d c) Finset.univ (fun x : S16x16384.Idx => (x 0).val) (fun x => (x 0).isLt) _ _
theorem sel_cols (d : Dev nD) (c : Fin τ.nSC) (f : Buf (Elt F) (selLoc d c)) :
    (selLoc d c ↦{fullShare} f : sProp 𝕄) = bigSep Finset.univ fun i : Fin τ.nSub => selLoc d c ↦[colS i]{fullShare} f :=
  pts_split (ℓ := selLoc d c) Finset.univ (fun x : S16x16384.Idx => (x 1).val / 1024) (fun x => by
    have : (x 1).val < 16384 := (x 1).isLt
    omega) _ _

theorem go_all (d : Dev nD) (c : Fin τ.nSC) :
    (bigSep Finset.univ fun i : Fin τ.nSub => goP C m d c i : sProp 𝕄)
      = iprop(ins C d fullShare ∗ (oxLoc d ↦{fullShare} m (oxLoc d)) ∗ (oyLoc d ↦{fullShare} m (oyLoc d))
        ∗ (bigSep Finset.univ fun i : Fin τ.nSub => iprop(∃ f, histLoc d c ↦[rowH i]{fullShare} f))
        ∗ bigSep Finset.univ fun i : Fin τ.nSub => iprop(∃ f, selLoc d c ↦[rowS i]{fullShare} f)) := by
  rw [ins_leaves, ox_rows, oy_rows, ← bigSep_sep', ← bigSep_sep', ← bigSep_sep', ← bigSep_sep']

theorem td_all (d : Dev nD) (c : Fin τ.nSC) :
    (bigSep Finset.univ fun i : Fin τ.nSub => tdP C d c i : sProp 𝕄)
      = iprop(ins C d fullShare ∗ (oxLoc d ↦{fullShare} (C d).relx) ∗ (oyLoc d ↦{fullShare} (C d).rely)
        ∗ (histLoc d c ↦{fullShare} (C d).hist) ∗ selLoc d c ↦{fullShare} (C d).sels) := by
  rw [ins_leaves, ox_rows, oy_rows, sel_cols, pts_leaves, ← bigSep_sep', ← bigSep_sep', ← bigSep_sep', ← bigSep_sep']

theorem vecSplit : (K (F := F)).VecSplit (P C m) 0 := by
  intro d c
  show iprop(stP C m d ∗ ownBufs (S d (coreOf c))) ⊢ |={Set.univ}=> iprop(
      (bigSep Finset.univ fun i : Fin ((K (F := F)).nSub 0) => goP C m d (coreOf c) ((K (F := F)).sub 0 i))
      ∗ ((bigSep Finset.univ fun i : Fin ((K (F := F)).nSub 0) => iprop(tdP C d (coreOf c) ((K (F := F)).sub 0 i) ∗ semVal (bcell d (coreOf c) ((K (F := F)).sub 0 i)) 0))
          -∗ iprop(iprop(dnP C d ∗ bars d c) ∗ ownBufs (S d (coreOf c)))))
  rw [bigSep_sep' _ (fun i : Fin ((K (F := F)).nSub 0) => tdP C d (coreOf c) ((K (F := F)).sub 0 i)),
    bigSep_tasks (F := F) (fun i => goP C m d (coreOf c) i), bigSep_tasks (F := F) (fun i => tdP C d (coreOf c) i), ownBufs_S]
  rw [go_all, td_all]
  iintro ⟨⟨Hin, Hox, Hoy⟩, ⟨%fh, Hh⟩, ⟨%fs, Hs⟩, Hrest⟩; imodintro
  isplitl [Hin Hox Hoy Hh Hs]
  · isplitl [Hin]; · iexact Hin
    isplitl [Hox]; · iexact Hox
    isplitl [Hoy]; · iexact Hoy
    isplitl [Hh]
    · iapply ((Entails.of_eq (hist_rows d (coreOf c) fh)).trans (SparseCore.ent (bigSep_mono fun i _ =>
        BI.BIClass.exists_intro (Φ := fun f => (histLoc d (coreOf c) ↦[rowH i]{fullShare} f : sProp 𝕄)) fh)))
      iexact Hh
    iapply ((Entails.of_eq (sel_rows d (coreOf c) fs)).trans (SparseCore.ent (bigSep_mono fun i _ =>
        BI.BIClass.exists_intro (Φ := fun f => (selLoc d (coreOf c) ↦[rowS i]{fullShare} f : sProp 𝕄)) fs)))
    iexact Hs
  iintro ⟨⟨Hin, Hox, Hoy, Hh, Hs⟩, Hbars⟩
  isplitl [Hin Hox Hoy Hbars]
  · isplitr [Hbars]; swap; · iexact Hbars
    isplitl [Hin]; · iexact Hin
    isplitl [Hox] <;> iassumption
  isplitl [Hh]; · iexists _; iexact Hh
  isplitl [Hs]; · iexists _; iexact Hs
  iexact Hrest

end Cert.KernelIdeal.Group

end
-- ==== Proof.CenterProg.lean ====
module

public import proofs.«01_k».proof.Proof.Gen.KernelIdeal.Skeleton

@[expose] public section

noncomputable section

/-! The work on one centre, written once for any centre: the thirty-two centres of a tile are this text at thirty-two
    numerals. -/

namespace Cert.KernelIdeal.Group

open Idealize.ShloMosaic Idealize.SL.Sem
open Cert.KernelIdeal.Facts₀ Cert.KernelIdeal.Facts

variable {F : FTy → Type} [FloatOps F]

/-- The first lane of a vector of words. -/
def head (v : IVec S16 32) : BitVec 32 := extractAt ![0] (extractStridedSlice S1 ![0] v slices_S16_o0_S1) inpos_S1_p0

/-- The index vector of a centre's count: sixteen times the same class. -/
def cntIdx (arg1 : BitVec 32) (v3 : IVec S16 32) (c : BitVec 32) : IVec S16 32 :=
  addi (addi v3 (broadcast S16 (Scalar.muli arg1 32#32))) (broadcast S16 c)

/-- The index vector of a centre's last selected point. -/
def lastIdx (v3 : IVec S16 32) (cb : BitVec 32) (cnt : BitVec 32) : IVec S16 32 :=
  addi (addi v3 (broadcast S16 cb)) (broadcast S16 (Scalar.maxsi (Scalar.subi (Scalar.minsi cnt 32#32) 1#32) 0#32))

/-- The points a half of a centre's slots names: the selected ones below the count, the last one from there on, clipped
    to the table. -/
def selIdx (v4 : IVec S16 32) (kb : BitVec 32) (cnt last : BitVec 32) (s : IVec S16 32) : IVec S16 32 :=
  minsi (broadcast S16 19999#32) (maxsi (broadcast S16 0#32)
    (select (cmpi .slt (addi v4 (broadcast S16 kb)) (broadcast S16 (Scalar.minsi cnt 32#32))) s (broadcast S16 last)))

/-- The relative coordinates of a half of a centre's slots. -/
def relVal (v4 : IVec S16 32) (kb : BitVec 32) (cnt : BitVec 32) (cx : F .f32) (g : FVec F S16 .f32) : FVec F S16 .f32 :=
  select (andi (broadcast S16 (Scalar.cmpi .eq cnt 0#32)) (cmpi .eq (addi v4 (broadcast S16 kb)) (broadcast S16 0#32)))
    (broadcast S16 (Scalar.ofBits .f32 0x00000000#32))
    (Scalar.select (Scalar.cmpi .eq cnt 0#32) (broadcast S16 (Scalar.subf (Scalar.ofBits .f32 0x00000000#32) cx))
      (subf g (broadcast S16 cx)))

/-- One half of a centre: sixteen selected points read, their coordinates gathered and the two rows of relative
    coordinates stored. -/
def half (i : grid0.Coords) (arg16 : Memref sig .scVector .vmem S1024 .i32) (arg17 arg18 : Memref sig .scVector .vmem S20480 .f32)
    (arg21 arg22 : Memref sig .scVector .vmem S1024 .f32) (v4 : IVec S16 32) (kb : BitVec 32) (off : Nat)
    (hoff : ∀ a, (![off] : Fin 1 → Nat) a + S16.size a ≤ S1024.size a) (cnt last : BitVec 32) (cx cy : F .f32)
    (k : Prog (TpuEff nD τ sig (Elt F) Λ₀ (.scVector ((i 0).castLE hcore0) ((i 1).castLE hsub0))) PUnit) :
    Prog (TpuEff nD τ sig (Elt F) Λ₀ (.scVector ((i 0).castLE hcore0) ((i 1).castLE hsub0))) PUnit :=
  .op (.load arg16 (Rect.unit (s := S1024) ![off] S16.size hoff).toLoadRect (View.loadsAt_vmem h_S16)) fun (s : Vec F S16 .i32) =>
  .op (.assume (k0_chk6 (selIdx v4 kb cnt last s)) (k0_chk6.dec _)) fun w =>
  SparseCore.vectorLoadIdx arg17 ![selIdx v4 kb cnt last s] (k0_idx8_inb _ w.down) (View.loads_vmem h_S20480) >>= fun gx =>
  SparseCore.vectorLoadIdx arg18 ![selIdx v4 kb cnt last s] (k0_idx9_inb _ w.down) (View.loads_vmem h_S20480) >>= fun gy =>
  .op (.load arg21 (Rect.unit (s := S1024) ![off] S16.size hoff).toLoadRect (View.loadsAt_vmem h_S16)) fun _ =>
  .op (.store arg21 (Rect.unit (s := S1024) ![off] S16.size hoff) (relVal v4 kb cnt cx gx) Finset.univ
    (View.stores_vmem_bits_univ h_S16 rfl) (.inl rfl)) fun _ =>
  .op (.load arg22 (Rect.unit (s := S1024) ![off] S16.size hoff).toLoadRect (View.loadsAt_vmem h_S16)) fun _ =>
  .op (.store arg22 (Rect.unit (s := S1024) ![off] S16.size hoff) (relVal v4 kb cnt cy gy) Finset.univ
    (View.stores_vmem_bits_univ h_S16 rfl) (.inl rfl)) fun _ => k

/-- One centre after its count's index vector has been checked. -/
def centerRest (i : grid0.Coords) (arg13 : Memref sig .scVector .vmem S512 .i32)
    (arg16 : Memref sig .scVector .vmem S1024 .i32) (arg17 arg18 : Memref sig .scVector .vmem S20480 .f32)
    (arg21 arg22 : Memref sig .scVector .vmem S1024 .f32) (arg1 : BitVec 32) (v3 v4 : IVec S16 32)
    (c cb : BitVec 32) (o0 o1 : Nat) (h0 : ∀ a, (![o0] : Fin 1 → Nat) a + S16.size a ≤ S1024.size a)
    (h1 : ∀ a, (![o1] : Fin 1 → Nat) a + S16.size a ≤ S1024.size a) (cx cy : F .f32) (w : k0_chk4 (cntIdx arg1 v3 c))
    (k : Prog (TpuEff nD τ sig (Elt F) Λ₀ (.scVector ((i 0).castLE hcore0) ((i 1).castLE hsub0))) PUnit) :
    Prog (TpuEff nD τ sig (Elt F) Λ₀ (.scVector ((i 0).castLE hcore0) ((i 1).castLE hsub0))) PUnit :=
  SparseCore.vectorLoadIdx arg13 ![cntIdx arg1 v3 c] (k0_idx6_inb _ w) (View.loads_vmem h_S512) >>= fun cv =>
  .op (.assume (k0_chk5 (lastIdx v3 cb (head cv))) (k0_chk5.dec _)) fun w' =>
  SparseCore.vectorLoadIdx arg16 ![lastIdx v3 cb (head cv)] (k0_idx7_inb _ w'.down) (View.loads_vmem h_S1024) >>= fun lv =>
  half i arg16 arg17 arg18 arg21 arg22 v4 0#32 o0 h0 (head cv) (head lv) cx cy <|
  half i arg16 arg17 arg18 arg21 arg22 v4 16#32 o1 h1 (head cv) (head lv) cx cy k

end Cert.KernelIdeal.Group

end
-- ==== Proof.Tile.lean ====
module

public import proofs.«01_k».proof.Proof.Launch
public import proofs.«01_k».proof.Proof.CenterProg

@[expose] public section

noncomputable section

/-! A tile's buffers and semaphores, and the steps its work is made of. -/

namespace Cert.KernelIdeal.Group

open Cert.KernelIdeal.Gen
open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type}

local notation "𝕄" => MT nD τ sig (HIx 2) (Elt F) ℕ UU ℕ

/-! ## The tile's buffers -/

abbrev nearV : Memref sig .scVector .hbm S20480 .i32 := Memref.whole main_v3_scv
abbrev ptxV : Memref sig .scVector .hbm S20480 .f32 := Memref.whole main_v6_scv
abbrev ptyV : Memref sig .scVector .hbm S20480 .f32 := Memref.whole main_v9_scv
abbrev cenxV : Memref sig .scVector .hbm S512 .f32 := Memref.whole main_v11_scv
abbrev cenyV : Memref sig .scVector .hbm S512 .f32 := Memref.whole main_v13_scv
abbrev outxV : Memref sig .scVector .hbm S16384 .f32 := Memref.whole main_v14_0_scv
abbrev outyV : Memref sig .scVector .hbm S16384 .f32 := Memref.whole main_v14_1_scv
abbrev a9 : Memref sig .scVector .vmem S1280 .i32 := Memref.whole cc0_scratch0
abbrev a10 : Memref sig .scVector .vmem S512 .i32 := Memref.whole cc0_scratch1
abbrev a11 : Memref sig .scVector .vmem S16x512 .i32 := Memref.whole cc0_scratch2
abbrev a12 : Memref sig .scVector .vmem S512 .i32 := Memref.whole cc0_scratch3
abbrev a13 : Memref sig .scVector .vmem S512 .i32 := Memref.whole cc0_scratch4
abbrev a14 : Memref sig .scVector .vmem S16384 .i32 := Memref.whole cc0_scratch5
abbrev a15 : Memref sig .scVector .vmem S16x1024 .i32 := Memref.whole cc0_scratch6
abbrev a16 : Memref sig .scVector .vmem S1024 .i32 := Memref.whole cc0_scratch7
abbrev a17 : Memref sig .scVector .vmem S20480 .f32 := Memref.whole cc0_scratch8
abbrev a18 : Memref sig .scVector .vmem S20480 .f32 := Memref.whole cc0_scratch9
abbrev a19 : Memref sig .scVector .vmem S32 .f32 := Memref.whole cc0_scratch10
abbrev a20 : Memref sig .scVector .vmem S32 .f32 := Memref.whole cc0_scratch11
abbrev a21 : Memref sig .scVector .vmem S1024 .f32 := Memref.whole cc0_scratch12
abbrev a22 : Memref sig .scVector .vmem S1024 .f32 := Memref.whole cc0_scratch13
abbrev a23 : Memref sig .scVector .shared S16x512 .i32 := Memref.whole cc0_scratch14
abbrev a24 : Memref sig .scVector .shared S16x16384 .i32 := Memref.whole cc0_scratch15

variable (L : grid0.Coords)

abbrev cV : Fin τ.nSC := (L 0).castLE hcore0
abbrev jV : Fin τ.nSub := (L 1).castLE hsub0

/-- The tile's own scratches, and its semaphores. -/
def bufsV : List (Ref sig .scVector) :=
  [cc0_scratch0, cc0_scratch1, cc0_scratch2, cc0_scratch3, cc0_scratch4, cc0_scratch5, cc0_scratch6, cc0_scratch7, cc0_scratch8, cc0_scratch9,
    cc0_scratch10, cc0_scratch11, cc0_scratch12, cc0_scratch13]
def semsV : List (SemLoc sig) :=
  [.dma cc0_scratch16.sem, .dma cc0_scratch17.sem, .dma cc0_scoped0.sem, .dma cc0_scoped1.sem, .dma cc0_scoped2.sem, .dma cc0_scoped3.sem,
    .dma cc0_scoped4.sem, .dma cc0_scoped5.sem, .dma cc0_scoped6.sem, .dma cc0_scoped7.sem, .dma cc0_scoped8.sem]

/-- A list of distinct things taken out of a finite set of them. -/
theorem bigSep_take {I : Type} [DecidableEq I] (Φ : I → sProp 𝕄) : ∀ (l : List I) (s : Finset I), l.Nodup → (∀ x ∈ l, x ∈ s) →
    bigSep s Φ = iprop((l.foldr (fun x R => iprop(Φ x ∗ R)) (bigSep (s \ l.toFinset) Φ)))
  | [], s, _, _ => by simp
  | x :: l, s, hn, hs => by
    rw [SparseCore.bigSep_erase' (hs x List.mem_cons_self),
      bigSep_take Φ l (s.erase x) (List.nodup_cons.mp hn).2 fun y hy => Finset.mem_erase.mpr
        ⟨fun e => (List.nodup_cons.mp hn).1 (e ▸ hy), hs y (List.mem_cons_of_mem _ hy)⟩]
    have : s \ (x :: l).toFinset = s.erase x \ l.toFinset := by
      ext y; simp only [List.toFinset_cons, Finset.mem_sdiff, Finset.mem_insert, Finset.mem_erase]; tauto
    rw [this]; rfl

theorem bufsV_nodup : bufsV.Nodup := by decide
theorem semsV_nodup : semsV.Nodup := by decide

theorem bufsV_owner (c : Fin τ.nSC) (i : Fin τ.nSub) : ∀ r ∈ bufsV, ((Proc.scVector c i).devRef r).owner = .proc (.scVector c i) := by
  unfold bufsV
  refine List.forall_mem_cons.mpr ⟨rfl, ?_⟩
  repeat (refine List.forall_mem_cons.mpr ⟨rfl, ?_⟩)
  exact fun _ h => absurd h List.not_mem_nil

theorem ownBufs_V (d : Dev nD) (c : Fin τ.nSC) (i : Fin τ.nSub) :
    (ownBufs (V d c i) : sProp 𝕄)
      = (bufsV.map (Proc.scVector c i).devRef).foldr (fun b R => iprop((∃ f, ((d, b) : Loc nD τ sig) ↦{fullShare} f) ∗ R))
          (bigSep (ownRefs (τ := τ) (.scVector c i) \ (bufsV.map (Proc.scVector c i).devRef).toFinset) fun b => iprop(∃ f, ((d, b) : Loc nD τ sig) ↦{fullShare} f)) := by
  unfold SparseCore.Cfg.ownBufs
  refine bigSep_take _ _ _ (List.Nodup.map (Proc.devRef_injective _) bufsV_nodup) ?_
  intro b hb
  obtain ⟨r, hr, rfl⟩ := List.mem_map.mp hb
  exact SparseCore.Cfg.mem_ownRefs_of_owner (p := Proc.scVector c i) (bufsV_owner c i r hr)

theorem ownSems0_V (d : Dev nD) (c : Fin τ.nSC) (i : Fin τ.nSub) :
    (ownSems0 (V d c i) : sProp 𝕄)
      = (semsV.map fun s => ((V d c i, s) : GSem nD τ sig)).foldr (fun g R => iprop(semVal g 0 ∗ R))
          (bigSep (ownCells (V d c i) \ (semsV.map fun s => ((V d c i, s) : GSem nD τ sig)).toFinset) fun g => semVal g 0) := by
  unfold SparseCore.Cfg.ownSems0
  refine bigSep_take _ _ _ (List.Nodup.map (fun a b e => (Prod.mk.inj e).2) semsV_nodup) ?_
  intro g hg
  obtain ⟨s, hs, rfl⟩ := List.mem_map.mp hg
  refine mem_ownCells.mpr ⟨rfl, ?_⟩
  revert s
  have : ∀ s ∈ semsV, s.isScoped .scVector = true := by decide
  exact fun s hs _ => this s hs

end Cert.KernelIdeal.Group

end
-- ==== Proof.Steps.lean ====
module

public import proofs.«01_k».proof.Proof.Tile

@[expose] public section

noncomputable section

/-! The steps a tile's work is made of: sixteen-lane loads and stores, each with what it reads or leaves. -/

namespace Cert.KernelIdeal.Group

open Cert.KernelIdeal.Gen
open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type}

local notation "𝕄" => MT nD τ sig (HIx 2) (Elt F) ℕ UU ℕ

variable [FloatOps F] (d : Dev nD) (L : grid0.Coords)

/-- The tile's thread, and a program of it. -/
abbrev thr : Thread nD τ := V d (cV L) (jV L)
abbrev PG (α : Type) : Type _ := Prog (TpuEff nD τ sig (Elt F) Λ₀ (.scVector (cV L) (jV L))) α
abbrev WP {α : Type} (p : PG (F := F) L α) (Q : α → sProp 𝕄) : sProp 𝕄 :=
  wp frame (wpE (defs₀ (F := F)) 𝒱₀ (thr d L) none) Set.univ p Q

/-- A buffer of the tile at contents of a kind. -/
def hold {sp : Space} {s : Shape} {e : EltTy} (m : Memref sig .scVector sp s e) (p : Vec F s e → Prop) : sProp 𝕄 :=
  iprop(∃ f, ⌜p (m.view.read (Elt F) f)⌝ ∗ m.view.loc (thr d L) ↦{fullShare} f)

theorem hold_mono {sp : Space} {s : Shape} {e : EltTy} (m : Memref sig .scVector sp s e) {p p' : Vec F s e → Prop} (h : ∀ g, p g → p' g) :
    hold d L m p ⊢ (hold d L m p' : sProp 𝕄) := by
  unfold hold
  iintro ⟨%f, %hf, H⟩
  iexists f
  isplitr; · ipureintro; exact h _ hf
  iexact H

theorem hold_elim {sp : Space} {s : Shape} {e : EltTy} {m : Memref sig .scVector sp s e} {p : Vec F s e → Prop} {R G : sProp 𝕄}
    (h : ∀ f, p (m.view.read (Elt F) f) → iprop((m.view.loc (thr d L) ↦{fullShare} f) ∗ R) ⊢ G) : iprop(hold d L m p ∗ R) ⊢ G := by
  unfold hold
  iintro ⟨⟨%f, %hf, H⟩, HR⟩
  iapply (h f hf)
  isplitl [H] <;> iassumption

theorem hold_intro {sp : Space} {s : Shape} {e : EltTy} {m : Memref sig .scVector sp s e} {p : Vec F s e → Prop} {f} {R G : sProp 𝕄}
    (hf : p (m.view.read (Elt F) f)) (h : iprop(hold d L m p ∗ R) ⊢ G) : iprop((m.view.loc (thr d L) ↦{fullShare} f) ∗ R) ⊢ G := by
  refine (sep_mono_left ?_).trans h
  unfold hold
  iintro H
  iexists f
  isplitr; · ipureintro; exact hf
  iexact H

variable {α : Type} {Q : α → sProp (MT nD τ sig (HIx 2) (Elt F) ℕ UU ℕ)} {R : sProp (MT nD τ sig (HIx 2) (Elt F) ℕ UU ℕ)}

theorem lane_lt {n w : ℕ} {o : Fin 1 → ℕ} (ho : ∀ a, o a + (![w] : Fin 1 → ℕ) a ≤ (![n] : Fin 1 → ℕ) a) (y : Fin w) : o 0 + y.val < n := by
  have h : o 0 + w ≤ n := ho 0
  have := y.isLt
  omega

/-- Where sixteen lanes from an offset on are. -/
theorem emb_unit1 {n w : ℕ} (o : Fin 1 → ℕ) (ho : ∀ a, o a + (![w] : Fin 1 → ℕ) a ≤ (![n] : Fin 1 → ℕ) a) (y : (⟨1, ![w]⟩ : Shape).Idx) :
    (Rect.unit (s := ⟨1, ![n]⟩) o ![w] ho).emb y = lane n ⟨o 0 + (y 0).val, lane_lt ho (y 0)⟩ := by
  funext a
  match a with
  | ⟨0, _⟩ => exact Fin.ext (by simp [Rect.emb, Rect.unit]; rfl)

/-- A sixteen-lane load: what it reads, by lane. -/
theorem step_load {n : ℕ} {e : EltTy} (m : Memref sig .scVector .vmem ⟨1, ![n]⟩ e) (o : Fin 1 → ℕ) (ho : ∀ a, o a + (![16] : Fin 1 → ℕ) a ≤ (![n] : Fin 1 → ℕ) a)
    {hl : m.view.LoadsAt (Rect.unit (s := ⟨1, ![n]⟩) o ![16] ho).toLoadRect} {k : Vec F S16 e → PG (F := F) L α} {q : PosShare TreeShare} {f}
    (h : ∀ x : Vec F S16 e, (∀ y, x y = m.view.read (Elt F) f (lane n ⟨o 0 + (y 0).val, lane_lt ho (y 0)⟩)) →
      iprop((m.view.loc (thr d L) ↦{q} f) ∗ R) ⊢ WP d L (k x) Q) :
    iprop((m.view.loc (thr d L) ↦{q} f) ∗ R) ⊢ WP d L (.op (.load m (Rect.unit (s := ⟨1, ![n]⟩) o ![16] ho).toLoadRect hl) k) Q := by
  iintro ⟨Hm, HR⟩
  iapply (wp_load 𝒱₀ (thr d L) none Set.univ (m := m) (r := (Rect.unit (s := ⟨1, ![n]⟩) o ![16] ho).toLoadRect) (hl := hl) (k := k) (f := f) (Finset.subset_univ _)) $$ Hm
  iintro Hm
  iapply (h (m.view.readAt (Elt F) (Rect.unit (s := ⟨1, ![n]⟩) o ![16] ho).toLoadRect f) fun y => congrArg (m.view.read (Elt F) f) (emb_unit1 o ho y))
  isplitl [Hm] <;> iassumption

/-- A sixteen-lane store: what it leaves, by lane. -/
theorem step_store {n : ℕ} {e : EltTy} (m : Memref sig .scVector .vmem ⟨1, ![n]⟩ e) (o : Fin 1 → ℕ) (ho : ∀ a, o a + (![16] : Fin 1 → ℕ) a ≤ (![n] : Fin 1 → ℕ) a)
    {v : Vec F S16 e} {hx hm} {k : PUnit → PG (F := F) L α} {f}
    (h : ∀ f', (∀ y : S16.Idx, m.view.read (Elt F) f' (lane n ⟨o 0 + (y 0).val, lane_lt ho (y 0)⟩) = v y) →
      (∀ z, ((z 0).val < o 0 ∨ o 0 + 16 ≤ (z 0).val) → m.view.read (Elt F) f' z = m.view.read (Elt F) f z) →
      iprop((m.view.loc (thr d L) ↦{fullShare} f') ∗ R) ⊢ WP d L (k ⟨⟩) Q) :
    iprop((m.view.loc (thr d L) ↦{fullShare} f) ∗ R)
      ⊢ WP d L (.op (.store m (Rect.unit (s := ⟨1, ![n]⟩) o ![16] ho) v Finset.univ hx hm) k) Q := by
  iintro ⟨Hm, HR⟩
  iapply (wp_store 𝒱₀ (thr d L) none Set.univ (m := m) (r := Rect.unit (s := ⟨1, ![n]⟩) o ![16] ho) (w := v) (Mk := Finset.univ) (hx := hx) (hm := hm) (k := k) (f := f) (Finset.subset_univ _)) $$ Hm
  iintro Hm
  iapply (h ((m.access (Rect.unit (s := ⟨1, ![n]⟩) o ![16] ho)).write (Elt F) f v Finset.univ) (fun y => by
      rw [← emb_unit1 o ho y]; exact View.read_slice_write_emb _ _ _ (Finset.mem_univ _)) (fun z hz => by
      refine View.read_slice_write_of_not_mem _ _ _ _ fun hm => ?_
      obtain ⟨y, -, rfl⟩ := Finset.mem_map.mp hm
      rw [show (Rect.unit (s := ⟨1, ![n]⟩) o ![16] ho).emb y = lane n ⟨o 0 + (y 0).val, lane_lt ho (y 0)⟩ from emb_unit1 o ho y] at hz
      have hy : (y 0).val < 16 := (y 0).isLt
      have hz : o 0 + (y 0).val < o 0 ∨ o 0 + 16 ≤ o 0 + (y 0).val := hz
      omega))
  isplitl [Hm] <;> iassumption

/-- A row's sixteen lanes of a table, loaded. -/
theorem step_load2 {r n : ℕ} {e : EltTy} (m : Memref sig .scVector .vmem ⟨2, ![r, n]⟩ e) (o : Fin 2 → ℕ) (ho : ∀ a, o a + (![1, 16] : Fin 2 → ℕ) a ≤ (![r, n] : Fin 2 → ℕ) a)
    {hl : m.view.LoadsAt (Rect.unit (s := ⟨2, ![r, n]⟩) o ![1, 16] ho).toLoadRect} {k : Vec F S1x16 e → PG (F := F) L α} {q : PosShare TreeShare} {f}
    (h : ∀ x : Vec F S1x16 e, (∀ y z, (z 0).val = o 0 + (y 0).val → (z 1).val = o 1 + (y 1).val → x y = m.view.read (Elt F) f z) →
      iprop((m.view.loc (thr d L) ↦{q} f) ∗ R) ⊢ WP d L (k x) Q) :
    iprop((m.view.loc (thr d L) ↦{q} f) ∗ R) ⊢ WP d L (.op (.load m (Rect.unit (s := ⟨2, ![r, n]⟩) o ![1, 16] ho).toLoadRect hl) k) Q := by
  iintro ⟨Hm, HR⟩
  iapply (wp_load 𝒱₀ (thr d L) none Set.univ (m := m) (r := (Rect.unit (s := ⟨2, ![r, n]⟩) o ![1, 16] ho).toLoadRect) (hl := hl) (k := k) (f := f) (Finset.subset_univ _)) $$ Hm
  iintro Hm
  iapply (h (m.view.readAt (Elt F) (Rect.unit (s := ⟨2, ![r, n]⟩) o ![1, 16] ho).toLoadRect f) fun y z h0 h1 => congrArg (m.view.read (Elt F) f) (by
    funext a
    match a with
    | ⟨0, _⟩ => exact Fin.ext (by rw [show (z ⟨0, _⟩).val = _ from h0]; simp [LoadRect.idx, Rect.toLoadRect, Rect.unit])
    | ⟨1, _⟩ => exact Fin.ext (by rw [show (z ⟨1, _⟩).val = _ from h1]; simp [LoadRect.idx, Rect.toLoadRect, Rect.unit])))
  isplitl [Hm] <;> iassumption

theorem emb_whole (s : Shape) (y : s.Idx) : (Rect.whole s).emb y = y := by
  funext a
  exact Fin.ext (by simp [Rect.emb, Rect.whole])

/-- A gather of words at index vectors. -/
theorem step_gather {s : Shape} {e : EltTy} (m : Memref sig .scVector .vmem s e) (idxs : Fin s.rank → IVec S16 32)
    {hb : ∀ a x, (idxs a x).toNat < s.size a} {hl : m.view.Loads} {k : Vec F S16 e → PG (F := F) L α} {q : PosShare TreeShare} {f}
    (h : iprop((m.view.loc (thr d L) ↦{q} f) ∗ R) ⊢ WP d L (k (loadIdx (m.view.read (Elt F) f) idxs hb)) Q) :
    iprop((m.view.loc (thr d L) ↦{q} f) ∗ R) ⊢ WP d L (SparseCore.vectorLoadIdx m idxs hb hl >>= k) Q := by
  have hr : (m.access (.whole s)).read (Elt F) f = m.view.read (Elt F) f := by
    funext y
    exact congrArg (m.view.read (Elt F) f) (emb_whole s y)
  iintro ⟨Hm, HR⟩
  iapply (SparseCore.wp_vectorLoadIdx (defs := defs₀ (F := F)) 𝒱₀ (thr d L) none Set.univ (base := m) (S := Finset.univ) (Finset.subset_univ _)) $$ Hm
  iintro Hm
  rw [hr]
  iapply h
  isplitl [Hm] <;> iassumption

/-- A scatter of words at index vectors. -/
theorem step_scatter {s : Shape} {e : EltTy} (m : Memref sig .scVector .vmem s e) (idxs : Fin s.rank → IVec S16 32) {v : Vec F S16 e} {mask : IVec S16 1}
    {hb : ∀ a x, (idxs a x).toNat < s.size a} {hs : (m.access (.whole s)).Stores Finset.univ} {k : PUnit → PG (F := F) L α} {f}
    (h : ∀ f', (∀ y, m.view.read (Elt F) f' y = storeIdx (m.view.read (Elt F) f) idxs v mask false hb y) →
      iprop((m.view.loc (thr d L) ↦{fullShare} f') ∗ R) ⊢ WP d L (k ⟨⟩) Q) :
    iprop((m.view.loc (thr d L) ↦{fullShare} f) ∗ R) ⊢ WP d L (SparseCore.vectorStoreIdx m idxs v mask false hb hs >>= k) Q := by
  have hr : (m.access (.whole s)).read (Elt F) f = m.view.read (Elt F) f := by
    funext y
    exact congrArg (m.view.read (Elt F) f) (emb_whole s y)
  iintro ⟨Hm, HR⟩
  iapply (wp_load_rect (defs := defs₀ (F := F)) 𝒱₀ (thr d L) none Set.univ (Q := Q) (m := m) (r := Rect.whole s) (hl := View.loadsAt_rect hs.loads)
    (k := fun f => .op (.store m (.whole s) (storeIdx f idxs v mask false hb) Finset.univ hs (.inl rfl)) k)
    (q := fullShare) (f := f) (S := Finset.univ) (Finset.subset_univ _)) $$ Hm
  iintro Hm
  rw [hr]
  iapply (wp_store (defs := defs₀ (F := F)) 𝒱₀ (thr d L) none Set.univ (Q := Q) (m := m) (r := .whole s) (Mk := Finset.univ) (k := k) (S := Finset.univ) (Finset.subset_univ _)) $$ Hm
  iintro Hm
  iapply (h _ fun y => (congrArg _ (emb_whole s y).symm).trans (View.read_slice_write_emb _ _ _ (Finset.mem_univ _)))
  isplitl [Hm] <;> iassumption

/-- A checked condition at the head of a program, when it holds. -/
theorem step_assume {P : Prop} {dec : Decidable P} (hP : P) {k : PLift P → PG (F := F) L α} (h : R ⊢ WP d L (k ⟨hP⟩) Q) :
    R ⊢ WP d L (.op (.assume P dec) k) Q := by
  refine h.trans (Entails.of_eq ?_)
  exact (wp_assume_of (defs := defs₀ (F := F)) 𝒱₀ (thr d L) none Set.univ hP).symm

/-! ## Filling, tallying -/

theorem swap2 {A B R : sProp 𝕄} : iprop(A ∗ B ∗ R) ⊢ iprop(B ∗ A ∗ R) := by
  iintro ⟨A, B, R⟩
  isplitl [B]; · iexact B
  isplitl [A] <;> iassumption

theorem rot3 {A B C R : sProp 𝕄} : iprop(A ∗ B ∗ C ∗ R) ⊢ iprop(C ∗ A ∗ B ∗ R) := by
  iintro ⟨A, B, C, R⟩
  isplitl [C]; · iexact C
  isplitl [A]; · iexact A
  isplitl [B] <;> iassumption

/-- The first `N` words are `A`'s. -/
def upto {n : ℕ} {e : EltTy} (A : ℕ → Elt F e) (N : ℕ) (g : Vec F ⟨1, ![n]⟩ e) : Prop := ∀ z, (z 0).val < N → g z = A (z 0).val

/-- The first `N` words are `A`'s and the others `B`'s. -/
def mix {n : ℕ} {e : EltTy} (A B : ℕ → Elt F e) (N : ℕ) (g : Vec F ⟨1, ![n]⟩ e) : Prop := ∀ z, g z = if (z 0).val < N then A (z 0).val else B (z 0).val

theorem upto_store {n : ℕ} {e : EltTy} {A : ℕ → Elt F e} {N : ℕ} {o : Fin 1 → ℕ} {ho : ∀ a, o a + (![16] : Fin 1 → ℕ) a ≤ (![n] : Fin 1 → ℕ) a} (hN : o 0 = N)
    {v : Vec F S16 e} (hv : ∀ y : S16.Idx, v y = A (N + (y 0).val)) {g g' : Vec F ⟨1, ![n]⟩ e} (hg : upto A N g)
    (hin : ∀ y : S16.Idx, g' (lane n ⟨o 0 + (y 0).val, lane_lt ho (y 0)⟩) = v y)
    (hout : ∀ z, ((z 0).val < o 0 ∨ o 0 + 16 ≤ (z 0).val) → g' z = g z) : upto A (N + 16) g' := by
  intro z hz
  by_cases h : (z 0).val < N
  · rw [hout z (.inl (hN ▸ h))]; exact hg z h
  · have hy : (z 0).val - N < 16 := by omega
    have := hin (lane 16 ⟨(z 0).val - N, hy⟩)
    rw [hv] at this
    have e1 : (lane n ⟨o 0 + (lane 16 ⟨(z 0).val - N, hy⟩ 0).val, lane_lt ho _⟩ : (⟨1, ![n]⟩ : Shape).Idx) = z := by
      funext a
      match a with
      | ⟨0, _⟩ => exact Fin.ext (by show o 0 + ((z 0).val - N) = (z 0).val; omega)
    rw [e1] at this
    rw [this]
    exact congrArg A (by show N + ((z 0).val - N) = _; omega)

theorem mix_store {n : ℕ} {e : EltTy} {A B : ℕ → Elt F e} {N : ℕ} {o : Fin 1 → ℕ} {ho : ∀ a, o a + (![16] : Fin 1 → ℕ) a ≤ (![n] : Fin 1 → ℕ) a} (hN : o 0 = N)
    {v : Vec F S16 e} (hv : ∀ y : S16.Idx, v y = A (N + (y 0).val)) {g g' : Vec F ⟨1, ![n]⟩ e} (hg : mix A B N g)
    (hin : ∀ y : S16.Idx, g' (lane n ⟨o 0 + (y 0).val, lane_lt ho (y 0)⟩) = v y)
    (hout : ∀ z, ((z 0).val < o 0 ∨ o 0 + 16 ≤ (z 0).val) → g' z = g z) : mix A B (N + 16) g' := by
  intro z
  by_cases h : (z 0).val < N + 16
  · rw [if_pos h]
    exact upto_store (ho := ho) hN hv (fun z hz => by rw [hg z, if_pos hz]) hin hout z h
  · rw [if_neg h, hout z (.inr (by omega)), hg z, if_neg (by omega)]

/-- Sixteen words of a buffer replaced, its first `N` already so. -/
theorem step_fill {n : ℕ} {e : EltTy} (A : ℕ → Elt F e) (m : Memref sig .scVector .vmem ⟨1, ![n]⟩ e) (o : Fin 1 → ℕ) (ho : ∀ a, o a + (![16] : Fin 1 → ℕ) a ≤ (![n] : Fin 1 → ℕ) a)
    {N : ℕ} (hN : o 0 = N) {hl : m.view.LoadsAt (Rect.unit (s := ⟨1, ![n]⟩) o ![16] ho).toLoadRect} {v : Vec F S16 e} (hv : ∀ y : S16.Idx, v y = A (N + (y 0).val)) {hx hm}
    {k : PUnit → PG (F := F) L α} (h : iprop(hold d L m (upto A (N + 16)) ∗ R) ⊢ WP d L (k ⟨⟩) Q) :
    iprop(hold d L m (upto A N) ∗ R) ⊢ WP d L (.op (.load m (Rect.unit (s := ⟨1, ![n]⟩) o ![16] ho).toLoadRect hl) fun _ =>
      .op (.store m (Rect.unit (s := ⟨1, ![n]⟩) o ![16] ho) v Finset.univ hx hm) k) Q := by
  refine hold_elim d L fun f hf => step_load d L m o ho fun _ _ => step_store d L m o ho fun f' hin hout => hold_intro d L ?_ h
  exact upto_store (ho := ho) hN hv hf hin hout

/-- A lane of the one row. -/
def row1 (k : Fin 16) : S1x16.Idx := fun
  | 0 => (0 : Fin 1)
  | 1 => k

theorem cast_row (x : Vec F S1x16 .i32) (y : S16.Idx) : shapeCast S16 x shapeCasts_S1x16_S16 y = x (row1 (y 0)) := by
  refine congrArg x ?_
  have : ∀ k : Fin 16, Shape.reshapeEquiv shapeCasts_S1x16_S16 (lane 16 k) = row1 k := by decide +kernel
  have hy : y = lane 16 (y 0) := by
    funext a
    match a with
    | ⟨0, _⟩ => rfl
  rw [hy]
  exact this _

/-- Sixteen classes' counts of a tile's row added to the two running tables. -/
theorem step_tally {t N : ℕ} (T A A' B B' : ℕ → BitVec 32) (wt : BitVec 32) (m11 : Memref sig .scVector .vmem S16x512 .i32) (m12 m13 : Memref sig .scVector .vmem S512 .i32)
    (o : Fin 2 → ℕ) (ho : ∀ a, o a + (![1, 16] : Fin 2 → ℕ) a ≤ (![16, 512] : Fin 2 → ℕ) a) (h0 : o = ![t, N])
    (r : Fin 1 → ℕ) (hr : ∀ a, r a + (![16] : Fin 1 → ℕ) a ≤ (![512] : Fin 1 → ℕ) a) (hN : r 0 = N)
    {p11 : Vec F S16x512 .i32 → Prop} (hp11 : ∀ g, p11 g → ∀ z, (z 0).val = t → g z = T (z 1).val) (hA : ∀ p, A' p = A p + T p) (hB : ∀ p, B' p = B p + T p * wt)
    {hl11 hl1 hl2 hl3 hl4 hx hm hx' hm'} {k : PUnit → PG (F := F) L α}
    (h : iprop(hold d L m13 (mix (F := F) (e := .i32) A' A (N + 16)) ∗ hold d L m12 (mix (F := F) (e := .i32) B' B (N + 16)) ∗ hold d L m11 p11 ∗ R) ⊢ WP d L (k ⟨⟩) Q) :
    iprop(hold d L m13 (mix (F := F) (e := .i32) A' A N) ∗ hold d L m12 (mix (F := F) (e := .i32) B' B N) ∗ hold d L m11 p11 ∗ R)
      ⊢ WP d L (.op (.load m11 (Rect.unit (s := S16x512) o ![1, 16] ho).toLoadRect hl11) fun (row : Vec F S1x16 .i32) =>
        .op (.load m13 (Rect.unit (s := S512) r ![16] hr).toLoadRect hl1) fun (x : Vec F S16 .i32) =>
        .op (.load m13 (Rect.unit (s := S512) r ![16] hr).toLoadRect hl2) fun _ =>
        .op (.store m13 (Rect.unit (s := S512) r ![16] hr) (addi (w := 32) x (shapeCast S16 row shapeCasts_S1x16_S16)) Finset.univ hx hm) fun _ =>
        .op (.load m12 (Rect.unit (s := S512) r ![16] hr).toLoadRect hl3) fun (x : Vec F S16 .i32) =>
        .op (.load m12 (Rect.unit (s := S512) r ![16] hr).toLoadRect hl4) fun _ =>
        .op (.store m12 (Rect.unit (s := S512) r ![16] hr) (addi (w := 32) x (muli (shapeCast S16 row shapeCasts_S1x16_S16) (broadcast S16 wt))) Finset.univ hx' hm') k) Q := by
  subst h0
  refine rot3.trans (hold_elim d L fun f11 h11 => step_load2 d L m11 ![t, N] ho fun row hrow => hold_intro d L h11 ?_)
  have hrow' : ∀ y : S16.Idx, shapeCast S16 row shapeCasts_S1x16_S16 y = T (N + (y 0).val) := by
    intro y
    have hy : N + (y 0).val < 512 := hN ▸ lane_lt hr (y 0)
    have ht : t < 16 := by have := ho 0; have : t + 1 ≤ 16 := this; omega
    rw [cast_row, hrow (row1 (y 0)) (fun | 0 => (⟨t, ht⟩ : Fin 16) | 1 => (⟨N + (y 0).val, hy⟩ : Fin 512)) (by show t = t + 0; rfl) rfl]
    exact hp11 _ h11 _ rfl
  refine swap2.trans (hold_elim d L fun f13 h13 => step_load d L m13 r hr fun x hx13 => step_load d L m13 r hr fun _ _ =>
    step_store d L m13 r hr fun f13' hin hout => hold_intro d L (p := mix (F := F) (e := .i32) A' A (N + 16)) ?_ ?_)
  · refine mix_store (ho := hr) hN (fun y => ?_) h13 hin hout
    show x y + shapeCast S16 row shapeCasts_S1x16_S16 y = _
    rw [hrow', hx13, h13, if_neg (by show ¬ r 0 + (y 0).val < N; omega), hA, ← hN]
    rfl
  refine rot3.trans (hold_elim d L fun f12 h12 => step_load d L m12 r hr fun x hx12 => step_load d L m12 r hr fun _ _ =>
    step_store d L m12 r hr fun f12' hin hout => hold_intro d L (p := mix (F := F) (e := .i32) B' B (N + 16)) ?_ (swap2.trans h))
  · refine mix_store (ho := hr) hN (fun y => ?_) h12 hin hout
    show x y + shapeCast S16 row shapeCasts_S1x16_S16 y * wt = _
    rw [hrow', hx12, h12, if_neg (by show ¬ r 0 + (y 0).val < N; omega), hB, ← hN]
    rfl

end Cert.KernelIdeal.Group

end
-- ==== Proof.Loops.lean ====
module

public import proofs.«01_k».proof.Proof.Steps

@[expose] public section

noncomputable section

/-! A tile's five loops, each from what its buffers hold before to what they hold after. -/

namespace Cert.KernelIdeal.Group

open Cert.KernelIdeal.Gen
open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type}

local notation "𝕄" => MT nD τ sig (HIx 2) (Elt F) ℕ UU ℕ

variable [FloatOps F] (d : Dev nD) (L : grid0.Coords)
variable {α : Type} {Q : α → sProp (MT nD τ sig (HIx 2) (Elt F) ℕ UU ℕ)} {R : sProp (MT nD τ sig (HIx 2) (Elt F) ℕ UU ℕ)}

/-! ## The loops' bodies at the tile's buffers -/

def body1 (v3 : IVec S16 32) : Fin k0_t1_loop.trips → Unit → PG (F := F) L Unit :=
  k0_t1_body L nearV (Memref.isWhole_whole _) ptxV (Memref.isWhole_whole _) ptyV (Memref.isWhole_whole _) cenxV (Memref.isWhole_whole _) cenyV (Memref.isWhole_whole _)
    outxV (Memref.isWhole_whole _) outyV (Memref.isWhole_whole _) a9 (Memref.isWhole_whole _) a10 (Memref.isWhole_whole _) a11 (Memref.isWhole_whole _) a12 (Memref.isWhole_whole _)
    a13 (Memref.isWhole_whole _) a14 (Memref.isWhole_whole _) a15 (Memref.isWhole_whole _) a16 (Memref.isWhole_whole _) a17 (Memref.isWhole_whole _) a18 (Memref.isWhole_whole _)
    a19 (Memref.isWhole_whole _) a20 (Memref.isWhole_whole _) a21 (Memref.isWhole_whole _) a22 (Memref.isWhole_whole _) a23 (Memref.isWhole_whole _) a24 (Memref.isWhole_whole _)

    cc0_scratch16 cc0_scratch17 cc0_scoped0 cc0_scoped1 cc0_scoped2 cc0_scoped3 cc0_scoped4 cc0_scoped5 cc0_scoped6 cc0_scoped7 cc0_scoped8 v3
def body2 (arg1 : BitVec 32) (v3 : IVec S16 32) : Fin k0_t2_loop.trips → Unit → PG (F := F) L Unit :=
  k0_t2_body L nearV (Memref.isWhole_whole _) ptxV (Memref.isWhole_whole _) ptyV (Memref.isWhole_whole _) cenxV (Memref.isWhole_whole _) cenyV (Memref.isWhole_whole _)
    outxV (Memref.isWhole_whole _) outyV (Memref.isWhole_whole _) a9 (Memref.isWhole_whole _) a10 (Memref.isWhole_whole _) a11 (Memref.isWhole_whole _) a12 (Memref.isWhole_whole _)
    a13 (Memref.isWhole_whole _) a14 (Memref.isWhole_whole _) a15 (Memref.isWhole_whole _) a16 (Memref.isWhole_whole _) a17 (Memref.isWhole_whole _) a18 (Memref.isWhole_whole _)
    a19 (Memref.isWhole_whole _) a20 (Memref.isWhole_whole _) a21 (Memref.isWhole_whole _) a22 (Memref.isWhole_whole _) a23 (Memref.isWhole_whole _) a24 (Memref.isWhole_whole _)

    cc0_scratch16 cc0_scratch17 cc0_scoped0 cc0_scoped1 cc0_scoped2 cc0_scoped3 cc0_scoped4 cc0_scoped5 cc0_scoped6 cc0_scoped7 cc0_scoped8 arg1 v3
def body3 (arg1 : BitVec 32) (v3 : IVec S16 32) : Fin k0_t3_loop.trips → Unit → PG (F := F) L Unit :=
  k0_t3_body L nearV (Memref.isWhole_whole _) ptxV (Memref.isWhole_whole _) ptyV (Memref.isWhole_whole _) cenxV (Memref.isWhole_whole _) cenyV (Memref.isWhole_whole _)
    outxV (Memref.isWhole_whole _) outyV (Memref.isWhole_whole _) a9 (Memref.isWhole_whole _) a10 (Memref.isWhole_whole _) a11 (Memref.isWhole_whole _) a12 (Memref.isWhole_whole _)
    a13 (Memref.isWhole_whole _) a14 (Memref.isWhole_whole _) a15 (Memref.isWhole_whole _) a16 (Memref.isWhole_whole _) a17 (Memref.isWhole_whole _) a18 (Memref.isWhole_whole _)
    a19 (Memref.isWhole_whole _) a20 (Memref.isWhole_whole _) a21 (Memref.isWhole_whole _) a22 (Memref.isWhole_whole _) a23 (Memref.isWhole_whole _) a24 (Memref.isWhole_whole _)

    cc0_scratch16 cc0_scratch17 cc0_scoped0 cc0_scoped1 cc0_scoped2 cc0_scoped3 cc0_scoped4 cc0_scoped5 cc0_scoped6 cc0_scoped7 cc0_scoped8 arg1 v3
def body4 (arg1 v0 : BitVec 32) (v3 v4 : IVec S16 32) (c : BitVec 32) : Fin k0_t4_loop.trips → Unit → PG (F := F) L Unit :=
  k0_t4_body L nearV (Memref.isWhole_whole _) ptxV (Memref.isWhole_whole _) ptyV (Memref.isWhole_whole _) cenxV (Memref.isWhole_whole _) cenyV (Memref.isWhole_whole _)
    outxV (Memref.isWhole_whole _) outyV (Memref.isWhole_whole _) a9 (Memref.isWhole_whole _) a10 (Memref.isWhole_whole _) a11 (Memref.isWhole_whole _) a12 (Memref.isWhole_whole _)
    a13 (Memref.isWhole_whole _) a14 (Memref.isWhole_whole _) a15 (Memref.isWhole_whole _) a16 (Memref.isWhole_whole _) a17 (Memref.isWhole_whole _) a18 (Memref.isWhole_whole _)
    a19 (Memref.isWhole_whole _) a20 (Memref.isWhole_whole _) a21 (Memref.isWhole_whole _) a22 (Memref.isWhole_whole _) a23 (Memref.isWhole_whole _) a24 (Memref.isWhole_whole _)

    cc0_scratch16 cc0_scratch17 cc0_scoped0 cc0_scoped1 cc0_scoped2 cc0_scoped3 cc0_scoped4 cc0_scoped5 cc0_scoped6 cc0_scoped7 cc0_scoped8 arg1 v0 v3 v4 c
def body5 (arg1 v0 : BitVec 32) (v3 v4 : IVec S16 32) (c : BitVec 32) : Fin k0_t5_loop.trips → Unit → PG (F := F) L Unit :=
  k0_t5_body L nearV (Memref.isWhole_whole _) ptxV (Memref.isWhole_whole _) ptyV (Memref.isWhole_whole _) cenxV (Memref.isWhole_whole _) cenyV (Memref.isWhole_whole _)
    outxV (Memref.isWhole_whole _) outyV (Memref.isWhole_whole _) a9 (Memref.isWhole_whole _) a10 (Memref.isWhole_whole _) a11 (Memref.isWhole_whole _) a12 (Memref.isWhole_whole _)
    a13 (Memref.isWhole_whole _) a14 (Memref.isWhole_whole _) a15 (Memref.isWhole_whole _) a16 (Memref.isWhole_whole _) a17 (Memref.isWhole_whole _) a18 (Memref.isWhole_whole _)
    a19 (Memref.isWhole_whole _) a20 (Memref.isWhole_whole _) a21 (Memref.isWhole_whole _) a22 (Memref.isWhole_whole _) a23 (Memref.isWhole_whole _) a24 (Memref.isWhole_whole _)

    cc0_scratch16 cc0_scratch17 cc0_scoped0 cc0_scoped1 cc0_scoped2 cc0_scoped3 cc0_scoped4 cc0_scoped5 cc0_scoped6 cc0_scoped7 cc0_scoped8 arg1 v0 v3 v4 c

theorem comm2 {A B : sProp 𝕄} : iprop(A ∗ B) ⊢ iprop(B ∗ A) := by
  iintro ⟨A, B⟩
  isplitl [B] <;> iassumption

theorem step_ret {A : sProp 𝕄} {a : α} (h : A ⊢ Q a) : A ⊢ WP (F := F) d L (.ret a) Q :=
  by
  refine h.trans ?_
  rw [WP, wp_ret]
  exact fupd_intro

variable (nw : ℕ → BitVec 32) (hnw : ∀ p, (nw p).toNat < 2 ^ 31) (b0 : ℕ)

/-- A stretch of the classes. -/
abbrev isNw (g : Vec F S1280 .i32) : Prop := ∀ z, g z = nw (b0 + (z 0).val)
/-- The classes' counts over a stretch of points. -/
abbrev isCnt (a b : ℕ) (g : Vec F S512 .i32) : Prop := ∀ z, g z = BitVec.ofNat 32 (cnt (cls nw) (z 0).val a b)

theorem trips1 : k0_t1_loop.trips = 80 := by decide +kernel
theorem trips2 : k0_t2_loop.trips = 16 := by decide +kernel
theorem trips3 : k0_t3_loop.trips = 128 := by decide +kernel
theorem trips4 : k0_t4_loop.trips = 80 := by decide +kernel
theorem trips5 : k0_t5_loop.trips = 64 := by decide +kernel

include hnw

/-- One trip of the histogram loop: sixteen points counted. -/
theorem trip1 (v3 : IVec S16 32) (t : Fin k0_t1_loop.trips) (acc : Unit) :
    iprop(hold d L a9 (isNw (F := F) nw b0) ∗ hold d L a10 (isCnt (F := F) nw b0 (b0 + 16 * t.val)))
      ⊢ WP (F := F) d L (body1 L v3 t acc) fun _ => iprop(hold d L a9 (isNw (F := F) nw b0) ∗ hold d L a10 (isCnt (F := F) nw b0 (b0 + 16 * (t.val + 1)))) := by
  refine hold_elim d L fun f9 h9 => step_load d L a9 (k0_off3 t) (k0_off3_inb t) fun v hv0 => ?_
  have hv : ∀ x, v x = nw (b0 + 16 * t.val + (x 0).val) := fun x => by
    rw [hv0 x, h9 _]
    exact congrArg nw (by show b0 + (k0_off3 t 0 + (x 0).val) = _; rw [k0_off3_eq]; show b0 + (16 * t.val + (x 0).val) = _; omega)
  refine step_assume d L ⟨clip_lt (F := F) nw hnw hv, clip_lt (F := F) nw hnw hv⟩ (hold_intro d L h9 (comm2.trans (hold_elim d L fun f10 h10 => ?_)))
  refine step_gather d L a10 _ (hl := View.loads_vmem h_S512) ?_
  refine (step_scatter d L a10 _ (hs := View.stores_vmem_bits_univ h_S512 rfl) fun f' hf' => hold_intro d L (fun y => ?_) (step_ret d L comm2))
  rw [hf', show b0 + 16 * (t.val + 1) = b0 + 16 * t.val + 16 by omega]
  exact count_step nw hnw hv b0 (by omega) _ h10 _ _ y

/-- The histogram loop. -/
theorem loop1 (v3 : IVec S16 32) {k : Unit → PG (F := F) L α} :
    iprop(hold d L a9 (isNw (F := F) nw b0) ∗ hold d L a10 (isCnt (F := F) nw b0 b0))
      ⊢ iprop((iprop(hold d L a9 (isNw (F := F) nw b0) ∗ hold d L a10 (isCnt (F := F) nw b0 (b0 + 1280))) -∗ WP (F := F) d L (k ()) Q)
        -∗ WP (F := F) d L (Scf.Loop.for k0_t1_loop k0_t1_ok () (body1 L v3) >>= k) Q) := by
  iintro H HK
  iapply (Scf.wp_for_bind frame (wpE (defs₀ (F := F)) 𝒱₀ (thr d L) none) Set.univ k0_t1_loop.lb k0_t1_loop.ub k0_t1_loop.st k0_t1_ok () (body1 L v3)
    (fun t _ => iprop(hold d L a9 (isNw (F := F) nw b0) ∗ hold d L a10 (isCnt (F := F) nw b0 (b0 + 16 * t)))) (trip1 d L nw hnw b0 v3)) $$ H
  iintro %acc H
  iapply HK
  ihave H' := (Entails.of_eq (congrArg (fun n => iprop(hold d L a9 (isNw (F := F) nw b0) ∗ hold d L a10 (isCnt (F := F) nw b0 (b0 + 16 * n)))) trips1)) $$ H
  iexact H'

/-- One trip of the selection loop: sixteen points ranked and put in their slots. -/
theorem trip4 (hb0 : b0 + 1280 ≤ 20480) (arg1 v0 : BitVec 32) (v3 v4 : IVec S16 32) (hv0 : v0 = BitVec.ofNat 32 b0) (hv4 : ∀ x, v4 x = BitVec.ofNat 32 (x 0).val)
    (t : Fin k0_t4_loop.trips) (acc : Unit) :
    iprop(hold d L a9 (isNw (F := F) nw b0) ∗ hold d L a12 (isCnt (F := F) nw 0 (b0 + 16 * t.val))
        ∗ hold d L a14 (fun g => ∀ y, g y = BitVec.ofNat 32 (sel (cls nw) b0 (b0 + 16 * t.val) (y 0).val)))
      ⊢ WP (F := F) d L (body4 L arg1 v0 v3 v4 0#32 t acc) fun _ => iprop(hold d L a9 (isNw (F := F) nw b0) ∗ hold d L a12 (isCnt (F := F) nw 0 (b0 + 16 * (t.val + 1)))
        ∗ hold d L a14 (fun g => ∀ y, g y = BitVec.ofNat 32 (sel (cls nw) b0 (b0 + 16 * (t.val + 1)) (y 0).val))) := by
  have ht : t.val < 80 := trips4 ▸ t.isLt
  refine hold_elim d L fun f9 h9 => step_load d L a9 (k0_off38 t) (k0_off38_inb t) fun v hvl => ?_
  have hv : ∀ x, v x = nw (b0 + 16 * t.val + (x 0).val) := fun x => by
    rw [hvl x, h9 _]
    exact congrArg nw (by show b0 + (k0_off38 t 0 + (x 0).val) = _; rw [k0_off38_eq]; show b0 + (16 * t.val + (x 0).val) = _; omega)
  refine step_assume d L ⟨clip_lt (F := F) nw hnw hv, clip_lt (F := F) nw hnw hv⟩ (hold_intro d L h9 (swap2.trans (hold_elim d L fun f12 h12 => ?_)))
  have hb : b0 + 16 * t.val ≤ 20480 := by omega
  have hnext : b0 + 16 * (t.val + 1) = b0 + 16 * t.val + 16 := by omega
  refine step_gather d L a12 _ (hl := View.loads_vmem h_S512) ?_
  refine (step_scatter d L a12 _ (hs := View.stores_vmem_bits_univ h_S512 rfl) fun f' hf' => hold_intro d L (p := isCnt (F := F) nw 0 (b0 + 16 * (t.val + 1))) (fun y => ?_) ?_)
  · rw [hf', hnext]
    exact count_step nw hnw hv 0 (by omega) _ h12 _ _ y
  refine step_assume d L (slot_lt (F := F) nw hnw hv hb _ h12 _) ?_
  have e3 : ∀ {A B D : sProp 𝕄}, iprop(A ∗ B ∗ D) ⊢ iprop(D ∗ A ∗ B) := by
    intro A B D
    iintro ⟨A, B, D⟩
    isplitl [D]; · iexact D
    isplitl [A] <;> iassumption
  have e3' : ∀ {A B D : sProp 𝕄}, iprop(D ∗ A ∗ B) ⊢ iprop(B ∗ A ∗ D) := by
    intro A B D
    iintro ⟨D, A, B⟩
    isplitl [B]; · iexact B
    isplitl [A] <;> iassumption
  refine e3.trans (hold_elim d L fun f14 h14 => step_scatter d L a14 _ (hs := View.stores_vmem_bits_univ h_S16384 rfl) fun f2 hf2 => hold_intro d L
    (p := fun g => ∀ y, g y = BitVec.ofNat 32 (sel (cls nw) b0 (b0 + 16 * (t.val + 1)) (y 0).val)) (fun y => ?_) (step_ret d L e3'))
  rw [hf2, hnext]
  refine sel_step nw hnw hv hb _ h12 _ b0 (by omega) _ h14 _ (fun x => ?_) _ y
  show v0 + Scf.iv 0#32 1#32 t * 16#32 + v4 x = _
  rw [hv0, hv4, show Scf.iv 0#32 1#32 t = BitVec.ofNat 32 t.val from by simp [Scf.iv]]
  rw [show (16#32 : BitVec 32) = BitVec.ofNat 32 16 from rfl, ← BitVec.ofNat_mul, ← BitVec.ofNat_add, ← BitVec.ofNat_add]
  exact congrArg _ (by omega)

/-- The selection loop. -/
theorem loop4 (hb0 : b0 + 1280 ≤ 20480) (arg1 v0 : BitVec 32) (v3 v4 : IVec S16 32) (hv0 : v0 = BitVec.ofNat 32 b0) (hv4 : ∀ x, v4 x = BitVec.ofNat 32 (x 0).val) {k : Unit → PG (F := F) L α} :
    iprop(hold d L a9 (isNw (F := F) nw b0) ∗ hold d L a12 (isCnt (F := F) nw 0 b0) ∗ hold d L a14 (fun g => ∀ y, g y = BitVec.ofNat 32 (sel (cls nw) b0 b0 (y 0).val)))
      ⊢ iprop((iprop(hold d L a9 (isNw (F := F) nw b0) ∗ hold d L a12 (isCnt (F := F) nw 0 (b0 + 1280))
            ∗ hold d L a14 (fun g => ∀ y, g y = BitVec.ofNat 32 (sel (cls nw) b0 (b0 + 1280) (y 0).val))) -∗ WP (F := F) d L (k ()) Q)
        -∗ WP (F := F) d L (Scf.Loop.for k0_t4_loop k0_t4_ok () (body4 L arg1 v0 v3 v4 0#32) >>= k) Q) := by
  iintro H HK
  iapply (Scf.wp_for_bind frame (wpE (defs₀ (F := F)) 𝒱₀ (thr d L) none) Set.univ k0_t4_loop.lb k0_t4_loop.ub k0_t4_loop.st k0_t4_ok () (body4 L arg1 v0 v3 v4 0#32)
    (fun t _ => iprop(hold d L a9 (isNw (F := F) nw b0) ∗ hold d L a12 (isCnt (F := F) nw 0 (b0 + 16 * t))
      ∗ hold d L a14 (fun g => ∀ y, g y = BitVec.ofNat 32 (sel (cls nw) b0 (b0 + 16 * t) (y 0).val)))) (trip4 d L nw hnw b0 hb0 arg1 v0 v3 v4 hv0 hv4)) $$ H
  iintro %acc H
  iapply HK
  ihave H' := (Entails.of_eq (congrArg (fun n => iprop(hold d L a9 (isNw (F := F) nw b0) ∗ hold d L a12 (isCnt (F := F) nw 0 (b0 + 16 * n))
      ∗ hold d L a14 (fun g => ∀ y, g y = BitVec.ofNat 32 (sel (cls nw) b0 (b0 + 16 * n) (y 0).val)))) trips4)) $$ H
  iexact H'

omit hnw

theorem off37 (t : Fin k0_t3_loop.trips) (r : Fin 8) {N : ℕ} (h : 128 * t.val + 16 * r.val = N) : k0_off37 t (BitVec.ofNat 32 (16 * r.val)) 0 = N := by
  rw [k0_off37_eq]; exact h

/-- One trip of the loop that clears the slots. -/
theorem trip3 (arg1 : BitVec 32) (v3 : IVec S16 32) (hv3 : ∀ y, v3 y = 0#32) (t : Fin k0_t3_loop.trips) (acc : Unit) :
    iprop(hold d L a14 (upto (F := F) (e := .i32) (fun _ => 0#32) (128 * t.val)) ∗ R)
      ⊢ WP (F := F) d L (body3 L arg1 v3 t acc) fun _ => iprop(hold d L a14 (upto (F := F) (e := .i32) (fun _ => 0#32) (128 * (t.val + 1))) ∗ R) := by
  refine step_fill (F := F) (e := .i32) d L (fun _ => 0#32) a14 _ (k0_off37_inb t 0) (off37 t 0 rfl) hv3 ?_
  refine step_fill (F := F) (e := .i32) d L (fun _ => 0#32) a14 _ (k0_off37_inb t 1) (off37 t 1 rfl) hv3 ?_
  refine step_fill (F := F) (e := .i32) d L (fun _ => 0#32) a14 _ (k0_off37_inb t 2) (off37 t 2 rfl) hv3 ?_
  refine step_fill (F := F) (e := .i32) d L (fun _ => 0#32) a14 _ (k0_off37_inb t 3) (off37 t 3 rfl) hv3 ?_
  refine step_fill (F := F) (e := .i32) d L (fun _ => 0#32) a14 _ (k0_off37_inb t 4) (off37 t 4 rfl) hv3 ?_
  refine step_fill (F := F) (e := .i32) d L (fun _ => 0#32) a14 _ (k0_off37_inb t 5) (off37 t 5 rfl) hv3 ?_
  refine step_fill (F := F) (e := .i32) d L (fun _ => 0#32) a14 _ (k0_off37_inb t 6) (off37 t 6 rfl) hv3 ?_
  refine step_fill (F := F) (e := .i32) d L (fun _ => 0#32) a14 _ (k0_off37_inb t 7) (off37 t 7 rfl) hv3 ?_
  exact step_ret d L (BI.Entails.refl _)

/-- The loop that clears the slots. -/
theorem loop3 (arg1 : BitVec 32) (v3 : IVec S16 32) (hv3 : ∀ y, v3 y = 0#32) {k : Unit → PG (F := F) L α} :
    hold d L a14 (upto (F := F) (e := .i32) (fun _ => 0#32) 0)
      ⊢ iprop((hold (F := F) d L a14 (fun (g : Vec F S16384 .i32) => ∀ y, g y = 0#32) -∗ WP (F := F) d L (k ()) Q)
        -∗ WP (F := F) d L (Scf.Loop.for k0_t3_loop k0_t3_ok () (body3 L arg1 v3) >>= k) Q) := by
  iintro H HK
  iapply (Scf.wp_for_bind frame (wpE (defs₀ (F := F)) 𝒱₀ (thr d L) none) Set.univ k0_t3_loop.lb k0_t3_loop.ub k0_t3_loop.st k0_t3_ok () (body3 L arg1 v3)
    (fun t _ => iprop(hold d L a14 (upto (F := F) (e := .i32) (fun _ => 0#32) (128 * t)) ∗ emp)) (trip3 d L arg1 v3 hv3)) $$ [H]
  · isplitl [H]
    · iexact H
    · iempintro
  iintro %acc ⟨H, _⟩
  iapply HK
  ihave H' := (Entails.of_eq (congrArg (fun n => hold d L a14 (upto (F := F) (e := .i32) (fun _ => 0#32) (128 * n))) trips3)) $$ H
  iapply (hold_mono d L a14 fun g hg y => hg y (y 0).isLt) $$ H'

/-- The tiles' rows of counts. -/
abbrev isHist (g : Vec F S16x512 .i32) : Prop := ∀ z, g z = BitVec.ofNat 32 (cnt (cls nw) (z 1).val (1280 * (z 0).val) (1280 * (z 0).val + 1280))

/-- One where a row is an earlier tile's, zero elsewhere. -/
def earlier (t : ℕ) (arg1 : BitVec 32) : BitVec 32 := Scalar.extui (Scalar.cmpi .slt (Scf.iv 0#32 1#32 t) arg1)

theorem earlier_eq (t w : ℕ) (ht : t < 16) (hw : w < 16) : earlier t (BitVec.ofNat 32 w) = if t < w then 1#32 else 0#32 := by
  have : ∀ t w : Fin 16, earlier t.val (BitVec.ofNat 32 w.val) = if t.val < w.val then 1#32 else 0#32 := by decide +kernel
  exact this ⟨t, ht⟩ ⟨w, hw⟩

theorem mix_zero {n : ℕ} {A B : ℕ → BitVec 32} {g : Vec F ⟨1, ![n]⟩ .i32} (h : ∀ z, g z = B (z 0).val) : mix (F := F) (e := .i32) A B 0 g := by
  intro z
  rw [if_neg (Nat.not_lt_zero _)]
  exact h z

theorem mix_all {n N : ℕ} (hn : n ≤ N) {A B : ℕ → BitVec 32} {g : Vec F ⟨1, ![n]⟩ .i32} (h : mix (F := F) (e := .i32) A B N g) : ∀ z, g z = A (z 0).val := by
  intro z
  rw [h z, if_pos (lt_of_lt_of_le (z 0).isLt hn)]

/-- One trip of the loop over the tiles' rows of counts: a row added to the totals, and to the starts while the row is
    an earlier tile's. -/
theorem trip2 (w : ℕ) (hw : w < 16) (arg1 : BitVec 32) (harg1 : arg1 = BitVec.ofNat 32 w) (v3 : IVec S16 32) (t : Fin k0_t2_loop.trips) (acc : Unit) :
    iprop(hold d L a13 (isCnt (F := F) nw 0 (1280 * t.val)) ∗ hold d L a12 (isCnt (F := F) nw 0 (1280 * min t.val w)) ∗ hold d L a11 (isHist (F := F) nw) ∗ R)
      ⊢ WP (F := F) d L (body2 L arg1 v3 t acc) fun _ => iprop(hold d L a13 (isCnt (F := F) nw 0 (1280 * (t.val + 1))) ∗ hold d L a12 (isCnt (F := F) nw 0 (1280 * min (t.val + 1) w))
        ∗ hold d L a11 (isHist (F := F) nw) ∗ R) := by
  have ht : t.val < 16 := trips2 ▸ t.isLt
  have hA : ∀ p, BitVec.ofNat 32 (cnt (cls nw) p 0 (1280 * (t.val + 1)))
      = BitVec.ofNat 32 (cnt (cls nw) p 0 (1280 * t.val)) + BitVec.ofNat 32 (cnt (cls nw) p (1280 * t.val) (1280 * t.val + 1280)) := fun p => by
    rw [← BitVec.ofNat_add, cnt_add _ _ (Nat.zero_le _) (by omega)]; rfl
  have hB : ∀ p, BitVec.ofNat 32 (cnt (cls nw) p 0 (1280 * min (t.val + 1) w))
      = BitVec.ofNat 32 (cnt (cls nw) p 0 (1280 * min t.val w)) + BitVec.ofNat 32 (cnt (cls nw) p (1280 * t.val) (1280 * t.val + 1280)) * earlier t.val arg1 := fun p => by
    rw [harg1, earlier_eq _ _ ht hw]
    by_cases h : t.val < w
    · rw [if_pos h, min_eq_left (by omega), min_eq_left (by omega), BitVec.mul_one]; exact hA p
    · rw [if_neg h, min_eq_right (by omega), min_eq_right (by omega), BitVec.mul_zero, BitVec.add_zero]
  have hT : ∀ g, isHist (F := F) nw g → ∀ z, (z 0).val = t.val → g z = BitVec.ofNat 32 (cnt (cls nw) (z 1).val (1280 * t.val) (1280 * t.val + 1280)) := fun g hg z hz => by
    rw [hg z, hz]
  refine (BI.sep_mono (hold_mono (F := F) d L a13 fun g hg => mix_zero (F := F) (A := fun p => BitVec.ofNat 32 (cnt (cls nw) p 0 (1280 * (t.val + 1))))
      (B := fun p => BitVec.ofNat 32 (cnt (cls nw) p 0 (1280 * t.val))) hg)
    (sep_mono_left (hold_mono (F := F) d L a12 fun g hg => mix_zero (F := F) (A := fun p => BitVec.ofNat 32 (cnt (cls nw) p 0 (1280 * min (t.val + 1) w)))
      (B := fun p => BitVec.ofNat 32 (cnt (cls nw) p 0 (1280 * min t.val w))) hg))).trans ?_
  iterate 32
    refine step_tally (F := F) d L _ _ _ _ _ (earlier t.val arg1) a11 a12 a13 _ _ ?_ _ _ ?_ hT hA hB ?_
    · simp only [k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq, k0_off27_eq, k0_off28_eq, k0_off29_eq, k0_off30_eq, k0_off31_eq, k0_off32_eq, k0_off33_eq, k0_off34_eq, k0_off35_eq, k0_off36_eq] <;> rfl
    · first | rfl | skip
  exact step_ret d L (BI.sep_mono (hold_mono (F := F) d L a13 fun g hg => mix_all (F := F) (by decide) hg) (sep_mono_left (hold_mono (F := F) d L a12 fun g hg => mix_all (F := F) (by decide) hg)))

/-- The loop over the tiles' rows of counts. -/
theorem loop2 (w : ℕ) (hw : w < 16) (arg1 : BitVec 32) (harg1 : arg1 = BitVec.ofNat 32 w) (v3 : IVec S16 32) {k : Unit → PG (F := F) L α} :
    iprop(hold d L a13 (isCnt (F := F) nw 0 0) ∗ hold d L a12 (isCnt (F := F) nw 0 0) ∗ hold d L a11 (isHist (F := F) nw))
      ⊢ iprop((iprop(hold d L a13 (isCnt (F := F) nw 0 20480) ∗ hold d L a12 (isCnt (F := F) nw 0 (1280 * w)) ∗ hold d L a11 (isHist (F := F) nw)) -∗ WP (F := F) d L (k ()) Q)
        -∗ WP (F := F) d L (Scf.Loop.for k0_t2_loop k0_t2_ok () (body2 L arg1 v3) >>= k) Q) := by
  iintro ⟨H13, H12, H11⟩ HK
  iapply (Scf.wp_for_bind frame (wpE (defs₀ (F := F)) 𝒱₀ (thr d L) none) Set.univ k0_t2_loop.lb k0_t2_loop.ub k0_t2_loop.st k0_t2_ok () (body2 L arg1 v3)
    (fun t _ => iprop(hold d L a13 (isCnt (F := F) nw 0 (1280 * t)) ∗ hold d L a12 (isCnt (F := F) nw 0 (1280 * min t w)) ∗ hold d L a11 (isHist (F := F) nw) ∗ emp))
    (trip2 d L nw w hw arg1 harg1 v3)) $$ [H13 H12 H11]
  · rw [Nat.zero_min]
    isplitl [H13]; · iexact H13
    isplitl [H12]; · iexact H12
    isplitl [H11]; · iexact H11
    iempintro
  iintro %acc H
  ihave H' := (Entails.of_eq (congrArg (fun n => iprop(hold d L a13 (isCnt (F := F) nw 0 (1280 * n)) ∗ hold d L a12 (isCnt (F := F) nw 0 (1280 * min n w)) ∗ hold d L a11 (isHist (F := F) nw) ∗ emp)) trips2)) $$ H
  rw [min_eq_right hw.le]
  icases H' with ⟨H13, H12, H11, _⟩
  iapply HK
  isplitl [H13]; · iexact H13
  isplitl [H12]; · iexact H12
  iexact H11

/-- The tiles' selections of a block of slots from slot `s0` on. -/
abbrev isSels (s0 : ℕ) (g : Vec F S16x1024 .i32) : Prop :=
  ∀ z, g z = BitVec.ofNat 32 (sel (cls nw) (1280 * (z 0).val) (1280 * (z 0).val + 1280) (s0 + (z 1).val))

/-- A tile's part of a row of slots. -/
theorem step_part {r n b s0 : ℕ} (f : Buf (Elt F) (a15.view.loc (thr d L))) (hf : isSels (F := F) nw s0 (a15.view.read (Elt F) f)) (o : Fin 2 → ℕ)
    (ho : ∀ a, o a + (![1, 16] : Fin 2 → ℕ) a ≤ (![16, 1024] : Fin 2 → ℕ) a) (h0 : o = ![r, n]) (hb : b = 1280 * r)
    {hl : a15.view.LoadsAt (Rect.unit (s := S16x1024) o ![1, 16] ho).toLoadRect} {k : Vec F S1x16 .i32 → PG (F := F) L α}
    (h : ∀ x : Vec F S1x16 .i32, (∀ y : S16.Idx, shapeCast S16 x shapeCasts_S1x16_S16 y = BitVec.ofNat 32 (sel (cls nw) b (b + 1280) (s0 + (n + (y 0).val)))) →
      iprop((a15.view.loc (thr d L) ↦{fullShare} f) ∗ R) ⊢ WP d L (k x) Q) :
    iprop((a15.view.loc (thr d L) ↦{fullShare} f) ∗ R) ⊢ WP d L (.op (.load a15 (Rect.unit (s := S16x1024) o ![1, 16] ho).toLoadRect hl) k) Q := by
  subst h0 hb
  refine step_load2 d L a15 ![r, n] ho fun x hx => h x fun y => ?_
  have hr : r < 16 := by have : r + 1 ≤ 16 := ho 0; omega
  have hn : n + (y 0).val < 1024 := by have : n + 16 ≤ 1024 := ho 1; have : (y 0).val < 16 := (y 0).isLt; omega
  rw [cast_row, hx (row1 (y 0)) (fun | 0 => (⟨r, hr⟩ : Fin 16) | 1 => (⟨n + (y 0).val, hn⟩ : Fin 1024)) (by show r = r + 0; rfl) rfl, hf]

/-- One trip of the merge loop: sixteen slots summed over the tiles. -/
theorem trip5 (s0 : ℕ) (arg1 v0 : BitVec 32) (v3 v4 : IVec S16 32) (c : BitVec 32) (t : Fin k0_t5_loop.trips) (acc : Unit) :
    iprop(hold d L a15 (isSels (F := F) nw s0) ∗ hold d L a16 (upto (F := F) (e := .i32) (fun s => BitVec.ofNat 32 (sel (cls nw) 0 20480 (s0 + s))) (16 * t.val)))
      ⊢ WP (F := F) d L (body5 L arg1 v0 v3 v4 c t acc) fun _ => iprop(hold d L a15 (isSels (F := F) nw s0)
        ∗ hold d L a16 (upto (F := F) (e := .i32) (fun s => BitVec.ofNat 32 (sel (cls nw) 0 20480 (s0 + s))) (16 * (t.val + 1)))) := by
  refine hold_elim d L fun f hf => ?_
  refine step_part d L nw (b := 0) f hf _ _ (k0_off41_eq t) rfl fun x0 h0 => ?_
  refine step_part d L nw (b := 1280) f hf _ _ (k0_off42_eq t) rfl fun x1 h1 => ?_
  refine step_part d L nw (b := 2560) f hf _ _ (k0_off43_eq t) rfl fun x2 h2 => ?_
  refine step_part d L nw (b := 3840) f hf _ _ (k0_off44_eq t) rfl fun x3 h3 => ?_
  refine step_part d L nw (b := 5120) f hf _ _ (k0_off45_eq t) rfl fun x4 h4 => ?_
  refine step_part d L nw (b := 6400) f hf _ _ (k0_off46_eq t) rfl fun x5 h5 => ?_
  refine step_part d L nw (b := 7680) f hf _ _ (k0_off47_eq t) rfl fun x6 h6 => ?_
  refine step_part d L nw (b := 8960) f hf _ _ (k0_off48_eq t) rfl fun x7 h7 => ?_
  refine step_part d L nw (b := 10240) f hf _ _ (k0_off49_eq t) rfl fun x8 h8 => ?_
  refine step_part d L nw (b := 11520) f hf _ _ (k0_off50_eq t) rfl fun x9 h9 => ?_
  refine step_part d L nw (b := 12800) f hf _ _ (k0_off51_eq t) rfl fun x10 h10 => ?_
  refine step_part d L nw (b := 14080) f hf _ _ (k0_off52_eq t) rfl fun x11 h11 => ?_
  refine step_part d L nw (b := 15360) f hf _ _ (k0_off53_eq t) rfl fun x12 h12 => ?_
  refine step_part d L nw (b := 16640) f hf _ _ (k0_off54_eq t) rfl fun x13 h13 => ?_
  refine step_part d L nw (b := 17920) f hf _ _ (k0_off55_eq t) rfl fun x14 h14 => ?_
  refine step_part d L nw (b := 19200) f hf _ _ (k0_off56_eq t) rfl fun x15 h15 => ?_
  refine hold_intro d L hf (comm2.trans ?_)
  refine step_fill d L _ a16 _ (k0_off57_inb t) (congrFun (k0_off57_eq t) 0) (fun y => ?_) (step_ret d L comm2)
  show shapeCast S16 x0 _ y + shapeCast S16 x1 _ y + shapeCast S16 x2 _ y + shapeCast S16 x3 _ y + shapeCast S16 x4 _ y + shapeCast S16 x5 _ y
    + shapeCast S16 x6 _ y + shapeCast S16 x7 _ y + shapeCast S16 x8 _ y + shapeCast S16 x9 _ y + shapeCast S16 x10 _ y + shapeCast S16 x11 _ y
    + shapeCast S16 x12 _ y + shapeCast S16 x13 _ y + shapeCast S16 x14 _ y + shapeCast S16 x15 _ y = _
  have hadd : ∀ b s, BitVec.ofNat 32 (sel (cls nw) 0 b s) + BitVec.ofNat 32 (sel (cls nw) b (b + 1280) s) = BitVec.ofNat 32 (sel (cls nw) 0 (b + 1280) s) := fun b s => by
    rw [← BitVec.ofNat_add, sel_add _ _ (Nat.zero_le _) (by omega)]
  rw [h0, h1, h2, h3, h4, h5, h6, h7, h8, h9, h10, h11, h12, h13, h14, h15]
  rw [show (0 + 1280 : ℕ) = 1280 from rfl, hadd 1280, hadd 2560, hadd 3840, hadd 5120, hadd 6400, hadd 7680, hadd 8960, hadd 10240, hadd 11520, hadd 12800, hadd 14080,
    hadd 15360, hadd 16640, hadd 17920, hadd 19200]
  rfl

/-- The merge loop. -/
theorem loop5 (s0 : ℕ) (arg1 v0 : BitVec 32) (v3 v4 : IVec S16 32) (c : BitVec 32) {k : Unit → PG (F := F) L α} :
    iprop(hold d L a15 (isSels (F := F) nw s0) ∗ hold d L a16 (fun _ => True))
      ⊢ iprop((iprop(hold d L a15 (isSels (F := F) nw s0) ∗ hold d L a16 (fun (g : Vec F S1024 .i32) => ∀ z, g z = BitVec.ofNat 32 (sel (cls nw) 0 20480 (s0 + (z 0).val))))
          -∗ WP (F := F) d L (k ()) Q)
        -∗ WP (F := F) d L (Scf.Loop.for k0_t5_loop k0_t5_ok () (body5 L arg1 v0 v3 v4 c) >>= k) Q) := by
  iintro ⟨H15, H16⟩ HK
  iapply (Scf.wp_for_bind frame (wpE (defs₀ (F := F)) 𝒱₀ (thr d L) none) Set.univ k0_t5_loop.lb k0_t5_loop.ub k0_t5_loop.st k0_t5_ok () (body5 L arg1 v0 v3 v4 c)
    (fun t _ => iprop(hold d L a15 (isSels (F := F) nw s0) ∗ hold d L a16 (upto (F := F) (e := .i32) (fun s => BitVec.ofNat 32 (sel (cls nw) 0 20480 (s0 + s))) (16 * t))))
    (trip5 d L nw s0 arg1 v0 v3 v4 c)) $$ [H15 H16]
  · isplitl [H15]; · iexact H15
    iapply (hold_mono d L a16 fun g _ z hz => absurd hz (Nat.not_lt_zero _)) $$ H16
  iintro %acc H
  ihave H' := (Entails.of_eq (congrArg (fun n => iprop(hold d L a15 (isSels (F := F) nw s0)
    ∗ hold d L a16 (upto (F := F) (e := .i32) (fun s => BitVec.ofNat 32 (sel (cls nw) 0 20480 (s0 + s))) (16 * n)))) trips5)) $$ H
  icases H' with ⟨H15, H16⟩
  iapply HK
  isplitl [H15]; · iexact H15
  iapply (hold_mono d L a16 fun g hg z => hg z (z 0).isLt) $$ H16

end Cert.KernelIdeal.Group

end
-- ==== Proof.Text.lean ====
module

public import proofs.«01_k».proof.Proof.Loops

@[expose] public section

noncomputable section

/-! A tile's program, told in its phases. -/

namespace Cert.KernelIdeal.Group

open Cert.KernelIdeal.Gen
open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type}

local notation "𝕄" => MT nD τ sig (HIx 2) (Elt F) ℕ UU ℕ

variable [FloatOps F] (L : grid0.Coords)

/-- A constant vector stored over a table of 512 words, sixteen at a time from word `N` on: `c + 1` times. -/
def fills (m : Memref sig .scVector .vmem S512 .i32) (v : IVec S16 32) : (c N : ℕ) → N + 16 * (c + 1) ≤ 512 → (PUnit → PG (F := F) L PUnit) → PG (F := F) L PUnit
  | 0, N, h, k =>
    .op (.load m (Rect.unit (s := S512) ![N] S16.size (fun | 0 => by show N + 16 ≤ 512; omega)).toLoadRect (View.loadsAt_vmem h_S16)) fun _ =>
    .op (.store m (Rect.unit (s := S512) ![N] S16.size (fun | 0 => by show N + 16 ≤ 512; omega)) v Finset.univ (View.stores_vmem_bits_univ h_S16 rfl) (.inl rfl)) k
  | c + 1, N, h, k =>
    .op (.load m (Rect.unit (s := S512) ![N] S16.size (fun | 0 => by show N + 16 ≤ 512; omega)).toLoadRect (View.loadsAt_vmem h_S16)) fun _ =>
    .op (.store m (Rect.unit (s := S512) ![N] S16.size (fun | 0 => by show N + 16 ≤ 512; omega)) v Finset.univ (View.stores_vmem_bits_univ h_S16 rfl) (.inl rfl)) fun _ =>
    fills m v c (N + 16) (by omega) k

/-- The same over two tables in turn. -/
def fills2 (m m' : Memref sig .scVector .vmem S512 .i32) (v : IVec S16 32) : (c N : ℕ) → N + 16 * (c + 1) ≤ 512 → (PUnit → PG (F := F) L PUnit) → PG (F := F) L PUnit
  | 0, N, h, k =>
    .op (.load m (Rect.unit (s := S512) ![N] S16.size (fun | 0 => by show N + 16 ≤ 512; omega)).toLoadRect (View.loadsAt_vmem h_S16)) fun _ =>
    .op (.store m (Rect.unit (s := S512) ![N] S16.size (fun | 0 => by show N + 16 ≤ 512; omega)) v Finset.univ (View.stores_vmem_bits_univ h_S16 rfl) (.inl rfl)) fun _ =>
    .op (.load m' (Rect.unit (s := S512) ![N] S16.size (fun | 0 => by show N + 16 ≤ 512; omega)).toLoadRect (View.loadsAt_vmem h_S16)) fun _ =>
    .op (.store m' (Rect.unit (s := S512) ![N] S16.size (fun | 0 => by show N + 16 ≤ 512; omega)) v Finset.univ (View.stores_vmem_bits_univ h_S16 rfl) (.inl rfl)) k
  | c + 1, N, h, k =>
    .op (.load m (Rect.unit (s := S512) ![N] S16.size (fun | 0 => by show N + 16 ≤ 512; omega)).toLoadRect (View.loadsAt_vmem h_S16)) fun _ =>
    .op (.store m (Rect.unit (s := S512) ![N] S16.size (fun | 0 => by show N + 16 ≤ 512; omega)) v Finset.univ (View.stores_vmem_bits_univ h_S16 rfl) (.inl rfl)) fun _ =>
    .op (.load m' (Rect.unit (s := S512) ![N] S16.size (fun | 0 => by show N + 16 ≤ 512; omega)).toLoadRect (View.loadsAt_vmem h_S16)) fun _ =>
    .op (.store m' (Rect.unit (s := S512) ![N] S16.size (fun | 0 => by show N + 16 ≤ 512; omega)) v Finset.univ (View.stores_vmem_bits_univ h_S16 rfl) (.inl rfl)) fun _ =>
    fills2 m m' v c (N + 16) (by omega) k

/-- The work on `n` centres from the one at lane `l` on, `b` more than whose lane is its number in the tile. -/
def centers (arg1 : BitVec 32) (v3 v4 : IVec S16 32) (vx vy : Vec F S16 .f32) (b : ℕ) (hb : b ≤ 16) : (n l : ℕ) → l + n ≤ 16 → PG (F := F) L PUnit → PG (F := F) L PUnit
  | 0, _, _, k => k
  | n + 1, l, h, k =>
    .op (.assume (k0_chk4 (cntIdx arg1 v3 (BitVec.ofNat 32 (b + l)))) (k0_chk4.dec _)) fun w =>
    centerRest L a13 a16 a17 a18 a21 a22 arg1 v3 v4 (BitVec.ofNat 32 (b + l)) (BitVec.ofNat 32 (32 * (b + l))) (32 * (b + l)) (32 * (b + l) + 16)
      (fun | 0 => by show 32 * (b + l) + 16 ≤ 1024; omega) (fun | 0 => by show 32 * (b + l) + 16 + 16 ≤ 1024; omega)
      (extractAt ![0] (extractStridedSlice S1 ![l] vx ⟨rfl, fun | 0 => by show l + 1 ≤ 16; omega⟩) inpos_S1_p0)
      (extractAt ![0] (extractStridedSlice S1 ![l] vy ⟨rfl, fun | 0 => by show l + 1 ≤ 16; omega⟩) inpos_S1_p0) w.down
      (centers arg1 v3 v4 vx vy b hb n (l + 1) (by omega) k)

/-- The tile's points and centres brought in. -/
def phaseIn (k : PUnit → PG (F := F) L PUnit) : PG (F := F) L PUnit :=
  .op (.enqueueDma ptxV (.here a17) (.dma cc0_scratch16.sem) (Memref.isWhole_whole _).wordExact (Memref.isWhole_whole _).wordExact ⟨Or.inl rfl, trivial⟩) fun _ =>
  .op (.enqueueDma ptyV (.here a18) (.dma cc0_scratch17.sem) (Memref.isWhole_whole _).wordExact (Memref.isWhole_whole _).wordExact ⟨Or.inl rfl, trivial⟩) fun _ =>
  .op (.enqueueDma (nearV.slice (Rect.unit (s := S20480) (k0_off1 L) S1280.size (k0_off1_inb L)) (fun _ => rfl)) (.here a9) (.dma cc0_scoped0.sem) (View.wordExact_bits rfl) (Memref.isWhole_whole _).wordExact ⟨Or.inl rfl, trivial⟩) fun _ =>
  .op (.waitDma2 cc0_scoped0.sem (nearV.slice (Rect.unit (s := S20480) (k0_off1 L) S1280.size (k0_off1_inb L)) (fun _ => rfl)) a9 (View.wordExact_bits rfl) (Memref.isWhole_whole _).wordExact) fun _ =>
  .op (.enqueueDma (cenxV.slice (Rect.unit (s := S512) (k0_off2 L) S32.size (k0_off2_inb L)) (fun _ => rfl)) (.here a19) (.dma cc0_scoped1.sem) (View.wordExact_bits rfl) (Memref.isWhole_whole _).wordExact ⟨Or.inl rfl, trivial⟩) fun _ =>
  .op (.waitDma2 cc0_scoped1.sem (cenxV.slice (Rect.unit (s := S512) (k0_off2 L) S32.size (k0_off2_inb L)) (fun _ => rfl)) a19 (View.wordExact_bits rfl) (Memref.isWhole_whole _).wordExact) fun _ =>
  .op (.enqueueDma (cenyV.slice (Rect.unit (s := S512) (k0_off2 L) S32.size (k0_off2_inb L)) (fun _ => rfl)) (.here a20) (.dma cc0_scoped2.sem) (View.wordExact_bits rfl) (Memref.isWhole_whole _).wordExact ⟨Or.inl rfl, trivial⟩) fun _ =>
  .op (.waitDma2 cc0_scoped2.sem (cenyV.slice (Rect.unit (s := S512) (k0_off2 L) S32.size (k0_off2_inb L)) (fun _ => rfl)) a20 (View.wordExact_bits rfl) (Memref.isWhole_whole _).wordExact) k

/-- The tile's row of counts published. -/
def phasePub (k : PUnit → PG (F := F) L PUnit) : PG (F := F) L PUnit :=
  .op (.enqueueDma a10 (.here ((a23.slice (Rect.unit (s := S16x512) (k0_off4 L) S1x512.size (k0_off4_inb L)) (fun _ => rfl)).squeeze S512 squeezes_S1x512_S512)) (.dma cc0_scoped3.sem)
    (Memref.isWhole_whole _).wordExact ((View.wordExact_bits rfl).reshape _ _) ⟨Or.inl rfl, trivial⟩) fun _ =>
  .op (.waitDma2 cc0_scoped3.sem a10 ((a23.slice (Rect.unit (s := S16x512) (k0_off4 L) S1x512.size (k0_off4_inb L)) (fun _ => rfl)).squeeze S512 squeezes_S1x512_S512)
    (Memref.isWhole_whole _).wordExact ((View.wordExact_bits rfl).reshape _ _)) k

/-- All tiles' rows of counts read. -/
def phaseGet (k : PUnit → PG (F := F) L PUnit) : PG (F := F) L PUnit :=
  .op (.enqueueDma a23 (.here a11) (.dma cc0_scoped4.sem) (Memref.isWhole_whole _).wordExact (Memref.isWhole_whole _).wordExact ⟨Or.inl rfl, trivial⟩) fun _ =>
  .op (.waitDma2 cc0_scoped4.sem a23 a11 (Memref.isWhole_whole _).wordExact (Memref.isWhole_whole _).wordExact) k

/-- The tile's row of selected points published. -/
def phasePub2 (k : PUnit → PG (F := F) L PUnit) : PG (F := F) L PUnit :=
  .op (.enqueueDma a14 (.here ((a24.slice (Rect.unit (s := S16x16384) (k0_off39 L) S1x16384.size (k0_off39_inb L)) (fun _ => rfl)).squeeze S16384 squeezes_S1x16384_S16384)) (.dma cc0_scoped5.sem)
    (Memref.isWhole_whole _).wordExact ((View.wordExact_bits rfl).reshape _ _) ⟨Or.inl rfl, trivial⟩) fun _ =>
  .op (.waitDma2 cc0_scoped5.sem a14 ((a24.slice (Rect.unit (s := S16x16384) (k0_off39 L) S1x16384.size (k0_off39_inb L)) (fun _ => rfl)).squeeze S16384 squeezes_S1x16384_S16384)
    (Memref.isWhole_whole _).wordExact ((View.wordExact_bits rfl).reshape _ _)) k

/-- The tile's block of slots read from every tile's row. -/
def phaseGet2 (k : PUnit → PG (F := F) L PUnit) : PG (F := F) L PUnit :=
  .op (.enqueueDma (a24.slice (Rect.unit (s := S16x16384) (k0_off40 L) S16x1024.size (k0_off40_inb L)) (fun _ => rfl)) (.here a15) (.dma cc0_scoped6.sem) (View.wordExact_bits rfl) (Memref.isWhole_whole _).wordExact ⟨Or.inl rfl, trivial⟩) fun _ =>
  .op (.waitDma2 cc0_scoped6.sem (a24.slice (Rect.unit (s := S16x16384) (k0_off40 L) S16x1024.size (k0_off40_inb L)) (fun _ => rfl)) a15 (View.wordExact_bits rfl) (Memref.isWhole_whole _).wordExact) k

/-- The points' coordinates waited for, the tile's centres loaded. -/
def phaseWait (k : Vec F S16 .f32 → Vec F S16 .f32 → Vec F S16 .f32 → Vec F S16 .f32 → PG (F := F) L PUnit) : PG (F := F) L PUnit :=
  .op (.waitDma2 cc0_scratch16.sem ptxV a17 (Memref.isWhole_whole _).wordExact (Memref.isWhole_whole _).wordExact) fun _ =>
  .op (.waitDma2 cc0_scratch17.sem ptyV a18 (Memref.isWhole_whole _).wordExact (Memref.isWhole_whole _).wordExact) fun _ =>
  .op (.load a19 (Rect.unit (s := S32) ![0] S16.size inb_S32_S16_0).toLoadRect (View.loadsAt_vmem h_S16)) fun x0 =>
  .op (.load a19 (Rect.unit (s := S32) ![16] S16.size inb_S32_S16_16).toLoadRect (View.loadsAt_vmem h_S16)) fun x1 =>
  .op (.load a20 (Rect.unit (s := S32) ![0] S16.size inb_S32_S16_0).toLoadRect (View.loadsAt_vmem h_S16)) fun y0 =>
  .op (.load a20 (Rect.unit (s := S32) ![16] S16.size inb_S32_S16_16).toLoadRect (View.loadsAt_vmem h_S16)) fun y1 => k x0 x1 y0 y1

/-- The relative coordinates written out. -/
def phaseOut : PG (F := F) L PUnit :=
  .op (.enqueueDma a21 (.here (outxV.slice (Rect.unit (s := S16384) (k0_off58 L) S1024.size (k0_off58_inb L)) (fun _ => rfl))) (.dma cc0_scoped7.sem) (Memref.isWhole_whole _).wordExact (View.wordExact_bits rfl) ⟨Or.inl rfl, trivial⟩) fun _ =>
  .op (.waitDma2 cc0_scoped7.sem a21 (outxV.slice (Rect.unit (s := S16384) (k0_off58 L) S1024.size (k0_off58_inb L)) (fun _ => rfl)) (Memref.isWhole_whole _).wordExact (View.wordExact_bits rfl)) fun _ =>
  .op (.enqueueDma a22 (.here (outyV.slice (Rect.unit (s := S16384) (k0_off58 L) S1024.size (k0_off58_inb L)) (fun _ => rfl))) (.dma cc0_scoped8.sem) (Memref.isWhole_whole _).wordExact (View.wordExact_bits rfl) ⟨Or.inl rfl, trivial⟩) fun _ =>
  .op (.waitDma2 cc0_scoped8.sem a22 (outyV.slice (Rect.unit (s := S16384) (k0_off58 L) S1024.size (k0_off58_inb L)) (fun _ => rfl)) (Memref.isWhole_whole _).wordExact (View.wordExact_bits rfl)) fun _ => .ret ⟨⟩

/-- The tile's number as a word, and the words made of it. -/
abbrev tileW : BitVec 32 := BitVec.ofNat 32 (L 1).val
abbrev baseW : BitVec 32 := Scalar.muli (tileW L) 1280#32
abbrev zeroW : IVec S16 32 := k0_pay93
abbrev laneW : IVec S16 32 := iota .scVector S16 32 [0] iota_S16_d0_w32_scVector

/-- A tile's histogram made and published. -/
def seg1 (k : PUnit → PG (F := F) L PUnit) : PG (F := F) L PUnit :=
  fills L a10 zeroW 31 0 (by omega) fun _ => Scf.Loop.for k0_t1_loop k0_t1_ok () (body1 L zeroW) >>= fun _ => phasePub L k

/-- The ranks known, the selected points placed and published. -/
def seg2 (k : PUnit → PG (F := F) L PUnit) : PG (F := F) L PUnit :=
  phaseGet L fun _ => fills2 L a12 a13 zeroW 31 0 (by omega) fun _ =>
  Scf.Loop.for k0_t2_loop k0_t2_ok () (body2 L (tileW L) zeroW) >>= fun _ =>
  Scf.Loop.for k0_t3_loop k0_t3_ok () (body3 L (tileW L) zeroW) >>= fun _ =>
  Scf.Loop.for k0_t4_loop k0_t4_ok () (body4 L (tileW L) (baseW L) zeroW laneW 0#32) >>= fun _ => phasePub2 L k

/-- The selected points merged. -/
def seg3 (k : Unit → PG (F := F) L PUnit) : PG (F := F) L PUnit :=
  phaseGet2 L fun _ => Scf.Loop.for k0_t5_loop k0_t5_ok () (body5 L (tileW L) (baseW L) zeroW laneW 0#32) >>= k

/-- The relative coordinates made and written out. -/
def seg4 (x0 x1 y0 y1 : Vec F S16 .f32) : PG (F := F) L PUnit :=
  centers L (tileW L) zeroW laneW x0 y0 0 (by omega) 16 0 (by omega) <|
  centers L (tileW L) zeroW laneW x1 y1 16 (by omega) 16 0 (by omega) <| phaseOut L

/-- From the second meeting on. -/
def tail3 : PG (F := F) L PUnit := seg3 L fun _ => phaseWait L fun x0 x1 y0 y1 => seg4 L x0 x1 y0 y1

/-- From the first meeting on. -/
def tail2 : PG (F := F) L PUnit :=
  seg2 L fun _ => SparseCore.subcoreBarrier sc_bar0 (grid0.bound 1) hsub0 >>= fun _ => tail3 L

/-- The tile's program. -/
def tileProg : PG (F := F) L PUnit :=
  phaseIn L fun _ => seg1 L fun _ => SparseCore.subcoreBarrier sc_bar0 (grid0.bound 1) hsub0 >>= fun _ => tail2 L

/-- Three nested sequences told as one. -/
theorem assoc3 {α β γ δ : Type} (a : PG (F := F) L α) (f : α → PG (F := F) L β) (g : β → PG (F := F) L γ) (h : γ → PG (F := F) L δ) :
    ((a >>= f) >>= g) >>= h = a >>= fun x => (f x >>= g) >>= h := by
  simp only [bind_assoc]

set_option maxRecDepth 65536 in
/-- The printed body is this program. -/
theorem body_eq : cc0__sc_group_body (F := F) L nearV (Memref.isWhole_whole _) ptxV (Memref.isWhole_whole _) ptyV (Memref.isWhole_whole _) cenxV (Memref.isWhole_whole _) cenyV (Memref.isWhole_whole _)
    outxV (Memref.isWhole_whole _) outyV (Memref.isWhole_whole _) a9 (Memref.isWhole_whole _) a10 (Memref.isWhole_whole _) a11 (Memref.isWhole_whole _) a12 (Memref.isWhole_whole _)
    a13 (Memref.isWhole_whole _) a14 (Memref.isWhole_whole _) a15 (Memref.isWhole_whole _) a16 (Memref.isWhole_whole _) a17 (Memref.isWhole_whole _) a18 (Memref.isWhole_whole _)
    a19 (Memref.isWhole_whole _) a20 (Memref.isWhole_whole _) a21 (Memref.isWhole_whole _) a22 (Memref.isWhole_whole _) a23 (Memref.isWhole_whole _) a24 (Memref.isWhole_whole _)

    cc0_scratch16 cc0_scratch17 cc0_scoped0 cc0_scoped1 cc0_scoped2 cc0_scoped3 cc0_scoped4 cc0_scoped5 cc0_scoped6 cc0_scoped7 cc0_scoped8
    = tileProg L := by
  unfold tileProg tail2 tail3 seg1 seg2 seg3
  refine Eq.trans (b := phaseIn L fun _ => fills L a10 zeroW 31 0 (by omega)  _) rfl ?_
  refine congrArg (fun k => phaseIn L fun _ => fills L a10 zeroW 31 0 (by omega)  k) (funext fun _ => ?_)
  refine Eq.trans (b := (((Scf.Loop.for k0_t1_loop k0_t1_ok () (body1 L zeroW) >>= _) >>= _) >>= _)) rfl ?_
  rw [assoc3]
  refine congrArg (fun k => Scf.Loop.for k0_t1_loop k0_t1_ok () (body1 L zeroW) >>= k) (funext fun _ => ?_)
  refine Eq.trans (b := phasePub L fun _ => SparseCore.subcoreBarrier sc_bar0 (grid0.bound 1) hsub0 >>= fun _ => phaseGet L fun _ => fills2 L a12 a13 zeroW 31 0 (by omega)  _) rfl ?_
  refine congrArg (fun k => phasePub L fun _ => SparseCore.subcoreBarrier sc_bar0 (grid0.bound 1) hsub0 >>= fun _ => phaseGet L fun _ => fills2 L a12 a13 zeroW 31 0 (by omega)  k) (funext fun _ => ?_)
  refine Eq.trans (b := (((Scf.Loop.for k0_t2_loop k0_t2_ok () (body2 L (tileW L) zeroW) >>= _) >>= _) >>= _)) rfl ?_
  rw [assoc3]
  refine congrArg (fun k => Scf.Loop.for k0_t2_loop k0_t2_ok () (body2 L (tileW L) zeroW) >>= k) (funext fun _ => ?_)
  refine Eq.trans (b := (((Scf.Loop.for k0_t3_loop k0_t3_ok () (body3 L (tileW L) zeroW) >>= _) >>= _) >>= _)) rfl ?_
  rw [assoc3]
  refine congrArg (fun k => Scf.Loop.for k0_t3_loop k0_t3_ok () (body3 L (tileW L) zeroW) >>= k) (funext fun _ => ?_)
  refine Eq.trans (b := (((Scf.Loop.for k0_t4_loop k0_t4_ok () (body4 L (tileW L) (baseW L) zeroW laneW 0#32) >>= _) >>= _) >>= _)) rfl ?_
  rw [assoc3]
  refine congrArg (fun k => Scf.Loop.for k0_t4_loop k0_t4_ok () (body4 L (tileW L) (baseW L) zeroW laneW 0#32) >>= k) (funext fun _ => ?_)
  refine Eq.trans (b := phasePub2 L fun _ => SparseCore.subcoreBarrier sc_bar0 (grid0.bound 1) hsub0 >>= fun _ => phaseGet2 L  _) rfl ?_
  refine congrArg (fun k => phasePub2 L fun _ => SparseCore.subcoreBarrier sc_bar0 (grid0.bound 1) hsub0 >>= fun _ => phaseGet2 L  k) (funext fun _ => ?_)
  refine Eq.trans (b := (((Scf.Loop.for k0_t5_loop k0_t5_ok () (body5 L (tileW L) (baseW L) zeroW laneW 0#32) >>= _) >>= _) >>= _)) rfl ?_
  rw [assoc3]
  refine congrArg (fun k => Scf.Loop.for k0_t5_loop k0_t5_ok () (body5 L (tileW L) (baseW L) zeroW laneW 0#32) >>= k) (funext fun _ => ?_)
  rfl

end Cert.KernelIdeal.Group

end
-- ==== Proof.Centers.lean ====
module

public import proofs.«01_k».proof.Proof.Text

@[expose] public section

noncomputable section

/-! The work on a centre: its selected points read, its relative coordinates stored. -/

namespace Cert.KernelIdeal.Group

open Cert.KernelIdeal.Gen
open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type}

local notation "𝕄" => MT nD τ sig (HIx 2) (Elt F) ℕ UU ℕ

variable [FloatOps F]

/-! ## The words -/

theorem cntIdx_val {w cl : ℕ} (hw : w < 16) (hcl : cl < 32) {arg1 : BitVec 32} (h1 : arg1 = BitVec.ofNat 32 w) {v3 : IVec S16 32} (h3 : ∀ y, v3 y = 0#32) (y : S16.Idx) :
    cntIdx arg1 v3 (BitVec.ofNat 32 cl) y = BitVec.ofNat 32 (32 * w + cl) := by
  show v3 y + arg1 * 32#32 + BitVec.ofNat 32 cl = _
  rw [h3, h1]
  refine BitVec.eq_of_toNat_eq ?_
  simp only [BitVec.toNat_add, BitVec.toNat_mul, BitVec.toNat_ofNat]
  omega

theorem lastIdx_val {N cl : ℕ} (hN : N ≤ 20480) (hcl : cl < 32) {v3 : IVec S16 32} (h3 : ∀ y, v3 y = 0#32) (y : S16.Idx) :
    lastIdx v3 (BitVec.ofNat 32 (32 * cl)) (BitVec.ofNat 32 N) y = BitVec.ofNat 32 (32 * cl + (min N 32 - 1)) := by
  show v3 y + BitVec.ofNat 32 (32 * cl) + IntOp.maxsi (IntOp.minsi (BitVec.ofNat 32 N) 32#32 - 1#32) 0#32 = _
  have hmax : IntOp.maxsi (IntOp.minsi (BitVec.ofNat 32 N) 32#32 - 1#32) 0#32 = BitVec.ofNat 32 (min N 32 - 1) := by
    have hmin : IntOp.minsi (BitVec.ofNat 32 N) 32#32 = BitVec.ofNat 32 (min N 32) := by
      refine BitVec.eq_of_toNat_eq ((minsi_small _ _ (by rw [toNat_ofNat_small (by omega)]; omega) (by decide)).trans ?_)
      rw [toNat_ofNat_small (n := N) (by omega), toNat_ofNat_small (n := min N 32) (by omega)]
      rfl
    rw [hmin]
    have : ∀ k : Fin 33, IntOp.maxsi (BitVec.ofNat 32 k.val - 1#32) 0#32 = BitVec.ofNat 32 (k.val - 1) := by decide +kernel
    exact this ⟨min N 32, by omega⟩
  rw [h3, hmax]
  refine BitVec.eq_of_toNat_eq ?_
  simp only [BitVec.toNat_add, BitVec.toNat_ofNat]
  omega

theorem selIdx_val {N l kb : ℕ} (hN : N ≤ 20480) (hl : l ≤ 20480) (hkb : kb ≤ 16) {v4 : IVec S16 32} (h4 : ∀ x, v4 x = BitVec.ofNat 32 (x 0).val) {s : IVec S16 32}
    {S : ℕ → ℕ} (hS : ∀ p, S p ≤ 20480) (hs : ∀ y, s y = BitVec.ofNat 32 (S (y 0).val)) (y : S16.Idx) :
    (selIdx v4 (BitVec.ofNat 32 kb) (BitVec.ofNat 32 N) (BitVec.ofNat 32 l) s y).toNat = min 19999 (if kb + (y 0).val < min N 32 then S (y 0).val else l) := by
  have hy : (y 0).val < 16 := (y 0).isLt
  have hmin : (IntOp.minsi (BitVec.ofNat 32 N) 32#32).toNat = min N 32 := by
    rw [minsi_small _ _ (by rw [toNat_ofNat_small (by omega)]; omega) (by decide), toNat_ofNat_small (by omega)]; rfl
  have hk : (v4 y + BitVec.ofNat 32 kb).toNat = kb + (y 0).val := by
    rw [h4]; simp only [BitVec.toNat_add, BitVec.toNat_ofNat]; omega
  have hSy := hS (y 0).val
  show (IntOp.minsi 19999#32 (IntOp.maxsi 0#32 (if IntOp.cmpi .slt (v4 y + BitVec.ofNat 32 kb) (IntOp.minsi (BitVec.ofNat 32 N) 32#32) = 1 then s y else BitVec.ofNat 32 l))).toNat = _
  have key : ∀ v : ℕ, v ≤ 20480 → (IntOp.minsi 19999#32 (IntOp.maxsi 0#32 (BitVec.ofNat 32 v))).toNat = min 19999 v := by
    intro v hv
    have hm : (IntOp.maxsi 0#32 (BitVec.ofNat 32 v)).toNat = v := by
      rw [maxsi_small _ _ (by decide) (by rw [toNat_ofNat_small (by omega)]; omega), toNat_ofNat_small (n := v) (by omega)]; exact Nat.zero_max v
    rw [minsi_small _ _ (by decide) (by omega), hm]; rfl
  have hc := cmpi_slt_one (v4 y + BitVec.ofNat 32 kb) (IntOp.minsi (BitVec.ofNat 32 N) 32#32) (by omega) (by omega)
  rw [hk, hmin] at hc
  by_cases h : kb + (y 0).val < min N 32
  · rw [if_pos (hc.mpr h), if_pos h, hs, key _ hSy]
  · rw [if_neg (fun h' => h (hc.mp h')), if_neg h, key _ hl]

theorem relVal_val {N kb : ℕ} (hN : N ≤ 20480) (hkb : kb ≤ 16) {v4 : IVec S16 32} (h4 : ∀ x, v4 x = BitVec.ofNat 32 (x 0).val) (cx : F .f32) (g : FVec F S16 .f32) (y : S16.Idx) :
    relVal v4 (BitVec.ofNat 32 kb) (BitVec.ofNat 32 N) cx g y
      = if N = 0 then (if kb + (y 0).val = 0 then Scalar.ofBits .f32 0x00000000#32 else Scalar.subf (Scalar.ofBits .f32 0x00000000#32) cx) else FloatOps.subf (g y) cx := by
  have hy : (y 0).val < 16 := (y 0).isLt
  have hk : v4 y + BitVec.ofNat 32 kb = BitVec.ofNat 32 (kb + (y 0).val) := by
    rw [h4]; refine BitVec.eq_of_toNat_eq ?_; simp only [BitVec.toNat_add, BitVec.toNat_ofNat]; omega
  have heq : ∀ v : ℕ, v ≤ 20480 → (IntOp.cmpi .eq (BitVec.ofNat 32 v) 0#32 = if v = 0 then 1#1 else 0#1) := by
    intro v hv
    show BitVec.ofBool (BitVec.ofNat 32 v == 0#32) = _
    by_cases h : v = 0
    · subst h; rfl
    · rw [if_neg h]
      have : (BitVec.ofNat 32 v == 0#32) = false := by
        refine beq_eq_false_iff_ne.mpr fun h' => h ?_
        have := congrArg BitVec.toNat h'
        rwa [toNat_ofNat_small (by omega)] at this
      rw [this]; rfl
  show (if IntOp.cmpi .eq (BitVec.ofNat 32 N) 0#32 &&& IntOp.cmpi .eq (v4 y + BitVec.ofNat 32 kb) 0#32 = 1 then Scalar.ofBits .f32 0x00000000#32
    else (if IntOp.cmpi .eq (BitVec.ofNat 32 N) 0#32 = 1 then (broadcast S16 (Scalar.subf (Scalar.ofBits .f32 0x00000000#32) cx) : FVec F S16 .f32) else subf g (broadcast S16 cx)) y) = _
  rw [hk, heq N hN, heq _ (by omega)]
  by_cases hN0 : N = 0
  · by_cases hk0 : kb + (y 0).val = 0
    · rw [if_pos hN0, if_pos hk0, if_pos hN0, if_pos hk0]; rfl
    · rw [if_pos hN0, if_neg hk0, if_pos hN0, if_neg hk0]; rfl
  · rw [if_neg hN0, if_neg hN0]
    by_cases hk0 : kb + (y 0).val = 0
    · rw [if_pos hk0, if_neg (by decide), if_neg (by decide)]; rfl
    · rw [if_neg hk0, if_neg (by decide), if_neg (by decide)]; rfl

/-- A single index vector's words lie below a length. -/
theorem one_lt {n : ℕ} (v : IVec S16 32) (h : ∀ y, (v y).toNat < n) (a : Fin 1) (y : S16.Idx) : ((![v] : Fin 1 → IVec S16 32) a y).toNat < (![n] : Fin 1 → ℕ) a := by
  match a with
  | ⟨0, _⟩ => exact h y

/-- An index of a number below the length is the one of that number. -/
theorem ix1_of {n : ℕ} [NeZero n] (a : (⟨1, ![n]⟩ : Shape).Idx) {p : ℕ} (hp : p < n) (ha : (a 0).val = p) : a = ix1 n p := by
  funext i
  match i with
  | ⟨0, _⟩ =>
    refine Fin.ext ?_
    show (a 0).val = p % n
    rw [ha, Nat.mod_eq_of_lt hp]

/-- What a gather at one index vector reads. -/
theorem gather_one {n : ℕ} [NeZero n] {e : EltTy} (p : Vec F ⟨1, ![n]⟩ e) (v : IVec S16 32) (hb) (y : S16.Idx) {N : ℕ} (hN : N < n) (h : (v y).toNat = N) :
    loadIdx p ![v] hb y = p (ix1 n N) :=
  congrArg p (ix1_of (idxAt ![v] hb y) hN h)

/-! ## A centre -/

section Center

variable (d : Dev nD) (L : grid0.Coords) {α : Type} {R : sProp (MT nD τ sig (HIx 2) (Elt F) ℕ UU ℕ)}

theorem rot5 {A B C D E R : sProp 𝕄} : iprop(A ∗ B ∗ C ∗ D ∗ E ∗ R) ⊢ iprop(B ∗ C ∗ D ∗ E ∗ A ∗ R) := by
  iintro ⟨A, B, C, D, E, R⟩
  isplitl [B]; · iexact B
  isplitl [C]; · iexact C
  isplitl [D]; · iexact D
  isplitl [E]; · iexact E
  isplitl [A] <;> iassumption

theorem rot6 {A B C D E G R : sProp 𝕄} : iprop(A ∗ B ∗ C ∗ D ∗ E ∗ G ∗ R) ⊢ iprop(B ∗ C ∗ D ∗ E ∗ G ∗ A ∗ R) := by
  iintro ⟨A, B, C, D, E, G, R⟩
  isplitl [B]; · iexact B
  isplitl [C]; · iexact C
  isplitl [D]; · iexact D
  isplitl [E]; · iexact E
  isplitl [G]; · iexact G
  isplitl [A] <;> iassumption

theorem rot6' {A B C D E G R : sProp 𝕄} : iprop(B ∗ C ∗ D ∗ E ∗ G ∗ A ∗ R) ⊢ iprop(A ∗ B ∗ C ∗ D ∗ E ∗ G ∗ R) := by
  iintro ⟨B, C, D, E, G, A, R⟩
  isplitl [A]; · iexact A
  isplitl [B]; · iexact B
  isplitl [C]; · iexact C
  isplitl [D]; · iexact D
  isplitl [E]; · iexact E
  isplitl [G] <;> iassumption

/-- The selected points of a tile's classes, slot by slot. -/
abbrev isSlots (C : Con F) (w : ℕ) (g : Vec F S1024 .i32) : Prop := ∀ z, g z = BitVec.ofNat 32 (C.slot (1024 * w + (z 0).val))
/-- The tile's part of a result, position by position. -/
abbrev relAt (C : Con F) (p : Vec F S20480 .f32) (cc : Vec F S512 .f32) (w s : ℕ) : F .f32 := C.rel p cc (32 * w + s / 32) (s % 32)

theorem Con.slot_le (C : Con F) (s : ℕ) : C.slot s ≤ 20480 := sel_le ..
theorem Con.count_le (C : Con F) (c : ℕ) : C.count c ≤ 20480 := cnt_le ..
theorem Con.pick_lt (C : Con F) (c k : ℕ) : C.pick c k < 20480 := lt_of_le_of_lt (min_le_left _ _) (by decide)

theorem relAt_half (C : Con F) (p : Vec F S20480 .f32) (cc : Vec F S512 .f32) {w cl kb off y : ℕ} (hoff : off = 32 * cl + kb) (hy : kb + y < 32) :
    relAt C p cc w (off + y) = C.rel p cc (32 * w + cl) (kb + y) := by
  unfold relAt
  rw [show (off + y) / 32 = cl by omega, show (off + y) % 32 = kb + y by omega]

variable (C : Con F) (w cl : ℕ) (hw : w < 16) (hcl : cl < 32)

/-- What the tile's buffers hold while its centres are done: `N` positions of its part of the results are there. -/
abbrev work (N : ℕ) (R : sProp (MT nD τ sig (HIx 2) (Elt F) ℕ UU ℕ)) : sProp (MT nD τ sig (HIx 2) (Elt F) ℕ UU ℕ) :=
  iprop(hold d L a16 (isSlots C w) ∗ hold d L a17 (fun g => g = C.px) ∗ hold d L a18 (fun g => g = C.py)
    ∗ hold d L a21 (upto (relAt C C.px C.cx w) N) ∗ hold d L a22 (upto (relAt C C.py C.cy w) N) ∗ R)

include hw hcl in
/-- One half of a centre. -/
theorem half_step (kb : ℕ) (hkb : kb = 0 ∨ kb = 16) {v4 : IVec S16 32} (h4 : ∀ x, v4 x = BitVec.ofNat 32 (x 0).val) (off : ℕ) (hoff : off = 32 * cl + kb) (ho)
    {c l : BitVec 32} (hc : c = BitVec.ofNat 32 (C.count (32 * w + cl))) (hl : l = BitVec.ofNat 32 (C.last (32 * w + cl)))
    {cx cy : F .f32} (hcx : cx = C.cx (ix1 512 (32 * w + cl))) (hcy : cy = C.cy (ix1 512 (32 * w + cl))) {k : PG (F := F) L PUnit} {Q : PUnit → sProp (MT nD τ sig (HIx 2) (Elt F) ℕ UU ℕ)}
    (h : work d L C w (off + 16) R ⊢ WP (F := F) d L k Q) :
    work d L C w off R ⊢ WP (F := F) d L (half L a16 a17 a18 a21 a22 v4 (BitVec.ofNat 32 kb) off ho c l cx cy k) Q := by
  have hkb' : kb ≤ 16 := by omega
  subst hc hl
  refine hold_elim d L fun f16 h16 => step_load d L a16 ![off] ho fun s hs => hold_intro d L h16 ?_
  have hs' : ∀ y, s y = BitVec.ofNat 32 (C.slot (32 * (32 * w + cl) + (kb + (y 0).val))) := by
    intro y
    rw [hs, h16]
    exact congrArg (fun n => BitVec.ofNat 32 (C.slot n)) (by show 1024 * w + (off + (y 0).val) = 32 * (32 * w + cl) + (kb + (y 0).val); omega)
  have hsel : ∀ y, (selIdx v4 (BitVec.ofNat 32 kb) (BitVec.ofNat 32 (C.count (32 * w + cl))) (BitVec.ofNat 32 (C.last (32 * w + cl))) s y).toNat = C.pick (32 * w + cl) (kb + (y 0).val) := by
    intro y
    exact selIdx_val (S := fun p => C.slot (32 * (32 * w + cl) + (kb + p))) (C.count_le _) (C.slot_le _) hkb' h4 (fun p => C.slot_le _) hs' y
  have hlt : ∀ y, (selIdx v4 (BitVec.ofNat 32 kb) (BitVec.ofNat 32 (C.count (32 * w + cl))) (BitVec.ofNat 32 (C.last (32 * w + cl))) s y).toNat < 20480 := fun y => by rw [hsel]; exact C.pick_lt _ _
  have hlt' := one_lt _ hlt
  have hchk : k0_chk6 (selIdx v4 (BitVec.ofNat 32 kb) (BitVec.ofNat 32 (C.count (32 * w + cl))) (BitVec.ofNat 32 (C.last (32 * w + cl))) s) := ⟨hlt', hlt'⟩
  refine step_assume (F := F) d L hchk ?_
  have hix : ∀ (p : Vec F S20480 .f32) (hb) (y : S16.Idx), loadIdx p ![selIdx v4 (BitVec.ofNat 32 kb) (BitVec.ofNat 32 (C.count (32 * w + cl))) (BitVec.ofNat 32 (C.last (32 * w + cl))) s] hb y = p (ix1 20480 (C.pick (32 * w + cl) (kb + (y 0).val))) := by
    intro p hb y
    exact gather_one p _ hb y (C.pick_lt (32 * w + cl) (kb + (y 0).val)) (hsel y)
  have hrel : ∀ (p : Vec F S20480 .f32) (cc : Vec F S512 .f32) (hb) (y : S16.Idx),
      relVal v4 (BitVec.ofNat 32 kb) (BitVec.ofNat 32 (C.count (32 * w + cl))) (cc (ix1 512 (32 * w + cl))) (loadIdx p ![selIdx v4 (BitVec.ofNat 32 kb) (BitVec.ofNat 32 (C.count (32 * w + cl))) (BitVec.ofNat 32 (C.last (32 * w + cl))) s] hb) y = relAt C p cc w (off + (y 0).val) := by
    intro p cc hb y
    have hy : (y 0).val < 16 := (y 0).isLt
    refine (relVal_val (C.count_le _) hkb' h4 _ _ y).trans ?_
    rw [hix p hb y, relAt_half C p cc hoff (by omega)]
    rfl
  refine rot5.trans (hold_elim d L fun f17 h17 => ?_)
  refine step_gather d L a17 _ (hl := View.loads_vmem h_S20480) ?_
  refine hold_intro d L (p := fun g => g = C.px) h17 (rot5.trans (hold_elim d L fun f18 h18 => ?_))
  refine step_gather d L a18 _ (hl := View.loads_vmem h_S20480) ?_
  refine hold_intro d L (p := fun g => g = C.py) h18 (rot5.trans ?_)
  refine step_fill (F := F) (e := .f32) d L _ a21 ![off] ho (N := off) rfl (fun y => ?_) ?_
  · rw [hcx, h17]; exact hrel C.px C.cx _ y
  refine rot5.trans (step_fill (F := F) (e := .f32) d L _ a22 ![off] ho (N := off) rfl (fun y => ?_) (rot5.trans h))
  rw [hcy, h18]; exact hrel C.py C.cy _ y

include hw hcl in
/-- One centre: its thirty-two relative coordinates put in place. -/
theorem center_step {arg1 : BitVec 32} (h1 : arg1 = BitVec.ofNat 32 w) {v3 v4 : IVec S16 32} (h3 : ∀ y, v3 y = 0#32) (h4 : ∀ x, v4 x = BitVec.ofNat 32 (x 0).val)
    (o0 o1 : ℕ) (e0 : o0 = 32 * cl) (e1 : o1 = 32 * cl + 16) (ho0 ho1)
    {cx cy : F .f32} (hcx : cx = C.cx (ix1 512 (32 * w + cl))) (hcy : cy = C.cy (ix1 512 (32 * w + cl))) {k : PG (F := F) L PUnit} {Q : PUnit → sProp (MT nD τ sig (HIx 2) (Elt F) ℕ UU ℕ)}
    (h : iprop(hold d L a13 (isCnt (F := F) C.nw 0 20480) ∗ work d L C w (32 * (cl + 1)) R) ⊢ WP (F := F) d L k Q) :
    iprop(hold d L a13 (isCnt (F := F) C.nw 0 20480) ∗ work d L C w (32 * cl) R)
      ⊢ WP (F := F) d L (.op (.assume (k0_chk4 (cntIdx arg1 v3 (BitVec.ofNat 32 cl))) (k0_chk4.dec _)) fun hk =>
        centerRest L a13 a16 a17 a18 a21 a22 arg1 v3 v4 (BitVec.ofNat 32 cl) (BitVec.ofNat 32 (32 * cl)) o0 o1 ho0 ho1 cx cy hk.down k) Q := by
  subst e0 e1
  have hcnt : ∀ y, cntIdx arg1 v3 (BitVec.ofNat 32 cl) y = BitVec.ofNat 32 (32 * w + cl) := cntIdx_val hw hcl h1 h3
  have hchk : k0_chk4 (cntIdx arg1 v3 (BitVec.ofNat 32 cl)) := by
    intro a x
    match a with
    | ⟨0, _⟩ => show (cntIdx arg1 v3 (BitVec.ofNat 32 cl) x).toNat < 512; rw [hcnt, toNat_ofNat_small (by omega)]; omega
  refine step_assume (F := F) d L hchk (hold_elim d L fun f13 h13 => ?_)
  refine step_gather d L a13 _ (hl := View.loads_vmem h_S512) ?_
  have hhead : ∀ hb, head (loadIdx (a13.view.read (Elt F) f13) ![cntIdx arg1 v3 (BitVec.ofNat 32 cl)] hb) = BitVec.ofNat 32 (C.count (32 * w + cl)) := by
    intro hb
    refine (h13 _).trans (congrArg (fun n => BitVec.ofNat 32 (C.count n)) ?_)
    show (cntIdx arg1 v3 (BitVec.ofNat 32 cl) _).toNat = 32 * w + cl
    rw [hcnt, toNat_ofNat_small (by omega)]
  have hlast : ∀ hb y, lastIdx v3 (BitVec.ofNat 32 (32 * cl)) (head (loadIdx (a13.view.read (Elt F) f13) ![cntIdx arg1 v3 (BitVec.ofNat 32 cl)] hb)) y
      = BitVec.ofNat 32 (32 * cl + (min (C.count (32 * w + cl)) 32 - 1)) := by
    intro hb y
    rw [hhead]
    exact lastIdx_val (C.count_le _) hcl h3 y
  have hchk5 : ∀ hb, k0_chk5 (lastIdx v3 (BitVec.ofNat 32 (32 * cl)) (head (loadIdx (a13.view.read (Elt F) f13) ![cntIdx arg1 v3 (BitVec.ofNat 32 cl)] hb))) := by
    intro hb a x
    match a with
    | ⟨0, _⟩ =>
      show (lastIdx v3 (BitVec.ofNat 32 (32 * cl)) (head (loadIdx (a13.view.read (Elt F) f13) ![cntIdx arg1 v3 (BitVec.ofNat 32 cl)] hb)) x).toNat < 1024
      rw [hlast, toNat_ofNat_small (by omega)]; omega
  refine hold_intro d L h13 (rot6.trans (step_assume (F := F) d L (hchk5 _) (hold_elim d L fun f16 h16 => ?_)))
  refine step_gather d L a16 _ (hl := View.loads_vmem h_S1024) (hold_intro d L h16 ?_)
  have hlv : ∀ hb hb', head (loadIdx (a16.view.read (Elt F) f16) ![lastIdx v3 (BitVec.ofNat 32 (32 * cl)) (head (loadIdx (a13.view.read (Elt F) f13) ![cntIdx arg1 v3 (BitVec.ofNat 32 cl)] hb))] hb')
      = BitVec.ofNat 32 (C.last (32 * w + cl)) := by
    intro hb hb'
    refine (h16 _).trans (congrArg (fun n => BitVec.ofNat 32 (C.slot n)) ?_)
    show 1024 * w + (lastIdx v3 (BitVec.ofNat 32 (32 * cl)) (head (loadIdx (a13.view.read (Elt F) f13) ![cntIdx arg1 v3 (BitVec.ofNat 32 cl)] hb)) _).toNat = _
    rw [hlast, toNat_ofNat_small (by omega)]
    omega
  refine half_step d L C w cl hw hcl 0 (.inl rfl) h4 (32 * cl) rfl ho0 (hhead _) (hlv _ _) hcx hcy ?_
  refine half_step d L C w cl hw hcl 16 (.inr rfl) h4 (32 * cl + 16) rfl ho1 (hhead _) (hlv _ _) hcx hcy ?_
  exact rot6'.trans h

/-- The centres from one on. -/
theorem centers_step {arg1 : BitVec 32} (hw : w < 16) (h1 : arg1 = BitVec.ofNat 32 w) {v3 v4 : IVec S16 32} (h3 : ∀ y, v3 y = 0#32) (h4 : ∀ x, v4 x = BitVec.ofNat 32 (x 0).val)
    (vx vy : Vec F S16 .f32) (b : ℕ) (hb : b ≤ 16) (hx : ∀ y, vx y = C.cx (ix1 512 (32 * w + (b + (y 0).val)))) (hy : ∀ y, vy y = C.cy (ix1 512 (32 * w + (b + (y 0).val))))
    {k : PG (F := F) L PUnit} {Q : PUnit → sProp (MT nD τ sig (HIx 2) (Elt F) ℕ UU ℕ)} (n : ℕ) :
    ∀ (l : ℕ) (hn : l + n ≤ 16), (iprop(hold d L a13 (isCnt (F := F) C.nw 0 20480) ∗ work d L C w (32 * (b + (l + n))) R) ⊢ WP (F := F) d L k Q) →
    (iprop(hold d L a13 (isCnt (F := F) C.nw 0 20480) ∗ work d L C w (32 * (b + l)) R) ⊢ WP (F := F) d L (centers L arg1 v3 v4 vx vy b hb n l hn k) Q) := by
  induction n with
  | zero => intro l hn h; exact h
  | succ n ih =>
    intro l hn h
    refine center_step (F := F) d L C w (b + l) hw (by omega) h1 h3 h4 _ _ rfl rfl _ _ ?_ ?_ ?_
    · exact (hx _).trans (congrArg (fun i => C.cx (ix1 512 (32 * w + (b + i)))) (by show l + 0 = l; rfl))
    · exact (hy _).trans (congrArg (fun i => C.cy (ix1 512 (32 * w + (b + i)))) (by show l + 0 = l; rfl))
    · exact ih (l + 1) (by omega) (by rw [show l + 1 + n = l + (n + 1) by omega]; exact h)

end Center

end Cert.KernelIdeal.Group

end
-- ==== Proof.Phases.lean ====
module

public import proofs.«01_k».proof.Proof.Centers

@[expose] public section

noncomputable section

/-! A tile's fills and centres, each from what its buffers hold before to what they hold after. -/

namespace Cert.KernelIdeal.Group

open Cert.KernelIdeal.Gen
open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type}

local notation "𝕄" => MT nD τ sig (HIx 2) (Elt F) ℕ UU ℕ

variable [FloatOps F] (d : Dev nD) (L : grid0.Coords) {Q : PUnit → sProp (MT nD τ sig (HIx 2) (Elt F) ℕ UU ℕ)} {R : sProp (MT nD τ sig (HIx 2) (Elt F) ℕ UU ℕ)}

/-- A step told for every frame, told by a wand. -/
theorem wand_of {A B G G' : sProp 𝕄} (h : ∀ R : sProp 𝕄, (iprop(B ∗ R) ⊢ G') → (iprop(A ∗ R) ⊢ G)) : A ⊢ iprop((B -∗ G') -∗ G) := by
  refine BI.wand_intro (h _ ?_)
  iintro ⟨HB, H⟩
  iapply H $$ HB

theorem assocR {A B R : sProp 𝕄} : iprop(A ∗ B ∗ R) ⊢ iprop((A ∗ B) ∗ R) := by
  iintro ⟨A, B, R⟩
  isplitr [R]
  · isplitl [A] <;> iassumption
  · iexact R

theorem assocL {A B R : sProp 𝕄} : iprop((A ∗ B) ∗ R) ⊢ iprop(A ∗ B ∗ R) := by
  iintro ⟨⟨A, B⟩, R⟩
  isplitl [A]; · iexact A
  isplitl [B] <;> iassumption

theorem fills_step (m : Memref sig .scVector .vmem S512 .i32) {v : IVec S16 32} (hv : ∀ y, v y = 0#32) (c : ℕ) :
    ∀ (N : ℕ) (h : N + 16 * (c + 1) ≤ 512) {k : PUnit → PG (F := F) L PUnit}, (iprop(hold d L m (upto (F := F) (e := .i32) (fun _ => 0#32) (N + 16 * (c + 1))) ∗ R) ⊢ WP (F := F) d L (k ⟨⟩) Q) →
    (iprop(hold d L m (upto (F := F) (e := .i32) (fun _ => 0#32) N) ∗ R) ⊢ WP (F := F) d L (fills L m v c N h k) Q) := by
  induction c with
  | zero => intro N h k hk; exact step_fill (F := F) (e := .i32) d L (fun _ => 0#32) m ![N] _ rfl hv hk
  | succ c ih =>
    intro N h k hk
    refine step_fill (F := F) (e := .i32) d L (fun _ => 0#32) m ![N] _ rfl hv (ih (N + 16) (by omega) ?_)
    rw [show N + 16 + 16 * (c + 1) = N + 16 * (c + 1 + 1) by omega]
    exact hk

theorem fills2_step (m m' : Memref sig .scVector .vmem S512 .i32) {v : IVec S16 32} (hv : ∀ y, v y = 0#32) (c : ℕ) :
    ∀ (N : ℕ) (h : N + 16 * (c + 1) ≤ 512) {k : PUnit → PG (F := F) L PUnit},
    (iprop(hold d L m (upto (F := F) (e := .i32) (fun _ => 0#32) (N + 16 * (c + 1))) ∗ hold d L m' (upto (F := F) (e := .i32) (fun _ => 0#32) (N + 16 * (c + 1))) ∗ R) ⊢ WP (F := F) d L (k ⟨⟩) Q) →
    (iprop(hold d L m (upto (F := F) (e := .i32) (fun _ => 0#32) N) ∗ hold d L m' (upto (F := F) (e := .i32) (fun _ => 0#32) N) ∗ R) ⊢ WP (F := F) d L (fills2 L m m' v c N h k) Q) := by
  induction c with
  | zero =>
    intro N h k hk
    refine step_fill (F := F) (e := .i32) d L (fun _ => 0#32) m ![N] _ rfl hv (swap2.trans ?_)
    exact step_fill (F := F) (e := .i32) d L (fun _ => 0#32) m' ![N] _ rfl hv (swap2.trans hk)
  | succ c ih =>
    intro N h k hk
    refine step_fill (F := F) (e := .i32) d L (fun _ => 0#32) m ![N] _ rfl hv (swap2.trans ?_)
    refine step_fill (F := F) (e := .i32) d L (fun _ => 0#32) m' ![N] _ rfl hv (swap2.trans (ih (N + 16) (by omega) ?_))
    rw [show N + 16 + 16 * (c + 1) = N + 16 * (c + 1 + 1) by omega]
    exact hk

theorem upto_zero {n : ℕ} {A : ℕ → BitVec 32} (g : Vec F ⟨1, ![n]⟩ .i32) : upto (F := F) (e := .i32) A 0 g := fun _ h => absurd h (Nat.not_lt_zero _)

theorem upto_cnt {nw : ℕ → BitVec 32} (a : ℕ) {g : Vec F S512 .i32} (h : upto (F := F) (e := .i32) (fun _ => 0#32) 512 g) : isCnt (F := F) nw a a g := fun z => by
  rw [h z (z 0).isLt, cnt_self]

/-- A table cleared: it counts nothing yet. -/
theorem fills_wand (m : Memref sig .scVector .vmem S512 .i32) {v : IVec S16 32} (hv : ∀ y, v y = 0#32) (nw : ℕ → BitVec 32) (a : ℕ) {k : PUnit → PG (F := F) L PUnit} (h) :
    hold d L m (fun _ => True) ⊢ iprop((hold d L m (isCnt (F := F) nw a a) -∗ WP (F := F) d L (k ⟨⟩) Q) -∗ WP (F := F) d L (fills L m v 31 0 h k) Q) :=
  wand_of fun R hk => (sep_mono_left (hold_mono (F := F) d L m fun g _ => upto_zero g)).trans
    (fills_step d L m hv 31 0 h ((sep_mono_left (hold_mono (F := F) d L m fun g hg => upto_cnt a hg)).trans hk))

/-- Two tables cleared. -/
theorem fills2_wand (m m' : Memref sig .scVector .vmem S512 .i32) {v : IVec S16 32} (hv : ∀ y, v y = 0#32) (nw : ℕ → BitVec 32) (a : ℕ) {k : PUnit → PG (F := F) L PUnit} (h) :
    iprop(hold d L m (fun _ => True) ∗ hold d L m' (fun _ => True))
      ⊢ iprop((iprop(hold d L m (isCnt (F := F) nw a a) ∗ hold d L m' (isCnt (F := F) nw a a)) -∗ WP (F := F) d L (k ⟨⟩) Q) -∗ WP (F := F) d L (fills2 L m m' v 31 0 h k) Q) := by
  refine wand_of fun R hk => ?_
  have hz : ∀ m'' : Memref sig .scVector .vmem S512 .i32, hold d L m'' (fun _ => True) ⊢ (hold d L m'' (upto (F := F) (e := .i32) (fun _ => 0#32) 0) : sProp 𝕄) :=
    fun m'' => hold_mono (F := F) d L m'' fun g _ => upto_zero g
  have hc : ∀ m'' : Memref sig .scVector .vmem S512 .i32, hold d L m'' (upto (F := F) (e := .i32) (fun _ => 0#32) 512) ⊢ (hold d L m'' (isCnt (F := F) nw a a) : sProp 𝕄) :=
    fun m'' => hold_mono (F := F) d L m'' fun g hg => upto_cnt a hg
  refine assocL.trans ((BI.sep_mono (hz m) (sep_mono_left (hz m'))).trans (fills2_step (F := F) d L m m' (R := R) (Q := Q) hv 31 0 h (k := k) ?_))
  exact ((BI.sep_mono (hc m) (sep_mono_left (hc m'))).trans assocR).trans hk

variable (C : Con F) (w : ℕ) (hw : w < 16)

include hw in
/-- Sixteen centres. -/
theorem centers_wand {arg1 : BitVec 32} (h1 : arg1 = BitVec.ofNat 32 w) {v3 v4 : IVec S16 32} (h3 : ∀ y, v3 y = 0#32) (h4 : ∀ x, v4 x = BitVec.ofNat 32 (x 0).val)
    (vx vy : Vec F S16 .f32) (b : ℕ) (hb : b ≤ 16) (hx : ∀ y, vx y = C.cx (ix1 512 (32 * w + (b + (y 0).val)))) (hy : ∀ y, vy y = C.cy (ix1 512 (32 * w + (b + (y 0).val))))
    {k : PG (F := F) L PUnit} (h) :
    iprop(hold d L a13 (isCnt (F := F) C.nw 0 20480) ∗ work d L C w (32 * b) iprop(emp))
      ⊢ iprop((iprop(hold d L a13 (isCnt (F := F) C.nw 0 20480) ∗ work d L C w (32 * (b + 16)) iprop(emp)) -∗ WP (F := F) d L k Q)
        -∗ WP (F := F) d L (centers L arg1 v3 v4 vx vy b hb 16 0 h k) Q) := by
  refine wand_of fun R hk => ?_
  have e : ∀ N, iprop(hold d L a13 (isCnt (F := F) C.nw 0 20480) ∗ work d L C w N R) ⊢ iprop((hold d L a13 (isCnt (F := F) C.nw 0 20480) ∗ work d L C w N iprop(emp)) ∗ R) := by
    intro N
    iintro ⟨H13, H16, H17, H18, H21, H22, R⟩
    isplitr [R]
    · isplitl [H13]; · iexact H13
      isplitl [H16]; · iexact H16
      isplitl [H17]; · iexact H17
      isplitl [H18]; · iexact H18
      isplitl [H21]; · iexact H21
      isplitl [H22]; · iexact H22
      iempintro
    · iexact R
  have e' : iprop((hold d L a13 (isCnt (F := F) C.nw 0 20480) ∗ work d L C w (32 * b) iprop(emp)) ∗ R)
      ⊢ iprop(hold d L a13 (isCnt (F := F) C.nw 0 20480) ∗ work d L C w (32 * (b + 0)) R) := by
    iintro ⟨⟨H13, H16, H17, H18, H21, H22, _⟩, R⟩
    isplitl [H13]; · iexact H13
    isplitl [H16]; · iexact H16
    isplitl [H17]; · iexact H17
    isplitl [H18]; · iexact H18
    isplitl [H21]; · iexact H21
    isplitl [H22]; · iexact H22
    iexact R
  exact e'.trans (centers_step d L C w hw h1 h3 h4 vx vy b hb hx hy 16 0 h ((e _).trans hk))

end Cert.KernelIdeal.Group

end
-- ==== Proof.Segs.lean ====
module

public import proofs.«01_k».proof.Proof.Phases
public import Idealize.ShloMosaic.Lib.ViewIndex

@[expose] public section

noncomputable section

/-! What a tile reads and writes outside its own memory, and its phases between the loops. -/

namespace Cert.KernelIdeal.Group

open Cert.KernelIdeal.Gen
open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type}

local notation "𝕄" => MT nD τ sig (HIx 2) (Elt F) ℕ UU ℕ

section

variable [FloatOps F] (d : Dev nD) (L : grid0.Coords)

/-! ## The pieces of the shared memories and of the call's arrays that a tile copies -/

abbrev hR : Memref sig .scVector .shared S512 .i32 :=
  (a23.slice (Rect.unit (s := S16x512) (k0_off4 L) S1x512.size (k0_off4_inb L)) (fun _ => rfl)).squeeze S512 squeezes_S1x512_S512
abbrev sR : Memref sig .scVector .shared S16384 .i32 :=
  (a24.slice (Rect.unit (s := S16x16384) (k0_off39 L) S1x16384.size (k0_off39_inb L)) (fun _ => rfl)).squeeze S16384 squeezes_S1x16384_S16384
abbrev sC : Memref sig .scVector .shared S16x1024 .i32 :=
  a24.slice (Rect.unit (s := S16x16384) (k0_off40 L) S16x1024.size (k0_off40_inb L)) (fun _ => rfl)
abbrev oX : Memref sig .scVector .hbm S1024 .f32 := outxV.slice (Rect.unit (s := S16384) (k0_off58 L) S1024.size (k0_off58_inb L)) (fun _ => rfl)
abbrev oY : Memref sig .scVector .hbm S1024 .f32 := outyV.slice (Rect.unit (s := S16384) (k0_off58 L) S1024.size (k0_off58_inb L)) (fun _ => rfl)
abbrev nI : Memref sig .scVector .hbm S1280 .i32 := nearV.slice (Rect.unit (s := S20480) (k0_off1 L) S1280.size (k0_off1_inb L)) (fun _ => rfl)
abbrev xI : Memref sig .scVector .hbm S32 .f32 := cenxV.slice (Rect.unit (s := S512) (k0_off2 L) S32.size (k0_off2_inb L)) (fun _ => rfl)
abbrev yI : Memref sig .scVector .hbm S32 .f32 := cenyV.slice (Rect.unit (s := S512) (k0_off2 L) S32.size (k0_off2_inb L)) (fun _ => rfl)

theorem hR_set : (hR L).view.set = rowH (jV L) := by
  refine ((View.set_reshape _ _).trans (View.set_slice_whole _ _)).trans ?_
  ext y
  have hy : (y 1).val < 512 := (y 1).isLt
  rw [Rect.mem_set_unit, k0_off4_eq]
  refine Fin.forall_fin_two.trans ?_
  rw [Finset.mem_filter]
  show ((L 1).val ≤ (y 0).val ∧ (y 0).val < (L 1).val + 1) ∧ (0 ≤ (y 1).val ∧ (y 1).val < 0 + 512) ↔ _ ∧ (y 0).val = (L 1).val
  simp only [Finset.mem_univ, true_and]
  omega

theorem sR_set : (sR L).view.set = rowS (jV L) := by
  refine ((View.set_reshape _ _).trans (View.set_slice_whole _ _)).trans ?_
  ext y
  have hy : (y 1).val < 16384 := (y 1).isLt
  rw [Rect.mem_set_unit, k0_off39_eq]
  refine Fin.forall_fin_two.trans ?_
  rw [Finset.mem_filter]
  show ((L 1).val ≤ (y 0).val ∧ (y 0).val < (L 1).val + 1) ∧ (0 ≤ (y 1).val ∧ (y 1).val < 0 + 16384) ↔ _ ∧ (y 0).val = (L 1).val
  simp only [Finset.mem_univ, true_and]
  omega

theorem sC_set : (sC L).view.set = colS (jV L) := by
  refine (View.set_slice_whole _ _).trans ?_
  ext y
  have hy : (y 0).val < 16 := (y 0).isLt
  rw [Rect.mem_set_unit, k0_off40_eq]
  refine Fin.forall_fin_two.trans ?_
  rw [Finset.mem_filter]
  show (0 ≤ (y 0).val ∧ (y 0).val < 0 + 16) ∧ (1024 * (L 1).val ≤ (y 1).val ∧ (y 1).val < 1024 * (L 1).val + 1024) ↔ _ ∧ (y 1).val / 1024 = (L 1).val
  simp only [Finset.mem_univ, true_and]
  omega

theorem out_set (y : S16384.Idx) : y ∈ (Rect.unit (s := S16384) (k0_off58 L) S1024.size (k0_off58_inb L)).set ↔ y ∈ outS (jV L) := by
  rw [Rect.mem_set_unit, k0_off58_eq, Fin.forall_fin_one, Finset.mem_filter]
  show (1024 * (L 1).val ≤ (y 0).val ∧ (y 0).val < 1024 * (L 1).val + 1024) ↔ _ ∧ (y 0).val / 1024 = (L 1).val
  simp only [Finset.mem_univ, true_and]
  omega

theorem oX_set : (oX L).view.set = outS (jV L) := (View.set_slice_whole _ _).trans (Finset.ext fun y => out_set L y)
theorem oY_set : (oY L).view.set = outS (jV L) := (View.set_slice_whole _ _).trans (Finset.ext fun y => out_set L y)

theorem squeeze_val {n : ℕ} (h : (⟨1, ![n]⟩ : Shape).numel = (⟨2, ![1, n]⟩ : Shape).numel) (x : (⟨1, ![n]⟩ : Shape).Idx) :
    (Shape.reshapeEquiv h x 0).val = 0 ∧ (Shape.reshapeEquiv h x 1).val = (x 0).val := by
  have e := Shape.reshapeEquiv_cons_one (d := ![n]) h x
  exact ⟨congrArg (fun z => (z 0).val) e, congrArg (fun z => (z 1).val) e⟩

theorem hR_val (x : S512.Idx) : ((hR L).view.emb x 0).val = (L 1).val ∧ ((hR L).view.emb x 1).val = (x 0).val := by
  have h := squeeze_val (n := 512) rfl x
  have e : ∀ a, ((hR L).view.emb x a).val = k0_off4 L a + 1 * (Shape.reshapeEquiv (s := S1x512) (s' := S512) rfl x a).val := fun _ => rfl
  rw [k0_off4_eq] at e
  refine ⟨(e 0).trans ?_, (e 1).trans ?_⟩
  · rw [h.1]; rfl
  · rw [h.2]; show 0 + 1 * _ = _; omega

theorem sR_val (x : S16384.Idx) : ((sR L).view.emb x 0).val = (L 1).val ∧ ((sR L).view.emb x 1).val = (x 0).val := by
  have h := squeeze_val (n := 16384) rfl x
  have e : ∀ a, ((sR L).view.emb x a).val = k0_off39 L a + 1 * (Shape.reshapeEquiv (s := S1x16384) (s' := S16384) rfl x a).val := fun _ => rfl
  rw [k0_off39_eq] at e
  refine ⟨(e 0).trans ?_, (e 1).trans ?_⟩
  · rw [h.1]; rfl
  · rw [h.2]; show 0 + 1 * _ = _; omega

theorem sC_val (x : S16x1024.Idx) : ((sC L).view.emb x 0).val = (x 0).val ∧ ((sC L).view.emb x 1).val = 1024 * (L 1).val + (x 1).val := by
  have e : ∀ a, ((sC L).view.emb x a).val = k0_off40 L a + 1 * (x a).val := fun _ => rfl
  rw [k0_off40_eq] at e
  refine ⟨(e 0).trans ?_, (e 1).trans ?_⟩
  · show 0 + 1 * _ = _; omega
  · show 1024 * (L 1).val + 1 * _ = _; omega

theorem oX_val (x : S1024.Idx) : ((oX L).view.emb x 0).val = 1024 * (L 1).val + (x 0).val := by
  have e : ∀ a, ((oX L).view.emb x a).val = k0_off58 L a + 1 * (x a).val := fun _ => rfl
  rw [k0_off58_eq] at e
  refine (e 0).trans ?_
  show 1024 * (L 1).val + 1 * _ = _; omega

theorem oY_val (x : S1024.Idx) : ((oY L).view.emb x 0).val = 1024 * (L 1).val + (x 0).val := oX_val L x

theorem nI_val (x : S1280.Idx) : ((nI L).view.emb x 0).val = 1280 * (L 1).val + (x 0).val := by
  have e : ∀ a, ((nI L).view.emb x a).val = k0_off1 L a + 1 * (x a).val := fun _ => rfl
  rw [k0_off1_eq] at e
  refine (e 0).trans ?_
  show 1280 * (L 1).val + 1 * _ = _; omega

theorem xI_val (x : S32.Idx) : ((xI L).view.emb x 0).val = 32 * (L 1).val + (x 0).val := by
  have e : ∀ a, ((xI L).view.emb x a).val = k0_off2 L a + 1 * (x a).val := fun _ => rfl
  rw [k0_off2_eq] at e
  refine (e 0).trans ?_
  show 32 * (L 1).val + 1 * _ = _; omega

/-- A view's elements at two contents that the view reads alike. -/
theorem pts_read {t : Thread nD τ} {sp : Space} {s : Shape} {e : EltTy} (v : View sig t.2.kind sp s e) (q : PosShare TreeShare)
    {f g : v.ty.Contents (Elt F)} (h : v.read (Elt F) f = v.read (Elt F) g) :
    (v.loc t ↦[v.set]{q} f : sProp 𝕄) = v.loc t ↦[v.set]{q} g := by
  refine pointsTo_congr fun i hi => ?_
  obtain ⟨x, -, rfl⟩ := Finset.mem_map.mp hi
  exact View.eq_of_read_eq (congrFun h x)

/-- A whole view's contents after one write of all of it. -/
theorem read_writes_one {sp : Space} {s : Shape} {e : EltTy} {κ} (v : View sig κ sp s e) (f : v.ty.Contents (Elt F)) (w : s.Idx → Elt F e) :
    v.read (Elt F) (v.writes (Elt F) f [⟨Rect.whole s, w⟩]) = w := by
  funext x
  refine Eq.trans ?_ (View.read_write_of_mem (v := v.slice (Rect.whole s)) f w (Finset.mem_univ x))
  show v.read (Elt F) _ x = v.read (Elt F) _ ((Rect.whole s).emb x)
  rw [Rect.emb_whole_apply]; rfl

/-- Evidence that a tile which owes `O` may wait for its copies. -/
abbrev mayW (O : CellTallies nD τ sig (HIx 2)) : sProp 𝕄 := Transfers.MayWaits (thr d L) (default : HIx 2) O

/-- What a tile owes, having waited on no more than `W`, its copies and its barrier. -/
def owe (O : CellTallies nD τ sig (HIx 2)) (W : Waits sig (HIx 2)) : sProp 𝕄 :=
  iprop(∃ W', ⌜∀ p ∈ W', p ∈ W ∨ p.2 = none ∨ ∃ j : Fin 2, p.2 = some j⌝ ∗ owes (thr d L) O W')

theorem waits_insert {W W' : Waits sig (HIx 2)} {x : SemLoc sig} {o : HIx 2} (ho : o = none ∨ ∃ j : Fin 2, o = some j)
    (h : ∀ p ∈ W', p ∈ W ∨ p.2 = none ∨ ∃ j : Fin 2, p.2 = some j) :
    ∀ p ∈ insert (x, o) W', p ∈ W ∨ p.2 = none ∨ ∃ j : Fin 2, p.2 = some j := by
  intro p hp
  rcases Finset.mem_insert.mp hp with rfl | hp
  · exact .inr ho
  · exact h p hp

variable (C : Dev nD → Con F) (O : CellTallies nD τ sig (HIx 2)) (W : Waits sig (HIx 2)) {Q : PUnit → sProp (MT nD τ sig (HIx 2) (Elt F) ℕ UU ℕ)}

theorem phasePub_wand {k : PUnit → PG (F := F) L PUnit} :
    iprop(mayW d L O ∗ hold d L a10 (isCnt (F := F) (C d).nw (1280 * (L 1).val) (1280 * (L 1).val + 1280))
        ∗ (∃ f, histLoc d (cV L) ↦[rowH (jV L)]{fullShare} f) ∗ semVal (thr d L, .dma cc0_scoped3.sem) 0 ∗ owe d L O W)
      ⊢ iprop((iprop(hold d L a10 (fun _ => True) ∗ (histLoc d (cV L) ↦[rowH (jV L)]{fullShare} (C d).hist)
          ∗ semVal (thr d L, .dma cc0_scoped3.sem) 0 ∗ owe d L O W) -∗ WP (F := F) d L (k ⟨⟩) Q)
        -∗ WP (F := F) d L (phasePub L k) Q) := by
  rw [← hR_set L]
  have hE := fun (f : Vec F S512 .i32) (hf : isCnt (F := F) (C d).nw (1280 * (L 1).val) (1280 * (L 1).val + 1280) f) (g : Vec F S16x512 .i32) =>
    pts_read (F := F) (t := thr d L) (hR L).view fullShare (f := (hR L).view.writes (Elt F) g [⟨Rect.whole S512, f⟩]) (g := (C d).hist)
      ((read_writes_one (F := F) _ _ _).trans (funext fun x => (hf x).trans (by
        have h := hR_val L x
        show _ = BitVec.ofNat 32 (cnt (cls (C d).nw) ((hR L).view.emb x 1).val (1280 * ((hR L).view.emb x 0).val) (1280 * ((hR L).view.emb x 0).val + 1280))
        rw [h.1, h.2])))
  unfold phasePub hold owe WP mayW
  generalize hk1 : k = k1
  iintro ⟨#Hmw, ⟨%f, %hf, H10⟩, ⟨%g, Hh⟩, Hs, ⟨%W', %hW, HO⟩⟩
  iintro Hk
  ihave Hh' := (show (histLoc d (cV L) ↦[(hR L).view.set]{fullShare} g : sProp 𝕄) ⊢ ((hR L).view.loc (thr d L) ↦[(hR L).view.set]{fullShare} g : sProp 𝕄) from BI.Entails.refl _) $$ Hh
  sl_exec
  iapply Hk
  isplitl [H10]
  · iexists f
    isplitr; · ipureintro; trivial
    iexact H10
  isplitl [Hh']; · iapply (Entails.of_eq (hE (phasePub_wand.sl.dma0 f) hf g)) $$ Hh'
  isplitl [Hs]; · iexact Hs
  iexists _
  isplitr
  rotate_left
  · iexact HO
  · ipureintro; exact waits_insert (.inl rfl) hW

theorem phaseGet_wand {k : PUnit → PG (F := F) L PUnit} :
    iprop(mayW d L O ∗ hold d L a11 (fun _ => True) ∗ (histLoc d (cV L) ↦{lf (jV L)} (C d).hist) ∗ semVal (thr d L, .dma cc0_scoped4.sem) 0 ∗ owe d L O W)
      ⊢ iprop((iprop(hold d L a11 (isHist (F := F) (C d).nw) ∗ (histLoc d (cV L) ↦{lf (jV L)} (C d).hist)
          ∗ semVal (thr d L, .dma cc0_scoped4.sem) 0 ∗ owe d L O W) -∗ WP (F := F) d L (k ⟨⟩) Q)
        -∗ WP (F := F) d L (phaseGet L k) Q) := by
  unfold phaseGet hold owe WP mayW
  generalize hk1 : k = k1
  iintro ⟨#Hmw, ⟨%f, %hf, H11⟩, Hh, Hs, ⟨%W', %hW, HO⟩⟩
  iintro Hk
  ihave Hh' := (show (histLoc d (cV L) ↦{lf (jV L)} (C d).hist : sProp 𝕄) ⊢ (a23.view.loc (thr d L) ↦{lf (jV L)} (C d).hist : sProp 𝕄) from BI.Entails.refl _) $$ Hh
  sl_exec
  iapply Hk
  isplitl [H11]
  · iexists _
    isplitr
    rotate_left
    · iexact H11
    · ipureintro
      rw [View.read_write_univ]
      exact fun z => rfl
  isplitl [Hh']; · iexact Hh'
  isplitl [Hs]; · iexact Hs
  iexists _
  isplitr
  rotate_left
  · iexact HO
  · ipureintro; exact waits_insert (.inl rfl) hW

theorem phasePub2_wand {k : PUnit → PG (F := F) L PUnit} :
    iprop(mayW d L O ∗ hold d L a14 (fun g => ∀ y, g y = BitVec.ofNat 32 (sel (cls (C d).nw) (1280 * (L 1).val) (1280 * (L 1).val + 1280) (y 0).val))
        ∗ (∃ f, selLoc d (cV L) ↦[rowS (jV L)]{fullShare} f) ∗ semVal (thr d L, .dma cc0_scoped5.sem) 0 ∗ owe d L O W)
      ⊢ iprop((iprop(hold d L a14 (fun _ => True) ∗ (selLoc d (cV L) ↦[rowS (jV L)]{fullShare} (C d).sels)
          ∗ semVal (thr d L, .dma cc0_scoped5.sem) 0 ∗ owe d L O W) -∗ WP (F := F) d L (k ⟨⟩) Q)
        -∗ WP (F := F) d L (phasePub2 L k) Q) := by
  rw [← sR_set L]
  have hE := fun (f : Vec F S16384 .i32) (hf : ∀ y, f y = BitVec.ofNat 32 (sel (cls (C d).nw) (1280 * (L 1).val) (1280 * (L 1).val + 1280) (y 0).val)) (g : Vec F S16x16384 .i32) =>
    pts_read (F := F) (t := thr d L) (sR L).view fullShare (f := (sR L).view.writes (Elt F) g [⟨Rect.whole S16384, f⟩]) (g := (C d).sels)
      ((read_writes_one (F := F) _ _ _).trans (funext fun x => (hf x).trans (by
        have h := sR_val L x
        show _ = BitVec.ofNat 32 (sel (cls (C d).nw) (1280 * ((sR L).view.emb x 0).val) (1280 * ((sR L).view.emb x 0).val + 1280) ((sR L).view.emb x 1).val)
        rw [h.1, h.2])))
  unfold phasePub2 hold owe WP mayW
  generalize hk1 : k = k1
  iintro ⟨#Hmw, ⟨%f, %hf, H14⟩, ⟨%g, Hh⟩, Hs, ⟨%W', %hW, HO⟩⟩
  iintro Hk
  ihave Hh' := (show (selLoc d (cV L) ↦[(sR L).view.set]{fullShare} g : sProp 𝕄) ⊢ ((sR L).view.loc (thr d L) ↦[(sR L).view.set]{fullShare} g : sProp 𝕄) from BI.Entails.refl _) $$ Hh
  sl_exec
  iapply Hk
  isplitl [H14]
  · iexists f
    isplitr; · ipureintro; trivial
    iexact H14
  isplitl [Hh']; · iapply (Entails.of_eq (hE (phasePub2_wand.sl.dma0 f) hf g)) $$ Hh'
  isplitl [Hs]; · iexact Hs
  iexists _
  isplitr
  rotate_left
  · iexact HO
  · ipureintro; exact waits_insert (.inl rfl) hW

theorem phaseGet2_wand {k : PUnit → PG (F := F) L PUnit} :
    iprop(mayW d L O ∗ hold d L a15 (fun _ => True) ∗ (selLoc d (cV L) ↦[colS (jV L)]{fullShare} (C d).sels) ∗ semVal (thr d L, .dma cc0_scoped6.sem) 0 ∗ owe d L O W)
      ⊢ iprop((iprop(hold d L a15 (isSels (F := F) (C d).nw (1024 * (L 1).val)) ∗ (selLoc d (cV L) ↦[colS (jV L)]{fullShare} (C d).sels)
          ∗ semVal (thr d L, .dma cc0_scoped6.sem) 0 ∗ owe d L O W) -∗ WP (F := F) d L (k ⟨⟩) Q)
        -∗ WP (F := F) d L (phaseGet2 L k) Q) := by
  rw [← sC_set L]
  have hE : isSels (F := F) (C d).nw (1024 * (L 1).val) ((sC L).view.read (Elt F) (C d).sels) := fun x => by
    have h := sC_val L x
    show BitVec.ofNat 32 (sel (cls (C d).nw) (1280 * ((sC L).view.emb x 0).val) (1280 * ((sC L).view.emb x 0).val + 1280) ((sC L).view.emb x 1).val) = _
    rw [h.1, h.2]
  unfold phaseGet2 hold owe WP mayW
  generalize hk1 : k = k1
  iintro ⟨#Hmw, ⟨%f, %hf, H15⟩, Hh, Hs, ⟨%W', %hW, HO⟩⟩
  iintro Hk
  ihave Hh' := (show (selLoc d (cV L) ↦[(sC L).view.set]{fullShare} (C d).sels : sProp 𝕄) ⊢ ((sC L).view.loc (thr d L) ↦[(sC L).view.set]{fullShare} (C d).sels : sProp 𝕄) from BI.Entails.refl _) $$ Hh
  sl_exec
  iapply Hk
  isplitl [H15]
  · iexists _
    isplitr
    rotate_left
    · iexact H15
    · ipureintro
      rw [View.read_write_univ]
      exact hE
  isplitl [Hh']; · iexact Hh'
  isplitl [Hs]; · iexact Hs
  iexists _
  isplitr
  rotate_left
  · iexact HO
  · ipureintro; exact waits_insert (.inl rfl) hW

theorem phaseOut_wand :
    iprop(mayW d L O ∗ hold d L a21 (upto (relAt (C d) (C d).px (C d).cx (L 1).val) 1024) ∗ hold d L a22 (upto (relAt (C d) (C d).py (C d).cy (L 1).val) 1024)
        ∗ (∃ f, oxLoc d ↦[outS (jV L)]{fullShare} f) ∗ (∃ f, oyLoc d ↦[outS (jV L)]{fullShare} f)
        ∗ semVal (thr d L, .dma cc0_scoped7.sem) 0 ∗ semVal (thr d L, .dma cc0_scoped8.sem) 0 ∗ owe d L O W)
      ⊢ iprop((iprop(hold d L a21 (fun _ => True) ∗ hold d L a22 (fun _ => True)
        ∗ (oxLoc d ↦[outS (jV L)]{fullShare} (C d).relx) ∗ (oyLoc d ↦[outS (jV L)]{fullShare} (C d).rely)
        ∗ semVal (thr d L, .dma cc0_scoped7.sem) 0 ∗ semVal (thr d L, .dma cc0_scoped8.sem) 0 ∗ owe d L O W) -∗ Q ⟨⟩)
        -∗ WP (F := F) d L (phaseOut L) Q) := by
  have hX : ∀ (f : Vec F S1024 .f32) (hf : upto (relAt (C d) (C d).px (C d).cx (L 1).val) 1024 f) (g : Vec F S16384 .f32),
      ((oX L).view.loc (thr d L) ↦[(oX L).view.set]{fullShare} (oX L).view.writes (Elt F) g [⟨Rect.whole S1024, f⟩] : sProp 𝕄) = (oxLoc d ↦[outS (jV L)]{fullShare} (C d).relx) := by
    intro f hf g
    rw [← oX_set L]
    refine pts_read (F := F) (t := thr d L) (oX L).view fullShare (g := (C d).relx) ((read_writes_one (F := F) _ _ _).trans (funext fun x => ?_))
    have hx : (x 0).val < 1024 := (x 0).isLt
    refine (hf x hx).trans ?_
    have h := oX_val L x
    show (C d).rel (C d).px (C d).cx (32 * (L 1).val + (x 0).val / 32) ((x 0).val % 32) = (C d).rel (C d).px (C d).cx (((oX L).view.emb x 0).val / 32) (((oX L).view.emb x 0).val % 32)
    rw [h]
    congr 1 <;> omega
  have hY : ∀ (f : Vec F S1024 .f32) (hf : upto (relAt (C d) (C d).py (C d).cy (L 1).val) 1024 f) (g : Vec F S16384 .f32),
      ((oY L).view.loc (thr d L) ↦[(oY L).view.set]{fullShare} (oY L).view.writes (Elt F) g [⟨Rect.whole S1024, f⟩] : sProp 𝕄) = (oyLoc d ↦[outS (jV L)]{fullShare} (C d).rely) := by
    intro f hf g
    rw [← oY_set L]
    refine pts_read (F := F) (t := thr d L) (oY L).view fullShare (g := (C d).rely) ((read_writes_one (F := F) _ _ _).trans (funext fun x => ?_))
    have hx : (x 0).val < 1024 := (x 0).isLt
    refine (hf x hx).trans ?_
    have h := oY_val L x
    show (C d).rel (C d).py (C d).cy (32 * (L 1).val + (x 0).val / 32) ((x 0).val % 32) = (C d).rel (C d).py (C d).cy (((oY L).view.emb x 0).val / 32) (((oY L).view.emb x 0).val % 32)
    rw [h]
    congr 1 <;> omega
  unfold phaseOut hold owe WP mayW
  iintro ⟨#Hmw, ⟨%f, %hf, H21⟩, ⟨%f', %hf', H22⟩, ⟨%g, Hx⟩, ⟨%g', Hy⟩, Hs, Hs', ⟨%W', %hW, HO⟩⟩
  iintro Hk
  ihave Hx' := (Entails.of_eq (show (oxLoc d ↦[outS (jV L)]{fullShare} g : sProp 𝕄) = ((oX L).view.loc (thr d L) ↦[(oX L).view.set]{fullShare} g : sProp 𝕄) by rw [oX_set L])) $$ Hx
  ihave Hy' := (Entails.of_eq (show (oyLoc d ↦[outS (jV L)]{fullShare} g' : sProp 𝕄) = ((oY L).view.loc (thr d L) ↦[(oY L).view.set]{fullShare} g' : sProp 𝕄) by rw [oY_set L])) $$ Hy
  sl_exec
  rw [wp_ret]
  imodintro
  iapply Hk
  isplitl [H21]
  · iexists f
    isplitr; · ipureintro; trivial
    iexact H21
  isplitl [H22]
  · iexists f'
    isplitr; · ipureintro; trivial
    iexact H22
  isplitl [Hx']; · iapply (Entails.of_eq (hX (phaseOut_wand.sl.dma0 f) hf g)) $$ Hx'
  isplitl [Hy']; · iapply (Entails.of_eq (hY (phaseOut_wand.sl.dma0_1 f') hf' g')) $$ Hy'
  isplitl [Hs]; · iexact Hs
  isplitl [Hs']; · iexact Hs'
  iexists _
  isplitr
  rotate_left
  · iexact HO
  · ipureintro; exact waits_insert (.inl rfl) (waits_insert (.inl rfl) hW)

end

end Cert.KernelIdeal.Group

end
-- ==== Proof.Stretch.lean ====
module

public import proofs.«01_k».proof.Proof.Segs

@[expose] public section

noncomputable section

/-! The four stretches of a tile between its meetings. -/

namespace Cert.KernelIdeal.Group

open Cert.KernelIdeal.Gen
open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type}

local notation "𝕄" => MT nD τ sig (HIx 2) (Elt F) ℕ UU ℕ

variable [FloatOps F] (d : Dev nD) (L : grid0.Coords) (C : Dev nD → Con F) (O : CellTallies nD τ sig (HIx 2)) (W : Waits sig (HIx 2))
  {Q : PUnit → sProp (MT nD τ sig (HIx 2) (Elt F) ℕ UU ℕ)}

theorem zero_val : ∀ y, zeroW y = 0#32 := fun _ => rfl
theorem lane_val : ∀ x, laneW x = BitVec.ofNat 32 (x 0).val := fun x => by
  show BitVec.ofNat 32 (0 * 16 + (x 0).val) = _
  rw [Nat.zero_mul, Nat.zero_add]
theorem base_val : baseW L = BitVec.ofNat 32 (1280 * (L 1).val) := by
  show BitVec.ofNat 32 (L 1).val * 1280#32 = _
  rw [Nat.mul_comm, BitVec.ofNat_mul]

variable (hnw : ∀ p, ((C d).nw p).toNat < 2 ^ 31)

include hnw in
/-- The tile's classes counted, the counts its row of the shared histograms. -/
theorem seg1_wand {k : PUnit → PG (F := F) L PUnit} :
    iprop(mayW d L O ∗ hold d L a9 (isNw (F := F) (C d).nw (1280 * (L 1).val)) ∗ hold d L a10 (fun _ => True)
        ∗ (∃ f, histLoc d (cV L) ↦[rowH (jV L)]{fullShare} f) ∗ semVal (thr d L, .dma cc0_scoped3.sem) 0 ∗ owe d L O W)
      ⊢ iprop((iprop(hold d L a9 (isNw (F := F) (C d).nw (1280 * (L 1).val)) ∗ hold d L a10 (fun _ => True)
          ∗ (histLoc d (cV L) ↦[rowH (jV L)]{fullShare} (C d).hist)
          ∗ semVal (thr d L, .dma cc0_scoped3.sem) 0 ∗ owe d L O W) -∗ WP (F := F) d L (k ⟨⟩) Q)
        -∗ WP (F := F) d L (seg1 L k) Q) := by
  unfold seg1
  iintro ⟨#Hmw, H9, H10, Hh, Hs, HO⟩
  iintro Hk
  iapply (fills_wand (F := F) d L a10 zero_val (C d).nw (1280 * (L 1).val) _) $$ H10
  iintro H10
  iapply (loop1 (F := F) d L (C d).nw hnw (1280 * (L 1).val) zeroW) $$ [H9 H10]
  · isplitl [H9] <;> iassumption
  iintro ⟨H9, H10⟩
  iapply (phasePub_wand (F := F) d L C O W) $$ [H10 Hh Hs HO]
  · isplitr; · iexact Hmw
    isplitl [H10]; · iexact H10
    isplitl [Hh]; · iexact Hh
    isplitl [Hs] <;> iassumption
  iintro ⟨H10, Hh, Hs, HO⟩
  iapply Hk
  isplitl [H9]; · iexact H9
  isplitl [H10]; · iexact H10
  isplitl [Hh]; · iexact Hh
  isplitl [Hs] <;> iassumption

include hnw in
/-- The classes' totals known, the tile's selected points its row of the shared selections. -/
theorem seg2_wand {k : PUnit → PG (F := F) L PUnit} :
    iprop(mayW d L O ∗ hold d L a9 (isNw (F := F) (C d).nw (1280 * (L 1).val)) ∗ hold d L a11 (fun _ => True) ∗ hold d L a12 (fun _ => True)
        ∗ hold d L a13 (fun _ => True) ∗ hold d L a14 (fun _ => True) ∗ (histLoc d (cV L) ↦{lf (jV L)} (C d).hist)
        ∗ (∃ f, selLoc d (cV L) ↦[rowS (jV L)]{fullShare} f) ∗ semVal (thr d L, .dma cc0_scoped4.sem) 0 ∗ semVal (thr d L, .dma cc0_scoped5.sem) 0 ∗ owe d L O W)
      ⊢ iprop((iprop(hold d L a9 (fun _ => True) ∗ hold d L a11 (fun _ => True) ∗ hold d L a12 (fun _ => True)
          ∗ hold d L a13 (isCnt (F := F) (C d).nw 0 20480) ∗ hold d L a14 (fun _ => True) ∗ (histLoc d (cV L) ↦{lf (jV L)} (C d).hist)
          ∗ (selLoc d (cV L) ↦[rowS (jV L)]{fullShare} (C d).sels)
          ∗ semVal (thr d L, .dma cc0_scoped4.sem) 0 ∗ semVal (thr d L, .dma cc0_scoped5.sem) 0 ∗ owe d L O W) -∗ WP (F := F) d L (k ⟨⟩) Q)
        -∗ WP (F := F) d L (seg2 L k) Q) := by
  have hw : (L 1).val < 16 := (L 1).isLt
  unfold seg2
  iintro ⟨#Hmw, H9, H11, H12, H13, H14, Hh, Hr, Hs, Hs', HO⟩
  iintro Hk
  iapply (phaseGet_wand (F := F) d L C O W) $$ [H11 Hh Hs HO]
  · isplitr; · iexact Hmw
    isplitl [H11]; · iexact H11
    isplitl [Hh]; · iexact Hh
    isplitl [Hs] <;> iassumption
  iintro ⟨H11, Hh, Hs, HO⟩
  iapply (fills2_wand (F := F) d L a12 a13 zero_val (C d).nw 0 _) $$ [H12 H13]
  · isplitl [H12] <;> iassumption
  iintro ⟨H12, H13⟩
  iapply (loop2 (F := F) d L (C d).nw (L 1).val hw (tileW L) rfl zeroW) $$ [H11 H12 H13]
  · isplitl [H13]; · iexact H13
    isplitl [H12] <;> iassumption
  iintro ⟨H13, H12, H11⟩
  ihave H14 := (hold_mono (F := F) d L a14 fun g _ => upto_zero g) $$ H14
  iapply (loop3 (F := F) d L (tileW L) zeroW zero_val) $$ H14
  iintro H14
  ihave H14 := (hold_mono (F := F) d L a14 (p' := fun g => ∀ y, g y = BitVec.ofNat 32 (sel (cls (C d).nw) (1280 * (L 1).val) (1280 * (L 1).val) (y 0).val))
    fun g hg y => (hg y).trans (by rw [sel_self])) $$ H14
  iapply (loop4 (F := F) d L (C d).nw hnw (1280 * (L 1).val) (by omega) (tileW L) (baseW L) zeroW laneW (base_val L) lane_val) $$ [H9 H12 H14]
  · isplitl [H9]; · iexact H9
    isplitl [H12] <;> iassumption
  iintro ⟨H9, H12, H14⟩
  iapply (phasePub2_wand (F := F) d L C O W) $$ [H14 Hr Hs' HO]
  · isplitr; · iexact Hmw
    isplitl [H14]; · iexact H14
    isplitl [Hr]; · iexact Hr
    isplitl [Hs'] <;> iassumption
  iintro ⟨H14, Hr, Hs', HO⟩
  iapply Hk
  isplitl [H9]; · iapply (hold_mono (F := F) d L a9 fun _ _ => trivial) $$ H9
  isplitl [H11]; · iapply (hold_mono (F := F) d L a11 fun _ _ => trivial) $$ H11
  isplitl [H12]; · iapply (hold_mono (F := F) d L a12 fun _ _ => trivial) $$ H12
  isplitl [H13]; · iexact H13
  isplitl [H14]; · iexact H14
  isplitl [Hh]; · iexact Hh
  isplitl [Hr]; · iexact Hr
  isplitl [Hs]; · iexact Hs
  isplitl [Hs'] <;> iassumption

/-- The tile's slots, merged from every tile's selections. -/
theorem seg3_wand {k : Unit → PG (F := F) L PUnit} :
    iprop(mayW d L O ∗ hold d L a15 (fun _ => True) ∗ hold d L a16 (fun _ => True) ∗ (selLoc d (cV L) ↦[colS (jV L)]{fullShare} (C d).sels)
        ∗ semVal (thr d L, .dma cc0_scoped6.sem) 0 ∗ owe d L O W)
      ⊢ iprop((iprop(hold d L a15 (fun _ => True) ∗ hold d L a16 (isSlots (C d) (L 1).val) ∗ (selLoc d (cV L) ↦[colS (jV L)]{fullShare} (C d).sels)
          ∗ semVal (thr d L, .dma cc0_scoped6.sem) 0 ∗ owe d L O W) -∗ WP (F := F) d L (k ()) Q)
        -∗ WP (F := F) d L (seg3 L k) Q) := by
  unfold seg3
  iintro ⟨#Hmw, H15, H16, Hr, Hs, HO⟩
  iintro Hk
  iapply (phaseGet2_wand (F := F) d L C O W) $$ [H15 Hr Hs HO]
  · isplitr; · iexact Hmw
    isplitl [H15]; · iexact H15
    isplitl [Hr]; · iexact Hr
    isplitl [Hs] <;> iassumption
  iintro ⟨H15, Hr, Hs, HO⟩
  iapply (loop5 (F := F) d L (C d).nw (1024 * (L 1).val) (tileW L) (baseW L) zeroW laneW 0#32) $$ [H15 H16]
  · isplitl [H15] <;> iassumption
  iintro ⟨H15, H16⟩
  iapply Hk
  isplitl [H15]; · iapply (hold_mono (F := F) d L a15 fun _ _ => trivial) $$ H15
  isplitl [H16]; · iexact H16
  isplitl [Hr]; · iexact Hr
  isplitl [Hs] <;> iassumption

/-- The tile's part of the results. -/
theorem seg4_wand (x0 x1 y0 y1 : Vec F S16 .f32) (hx0 : ∀ y, x0 y = (C d).cx (ix1 512 (32 * (L 1).val + (0 + (y 0).val)))) (hx1 : ∀ y, x1 y = (C d).cx (ix1 512 (32 * (L 1).val + (16 + (y 0).val))))
    (hy0 : ∀ y, y0 y = (C d).cy (ix1 512 (32 * (L 1).val + (0 + (y 0).val)))) (hy1 : ∀ y, y1 y = (C d).cy (ix1 512 (32 * (L 1).val + (16 + (y 0).val)))) :
    iprop(mayW d L O ∗ hold d L a13 (isCnt (F := F) (C d).nw 0 20480) ∗ hold d L a16 (isSlots (C d) (L 1).val) ∗ hold d L a17 (fun g => g = (C d).px)
        ∗ hold d L a18 (fun g => g = (C d).py) ∗ hold d L a21 (fun _ => True) ∗ hold d L a22 (fun _ => True)
        ∗ (∃ f, oxLoc d ↦[outS (jV L)]{fullShare} f) ∗ (∃ f, oyLoc d ↦[outS (jV L)]{fullShare} f)
        ∗ semVal (thr d L, .dma cc0_scoped7.sem) 0 ∗ semVal (thr d L, .dma cc0_scoped8.sem) 0 ∗ owe d L O W)
      ⊢ iprop((iprop(hold d L a13 (fun _ => True) ∗ hold d L a16 (fun _ => True) ∗ hold d L a17 (fun _ => True)
        ∗ hold d L a18 (fun _ => True) ∗ hold d L a21 (fun _ => True) ∗ hold d L a22 (fun _ => True)
        ∗ (oxLoc d ↦[outS (jV L)]{fullShare} (C d).relx) ∗ (oyLoc d ↦[outS (jV L)]{fullShare} (C d).rely)
        ∗ semVal (thr d L, .dma cc0_scoped7.sem) 0 ∗ semVal (thr d L, .dma cc0_scoped8.sem) 0 ∗ owe d L O W) -∗ Q ⟨⟩)
        -∗ WP (F := F) d L (seg4 L x0 x1 y0 y1) Q) := by
  have hw : (L 1).val < 16 := (L 1).isLt
  unfold seg4
  iintro ⟨#Hmw, H13, H16, H17, H18, H21, H22, Hx, Hy, Hs, Hs', HO⟩
  iintro Hk
  ihave H21 := (hold_mono (F := F) d L a21 (p' := upto (relAt (C d) (C d).px (C d).cx (L 1).val) (32 * 0)) fun g _ => fun z hz => absurd hz (by omega)) $$ H21
  ihave H22 := (hold_mono (F := F) d L a22 (p' := upto (relAt (C d) (C d).py (C d).cy (L 1).val) (32 * 0)) fun g _ => fun z hz => absurd hz (by omega)) $$ H22
  iapply (centers_wand (F := F) d L (C d) (L 1).val hw rfl zero_val lane_val x0 y0 0 _ hx0 hy0 _) $$ [H13 H16 H17 H18 H21 H22]
  · isplitl [H13]; · iexact H13
    isplitl [H16]; · iexact H16
    isplitl [H17]; · iexact H17
    isplitl [H18]; · iexact H18
    isplitl [H21]; · iexact H21
    isplitl [H22]; · iexact H22
    iempintro
  iintro ⟨H13, HW⟩
  ihave HW := (Entails.of_eq (show work d L (C d) (L 1).val (32 * (0 + 16)) iprop(emp) = work d L (C d) (L 1).val (32 * 16) iprop(emp) from rfl)) $$ HW
  iapply (centers_wand (F := F) d L (C d) (L 1).val hw rfl zero_val lane_val x1 y1 16 _ hx1 hy1 _) $$ [H13 HW]
  · isplitl [H13] <;> iassumption
  iintro ⟨H13, H16, H17, H18, H21, H22, _⟩
  iapply (phaseOut_wand (F := F) d L C O W) $$ [H21 H22 Hx Hy Hs Hs' HO]
  · isplitr; · iexact Hmw
    isplitl [H21]; · iexact H21
    isplitl [H22]; · iexact H22
    isplitl [Hx]; · iexact Hx
    isplitl [Hy]; · iexact Hy
    isplitl [Hs]; · iexact Hs
    isplitl [Hs'] <;> iassumption
  iintro ⟨H21, H22, Hx, Hy, Hs, Hs', HO⟩
  iapply Hk
  isplitl [H13]; · iapply (hold_mono (F := F) d L a13 fun _ _ => trivial) $$ H13
  isplitl [H16]; · iapply (hold_mono (F := F) d L a16 fun _ _ => trivial) $$ H16
  isplitl [H17]; · iapply (hold_mono (F := F) d L a17 fun _ _ => trivial) $$ H17
  isplitl [H18]; · iapply (hold_mono (F := F) d L a18 fun _ _ => trivial) $$ H18
  isplitl [H21]; · iexact H21
  isplitl [H22]; · iexact H22
  isplitl [Hx]; · iexact Hx
  isplitl [Hy]; · iexact Hy
  isplitl [Hs]; · iexact Hs
  isplitl [Hs'] <;> iassumption

end Cert.KernelIdeal.Group

end
-- ==== Proof.Inout.lean ====
module

public import proofs.«01_k».proof.Proof.Stretch

@[expose] public section

noncomputable section

/-! What a tile copies in, and the points waited for. -/

namespace Cert.KernelIdeal.Group

open Cert.KernelIdeal.Gen
open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type}

local notation "𝕄" => MT nD τ sig (HIx 2) (Elt F) ℕ UU ℕ

variable [FloatOps F] (d : Dev nD) (L : grid0.Coords) (C : Dev nD → Con F) (O : CellTallies nD τ sig (HIx 2)) (W : Waits sig (HIx 2))
  {Q : PUnit → sProp (MT nD τ sig (HIx 2) (Elt F) ℕ UU ℕ)}

/-- A tile's centres' coordinates. -/
abbrev isCen (c : Vec F S512 .f32) (g : Vec F S32 .f32) : Prop := ∀ y, g y = c (ix1 512 (32 * (L 1).val + (y 0).val))

/-- A copy of a coordinate of all points in flight. -/
abbrev flyX : sProp 𝕄 :=
  iprop((∃ f, Transfers.Flight countersEmb (thr d L) (.dma cc0_scratch16.sem) (default : HIx 2) 655360
      iprop((a17.view.loc (thr d L) ↦{fullShare} View.write (Elt F) a17.view f (C d).px Finset.univ) ∗ ptxV.view.loc (thr d L) ↦[ptxV.view.set]{lf (jV L)} (C d).px))
    ∗ ptxV.view.loc (thr d L) ↦[Finset.univ \ ptxV.view.set]{lf (jV L)} (C d).px)
abbrev flyY : sProp 𝕄 :=
  iprop((∃ f, Transfers.Flight countersEmb (thr d L) (.dma cc0_scratch17.sem) (default : HIx 2) 655360
      iprop((a18.view.loc (thr d L) ↦{fullShare} View.write (Elt F) a18.view f (C d).py Finset.univ) ∗ ptyV.view.loc (thr d L) ↦[ptyV.view.set]{lf (jV L)} (C d).py))
    ∗ ptyV.view.loc (thr d L) ↦[Finset.univ \ ptyV.view.set]{lf (jV L)} (C d).py)

/-- A tile's operands copied in, its classes and its centres waited for. -/
theorem phaseIn_wand {k : PUnit → PG (F := F) L PUnit} :
    iprop(mayW d L O ∗ ins C d (lf (jV L)) ∗ hold d L a9 (fun _ => True) ∗ hold d L a17 (fun _ => True) ∗ hold d L a18 (fun _ => True)
        ∗ hold d L a19 (fun _ => True) ∗ hold d L a20 (fun _ => True)
        ∗ semVal (thr d L, .dma cc0_scratch16.sem) 0 ∗ semVal (thr d L, .dma cc0_scratch17.sem) 0 ∗ semVal (thr d L, .dma cc0_scoped0.sem) 0
        ∗ semVal (thr d L, .dma cc0_scoped1.sem) 0 ∗ semVal (thr d L, .dma cc0_scoped2.sem) 0 ∗ owe d L O W)
      ⊢ iprop((iprop(flyX d L C ∗ flyY d L C ∗ (nearLoc d ↦{lf (jV L)} (C d).near) ∗ (cxLoc d ↦{lf (jV L)} (C d).cx) ∗ (cyLoc d ↦{lf (jV L)} (C d).cy)
          ∗ hold d L a9 (isNw (F := F) (C d).nw (1280 * (L 1).val)) ∗ hold d L a19 (isCen L (C d).cx) ∗ hold d L a20 (isCen L (C d).cy)
          ∗ semVal (thr d L, .dma cc0_scoped0.sem) 0 ∗ semVal (thr d L, .dma cc0_scoped1.sem) 0 ∗ semVal (thr d L, .dma cc0_scoped2.sem) 0 ∗ owe d L O W)
            -∗ WP (F := F) d L (k ⟨⟩) Q)
        -∗ WP (F := F) d L (phaseIn L k) Q) := by
  have hw : (L 1).val < 16 := (L 1).isLt
  have hN : isNw (F := F) (C d).nw (1280 * (L 1).val) ((nI L).view.read (Elt F) (C d).near) := fun z => by
    have hz : (z 0).val < 1280 := (z 0).isLt
    exact congrArg (C d).near (ix1_of _ (by omega) (nI_val L z))
  have hX : ∀ c : Vec F S512 .f32, isCen L c ((xI L).view.read (Elt F) c) := fun c z => by
    have hz : (z 0).val < 32 := (z 0).isLt
    exact congrArg c (ix1_of _ (by omega) (xI_val L z))
  unfold phaseIn hold owe WP mayW
  generalize hk1 : k = k1
  iintro ⟨#Hmw, ⟨Hn, Hpx, Hpy, Hcx, Hcy⟩, ⟨%f9, -, H9⟩, ⟨%f17, -, H17⟩, ⟨%f18, -, H18⟩, ⟨%f19, -, H19⟩, ⟨%f20, -, H20⟩, Ha, Hb, Hs0, Hs1, Hs2, ⟨%W', %hW, HO⟩⟩
  iintro Hk
  ihave Hn' := (show (nearLoc d ↦{lf (jV L)} (C d).near : sProp 𝕄) ⊢ (nearV.view.loc (thr d L) ↦{lf (jV L)} (C d).near : sProp 𝕄) from BI.Entails.refl _) $$ Hn
  ihave Hpx' := (show (pxLoc d ↦{lf (jV L)} (C d).px : sProp 𝕄) ⊢ (ptxV.view.loc (thr d L) ↦{lf (jV L)} (C d).px : sProp 𝕄) from BI.Entails.refl _) $$ Hpx
  ihave Hpy' := (show (pyLoc d ↦{lf (jV L)} (C d).py : sProp 𝕄) ⊢ (ptyV.view.loc (thr d L) ↦{lf (jV L)} (C d).py : sProp 𝕄) from BI.Entails.refl _) $$ Hpy
  ihave Hcx' := (show (cxLoc d ↦{lf (jV L)} (C d).cx : sProp 𝕄) ⊢ (cenxV.view.loc (thr d L) ↦{lf (jV L)} (C d).cx : sProp 𝕄) from BI.Entails.refl _) $$ Hcx
  ihave Hcy' := (show (cyLoc d ↦{lf (jV L)} (C d).cy : sProp 𝕄) ⊢ (cenyV.view.loc (thr d L) ↦{lf (jV L)} (C d).cy : sProp 𝕄) from BI.Entails.refl _) $$ Hcy
  sl_exec
  iapply Hk
  isplitl [Ha Hpx']
  · isplitl [Ha]
    · iexists f17; iexact Ha
    · iexact Hpx'
  isplitl [Hb Hpy']
  · isplitl [Hb]
    · iexists f18; iexact Hb
    · iexact Hpy'
  isplitl [Hn']; · iexact Hn'
  isplitl [Hcx']; · iexact Hcx'
  isplitl [Hcy']; · iexact Hcy'
  isplitl [H9]
  · iexists _
    isplitr
    rotate_left
    · iexact H9
    · ipureintro
      rw [View.read_write_univ]
      exact hN
  isplitl [H19]
  · iexists _
    isplitr
    rotate_left
    · iexact H19
    · ipureintro
      rw [View.read_write_univ]
      exact hX _
  isplitl [H20]
  · iexists _
    isplitr
    rotate_left
    · iexact H20
    · ipureintro
      rw [View.read_write_univ]
      exact hX _
  isplitl [Hs0]; · iexact Hs0
  isplitl [Hs1]; · iexact Hs1
  isplitl [Hs2]; · iexact Hs2
  iexists _
  isplitr
  rotate_left
  · iexact HO
  · ipureintro; exact waits_insert (.inl rfl) (waits_insert (.inl rfl) (waits_insert (.inl rfl) hW))

/-- The points' coordinates waited for, the tile's centres loaded. -/
theorem phaseWait_wand {k : Vec F S16 .f32 → Vec F S16 .f32 → Vec F S16 .f32 → Vec F S16 .f32 → PG (F := F) L PUnit} :
    iprop(mayW d L O ∗ flyX d L C ∗ flyY d L C ∗ hold d L a19 (isCen L (C d).cx) ∗ hold d L a20 (isCen L (C d).cy) ∗ owe d L O W)
      ⊢ iprop((∀ x0 x1 y0 y1, iprop(⌜(∀ y, x0 y = (C d).cx (ix1 512 (32 * (L 1).val + (0 + (y 0).val)))) ∧ (∀ y, x1 y = (C d).cx (ix1 512 (32 * (L 1).val + (16 + (y 0).val))))
            ∧ (∀ y, y0 y = (C d).cy (ix1 512 (32 * (L 1).val + (0 + (y 0).val)))) ∧ ∀ y, y1 y = (C d).cy (ix1 512 (32 * (L 1).val + (16 + (y 0).val)))⌝
          ∗ (pxLoc d ↦{lf (jV L)} (C d).px) ∗ (pyLoc d ↦{lf (jV L)} (C d).py)
          ∗ hold d L a17 (fun g => g = (C d).px) ∗ hold d L a18 (fun g => g = (C d).py) ∗ hold d L a19 (fun _ => True) ∗ hold d L a20 (fun _ => True)
          ∗ semVal (thr d L, .dma cc0_scratch16.sem) 0 ∗ semVal (thr d L, .dma cc0_scratch17.sem) 0 ∗ owe d L O W)
            -∗ WP (F := F) d L (k x0 x1 y0 y1) Q)
        -∗ WP (F := F) d L (phaseWait L k) Q) := by
  have hv : ∀ (m : Memref sig .scVector .vmem S32 .f32) (f : m.view.ty.Contents (Elt F)) (c : Vec F S512 .f32) (_ : isCen L c (m.view.read (Elt F) f))
      (n : ℕ) (inb) (y : S16.Idx), View.readAt (Elt F) m.view (Rect.unit (s := S32) ![n] S16.size inb).toLoadRect f y = c (ix1 512 (32 * (L 1).val + (n + (y 0).val))) := by
    intro m f c hf n inb y
    refine (hf ((Rect.unit (s := S32) ![n] S16.size inb).emb y)).trans ?_
    show c (ix1 512 (32 * (L 1).val + (n + 1 * (y 0).val))) = _
    rw [Nat.one_mul]
  unfold phaseWait hold owe WP mayW
  generalize hk1 : k = k1
  iintro ⟨#Hmw, ⟨⟨%f17, Ha⟩, Hpx⟩, ⟨⟨%f18, Hb⟩, Hpy⟩, ⟨%f19, %h19, H19⟩, ⟨%f20, %h20, H20⟩, ⟨%W', %hW, HO⟩⟩
  iintro Hk
  sl_exec
  iapply Hk
  isplitr
  · ipureintro
    exact ⟨hv a19 f19 _ h19 0 _, hv a19 f19 _ h19 16 _, hv a20 f20 _ h20 0 _, hv a20 f20 _ h20 16 _⟩
  isplitl [Hpx]; · iexact Hpx
  isplitl [Hpy]; · iexact Hpy
  isplitl [Ha_dst]
  · iexists _
    isplitr
    rotate_left
    · iexact Ha_dst
    · ipureintro
      exact View.read_write_univ _ _
  isplitl [Hb_dst]
  · iexists _
    isplitr
    rotate_left
    · iexact Hb_dst
    · ipureintro
      exact View.read_write_univ _ _
  isplitl [H19]
  · iexists f19
    isplitr; · ipureintro; trivial
    iexact H19
  isplitl [H20]
  · iexists f20
    isplitr; · ipureintro; trivial
    iexact H20
  isplitl [Ha]; · iexact Ha
  isplitl [Hb]; · iexact Hb
  iexists _
  isplitr
  rotate_left
  · iexact HO
  · ipureintro; exact waits_insert (.inl rfl) (waits_insert (.inl rfl) hW)

end Cert.KernelIdeal.Group

end
-- ==== Proof.Body.lean ====
module

public import proofs.«01_k».proof.Proof.Inout

@[expose] public section

noncomputable section

/-! A tile's work, from what it is handed to what it hands back. -/

namespace Cert.KernelIdeal.Group

open Cert.KernelIdeal.Gen
open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type}

local notation "𝕄" => MT nD τ sig (HIx 2) (Elt F) ℕ UU ℕ

variable (C : Dev nD → Con F) [FloatOps F] (m : (ℓ : Loc nD τ sig) → Buf (Elt F) ℓ) (d : Dev nD) (L : grid0.Coords)

theorem holdT_of {sp : Space} {s : Shape} {e : EltTy} (m : Memref sig .scVector sp s e) :
    iprop(∃ f, m.view.loc (thr d L) ↦{fullShare} f) ⊢ (hold d L m (fun _ => True) : sProp 𝕄) := by
  unfold hold
  iintro ⟨%f, H⟩
  iexists f
  isplitr; · ipureintro; trivial
  iexact H

theorem holdT_to {sp : Space} {s : Shape} {e : EltTy} (m : Memref sig .scVector sp s e) :
    hold d L m (fun _ => True) ⊢ (iprop(∃ f, m.view.loc (thr d L) ↦{fullShare} f) : sProp 𝕄) := by
  unfold hold
  iintro ⟨%f, -, H⟩
  iexists f
  iexact H

theorem two {Φ : Fin 2 → sProp 𝕄} : bigSep Finset.univ Φ ⊢ iprop(Φ 0 ∗ Φ 1) := by
  refine Entails.of_eq ?_
  rw [show (Finset.univ : Finset (Fin 2)) = {0, 1} from rfl, bigSep_insert (by decide), bigSep_singleton]; rfl

theorem waits_union {W W' : Waits sig (HIx 2)} {x : SemLoc sig} {o : HIx 2} (ho : o = none ∨ ∃ j : Fin 2, o = some j)
    (h : ∀ p ∈ W', p ∈ W ∨ p.2 = none ∨ ∃ j : Fin 2, p.2 = some j) :
    ∀ p ∈ W' ∪ {(x, o)}, p ∈ W ∨ p.2 = none ∨ ∃ j : Fin 2, p.2 = some j := by
  intro p hp
  rcases Finset.mem_union.mp hp with hp | hp
  · exact h p hp
  · obtain rfl := Finset.mem_singleton.mp hp
    exact .inr ho

theorem owe_close {O : CellTallies nD τ sig (HIx 2)} {W W' : Waits sig (HIx 2)} (h : ∀ p ∈ W', p ∈ W ∨ p.2 = none ∨ ∃ j : Fin 2, p.2 = some j) :
    owes (thr d L) O W' ⊢ (owe d L O W : sProp 𝕄) := by
  unfold owe
  iintro HO
  iexists W'
  isplitr; · ipureintro; exact h
  iexact HO

theorem owe_open {O : CellTallies nD τ sig (HIx 2)} {W : Waits sig (HIx 2)} :
    owe d L O W ⊢ (iprop(∃ W', ⌜∀ p ∈ W', p ∈ W ∨ p.2 = none ∨ ∃ j : Fin 2, p.2 = some j⌝ ∗ owes (thr d L) O W') : sProp 𝕄) := BI.Entails.refl _

/-- The evidence that a tile may wait at its barrier's meeting. -/
theorem may_meet (ph : Fin 2) (O : CellTallies nD τ sig (HIx 2)) (hO : ∀ g ι, 0 < O g ι → 8 * ph.val + 3 < (K (F := F)).lev g ι) :
    levAts (K (F := F)).L (K (F := F)).lev ⊢ (MayWait (thr d L) (.reg sc_bar0) (some ph) O : sProp 𝕄) :=
  (K (F := F)).mayOwe_of_bound (thr := thr d L) (8 * ph.val + 3) (fun p hp => by
    rw [Finset.mem_singleton] at hp; subst hp
    show (K (F := F)).lev (bcell d (cV L) (jV L)) (some ph) ≤ _
    rw [(K (F := F)).lev_V_reg d _ _ (show (sc_bar0 : Sem sig) ≠ (K (F := F)).go from sc_bar0_ne_go)]) hO

theorem tile_body (hF : (K (F := F)).Facts) (hnw : ∀ p, ((C d).nw p).toNat < 2 ^ 31) (O : CellTallies nD τ sig (HIx 2)) (W : Waits sig (HIx 2)) (hO : ∀ g, O g none = 0)
    (hOlev : ∀ g ι, 0 < O g ι → 14 ≤ (K (F := F)).lev g ι) :
    iprop(levAts (K (F := F)).L (K (F := F)).lev ∗ bkit C d (cV L) (jV L) ∗ goP C m d (cV L) (jV L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__sc_group_body L nearV (Memref.isWhole_whole _) ptxV (Memref.isWhole_whole _) ptyV (Memref.isWhole_whole _)
            cenxV (Memref.isWhole_whole _) cenyV (Memref.isWhole_whole _) outxV (Memref.isWhole_whole _) outyV (Memref.isWhole_whole _)
            a9 (Memref.isWhole_whole _) a10 (Memref.isWhole_whole _) a11 (Memref.isWhole_whole _) a12 (Memref.isWhole_whole _)
            a13 (Memref.isWhole_whole _) a14 (Memref.isWhole_whole _) a15 (Memref.isWhole_whole _) a16 (Memref.isWhole_whole _)
            a17 (Memref.isWhole_whole _) a18 (Memref.isWhole_whole _) a19 (Memref.isWhole_whole _) a20 (Memref.isWhole_whole _)
            a21 (Memref.isWhole_whole _) a22 (Memref.isWhole_whole _) a23 (Memref.isWhole_whole _) a24 (Memref.isWhole_whole _)
            cc0_scratch16 cc0_scratch17 cc0_scoped0 cc0_scoped1 cc0_scoped2 cc0_scoped3 cc0_scoped4 cc0_scoped5 cc0_scoped6 cc0_scoped7 cc0_scoped8)
          fun _ => iprop((tdP C d (cV L) (jV L) ∗ semVal (bcell d (cV L) (jV L)) 0)
            ∗ scopedBufs (V d (cV L) (jV L)) ∗ scopedSems0 (V d (cV L) (jV L))
            ∗ ∃ W', ⌜∀ p ∈ W', p ∈ W ∨ p.2 = none ∨ ∃ j : Fin 2, p.2 = some j⌝ ∗ owes (V d (cV L) (jV L)) O W') := by
  rw [body_eq]; unfold tileProg tail2 tail3
  have eB := ownBufs_V (F := F) d (cV L) (jV L)
  have eS := ownSems0_V (F := F) d (cV L) (jV L)
  simp only [bufsV, List.map, List.foldr] at eB
  simp only [semsV, List.map, List.foldr] at eS
  rw [(K (F := F)).scopedBufs_V hF d (cV L) (jV L), SparseCore.Cfg.scopedSems0_V (Val := Elt F) d (cV L) (jV L), eS, eB]
  unfold bkit
  iintro ⟨#Hlv, ⟨⟨%κ, %κE, #Hkn⟩, Hbt, Hcr, Hat, HatE, Het⟩, ⟨Hins, Hox, Hoy, Hh, Hs⟩, ⟨H9, H10, H11, H12, H13, H14, H15, H16, H17, H18, H19, H20, H21, H22, Hbufs⟩, ⟨Ha, Hb, Hs0, Hs1, Hs2, Hs3, Hs4, Hs5, Hs6, Hs7, Hs8, Hsems⟩, HO⟩
  ihave ⟨Hbt0, Hbt1⟩ := two $$ Hbt
  ihave ⟨Hcr0, Hcr1⟩ := two $$ Hcr
  ihave ⟨HatE0, HatE1⟩ := two $$ HatE
  ihave ⟨Het0, Het1⟩ := two $$ Het
  ihave H9 := (holdT_of (F := F) d L a9) $$ H9
  ihave H10 := (holdT_of (F := F) d L a10) $$ H10
  ihave H11 := (holdT_of (F := F) d L a11) $$ H11
  ihave H12 := (holdT_of (F := F) d L a12) $$ H12
  ihave H13 := (holdT_of (F := F) d L a13) $$ H13
  ihave H14 := (holdT_of (F := F) d L a14) $$ H14
  ihave H15 := (holdT_of (F := F) d L a15) $$ H15
  ihave H16 := (holdT_of (F := F) d L a16) $$ H16
  ihave H17 := (holdT_of (F := F) d L a17) $$ H17
  ihave H18 := (holdT_of (F := F) d L a18) $$ H18
  ihave H19 := (holdT_of (F := F) d L a19) $$ H19
  ihave H20 := (holdT_of (F := F) d L a20) $$ H20
  ihave H21 := (holdT_of (F := F) d L a21) $$ H21
  ihave H22 := (holdT_of (F := F) d L a22) $$ H22
  have hO1 : ∀ g, (O + oxPh d (cV L) 1) g none = 0 := fun g => by rw [Pi.add_apply, Finsupp.add_apply, hO g, oxPh_none]
  have hO1lev : ∀ g ι, 0 < (O + oxPh d (cV L) 1) g ι → 8 * (0 : Fin 2).val + 3 < (K (F := F)).lev g ι := fun g ι h => by
    rw [Pi.add_apply, Finsupp.add_apply] at h
    rcases Nat.eq_zero_or_pos (O g ι) with h0 | h0
    · rw [h0, Nat.zero_add] at h
      obtain ⟨j, rfl, rfl⟩ := oxPh_apply_pos h
      rw [(K (F := F)).lev_V_reg d _ _ (show (sc_bar0 : Sem sig) ≠ (K (F := F)).go from sc_bar0_ne_go)]
      decide
    · exact lt_of_lt_of_le (by decide) (hOlev g ι h0)
  have hO2 : ∀ g, (O + oxPh d (cV L) 1 + oxPh d (cV L) 0) g none = 0 := fun g => by rw [Pi.add_apply, Finsupp.add_apply, hO1 g, oxPh_none]
  have hM : ∀ O' : CellTallies nD τ sig (HIx 2), (∀ g, O' g none = 0) → levAts (K (F := F)).L (K (F := F)).lev ⊢ (mayW d L O' : sProp 𝕄) := fun O' h =>
    (K (F := F)).mayWaits_none (thr := thr d L) h
  ihave #HM2 := (hM _ hO2) $$ Hlv
  ihave #HM1 := (hM _ hO1) $$ Hlv
  ihave #HM0 := (hM _ hO) $$ Hlv
  ihave HO := (Entails.of_eq (congrArg (fun X => (owes (thr d L) X W : sProp 𝕄)) (show O + oxV d (cV L) = O + oxPh d (cV L) 1 + oxPh d (cV L) 0 from (add_assoc _ _ _).symm))) $$ HO
  ihave HO := (owe_close (F := F) d L (W := W) (fun p hp => Or.inl hp)) $$ HO
  iapply (phaseIn_wand (F := F) d L C (O + oxPh d (cV L) 1 + oxPh d (cV L) 0) W) $$ [Hins H9 H17 H18 H19 H20 Ha Hb Hs0 Hs1 Hs2 HO]
  · isplitr; · iexact HM2
    isplitl [Hins]; · iexact Hins
    isplitl [H9]; · iexact H9
    isplitl [H17]; · iexact H17
    isplitl [H18]; · iexact H18
    isplitl [H19]; · iexact H19
    isplitl [H20]; · iexact H20
    isplitl [Ha]; · iexact Ha
    isplitl [Hb]; · iexact Hb
    isplitl [Hs0]; · iexact Hs0
    isplitl [Hs1]; · iexact Hs1
    isplitl [Hs2]; · iexact Hs2
    iexact HO
  iintro ⟨Ha, Hb, Hn, Hcx, Hcy, H9, H19, H20, Hs0, Hs1, Hs2, HO⟩
  iapply (seg1_wand (F := F) d L C (O + oxPh d (cV L) 1 + oxPh d (cV L) 0) W hnw) $$ [H9 H10 Hh Hs3 HO]
  · isplitr; · iexact HM2
    isplitl [H9]; · iexact H9
    isplitl [H10]; · iexact H10
    isplitl [Hh]; · iexact Hh
    isplitl [Hs3]; · iexact Hs3
    iexact HO
  iintro ⟨H9, H10, Hh, Hs3, HO⟩
  ihave Hh := (Entails.of_eq (pay0_row C d (cV L) (jV L)).symm) $$ Hh
  ihave HO := (owe_open (F := F) d L) $$ HO
  icases HO with ⟨%W1, %hW1, HO⟩
  iapply (wp_meet0 (F := F) d (cV L) (jV L) (pay C) κ κE (O + oxPh d (cV L) 1) W1 _) $$ [HO Hbt0 Hcr0 Hat HatE0 Het0 Hh]
  · isplitr; · iexact Hkn
    isplitl [HO]; · iexact HO
    isplitr
    · iapply (may_meet (F := F) d L 0 (O + oxPh d (cV L) 1) hO1lev) $$ Hlv
    isplitl [Hbt0]; · iexact Hbt0
    isplitl [Hcr0]; · iexact Hcr0
    isplitl [Hat]; · iexact Hat
    isplitl [HatE0]; · iexact HatE0
    isplitl [Het0]; · iexact Het0
    iexact Hh
  iintro %S ⟨%hS, HO, Hat, Htk, Hfl, Hh⟩
  ihave Hh := (Entails.of_eq (pay0_all C d (cV L) (jV L))) $$ Hh
  ihave HO := (owe_close (F := F) d L (W := W) (waits_union (.inr ⟨0, rfl⟩) hW1)) $$ HO
  iapply (seg2_wand (F := F) d L C (O + oxPh d (cV L) 1) W hnw) $$ [H9 H11 H12 H13 H14 Hh Hs Hs4 Hs5 HO]
  · isplitr; · iexact HM1
    isplitl [H9]; · iexact H9
    isplitl [H11]; · iexact H11
    isplitl [H12]; · iexact H12
    isplitl [H13]; · iexact H13
    isplitl [H14]; · iexact H14
    isplitl [Hh]; · iexact Hh
    isplitl [Hs]; · iexact Hs
    isplitl [Hs4]; · iexact Hs4
    isplitl [Hs5]; · iexact Hs5
    iexact HO
  iintro ⟨H9, H11, H12, H13, H14, Hh, Hs, Hs4, Hs5, HO⟩
  ihave Hs := (Entails.of_eq (pay1_row C d (cV L) (jV L)).symm) $$ Hs
  ihave HO := (owe_open (F := F) d L) $$ HO
  icases HO with ⟨%W2, %hW2, HO⟩
  iapply (wp_meet1 (F := F) d (cV L) (jV L) (pay C) κ κE S hS O W2 _) $$ [HO Hbt1 Hcr1 Hat Htk Hfl HatE1 Het1 Hs]
  · isplitr; · iexact Hkn
    isplitl [HO]; · iexact HO
    isplitr
    · iapply (may_meet (F := F) d L 1 O (fun g ι h => lt_of_lt_of_le (by decide) (hOlev g ι h))) $$ Hlv
    isplitl [Hbt1]; · iexact Hbt1
    isplitl [Hcr1]; · iexact Hcr1
    isplitl [Hat]; · iexact Hat
    isplitl [Htk]; · iexact Htk
    isplitl [Hfl]; · iexact Hfl
    isplitl [HatE1]; · iexact HatE1
    isplitl [Het1]; · iexact Het1
    iexact Hs
  iintro ⟨HO, Hbar, Hs⟩
  ihave Hs := (Entails.of_eq (pay1_all C d (cV L) (jV L))) $$ Hs
  ihave HO := (owe_close (F := F) d L (W := W) (waits_insert (.inr ⟨1, rfl⟩) hW2)) $$ HO
  iapply (seg3_wand (F := F) d L C O W) $$ [H15 H16 Hs Hs6 HO]
  · isplitr; · iexact HM0
    isplitl [H15]; · iexact H15
    isplitl [H16]; · iexact H16
    isplitl [Hs]; · iexact Hs
    isplitl [Hs6]; · iexact Hs6
    iexact HO
  iintro ⟨H15, H16, Hs, Hs6, HO⟩
  iapply (phaseWait_wand (F := F) d L C O W) $$ [Ha Hb H19 H20 HO]
  · isplitr; · iexact HM0
    isplitl [Ha]; · iexact Ha
    isplitl [Hb]; · iexact Hb
    isplitl [H19]; · iexact H19
    isplitl [H20]; · iexact H20
    iexact HO
  iintro %x0 %x1 %y0 %y1 ⟨%hxy, Hpx, Hpy, H17, H18, H19, H20, Ha, Hb, HO⟩
  iapply (seg4_wand (F := F) d L C O W x0 x1 y0 y1 hxy.1 hxy.2.1 hxy.2.2.1 hxy.2.2.2) $$ [H13 H16 H17 H18 H21 H22 Hox Hoy Hs7 Hs8 HO]
  · isplitr; · iexact HM0
    isplitl [H13]; · iexact H13
    isplitl [H16]; · iexact H16
    isplitl [H17]; · iexact H17
    isplitl [H18]; · iexact H18
    isplitl [H21]; · iexact H21
    isplitl [H22]; · iexact H22
    isplitl [Hox]; · iexists _; iexact Hox
    isplitl [Hoy]; · iexists _; iexact Hoy
    isplitl [Hs7]; · iexact Hs7
    isplitl [Hs8]; · iexact Hs8
    iexact HO
  iintro ⟨H13, H16, H17, H18, H21, H22, Hox, Hoy, Hs7, Hs8, HO⟩
  ihave H13 := (holdT_to (F := F) d L a13) $$ H13
  isplitl [Hn Hpx Hpy Hcx Hcy Hox Hoy Hh Hs Hbar]
  · isplitr [Hbar]
    · isplitl [Hn Hpx Hpy Hcx Hcy]
      · isplitl [Hn]; · iexact Hn
        isplitl [Hpx]; · iexact Hpx
        isplitl [Hpy]; · iexact Hpy
        isplitl [Hcx]; · iexact Hcx
        iexact Hcy
      isplitl [Hox]; · iexact Hox
      isplitl [Hoy]; · iexact Hoy
      isplitl [Hh]; · iexact Hh
      iexact Hs
    · iexact Hbar
  isplitl [H9 H10 H11 H12 H13 H14 H15 H16 H17 H18 H19 H20 H21 H22 Hbufs]
  · isplitl [H9]; · iapply (holdT_to (F := F) d L a9) $$ H9
    isplitl [H10]; · iapply (holdT_to (F := F) d L a10) $$ H10
    isplitl [H11]; · iapply (holdT_to (F := F) d L a11) $$ H11
    isplitl [H12]; · iapply (holdT_to (F := F) d L a12) $$ H12
    isplitl [H13]; · iexact H13
    isplitl [H14]; · iapply (holdT_to (F := F) d L a14) $$ H14
    isplitl [H15]; · iapply (holdT_to (F := F) d L a15) $$ H15
    isplitl [H16]; · iapply (holdT_to (F := F) d L a16) $$ H16
    isplitl [H17]; · iapply (holdT_to (F := F) d L a17) $$ H17
    isplitl [H18]; · iapply (holdT_to (F := F) d L a18) $$ H18
    isplitl [H19]; · iapply (holdT_to (F := F) d L a19) $$ H19
    isplitl [H20]; · iapply (holdT_to (F := F) d L a20) $$ H20
    isplitl [H21]; · iapply (holdT_to (F := F) d L a21) $$ H21
    isplitl [H22]; · iapply (holdT_to (F := F) d L a22) $$ H22
    iexact Hbufs
  isplitl [Ha Hb Hs0 Hs1 Hs2 Hs3 Hs4 Hs5 Hs6 Hs7 Hs8 Hsems]
  · isplitl [Ha]; · iexact Ha
    isplitl [Hb]; · iexact Hb
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hsems
  iapply (owe_open (F := F) d L) $$ HO

end Cert.KernelIdeal.Group

end
-- ==== Proof.Fund.lean ====
module

public import proofs.«01_k».proof.Proof.Launch

@[expose] public section

noncomputable section

/-! The launch's element of ghost state, and how it is dealt to the tiles. -/

namespace Cert.KernelIdeal.Group

open Cert.KernelIdeal.Gen
open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] blocks

variable {F : FTy → Type}

local notation "𝕄" => MT nD τ sig (HIx 2) (Elt F) ℕ UU ℕ

abbrev bcell₃ (x : DCI) : GSem nD τ sig := bcell x.1 x.2.1 x.2.2

/-- The tiles of the call's grid: SparseCore 0's. -/
abbrev tiles : Finset DCI := Finset.univ.filter fun x => x.2.1.val < 1
theorem mem_tiles (d : Dev nD) {c : Fin τ.nSC} (hc : c.val < 1) (i : Fin τ.nSub) : ((d, c, i) : DCI) ∈ tiles := Finset.mem_filter.mpr ⟨Finset.mem_univ _, hc⟩

/-- The barrier cells, the tokens of both meetings' arrivals, the escrows, the tokens of what is taken out of them. -/
def bCells : Finset (GSem nD τ sig) := tiles.image bcell₃
def bToks : Finset (GSem nD τ sig × ℕ × ℕ) :=
  (tiles ×ˢ (Finset.univ : Finset (Fin 2 × Fin τ.nSub))).image fun x => (bcell x.1.1 x.1.2.1 x.2.2, 0, duty x.2.1 x.1.2.2)
def eKeys : Finset EKey := tiles ×ˢ (Finset.univ : Finset (Fin 2))
def eToks : Finset (EKey × ℕ × ℕ) :=
  (tiles ×ˢ (Finset.univ : Finset (Fin 2 × Fin τ.nSub))).image fun x => (((x.1.1, x.1.2.1, x.2.2), x.2.1), 0, x.1.2.2.val)
def u₀ : UU := (initOf (K (F := F)).hsCells (K (F := F)).hsToks, ((initOf bCells bToks, initOf eKeys eToks), 1))

theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

theorem ownU_split (a : UH) (b : UB) (e : UE) : (ownU ((a, ((b, e), 1)) : UU) : sProp 𝕄) ⊢ iprop(BI.own (EH a) ∗ BI.own (EB b) ∗ BI.own (EE e)) := by
  have h1 : (ownU ((a, ((b, e), 1)) : UU) : sProp 𝕄) ⊢ iprop(BI.own (EH a) ∗ ownU ((1, ((b, e), 1)) : UU)) :=
    BI.own_op_elim ((uEmb (nD := nD) (sig := sig) (Ix := HIx 2) (Val := Elt F) (Name := ℕ) (U := UU) (Lvl := ℕ)).toEmb.op_of_mem
      (Prod.mk_mem_op (URA.mem_op_one a) (URA.mem_one_op (((b, e), 1) : (UB × UE) × Counters))))
  have h2 : (ownU ((1, ((b, e), 1)) : UU) : sProp 𝕄) ⊢ iprop(BI.own (EB b) ∗ BI.own (EE e)) :=
    BI.own_op_elim ((uEmb (nD := nD) (sig := sig) (Ix := HIx 2) (Val := Elt F) (Name := ℕ) (U := UU) (Lvl := ℕ)).toEmb.op_of_mem
      (Prod.mk_mem_op (URA.mem_op_one (1 : UH)) (Prod.mk_mem_op (Prod.mk_mem_op (URA.mem_op_one b) (URA.mem_one_op e)) (URA.mem_op_one (1 : Counters)))))
  exact h1.trans (sep_mono_right h2)

/-- Every barrier semaphore of the grid at zero, out of the free semaphores the launch hands over. -/
theorem sems_b : ((K (F := F)).freeOn (· ∈ bCells) : sProp 𝕄) ⊢ bigSep bCells fun g => semVal g 0 := by
  unfold SparseCore.Cfg.freeOn bCells
  rw [SparseCore.bigSep_image_of_injOn (fun a _ b _ e => bcell₃_injective e), bigSep_filter]
  refine sep_elim_right.trans (bigSep_mono fun dci _ => ?_)
  split
  · next hc =>
    exact bigSep_elim (Φ := fun sm : SemLoc sig => (semVal (V dci.1 dci.2.1 dci.2.2, sm) 0 : sProp 𝕄)) (Finset.mem_filter.mpr
      ⟨Finset.mem_erase.mpr ⟨fun h => sc_bar0_ne_go (SemLoc.reg.inj h), Finset.mem_filter.mpr ⟨Finset.mem_univ _, by decide⟩⟩,
        Finset.mem_image_of_mem bcell₃ (mem_tiles dci.1 hc dci.2.2)⟩)
  · exact fun _ _ => trivial

/-- The barrier cells' invariants, allocated at once. -/
theorem invs_b : iprop((bigSep bCells fun g => (semVal g 0 : sProp 𝕄)) ∗ bigSep bCells fun g => roundState EB (bRd (F := F)) g 0)
    ⊢ |={Set.univ}=> iprop(∃ κ : GSem nD τ sig → ℕ, bigSep bCells fun g => cellInv EB (bRd (F := F)) (κ g) g) := by
  refine (Rounds.bodies_intro EB (bRd (F := F)) bCells).trans ((inv_alloc_family bCells (Rounds.body EB (bRd (F := F))) ∅ (E := Set.univ)).trans ?_)
  iintro H
  imod H with ⟨%κ, -, Hinv⟩
  imodintro; iexists κ; iexact Hinv

variable (C : Dev nD → Con F)

/-- The escrows' invariants, allocated at once, all of them empty. -/
theorem invs_e : (bigSep eKeys fun k => (initState EE k : sProp 𝕄))
    ⊢ |={Set.univ}=> iprop(∃ κ : EKey → ℕ, bigSep eKeys fun k => inv (κ k) (escBody (pay C) k)) := by
  refine (bigSep_mono fun k _ => show (initState EE k : sProp 𝕄) ⊢ escBody (pay C) k from ?_).trans
    ((inv_alloc_family eKeys (escBody (pay C)) ∅ (E := Set.univ)).trans ?_)
  · unfold initState escBody
    iintro ⟨H, -⟩
    iexists 0
    isplitl [H]; · iexact H
    ileft; ipureintro; rfl
  iintro H
  imod H with ⟨%κ, -, Hinv⟩
  imodintro; iexists κ; iexact Hinv

theorem sum_tallyAt_one (g : GSem nD τ sig) (ι : HIx 2) : ∀ n : ℕ, ∑ _ : Fin n, tallyAt g ι 1 = (tallyAt g ι n : CellTallies nD τ sig (HIx 2))
  | 0 => by rw [Fin.sum_univ_zero, tallyAt_zero]
  | n + 1 => by rw [Fin.sum_univ_castSucc, sum_tallyAt_one g ι n, tallyAt_add]

variable [FloatOps F] (m : (ℓ : Loc nD τ sig) → Buf (Elt F) ℓ)

/-- A tile's credits: sixteen units of its own cell at either meeting. -/
abbrev creds (dci : DCI) : sProp 𝕄 := bigSep Finset.univ fun ph : Fin 2 => cred (tallyAt (bcell₃ dci) (some ph) (grid0.bound 1))

theorem oxV_sum (d : Dev nD) (c : Fin τ.nSC) : oxV d c = ∑ ph : Fin 2, oxPh d c ph := by
  rw [Fin.sum_univ_two, add_comm]; rfl

theorem creds_core (d : Dev nD) (c : Fin τ.nSC) :
    (bigSep Finset.univ fun _ : Fin τ.nSub => (cred (oxV d c) : sProp 𝕄)) ⊢ bigSep Finset.univ fun i : Fin τ.nSub => creds (d, c, i) := by
  have h : (cred (oxV d c) : sProp 𝕄) = bigSep Finset.univ fun ph : Fin 2 => cred (oxPh d c ph) := by
    rw [oxV_sum, SparseCore.Cfg.cred_finsum]
  rw [h, bigSep_univ_comm, bigSep_univ_comm (fun (i : Fin τ.nSub) (ph : Fin 2) => (cred (tallyAt (bcell₃ (d, c, i)) (some ph) (grid0.bound 1)) : sProp 𝕄))]
  refine bigSep_mono fun ph _ => ?_
  unfold oxPh
  rw [SparseCore.Cfg.cred_finsum, bigSep_univ_comm]
  show _ ⊢ bigSep (Finset.univ : Finset (Fin (grid0.bound 1))) fun j => (cred (tallyAt (bcell d c (j.castLE hsub0)) (some ph) (grid0.bound 1)) : sProp 𝕄)
  refine bigSep_mono fun j _ => ?_
  rw [← SparseCore.Cfg.cred_finsum, sum_tallyAt_one]; rfl

/-- The credit for the kernels' own debts, regrouped. -/
theorem creds_b : ((P C m).oxCred : sProp 𝕄) ⊢ bigSep tiles fun dci : DCI => creds dci := by
  rw [bigSep_filter]
  unfold SparseCore.Cfg.Pay.oxCred
  rw [SparseCore.Cfg.bigSep_threads (fun thr : Thread nD τ => (cred ((P C m).oxFrom 0 thr) : sProp 𝕄))]
  refine sep_elim_right.trans (sep_elim_right.trans ?_)
  rw [bigSep_univ_prod, bigSep_univ_prod (fun dci : DCI => if dci.2.1.val < 1 then (creds dci : sProp 𝕄) else BI.emp)]
  refine bigSep_mono fun d _ => ?_
  rw [bigSep_univ_prod, bigSep_univ_prod (fun ci : Fin τ.nSC × Fin τ.nSub => if ci.1.val < 1 then (creds (d, ci) : sProp 𝕄) else BI.emp)]
  refine bigSep_mono fun c _ => ?_
  dsimp only
  by_cases hc : c.val < 1
  · simp only [hc, ↓reduceIte]
    have hox : ∀ i, (P C m).oxFrom 0 (V d c i) = oxV d c := fun i => by
      rw [show (0 : ℕ) = (0 : Fin 1).val from rfl, (P C m).oxFrom_step, (P C m).oxFrom_end _ (n := (0 : Fin 1).val + 1) le_rfl, add_zero]; exact if_pos hc
    simp only [hox]
    exact creds_core d c
  · simp only [hc, ↓reduceIte]
    exact bigSep_mono fun _ _ => fun _ _ => trivial

/-- Something everyone may have, beside what each has of its own, makes what each is to have. -/
theorem deal {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := bigSep_with_persistent h

/-- A tile's tokens for the arrivals of both meetings, and for what it takes out of everyone's escrows. -/
abbrev barToks (dci : DCI) : sProp 𝕄 :=
  bigSep Finset.univ fun ph : Fin 2 => bigSep Finset.univ fun j : Fin τ.nSub => dutyTok EB (bcell dci.1 dci.2.1 j) 0 (duty ph dci.2.2)
abbrev escToks (dci : DCI) : sProp 𝕄 :=
  bigSep Finset.univ fun ph : Fin 2 => bigSep Finset.univ fun k : Fin τ.nSub => dutyTok EE ((dci.1, dci.2.1, k), ph) 0 dci.2.2.val

theorem toks_eq : (bigSep bToks fun x => (dutyTok EB x.1 x.2.1 x.2.2 : sProp 𝕄)) = bigSep tiles fun dci : DCI => barToks dci := by
  unfold bToks
  rw [SparseCore.bigSep_image_of_injOn, SparseCore.bigSep_product]
  · exact bigSep_congr fun dci _ => bigSep_univ_prod _
  rintro ⟨⟨d, c, i⟩, ph, j⟩ - ⟨⟨d', c', i'⟩, ph', j'⟩ - e
  have e1 := (Prod.mk.inj (Prod.mk.inj e).1).1
  have e2 : 16 * ph.val + i.val = 16 * ph'.val + i'.val := (Prod.mk.inj (Prod.mk.inj e).2).2
  obtain ⟨rfl, h⟩ := Prod.mk.inj e1
  obtain ⟨rfl, rfl⟩ := Proc.scVector.inj h
  have hi := i.isLt; have hi' := i'.isLt
  have hn : τ.nSub = 16 := rfl
  obtain rfl : i = i' := Fin.ext (by omega)
  obtain rfl : ph = ph' := Fin.ext (by omega)
  rfl

theorem etoks_eq : (bigSep eToks fun x => (dutyTok EE x.1 x.2.1 x.2.2 : sProp 𝕄)) = bigSep tiles fun dci : DCI => escToks dci := by
  unfold eToks
  rw [SparseCore.bigSep_image_of_injOn, SparseCore.bigSep_product]
  · exact bigSep_congr fun dci _ => bigSep_univ_prod _
  rintro ⟨⟨d, c, i⟩, ph, j⟩ - ⟨⟨d', c', i'⟩, ph', j'⟩ - e
  have e1 := (Prod.mk.inj e).1
  have e2 : i.val = i'.val := (Prod.mk.inj (Prod.mk.inj e).2).2
  obtain ⟨h, rfl⟩ := Prod.mk.inj e1
  obtain ⟨rfl, h'⟩ := Prod.mk.inj h
  obtain ⟨rfl, rfl⟩ := Prod.mk.inj h'
  obtain rfl : i = i' := Fin.ext e2
  rfl

theorem ekeys_eq (Φ : EKey → sProp 𝕄) : bigSep eKeys Φ = bigSep tiles fun dci : DCI => bigSep Finset.univ fun ph : Fin 2 => Φ (dci, ph) := by
  unfold eKeys; rw [SparseCore.bigSep_product]

theorem bCells_eq (Φ : GSem nD τ sig → sProp 𝕄) : bigSep bCells Φ = bigSep tiles fun x : DCI => Φ (bcell₃ x) := by
  unfold bCells; exact SparseCore.bigSep_image_of_injOn (fun a _ b _ e => bcell₃_injective e) Φ

theorem Px_T (d : Dev nD) : (bigSep Finset.univ fun q : Fin 1 => (P C m).x q (SparseCore.T d)) = iprop(emp) :=
  bigSep_univ_of_subsingleton (0 : Fin 1)
theorem Px_S (d : Dev nD) (c : Fin τ.nSC) : (bigSep Finset.univ fun q : Fin 1 => (P C m).x q (S d c)) = iprop(emp) :=
  bigSep_univ_of_subsingleton (0 : Fin 1)
theorem Px_V (d : Dev nD) (c : Fin τ.nSC) (i : Fin τ.nSub) :
    (bigSep Finset.univ fun q : Fin 1 => (P C m).x q (V d c i)) = if c.val < 1 then bkit C d c i else iprop(emp) :=
  bigSep_univ_of_subsingleton (0 : Fin 1)

/-- What every tile of the grid is handed alike: every invariant, and that each barrier cell's round is open. -/
abbrev shared : sProp 𝕄 :=
  iprop((∃ κ : GSem nD τ sig → ℕ, bigSep tiles fun x : DCI => cellInv EB (bRd (F := F)) (κ (bcell₃ x)) (bcell₃ x))
    ∗ (∃ κE : EKey → ℕ, bigSep tiles fun x : DCI => bigSep Finset.univ fun ph : Fin 2 => inv (κE (x, ph)) (escBody (pay C) (x, ph)))
    ∗ bigSep tiles fun x : DCI => reached EB (bcell₃ x) 0)
/-- What each tile is handed of its own. -/
abbrev mine (dci : DCI) : sProp 𝕄 :=
  iprop(barToks dci ∗ creds dci ∗ atPos EB (bcell₃ dci) 0 ∅ 0 ∗ (bigSep Finset.univ fun ph : Fin 2 => atPos EE (dci, ph) 0 ∅ 0) ∗ escToks dci)

/-- Out of something that holds of every tile of the grid, that it holds of one SparseCore's. -/
theorem restrict {Φ : DCI → sProp 𝕄} [∀ x, BI.Persistent (Φ x)] (d : Dev nD) {c : Fin τ.nSC} (hc : c.val < 1) :
    bigSep tiles Φ ⊢ bigSep Finset.univ fun j : Fin τ.nSub => Φ (d, c, j) := by
  have h : bigSep tiles Φ ⊢ iprop(bigSep tiles Φ ∗ bigSep (Finset.univ : Finset (Fin τ.nSub)) fun _ => (iprop(emp) : sProp 𝕄)) := by
    rw [bigSep_emp']
    iintro H
    isplitl; · iexact H
    iempintro
  exact h.trans (deal (R := bigSep tiles Φ) (s := (Finset.univ : Finset (Fin τ.nSub))) (Φ := fun _ => iprop(emp)) fun j _ =>
    sep_elim_left.trans (SparseCore.ent (bigSep_elim (Φ := Φ) (mem_tiles d hc j))))

/-- One tile's kit out of those. -/
theorem kit_intro (dci : DCI) (h : dci ∈ tiles) : iprop(shared C ∗ mine dci) ⊢ (bkit C dci.1 dci.2.1 dci.2.2 : sProp 𝕄) := by
  obtain ⟨d, c, i⟩ := dci
  have hc : c.val < 1 := (Finset.mem_filter.mp h).2
  iintro ⟨⟨⟨%κ, #Hinv⟩, ⟨%κE, #HinvE⟩, #Hr⟩, Hmine⟩
  unfold bkit
  isplitr
  · iexists κ; iexists κE
    isplitr; · iapply (restrict (Φ := fun x : DCI => (cellInv EB (bRd (F := F)) (κ (bcell₃ x)) (bcell₃ x) : sProp 𝕄)) d hc); iexact Hinv
    isplitr; · iapply (restrict (Φ := fun x : DCI => (bigSep Finset.univ fun ph : Fin 2 => inv (κE (x, ph)) (escBody (pay C) (x, ph)) : sProp 𝕄)) d hc); iexact HinvE
    iapply (restrict (Φ := fun x : DCI => (reached EB (bcell₃ x) 0 : sProp 𝕄)) d hc); iexact Hr
  iexact Hmine

/-- Each tile of the grid its kit. -/
theorem kits_deal : iprop(shared C ∗ bigSep tiles fun x : DCI => mine x)
      ⊢ (bigSep Finset.univ fun thr : Thread nD τ => bigSep Finset.univ fun q : Fin 1 => (P C m).x q thr : sProp 𝕄) := by
  rw [SparseCore.Cfg.bigSep_threads (fun thr : Thread nD τ => bigSep Finset.univ fun q : Fin 1 => (P C m).x q thr)]
  simp only [Px_T, Px_S, Px_V, bigSep_emp']
  iintro ⟨#Hsh, Hmine⟩
  isplitr; · iempintro
  isplitr; · iempintro
  iapply (SparseCore.ent (Entails.of_eq (bigSep_filter Finset.univ (fun x : DCI => x.2.1.val < 1) fun x => bkit C x.1 x.2.1 x.2.2)))
  iapply (deal (R := shared C) (Φ := fun x => mine (F := F) x) fun dci h => kit_intro C dci h)
  isplitr; · iexact Hsh
  iexact Hmine

/-- The launch: the handshakes' part, and every thread's start. -/
theorem hu₀ : iprop(ownU (u₀ (F := F)) ∗ (P C m).oxCred ∗ (K (F := F)).freeOn (· ∈ bCells))
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P C m).x q thr) : sProp 𝕄) := by
  unfold u₀
  iintro ⟨Hu, Hcred, Hfree⟩
  ihave H := (ownU_split _ _ _) $$ Hu
  icases H with ⟨HH, HB, HE⟩
  imod (Rounds.fund EB (bRd (F := F)) bCells bToks) $$ HB with ⟨Hst, #Hr, Hat, Htok⟩
  ihave HE := (Rounds.own_initOf EE eKeys eToks) $$ HE
  icases HE with ⟨HstE, HatE, HtokE⟩
  ihave Hsems := (sems_b (F := F)) $$ Hfree
  imod (invs_b (F := F)) $$ [Hsems Hst] with ⟨%κ, #Hinv⟩
  · isplitl [Hsems] <;> iassumption
  imod (invs_e C) $$ HstE with ⟨%κE, #HinvE⟩
  ihave Hcred' := (creds_b C m) $$ Hcred
  ihave Hinv' := (Entails.of_eq (bCells_eq (F := F) fun g => cellInv EB (bRd (F := F)) (κ g) g)) $$ Hinv
  ihave HinvE' := (Entails.of_eq (ekeys_eq (F := F) fun k => inv (κE k) (escBody (pay C) k))) $$ HinvE
  ihave Hr' := (Entails.of_eq (bCells_eq (F := F) fun g => reached EB g 0)) $$ Hr
  ihave Hat' := (Entails.of_eq (bCells_eq (F := F) fun g => atPos EB g 0 ∅ 0)) $$ Hat
  ihave HatE' := (Entails.of_eq (ekeys_eq (F := F) fun k => atPos EE k 0 ∅ 0)) $$ HatE
  ihave Htok' := (Entails.of_eq (toks_eq (F := F))) $$ Htok
  ihave HtokE' := (Entails.of_eq (etoks_eq (F := F))) $$ HtokE
  imodintro
  isplitl [HH]; · iexact HH
  isplitr; · rw [bigSep_emp']; iempintro
  iapply (kits_deal C m)
  isplitr
  · isplitl; · iexists κ; iexact Hinv'
    isplitl; · iexists κE; iexact HinvE'
    iexact Hr'
  unfold mine
  rw [bigSep_sep', bigSep_sep', bigSep_sep', bigSep_sep']
  isplitl [Htok']; · iexact Htok'
  isplitl [Hcred']; · iexact Hcred'
  isplitl [Hat']; · iexact Hat'
  isplitl [HatE']; · iexact HatE'
  iexact HtokE'

end Cert.KernelIdeal.Group

end
-- ==== Proof.Host.lean ====
module

public import proofs.«01_k».proof.Proof.Body
public import proofs.«01_k».proof.Proof.Fund
public import Idealize.ShloMosaic.Lib.StableHlo.Run

@[expose] public section

noncomputable section

/-! The host operations before the call: what they leave in the call's operands. -/

namespace Cert.KernelIdeal.Group

open Cert.KernelIdeal.Gen
open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.StableHlo (held tcRefs devRef_mem_tcRefs held_sub_split nullary unary binary ternary reshape seq after after_cons after_nil
  nullary_bufs_sub unary_bufs_sub binary_bufs_sub ternary_bufs_sub reshape_bufs_sub wp_seq)

attribute [local instance] blocks

variable {F : FTy → Type}

local notation "𝕄" => MT nD τ sig (HIx 2) (Elt F) ℕ UU ℕ

section Host

variable [FloatOps F] (m : (ℓ : Loc nD τ sig) → Buf (Elt F) ℓ)

/-- The host operations before the call, in order. -/
abbrev hostOps : List (HloOp τ sig (Elt F)) :=
  [ nullary main_v0 (iotaInDim S20480 32 0),
    nullary main_c (constantI S_ 32 20000#32),
    unary main_c main_v1 (broadcastInDim S20480 ![] bcast_S_S20480 : (⟨S_, .i32⟩ : BufTy).Contents (Elt F) → (⟨S20480, .i32⟩ : BufTy).Contents (Elt F)),
    binary main_v0 main_v1 main_v2 (cmpi .slt : (⟨S20480, .i32⟩ : BufTy).Contents (Elt F) → (⟨S20480, .i32⟩ : BufTy).Contents (Elt F) → (⟨S20480, .i1⟩ : BufTy).Contents (Elt F)),
    nullary main_c_0 (constantI S_ 32 512#32),
    unary main_c_0 main_call0_v0 (id : (⟨S_, .i32⟩ : BufTy).Contents (Elt F) → (⟨S_, .i32⟩ : BufTy).Contents (Elt F)),
    unary main_call0_v0 main_call0_v1 (broadcastInDim S20480 ![] bcast_S_S20480 : (⟨S_, .i32⟩ : BufTy).Contents (Elt F) → (⟨S20480, .i32⟩ : BufTy).Contents (Elt F)),
    ternary main_v2 main_arg0 main_call0_v1 main_v3 (select : (⟨S20480, .i1⟩ : BufTy).Contents (Elt F) → (⟨S20480, .i32⟩ : BufTy).Contents (Elt F) → (⟨S20480, .i32⟩ : BufTy).Contents (Elt F) → (⟨S20480, .i32⟩ : BufTy).Contents (Elt F)),
    unary main_arg1 main_v4 ((extractStridedSlice S20000x1 ![0, 0] · slices_S20000x2_S20000x1_0_0) : (⟨S20000x2, .f32⟩ : BufTy).Contents (Elt F) → (⟨S20000x1, .f32⟩ : BufTy).Contents (Elt F)),
    reshape main_v4 main_v5 (rfl : (.f32 : EltTy) = .f32) shapeCasts_S20000x1_S20000,
    nullary main_c_1 (constantI S_ 32 0#32),
    unary main_c_1 main_call1_v0 (sitofp .f32 : (⟨S_, .i32⟩ : BufTy).Contents (Elt F) → (⟨S_, .f32⟩ : BufTy).Contents (Elt F)),
    binary main_v5 main_call1_v0 main_v6 ((fun x v => pad S20480 ![0] ![480] ![0] x v pads_S20000_S20480_04800 h_S_) : (⟨S20000, .f32⟩ : BufTy).Contents (Elt F) → (⟨S_, .f32⟩ : BufTy).Contents (Elt F) → (⟨S20480, .f32⟩ : BufTy).Contents (Elt F)),
    unary main_arg1 main_v7 ((extractStridedSlice S20000x1 ![0, 1] · slices_S20000x2_S20000x1_0_1) : (⟨S20000x2, .f32⟩ : BufTy).Contents (Elt F) → (⟨S20000x1, .f32⟩ : BufTy).Contents (Elt F)),
    reshape main_v7 main_v8 (rfl : (.f32 : EltTy) = .f32) shapeCasts_S20000x1_S20000,
    nullary main_c_2 (constantI S_ 32 0#32),
    unary main_c_2 main_call2_v0 (sitofp .f32 : (⟨S_, .i32⟩ : BufTy).Contents (Elt F) → (⟨S_, .f32⟩ : BufTy).Contents (Elt F)),
    binary main_v8 main_call2_v0 main_v9 ((fun x v => pad S20480 ![0] ![480] ![0] x v pads_S20000_S20480_04800 h_S_) : (⟨S20000, .f32⟩ : BufTy).Contents (Elt F) → (⟨S_, .f32⟩ : BufTy).Contents (Elt F) → (⟨S20480, .f32⟩ : BufTy).Contents (Elt F)),
    unary main_arg2 main_v10 ((extractStridedSlice S512x1 ![0, 0] · slices_S512x2_S512x1_0_0) : (⟨S512x2, .f32⟩ : BufTy).Contents (Elt F) → (⟨S512x1, .f32⟩ : BufTy).Contents (Elt F)),
    reshape main_v10 main_v11 (rfl : (.f32 : EltTy) = .f32) shapeCasts_S512x1_S512,
    unary main_arg2 main_v12 ((extractStridedSlice S512x1 ![0, 1] · slices_S512x2_S512x1_0_1) : (⟨S512x2, .f32⟩ : BufTy).Contents (Elt F) → (⟨S512x1, .f32⟩ : BufTy).Contents (Elt F)),
    reshape main_v12 main_v13 (rfl : (.f32 : EltTy) = .f32) shapeCasts_S512x1_S512 ]

set_option maxRecDepth 8192 in
/-- The program on the TensorCore: the host operations, then the call. -/
theorem main_eq (d : Dev nD) : main (F := F) d = seq hostOps >>= fun _ => (K (F := F)).run d 0 >>= fun _ => pure ⟨⟩ := rfl

theorem scopedRefs_eq : (Finset.univ.filter fun b : Ref sig .tc => b.isScoped) = ∅ := by decide

theorem ops_sub : ∀ op ∈ (hostOps (F := F)), op.bufs ⊆ tcRefs τ sig := by
  refine List.forall_iff_forall_mem.mp ?_
  exact ⟨nullary_bufs_sub .., nullary_bufs_sub .., unary_bufs_sub .., binary_bufs_sub .., nullary_bufs_sub .., unary_bufs_sub .., unary_bufs_sub ..,
    ternary_bufs_sub .., unary_bufs_sub .., reshape_bufs_sub .., nullary_bufs_sub .., unary_bufs_sub .., binary_bufs_sub .., unary_bufs_sub ..,
    reshape_bufs_sub .., nullary_bufs_sub .., unary_bufs_sub .., binary_bufs_sub .., unary_bufs_sub .., reshape_bufs_sub .., unary_bufs_sub ..,
    reshape_bufs_sub ..⟩

theorem ops_fresh : ∀ op ∈ (hostOps (F := F)), op.fresh = ∅ := by
  refine List.forall_iff_forall_mem.mp ?_
  exact ⟨rfl, rfl, rfl, rfl, rfl, rfl, rfl, rfl, rfl, rfl, rfl, rfl, rfl, rfl, rfl, rfl, rfl, rfl, rfl, rfl, rfl, rfl⟩

/-- The contents at the launch, and at the call. -/
def V0 (d : Dev nD) : Valuation τ sig (Elt F) := fun b => m (d, b)
def V1 (d : Dev nD) : Valuation τ sig (Elt F) := after hostOps (V0 m d)

/-- A column of the points, padded with zeros to 20480. -/
abbrev padded (x : Vec F S20000x1 .f32) : Vec F S20480 .f32 :=
  pad S20480 ![0] ![480] ![0] (shapeCast S20000 x shapeCasts_S20000x1_S20000) (sitofp .f32 (constantI S_ 32 0#32) : Vec F S_ .f32) pads_S20000_S20480_04800 h_S_

/-- The call's operands, of the arguments. -/
def conOf (a0 : Vec F S20480 .i32) (a1 : Vec F S20000x2 .f32) (a2 : Vec F S512x2 .f32) : Con F where
  near := select (cmpi .slt (iotaInDim S20480 32 0) (broadcastInDim S20480 ![] bcast_S_S20480 (constantI S_ 32 20000#32))) a0
    (broadcastInDim S20480 ![] bcast_S_S20480 (constantI S_ 32 512#32))
  px := padded (extractStridedSlice S20000x1 ![0, 0] a1 slices_S20000x2_S20000x1_0_0)
  py := padded (extractStridedSlice S20000x1 ![0, 1] a1 slices_S20000x2_S20000x1_0_1)
  cx := shapeCast S512 (extractStridedSlice S512x1 ![0, 0] a2 slices_S512x2_S512x1_0_0) shapeCasts_S512x1_S512
  cy := shapeCast S512 (extractStridedSlice S512x1 ![0, 1] a2 slices_S512x2_S512x1_0_1) shapeCasts_S512x1_S512

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2

/-- The call's operands on a device, of the launch memory. -/
def con (d : Dev nD) : Con F := conOf (m (a0Loc d)) (m (a1Loc d)) (m (a2Loc d))

theorem V1_near (d : Dev nD) : V1 m d main_v3 = (con m d).near := by
  unfold V1; after_results_simp; rfl
theorem V1_px (d : Dev nD) : V1 m d main_v6 = (con m d).px := by
  unfold V1; after_results_simp; rfl
theorem V1_py (d : Dev nD) : V1 m d main_v9 = (con m d).py := by
  unfold V1; after_results_simp; rfl
theorem V1_cx (d : Dev nD) : V1 m d main_v11 = (con m d).cx := by
  unfold V1; after_results_simp; rfl
theorem V1_cy (d : Dev nD) : V1 m d main_v13 = (con m d).cy := by
  unfold V1; after_results_simp; rfl
theorem V1_ox (d : Dev nD) : V1 m d main_v14_0 = m (oxLoc d) := by
  unfold V1; after_results_simp; rfl
theorem V1_oy (d : Dev nD) : V1 m d main_v14_1 = m (oyLoc d) := by
  unfold V1; after_results_simp; rfl
theorem V1_a0 (d : Dev nD) : V1 m d main_arg0 = m (a0Loc d) := by
  unfold V1; after_results_simp; rfl
theorem V1_a1 (d : Dev nD) : V1 m d main_arg1 = m (a1Loc d) := by
  unfold V1; after_results_simp; rfl
theorem V1_a2 (d : Dev nD) : V1 m d main_arg2 = m (a2Loc d) := by
  unfold V1; after_results_simp; rfl

/-- The launch's buffers are the TensorCore's, held at the launch contents. -/
theorem unscoped_held (d : Dev nD) : (unscopedBufs d (fun b => m ((SparseCore.T d).loc b)) : sProp 𝕄) = held (SparseCore.T d) (tcRefs τ sig) (V0 m d) := by
  unfold unscopedBufs held tcRefs
  rw [BI.bigSep_map, Finset.filter_true_of_mem ?_]
  · rfl
  · intro b _ hb
    have : b ∈ (Finset.univ.filter fun b : Ref sig .tc => b.isScoped) := Finset.mem_filter.mpr ⟨Finset.mem_univ _, hb⟩
    rw [scopedRefs_eq] at this; exact absurd this (Finset.notMem_empty _)

/-- The buffers the call and the claims speak of. -/
abbrev kept : Finset (DevRef τ sig) :=
  {Proc.devRef .tc main_arg0, Proc.devRef .tc main_arg1, Proc.devRef .tc main_arg2, Proc.devRef .tc main_v3, Proc.devRef .tc main_v6,
    Proc.devRef .tc main_v9, Proc.devRef .tc main_v11, Proc.devRef .tc main_v13, Proc.devRef .tc main_v14_0, Proc.devRef .tc main_v14_1}

theorem kept_sub : kept ⊆ tcRefs τ sig := by
  intro b hb
  simp only [kept, Finset.mem_insert, Finset.mem_singleton] at hb
  rcases hb with rfl | rfl | rfl | rfl | rfl | rfl | rfl | rfl | rfl | rfl <;> exact devRef_mem_tcRefs _

/-- At the call: the arguments at their launch contents, the call's operands, its result arrays, and the rest. -/
theorem held_V1 (d : Dev nD) : (held (d.tc : Thread nD τ) (tcRefs τ sig) (after hostOps (V0 m d)) : sProp 𝕄)
    ⊢ iprop(((a0Loc d ↦{fullShare} m (a0Loc d)) ∗ (a1Loc d ↦{fullShare} m (a1Loc d)) ∗ (a2Loc d ↦{fullShare} m (a2Loc d)))
        ∗ stP (con m) m d) := by
  rw [show after hostOps (V0 m d) = V1 m d from rfl, held_sub_split _ kept_sub]
  unfold held kept
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton,
    V1_near, V1_px, V1_py, V1_cx, V1_cy, V1_ox, V1_oy, V1_a0, V1_a1, V1_a2]
  iintro ⟨⟨H0, H1, H2, H3, H6, H9, H11, H13, Hx, Hy⟩, -⟩
  isplitl [H0 H1 H2]
  · isplitl [H0]; · iexact H0
    isplitl [H1]; · iexact H1
    iexact H2
  isplitl [H3 H6 H9 H11 H13]
  · isplitl [H3]; · iexact H3
    isplitl [H6]; · iexact H6
    isplitl [H9]; · iexact H9
    isplitl [H11]; · iexact H11
    iexact H13
  isplitl [Hx]; · iexact Hx
  iexact Hy

end Host

end Cert.KernelIdeal.Group

end
-- ==== Proof.Run.lean ====
module

public import proofs.«01_k».proof.Proof.Host

@[expose] public section

noncomputable section

/-! The whole run: every execution ends, with the results at their values, the arguments as they were and every counter zero. -/

namespace Cert.KernelIdeal.Group

open Cert.KernelIdeal.Gen
open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.StableHlo (held tcRefs devRef_mem_tcRefs held_sub_split nullary unary binary ternary reshape seq after after_cons after_nil
  nullary_bufs_sub unary_bufs_sub binary_bufs_sub ternary_bufs_sub reshape_bufs_sub wp_seq)

attribute [local instance] blocks

variable {F : FTy → Type}

local notation "𝕄" => MT nD τ sig (HIx 2) (Elt F) ℕ UU ℕ

section Tile

variable (C : Dev nD → Con F) [FloatOps F] (m : (ℓ : Loc nD τ sig) → Buf (Elt F) ℓ)

/-- A tile's grid position, from its core and its number on it. -/
def coordsV (c : Fin (grid0.bound 0)) (s : Fin (grid0.bound 1)) : grid0.Coords :=
  fun | 0 => c | 1 => s | ⟨_ + 2, h⟩ => absurd h (Nat.not_lt.2 (Nat.le_add_left _ _))

/-- What a tile of the call's grid runs. -/
theorem defs₀_vector (c : Fin τ.nSC) (s : Fin τ.nSub) :
    defs₀ (F := F) (.scVector c s) 0 ()
      = SparseCore.onTile hcore0 hsub0 (fun c s => cc0__sc_group_body (coordsV c s)
          nearV (Memref.isWhole_whole _) ptxV (Memref.isWhole_whole _) ptyV (Memref.isWhole_whole _)
            cenxV (Memref.isWhole_whole _) cenyV (Memref.isWhole_whole _) outxV (Memref.isWhole_whole _) outyV (Memref.isWhole_whole _)
            a9 (Memref.isWhole_whole _) a10 (Memref.isWhole_whole _) a11 (Memref.isWhole_whole _) a12 (Memref.isWhole_whole _)
            a13 (Memref.isWhole_whole _) a14 (Memref.isWhole_whole _) a15 (Memref.isWhole_whole _) a16 (Memref.isWhole_whole _)
            a17 (Memref.isWhole_whole _) a18 (Memref.isWhole_whole _) a19 (Memref.isWhole_whole _) a20 (Memref.isWhole_whole _)
            a21 (Memref.isWhole_whole _) a22 (Memref.isWhole_whole _) a23 (Memref.isWhole_whole _) a24 (Memref.isWhole_whole _)
            cc0_scratch16 cc0_scratch17 cc0_scoped0 cc0_scoped1 cc0_scoped2 cc0_scoped3 cc0_scoped4 cc0_scoped5 cc0_scoped6 cc0_scoped7 cc0_scoped8) ⟨⟩ c s := rfl

set_option maxRecDepth 16384 in
/-- Every tile of the call meets its obligation. -/
theorem tileObl (hF : (K (F := F)).Facts) (hnw : ∀ d p, ((C d).nw p).toNat < 2 ^ 31) : (K (F := F)).TileObl (D (F := F)) 𝒱 (P C m) v₀ 0 := by
  intro d c i O W hO hOlev _
  have hc : ((K (F := F)).core 0 c).val < 1 := c.isLt
  have hci : ((K (F := F)).core 0 c).val < grid0.bound 0 ∧ ((K (F := F)).sub 0 i).val < grid0.bound 1 := ⟨c.isLt, i.isLt⟩
  rw [show (P C m).ox 0 (V d ((K (F := F)).core 0 c) ((K (F := F)).sub 0 i)) = oxV d ((K (F := F)).core 0 c) from if_pos hc,
    show (P C m).x 0 (V d ((K (F := F)).core 0 c) ((K (F := F)).sub 0 i)) = bkit C d ((K (F := F)).core 0 c) ((K (F := F)).sub 0 i) from if_pos hc]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body C m d (coordsV ⟨_, hci.1⟩ ⟨_, hci.2⟩) hF (hnw d) O W hO hOlev

end Tile

section Main

variable [FloatOps F] (m : (ℓ : Loc nD τ sig) → Buf (Elt F) ℓ) (ρ : Dev nD → PrngReg)

theorem st0_eq (d : Dev nD) : (bigSep Finset.univ fun c : Fin ((K (F := F)).nCore 0) => (P (con m) m).st 0 d c) = stP (con m) m d :=
  bigSep_univ_of_subsingleton (0 : Fin 1)
theorem dn0_eq (d : Dev nD) : (bigSep Finset.univ fun c : Fin ((K (F := F)).nCore 0) => (P (con m) m).dn 0 d c) = iprop(dnP (con m) d ∗ bars d 0) :=
  bigSep_univ_of_subsingleton (0 : Fin 1)

/-- The arguments at their launch contents. -/
abbrev argsP (d : Dev nD) : sProp 𝕄 :=
  iprop((a0Loc d ↦{fullShare} m (a0Loc d)) ∗ (a1Loc d ↦{fullShare} m (a1Loc d)) ∗ (a2Loc d ↦{fullShare} m (a2Loc d)))

/-- What the program leaves the claims: the arguments as they were, the results, the barrier semaphores at zero. -/
abbrev FIN (d : Dev nD) : sProp 𝕄 := iprop(argsP m d ∗ dnP (con m) d ∗ bars d 0)

/-- The program on a device's TensorCore: the host operations, then the call. -/
theorem hmain (κ : GSem nD τ sig → ℕ) (d : Dev nD) :
    iprop((K (F := F)).ctx EH (P (con m) m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d (tcRefs τ sig) _ hostOps ops_sub ops_fresh (V0 m d)) $$ [Hb Hheld]
  · isplitl [Hb] <;> iassumption
  iintro ⟨Hb, Hheld⟩
  ihave Hh := (held_V1 (F := F) m d) $$ Hheld
  icases Hh with ⟨Ha, Hc⟩
  simp only [wp_bind, wp_pure]
  iapply ((K (F := F)).wp_run (D (F := F)) 𝒱 (EH := EH) (P := P (con m) m) κ d 0) $$ [Hst Ha Hc Hb Hts]
  isplitr; · iexact Hctx
  isplitl [Hst]; · iexact Hst
  isplitl [Hc]
  · rw [st0_eq]; iexact Hc
  iintro ⟨Hst, Hdn⟩
  ihave Hdn' := (Entails.of_eq (dn0_eq m d)) $$ Hdn
  icases Hdn' with ⟨Hd, Hbars⟩
  imodintro
  isplitl [Hst]; · iexact Hst
  isplitr [Hb Hts]
  · isplitl [Ha]; · iexact Ha
    isplitl [Hd] <;> iassumption
  isplitl [Hb] <;> iassumption

/-- What the claims read of a device's final state. -/
def fq (d : Dev nD) (s' : Phys nD τ sig (Elt F)) : Prop :=
  (s'.mem.mem (oxLoc d) = (con m d).relx ∧ s'.mem.mem (oyLoc d) = (con m d).rely
    ∧ s'.mem.mem (a0Loc d) = m (a0Loc d) ∧ s'.mem.mem (a1Loc d) = m (a1Loc d) ∧ s'.mem.mem (a2Loc d) = m (a2Loc d))
  ∧ ∀ i : Fin ((K (F := F)).nSub 0), s'.mem.sem (bcell d (coreOf (F := F) 0) ((K (F := F)).sub 0 i)) = 0

omit [FloatOps F] in
/-- A buffer held whole is what the final memory holds. -/
theorem read_pts (ℓ : Loc nD τ sig) (f : Buf (Elt F) ℓ) (s' : Phys nD τ sig (Elt F)) :
    iprop((ℓ ↦{fullShare} f : sProp 𝕄) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := fun x hx =>
  ⟨⟨((sep_mono_left (sep_elim_right.trans (sep_elim_left.trans (sep_elim_right.trans sep_elim_left)))).trans (read_pts (oxLoc d) _ s')) x hx,
    ((sep_mono_left (sep_elim_right.trans (sep_elim_left.trans (sep_elim_right.trans sep_elim_right)))).trans (read_pts (oyLoc d) _ s')) x hx,
    ((sep_mono_left (sep_elim_left.trans sep_elim_left)).trans (read_pts (a0Loc d) _ s')) x hx,
    ((sep_mono_left (sep_elim_left.trans (sep_elim_right.trans sep_elim_left))).trans (read_pts (a1Loc d) _ s')) x hx,
    ((sep_mono_left (sep_elim_left.trans (sep_elim_right.trans sep_elim_right))).trans (read_pts (a2Loc d) _ s')) x hx⟩,
   fun i => ((sep_mono_left (sep_elim_right.trans (sep_elim_right.trans (SparseCore.ent (bigSep_elim (Finset.mem_univ i)))))).trans
      (SparseCore.Cfg.semVal_zero_read _ s')) x hx⟩

/-- The cells taken at the launch end at zero. -/
theorem hA (s' : Phys nD τ sig (Elt F)) (h : ∀ d, fq m d s') (g : GSem nD τ sig) (hg : g ∈ bCells) : s'.mem.sem g = 0 := by
  obtain ⟨⟨d, c, i⟩, hx, rfl⟩ := Finset.mem_image.mp hg
  obtain rfl : c = coreOf (F := F) 0 := Fin.ext (Nat.lt_one_iff.mp (Finset.mem_filter.mp hx).2)
  exact (h d).2 ⟨i.val, i.isLt⟩

/-- What every execution ends with: the results at their values, the arguments as they were, the counters at zero. -/
def QC : PUnit × MemSt nD τ sig (Elt F) → Prop := fun r =>
  (∀ c : Dev nD, r.2.mem (oxLoc c) = (con m c).relx ∧ r.2.mem (oyLoc c) = (con m c).rely
    ∧ r.2.mem (a0Loc c) = m (a0Loc c) ∧ r.2.mem (a1Loc c) = m (a1Loc c) ∧ r.2.mem (a2Loc c) = m (a2Loc c)) ∧ r.2.sem = fun _ => 0

/-- Every execution ends there, when every class is nonnegative. -/
theorem run_main [∀ e, Nonempty (Elt F e)] (hnw : ∀ d p, ((con m d).nw p).toNat < 2 ^ 31) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (con m) m) (hA := hA m) facts v₀
    (fun q hq => match q with | 0 => nomatch hq)
    (fun q _ => match q with | 0 => tileObl (con m) m facts hnw)
    (fun q _ => match q with | 0 => vecSplit (con m) m)
    m ρ main (fun _ => iprop(emp)) (FIN m) (u₀ (F := F)) (hu₀ (con m) m) (hmain m ρ) (fq m) (hfin m) (QC m) (fun _ h hz => ⟨fun c => (h c).1, hz⟩)

end Main

end Cert.KernelIdeal.Group

end
-- ==== Proof.Frames.lean ====
module

public import proofs.«01_k».proof.Defs
public import proofs.«01_k».proof.Proof.Run
public import proofs.«01_k».proof.Proof.Gen.Kernel
public import proofs.«01_k».proof.Proof.Gen.ReferenceIdeal.Run
public import proofs.«01_k».proof.Proof.Gen.Pre_near_named
public import proofs.«01_k».proof.Proof.Gen.Pre_near_named_cent_finite
public import Idealize.ShloMosaic.Lib.ReduceAll
public import Idealize.ShloMosaic.Lib.Pipeline.Value
public import Idealize.ShloMosaic.Lib.WordCmp

@[expose] public section

noncomputable section

/-! What the preconditions say of the arguments, and the kernel's frames. -/

namespace Cert.KernelIdeal.Group

open Cert.KernelIdeal.Gen
open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.StableHlo (held tcRefs devRef_mem_tcRefs held_sub_split nullary unary binary ternary reshape seq after after_cons after_nil
  nullary_bufs_sub unary_bufs_sub binary_bufs_sub ternary_bufs_sub reshape_bufs_sub wp_seq)

attribute [local instance] blocks

variable {F : FTy → Type}

local notation "𝕄" => MT nD τ sig (HIx 2) (Elt F) ℕ UU ℕ

/-- Every point's class is nonnegative as a signed word. -/
abbrev Named (a0 : IVec S20480 32) : Prop := ∀ i, (i 0).val < 20000 → (a0 i).toNat < 2 ^ 31

theorem sge_zero_one {x : BitVec 32} (h : IntOp.cmpi .sge x 0#32 = 1#1) : x.toNat < 2 ^ 31 := by
  rw [WordCmp.cmpi_sge_zero] at h
  by_contra hx
  rw [decide_eq_false (show ¬ x.toNat < 2 ^ (32 - 1) from hx)] at h
  exact absurd h (by decide)

instance : Subsingleton (S_ : Shape).Idx := ⟨fun _ _ => funext fun a => a.elim0⟩

/-- The classes are nonnegative when the slice of the first 20000 is. -/
theorem named_of_slice (a0 : IVec S20480 32) (h : S20480.Slices ![0] S20000)
    (hs : ∀ i : S20000.Idx, IntOp.cmpi .sge (extractStridedSlice S20000 ![0] a0 h i) 0#32 = 1#1) : Named a0 := fun i hi => by
  have e := hs fun a => match a with | ⟨0, _⟩ => ⟨(i 0).val, hi⟩
  rw [extractStridedSlice_apply ![0] a0 h _ i (fun a => match a with
    | ⟨0, _⟩ => by show (i 0).val = 0 + (i 0).val; omega)] at e
  exact sge_zero_one e

/-- The first precondition: every point's class is nonnegative. -/
theorem named_of_pre [FloatOps F] [Cert.Pre_near_named.Facts] (a0 : IVec S20480 32) (a1 : FVec F S20000x2 .f32) (a2 : FVec F S512x2 .f32)
    (h : Cert.Pre_near_named.fn a0 a1 a2 = fun _ => 1#1) : Named a0 :=
  named_of_slice a0 _ fun i => Host.reduce_andi_all _ _ _ _ (fun a => a.elim0) (congrFun h _) i

theorem andi_one {x y : BitVec 1} (h : IntOp.andi x y = 1#1) : x = 1#1 ∧ y = 1#1 := by
  revert h; revert x y; decide

/-- The second: besides, every centre coordinate is finite. -/
theorem named_of_pre₂ [FloatOps F] [Cert.Pre_near_named_cent_finite.Facts] (a0 : IVec S20480 32) (a1 : FVec F S20000x2 .f32) (a2 : FVec F S512x2 .f32)
    (h : Cert.Pre_near_named_cent_finite.fn a0 a1 a2 = fun _ => 1#1) : Named a0 :=
  named_of_slice a0 _ fun i => Host.reduce_andi_all _ _ _ _ (fun a => a.elim0) (andi_one (congrFun h (fun a => a.elim0))).1 i

theorem finite_of_pre₂ [Cert.Pre_near_named_cent_finite.Facts] (a0 : IVec S20480 32) (a1 : FVec Ideal S20000x2 .f32) (a2 : FVec Ideal S512x2 .f32)
    (h : Cert.Pre_near_named_cent_finite.fn a0 a1 a2 = fun _ => 1#1) (i : S512x2.Idx) : (a2 i : EReal) ≠ ⊤ ∧ (a2 i : EReal) ≠ ⊥ := by
  have e := Host.reduce_andi_all _ _ _ _ (fun a => a.elim0) (andi_one (congrFun h (fun a => a.elim0))).2 i
  have e1 : Ideal.cmp .olt (max (a2 i : EReal) (-(a2 i : EReal))) (Ideal.ofBits .f32 0x7F800000#32) = 1#1 := e
  rw [show Ideal.ofBits .f32 0x7F800000#32 = (⊤ : EReal) by simp [Ideal.ofBits, Ideal.ieee]] at e1
  have e2 : max (a2 i : EReal) (-(a2 i : EReal)) < ⊤ := by
    by_contra hx
    simp [Ideal.cmp, hx] at e1
  refine ⟨fun ht => ?_, fun hb => ?_⟩
  · rw [ht] at e2; simp at e2
  · rw [hb] at e2; simp at e2

/-- A class read by the call is nonnegative when every point's class is. -/
theorem nw_of_named [FloatOps F] (a0 : IVec S20480 32) (a1 : FVec F S20000x2 .f32) (a2 : FVec F S512x2 .f32) (h : Named a0) (p : ℕ) :
    ((conOf a0 a1 a2).nw p).toNat < 2 ^ 31 := by
  have hv : (ix1 20480 p 0).val < 20480 := (ix1 20480 p 0).isLt
  show (Scalar.select (IntOp.cmpi .slt (BitVec.ofNat 32 (ix1 20480 p 0).val) 20000#32) (a0 (ix1 20480 p)) 512#32).toNat < 2 ^ 31
  unfold Scalar.select
  split
  · next e =>
    rw [cmpi_slt_one _ _ (by rw [toNat_ofNat_small (by omega)]; omega) (by decide), toNat_ofNat_small (by omega)] at e
    exact h _ e
  · show (512#32 : BitVec 32).toNat < 2 ^ 31
    decide

/-- The kernel's frame. -/
theorem frame_kernel [Cert.Pre_near_named.Facts] : Cert.quiescent_Kernel (hKernel := Cert.Kernel.Gen.facts) := fun m ρ hp =>
  (θ_run Cert.KernelIdeal.defs _ _).mono (fun _ h => ⟨fun c => (h.1 c).2.2, h.2⟩)
    (run_main (F := Bits) m ρ fun d p => nw_of_named _ _ _ (named_of_pre _ _ _ (hp d)) p)

theorem frame_ideal [Cert.Pre_near_named.Facts] : Cert.quiescent_KernelIdeal := fun m ρ hp =>
  (θ_run Cert.KernelIdeal.defs _ _).mono (fun _ h => ⟨fun c => (h.1 c).2.2, h.2⟩)
    (run_main (F := Ideal) m ρ fun d p => nw_of_named _ _ _ (named_of_pre _ _ _ (hp d)) p)

theorem frame_ideal₂ [Cert.Pre_near_named_cent_finite.Facts] : Cert.quiescent_KernelIdeal_pre_near_named_cent_finite := fun m ρ hp =>
  (θ_run Cert.KernelIdeal.defs _ _).mono (fun _ h => ⟨fun c => (h.1 c).2.2, h.2⟩)
    (run_main (F := Ideal) m ρ fun d p => nw_of_named _ _ _ (named_of_pre₂ _ _ _ (hp d)) p)

/-- The reference's frames: it declares no semaphore. -/
theorem frame_reference [Cert.Pre_near_named.Facts] : Cert.quiescent_ReferenceIdeal (hReferenceIdeal := Cert.ReferenceIdeal.Gen.facts) := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

theorem frame_reference₂ [Cert.Pre_near_named_cent_finite.Facts] :
    Cert.quiescent_ReferenceIdeal_pre_near_named_cent_finite (hReferenceIdeal := Cert.ReferenceIdeal.Gen.facts) := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

end Cert.KernelIdeal.Group

end
-- ==== Proof.Rank.lean ====
module

public import proofs.«01_k».proof.Proof.Count
public import Idealize.ShloMosaic.Lib.SortFacts

@[expose] public section

noncomputable section

/-! A class's members in order: each rank below the class's count has its member, and a row that holds each member at
    its own position and a larger number elsewhere, once sorted, holds the member of rank `k` at position `k`. -/

namespace Cert.KernelIdeal.Group

open Idealize.ShloMosaic

variable (g : ℕ → ℕ)

/-- One more position adds one to the count exactly when it is of the class. -/
theorem cnt_succ (c n : ℕ) : cnt g c 0 (n + 1) = cnt g c 0 n + if g n = c then 1 else 0 := by
  rw [← cnt_add g c (Nat.zero_le n) (Nat.le_succ n)]
  congr 1
  unfold cnt
  rw [show Finset.Ico n (n + 1) = {n} from by ext x; rw [Finset.mem_Ico, Finset.mem_singleton]; omega, Finset.filter_singleton]
  split <;> rfl

/-- Positions of another class add nothing to the count. -/
theorem cnt_eq_of_ne (c : ℕ) {a b : ℕ} (hab : a ≤ b) (h : ∀ p, a ≤ p → p < b → g p ≠ c) : cnt g c 0 b = cnt g c 0 a := by
  rw [← cnt_add g c (Nat.zero_le a) hab]
  have : cnt g c a b = 0 := Finset.card_eq_zero.mpr (Finset.filter_eq_empty_iff.mpr fun p hp =>
    h p (Finset.mem_Ico.mp hp).1 (Finset.mem_Ico.mp hp).2)
  omega

/-- Every rank below the count has its member. -/
theorem exists_rank (c : ℕ) {n k : ℕ} (h : k < cnt g c 0 n) : ∃ p, p < n ∧ g p = c ∧ cnt g c 0 p = k := by
  induction n with
  | zero => rw [cnt_self] at h; omega
  | succ n ih =>
    by_cases hk : k < cnt g c 0 n
    · obtain ⟨p, hp, hg, hr⟩ := ih hk
      exact ⟨p, by omega, hg, hr⟩
    · rw [cnt_succ] at h
      by_cases hg : g n = c
      · rw [if_pos hg] at h; exact ⟨n, by omega, hg, by omega⟩
      · rw [if_neg hg] at h; omega

/-- The list of a class's members has as many entries as the class's count. -/
theorem length_members (c n : ℕ) : ((List.range n).filter fun p => g p = c).length = cnt g c 0 n := by
  induction n with
  | zero => rw [cnt_self]; rfl
  | succ n ih =>
    rw [List.range_succ, List.filter_append, List.length_append, ih, cnt_succ]
    congr 1
    by_cases h : g n = c <;> simp [h]

/-- A member stands in the list of members at its rank. -/
theorem getElem?_members (c : ℕ) {n p : ℕ} (hp : p < n) (hg : g p = c) :
    ((List.range n).filter fun p => g p = c)[cnt g c 0 p]? = some p := by
  induction n with
  | zero => omega
  | succ n ih =>
    rw [List.range_succ, List.filter_append]
    by_cases h : p < n
    · rw [List.getElem?_append_left (by rw [length_members]; exact cnt_lt g c h hg)]
      exact ih h
    · obtain rfl : p = n := by omega
      rw [List.getElem?_append_right (by rw [length_members]), length_members, Nat.sub_self]
      simp [hg]

/-- The row that holds each member at its own position and `n` elsewhere is, up to order, the members and as many `n` as
    there are other positions. -/
theorem perm_members (c N : ℕ) (n : ℕ) :
    ((List.range n).map fun p => if g p = c then p else N).Perm
      (((List.range n).filter fun p => g p = c) ++ List.replicate (n - cnt g c 0 n) N) := by
  induction n with
  | zero => rw [cnt_self]; exact List.Perm.refl _
  | succ n ih =>
    have hle : cnt g c 0 n ≤ n := (cnt_le g c 0 n).trans (by omega)
    rw [List.range_succ, List.map_append, List.filter_append, cnt_succ]
    by_cases h : g n = c
    · rw [if_pos h, show n + 1 - (cnt g c 0 n + 1) = n - cnt g c 0 n by omega]
      refine (ih.append_right _).trans ?_
      simp only [List.map_cons, List.map_nil, if_pos h, List.filter_cons, List.filter_nil, decide_eq_true_eq]
      rw [List.append_assoc, List.append_assoc]
      exact List.perm_append_comm.append_left _
    · rw [if_neg h, show n + 1 - (cnt g c 0 n + 0) = n - cnt g c 0 n + 1 by omega, List.replicate_succ']
      refine (ih.append_right _).trans ?_
      simp only [List.map_cons, List.map_nil, if_neg h, List.filter_cons, List.filter_nil, decide_eq_true_eq, List.append_nil]
      rw [List.append_assoc]

/-- That list is in order. -/
theorem sorted_members (c : ℕ) (n k : ℕ) :
    (((List.range n).filter fun p => g p = c) ++ List.replicate k n).Pairwise (· ≤ ·) := by
  rw [List.pairwise_append]
  refine ⟨((List.pairwise_lt_range (n := n)).imp fun h => le_of_lt h).filter _, List.pairwise_replicate.mpr (Or.inr le_rfl), fun a ha b hb => ?_⟩
  rw [List.eq_of_mem_replicate hb]
  exact (List.mem_range.mp (List.mem_filter.mp ha).1).le

/-- A stable sort by a key puts the keys in the order of the sorted list of keys. -/
theorem key_sortedFrom {n : ℕ} (key : Fin n → ℕ) (B : Fin n → Fin n → Bool) (hB : ∀ a b, B a b = decide (key a < key b))
    (s : List ℕ) (hs : s.Pairwise (· ≤ ·)) (hp : ((List.finRange n).map key).Perm s) (k : Fin n) :
    s[k.val]? = some (key (sortedFrom B k)) := by
  have hpw : (sortPositions n B).Pairwise fun a b => B b a = false :=
    pairwise_stableSort B B (fun a b h => by rw [hB] at h ⊢; simp only [decide_eq_true_eq, decide_eq_false_iff_not] at h ⊢; omega)
      (fun _ _ h => h) (fun a b c h h' => by rw [hB] at h h' ⊢; simp only [decide_eq_false_iff_not] at h h' ⊢; omega) _
  have hk : ((sortPositions n B).map key).Pairwise (· ≤ ·) :=
    List.pairwise_map.mpr (hpw.imp fun {a b} h => by rw [hB] at h; simpa using h)
  have he : (sortPositions n B).map key = s :=
    List.Perm.eq_of_pairwise (fun a b _ _ h h' => le_antisymm h h') hk hs (((perm_sortPositions n B).map key).trans hp)
  rw [← he, List.getElem?_map, List.getElem?_eq_getElem (by rw [length_sortPositions]; exact k.isLt)]
  rfl

/-- **The sorted row**: the member of rank `k` stands at position `k`. -/
theorem sorted_row (c : ℕ) {n : ℕ} (B : Fin n → Fin n → Bool)
    (hB : ∀ a b : Fin n, B a b = decide ((if g a.val = c then a.val else n) < if g b.val = c then b.val else n))
    {p : ℕ} (hp : p < n) (hg : g p = c) (k : Fin n) (hk : k.val = cnt g c 0 p) : sortedFrom B k = ⟨p, hp⟩ := by
  have h := key_sortedFrom (fun a : Fin n => if g a.val = c then a.val else n) B hB _ (sorted_members g c n (n - cnt g c 0 n))
    ((show ((List.finRange n).map fun a : Fin n => if g a.val = c then a.val else n)
        = (List.range n).map fun p => if g p = c then p else n from by
      rw [← List.map_coe_finRange_eq_range, List.map_map]; rfl) ▸ perm_members g c n n) k
  rw [List.getElem?_append_left (by rw [length_members, hk]; exact cnt_lt g c hp hg), hk, getElem?_members g c hp hg] at h
  have h := Option.some.inj h
  refine Fin.ext ?_
  show (sortedFrom B k).val = p
  by_cases hm : g (sortedFrom B k).val = c
  · rw [if_pos hm] at h; exact h.symm
  · rw [if_neg hm] at h; omega

end Cert.KernelIdeal.Group

end
-- ==== Proof.RefRead.lean ====
module

public import proofs.«01_k».proof.Proof.Rank
public import proofs.«01_k».proof.Proof.Gen.ReferenceIdeal.Read
public import Idealize.ShloMosaic.Lib.StableHlo.Predicate
public import Idealize.ShloMosaic.Lib.ReduceAll
public import Idealize.ShloMosaic.Lib.WordCmp
public import Idealize.ShloMosaic.Lib.Routing.OpsSet
public import Idealize.ShloMosaic.Lib.Routing.OpsPair

@[expose] public section

noncomputable section

/-! The reference's sort, gathers and scatter, read at an index. -/

namespace Cert.ReferenceIdeal.Group

open Cert.ReferenceIdeal Cert.ReferenceIdeal.Gen Idealize.ShloMosaic Idealize.ShloMosaic.StableHlo
open Cert.KernelIdeal.Group (cnt sel cnt_lt exists_rank sorted_row slt_small toNat_ofNat_small)

/-- A row that holds each member at its own position and the row's length elsewhere, once sorted, holds the member of
    rank `k` at position `k`. -/
theorem sort_rank {m n : ℕ} (hn : n < 2 ^ 31) (g : ℕ → ℕ) (c : ℕ) (cmp : BitVec 32 → BitVec 32 → BitVec 1)
    (hcmp : ∀ l r, cmp l r = IntOp.cmpi .slt l r) (x : (⟨2, ![m, n]⟩ : Shape).Idx → BitVec 32) (j : (⟨2, ![m, n]⟩ : Shape).Idx)
    (hx : ∀ k : Fin n, x (j.along (1 : Fin 2) k) = BitVec.ofNat 32 (if g k.val = c then k.val else n))
    {p : ℕ} (hp : p < n) (hg : g p = c) (hk : (j 1).val = cnt g c 0 p) :
    Host.sort ⟨2, ![m, n]⟩ 1 cmp x j = BitVec.ofNat 32 p := by
  have hlt : ∀ k : Fin n, (if g k.val = c then k.val else n) < 2 ^ 31 := fun k => by
    have := k.isLt; split <;> omega
  have hB : ∀ a b : Fin n, (cmp (x (j.along (1 : Fin 2) a)) (x (j.along (1 : Fin 2) b)) == 1#1)
      = decide ((if g a.val = c then a.val else n) < if g b.val = c then b.val else n) := fun a b => by
    rw [hcmp, hx, hx]
    unfold IntOp.cmpi
    simp only []
    rw [slt_small _ _ (by rw [toNat_ofNat_small (hlt a)]; exact hlt a) (by rw [toNat_ofNat_small (hlt b)]; exact hlt b),
      toNat_ofNat_small (hlt a), toNat_ofNat_small (hlt b)]
    cases decide ((if g a.val = c then a.val else n) < if g b.val = c then b.val else n) <;> rfl
  show x (j.along (1 : Fin 2) (sortedFrom (fun k k' => cmp (x (j.along (1 : Fin 2) k)) (x (j.along (1 : Fin 2) k')) == 1#1) (j 1))) = _
  refine (congrArg (fun q : Fin n => x (j.along (1 : Fin 2) q)) (sorted_row g c _ hB hp hg (j 1) hk)).trans ?_
  exact (hx ⟨p, hp⟩).trans (congrArg (BitVec.ofNat 32) (if_pos hg))

/-- The gather along the rows of the sorted positions: the entry of the row at the clamped index word. -/
theorem gather_row (x : S512x32.Idx → BitVec 32) (idx : IVec S512x1x1 32) (j : S512x1.Idx) (i : S512x1x1.Idx) (k : S512x32.Idx)
    (hi : (i 0).val = (j 0).val) (hk : (k 0).val = (j 0).val) (hk' : (k 1).val = min (idx i).toInt.toNat 31) :
    Host.gather gather_S512x32_S512x1x1_S512x1_n_1_0_0_1_2_11 x idx j = x k := by
  unfold Host.gather
  congr 1
  funext a
  apply Fin.ext
  match a with
  | ⟨0, _⟩ =>
    show _ = (k 0).val
    rw [hk]
    show GatherDims.start gather_S512x32_S512x1x1_S512x1_n_1_0_0_1_2_11 j idx (0 : Fin 2) + GatherDims.batchCoord gather_S512x32_S512x1x1_S512x1_n_1_0_0_1_2_11 j (0 : Fin 2) + GatherDims.offCoord gather_S512x32_S512x1x1_S512x1_n_1_0_0_1_2_11 j (0 : Fin 2) = (j 0).val
    rw [GatherDims.start_batching _ _ _ _ (by decide), GatherDims.offCoord_eq_zero _ _ _ (by decide), Nat.zero_add, Nat.add_zero]
    unfold GatherDims.batchCoord
    rw [dif_pos (by decide)]
    rfl
  | ⟨1, _⟩ =>
    show _ = (k 1).val
    rw [hk']
    show GatherDims.start gather_S512x32_S512x1x1_S512x1_n_1_0_0_1_2_11 j idx (1 : Fin 2) + GatherDims.batchCoord gather_S512x32_S512x1x1_S512x1_n_1_0_0_1_2_11 j (1 : Fin 2) + GatherDims.offCoord gather_S512x32_S512x1x1_S512x1_n_1_0_0_1_2_11 j (1 : Fin 2) = _
    rw [GatherDims.batchCoord_eq_zero _ _ _ (by decide), GatherDims.offCoord_eq_zero _ _ _ (by decide), Nat.add_zero]
    unfold GatherDims.start
    rw [dif_pos (by decide)]
    show min (idx _).toInt.toNat 31 = _
    congr 3
    congr 1
    funext b
    match b with
    | ⟨0, _⟩ => exact Fin.ext hi.symm
    | ⟨1, _⟩ => exact Subsingleton.elim (α := Fin 1) _ _
    | ⟨2, _⟩ => exact Subsingleton.elim (α := Fin 1) _ _

/-- The gather of the points: the point at the clamped index word, coordinate by coordinate. -/
theorem gather_point {α : Type} (x : S20000x2.Idx → α) (idx : IVec S512x32x1 32) (j : S512x32x2.Idx) (i : S512x32x1.Idx) (k : S20000x2.Idx)
    (hi : (i 0).val = (j 0).val) (hi' : (i 1).val = (j 1).val) (hk : (k 0).val = min (idx i).toInt.toNat 19999)
    (hk' : (k 1).val = (j 2).val) :
    Host.gather gather_S20000x2_S512x32x1_S512x32x2_2_0_n_n_0_2_12 x idx j = x k := by
  unfold Host.gather
  congr 1
  funext a
  apply Fin.ext
  match a with
  | ⟨0, _⟩ =>
    show _ = (k 0).val
    rw [hk]
    show GatherDims.start gather_S20000x2_S512x32x1_S512x32x2_2_0_n_n_0_2_12 j idx (0 : Fin 2) + GatherDims.batchCoord gather_S20000x2_S512x32x1_S512x32x2_2_0_n_n_0_2_12 j (0 : Fin 2) + GatherDims.offCoord gather_S20000x2_S512x32x1_S512x32x2_2_0_n_n_0_2_12 j (0 : Fin 2) = _
    rw [GatherDims.batchCoord_eq_zero _ _ _ (by decide), GatherDims.offCoord_eq_zero _ _ _ (by decide), Nat.add_zero]
    unfold GatherDims.start
    rw [dif_pos (by decide)]
    show min (idx _).toInt.toNat 19999 = _
    congr 3
    congr 1
    funext b
    match b with
    | ⟨0, _⟩ => exact Fin.ext hi.symm
    | ⟨1, _⟩ => exact Fin.ext hi'.symm
    | ⟨2, _⟩ => exact Subsingleton.elim (α := Fin 1) _ _
  | ⟨1, _⟩ =>
    show _ = (k 1).val
    rw [hk']
    show GatherDims.start gather_S20000x2_S512x32x1_S512x32x2_2_0_n_n_0_2_12 j idx (1 : Fin 2) + GatherDims.batchCoord gather_S20000x2_S512x32x1_S512x32x2_2_0_n_n_0_2_12 j (1 : Fin 2) + GatherDims.offCoord gather_S20000x2_S512x32x1_S512x32x2_2_0_n_n_0_2_12 j (1 : Fin 2) = _
    rw [GatherDims.batchCoord_eq_zero _ _ _ (by decide)]
    unfold GatherDims.start GatherDims.offCoord
    rw [dif_neg (by decide), dif_pos (by decide), Nat.zero_add]
    rfl

/-- Where an update of the scatter lands: at its own row and coordinate, in slot 0. -/
theorem lands (idx : IVec S1 32) (hidx : ∀ i, idx i = 0#32) (u : S512x2.Idx) (j : S512x32x2.Idx) :
    scatter_S512x32x2_S1_S512x2_01_1_1_0.resultIdx? u idx = some j
      ↔ (u 0).val = (j 0).val ∧ (j 1).val = 0 ∧ (u 1).val = (j 2).val := by
  rw [Routing.resultIdx?_eq_some]
  have h0 : ScatterDims.start scatter_S512x32x2_S1_S512x2_01_1_1_0 u idx (0 : Fin 3) = 0 := by
    unfold ScatterDims.start; rw [dif_neg (by decide)]
  have h1 : ScatterDims.start scatter_S512x32x2_S1_S512x2_01_1_1_0 u idx (1 : Fin 3) = 0 := by
    unfold ScatterDims.start; rw [dif_pos (by decide), hidx]; rfl
  have h2 : ScatterDims.start scatter_S512x32x2_S1_S512x2_01_1_1_0 u idx (2 : Fin 3) = 0 := by
    unfold ScatterDims.start; rw [dif_neg (by decide)]
  have w0 : ScatterDims.window scatter_S512x32x2_S1_S512x2_01_1_1_0 u (0 : Fin 3) = (u 0).val := by
    unfold ScatterDims.window; rw [dif_pos (by decide)]; rfl
  have w1 : ScatterDims.window scatter_S512x32x2_S1_S512x2_01_1_1_0 u (1 : Fin 3) = 0 := by
    unfold ScatterDims.window; rw [dif_neg (by decide)]
  have w2 : ScatterDims.window scatter_S512x32x2_S1_S512x2_01_1_1_0 u (2 : Fin 3) = (u 1).val := by
    unfold ScatterDims.window; rw [dif_pos (by decide)]; rfl
  constructor
  · intro h
    have a0 := h (0 : Fin 3); have a1 := h (1 : Fin 3); have a2 := h (2 : Fin 3)
    rw [h0, w0] at a0; rw [h1, w1] at a1; rw [h2, w2] at a2
    exact ⟨by omega, by omega, by omega⟩
  · rintro ⟨e0, e1, e2⟩ a
    match a with
    | ⟨0, _⟩ => refine (congrArg₂ _ h0 (congrArg _ w0)).trans ?_; show _ = ((j 0).val : ℤ); omega
    | ⟨1, _⟩ => refine (congrArg₂ _ h1 (congrArg _ w1)).trans ?_; show _ = ((j 1).val : ℤ); omega
    | ⟨2, _⟩ => refine (congrArg₂ _ h2 (congrArg _ w2)).trans ?_; show _ = ((j 2).val : ℤ); omega

/-- The scatter that sets slot 0 of every row: the update in slot 0, the operand elsewhere. -/
theorem scatter_slot0 {α : Type} (x : S512x32x2.Idx → α) (idx : IVec S1 32) (hidx : ∀ i, idx i = 0#32) (upd : S512x2.Idx → α)
    (j : S512x32x2.Idx) (k : S512x2.Idx) (h0 : (k 0).val = (j 0).val) (h1 : (k 1).val = (j 2).val) :
    Host.scatter scatter_S512x32x2_S1_S512x2_01_1_1_0 (fun _ b => b) x idx upd j = if (j 1).val = 0 then upd k else x j := by
  split
  · next h =>
    refine Routing.scatter_set_hit _ x idx upd j _ (fun u hu => ?_) k ((lands idx hidx k j).mpr ⟨h0, h, h1⟩)
    obtain ⟨e0, -, e1⟩ := (lands idx hidx u j).mp hu
    congr 1
    funext a
    match a with
    | ⟨0, _⟩ => exact Fin.ext (e0.trans h0.symm)
    | ⟨1, _⟩ => exact Fin.ext (e1.trans h1.symm)
  · next h => exact Routing.scatter_set_miss _ x idx upd j fun u hu => h ((lands idx hidx u j).mp hu).2.1

end Cert.ReferenceIdeal.Group

end
-- ==== Proof.RefPick.lean ====
module

public import proofs.«01_k».proof.Proof.RefRead

@[expose] public section

noncomputable section

/-! Which point the reference puts in each slot. -/

namespace Cert.ReferenceIdeal.Group

open Cert.ReferenceIdeal Cert.ReferenceIdeal.Gen Cert.ReferenceIdeal.Read Idealize.ShloMosaic Idealize.ShloMosaic.StableHlo
open Cert.KernelIdeal.Group (cnt sel cnt_lt cnt_le exists_rank sel_eq slt_small toNat_ofNat_small minsi_small maxsi_small cmpi_slt_one)

variable {F : FTy → Type} [FloatOps F]

/-- A selection by a bit is the `if` of it. -/
theorem select_if {α : Type} (b : BitVec 1) (x y : α) : Scalar.select b x y = if b = 1#1 then x else y := rfl

/-- The count as a number of entries of a finite range. -/
theorem card_fin (g : ℕ → ℕ) (c n : ℕ) : ((Finset.univ : Finset (Fin n)).filter fun q => g q.val = c).card = cnt g c 0 n := by
  unfold cnt
  rw [← Finset.card_map Fin.valEmbedding]
  congr 1
  ext p
  simp only [Finset.mem_map, Finset.mem_filter, Finset.mem_univ, true_and, Fin.valEmbedding_apply, Finset.mem_Ico]
  exact ⟨fun ⟨q, hq, e⟩ => e ▸ ⟨⟨Nat.zero_le _, q.isLt⟩, hq⟩, fun ⟨⟨_, h⟩, e⟩ => ⟨⟨p, h⟩, e, rfl⟩⟩

/-- The slot of class `c` that its member of rank `k` has holds that member. -/
theorem slot_member (g : ℕ → ℕ) (c : ℕ) {k n N : ℕ} (hn : n ≤ N) (hk : k < 32) (h : k < cnt g c 0 n) :
    ∃ p, p < n ∧ g p = c ∧ cnt g c 0 p = k ∧ sel g 0 N (32 * c + k) = p := by
  obtain ⟨p, hp, hg, hr⟩ := exists_rank g c h
  have e : (32 * c + k) / 32 = c := by omega
  exact ⟨p, hp, hg, hr, sel_eq g ⟨Nat.zero_le _, by omega⟩ (by rw [e, hg]) (by rw [e, hr]; omega)⟩

section

variable (x0 : (⟨S20480, .i32⟩ : BufTy).Contents (Elt F)) (g : ℕ → ℕ)
  (hg : ∀ i : S20480.Idx, (i 0).val < 20000 → (x0 i).toNat = g (i 0).val)
include hg

/-- The mask: one where the point's class is the row's. -/
theorem mask_iff (i : S512x20000.Idx) : val_main_v7 (F := F) x0 i = 1#1 ↔ g (i 1).val = (i 0).val := by
  have h0 : (i 0).val < 512 := (i 0).isLt
  have h1 : (i 1).val < 20000 := (i 1).isLt
  rw [val_main_v7_apply, Predicate.cmpi_eq_iff, val_main_v5_apply, val_main_v2_apply, val_main_v1_apply, val_main_v6_apply,
    val_main_v4_apply, val_main_v3_apply, ← BitVec.toNat_inj, hg _ h1, toNat_ofNat_small (n := (i 0).val) (by omega)]

/-- The counts. -/
theorem count_toNat (i : S512.Idx) : (val_main_v9 (F := F) x0 i).toNat = cnt g (i 0).val 0 20000 := by
  rw [← card_fin]
  refine (Predicate.toNat_reduce_count_cols (by norm_num) (val_main_v7 (F := F) x0) natLt_1_32 reducesTo_S512x20000_S512_d1 h_S_ i).trans ?_
  exact congrArg Finset.card (Finset.filter_congr fun q _ => mask_iff x0 g hg (Predicate.ij (i 0) q))

/-- The row to sort: a member at its own position, the number of points elsewhere. -/
theorem row_eq (i : S512x20000.Idx) :
    val_main_v11 (F := F) x0 i = BitVec.ofNat 32 (if g (i 1).val = (i 0).val then (i 1).val else 20000) := by
  rw [val_main_v11_apply, select_if]
  by_cases h : g (i 1).val = (i 0).val
  · rw [if_pos ((mask_iff x0 g hg i).mpr h), if_pos h, val_main_call0_v1_apply, val_main_v10_apply, val_main_v0_apply]
  · rw [if_neg fun e => h ((mask_iff x0 g hg i).mp e), if_neg h, val_main_call0_v2_apply, val_main_call0_v0_apply, val_main_c_0_apply]

/-- The first 32 of each sorted row: below the count, the class's members by rank. -/
theorem sorted_eq (i : S512x32.Idx) (h : (i 1).val < cnt g (i 0).val 0 20000) :
    val_main_v13 (F := F) x0 i = BitVec.ofNat 32 (sel g 0 20480 (32 * (i 0).val + (i 1).val)) := by
  obtain ⟨p, hp, he, hr, hs⟩ := slot_member g (i 0).val (N := 20480) (by norm_num) (i 1).isLt h
  rw [val_main_v13_apply, hs]
  refine sort_rank (by norm_num) g (i 0).val comparator_i32_d1 (fun _ _ => rfl) (val_main_v11 (F := F) x0) (idx_main_v13 i) (fun k => ?_) hp he hr.symm
  exact row_eq x0 g hg _

/-- The number of filled slots. -/
theorem filled_toNat (i : S512.Idx) : (val_main_v15 (F := F) x0 i).toNat = min (cnt g (i 0).val 0 20000) 32 := by
  have hc := cnt_le g (i 0).val 0 20000
  rw [val_main_v15_apply, val_main_v14_apply, val_main_c_1_apply, minsi_small _ _ (by rw [count_toNat x0 g hg]; omega) (by decide), count_toNat x0 g hg]
  rfl

/-- The last filled slot, zero for an empty class. -/
theorem lastSlot_toNat (i : S512.Idx) : (val_main_v18 (F := F) x0 i).toNat = min (cnt g (i 0).val 0 20000) 32 - 1 := by
  have hf := filled_toNat x0 g hg i
  rw [val_main_v18_apply, val_main_call2_v4_apply, val_main_call2_v3_apply, val_main_c_4_apply, val_main_call2_v2_apply,
    val_main_call2_v1_apply, val_main_call2_v0_apply, val_main_c_3_apply, val_main_v17_apply, val_main_v16_apply, val_main_c_2_apply]
  generalize val_main_v15 (F := F) x0 i = w at hf
  rcases Nat.eq_zero_or_pos (min (cnt g (i 0).val 0 20000) 32) with h | h
  · rw [h] at hf ⊢
    obtain rfl : w = 0#32 := BitVec.eq_of_toNat_eq hf
    rfl
  · have hs : (IntOp.subi w 1#32).toNat = min (cnt g (i 0).val 0 20000) 32 - 1 := by
      show (w - 1#32).toNat = _
      rw [BitVec.toNat_sub, hf]
      show (2 ^ 32 - 1 + _) % 2 ^ 32 = _
      omega
    have hm : (IntOp.maxsi 0#32 (IntOp.subi w 1#32)).toNat = min (cnt g (i 0).val 0 20000) 32 - 1 := by
      rw [maxsi_small _ _ (by decide) (by rw [hs]; omega), hs]
      exact Nat.max_eq_right (Nat.zero_le _)
    rw [minsi_small _ _ (by decide) (by rw [hm]; omega), hm]
    show min 31 _ = _
    omega

/-- The index of the last filled slot, once wrapped: it is not negative, so it stays. -/
theorem wrapped_toNat (i : S512x1x1.Idx) :
    (val_main_call3_v5 (F := F) x0 i).toNat = min (cnt g (i 0).val 0 20000) 32 - 1 := by
  have h1 : (i 1).val < 1 := (i 1).isLt
  have h2 : (i 2).val < 1 := (i 2).isLt
  have e : (((i 0).val * 1 + (i 1).val) * 1 + (i 2).val) / 1 = (i 0).val := by omega
  have hl : (val_main_v18 (F := F) x0 (idx_main_v19 (idx_main_call3_v5 i))).toNat = min (cnt g (i 0).val 0 20000) 32 - 1 :=
    (lastSlot_toNat x0 g hg _).trans (congrArg (fun c => min (cnt g c 0 20000) 32 - 1) e)
  rw [val_main_call3_v5_apply, val_main_call3_v4_apply, select_if, val_main_call3_v1_apply, val_main_call3_v0_apply,
    val_main_call3_c_apply, val_main_v19_apply, if_neg, hl]
  rw [Predicate.slt_iff_toNat (by rw [hl]; omega) (by decide)]
  exact Nat.not_lt_zero _

/-- The point that fills a class's slots from its count on. -/
theorem last_eq (i : S512x1.Idx) (h : 0 < cnt g (i 0).val 0 20000) :
    val_main_v20 (F := F) x0 i
      = BitVec.ofNat 32 (sel g 0 20480 (32 * (i 0).val + (min (cnt g (i 0).val 0 20000) 32 - 1))) := by
  have hin : val_main_call3_v12 (F := F) x0 i = 1#1 := by
    refine Host.reduce_andi_one _ _ reducesTo_S512x1x1_S512x1_d2 h_S_ i rfl fun q => ?_
    have hw := wrapped_toNat x0 g hg q
    rw [val_main_call3_v11_apply, val_main_call3_v7_apply, val_main_call3_v10_apply, val_main_call3_v6_apply,
      val_main_call3_v9_apply, val_main_call3_v8_apply, val_main_call3_c_1_apply, val_main_call3_c_2_apply,
      (Predicate.sge_iff_toNat (by rw [hw]; omega) (by decide)).mpr (Nat.zero_le _),
      (Predicate.sle_iff_toNat (by rw [hw]; omega) (by decide)).mpr (by rw [hw]; show _ ≤ 31; omega)]
    rfl
  have h0 : (i 0).val < 512 := (i 0).isLt
  let q : S512x1x1.Idx := fun a => match a with
    | ⟨0, _⟩ => ⟨(i 0).val, h0⟩
    | ⟨1, _⟩ => ⟨0, Nat.one_pos⟩
    | ⟨2, _⟩ => ⟨0, Nat.one_pos⟩
  let k : S512x32.Idx := fun a => match a with
    | ⟨0, _⟩ => ⟨(i 0).val, h0⟩
    | ⟨1, _⟩ => ⟨min (cnt g (i 0).val 0 20000) 32 - 1, by show _ < 32; omega⟩
  have hw : (val_main_call3_v5 (F := F) x0 q).toNat = min (cnt g (i 0).val 0 20000) 32 - 1 := wrapped_toNat x0 g hg q
  rw [val_main_v20_apply, select_if, if_pos hin]
  refine (gather_row (val_main_v13 (F := F) x0) (val_main_call3_v5 (F := F) x0) i q k rfl rfl ?_).trans
    (sorted_eq x0 g hg k (show min (cnt g (i 0).val 0 20000) 32 - 1 < cnt g (i 0).val 0 20000 by omega))
  rw [Predicate.toInt_eq_toNat_of_lt (by rw [hw]; omega), hw]
  show min (cnt g (i 0).val 0 20000) 32 - 1 = min (((min (cnt g (i 0).val 0 20000) 32 - 1 : ℕ) : ℤ)).toNat 31
  rw [Int.toNat_natCast]; omega

/-- **The reference's choice**: for a class that has points, the slot's point number, as the kernel picks it. -/
theorem choice_toNat (i : S512x32x1.Idx) (h : 0 < cnt g (i 0).val 0 20000) :
    (val_main_v34 (F := F) x0 i).toNat = min 19999 (if (i 1).val < min (cnt g (i 0).val 0 20000) 32
      then sel g 0 20480 (32 * (i 0).val + (i 1).val)
      else sel g 0 20480 (32 * (i 0).val + (min (cnt g (i 0).val 0 20000) 32 - 1))) := by
  have h1 : (i 1).val < 32 := (i 1).isLt
  have hf : (val_main_v15 (F := F) x0 (idx_main_v23 (idx_main_v25 (idx_main_v34 i)))).toNat = min (cnt g (i 0).val 0 20000) 32 :=
    filled_toNat x0 g hg _
  have hsel : val_main_v27 (F := F) x0 (idx_main_v34 i) = BitVec.ofNat 32 (if (i 1).val < min (cnt g (i 0).val 0 20000) 32
      then sel g 0 20480 (32 * (i 0).val + (i 1).val)
      else sel g 0 20480 (32 * (i 0).val + (min (cnt g (i 0).val 0 20000) 32 - 1))) := by
    rw [val_main_v27_apply, select_if, val_main_v26_apply, val_main_v24_apply, val_main_v22_apply, val_main_v21_apply,
      val_main_v25_apply, val_main_v23_apply]
    have hk : (BitVec.ofNat 32 (i 1).val).toNat = (i 1).val := toNat_ofNat_small (by omega)
    have hc : IntOp.cmpi .slt (BitVec.ofNat 32 (i 1).val) (val_main_v15 (F := F) x0 (idx_main_v23 (idx_main_v25 (idx_main_v34 i)))) = 1#1
        ↔ (i 1).val < min (cnt g (i 0).val 0 20000) 32 :=
      (cmpi_slt_one _ _ (by rw [hk]; omega) (by rw [hf]; omega)).trans (by rw [hk, hf])
    by_cases hlt : (i 1).val < min (cnt g (i 0).val 0 20000) 32
    · rw [if_pos (hc.mpr hlt), if_pos hlt]
      exact sorted_eq x0 g hg (idx_main_v34 i) (show (i 1).val < cnt g (i 0).val 0 20000 by omega)
    · rw [if_neg fun e => hlt (hc.mp e), if_neg hlt, val_main_call4_v0_apply]
      exact last_eq x0 g hg _ h
  have hle : (if (i 1).val < min (cnt g (i 0).val 0 20000) 32
      then sel g 0 20480 (32 * (i 0).val + (i 1).val)
      else sel g 0 20480 (32 * (i 0).val + (min (cnt g (i 0).val 0 20000) 32 - 1))) ≤ 20480 := by
    split <;> exact Cert.KernelIdeal.Group.sel_le g
  generalize (if (i 1).val < min (cnt g (i 0).val 0 20000) 32
      then sel g 0 20480 (32 * (i 0).val + (i 1).val)
      else sel g 0 20480 (32 * (i 0).val + (min (cnt g (i 0).val 0 20000) 32 - 1))) = s at hsel hle ⊢
  have hs : (BitVec.ofNat 32 s).toNat = s := toNat_ofNat_small (by omega)
  have hm : (IntOp.maxsi 0#32 (BitVec.ofNat 32 s)).toNat = s := by
    rw [maxsi_small _ _ (by decide) (by rw [hs]; omega), hs]
    exact Nat.max_eq_right (Nat.zero_le _)
  have hv : (val_main_v28 (F := F) x0 (idx_main_v34 i)).toNat = min 19999 s := by
    rw [val_main_v28_apply, val_main_call5_v4_apply, val_main_call5_v3_apply, val_main_c_6_apply, val_main_call5_v2_apply,
      val_main_call5_v1_apply, val_main_call5_v0_apply, val_main_c_5_apply, hsel,
      minsi_small _ _ (by decide) (by rw [hm]; omega), hm]
    rfl
  rw [val_main_v34_apply, val_main_v33_apply, select_if, val_main_v30_apply, val_main_v29_apply, val_main_c_7_apply, if_neg, hv]
  rw [Predicate.slt_iff_toNat (by rw [hv]; omega) (by decide)]
  exact Nat.not_lt_zero _

end

end Cert.ReferenceIdeal.Group

end
-- ==== Proof.RefValue.lean ====
module

public import proofs.«01_k».proof.Proof.RefPick
public import proofs.«01_k».proof.Proof.Host
public import Idealize.ShloMosaic.Lib.KernelVsHost

@[expose] public section

noncomputable section

/-! The reference's results are the kernel's. -/

namespace Cert.ReferenceIdeal.Group

open Cert.ReferenceIdeal Cert.ReferenceIdeal.Gen Cert.ReferenceIdeal.Read Idealize.ShloMosaic Idealize.ShloMosaic.StableHlo
open Cert.KernelIdeal.Group (cnt sel cnt_le cls Con conOf ix1 toNat_ofNat_small cmpi_slt_one)

/-! ## The call's operands -/

section

variable {F : FTy → Type} [FloatOps F]
variable (a0 : IVec S20480 32) (a1 : FVec F S20000x2 .f32) (a2 : FVec F S512x2 .f32)

theorem ix1_val {n : ℕ} [NeZero n] {p : ℕ} (h : p < n) : (ix1 n p 0).val = p := Nat.mod_eq_of_lt h

/-- Whether a position is that of a point. -/
theorem isPoint_iff {p : ℕ} (h : p < 20480) : IntOp.cmpi .slt (BitVec.ofNat 32 (ix1 20480 p 0).val) 20000#32 = 1#1 ↔ p < 20000 := by
  rw [ix1_val h, Predicate.slt_iff_toNat (by rw [toNat_ofNat_small (by omega)]; omega) (by decide), toNat_ofNat_small (by omega)]
  rfl

/-- A point's class is the one given. -/
theorem nw_point {p : ℕ} (h : p < 20000) : (conOf a0 a1 a2).nw p = a0 (ix1 20480 p) :=
  (select_if _ _ _).trans (if_pos ((isPoint_iff (by omega)).mpr h))

/-- The padding has class 512. -/
theorem nw_padding {p : ℕ} (h : 20000 ≤ p) (h' : p < 20480) : (conOf a0 a1 a2).nw p = 512#32 :=
  (select_if _ _ _).trans (if_neg fun e => absurd ((isPoint_iff h').mp e) (by omega))

/-- Only points are counted. -/
theorem count_eq {c : ℕ} (hc : c < 512) : (conOf a0 a1 a2).count c = cnt (cls (conOf a0 a1 a2).nw) c 0 20000 :=
  Cert.KernelIdeal.Group.cnt_eq_of_ne _ c (by norm_num) fun p h h' e => by
    have e' : ((conOf a0 a1 a2).nw p).toNat = c := e
    rw [nw_padding a0 a1 a2 h h'] at e'
    exact absurd e' (show ¬ 512 = c by omega)

/-- A column of the points, padded, read at a point. -/
theorem padded_apply (x : FVec F Cert.KernelIdeal.S20000x1 .f32) {p : ℕ} (h : p < 20000) (k : Cert.KernelIdeal.S20000x1.Idx) (hk : (k 0).val = p) :
    Cert.KernelIdeal.Group.padded x (ix1 20480 p) = x k := by
  have hv : (ix1 20480 p 0).val = p := ix1_val (by omega)
  let j : Cert.KernelIdeal.S20000.Idx := fun a => match a with | ⟨0, _⟩ => ⟨p, h⟩
  refine (pad_apply_of_inside ![0] ![480] ![0] _ _ _ _ (ix1 20480 p) j fun a => ?_).trans ?_
  · match a with
    | ⟨0, _⟩ => show (ix1 20480 p 0).val = 0 + p * (0 + 1); rw [hv]; omega
  · refine shapeCast_apply x _ j k ?_
    rewrite [Shape.rowMajor_val_two, Shape.rowMajor_val_one]
    have h1 : (k 1).val < 1 := (k 1).isLt
    show (k 0).val * 1 + (k 1).val = p
    omega

/-- The first coordinates of the points, as the kernel reads them. -/
theorem px_apply {p : ℕ} (h : p < 20000) (k : S20000x2.Idx) (hk : (k 0).val = p) (hk' : (k 1).val = 0) :
    (conOf a0 a1 a2).px (ix1 20480 p) = a1 k := by
  let q : Cert.KernelIdeal.S20000x1.Idx := fun a => match a with | ⟨0, _⟩ => ⟨p, h⟩ | ⟨1, _⟩ => ⟨0, Nat.one_pos⟩
  refine (padded_apply _ h q rfl).trans (extractStridedSlice_apply ![0, 0] a1 _ q k fun a => ?_)
  match a with
  | ⟨0, _⟩ => show (k 0).val = 0 + p; omega
  | ⟨1, _⟩ => show (k 1).val = 0 + 0; omega

/-- The second coordinates. -/
theorem py_apply {p : ℕ} (h : p < 20000) (k : S20000x2.Idx) (hk : (k 0).val = p) (hk' : (k 1).val = 1) :
    (conOf a0 a1 a2).py (ix1 20480 p) = a1 k := by
  let q : Cert.KernelIdeal.S20000x1.Idx := fun a => match a with | ⟨0, _⟩ => ⟨p, h⟩ | ⟨1, _⟩ => ⟨0, Nat.one_pos⟩
  refine (padded_apply _ h q rfl).trans (extractStridedSlice_apply ![0, 1] a1 _ q k fun a => ?_)
  match a with
  | ⟨0, _⟩ => show (k 0).val = 0 + p; omega
  | ⟨1, _⟩ => show (k 1).val = 1 + 0; omega

/-- A column of the centres, read at a class. -/
theorem centre_apply (o : Fin 2 → ℕ) (h : S512x2.Slices o Cert.KernelIdeal.S512x1) (h' : Cert.KernelIdeal.S512x1.ShapeCasts S512) {c : ℕ} (hc : c < 512)
    (k : S512x2.Idx) (hk : (k 0).val = o 0 + c) (hk' : (k 1).val = o 1) :
    shapeCast S512 (extractStridedSlice Cert.KernelIdeal.S512x1 o a2 h) h' (ix1 512 c) = a2 k := by
  let q : Cert.KernelIdeal.S512x1.Idx := fun a => match a with | ⟨0, _⟩ => ⟨c, hc⟩ | ⟨1, _⟩ => ⟨0, Nat.one_pos⟩
  refine (shapeCast_apply _ h' (ix1 512 c) q ?_).trans (extractStridedSlice_apply o a2 h q k fun a => ?_)
  · rewrite [Shape.rowMajor_val_two, Shape.rowMajor_val_one]
    show c * 1 + 0 = (ix1 512 c 0).val
    rw [ix1_val hc]; omega
  · match a with
    | ⟨0, _⟩ => exact hk
    | ⟨1, _⟩ => exact hk'

/-- The first coordinates of the centres. -/
theorem cx_apply {c : ℕ} (hc : c < 512) (k : S512x2.Idx) (hk : (k 0).val = c) (hk' : (k 1).val = 0) :
    (conOf a0 a1 a2).cx (ix1 512 c) = a2 k :=
  centre_apply a2 ![0, 0] (by decide) (by decide) hc k (hk.trans (Nat.zero_add _).symm) hk'

/-- The second coordinates. -/
theorem cy_apply {c : ℕ} (hc : c < 512) (k : S512x2.Idx) (hk : (k 0).val = c) (hk' : (k 1).val = 1) :
    (conOf a0 a1 a2).cy (ix1 512 c) = a2 k :=
  centre_apply a2 ![0, 1] (by decide) (by decide) hc k (hk.trans (Nat.zero_add _).symm) hk'

end

/-! ## The values -/

section

variable (a0 : IVec S20480 32) (a1 : FVec Ideal S20000x2 .f32) (a2 : FVec Ideal S512x2 .f32)

/-- The reference's difference at a slot of class `c` is the kernel's, given a column of the points and of the centres. -/
theorem diff_eq (j : S512x32x2.Idx) (p : FVec Ideal S20480 .f32) (cc : FVec Ideal S512 .f32)
    (hp : ∀ (q : ℕ) (k : S20000x2.Idx), q < 20000 → (k 0).val = q → (k 1).val = (j 2).val → p (ix1 20480 q) = a1 k)
    (hc : ∀ k : S512x2.Idx, (k 0).val = (j 0).val → (k 1).val = (j 2).val → cc (ix1 512 (j 0).val) = a2 k)
    (hfin : ∀ i, (a2 i : EReal) ≠ ⊤ ∧ (a2 i : EReal) ≠ ⊥) :
    (val_main_v45 (F := Ideal) a0 a1 a2 j : Ideal .f32) = (conOf (F := Ideal) a0 a1 a2).rel p cc (j 0).val (j 1).val := by
  have h0 : (j 0).val < 512 := (j 0).isLt
  have h1 : (j 1).val < 32 := (j 1).isLt
  have h2 : (j 2).val < 2 := (j 2).isLt
  have hg : ∀ i : S20480.Idx, (i 0).val < 20000 → (a0 i).toNat = cls (conOf (F := Ideal) a0 a1 a2).nw (i 0).val := fun i hi => by
    show _ = ((conOf (F := Ideal) a0 a1 a2).nw (i 0).val).toNat
    rw [nw_point a0 a1 a2 hi]
    congr 2
    funext a
    match a with
    | ⟨0, _⟩ => exact Fin.ext (ix1_val (n := 20480) (i 0).isLt).symm
  let k : S512x2.Idx := fun a => match a with | ⟨0, _⟩ => ⟨(j 0).val, h0⟩ | ⟨1, _⟩ => ⟨(j 2).val, h2⟩
  have hcent : val_main_v44 (F := Ideal) a2 j = cc (ix1 512 (j 0).val) := by
    rw [val_main_v44_apply, val_main_v43_apply]
    exact (hc _ rfl rfl).symm
  have hcnt := count_eq a0 a1 a2 h0
  have hempty : val_main_call6_v0 (F := Ideal) a0 j = 1#1 ↔ (conOf (F := Ideal) a0 a1 a2).count (j 0).val = 0 := by
    rw [val_main_call6_v0_apply, val_main_v41_apply, val_main_v37_apply, Predicate.cmpi_eq_iff, ← BitVec.toNat_inj,
      count_toNat a0 _ hg, hcnt]
    exact Iff.rfl
  rw [val_main_v45_apply, val_main_v42_apply, select_if, hcent]
  unfold Con.rel
  by_cases he : (conOf (F := Ideal) a0 a1 a2).count (j 0).val = 0
  · rw [if_pos (hempty.mpr he), if_pos he]
    have hs : val_main_v40 (F := Ideal) a2 j = if (j 1).val = 0 then a2 k else val_main_v38 (F := Ideal) j :=
      scatter_slot0 (val_main_v38 (F := Ideal)) (val_main_v39 (F := Ideal)) (fun _ => rfl) a2 j k rfl rfl
    rw [hs]
    by_cases hj : (j 1).val = 0
    · rw [if_pos hj, if_pos hj, hc k rfl rfl]
      show (a2 k : EReal) - (a2 k : EReal) = Ideal.ofBits .f32 0x00000000#32
      rw [Ideal.ofBits_zero_f32]
      exact EReal.sub_self (hfin k).1 (hfin k).2
    · rw [if_neg hj, if_neg hj]
      rfl
  · rw [if_neg fun e => he (hempty.mp e), if_neg he]
    have hpos : 0 < cnt (cls (conOf (F := Ideal) a0 a1 a2).nw) (j 0).val 0 20000 := by rw [← hcnt]; omega
    have hpick : (conOf (F := Ideal) a0 a1 a2).pick (j 0).val (j 1).val < 20000 :=
      lt_of_le_of_lt (min_le_left _ _) (by norm_num)
    let i : S512x32x1.Idx := fun a => match a with | ⟨0, _⟩ => ⟨(j 0).val, h0⟩ | ⟨1, _⟩ => ⟨(j 1).val, h1⟩ | ⟨2, _⟩ => ⟨0, Nat.one_pos⟩
    let r : S20000x2.Idx := fun a => match a with
      | ⟨0, _⟩ => ⟨(conOf (F := Ideal) a0 a1 a2).pick (j 0).val (j 1).val, hpick⟩
      | ⟨1, _⟩ => ⟨(j 2).val, h2⟩
    have hch : (val_main_v34 (F := Ideal) a0 i).toNat = (conOf (F := Ideal) a0 a1 a2).pick (j 0).val (j 1).val := by
      refine (choice_toNat a0 _ hg i hpos).trans ?_
      unfold Con.pick Con.last Con.slot
      rw [hcnt]
    have hgat : val_main_v35 (F := Ideal) a0 a1 j = a1 r := by
      refine gather_point a1 (val_main_v34 (F := Ideal) a0) j i r rfl rfl ?_ rfl
      show (conOf (F := Ideal) a0 a1 a2).pick (j 0).val (j 1).val = _
      rw [Predicate.toInt_eq_toNat_of_lt (by rw [hch]; omega), hch, Int.toNat_natCast]
      omega
    rw [hgat, hp _ r hpick rfl rfl]

/-- **The reference's first result is the kernel's.** -/
theorem ref_relx (hfin : ∀ i, (a2 i : EReal) ≠ ⊤ ∧ (a2 i : EReal) ≠ ⊥) :
    val_main_v48 (F := Ideal) a0 a1 a2 = (conOf (F := Ideal) a0 a1 a2).relx := by
  funext i
  have hi : (i 0).val < 16384 := (i 0).isLt
  rw [val_main_v48_apply, val_main_v47_apply, val_main_v46_apply]
  have e0 : (idx_main_v46 (idx_main_v47 (idx_main_v48 i)) 0).val = (i 0).val / 32 := by
    show ((i 0).val / 32 * 32 + (i 0).val % 32) / 32 = _; omega
  have e1 : (idx_main_v46 (idx_main_v47 (idx_main_v48 i)) 1).val = (i 0).val % 32 := by
    show ((i 0).val / 32 * 32 + (i 0).val % 32) / 1 % 32 = _; omega
  have e2 : (idx_main_v46 (idx_main_v47 (idx_main_v48 i)) 2).val = 0 := rfl
  generalize idx_main_v46 (idx_main_v47 (idx_main_v48 i)) = j at e0 e1 e2
  refine (diff_eq a0 a1 a2 j (conOf (F := Ideal) a0 a1 a2).px (conOf (F := Ideal) a0 a1 a2).cx (fun q k hq hk hk' => px_apply a0 a1 a2 hq k hk (hk'.trans e2))
    (fun k hk hk' => cx_apply a0 a1 a2 (j 0).isLt k hk (hk'.trans e2)) hfin).trans ?_
  rw [e0, e1]
  rfl

/-- **The reference's second result is the kernel's.** -/
theorem ref_rely (hfin : ∀ i, (a2 i : EReal) ≠ ⊤ ∧ (a2 i : EReal) ≠ ⊥) :
    val_main_v51 (F := Ideal) a0 a1 a2 = (conOf (F := Ideal) a0 a1 a2).rely := by
  funext i
  have hi : (i 0).val < 16384 := (i 0).isLt
  rw [val_main_v51_apply, val_main_v50_apply, val_main_v49_apply]
  have e0 : (idx_main_v49 (idx_main_v50 (idx_main_v51 i)) 0).val = (i 0).val / 32 := by
    show ((i 0).val / 32 * 32 + (i 0).val % 32) / 32 = _; omega
  have e1 : (idx_main_v49 (idx_main_v50 (idx_main_v51 i)) 1).val = (i 0).val % 32 := by
    show ((i 0).val / 32 * 32 + (i 0).val % 32) / 1 % 32 = _; omega
  have e2 : (idx_main_v49 (idx_main_v50 (idx_main_v51 i)) 2).val = 1 := rfl
  generalize idx_main_v49 (idx_main_v50 (idx_main_v51 i)) = j at e0 e1 e2
  refine (diff_eq a0 a1 a2 j (conOf (F := Ideal) a0 a1 a2).py (conOf (F := Ideal) a0 a1 a2).cy (fun q k hq hk hk' => py_apply a0 a1 a2 hq k hk (hk'.trans e2))
    (fun k hk hk' => cy_apply a0 a1 a2 (j 0).isLt k hk (hk'.trans e2)) hfin).trans ?_
  rw [e0, e1]
  rfl

end

end Cert.ReferenceIdeal.Group

end
-- ==== Proof.Equal.lean ====
module

public import proofs.«01_k».proof.Proof.Frames
public import proofs.«01_k».proof.Proof.RefValue

@[expose] public section

noncomputable section

/-! The kernel's results are the reference's. -/

namespace Cert.KernelIdeal.Group

open Idealize.ShloMosaic Idealize.SL.Sem

/-- **The value claim**: from equal arguments, with every point's class nonnegative and the centres finite, both programs
    run and end with the same relative coordinates, their arguments unchanged. -/
theorem equal [Cert.Pre_near_named_cent_finite.Facts] :
    Cert.algebraic_KernelIdeal_ReferenceIdeal_pre_near_named_cent_finite (hReferenceIdeal := Cert.ReferenceIdeal.Gen.facts) :=
  fun m g m' g' hp hargs => by
    refine ⟨fun c => (con (F := Ideal) m c).relx, fun c => (con (F := Ideal) m c).rely, ?_, ?_⟩
    · exact (θ_run Cert.KernelIdeal.defs _ _).mono (fun _ h c => h.1 c)
        (run_main (F := Ideal) m g fun d p => nw_of_named _ _ _ (named_of_pre₂ _ _ _ (hp d)) p)
    · refine (θ_run Cert.ReferenceIdeal.defs _ _).mono (fun _ h c => ?_) (Cert.ReferenceIdeal.Value.run (F := Ideal) m' g')
      obtain ⟨h0, h1, ha⟩ := h c
      obtain ⟨e0, e1, e2⟩ := hargs c
      have hfin := finite_of_pre₂ _ _ _ (hp c)
      refine ⟨h0.trans ?_, h1.trans ?_, ha⟩
      · rw [Cert.ReferenceIdeal.Read.val_main_v48_eq, e0, e1, e2]
        exact Cert.ReferenceIdeal.Group.ref_relx _ _ _ hfin
      · rw [Cert.ReferenceIdeal.Read.val_main_v51_eq, e0, e1, e2]
        exact Cert.ReferenceIdeal.Group.ref_rely _ _ _ hfin

end Cert.KernelIdeal.Group

end
-- ==== Proof.Net.lean ====
/- The network after the grouping, as mathematics over the extended reals. -/
module

public import Idealize.ShloMosaic.Lib.Pointwise

@[expose] public section

noncomputable section

/-! The network after the grouping, as mathematics over the extended reals. -/

namespace Cert.Net

open Idealize.ShloMosaic

/-- A dense layer: a product with a matrix, and a bias. -/
def dense {n k j : ℕ} (x : Fin n → Fin k → EReal) (W : Fin k → Fin j → EReal) (b : Fin j → EReal) (p : Fin n) (q : Fin j) : EReal :=
  (∑ i, x p i * W i q) + b q

/-- A column less its mean over the 16384 rows. -/
def centred {j : ℕ} (h : Fin 16384 → Fin j → EReal) (p : Fin 16384) (q : Fin j) : EReal :=
  h p q - Ideal.div (∑ p, h p q) (Ideal.ofBits .f32 0x46800000#32)

/-- A column's variance over the rows, and the small number that keeps it from zero. -/
def spread {j : ℕ} (h : Fin 16384 → Fin j → EReal) (q : Fin j) : EReal :=
  Ideal.div (∑ p, centred h p q * centred h p q) (Ideal.ofBits .f32 0x46800000#32) + Ideal.ofBits .f32 0x3727C5AC#32

/-- The batch norm of a column, scaled and shifted, with what is negative cut to zero. -/
def norm {j : ℕ} (h : Fin 16384 → Fin j → EReal) (g be : Fin j → EReal) (p : Fin 16384) (q : Fin j) : EReal :=
  max (Ideal.div (g q * centred h p q) (Ideal.sqrt (spread h q)) + be q) 0

/-- The largest over a group's 32 rows. -/
def pooled {j : ℕ} (h : Fin 16384 → Fin j → EReal) (m : Fin 512) (q : Fin j) : EReal :=
  Finset.univ.fold max (Ideal.ofBits .f32 0xFF800000#32) fun k : Fin 32 => h ⟨m.val * 32 + k.val, by omega⟩ q

end Cert.Net

end
-- ==== Proof.NetKernel.lean ====
/- The network's kernel, read at an index. -/
module

public import proofs.«01_k».proof.Proof.Gen.FeaturesIdeal.Value
public import proofs.«01_k».proof.Proof.Net

@[expose] public section

set_option maxRecDepth 16384

noncomputable section

/-! The network's kernel, read at an index. -/

namespace Cert.FeaturesIdeal.Net

open Cert.FeaturesIdeal Cert.FeaturesIdeal.Gen Cert.Net Idealize.ShloMosaic

theorem pay1_apply (h : FVec Ideal S16384x128 .f32) (W : Vec Ideal S128x16 .f32) (b : Vec Ideal S1x16 .f32) (m : Fin 512) (q : Fin 16) :
    k0_pay1 h W b (ix2 m q) = pooled (dense (fun p i => h (ix2 p i)) (fun i q => W (ix2 i q)) (fun q => b (ix2 0 q))) m q := by
  pointwise [k0_pay1]
  rfl

theorem pay9_apply (v1 v3 : FVec Ideal S16384x1 .f32) (f v35 v37 v39 v41) (W : Vec Ideal S40x64 .f32) (b g : Vec Ideal S1x64 .f32)  (p : Fin 16384) (q : Fin 64) :
    k0_pay9 v1 v3 f v35 v37 v39 v41 W b g (ix2 p q) = g (ix2 0 q) * k0_pay8 v1 v3 f v35 v37 v39 v41 W b (ix2 p q) := by
  pointwise [k0_pay9]

theorem pay10_apply (v1 v3 : FVec Ideal S16384x1 .f32) (f v35 v37 v39 v41) (W : Vec Ideal S40x64 .f32) (b : Vec Ideal S1x64 .f32)  (q : Fin 64) :
    k0_pay10 v1 v3 f v35 v37 v39 v41 W b (ix2 0 q) = Ideal.div (∑ p : Fin 16384, k0_pay8 v1 v3 f v35 v37 v39 v41 W b (ix2 p q) * k0_pay8 v1 v3 f v35 v37 v39 v41 W b (ix2 p q)) (Ideal.ofBits .f32 0x46800000#32) + Ideal.ofBits .f32 0x3727C5AC#32 := by
  pointwise [k0_pay10]

theorem pay11_apply (x : FVec Ideal S16384x64 .f32) (v : FVec Ideal S1x64 .f32) (be : Vec Ideal S1x64 .f32) (W : Vec Ideal S64x128 .f32)
    (b g be2 : Vec Ideal S1x128 .f32)  (p : Fin 16384) (q : Fin 128) :
    k0_pay11 x v be W b g be2 (ix2 p q) = norm (dense (fun p i => max (Ideal.div (x (ix2 p i)) (Ideal.sqrt (v (ix2 0 i))) + be (ix2 0 i)) 0)
      (fun i q => W (ix2 i q)) (fun q => b (ix2 0 q))) (fun q => g (ix2 0 q)) (fun q => be2 (ix2 0 q)) p q := by
  pointwise [k0_pay11]
  rfl

theorem pay4_apply (x : Fin 20) : k0_pay4 (F := Ideal) (ix2 0 x) = FloatOps.sitofp (F := Ideal) .f32 (BitVec.ofNat 32 (2 ^ (x.val / 2))) * Ideal.ofBits .f32 0x40490FDB#32 := by
  pointwise [k0_pay4]
  congr 2
  revert x; decide

/-- The word by which lane `x` tells an even frequency lane from an odd one. -/
theorem lane_word (x : Fin 20) :
    IntOp.cmpi CmpIPredicate.eq
      (Scalar.select
        (IntOp.andi
          (IntOp.xori
            (IntOp.cmpi CmpIPredicate.slt
              (IntOp.remsi ArithUnit.vector (BitVec.ofNat 32 x.val) (Scalar.select (Scalar.cmpi CmpIPredicate.eq 2#32 0#32) 1#32 2#32)) 0#32)
            (Scalar.cmpi CmpIPredicate.slt (Scalar.select (Scalar.cmpi CmpIPredicate.eq 2#32 0#32) 1#32 2#32) 0#32))
          (IntOp.cmpi CmpIPredicate.ne
            (IntOp.remsi ArithUnit.vector (BitVec.ofNat 32 x.val) (Scalar.select (Scalar.cmpi CmpIPredicate.eq 2#32 0#32) 1#32 2#32)) 0#32))
        (IntOp.addi
          (IntOp.remsi ArithUnit.vector (BitVec.ofNat 32 x.val) (Scalar.select (Scalar.cmpi CmpIPredicate.eq 2#32 0#32) 1#32 2#32))
          (Scalar.select (Scalar.cmpi CmpIPredicate.eq 2#32 0#32) 1#32 2#32))
        (IntOp.remsi ArithUnit.vector (BitVec.ofNat 32 x.val) (Scalar.select (Scalar.cmpi CmpIPredicate.eq 2#32 0#32) 1#32 2#32)))
      0#32 = BitVec.ofBool (decide (x.val % 2 = 0)) := by
  revert x; decide

/-- A choice by the word of a decision. -/
theorem select_decide {α : Type} (d : Prop) [Decidable d] (a b : α) : Scalar.select (BitVec.ofBool (decide d)) a b = if d then a else b := by
  by_cases h : d <;> simp [Scalar.select, h]

/-- The angle of row `p` in lane `x`: a coordinate times a frequency. -/
def angle (rx ry : FVec Ideal S16384x1 .f32) (p : Fin 16384) (x : Fin 20) : EReal :=
  (if x.val % 2 = 0 then rx (ix2 p 0) else ry (ix2 p 0)) * k0_pay4 (F := Ideal) (ix2 0 x)

/-- The first layer: twenty sines and twenty cosines against a matrix, and a bias. -/
def first (rx ry : FVec Ideal S16384x1 .f32) (W : Vec Ideal S40x64 .f32) (b : Vec Ideal S1x64 .f32) (p : Fin 16384) (q : Fin 64) : EReal :=
  (∑ x : Fin 20, Ideal.sin (angle rx ry p x) * W (ix2 ⟨x.val, by omega⟩ q) + ∑ x : Fin 20, Ideal.cos (angle rx ry p x) * W (ix2 ⟨20 + x.val, by omega⟩ q)) + b (ix2 0 q)

theorem pay8_apply (rx ry : FVec Ideal S16384x1 .f32) (W : Vec Ideal S40x64 .f32) (b : Vec Ideal S1x64 .f32)  (p : Fin 16384) (q : Fin 64) :
    k0_pay8 rx ry k0_pay4 (Scalar.select (Scalar.cmpi .eq 2#32 0#32) 1#32 2#32) k0_pay5 k0_pay6 k0_pay7 W b (ix2 p q) = centred (first rx ry W b) p q := by
  pointwise [k0_pay8, k0_pay5, k0_pay6, k0_pay7]
  simp only [lane_word, select_decide]
  rfl

end Cert.FeaturesIdeal.Net

end
-- ==== Proof.NetRun.lean ====
/- The network's kernel run: its result array as the layers of its arguments. -/
module

public import proofs.«01_k».proof.Proof.NetKernel
public import Idealize.ShloMosaic.Lib.Pipeline.ValueKit

@[expose] public section

set_option maxRecDepth 16384

noncomputable section

/-! The network's kernel run: its result array as the layers of its arguments. -/

namespace Cert.FeaturesIdeal.Net

open Cert.FeaturesIdeal Cert.FeaturesIdeal.Gen Cert.Net Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Every window's block lies at the origin of its array. -/
theorem at_origin (w : Fin 13) (t : Fin cfg0.N) : (win0 w).index t = fun _ => 0 := by
  fin_cases w <;> rfl

theorem block_0 (c : Dev nD) (t : Fin cfg0.N) : iblk m c 0 t = V m c main_v7 := by
  funext x; blk_simp [iblk]; exact congrArg (V m c main_v7) (by blk_ext [at_origin 0 t])

theorem block_1 (c : Dev nD) (t : Fin cfg0.N) : iblk m c 1 t = V m c main_v8 := by
  funext x; blk_simp [iblk]; exact congrArg (V m c main_v8) (by blk_ext [at_origin 1 t])

theorem block_2 (c : Dev nD) (t : Fin cfg0.N) : iblk m c 2 t = V m c main_v6 := by
  funext x; blk_simp [iblk]; exact congrArg (V m c main_v6) (by blk_ext [at_origin 2 t])

theorem block_3 (c : Dev nD) (t : Fin cfg0.N) : iblk m c 3 t = V m c main_v9 := by
  funext x; blk_simp [iblk]; exact congrArg (V m c main_v9) (by blk_ext [at_origin 3 t])

theorem block_4 (c : Dev nD) (t : Fin cfg0.N) : iblk m c 4 t = V m c main_v10 := by
  funext x; blk_simp [iblk]; exact congrArg (V m c main_v10) (by blk_ext [at_origin 4 t])

theorem block_5 (c : Dev nD) (t : Fin cfg0.N) : iblk m c 5 t = V m c main_v11 := by
  funext x; blk_simp [iblk]; exact congrArg (V m c main_v11) (by blk_ext [at_origin 5 t])

theorem block_6 (c : Dev nD) (t : Fin cfg0.N) : iblk m c 6 t = V m c main_arg6 := by
  funext x; blk_simp [iblk]; exact congrArg (V m c main_arg6) (by blk_ext [at_origin 6 t])

theorem block_7 (c : Dev nD) (t : Fin cfg0.N) : iblk m c 7 t = V m c main_v12 := by
  funext x; blk_simp [iblk]; exact congrArg (V m c main_v12) (by blk_ext [at_origin 7 t])

theorem block_8 (c : Dev nD) (t : Fin cfg0.N) : iblk m c 8 t = V m c main_v13 := by
  funext x; blk_simp [iblk]; exact congrArg (V m c main_v13) (by blk_ext [at_origin 8 t])

theorem block_9 (c : Dev nD) (t : Fin cfg0.N) : iblk m c 9 t = V m c main_v14 := by
  funext x; blk_simp [iblk]; exact congrArg (V m c main_v14) (by blk_ext [at_origin 9 t])

theorem block_10 (c : Dev nD) (t : Fin cfg0.N) : iblk m c 10 t = V m c main_arg10 := by
  funext x; blk_simp [iblk]; exact congrArg (V m c main_arg10) (by blk_ext [at_origin 10 t])

theorem block_11 (c : Dev nD) (t : Fin cfg0.N) : iblk m c 11 t = V m c main_v15 := by
  funext x; blk_simp [iblk]; exact congrArg (V m c main_v15) (by blk_ext [at_origin 11 t])

theorem final (c : Dev nD) : (dats m 0 c).arrAt 12 cfg0.N = out0_12 (V m c main_v7) (V m c main_v8) (V m c main_v6) (V m c main_v9) (V m c main_v10)
    (V m c main_v11) (V m c main_arg6) (V m c main_v12) (V m c main_v13) (V m c main_v14) (V m c main_arg10) (V m c main_v15) := by
  refine (dats m 0 c).arrAt_eq_of_covers 12 _ (by decide +kernel) fun t hf y => ?_
  blk_simp
  rw [after0_12, block_0, block_1, block_2, block_3, block_4, block_5, block_6, block_7, block_8, block_9, block_10, block_11]
  exact congrArg _ (by blk_ext [at_origin 12 t])

theorem ofFin_zero : (![0, 0] : Fin 2 → Nat) = fun _ => 0 := funext fun a => by fin_cases a <;> rfl

theorem pay2_eq (x : Vec Ideal S16384x1 .f32) : k0_pay2 x = x := by
  funext i; unfold k0_pay2; exact congrFun (shapeCast_self x _) i

theorem pay3_eq (x : Vec Ideal S16384x1 .f32) : k0_pay3 x = x := by
  funext i; unfold k0_pay3; exact congrFun (shapeCast_self x _) i

/-- What the body leaves, at an index: the layers of what the windows hold. -/
theorem out_apply (x0 x1 : Vec Ideal S16384x1 .f32) (x2 : Vec Ideal S40x64 .f32) (x3 x4 x5 : Vec Ideal S1x64 .f32) (x6 : Vec Ideal S64x128 .f32)
    (x7 x8 x9 : Vec Ideal S1x128 .f32) (x10 : Vec Ideal S128x16 .f32) (x11 : Vec Ideal S1x16 .f32) (k : Fin 512) (q : Fin 16) :
    out0_12 x0 x1 x2 x3 x4 x5 x6 x7 x8 x9 x10 x11 (ix2 k q) =
      pooled (dense (norm (dense (norm (first x0 x1 x2 x3) (fun q => x4 (ix2 0 q)) (fun q => x5 (ix2 0 q)))
        (fun i q => x6 (ix2 i q)) (fun q => x7 (ix2 0 q))) (fun q => x8 (ix2 0 q)) (fun q => x9 (ix2 0 q)))
        (fun i q => x10 (ix2 i q)) (fun q => x11 (ix2 0 q))) k q := by
  unfold out0_12
  rw [View.canon_unit_zero ofFin_zero, pay1_apply]
  simp only [pay11_apply, pay9_apply, pay10_apply, k0_pay12, k0_pay13, k0_pay14, k0_pay15, k0_pay16, k0_pay17]
  rw [View.ld_unit_zero ofFin_zero, View.ld_unit_zero ofFin_zero, View.ld_unit_zero ofFin_zero, View.ld_unit_zero ofFin_zero, View.ld_unit_zero ofFin_zero,
    View.ld_unit_zero ofFin_zero, View.ld_unit_zero ofFin_zero, View.ld_unit_zero ofFin_zero, View.ld_unit_zero ofFin_zero, View.ld_unit_zero ofFin_zero,
    View.ld_unit_zero ofFin_zero, View.ld_unit_zero ofFin_zero, pay2_eq, pay3_eq]
  simp only [pay8_apply]
  rfl

theorem main_v7_at (c : Dev nD) (p : Fin 16384) : V m c main_v7 (ix2 p 0) = m ((c : Thread nD τ).loc main_arg0) (ix1 p) := by
  unfold V; after_results_simp
  pointwise

theorem main_v8_at (c : Dev nD) (p : Fin 16384) : V m c main_v8 (ix2 p 0) = m ((c : Thread nD τ).loc main_arg1) (ix1 p) := by
  unfold V; after_results_simp
  pointwise

theorem main_v9_at (c : Dev nD) (q : Fin 64) : V m c main_v9 (ix2 0 q) = m ((c : Thread nD τ).loc main_arg3) (ix1 q) := by
  unfold V; after_results_simp
  pointwise

theorem main_v10_at (c : Dev nD) (q : Fin 64) : V m c main_v10 (ix2 0 q) = m ((c : Thread nD τ).loc main_arg4) (ix1 q) := by
  unfold V; after_results_simp
  pointwise

theorem main_v11_at (c : Dev nD) (q : Fin 64) : V m c main_v11 (ix2 0 q) = m ((c : Thread nD τ).loc main_arg5) (ix1 q) := by
  unfold V; after_results_simp
  pointwise

theorem main_v12_at (c : Dev nD) (q : Fin 128) : V m c main_v12 (ix2 0 q) = m ((c : Thread nD τ).loc main_arg7) (ix1 q) := by
  unfold V; after_results_simp
  pointwise

theorem main_v13_at (c : Dev nD) (q : Fin 128) : V m c main_v13 (ix2 0 q) = m ((c : Thread nD τ).loc main_arg8) (ix1 q) := by
  unfold V; after_results_simp
  pointwise

theorem main_v14_at (c : Dev nD) (q : Fin 128) : V m c main_v14 (ix2 0 q) = m ((c : Thread nD τ).loc main_arg9) (ix1 q) := by
  unfold V; after_results_simp
  pointwise

theorem main_v15_at (c : Dev nD) (q : Fin 16) : V m c main_v15 (ix2 0 q) = m ((c : Thread nD τ).loc main_arg11) (ix1 q) := by
  unfold V; after_results_simp
  pointwise

/-- The gather of a matrix's rows: the row at the clamped index word. -/
theorem gather_row {α : Type} (x : S40x64.Idx → α) (idx : IVec S40x1 32) (i k : Fin 40) (q : Fin 64)
    (hk : k.val = min (idx (ix2 i 0)).toInt.toNat 39) :
    Host.gather gather_S40x64_S40x1_S40x64_1_0_n_n_0_1_164 x idx (ix2 i q) = x (ix2 k q) := by
  unfold Host.gather
  congr 1
  funext a
  apply Fin.ext
  match a with
  | ⟨0, _⟩ =>
    show _ = k.val
    rw [hk]
    show GatherDims.start gather_S40x64_S40x1_S40x64_1_0_n_n_0_1_164 (ix2 i q) idx (0 : Fin 2)
      + GatherDims.batchCoord gather_S40x64_S40x1_S40x64_1_0_n_n_0_1_164 (ix2 i q) (0 : Fin 2)
      + GatherDims.offCoord gather_S40x64_S40x1_S40x64_1_0_n_n_0_1_164 (ix2 i q) (0 : Fin 2) = _
    rw [GatherDims.batchCoord_eq_zero _ _ _ (by decide), GatherDims.offCoord_eq_zero _ _ _ (by decide), Nat.add_zero]
    unfold GatherDims.start
    rw [dif_pos (by decide)]
    show min (idx _).toInt.toNat 39 = _
    congr 3
    congr 1
    funext b
    match b with
    | ⟨0, _⟩ => rfl
    | ⟨1, _⟩ => exact Subsingleton.elim (α := Fin 1) _ _
  | ⟨1, _⟩ =>
    show _ = q.val
    show GatherDims.start gather_S40x64_S40x1_S40x64_1_0_n_n_0_1_164 (ix2 i q) idx (1 : Fin 2)
      + GatherDims.batchCoord gather_S40x64_S40x1_S40x64_1_0_n_n_0_1_164 (ix2 i q) (1 : Fin 2)
      + GatherDims.offCoord gather_S40x64_S40x1_S40x64_1_0_n_n_0_1_164 (ix2 i q) (1 : Fin 2) = _
    rw [GatherDims.batchCoord_eq_zero _ _ _ (by decide)]
    unfold GatherDims.start GatherDims.offCoord
    rw [dif_neg (by decide), dif_pos (by decide), Nat.zero_add]
    rfl

/-- Row `i` of the reordered matrix: the sines' rows come first, the cosines' after. -/
theorem main_v6_at (c : Dev nD) (i k : Fin 40) (q : Fin 64)
    (hk : k.val = min (Scalar.select (IntOp.cmpi .slt (lit0 i) 0#32) (IntOp.addi (lit0 i) 40#32) (lit0 i)).toInt.toNat 39) :
    V m c main_v6 (ix2 i q) = m ((c : Thread nD τ).loc main_arg2) (ix2 k q) := by
  have hi : S40.rowMajor (ix1 i) = i := Fin.ext (Shape.rowMajor_val_one _)
  unfold V; after_results_simp
  refine gather_row _ _ i k q ?_
  rw [hk]
  pointwise
  rw [hi]

theorem main_v6_sin (c : Dev nD) (x : Fin 20) (q : Fin 64) :
    V m c main_v6 (ix2 ⟨x.val, by omega⟩ q) = m ((c : Thread nD τ).loc main_arg2) (ix2 ⟨2 * x.val, by omega⟩ q) :=
  main_v6_at m c _ _ q (by revert x; decide)

theorem main_v6_cos (c : Dev nD) (x : Fin 20) (q : Fin 64) :
    V m c main_v6 (ix2 ⟨20 + x.val, by omega⟩ q) = m ((c : Thread nD τ).loc main_arg2) (ix2 ⟨2 * x.val + 1, by omega⟩ q) :=
  main_v6_at m c _ _ q (by revert x; decide)

end Cert.FeaturesIdeal.Net

end
-- ==== Proof.NetRef.lean ====
/- The network's reference, read at an index. -/
module

public import proofs.«01_k».proof.Proof.Gen.FeaturesRefIdeal.Read
public import proofs.«01_k».proof.Proof.Net

@[expose] public section

set_option maxRecDepth 16384

noncomputable section

/-! The network's reference, read at an index. -/

namespace Cert.FeaturesRefIdeal.Net

open Cert.FeaturesRefIdeal Cert.FeaturesRefIdeal.Read Cert.Net Idealize.ShloMosaic

variable (rx ry : (⟨S16384, .f32⟩ : BufTy).Contents (Elt Ideal)) (W : (⟨S40x64, .f32⟩ : BufTy).Contents (Elt Ideal))
  (b g be : (⟨S64, .f32⟩ : BufTy).Contents (Elt Ideal)) (W2 : (⟨S64x128, .f32⟩ : BufTy).Contents (Elt Ideal))
  (b2 g2 be2 : (⟨S128, .f32⟩ : BufTy).Contents (Elt Ideal)) (W3 : (⟨S128x16, .f32⟩ : BufTy).Contents (Elt Ideal))
  (b3 : (⟨S16, .f32⟩ : BufTy).Contents (Elt Ideal))

theorem v23_at (p : Fin 16384) (q : Fin 64) :
    val_main_v23 rx ry W b (ix2 p q) = dense (fun p i => val_main_v19 rx ry (ix2 p i)) (fun i q => W (ix2 i q)) (fun q => b (ix1 q)) p q := by
  pointwise [val_main_v23, val_main_v22, val_main_v21, val_main_v20]
  rfl

theorem v50_at (p : Fin 16384) (q : Fin 64) :
    val_main_v50 rx ry W b g be (ix2 p q) = norm (fun p q => val_main_v23 rx ry W b (ix2 p q)) (fun q => g (ix1 q)) (fun q => be (ix1 q)) p q := by
  pointwise [val_main_v50, val_main_v49, val_main_cst_6, val_main_v48, val_main_v47, val_main_v46, val_main_v45, val_main_v44, val_main_v43, val_main_v42, val_main_v41, val_main_v40, val_main_cst_5, val_main_v39, val_main_v38, val_main_v37, val_main_v36, val_main_v35, val_main_v34, val_main_v33, val_main_v32, val_main_cst_4, val_main_v31, val_main_cst_3, val_main_v30, val_main_v29, val_main_v28, val_main_v27, val_main_v26, val_main_v25, val_main_cst_2, val_main_v24, val_main_cst_1]
  rfl

theorem v54_at (p : Fin 16384) (q : Fin 128) :
    val_main_v54 rx ry W b g be W2 b2 (ix2 p q) =
      dense (fun p i => val_main_v50 rx ry W b g be (ix2 p i)) (fun i q => W2 (ix2 i q)) (fun q => b2 (ix1 q)) p q := by
  pointwise [val_main_v51, val_main_v52, val_main_v53, val_main_v54]
  rfl

theorem v81_at (p : Fin 16384) (q : Fin 128) :
    val_main_v81 rx ry W b g be W2 b2 g2 be2 (ix2 p q) =
      norm (fun p q => val_main_v54 rx ry W b g be W2 b2 (ix2 p q)) (fun q => g2 (ix1 q)) (fun q => be2 (ix1 q)) p q := by
  pointwise [val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_cst_7, val_main_cst_8, val_main_cst_9, val_main_cst_10, val_main_cst_11, val_main_cst_12]
  rfl

theorem v87_at (m : Fin 512) (q : Fin 16) :
    val_main_v87 rx ry W b g be W2 b2 g2 be2 W3 b3 (ix2 m q) =
      pooled (dense (fun p i => val_main_v81 rx ry W b g be W2 b2 g2 be2 (ix2 p i)) (fun i q => W3 (ix2 i q)) (fun q => b3 (ix1 q))) m q := by
  pointwise [val_main_v82, val_main_v83, val_main_v84, val_main_v85, val_main_v86, val_main_v87, val_main_cst_13]
  rfl

theorem v10_zero (p : Fin 16384) : val_main_v10 rx ry (ix3 p 0 0) = rx (ix1 p) := by
  pointwise [val_main_v10, val_main_v2, val_main_v1, val_main_v0]

theorem v10_one (p : Fin 16384) : val_main_v10 rx ry (ix3 p 0 1) = ry (ix1 p) := by
  pointwise [val_main_v10, val_main_v2, val_main_v1, val_main_v0]

/-- The pattern of two. -/
theorem two_f32 : Ideal.ofBits .f32 0x40000000#32 = ((2 : ℝ) : EReal) := by
  simp [Ideal.ofBits, Ideal.ieee, -EReal.coe_mul]; norm_num

/-- A power of two taken over the reals is the shifted word read as a number. -/
theorem pow_two (k : Fin 10) : Ideal.pow (Ideal.ofBits .f32 0x40000000#32) (FloatOps.sitofp (F := Ideal) .f32 (BitVec.ofNat 32 k.val)) =
    FloatOps.sitofp (F := Ideal) .f32 (BitVec.ofNat 32 (2 ^ k.val)) := by
  have h1 : (BitVec.ofNat 32 k.val).toInt = ((k.val : ℕ) : ℤ) := by revert k; decide
  have h2 : (BitVec.ofNat 32 (2 ^ k.val)).toInt = (2 : ℤ) ^ k.val := by revert k; decide
  rw [two_f32]
  show Ideal.pow ((2 : ℝ) : EReal) (((BitVec.ofNat 32 k.val).toInt : ℝ) : EReal) = (((BitVec.ofNat 32 (2 ^ k.val)).toInt : ℝ) : EReal)
  rw [Ideal.pow_coe_coe, h1, h2]
  congr 1
  push_cast
  exact Real.rpow_natCast 2 k.val

theorem v9_at (k : Fin 10) : val_main_v9 (F := Ideal) (ix3 0 k 0) = FloatOps.sitofp (F := Ideal) .f32 (BitVec.ofNat 32 (2 ^ k.val)) * Ideal.ofBits .f32 0x40490FDB#32 := by
  pointwise [val_main_v9, val_main_v8, val_main_v7, val_main_v6, val_main_v5, val_main_v4, val_main_v3, val_main_cst, val_main_cst_0]
  rw [pow_two]

/-- A coordinate of row `p`: the first in even lanes, the second in odd ones. -/
theorem v10_at (p : Fin 16384) (d : Fin 2) : val_main_v10 rx ry (ix3 p 0 d) = if d.val = 0 then rx (ix1 p) else ry (ix1 p) := by
  obtain ⟨d, hd⟩ := d
  interval_cases d
  · exact v10_zero rx ry p
  · exact v10_one rx ry p

/-- The angle of row `p` in lane `x`. -/
def angle (p : Fin 16384) (x : Fin 20) : EReal :=
  (if x.val % 2 = 0 then rx (ix1 p) else ry (ix1 p)) * (FloatOps.sitofp (F := Ideal) .f32 (BitVec.ofNat 32 (2 ^ (x.val / 2))) * Ideal.ofBits .f32 0x40490FDB#32)

theorem v13_at (p : Fin 16384) (x : Fin 20) (k : Fin 10) (d : Fin 2) (hk : k.val = x.val / 2) (hd : d.val = x.val % 2) :
    val_main_v9 (F := Ideal) (ix3 0 k 0) * val_main_v10 rx ry (ix3 p 0 d) = angle rx ry p x := by
  rw [v9_at, v10_at, hk, hd, mul_comm]
  rfl

theorem v19_even (p : Fin 16384) (x : Fin 20) : val_main_v19 rx ry (ix2 p ⟨2 * x.val, by omega⟩) = Ideal.sin (angle rx ry p x) := by
  pointwise [val_main_v19, val_main_v18, val_main_v17, val_main_v16,  val_main_v15, val_main_v14, val_main_v13, val_main_v12, val_main_v11]
  rw [dif_pos (show 2 * x.val % 2 < 1 by omega), v13_at rx ry p x _ _ (show 2 * x.val / 4 = _ by omega) (show 2 * x.val / 2 % 2 = _ by omega)]

theorem v19_odd (p : Fin 16384) (x : Fin 20) : val_main_v19 rx ry (ix2 p ⟨2 * x.val + 1, by omega⟩) = Ideal.cos (angle rx ry p x) := by
  pointwise [val_main_v19, val_main_v18, val_main_v17, val_main_v16,  val_main_v15, val_main_v14, val_main_v13, val_main_v12, val_main_v11]
  rw [dif_neg (show ¬ (2 * x.val + 1) % 2 < 1 by omega), v13_at rx ry p x _ _ (show (2 * x.val + 1) / 4 = _ by omega) (show (2 * x.val + 1) / 2 % 2 = _ by omega)]

/-- A sum over forty lanes, by pairs. -/
theorem sum_pairs (f : Fin 40 → EReal) : ∑ i, f i = ∑ x : Fin 20, f ⟨2 * x.val, by omega⟩ + ∑ x : Fin 20, f ⟨2 * x.val + 1, by omega⟩ := by
  rw [← Equiv.sum_comp (finProdFinEquiv (m := 20) (n := 2)) f, Fintype.sum_prod_type, ← Finset.sum_add_distrib]
  refine Finset.sum_congr rfl fun x _ => ?_
  rw [Fin.sum_univ_two]
  congr 2 <;> apply Fin.ext <;> simp [finProdFinEquiv] <;> omega

/-- The first layer: twenty sines and twenty cosines against the rows of a matrix, and a bias. -/
theorem v23_first (p : Fin 16384) (q : Fin 64) :
    val_main_v23 rx ry W b (ix2 p q) = (∑ x : Fin 20, Ideal.sin (angle rx ry p x) * W (ix2 ⟨2 * x.val, by omega⟩ q) +
      ∑ x : Fin 20, Ideal.cos (angle rx ry p x) * W (ix2 ⟨2 * x.val + 1, by omega⟩ q)) + b (ix1 q) := by
  rw [v23_at]
  unfold dense
  rw [sum_pairs]
  simp only [v19_even, v19_odd]

end Cert.FeaturesRefIdeal.Net

end
-- ==== Proof.NetEqual.lean ====
/- The network: what the kernel's run leaves is what the reference's run leaves. -/
module

public import proofs.«01_k».proof.Defs
public import proofs.«01_k».proof.Proof.NetRun
public import proofs.«01_k».proof.Proof.NetRef
public import proofs.«01_k».proof.Proof.Gen.FeaturesRefIdeal.Run
public import proofs.«01_k».proof.Proof.Gen.Features.Frame

@[expose] public section

set_option maxRecDepth 16384

noncomputable section

/-! The network: what the kernel's run leaves is what the reference's run leaves. -/

namespace Cert.FeaturesIdeal.Net

open Cert.FeaturesIdeal Cert.FeaturesIdeal.Gen Cert.Net Idealize.ShloMosaic Idealize.ShloMosaic.TcCoe Idealize.SL.Sem

variable (m : (ℓ : Loc nD τ sig) → Buf (Elt Ideal) ℓ)

/-- The reference's network of the launch arguments. -/
abbrev net (c : Dev nD) : Buf (Elt Ideal) ((c : Thread nD τ).loc main_v16) :=
  Cert.FeaturesRefIdeal.Read.val_main_v87 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))
    (m ((c : Thread nD τ).loc main_arg11))

/-- The kernel's angles are the reference's. -/
theorem angle_eq (c : Dev nD) (p : Fin 16384) (x : Fin 20) :
    angle (V m c main_v7) (V m c main_v8) p x
      = Cert.FeaturesRefIdeal.Net.angle (m ((c : Thread nD τ).loc main_arg0)) (m ((c : Thread nD τ).loc main_arg1)) p x := by
  unfold angle Cert.FeaturesRefIdeal.Net.angle
  rw [main_v7_at, main_v8_at, pay4_apply]

/-- The kernel's first layer is the reference's. -/
theorem first_eq (c : Dev nD) (p : Fin 16384) (q : Fin 64) :
    first (V m c main_v7) (V m c main_v8) (V m c main_v6) (V m c main_v9) p q
      = Cert.FeaturesRefIdeal.Read.val_main_v23 (m ((c : Thread nD τ).loc main_arg0)) (m ((c : Thread nD τ).loc main_arg1))
          (m ((c : Thread nD τ).loc main_arg2)) (m ((c : Thread nD τ).loc main_arg3)) (ix2 p q) := by
  rw [Cert.FeaturesRefIdeal.Net.v23_first]
  unfold first
  exact congrArg₂ (· + ·) (congrArg₂ (· + ·)
    (Finset.sum_congr rfl fun x _ => congrArg₂ (· * ·) (congrArg Ideal.sin (angle_eq m c p x)) (main_v6_sin m c x q))
    (Finset.sum_congr rfl fun x _ => congrArg₂ (· * ·) (congrArg Ideal.cos (angle_eq m c p x)) (main_v6_cos m c x q))) (main_v9_at m c q)

end Cert.FeaturesIdeal.Net

namespace Cert.FeaturesRefIdeal.Net

open Cert.FeaturesRefIdeal Cert.FeaturesRefIdeal.Read Cert.Net Idealize.ShloMosaic

/-- The reference's result as its layers over the first. -/
theorem layers (rx ry : (⟨S16384, .f32⟩ : BufTy).Contents (Elt Ideal)) (W : (⟨S40x64, .f32⟩ : BufTy).Contents (Elt Ideal))
    (b g be : (⟨S64, .f32⟩ : BufTy).Contents (Elt Ideal)) (W2 : (⟨S64x128, .f32⟩ : BufTy).Contents (Elt Ideal))
    (b2 g2 be2 : (⟨S128, .f32⟩ : BufTy).Contents (Elt Ideal)) (W3 : (⟨S128x16, .f32⟩ : BufTy).Contents (Elt Ideal))
    (b3 : (⟨S16, .f32⟩ : BufTy).Contents (Elt Ideal)) (k : Fin 512) (q : Fin 16) :
    val_main_v87 rx ry W b g be W2 b2 g2 be2 W3 b3 (ix2 k q) =
      pooled (dense (norm (dense (norm (fun p q => val_main_v23 rx ry W b (ix2 p q)) (fun q => g (ix1 q)) (fun q => be (ix1 q)))
        (fun i q => W2 (ix2 i q)) (fun q => b2 (ix1 q))) (fun q => g2 (ix1 q)) (fun q => be2 (ix1 q)))
        (fun i q => W3 (ix2 i q)) (fun q => b3 (ix1 q))) k q := by
  rw [v87_at, funext fun p => funext fun q => v81_at rx ry W b g be W2 b2 g2 be2 p q,
    funext fun p => funext fun q => v54_at rx ry W b g be W2 b2 p q, funext fun p => funext fun q => v50_at rx ry W b g be p q]

end Cert.FeaturesRefIdeal.Net

namespace Cert.FeaturesIdeal.Net

open Cert.FeaturesIdeal Cert.FeaturesIdeal.Gen Cert.Net Idealize.ShloMosaic Idealize.ShloMosaic.TcCoe Idealize.SL.Sem

variable (m : (ℓ : Loc nD τ sig) → Buf (Elt Ideal) ℓ)

/-- The array the kernel leaves is the reference's network of the arguments. -/
theorem final_eq (c : Dev nD) : (dats m 0 c).arrAt 12 cfg0.N = net m c := by
  rw [final]
  funext i
  obtain ⟨k, q, rfl⟩ : ∃ (k : Fin 512) (q : Fin 16), i = ix2 k q := ⟨i 0, i 1, by funext a; match a with | ⟨0, _⟩ => rfl | ⟨1, _⟩ => rfl⟩
  rw [out_apply]
  unfold net
  rw [Cert.FeaturesRefIdeal.Net.layers, funext fun p => funext fun q => first_eq m c p q, funext fun q => main_v10_at m c q,
    funext fun q => main_v11_at m c q, funext fun q => main_v12_at m c q, funext fun q => main_v13_at m c q,
    funext fun q => main_v14_at m c q, funext fun q => main_v15_at m c q, V_main_arg6, V_main_arg10]

end Cert.FeaturesIdeal.Net

namespace Cert.Net

open Idealize.ShloMosaic Idealize.ShloMosaic.TcCoe Idealize.SL.Sem

/-- The network's kernel leaves its arguments and its semaphores as they were, over words. -/
theorem frame_kernel : @Cert.quiescent_Features Cert.Features.Gen.facts := fun m ρ _ =>
  Cert.Features.Gen.frame m ρ

/-- The same over the extended reals. -/
theorem frame_ideal : @Cert.quiescent_FeaturesIdeal Cert.FeaturesIdeal.Gen.facts := fun m ρ _ =>
  Cert.FeaturesIdeal.Gen.frame m ρ

/-- The network's reference leaves its arguments as they were. -/
theorem frame_reference : @Cert.quiescent_FeaturesRefIdeal Cert.FeaturesRefIdeal.Gen.facts := fun m ρ _ =>
  (θ_run Cert.FeaturesRefIdeal.defs _ _).mono (fun r h => ⟨fun c => (h c).2, Idealize.ShloMosaic.sem_eq_zero_of_no_sems (by decide) r.2⟩)
    (Cert.FeaturesRefIdeal.Value.run (F := Ideal) m ρ)

/-- Over the extended reals the network's kernel returns what its reference returns. -/
theorem equal : @Cert.algebraic_FeaturesIdeal_FeaturesRefIdeal Cert.FeaturesIdeal.Gen.facts Cert.FeaturesRefIdeal.Gen.facts := by
  intro m g m' g' _ hargs
  refine ⟨Cert.FeaturesIdeal.Net.net m, ?_, ?_⟩
  · exact (θ_run Cert.FeaturesIdeal.defs _ _).mono (fun r h c => ⟨(h c).1.trans (Cert.FeaturesIdeal.Net.final_eq m c), (h c).2⟩)
      (Cert.FeaturesIdeal.Value.run_blocks m g)
  · refine (θ_run Cert.FeaturesRefIdeal.defs _ _).mono (fun r h c => ⟨(h c).1.trans ?_, (h c).2⟩) (Cert.FeaturesRefIdeal.Value.run m' g')
    obtain ⟨h0, h1, h2, h3, h4, h5, h6, h7, h8, h9, h10, h11⟩ := hargs c
    rw [Cert.FeaturesRefIdeal.Read.val_main_v87_eq, h0, h1, h2, h3, h4, h5, h6, h7, h8, h9, h10, h11]

end Cert.Net

end
-- ==== Proof.Near.lean ====
/- The least value of a list of pairs, and the first place where it is attained. -/
module

public import Idealize.ShloMosaic.Lib.Pointwise
public import Idealize.ShloMosaic.PureOps.Ideal.Laws

@[expose] public section

noncomputable section

/-! The least value of a list of pairs, and the first place where it is attained. -/

namespace Cert.Near

open Idealize.ShloMosaic

/-- Of two pairs of a value and a place, the one of the lesser value, or of the lesser place if the values are equal. -/
def pick (a b : EReal × BitVec 32) : EReal × BitVec 32 := if a.1 < b.1 ∨ a.1 = b.1 ∧ a.2.toInt < b.2.toInt then a else b

/-- A pair comes before another, or at the same place. -/
def Before (a b : EReal × BitVec 32) : Prop := a.1 < b.1 ∨ a.1 = b.1 ∧ a.2.toInt ≤ b.2.toInt

theorem Before.refl (a : EReal × BitVec 32) : Before a a := .inr ⟨rfl, le_refl _⟩

theorem Before.trans {a b c : EReal × BitVec 32} (h : Before a b) (k : Before b c) : Before a c := by
  rcases h with h | ⟨h, h'⟩ <;> rcases k with k | ⟨k, k'⟩
  · exact .inl (h.trans k)
  · exact .inl (k ▸ h)
  · exact .inl (h ▸ k)
  · exact .inr ⟨h.trans k, h'.trans k'⟩

theorem pick_left (a b : EReal × BitVec 32) : Before (pick a b) a := by
  unfold pick
  split
  · exact .refl a
  · rename_i h
    rcases lt_trichotomy a.1 b.1 with k | k | k
    · exact absurd (.inl k) h
    · exact .inr ⟨k.symm, not_lt.1 fun l => h (.inr ⟨k, l⟩)⟩
    · exact .inl k

theorem pick_right (a b : EReal × BitVec 32) : Before (pick a b) b := by
  unfold pick
  split
  · rename_i h
    exact h.imp id fun h => ⟨h.1, h.2.le⟩
  · exact .refl b

/-- The pick of a list comes before all of it, and before the pair it started from. -/
theorem fold_before (L : List (EReal × BitVec 32)) (a : EReal × BitVec 32) :
    Before (L.foldl pick a) a ∧ ∀ p ∈ L, Before (L.foldl pick a) p := by
  induction L generalizing a with
  | nil => exact ⟨.refl a, fun p h => absurd h (by simp)⟩
  | cons b L ih =>
    obtain ⟨h, k⟩ := ih (pick a b)
    refine ⟨h.trans (pick_left a b), fun p hp => ?_⟩
    rcases List.mem_cons.1 hp with rfl | hp
    · exact h.trans (pick_right a p)
    · exact k p hp

/-- And it is one of them. -/
theorem fold_mem (L : List (EReal × BitVec 32)) (a : EReal × BitVec 32) : L.foldl pick a = a ∨ L.foldl pick a ∈ L := by
  induction L generalizing a with
  | nil => exact .inl rfl
  | cons b L ih =>
    rcases ih (pick a b) with h | h
    · rw [List.foldl_cons, h]
      unfold pick
      split
      · exact .inl rfl
      · exact .inr (by simp)
    · exact .inr (List.mem_cons_of_mem _ h)

/-- The least of some words is at most each of them. -/
theorem least_le {ι : Type} (s : Finset ι) (b : BitVec 32) (f : ι → BitVec 32) :
    (s.fold IntOp.minsi b f).toInt ≤ b.toInt ∧ ∀ i ∈ s, (s.fold IntOp.minsi b f).toInt ≤ (f i).toInt := by
  have hmin : ∀ x y : BitVec 32, (IntOp.minsi x y).toInt ≤ x.toInt ∧ (IntOp.minsi x y).toInt ≤ y.toInt := fun x y => by
    unfold IntOp.minsi
    split <;> rename_i h <;> simp only [BitVec.slt, decide_eq_true_eq] at h <;> omega
  classical
  induction s using Finset.cons_induction with
  | empty => exact ⟨le_refl _, fun i h => absurd h (by simp)⟩
  | cons a s ha ih =>
    rw [Finset.fold_cons]
    refine ⟨(hmin _ _).2.trans ih.1, fun i hi => ?_⟩
    rcases Finset.mem_cons.1 hi with rfl | hi
    · exact (hmin _ _).1
    · exact (hmin _ _).2.trans (ih.2 i hi)

/-- And it is one of them. -/
theorem least_mem {ι : Type} (s : Finset ι) (b : BitVec 32) (f : ι → BitVec 32) :
    s.fold IntOp.minsi b f = b ∨ ∃ i ∈ s, s.fold IntOp.minsi b f = f i := by
  classical
  induction s using Finset.cons_induction with
  | empty => exact .inl rfl
  | cons a s ha ih =>
    rw [Finset.fold_cons]
    unfold IntOp.minsi
    split
    · exact .inr ⟨a, by simp, rfl⟩
    · rcases ih with h | ⟨i, hi, h⟩
      · exact .inl h
      · exact .inr ⟨i, Finset.mem_cons_of_mem hi, h⟩

theorem lane_int (k : Fin 512) : (BitVec.ofNat 32 k.val).toInt = k.val := by
  have := k.isLt
  rw [BitVec.toInt_eq_toNat_of_lt] <;> rw [BitVec.toNat_ofNat, Nat.mod_eq_of_lt (by omega)]
  omega

/-- The least lane at which the least of 512 values is attained, as the kernel finds it. -/
def nearest (d : Fin 512 → EReal) : BitVec 32 :=
  Finset.univ.fold IntOp.minsi (2147483647#32) fun k : Fin 512 =>
    if d k = Finset.univ.fold min ⊤ d then BitVec.ofNat 32 k.val else 512#32

/-- The reference's fold over the pairs of a row returns that lane. -/
theorem fold_nearest (d : Fin 512 → EReal) (L : List (EReal × BitVec 32))
    (hL : ∀ p, p ∈ L ↔ ∃ k : Fin 512, p = (d k, BitVec.ofNat 32 k.val)) : (L.foldl pick (⊤, 0#32)).2 = nearest d := by
  obtain ⟨hs, hb⟩ := fold_before L (⊤, 0#32)
  have hm := fold_mem L (⊤, 0#32)
  generalize hr : L.foldl pick (⊤, 0#32) = r at hs hb hm
  have hk : ∀ k : Fin 512, Before r (d k, BitVec.ofNat 32 k.val) := fun k => hb _ ((hL _).2 ⟨k, rfl⟩)
  obtain ⟨k, rfl⟩ : ∃ k : Fin 512, r = (d k, BitVec.ofNat 32 k.val) := by
    rcases hm with rfl | hm
    · refine ⟨0, Prod.ext ?_ rfl⟩
      rcases hk 0 with h | ⟨h, _⟩
      · exact absurd h not_top_lt
      · exact h
    · exact (hL _).1 hm
  have hle : ∀ i, d k ≤ d i := fun i => (hk i).elim le_of_lt fun h => le_of_eq h.1
  have hmin : Finset.univ.fold min ⊤ d = d k :=
    le_antisymm (Finset.fold_min_le _ |>.2 (.inr ⟨k, Finset.mem_univ k, le_refl _⟩)) (Finset.le_fold_min _ |>.2 ⟨le_top, fun i _ => hle i⟩)
  unfold nearest
  rw [hmin]
  have h1 := (least_le Finset.univ (2147483647#32) fun i : Fin 512 => if d i = d k then BitVec.ofNat 32 i.val else 512#32).2 k (Finset.mem_univ k)
  have h2 := least_mem Finset.univ (2147483647#32) fun i : Fin 512 => if d i = d k then BitVec.ofNat 32 i.val else 512#32
  generalize (Finset.univ.fold IntOp.minsi (2147483647#32) fun i : Fin 512 => if d i = d k then BitVec.ofNat 32 i.val else 512#32) = w at h1 h2
  simp only [if_true, lane_int] at h1
  have := k.isLt
  rcases h2 with rfl | ⟨i, _, h2⟩
  · have : (2147483647#32).toInt = 2147483647 := by decide
    omega
  · by_cases hi : d i = d k
    · rw [if_pos hi] at h2
      subst h2
      rw [lane_int] at h1
      rcases hk i with h | ⟨_, h⟩
      · exact absurd (hi ▸ h) (lt_irrefl _)
      · simp only [lane_int] at h
        have : i = k := Fin.ext (by omega)
        rw [this]
    · rw [if_neg hi] at h2
      subst h2
      have : (512#32).toInt = 512 := by decide
      omega

end Cert.Near

end
-- ==== Proof.NearRun.lean ====
/- The run of the nearest-centre kernel: its result array, entry by entry. -/
module

public import proofs.«01_k».proof.Proof.Gen.NearestIdeal.Value
public import proofs.«01_k».proof.Proof.Near
public import Idealize.ShloMosaic.Lib.Pipeline.ValueKit

@[expose] public section

set_option maxRecDepth 16384

noncomputable section

/-! The run of the nearest-centre kernel: its result array, entry by entry. -/

namespace Cert.NearestIdeal.Near

open Cert.NearestIdeal Cert.NearestIdeal.Gen Cert.Near Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The squared distance of a point and a centre, from their columns. -/
def dist (px py : Vec Ideal S20480x1 .f32) (cx cy : Vec Ideal S1x512 .f32) (p : Fin 20480) (k : Fin 512) : EReal :=
  (px (ix2 p 0) - cx (ix2 0 k)) * (px (ix2 p 0) - cx (ix2 0 k)) + (py (ix2 p 0) - cy (ix2 0 k)) * (py (ix2 p 0) - cy (ix2 0 k))

theorem top_word : Ideal.ofBits .f32 0x7F800000#32 = ⊤ := by
  simp [Ideal.ofBits, Ideal.ieee]

theorem pay1_apply (x0 : Vec Ideal S1024x1 .f32) (x2 : Vec Ideal S1x512 .f32) (x1 : Vec Ideal S1024x1 .f32) (x3 : Vec Ideal S1x512 .f32) (p : Fin 1024) :
    k0_pay1 (F := Ideal) x0 x2 x1 x3 (ix2 p 0) = nearest fun k =>
      (x0 (ix2 p 0) - x2 (ix2 0 k)) * (x0 (ix2 p 0) - x2 (ix2 0 k)) + (x1 (ix2 p 0) - x3 (ix2 0 k)) * (x1 (ix2 p 0) - x3 (ix2 0 k)) := by
  pointwise [k0_pay1]
  unfold nearest
  rw [top_word]

theorem ofFin_zero : (![0, 0] : Fin 2 → Nat) = fun _ => 0 := funext fun a => by fin_cases a <;> rfl

theorem index_0 : ∀ t : Fin cfg0.N, win0_0.index t = ![(grid0.coords t 0).val, 0] := by decide +kernel
theorem index_1 : ∀ t : Fin cfg0.N, win0_1.index t = ![(grid0.coords t 0).val, 0] := by decide +kernel
theorem index_2 : ∀ t : Fin cfg0.N, win0_2.index t = ![0, 0] := by decide +kernel
theorem index_3 : ∀ t : Fin cfg0.N, win0_3.index t = ![0, 0] := by decide +kernel
theorem index_4 : ∀ t : Fin cfg0.N, win0_4.index t = ![(grid0.coords t 0).val, 0] := by decide +kernel

theorem final (c : Dev nD) : (dats m 0 c).arrAt 4 cfg0.N = fun i => nearest (dist (V m c main_v3) (V m c main_v7) (V m c main_v10) (V m c main_v13) (i 0)) := by
  refine (dats m 0 c).arrAt_eq_of_covers 4 _ (by decide +kernel) fun t hf y => ?_
  blk_simp
  rw [after0_4]
  obtain ⟨p, q, rfl⟩ : ∃ (p : Fin 1024) (q : Fin 1), y = ix2 p q := ⟨y 0, y 1, by funext a; match a with | ⟨0, _⟩ => rfl | ⟨1, _⟩ => rfl⟩
  obtain rfl : q = 0 := Subsingleton.elim _ _
  unfold out0_4
  rw [View.canon_unit_zero ofFin_zero, pay1_apply, View.ld_unit_zero ofFin_zero, View.ld_unit_zero ofFin_zero, View.ld_unit_zero ofFin_zero, View.ld_unit_zero ofFin_zero]
  refine congrArg nearest (funext fun k => ?_)
  unfold dist
  blk_simp [iblk]
  have e0 : (win0_0.blk t).view.emb (ix2 p 0) = ix2 ((win0_4.blk t).view.emb (ix2 p 0) 0) 0 := by blk_ext [index_0 t, index_4 t]
  have e1 : (win0_1.blk t).view.emb (ix2 p 0) = ix2 ((win0_4.blk t).view.emb (ix2 p 0) 0) 0 := by blk_ext [index_1 t, index_4 t]
  have e2 : (win0_2.blk t).view.emb (ix2 0 k) = ix2 0 k := by blk_ext [index_2 t]
  have e3 : (win0_3.blk t).view.emb (ix2 0 k) = ix2 0 k := by blk_ext [index_3 t]
  rw [e0, e1, e2, e3]
  rfl

/-- A coordinate of a point, and zero after the last point. -/
def coord (x : S20000x2.Idx → EReal) (p : Fin 20480) (a : Fin 2) : EReal := if h : p.val < 20000 then x (ix2 ⟨p.val, h⟩ a) else 0

theorem coord_point (x : S20000x2.Idx → EReal) (p : Fin 20480) (a : Fin 2) (h : p.val < 20000) : coord x p a = x (ix2 ⟨p.val, h⟩ a) := dif_pos h

theorem coord_after (x : S20000x2.Idx → EReal) (p : Fin 20480) (a : Fin 2) (h : ¬ p.val < 20000) : coord x p a = 0 := dif_neg h

theorem word_zero : (FloatOps.sitofp (F := Ideal) FTy.f32 0#32 : EReal) = 0 := by
  show (((0#32).toInt : ℝ) : EReal) = 0
  simp

/-- A column of points padded with zeros. -/
theorem pad_at (x : S20000x2.Idx → EReal) (a : Fin 2) (p : Fin 20480) :
    pad S20480 ![0] ![480] ![0] (fun i : S20000.Idx => x (ix2 (i 0) a)) (sitofp (F := Ideal) .f32 (constantI S_ 32 0#32)) pads_S20000_S20480_04800 h_S_ (ix1 p)
      = coord x p a := by
  pointwise
  by_cases h : p.val < 20000
  · exact (dif_pos h).trans (coord_point x p a h).symm
  · exact (dif_neg h).trans (word_zero.trans (coord_after x p a h).symm)

theorem main_v3_at (c : Dev nD) (p : Fin 20480) : V m c main_v3 (ix2 p 0) = coord (m ((c : Thread nD τ).loc main_arg0)) p 0 := by
  unfold V
  simp only [hostOps0, hostOps0_1, hostOps0_2, hostOps0_3, hostOps0_4, List.flatten_cons, List.flatten_nil, List.append_nil, List.cons_append, List.nil_append]
  after_results_simp
  pointwise
  exact pad_at (m ((c : Thread nD τ).loc main_arg0)) 0 p

theorem main_v7_at (c : Dev nD) (p : Fin 20480) : V m c main_v7 (ix2 p 0) = coord (m ((c : Thread nD τ).loc main_arg0)) p 1 := by
  unfold V
  simp only [hostOps0, hostOps0_1, hostOps0_2, hostOps0_3, hostOps0_4, List.flatten_cons, List.flatten_nil, List.append_nil, List.cons_append, List.nil_append]
  after_results_simp
  pointwise
  exact pad_at (m ((c : Thread nD τ).loc main_arg0)) 1 p

theorem main_v10_at (c : Dev nD) (k : Fin 512) : V m c main_v10 (ix2 0 k) = m ((c : Thread nD τ).loc main_arg1) (ix2 k 0) := by
  unfold V
  simp only [hostOps0, hostOps0_1, hostOps0_2, hostOps0_3, hostOps0_4, List.flatten_cons, List.flatten_nil, List.append_nil, List.cons_append, List.nil_append]
  after_results_simp
  pointwise

theorem main_v13_at (c : Dev nD) (k : Fin 512) : V m c main_v13 (ix2 0 k) = m ((c : Thread nD τ).loc main_arg1) (ix2 k 1) := by
  unfold V
  simp only [hostOps0, hostOps0_1, hostOps0_2, hostOps0_3, hostOps0_4, List.flatten_cons, List.flatten_nil, List.append_nil, List.cons_append, List.nil_append]
  after_results_simp
  pointwise

end Cert.NearestIdeal.Near

end
-- ==== Proof.NearRef.lean ====
/- What the reference returns for the nearest centre. -/
module

public import proofs.«01_k».proof.Proof.Gen.NearestRefIdeal
public import proofs.«01_k».proof.Proof.Near
public import Idealize.ShloMosaic.Lib.StableHlo.Run
public import Idealize.ShloMosaic.Lib.Pointwise

@[expose] public section

noncomputable section

/-! What the reference returns for the nearest centre: its run, operation by operation, and the value of its result. -/

namespace Cert.NearestRefIdeal.Near

open Cert.NearestRefIdeal Cert.NearestRefIdeal.Gen Cert.Near Idealize.ShloMosaic Idealize.ShloMosaic.TcCoe Idealize.SL.Sem Idealize.ShloMosaic.StableHlo

section Run

variable {F : FTy → Type} [FloatOps F]

/-- The reference's operations, in order. -/
abbrev ops : List (HloOp τ sig (Elt F)) :=
  [ nullary main_c (constantI S_ 32 0#32),
    TRef.unary (.of main_c : TRef sig ⟨S_, .i32⟩) main_call0.v0 (sitofp .f32),
    TRef.binary (.of main_arg0 : TRef sig ⟨S20000x2, .f32⟩) main_call0.v0 main_call0.v1 (fun x v => pad S20480x2 ![0, 0] ![480, 0] ![0, 0] x v pads_S20000x2_S20480x2_04800_000 h_S_),
    unary main_v0 main_v1 (broadcastInDim S20480x1x2 ![0, 2] bcast_S20480x2_S20480x1x2_0_2),
    unary main_arg1 main_v2 (broadcastInDim S1x512x2 ![1, 2] bcast_S512x2_S1x512x2_1_2),
    unary main_v1 main_v3 (broadcastInDim S20480x512x2 ![0, 1, 2] bcast_S20480x1x2_S20480x512x2_0_1_2),
    unary main_v2 main_v4 (broadcastInDim S20480x512x2 ![0, 1, 2] bcast_S1x512x2_S20480x512x2_0_1_2),
    binary main_v3 main_v4 main_v5 subf,
    binary main_v5 main_v5 main_v6 mulf,
    nullary main_cst (constant S_ .f32 0x00000000#32),
    binary main_v6 main_cst main_v7 (fun x v => Host.reduceAdd x v reducesTo_S20480x512x2_S20480x512_d2 h_S_),
    TRef.nullary main_call1.v0 (iotaInDim S20480x512 32 1),
    TRef.nullary main_call1.cst (constant S_ .f32 0x7F800000#32),
    TRef.nullary main_call1.c (constantI S_ 32 0#32),
    TRef.quaternary (.of main_v7 : TRef sig ⟨S20480x512, .f32⟩) main_call1.v0 main_call1.cst main_call1.c main_call1.v1_0
      (fun x y u v j => (Host.argReduce reducer_argmin_f32_i32 x y u v reducesTo_S20480x512_S20480_d1 h_S_ j).1),
    TRef.quaternary (.of main_v7 : TRef sig ⟨S20480x512, .f32⟩) main_call1.v0 main_call1.cst main_call1.c main_call1.v1_1
      (fun x y u v j => (Host.argReduce reducer_argmin_f32_i32 x y u v reducesTo_S20480x512_S20480_d1 h_S_ j).2),
    unary main_v8 main_v9 (broadcastInDim S20480x1 ![0] bcast_S20480_S20480x1_0) ]

theorem main_eq (c : Dev nD) : main (F := F) c = seq ops := by
  simp only [main, fn_pad.body, fn_argmin.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., unary_bufs_sub .., unary_bufs_sub .., unary_bufs_sub .., unary_bufs_sub ..,
    binary_bufs_sub .., binary_bufs_sub .., nullary_bufs_sub .., binary_bufs_sub .., nullary_bufs_sub .., nullary_bufs_sub ..,
    nullary_bufs_sub .., quaternary_bufs_sub .., quaternary_bufs_sub .., unary_bufs_sub ..⟩

/-- The points, with rows of zeros after them. -/
def padded (x : (⟨S20000x2, .f32⟩ : BufTy).Contents (Elt F)) : (⟨S20480x2, .f32⟩ : BufTy).Contents (Elt F) :=
  pad S20480x2 ![0, 0] ![480, 0] ![0, 0] x (sitofp .f32 (constantI S_ 32 0#32) : (⟨S_, .f32⟩ : BufTy).Contents (Elt F)) pads_S20000x2_S20480x2_04800_000 h_S_

/-- The differences of each point and each centre. -/
def apart (x : (⟨S20000x2, .f32⟩ : BufTy).Contents (Elt F)) (y : (⟨S512x2, .f32⟩ : BufTy).Contents (Elt F)) :
    (⟨S20480x512x2, .f32⟩ : BufTy).Contents (Elt F) :=
  subf (broadcastInDim S20480x512x2 ![0, 1, 2] bcast_S20480x1x2_S20480x512x2_0_1_2
      (broadcastInDim S20480x1x2 ![0, 2] bcast_S20480x2_S20480x1x2_0_2 (padded x)))
    (broadcastInDim S20480x512x2 ![0, 1, 2] bcast_S1x512x2_S20480x512x2_0_1_2 (broadcastInDim S1x512x2 ![1, 2] bcast_S512x2_S1x512x2_1_2 y))

/-- The squared distances. -/
def dist (x : (⟨S20000x2, .f32⟩ : BufTy).Contents (Elt F)) (y : (⟨S512x2, .f32⟩ : BufTy).Contents (Elt F)) :
    (⟨S20480x512, .f32⟩ : BufTy).Contents (Elt F) :=
  Host.reduceAdd (mulf (apart x y) (apart x y)) (constant S_ .f32 0x00000000#32) reducesTo_S20480x512x2_S20480x512_d2 h_S_

/-- The second half of what a fold over pairs returns, at every place of the result. -/
def seconds {F : FTy → Type} [FloatOps F] {s t u : Shape} {axes : List (Fin s.rank)} (f : F .f32 × BitVec 32 → F .f32 × BitVec 32 → F .f32 × BitVec 32)
    (x : FVec F s .f32) (y : s.Idx → BitVec 32) (ix : u.Idx → F .f32) (iy : u.Idx → BitVec 32) (h : s.ReducesTo axes t) (hu : 0 < u.numel) : t.Idx → BitVec 32 :=
  fun j => (Host.argReduce f x y ix iy h hu j).2

/-- At a row, the place the fold over the row returns. -/
def places (d : (⟨S20480x512, .f32⟩ : BufTy).Contents (Elt F)) : (⟨S20480, .i32⟩ : BufTy).Contents (Elt F) :=
  seconds reducer_argmin_f32_i32 d (iotaInDim S20480x512 32 1) (constant S_ .f32 0x7F800000#32) (constantI S_ 32 0#32) reducesTo_S20480x512_S20480_d1 h_S_

/-- The result. -/
def out (x : (⟨S20000x2, .f32⟩ : BufTy).Contents (Elt F)) (y : (⟨S512x2, .f32⟩ : BufTy).Contents (Elt F)) :
    (⟨S20480x1, .i32⟩ : BufTy).Contents (Elt F) :=
  broadcastInDim S20480x1 ![0] bcast_S20480_S20480x1_0 (places (dist x y))

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v9) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v9).trans (by after_results_simp <;> rfl),
      (h c main_arg0).trans (by after_results_simp <;> rfl),
      (h c main_arg1).trans (by after_results_simp <;> rfl)⟩)
    (run_seq scopedRefs_eq scopedSems_eq defs main (fun _ => ops) main_eq (fun _ => ops_sub) m ρ)

end Run

/-- A coordinate of a point, and zero after the last point. -/
def coord (x : S20000x2.Idx → EReal) (p : Fin 20480) (a : Fin 2) : EReal := if h : p.val < 20000 then x (ix2 ⟨p.val, h⟩ a) else 0

theorem coord_point (x : S20000x2.Idx → EReal) (p : Fin 20480) (a : Fin 2) (h : p.val < 20000) : coord x p a = x (ix2 ⟨p.val, h⟩ a) := dif_pos h

theorem coord_after (x : S20000x2.Idx → EReal) (p : Fin 20480) (a : Fin 2) (h : ¬ p.val < 20000) : coord x p a = 0 := dif_neg h

theorem word_zero : (FloatOps.sitofp (F := Ideal) FTy.f32 0#32 : EReal) = 0 := by
  show (((0#32).toInt : ℝ) : EReal) = 0
  simp

theorem padded_at (x : (⟨S20000x2, .f32⟩ : BufTy).Contents (Elt Ideal)) (p : Fin 20480) (a : Fin 2) : padded (F := Ideal) x (ix2 p a) = coord x p a := by
  pointwise [padded]
  by_cases h : p.val < 20000
  · exact (dif_pos h).trans (coord_point x p a h).symm
  · exact (dif_neg h).trans (word_zero.trans (coord_after x p a h).symm)

theorem dist_at (x : (⟨S20000x2, .f32⟩ : BufTy).Contents (Elt Ideal)) (y : (⟨S512x2, .f32⟩ : BufTy).Contents (Elt Ideal)) (p : Fin 20480) (k : Fin 512) :
    dist (F := Ideal) x y (ix2 p k) = (coord x p 0 - y (ix2 k 0)) * (coord x p 0 - y (ix2 k 0)) + (coord x p 1 - y (ix2 k 1)) * (coord x p 1 - y (ix2 k 1)) := by
  pointwise [dist, apart]
  simp only [Fin.sum_univ_two, padded_at]

theorem reducer_eq (a b : EReal × BitVec 32) : reducer_argmin_f32_i32 (F := Ideal) a b = pick a b := by
  obtain ⟨a, i⟩ := a
  obtain ⟨b, j⟩ := b
  unfold reducer_argmin_f32_i32 pick
  have hs : ∀ x y : BitVec 32, IntOp.cmpi .slt x y = BitVec.ofBool (decide (x.toInt < y.toInt)) := fun x y => rfl
  simp only [Ideal.cmpf_def, Ideal.cmp, hs, ne_eq, not_true_eq_false]
  by_cases h : a < b
  · simp [h, h.ne, Scalar.select, IntOp.ori, IntOp.andi]
  · by_cases k : a = b
    · subst k
      by_cases l : i.toInt < j.toInt <;> simp [l, Scalar.select, IntOp.ori, IntOp.andi]
    · simp [h, k, Scalar.select, IntOp.ori, IntOp.andi]

theorem drop_val (i : S20480x512.Idx) : (reducesTo_S20480x512_S20480_d1.drop i 0 : Nat) = i 0 :=
  Shape.ReducesTo.drop_apply_val_of_eq reducesTo_S20480x512_S20480_d1 i 0 0

/-- The pairs of a row are its squared distances and their places. -/
theorem row_mem (d : S20480x512.Idx → EReal) (p : Fin 20480) (q : EReal × BitVec 32) :
    q ∈ Host.argReduceFiber d (iotaInDim S20480x512 32 1) reducesTo_S20480x512_S20480_d1 (ix1 p) ↔ ∃ k : Fin 512, q = (d (ix2 p k), BitVec.ofNat 32 k.val) := by
  unfold Host.argReduceFiber
  rw [List.mem_map]
  constructor
  · rintro ⟨n, hn, rfl⟩
    have hd := of_decide_eq_true (List.mem_filter.1 hn).2
    generalize S20480x512.rowMajor.symm n = i at hd ⊢
    obtain ⟨r, k, rfl⟩ : ∃ (r : Fin 20480) (k : Fin 512), i = ix2 r k := ⟨i 0, i 1, by funext a; match a with | ⟨0, _⟩ => rfl | ⟨1, _⟩ => rfl⟩
    have hr := congrArg Fin.val (congrFun hd 0)
    obtain rfl : r = p := by
      rw [drop_val] at hr
      exact Fin.ext hr
    exact ⟨k, rfl⟩
  · rintro ⟨k, rfl⟩
    refine ⟨S20480x512.rowMajor (ix2 p k), List.mem_filter.2 ⟨List.mem_finRange _, decide_eq_true ?_⟩, ?_⟩
    · rw [Equiv.symm_apply_apply]
      funext b
      match b with
      | ⟨0, _⟩ =>
        apply Fin.ext
        exact drop_val (ix2 p k)
    · rw [Equiv.symm_apply_apply]
      rfl

theorem top_word : Ideal.ofBits .f32 0x7F800000#32 = ⊤ := by
  simp [Ideal.ofBits, Ideal.ieee]

/-- A fold by `pick` over pairs that are 512 values and their places returns the least place of the least value. -/
theorem fold_at {s t u : Shape} {axes : List (Fin s.rank)} (f : EReal × BitVec 32 → EReal × BitVec 32 → EReal × BitVec 32) (hf : ∀ a b, f a b = pick a b)
    (x : FVec Ideal s .f32) (y : s.Idx → BitVec 32) (ix : u.Idx → EReal) (iy : u.Idx → BitVec 32) (h : s.ReducesTo axes t) (hu : 0 < u.numel)
    (hx : ix (Shape.Idx.first hu) = ⊤) (hy : iy (Shape.Idx.first hu) = 0#32) (j : t.Idx) (d : Fin 512 → EReal)
    (hL : ∀ q, q ∈ Host.argReduceFiber x y h j ↔ ∃ k : Fin 512, q = (d k, BitVec.ofNat 32 k.val)) :
    seconds (F := Ideal) f x y ix iy h hu j = nearest d := by
  obtain rfl : f = pick := funext fun a => funext fun b => hf a b
  unfold seconds
  rw [Ideal.argReduce_eq_reduce2, Host.reduce2_eq_foldl_fiber, hx, hy]
  exact fold_nearest d _ hL

/-- At a row, the least place of the row's least value. -/
theorem places_at (d : (⟨S20480x512, .f32⟩ : BufTy).Contents (Elt Ideal)) (p : Fin 20480) :
    places (F := Ideal) d (ix1 p) = nearest fun k => d (ix2 p k) :=
  fold_at (reducer_argmin_f32_i32 (F := Ideal)) reducer_eq d (iotaInDim S20480x512 32 1) (constant (F := Ideal) S_ .f32 0x7F800000#32) (constantI S_ 32 0#32)
    reducesTo_S20480x512_S20480_d1 h_S_ top_word rfl (ix1 p) (fun k => d (ix2 p k)) (row_mem d p)

/-- A vector made a column, at a row. -/
theorem column {α : Type} (v : S20480.Idx → α) (p : Fin 20480) : broadcastInDim S20480x1 ![0] bcast_S20480_S20480x1_0 v (ix2 p 0) = v (ix1 p) := by
  pointwise

/-- The result at a row: the least place of its least squared distance. -/
theorem out_at (x : (⟨S20000x2, .f32⟩ : BufTy).Contents (Elt Ideal)) (y : (⟨S512x2, .f32⟩ : BufTy).Contents (Elt Ideal)) (p : Fin 20480) :
    out (F := Ideal) x y (ix2 p 0) = nearest fun k =>
      (coord x p 0 - y (ix2 k 0)) * (coord x p 0 - y (ix2 k 0)) + (coord x p 1 - y (ix2 k 1)) * (coord x p 1 - y (ix2 k 1)) :=
  (column _ p).trans ((places_at _ p).trans (congrArg nearest (funext fun k => dist_at x y p k)))

end Cert.NearestRefIdeal.Near

end
-- ==== Proof.NearEqual.lean ====
/- The nearest centre: what the kernel's run leaves is what the reference's run leaves. -/
module

public import proofs.«01_k».proof.Defs
public import proofs.«01_k».proof.Proof.NearRun
public import proofs.«01_k».proof.Proof.NearRef
public import proofs.«01_k».proof.Proof.Gen.Nearest.Frame

@[expose] public section

set_option maxRecDepth 16384

noncomputable section

/-! The nearest centre: what the kernel's run leaves is what the reference's run leaves. -/

namespace Cert.NearestIdeal.Near

open Cert.NearestIdeal Cert.NearestIdeal.Gen Cert.Near Idealize.ShloMosaic Idealize.ShloMosaic.TcCoe Idealize.SL.Sem

variable (m : (ℓ : Loc nD τ sig) → Buf (Elt Ideal) ℓ)

/-- The squared distance the kernel computes, from the launch arguments. -/
theorem dist_eq (c : Dev nD) (p : Fin 20480) (k : Fin 512) :
    dist (V m c main_v3) (V m c main_v7) (V m c main_v10) (V m c main_v13) p k
      = (coord (m ((c : Thread nD τ).loc main_arg0)) p 0 - m ((c : Thread nD τ).loc main_arg1) (ix2 k 0)) * (coord (m ((c : Thread nD τ).loc main_arg0)) p 0 - m ((c : Thread nD τ).loc main_arg1) (ix2 k 0))
        + (coord (m ((c : Thread nD τ).loc main_arg0)) p 1 - m ((c : Thread nD τ).loc main_arg1) (ix2 k 1)) * (coord (m ((c : Thread nD τ).loc main_arg0)) p 1 - m ((c : Thread nD τ).loc main_arg1) (ix2 k 1)) := by
  unfold dist
  rw [main_v3_at, main_v7_at, main_v10_at, main_v13_at]

/-- The array the kernel leaves is the reference's array of the arguments. -/
theorem final_eq (c : Dev nD) : (dats m 0 c).arrAt 4 cfg0.N
    = Cert.NearestRefIdeal.Near.out (F := Ideal) (m ((c : Thread nD τ).loc main_arg0)) (m ((c : Thread nD τ).loc main_arg1)) := by
  refine (final m c).trans (funext fun i => ?_)
  obtain ⟨p, q, rfl⟩ : ∃ (p : Fin 20480) (q : Fin 1), i = ix2 p q := ⟨i 0, i 1, by funext a; match a with | ⟨0, _⟩ => rfl | ⟨1, _⟩ => rfl⟩
  obtain rfl : q = 0 := Subsingleton.elim _ _
  exact (congrArg nearest (funext fun k => dist_eq m c p k)).trans (Cert.NearestRefIdeal.Near.out_at _ _ p).symm

end Cert.NearestIdeal.Near

namespace Cert.Near

open Idealize.ShloMosaic Idealize.ShloMosaic.TcCoe Idealize.SL.Sem

/-- The nearest-centre kernel leaves its arguments and its semaphores as they were, over words. -/
theorem frame_kernel : @Cert.quiescent_Nearest Cert.Nearest.Gen.facts := fun m ρ _ =>
  Cert.Nearest.Gen.frame m ρ

/-- The same over the extended reals. -/
theorem frame_ideal : @Cert.quiescent_NearestIdeal Cert.NearestIdeal.Gen.facts := fun m ρ _ =>
  Cert.NearestIdeal.Gen.frame m ρ

/-- The nearest-centre reference leaves its arguments as they were. -/
theorem frame_reference : @Cert.quiescent_NearestRefIdeal Cert.NearestRefIdeal.Gen.facts := fun m ρ _ =>
  (θ_run Cert.NearestRefIdeal.defs _ _).mono (fun r h => ⟨fun c => (h c).2, Idealize.ShloMosaic.sem_eq_zero_of_no_sems (by decide) r.2⟩)
    (Cert.NearestRefIdeal.Near.run (F := Ideal) m ρ)

/-- Over the extended reals the nearest-centre kernel returns what its reference returns. -/
theorem equal : @Cert.algebraic_NearestIdeal_NearestRefIdeal Cert.NearestIdeal.Gen.facts Cert.NearestRefIdeal.Gen.facts := by
  intro m g m' g' _ hargs
  refine ⟨fun c => Cert.NearestRefIdeal.Near.out (F := Ideal) (m ((c.tc : Thread Cert.NearestIdeal.nD Cert.NearestIdeal.τ).loc Cert.NearestIdeal.main_arg0))
    (m ((c.tc : Thread Cert.NearestIdeal.nD Cert.NearestIdeal.τ).loc Cert.NearestIdeal.main_arg1)), ?_, ?_⟩
  · exact (θ_run Cert.NearestIdeal.defs _ _).mono (fun r h c => ⟨(h c).1.trans (Cert.NearestIdeal.Near.final_eq m c), (h c).2⟩)
      (Cert.NearestIdeal.Value.run_blocks m g)
  · refine (θ_run Cert.NearestRefIdeal.defs _ _).mono (fun r h c => ⟨(h c).1.trans ?_, (h c).2⟩) (Cert.NearestRefIdeal.Near.run (F := Ideal) m' g')
    obtain ⟨h0, h1⟩ := hargs c
    exact congrArg₂ (Cert.NearestRefIdeal.Near.out (F := Ideal)) h0 h1

end Cert.Near

end
-- ==== Proof.SampRun.lean ====
module

public import proofs.«01_k».proof.Proof.Gen.SampleIdeal.Launch
public import proofs.«01_k».proof.Proof.Gen.SampleIdeal.Skeleton
public import proofs.«01_k».proof.Proof.Gen.SampleIdeal.Points
public import Idealize.ShloMosaic.Lib.Pipeline.FrameBody
public import Idealize.ShloMosaic.Lib.Claim
public import Idealize.ShloMosaic.Lib.Tactic
public import Idealize.ShloMosaic.Lib.WordCmp
public import Idealize.ShloMosaic.Lib.WritesUnit
public import Idealize.ShloMosaic.Lib.VecWindow

@[expose] public section

noncomputable section

/-! The run of farthest point sampling's kernel, from what one trip of its loop does. -/

namespace Cert.SampleIdeal.Far

open Cert.SampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Trip

variable (c : Dev nD)
  (arg0 : Memref sig .tc .smem S1 .i32) (harg0 : arg0.IsWhole)
  (arg1 : Memref sig .tc .smem S20480 .f32) (harg1 : arg1.IsWhole)
  (arg2 : Memref sig .tc .smem S20480 .f32) (harg2 : arg2.IsWhole)
  (arg3 : Memref sig .tc .vmem S160x128 .f32) (harg3 : arg3.IsWhole)
  (arg4 : Memref sig .tc .vmem S160x128 .f32) (harg4 : arg4.IsWhole)
  (arg5 : Memref sig .tc .smem S512x2 .f32) (harg5 : arg5.IsWhole)
  (arg6 : Memref sig .tc .vmem S160x128 .f32) (harg6 : arg6.IsWhole)

abbrev whole : Rect S160x128 := Rect.unit (s := S160x128) ![0, 0] S160x128.size inb_S160x128_S160x128_0_0

/-- The point chosen from the distances kept and the centroid chosen before. -/
def pick (v0 v2 : Vec F S160x128 .f32) (a : Elt F .f32 × Elt F .f32) (D : Vec F S160x128 .f32) : BitVec 32 :=
  extractAt ![0, 0, 0] (k0_pay4 v0 v2 a.1 a.2 D) inpos_S1x1x1_p0_0_0

/-- A place among the padded points, the last of them for a number past them all. -/
def place (n : ℕ) : S20480.Idx := fun a => ⟨min n 20479, by match a with | ⟨0, _⟩ => show min n 20479 < 20480; omega⟩

/-- A coordinate of the point a word names. -/
def coord (X : Vec F S20480 .f32) (w : BitVec 32) : Elt F .f32 := X (place w.toNat)

/-- What a trip carries: the centroid chosen last and the squared distances kept. -/
abbrev St (F : FTy → Type) := (Elt F .f32 × Elt F .f32) × Vec F S160x128 .f32

/-- One trip. -/
def next (X1 X2 : Vec F S20480 .f32) (v0 v2 : Vec F S160x128 .f32) (s : St F) : St F :=
  ((coord X1 (pick v0 v2 s.1 s.2), coord X2 (pick v0 v2 s.1 s.2)), k0_pay5 v0 v2 s.1.1 s.1.2 s.2)

/-- What the loop carries before trip `k`. -/
def state (w : BitVec 32) (X1 X2 : Vec F S20480 .f32) (v0 v2 : Vec F S160x128 .f32) : ℕ → St F
  | 0 => ((coord X1 w, coord X2 w), k0_pay2)
  | k + 1 => next X1 X2 v0 v2 (state w X1 X2 v0 v2 k)

theorem state_succ (w : BitVec 32) (X1 X2 : Vec F S20480 .f32) (v0 v2 : Vec F S160x128 .f32) (n : ℕ) :
    state w X1 X2 v0 v2 (n + 1) = next X1 X2 v0 v2 (state w X1 X2 v0 v2 n) := rfl

theorem next_x (X1 X2 : Vec F S20480 .f32) (v0 v2 : Vec F S160x128 .f32) (s : St F) : (next X1 X2 v0 v2 s).1.1 = coord X1 (pick v0 v2 s.1 s.2) := by
  rw [next]
theorem next_y (X1 X2 : Vec F S20480 .f32) (v0 v2 : Vec F S160x128 .f32) (s : St F) : (next X1 X2 v0 v2 s).1.2 = coord X2 (pick v0 v2 s.1 s.2) := by
  rw [next]
theorem next_dist (X1 X2 : Vec F S20480 .f32) (v0 v2 : Vec F S160x128 .f32) (s : St F) : (next X1 X2 v0 v2 s).2 = k0_pay5 v0 v2 s.1.1 s.1.2 s.2 := by
  rw [next]

/-- A buffer of which something is known, held whole. -/
def known {sp : Space} {s : Shape} {e : EltTy} (c : Dev nD) (m : Memref sig .tc sp s e) (p : Vec F s e → Prop) : sProp 𝕄 :=
  iprop(∃ f, ⌜p (m.view.read (Elt F) f)⌝ ∗ m.view.loc (c : Thread nD τ) ↦[m.view.set]{fullShare} f)

/-- The centroids' rows up to a number are those of the trips. -/
abbrev rows (A : ℕ → Elt F .f32 × Elt F .f32) (n : ℕ) (g : Vec F S512x2 .f32) : Prop :=
  ∀ y : S512x2.Idx, (y 0).val < n → g y = if (y 1).val = 0 then (A (y 0).val).1 else (A (y 0).val).2

/-- The centroids of the trips. -/
def cents (A : ℕ → Elt F .f32 × Elt F .f32) : Vec F S512x2 .f32 := fun y => if (y 1).val = 0 then (A (y 0).val).1 else (A (y 0).val).2

theorem rows_step (A : ℕ → Elt F .f32 × Elt F .f32) (n : ℕ) (f : arg5.view.ty.Contents (Elt F)) {o3 o4 : Fin 2 → ℕ} (h3 h4)
    (e3 : o3 = ![n, 0]) (e4 : o4 = ![n, 1]) (h : rows A n (arg5.view.read (Elt F) f)) (a b : Elt F .f32) (ha : a = (A n).1) (hb : b = (A n).2) :
    rows A (n + 1) (arg5.view.read (Elt F) (arg5.view.writes (Elt F) f
      [⟨Rect.unit (s := S512x2) o4 S1x1.size h4, fun _ => b⟩, ⟨Rect.unit (s := S512x2) o3 S1x1.size h3, fun _ => a⟩])) := by
  intro y hy
  subst ha hb
  have hy1 : (y 1).val < 2 := (y 1).isLt
  rw [View.read_writes_cons_unit _ _ _ _ _ _ e4]
  split
  · rename_i h
    have h0 := h 0; have h1 := h 1
    simp only [Matrix.cons_val_zero, Matrix.cons_val_one] at h0 h1
    have e0 : (y 0).val = n := by have : S1x1.size 0 = 1 := rfl; omega
    have e1 : (y 1).val = 1 := by omega
    rw [e0, if_neg (by omega)]
  · rename_i hn
    rw [View.read_writes_cons_unit _ _ _ _ _ _ e3]
    split
    · rename_i h
      have h0 := h 0; have h1 := h 1
      simp only [Matrix.cons_val_zero, Matrix.cons_val_one] at h0 h1
      have e0 : (y 0).val = n := by have : S1x1.size 0 = 1 := rfl; omega
      have e1 : (y 1).val = 0 := by have : S1x1.size 1 = 1 := rfl; omega
      rw [e0, if_pos e1]
    · rename_i hm
      refine h y ?_
      by_contra hc
      have e0 : (y 0).val = n := by omega
      by_cases e1 : (y 1).val = 0
      · exact hm fun a => match a with
          | ⟨0, _⟩ => by show n ≤ (y 0).val ∧ (y 0).val < n + 1; omega
          | ⟨1, _⟩ => by show 0 ≤ (y 1).val ∧ (y 1).val < 0 + 1; omega
      · exact hn fun a => match a with
          | ⟨0, _⟩ => by show n ≤ (y 0).val ∧ (y 0).val < n + 1; omega
          | ⟨1, _⟩ => by show 1 ≤ (y 1).val ∧ (y 1).val < 1 + 1; omega

/-- A word read from a coordinate's buffer. -/
theorem coord_eq (m : Memref sig .tc .smem S20480 .f32) (f : m.view.ty.Contents (Elt F)) (w : BitVec 32) {o : Fin 1 → ℕ} (eo : o = k0_off2 w) (h)
    (x : (Rect.unit (s := S20480) o S1.size h).shape.Idx) :
    m.view.readAt (Elt F) (Rect.unit (s := S20480) o S1.size h).toLoadRect f x = coord (m.view.read (Elt F) f) w := by
  subst eo
  refine congrArg (m.view.read (Elt F) f) (funext fun a => match a with | ⟨0, _⟩ => Fin.ext ?_)
  have h0 : w.toNat + 1 ≤ 20480 := h 0
  have hx : (x 0).val < 1 := (x 0).isLt
  show w.toNat + 1 * (x 0).val = min w.toNat 20479
  omega

theorem coord_eq0 (m : Memref sig .tc .smem S20480 .f32) (f : m.view.ty.Contents (Elt F)) (w : BitVec 32) {o : Fin 1 → ℕ} (eo : o = k0_off1 w) (h)
    (x : (Rect.unit (s := S20480) o S1.size h).shape.Idx) :
    m.view.readAt (Elt F) (Rect.unit (s := S20480) o S1.size h).toLoadRect f x = coord (m.view.read (Elt F) f) w :=
  coord_eq m f w eo h x

/-- What holds before trip `k`. -/
def inv (w : BitVec 32) (X1 X2 : Vec F S20480 .f32) (v0 v2 : Vec F S160x128 .f32) (k : ℕ) (acc : Elt F .f32 × Elt F .f32) : sProp 𝕄 :=
  iprop(⌜acc = (state w X1 X2 v0 v2 k).1⌝ ∗ known c arg1 (· = X1) ∗ known c arg2 (· = X2)
    ∗ known c arg5 (rows (fun n => (state w X1 X2 v0 v2 n).1) (k + 1)) ∗ known c arg6 (· = (state w X1 X2 v0 v2 k).2))

theorem trip (w : BitVec 32) (X1 X2 : Vec F S20480 .f32) (v0 v2 : Vec F S160x128 .f32) (k : Fin k0_t1_loop.trips) (acc : Elt F .f32 × Elt F .f32)
    (hs : k0_chk2 (pick v0 v2 (state w X1 X2 v0 v2 k.val).1 (state w X1 X2 v0 v2 k.val).2)) :
    (inv c arg1 arg2 arg5 arg6 w X1 X2 v0 v2 k.val acc : sProp 𝕄)
      ⊢ wp frame (wpE (defs₀ (F := F)) Variants.none (c : Thread nD τ) none) Set.univ
        (k0_t1_body arg0 harg0 arg1 harg1 arg2 harg2 arg3 harg3 arg4 harg4 arg5 harg5 arg6 harg6 v0 v2 k acc)
        (inv c arg1 arg2 arg5 arg6 w X1 X2 v0 v2 (k.val + 1)) := by
  unfold k0_t1_body inv known
  iintro ⟨%ha, ⟨%f1, %h1, H1⟩, ⟨%f2, %h2, H2⟩, ⟨%f5, %h5, H5⟩, ⟨%f6, %h6, H6⟩⟩
  have h : k0_chk2 (extractAt ![0, 0, 0] (k0_pay4 v0 v2 acc.1 acc.2 (arg6.view.readAt (Elt F) whole.toLoadRect f6)) inpos_S1x1x1_p0_0_0) := by
    rw [View.readAt_full, h6, ha]; exact hs
  have ep : extractAt ![0, 0, 0] (k0_pay4 v0 v2 acc.1 acc.2 (arg6.view.readAt (Elt F) whole.toLoadRect f6)) inpos_S1x1x1_p0_0_0
      = pick v0 v2 (state w X1 X2 v0 v2 k.val).1 (state w X1 X2 v0 v2 k.val).2 := by
    rw [View.readAt_full, h6, ha]; rfl
  have es := state_succ w X1 X2 v0 v2 k.val
  have eA : (fun n => (state w X1 X2 v0 v2 n).1) (k.val + 1) = (next X1 X2 v0 v2 (state w X1 X2 v0 v2 k.val)).1 := congrArg Prod.fst es
  sl_exec
  sl_step
  generalize (fun n => (state w X1 X2 v0 v2 n).1) = A at eA h5 ⊢
  rw [es]
  generalize state w X1 X2 v0 v2 k.val = st at eA ha h6 ep ⊢
  isplitr
  · ipureintro; exact Prod.ext (((coord_eq arg1 f1 _ rfl _ _).trans (congrArg₂ coord h1 ep)).trans (next_x ..).symm) (((coord_eq arg2 f2 _ rfl _ _).trans (congrArg₂ coord h2 ep)).trans (next_y ..).symm)
  isplitl [H1]
  · iexists f1; isplitr; · ipureintro; exact h1
    iexact H1
  isplitl [H2]
  · iexists f2; isplitr; · ipureintro; exact h2
    iexact H2
  isplitl [H5]
  · iexists _; isplitr
    swap; · iexact H5
    ipureintro
    exact rows_step arg5 _ _ _ _ _ (k0_off3_eq k) (k0_off4_eq k) h5 _ _ (((coord_eq arg1 f1 _ rfl _ _).trans (congrArg₂ coord h1 ep)).trans ((congrArg Prod.fst eA).trans (next_x ..)).symm) (((coord_eq arg2 f2 _ rfl _ _).trans (congrArg₂ coord h2 ep)).trans ((congrArg Prod.snd eA).trans (next_y ..)).symm)
  iexists _; isplitr
  swap; · iexact H6
  ipureintro
  rw [View.read_writes_full, View.readAt_full, h6, ha, next_dist]

theorem trips_eq : k0_t1_loop.trips = 511 := by decide +kernel

set_option maxHeartbeats 1000000 in
/-- The kernel's body: the centroids' rows are those of the trips. -/
theorem sound_kernel (w : BitVec 32) (X0 : Vec F S1 .i32) (X1 X2 : Vec F S20480 .f32) (v0 v2 : Vec F S160x128 .f32)
    (hw : ∀ x, X0 x = w) (hc : k0_chk1 w)
    (hs : ∀ k < 511, k0_chk2 (pick v0 v2 (state w X1 X2 v0 v2 k).1 (state w X1 X2 v0 v2 k).2)) (K : PUnit → sProp 𝕄) :
    (iprop(owns (c : Thread nD τ) arg0 fullShare X0 ∗ owns (c : Thread nD τ) arg1 fullShare X1 ∗ owns (c : Thread nD τ) arg2 fullShare X2
        ∗ owns (c : Thread nD τ) arg3 fullShare v0 ∗ owns (c : Thread nD τ) arg4 fullShare v2 ∗ (∃ d, owns (c : Thread nD τ) arg5 fullShare d)
        ∗ (∃ d, owns (c : Thread nD τ) arg6 fullShare d)
        ∗ (iprop(owns (c : Thread nD τ) arg0 fullShare X0 ∗ owns (c : Thread nD τ) arg1 fullShare X1 ∗ owns (c : Thread nD τ) arg2 fullShare X2
            ∗ owns (c : Thread nD τ) arg3 fullShare v0 ∗ owns (c : Thread nD τ) arg4 fullShare v2
            ∗ owns (c : Thread nD τ) arg5 fullShare (cents fun n => (state w X1 X2 v0 v2 n).1) ∗ (∃ d, owns (c : Thread nD τ) arg6 fullShare d)) -∗ K ⟨⟩)) : sProp 𝕄)
      ⊢ wp frame (wpE (defs₀ (F := F)) Variants.none (c : Thread nD τ) none) Set.univ
        (cc0__fps_body arg0 harg0 arg1 harg1 arg2 harg2 arg3 harg3 arg4 harg4 arg5 harg5 arg6 harg6) K := by
  rw [cc0__fps_body_eq_skeleton]; unfold cc0__fps_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  have hx : ∀ x, arg0.view.readAt (Elt F) (Rect.unit (s := S1) ![0] S1.size inb_S1_S1_0).toLoadRect f0 x = w := fun x => by
    rw [View.readAt_full, hf0]; exact hw x
  have h : k0_chk1 (arg0.view.readAt (Elt F) (Rect.unit (s := S1) ![0] S1.size inb_S1_S1_0).toLoadRect f0 (Shape.Idx.first (numel1_S1.symm ▸ Nat.one_pos))) := by
    rw [hx]; exact hc
  sl_exec
  rw [View.readAt_full, View.readAt_full, hf3, hf4]
  iapply (Scf.wp_for_bind Idealize.ShloMosaic.frame (wpE (defs₀ (F := F)) Variants.none (c : Thread nD τ) none) Set.univ k0_t1_loop.lb k0_t1_loop.ub k0_t1_loop.st k0_t1_ok _ _
    (inv c arg1 arg2 arg5 arg6 w X1 X2 v0 v2) (fun k acc => trip c arg0 harg0 arg1 harg1 arg2 harg2 arg3 harg3 arg4 harg4 arg5 harg5 arg6 harg6 w X1 X2 v0 v2 k acc
      (hs k.val (Nat.lt_of_lt_of_eq k.isLt trips_eq)))) $$ [H1 H2 H5 H6]
  · unfold inv known
    isplitr
    · ipureintro
      exact Prod.ext ((coord_eq0 arg1 f1 _ rfl _ _).trans (congrArg₂ coord hf1 (hx _))) ((coord_eq0 arg2 f2 _ rfl _ _).trans (congrArg₂ coord hf2 (hx _)))
    isplitl [H1]
    · iexists f1; isplitr; · ipureintro; exact hf1
      iexact H1
    isplitl [H2]
    · iexists f2; isplitr; · ipureintro; exact hf2
      iexact H2
    isplitl [H5]
    · iexists _; isplitr
      swap; · iexact H5
      ipureintro
      exact rows_step arg5 (fun n => (state w X1 X2 v0 v2 n).1) 0 _ _ _ rfl rfl (fun _ h => absurd h (Nat.not_lt_zero _)) _ _
        ((coord_eq0 arg1 f1 _ rfl _ _).trans (congrArg₂ coord hf1 (hx _))) ((coord_eq0 arg2 f2 _ rfl _ _).trans (congrArg₂ coord hf2 (hx _)))
    iexists _; isplitr
    swap; · iexact H6
    ipureintro
    exact View.read_writes_full arg6.view _ _ _ []
  iintro %acc H
  ihave H' := (Entails.of_eq (congrArg (fun n => inv c arg1 arg2 arg5 arg6 w X1 X2 v0 v2 n acc) trips_eq)) $$ H
  unfold inv
  icases H' with ⟨-, H1, H2, H5, H6⟩
  obtain ⟨ax, ay⟩ := acc
  dsimp only
  sl_step
  iapply Hk
  isplitl [H0]
  · iexists f0; isplitr; · ipureintro; exact hf0
    iexact H0
  unfold known
  isplitl [H1]; · iexact H1
  isplitl [H2]; · iexact H2
  isplitl [H3]
  · iexists f3; isplitr; · ipureintro; exact hf3
    iexact H3
  isplitl [H4]
  · iexists f4; isplitr; · ipureintro; exact hf4
    iexact H4
  isplitl [H5]
  · icases H5 with ⟨%g, %hg, H5⟩
    iexists g; isplitr; · ipureintro; exact funext fun y => hg y (y 0).isLt
    iexact H5
  iexists _
  iexact H6

end Trip

end Cert.SampleIdeal.Far

end
-- ==== Proof.SampLaunch.lean ====
module

public import proofs.«01_k».proof.Proof.Gen.SampleIdeal.Frame
public import proofs.«01_k».proof.Proof.SampRun
public import Idealize.ShloMosaic.Lib.Pipeline.ValueKit

@[expose] public section

set_option maxRecDepth 16384

noncomputable section

/-! The launch of farthest point sampling: what its result array holds at the end, given that every index it reads by is in range. -/

namespace Cert.SampleIdeal.Far

open Cert.SampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the loop carries, from the arrays as the launch finds them. -/
def trace (c : Dev nD) (t : Fin cfg0.N) : ℕ → St F :=
  state 12644#32 (iblk m c 1 t) (iblk m c 2 t) (iblk m c 3 t) (iblk m c 4 t)

/-- The first index is the one the host writes, and every index chosen names a padded point. -/
def Safe : Prop :=
  ∀ (c : Dev nD) (t : Fin cfg0.N), (∀ x, iblk m c 0 t x = 12644#32)
    ∧ ∀ k < 511, k0_chk2 (pick (F := F) (iblk m c 3 t) (iblk m c 4 t) (trace m c t k).1 (trace m c t k).2)

/-- The arrays, what the body leaves in each window's buffer, and the scratch's, at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => cents fun n => (trace m c t n).1
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = cents fun n => (trace m c t n).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem scratch_out (c : Dev nD) : (Pipeline.ΦA spec0 c : sProp 𝕄)
    ⊢ iprop((∃ d, owns (c : Thread nD τ) (Memref.whole cc0_scratch0) fullShare d) ∗ ∃ r, prngReg c r) := by
  unfold Pipeline.ΦA
  rw [scopedRest0_eq]
  iintro ⟨⟨%f, H⟩, Hp⟩
  isplitl [H]
  · iexists f
    rw [owns_whole (c : Thread nD τ)]
    iexact H
  iexact Hp

theorem scratch_in (c : Dev nD) : iprop((∃ d, owns (c : Thread nD τ) (Memref.whole cc0_scratch0) fullShare d) ∗ ∃ r, prngReg c r)
    ⊢ (Pipeline.ΦA spec0 c : sProp 𝕄) := by
  unfold Pipeline.ΦA
  rw [scopedRest0_eq]
  iintro ⟨⟨%f, H⟩, Hp⟩
  isplitl [H]
  · iexists f
    rw [owns_whole (c : Thread nD τ)]
    exact Entails.rfl
  iexact Hp

theorem first_ok : k0_chk1 12644#32 := by decide

theorem sound_body (hs : Safe m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  ihave HΦ' := (scratch_out c) $$ HΦ
  icases HΦ' with ⟨H6, Hp⟩
  iapply (sound_kernel c _ _ _ _ _ _ _ _ _ _ _ _ _ _ 12644#32 (iblk m c 0 t) (iblk m c 1 t) (iblk m c 2 t) (iblk m c 3 t) (iblk m c 4 t) (hs c t).1 first_ok (hs c t).2 _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  iintro ⟨H0, H1, H2, H3, H4, H5, H6⟩
  isplitl [H6 Hp]
  · iapply (scratch_in c)
    isplitl [H6]; · iexact H6
    iexact Hp
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (hs : Safe m) (c : Dev nD) : BodyObligation (dats (F := F) m 0 c) (defs₀ (F := F)) Variants.none () Set.univ := fun t => by
  rw [bigSep_W0, bigSep_W0, defs₀_row]
  exact triple_restated (sound_body m hs c t) rfl .rfl fun _ => .rfl

set_option backward.isDefEq.respectTransparency.types false in
set_option maxHeartbeats 800000 in
theorem run (hs : Safe m) : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m hs c).loose) (hshare := fun c => (dats m 0 c).share_full fun _ => rfl)
    (howed := fun _ _ => rfl) (V := V m) (hmain := hmain m Variants.none) (hA := A_eq m) (hΦ := fun _ _ => rfl)

theorem index_5 : ∀ t : Fin cfg0.N, win0_5.index t = ![0, 0] := by decide +kernel

theorem final (c : Dev nD) : (dats m 0 c).arrAt 5 cfg0.N = cents fun n => (trace m c t0_0 n).1 := by
  refine (dats m 0 c).arrAt_eq_of_covers 5 _ (by decide +kernel) fun t hf y => ?_
  blk_simp
  rw [after0_5]
  obtain rfl : t = t0_0 := fin_N0 t
  have e : (win0_5.blk t0_0).view.emb y = y := by blk_ext [index_5 t0_0]
  rw [e]

/-- The run, with its result named. -/
theorem run_value (hs : Safe m) : θ_run defs (onTc (τ := τ) (main (F := F))) ⟨m, fun _ => 0, ρ⟩ fun r => (∀ c : Dev nD,
      r.2.mem ((c.tc : Thread nD τ).loc main_v11) = (cents fun n => (trace m c t0_0 n).1)
      ∧ r.2.mem ((c.tc : Thread nD τ).loc main_arg0) = m ((c.tc : Thread nD τ).loc main_arg0))
      ∧ r.2.sem = fun _ => 0 :=
  (θ_run defs _ _).mono (fun r h => ⟨fun c => ⟨((h.1 c).1 5).trans (final m c),
    ((h.1 c).2 main_arg0 (Pipeline.mem_restRefs_of main_arg0 (by decide) (by decide))).trans (V_main_arg0 m c)⟩, h.2⟩) (run m ρ hs)

end Cert.SampleIdeal.Far

end
-- ==== Proof.Samp.lean ====
/- Farthest point sampling, as plain mathematics. -/
module

public import proofs.«01_k».proof.Proof.Near

@[expose] public section

noncomputable section

/-! Farthest point sampling, as plain mathematics: the point farthest from those chosen, and the points chosen one after another. -/

namespace Cert.Far

open Idealize.ShloMosaic Cert.Near

/-- A place holds the greatest of the values, and no earlier one does. -/
def IsFar (d : Fin 20000 → EReal) (n : Fin 20000) : Prop := (∀ k, d k ≤ d n) ∧ ∀ k < n, d k < d n

theorem exists_far (d : Fin 20000 → EReal) : ∃ n, IsFar d n := by
  obtain ⟨n, hn⟩ := Finite.exists_max d
  obtain ⟨n, hn, hm⟩ := WellFounded.has_min (wellFounded_lt (α := Fin 20000)) {n | ∀ k, d k ≤ d n} ⟨n, hn⟩
  refine ⟨n, hn, fun k hk => lt_of_le_of_ne (hn k) fun he => hm k (fun j => ?_) hk⟩
  rw [he]
  exact hn j

/-- The first place of the greatest value. -/
def far (d : Fin 20000 → EReal) : Fin 20000 := Classical.choose (exists_far d)

theorem far_spec (d : Fin 20000 → EReal) : IsFar d (far d) := Classical.choose_spec (exists_far d)

theorem place_int (n : ℕ) (h : n < 20480) : (BitVec.ofNat 32 n).toInt = n := by
  rw [BitVec.toInt_eq_toNat_of_lt] <;> rw [BitVec.toNat_ofNat, Nat.mod_eq_of_lt (by omega)]
  omega

theorem place_nat (n : ℕ) (h : n < 20480) : (BitVec.ofNat 32 n).toNat = n := by
  rw [BitVec.toNat_ofNat, Nat.mod_eq_of_lt (by omega)]

/-- The number of a place in rows of 128. -/
abbrev number (x : Fin 160 × Fin 128) : ℕ := 128 * x.1.val + x.2.val

theorem number_lt (x : Fin 160 × Fin 128) : number x < 20480 := by
  have := x.1.isLt; have := x.2.isLt; unfold number; omega

/-- The kernel's way to that place: the least number of those that hold the greatest value, zeros standing after the last point. -/
theorem least_far (E : Fin 160 × Fin 128 → EReal) (d : Fin 20000 → EReal) (hE : ∀ x, (h : number x < 20000) → E x = d ⟨number x, h⟩)
    (h0 : ∀ x, ¬ number x < 20000 → E x = 0) (hd : ∀ k, 0 ≤ d k) :
    Finset.univ.fold IntOp.minsi (2147483647#32) (fun x => if E x = Finset.univ.fold max ⊥ E then BitVec.ofNat 32 (number x) else 20480#32)
      = BitVec.ofNat 32 (far d).val := by
  obtain ⟨hmax, hfirst⟩ := far_spec d
  generalize far d = n at hmax hfirst
  have hn := n.isLt
  obtain ⟨x0, hx0⟩ : ∃ x0 : Fin 160 × Fin 128, number x0 = n.val :=
    ⟨(⟨n.val / 128, by omega⟩, ⟨n.val % 128, by omega⟩), by unfold number; dsimp only; omega⟩
  have he0 : E x0 = d n := (hE x0 (hx0 ▸ hn)).trans (congrArg d (Fin.ext hx0))
  have hle : ∀ x, E x ≤ d n := fun x => by
    by_cases h : number x < 20000
    · rw [hE x h]; exact hmax _
    · rw [h0 x h]; exact hd n
  have hM : Finset.univ.fold max ⊥ E = d n :=
    le_antisymm (Finset.fold_max_le _ |>.2 ⟨bot_le, fun x _ => hle x⟩) (Finset.le_fold_max _ |>.2 (.inr ⟨x0, Finset.mem_univ x0, he0.ge⟩))
  rw [hM]
  have h1 := (least_le Finset.univ (2147483647#32) fun x => if E x = d n then BitVec.ofNat 32 (number x) else 20480#32).2 x0 (Finset.mem_univ x0)
  have h2 := least_mem Finset.univ (2147483647#32) fun x => if E x = d n then BitVec.ofNat 32 (number x) else 20480#32
  generalize (Finset.univ.fold IntOp.minsi (2147483647#32) fun x => if E x = d n then BitVec.ofNat 32 (number x) else 20480#32) = w at h1 h2
  rw [if_pos he0, place_int _ (number_lt x0), hx0] at h1
  rcases h2 with rfl | ⟨x, _, h2⟩
  · have : (2147483647#32).toInt = 2147483647 := by decide
    omega
  · by_cases hx : E x = d n
    · rw [if_pos hx] at h2
      subst h2
      rw [place_int _ (number_lt x)] at h1
      have hl : number x < 20000 := by omega
      have : n.val ≤ number x := not_lt.1 fun hlt => absurd ((hE x hl).symm.trans hx) (hfirst ⟨number x, hl⟩ (Fin.lt_def.2 hlt)).ne
      rw [show number x = n.val by omega]
    · rw [if_neg hx] at h2
      subst h2
      have : (20480#32).toInt = 20480 := by decide
      omega

/-- Of two pairs of a value and a place, the one of the greater value, or of the lesser place if the values are equal. -/
def better (a b : EReal × BitVec 32) : EReal × BitVec 32 := if b.1 < a.1 ∨ a.1 = b.1 ∧ a.2.toInt < b.2.toInt then a else b

/-- The pair with its value's sign changed. -/
def flip (a : EReal × BitVec 32) : EReal × BitVec 32 := (-a.1, a.2)

theorem flip_better (a b : EReal × BitVec 32) : flip (better a b) = pick (flip a) (flip b) := by
  unfold better pick flip
  simp only [EReal.neg_lt_neg_iff, neg_inj]
  split <;> rfl

theorem fold_flip (L : List (EReal × BitVec 32)) (a : EReal × BitVec 32) : flip (L.foldl better a) = (L.map flip).foldl pick (flip a) := by
  induction L generalizing a with
  | nil => rfl
  | cons b L ih => rw [List.foldl_cons, ih, flip_better]; rfl

/-- The reference's fold over the values and their places returns the first place of the greatest. -/
theorem fold_far (d : Fin 20000 → EReal) (L : List (EReal × BitVec 32))
    (hL : ∀ p, p ∈ L ↔ ∃ k : Fin 20000, p = (d k, BitVec.ofNat 32 k.val)) : (L.foldl better (⊥, 0#32)).2 = BitVec.ofNat 32 (far d).val := by
  obtain ⟨hmax, hfirst⟩ := far_spec d
  generalize far d = n at hmax hfirst
  have hn := n.isLt
  have hb := (fold_before (L.map flip) (flip (⊥, 0#32))).2
  have hm := fold_mem (L.map flip) (flip (⊥, 0#32))
  rw [← fold_flip] at hb hm
  generalize hr : L.foldl better (⊥, 0#32) = r at hb hm
  have hk := hb _ (List.mem_map_of_mem ((hL _).2 ⟨n, rfl⟩))
  unfold Before flip at hk
  simp only [EReal.neg_lt_neg_iff, neg_inj] at hk
  rw [place_int n.val (by omega)] at hk
  rcases hm with hm | hm
  · have e1 : r.1 = ⊥ := neg_inj.1 (congrArg Prod.fst hm)
    have e2 : r.2 = 0#32 := congrArg Prod.snd hm
    rw [e1, e2] at hk
    rcases hk with hk | ⟨hk, _⟩
    · exact absurd hk not_lt_bot
    · have : n.val = 0 := by
        by_contra h0
        have h := hfirst ⟨0, by omega⟩ (Fin.lt_def.2 (by dsimp only; omega))
        rw [← hk] at h
        exact not_lt_bot h
      rw [e2, this]
  · obtain ⟨q, hq, e⟩ := List.mem_map.1 hm
    obtain ⟨k, rfl⟩ := (hL _).1 hq
    have e1 : r.1 = d k := (neg_inj.1 (congrArg Prod.fst e)).symm
    have e2 : r.2 = BitVec.ofNat 32 k.val := (congrArg Prod.snd e).symm
    have hkl := k.isLt
    rw [e1, e2, place_int k.val (by omega)] at hk
    rcases hk with hk | ⟨hk, hl⟩
    · exact absurd (hmax k) (not_le.2 hk)
    · have : n ≤ k := not_lt.1 fun h => absurd hk (hfirst k h).ne
      rw [e2]
      congr 1
      have := Fin.le_def.1 this
      omega

/-! The square root, as the values have it. -/

theorem sqrt_zero : Ideal.sqrt 0 = 0 := by
  rw [← EReal.coe_zero, Ideal.sqrt_coe]; simp

theorem sqrt_nonneg (a : EReal) (h : 0 ≤ a) : 0 ≤ Ideal.sqrt a := by
  induction a with
  | bot => exact absurd h (by simp)
  | top => rw [Ideal.sqrt_top]; exact le_top
  | coe r =>
    rw [Ideal.sqrt_coe, if_neg (not_lt.2 (EReal.coe_nonneg.1 h))]
    exact EReal.coe_nonneg.2 (Real.sqrt_nonneg r)

theorem sqrt_mono (a b : EReal) (h : 0 ≤ a) (hab : a ≤ b) : Ideal.sqrt a ≤ Ideal.sqrt b := by
  induction b with
  | bot => exact absurd (h.trans hab) (by simp)
  | top => rw [Ideal.sqrt_top]; exact le_top
  | coe s =>
    induction a with
    | bot => exact absurd h (by simp)
    | top => exact absurd hab (by simp)
    | coe r =>
      have hr := EReal.coe_nonneg.1 h
      have hrs := EReal.coe_le_coe_iff.1 hab
      rw [Ideal.sqrt_coe, Ideal.sqrt_coe, if_neg (not_lt.2 hr), if_neg (not_lt.2 (hr.trans hrs))]
      exact EReal.coe_le_coe_iff.2 (Real.sqrt_le_sqrt hrs)

theorem sqrt_min (a b : EReal) (ha : 0 ≤ a) (hb : 0 ≤ b) : Ideal.sqrt (min a b) = min (Ideal.sqrt a) (Ideal.sqrt b) := by
  rcases le_total a b with h | h
  · rw [min_eq_left h, min_eq_left (sqrt_mono a b ha h)]
  · rw [min_eq_right h, min_eq_right (sqrt_mono b a hb h)]

/-- A square is not negative. -/
theorem square_nonneg (a : EReal) : 0 ≤ a * a := by
  rcases le_total 0 a with h | h
  · exact mul_nonneg h h
  · have h' : 0 ≤ -a := by rw [← neg_zero, EReal.neg_le_neg_iff]; exact h
    have := mul_nonneg h' h'
    rwa [neg_mul_neg] at this

/-- What is added to a squared distance. -/
def eps : EReal := Ideal.ofBits .f32 0x2B8CBCCC#32

theorem eps_nonneg : 0 ≤ eps := by
  unfold eps
  simp [Ideal.ofBits, Ideal.ieee]
  exact mul_nonneg (EReal.coe_nonneg.2 (by positivity)) (EReal.coe_nonneg.2 (by positivity))

/-- The squared distance of a point from another, and a little. -/
def away (x : Fin 20000 → Fin 2 → EReal) (a : Fin 2 → EReal) (p : Fin 20000) : EReal :=
  (x p 0 - a 0) * (x p 0 - a 0) + (x p 1 - a 1) * (x p 1 - a 1) + eps

theorem sum_nonneg (u v : EReal) : 0 ≤ u * u + v * v + eps := add_nonneg (add_nonneg (square_nonneg u) (square_nonneg v)) eps_nonneg

/-- The distances from the points chosen, the last one included. -/
def closer (x : Fin 20000 → Fin 2 → EReal) (s : Fin 20000 × (Fin 20000 → EReal)) (p : Fin 20000) : EReal :=
  min (s.2 p) (Ideal.sqrt (away x (x s.1) p))

/-- One more point chosen: the farthest, whose own distance becomes zero. -/
def step (x : Fin 20000 → Fin 2 → EReal) (s : Fin 20000 × (Fin 20000 → EReal)) : Fin 20000 × (Fin 20000 → EReal) :=
  (far (closer x s), fun p => if p = far (closer x s) then 0 else closer x s p)

/-- The point chosen at each turn, and the distances then kept. -/
def chosen (x : Fin 20000 → Fin 2 → EReal) : ℕ → Fin 20000 × (Fin 20000 → EReal)
  | 0 => (⟨12644, by decide⟩, fun _ => ⊤)
  | k + 1 => step x (chosen x k)

theorem chosen_succ (x : Fin 20000 → Fin 2 → EReal) (k : ℕ) : chosen x (k + 1) = step x (chosen x k) := rfl

end Cert.Far

end
-- ==== Proof.SampVal.lean ====
/- What farthest point sampling's kernel returns, as plain mathematics. -/
module

public import proofs.«01_k».proof.Proof.SampLaunch
public import proofs.«01_k».proof.Proof.Samp
public import Idealize.ShloMosaic.Lib.Pointwise

@[expose] public section

set_option maxRecDepth 16384

noncomputable section

/-! What farthest point sampling's kernel returns, as plain mathematics. -/

namespace Cert.SampleIdeal.Far

open Cert.SampleIdeal Cert.SampleIdeal.Gen Cert.Far
open Idealize.ShloMosaic Idealize.ShloMosaic.TcCoe Idealize.SL.Sem

theorem pay1_at (r : Fin 160) (q : Fin 128) : k0_pay1 (ix2 r q) = BitVec.ofNat 32 (number (r, q)) := by
  pointwise [k0_pay1]
  unfold IntOp.addi IntOp.muli number
  apply BitVec.eq_of_toNat_eq
  simp only [BitVec.toNat_add, BitVec.toNat_mul, BitVec.toNat_ofNat]
  omega

theorem top_word : Ideal.ofBits .f32 0x7F800000#32 = ⊤ := by
  simp [Ideal.ofBits, Ideal.ieee]

theorem bot_word : Ideal.ofBits .f32 0xFF800000#32 = ⊥ := by
  simp [Ideal.ofBits, Ideal.ieee]

theorem pay2_at (r : Fin 160) (q : Fin 128) : k0_pay2 (F := Ideal) (ix2 r q) = if number (r, q) < 20000 then ⊤ else 0 := by
  pointwise [k0_pay2]
  rw [pay1_at, top_word]
  have h1 := place_int _ (number_lt (r, q))
  have h2 : (20000#32).toInt = 20000 := by decide
  show (if BitVec.ofBool (decide ((BitVec.ofNat 32 (number (r, q))).toInt < (20000#32).toInt)) = 1#1 then (⊤ : EReal) else 0) = _
  rw [h1, h2]
  by_cases h : number (r, q) < 20000
  · rw [if_pos h, decide_eq_true (by omega)]; rfl
  · rw [if_neg h, decide_eq_false (by omega)]; rfl

theorem pay3_at (v0 v2 : Vec Ideal S160x128 .f32) (a b : EReal) (D : Vec Ideal S160x128 .f32) (r : Fin 160) (q : Fin 128) :
    k0_pay3 (F := Ideal) v0 v2 a b D (ix2 r q)
      = min (D (ix2 r q)) ((v0 (ix2 r q) - a) * (v0 (ix2 r q) - a) + (v2 (ix2 r q) - b) * (v2 (ix2 r q) - b) + eps) := by
  pointwise [k0_pay3]
  rfl

theorem pick_at (v0 v2 : Vec Ideal S160x128 .f32) (a : EReal × EReal) (D : Vec Ideal S160x128 .f32) :
    pick (F := Ideal) v0 v2 a D = Finset.univ.fold IntOp.minsi (2147483647#32) fun x : Fin 160 × Fin 128 =>
      if Ideal.sqrt (k0_pay3 (F := Ideal) v0 v2 a.1 a.2 D (ix2 x.1 x.2)) = Finset.univ.fold max ⊥ (fun x : Fin 160 × Fin 128 => Ideal.sqrt (k0_pay3 (F := Ideal) v0 v2 a.1 a.2 D (ix2 x.1 x.2)))
        then BitVec.ofNat 32 (number x) else 20480#32 := by
  unfold pick
  pointwise [k0_pay4]
  rw [bot_word]
  simp only [pay1_at]

theorem pay5_at (v0 v2 : Vec Ideal S160x128 .f32) (a : EReal × EReal) (D : Vec Ideal S160x128 .f32) (r : Fin 160) (q : Fin 128) (n : ℕ) (hn : n < 20480)
    (h : pick (F := Ideal) v0 v2 a D = BitVec.ofNat 32 n) :
    k0_pay5 (F := Ideal) v0 v2 a.1 a.2 D (ix2 r q) = if number (r, q) = n then 0 else k0_pay3 (F := Ideal) v0 v2 a.1 a.2 D (ix2 r q) := by
  have e : k0_pay4 (F := Ideal) v0 v2 a.1 a.2 D (ix3 0 0 0) = BitVec.ofNat 32 n := by
    rw [← h]
    unfold pick
    pointwise
  pointwise [k0_pay5]
  rw [e, pay1_at]
  show (if BitVec.ofBool (BitVec.ofNat 32 (number (r, q)) == BitVec.ofNat 32 n) = 1#1 then (0 : EReal) else _) = _
  by_cases hk : number (r, q) = n
  · rw [if_pos hk, hk, beq_self_eq_true]; rfl
  · have : (BitVec.ofNat 32 (number (r, q)) == BitVec.ofNat 32 n) = false := by
      rw [beq_eq_false_iff_ne]
      intro he
      have := congrArg BitVec.toNat he
      rw [place_nat _ (number_lt (r, q)), place_nat n hn] at this
      exact hk this
    rw [if_neg hk, this]; rfl

/-- What the kernel carries, against the points chosen and the distances kept. -/
structure Same (x : Fin 20000 → Fin 2 → EReal) (s : Fin 20000 × (Fin 20000 → EReal)) (t : St Ideal) : Prop where
  cx : t.1.1 = x s.1 0
  cy : t.1.2 = x s.1 1
  nonneg : ∀ r q, (0 : EReal) ≤ t.2 (ix2 r q)
  point : ∀ r q, (h : number (r, q) < 20000) → Ideal.sqrt (t.2 (ix2 r q)) = s.2 ⟨number (r, q), h⟩
  pad : ∀ r q, ¬ number (r, q) < 20000 → t.2 (ix2 r q) = (0 : EReal)

/-- The points, as the kernel has them. -/
structure Held (x : Fin 20000 → Fin 2 → EReal) (X1 X2 : Vec Ideal S20480 .f32) (v0 v2 : Vec Ideal S160x128 .f32) : Prop where
  x1 : ∀ n : Fin 20000, X1 (place n.val) = x n 0
  x2 : ∀ n : Fin 20000, X2 (place n.val) = x n 1
  v0 : ∀ r q, (h : number (r, q) < 20000) → v0 (ix2 r q) = x ⟨number (r, q), h⟩ 0
  v2 : ∀ r q, (h : number (r, q) < 20000) → v2 (ix2 r q) = x ⟨number (r, q), h⟩ 1

section Trip

variable {x : Fin 20000 → Fin 2 → EReal} {s : Fin 20000 × (Fin 20000 → EReal)} {t : St Ideal}
  {X1 X2 : Vec Ideal S20480 .f32} {v0 v2 : Vec Ideal S160x128 .f32} (H : Held x X1 X2 v0 v2) (S : Same x s t)

include S in
theorem new_nonneg (r : Fin 160) (q : Fin 128) : (0 : EReal) ≤ k0_pay3 (F := Ideal) v0 v2 t.1.1 t.1.2 t.2 (ix2 r q) := by
  rw [pay3_at]
  exact le_min (S.nonneg r q) (sum_nonneg _ _)

include S in
theorem new_pad (r : Fin 160) (q : Fin 128) (h : ¬ number (r, q) < 20000) : k0_pay3 (F := Ideal) v0 v2 t.1.1 t.1.2 t.2 (ix2 r q) = (0 : EReal) := by
  rw [pay3_at, S.pad r q h]
  exact min_eq_left (sum_nonneg _ _)

include H S in
theorem new_point (r : Fin 160) (q : Fin 128) (h : number (r, q) < 20000) :
    Ideal.sqrt (k0_pay3 (F := Ideal) v0 v2 t.1.1 t.1.2 t.2 (ix2 r q)) = closer x s ⟨number (r, q), h⟩ := by
  rw [pay3_at, sqrt_min _ _ (S.nonneg r q) (sum_nonneg _ _), S.point r q h, H.v0 r q h, H.v2 r q h, S.cx, S.cy]
  rfl

include H S in
theorem closer_nonneg (p : Fin 20000) : 0 ≤ closer x s p := by
  have hp := p.isLt
  have e : number (⟨p.val / 128, by omega⟩, ⟨p.val % 128, by omega⟩) = p.val := by unfold number; dsimp only; omega
  have := new_point H S ⟨p.val / 128, by omega⟩ ⟨p.val % 128, by omega⟩ (by rw [e]; exact hp)
  rw [show p = ⟨number (⟨p.val / 128, by omega⟩, ⟨p.val % 128, by omega⟩), by rw [e]; exact hp⟩ from Fin.ext e.symm, ← this]
  exact sqrt_nonneg _ (new_nonneg S _ _)

include H S in
theorem pick_far : pick (F := Ideal) v0 v2 t.1 t.2 = BitVec.ofNat 32 (far (closer x s)).val := by
  rw [pick_at]
  refine least_far (fun y => Ideal.sqrt (k0_pay3 (F := Ideal) v0 v2 t.1.1 t.1.2 t.2 (ix2 y.1 y.2))) (closer x s) (fun y h => new_point H S y.1 y.2 h) (fun y h => ?_) (closer_nonneg H S)
  rw [new_pad S y.1 y.2 h]
  exact sqrt_zero

include H S in
theorem same_step : Same x (step x s) (next X1 X2 v0 v2 t) := by
  have hp := pick_far H S
  have hn := (far (closer x s)).isLt
  have h5 := fun r q => pay5_at v0 v2 t.1 t.2 r q _ (by omega) hp
  refine ⟨?_, ?_, fun r q => ?_, fun r q h => ?_, fun r q h => ?_⟩
  · rw [next_x, hp]
    unfold coord
    rw [place_nat _ (by omega), H.x1]
    rfl
  · rw [next_y, hp]
    unfold coord
    rw [place_nat _ (by omega), H.x2]
    rfl
  · rw [next_dist, h5]
    split
    · exact le_refl _
    · exact new_nonneg S r q
  · rw [next_dist, h5]
    show _ = if (⟨number (r, q), h⟩ : Fin 20000) = far (closer x s) then 0 else closer x s ⟨number (r, q), h⟩
    by_cases e : number (r, q) = (far (closer x s)).val
    · rw [if_pos e, if_pos (Fin.ext e), sqrt_zero]
    · rw [if_neg e, if_neg (fun e' => e (congrArg Fin.val e')), new_point H S r q h]
  · rw [next_dist, h5, if_neg (by omega)]
    exact new_pad S r q h

end Trip

theorem same_state {x : Fin 20000 → Fin 2 → EReal} {X1 X2 : Vec Ideal S20480 .f32} {v0 v2 : Vec Ideal S160x128 .f32} (H : Held x X1 X2 v0 v2) (k : ℕ) :
    Same x (chosen x k) (state 12644#32 X1 X2 v0 v2 k) := by
  induction k with
  | zero =>
    refine ⟨H.x1 ⟨12644, by decide⟩, H.x2 ⟨12644, by decide⟩, fun r q => ?_, fun r q h => ?_, fun r q h => ?_⟩
    · show (0 : EReal) ≤ k0_pay2 (F := Ideal) (ix2 r q)
      rw [pay2_at]
      split
      · exact le_top
      · exact le_refl _
    · show Ideal.sqrt (k0_pay2 (F := Ideal) (ix2 r q)) = ⊤
      rw [pay2_at, if_pos h, Ideal.sqrt_top]
    · show k0_pay2 (F := Ideal) (ix2 r q) = (0 : EReal)
      rw [pay2_at, if_neg h]
  | succ k ih =>
    rw [state_succ, chosen_succ]
    exact same_step H ih

end Cert.SampleIdeal.Far

end
-- ==== Proof.SampEnd.lean ====
/- The run of farthest point sampling's kernel, with its result as plain mathematics. -/
module

public import proofs.«01_k».proof.Proof.SampVal
public import Idealize.ShloMosaic.Lib.Pipeline.ValueKit

@[expose] public section

set_option maxRecDepth 16384

noncomputable section

/-! The run of farthest point sampling's kernel, with its result as plain mathematics. -/

namespace Cert.SampleIdeal.Far

open Cert.SampleIdeal Cert.SampleIdeal.Gen Cert.Far
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The points a core is given. -/
def points (c : Dev nD) (p : Fin 20000) (a : Fin 2) : EReal := m ((c : Thread nD τ).loc main_arg0) (ix2 p a)

/-- A column of points padded, at a point. -/
theorem pad_at (x : S20000x2.Idx → EReal) (a : Fin 2) (v : S_.Idx → EReal) (p : Fin 20480) (h : p.val < 20000) :
    pad S20480 ![0] ![480] ![0] (fun i : S20000.Idx => x (ix2 (i 0) a)) v pads_S20000_S20480_04800 h_S_ (ix1 p) = x (ix2 ⟨p.val, h⟩ a) := by
  pointwise
  exact dif_pos h

theorem number_swap (r : Fin 160) (q : Fin 128) (h : number (r, q) < 20000) : r.val * 128 + q.val < 20000 := by
  unfold number at h
  dsimp only at h
  omega

theorem point_swap (c : Dev nD) (r : Fin 160) (q : Fin 128) (a : Fin 2) (h : number (r, q) < 20000) (h') :
    m ((c : Thread nD τ).loc main_arg0) (ix2 ⟨r.val * 128 + q.val, h'⟩ a) = points m c ⟨number (r, q), h⟩ a := by
  unfold points
  congr 2
  apply Fin.ext
  unfold number
  dsimp only
  omega

theorem main_v3_at (c : Dev nD) (r : Fin 160) (q : Fin 128) (h : number (r, q) < 20000) : V m c main_v3 (ix2 r q) = points m c ⟨number (r, q), h⟩ 0 := by
  unfold V
  simp only [hostOps0, hostOps0_1, hostOps0_2, hostOps0_3, hostOps0_4, List.flatten_cons, List.flatten_nil, List.append_nil, List.cons_append, List.nil_append]
  after_results_simp
  pointwise
  refine (pad_at (m ((c : Thread nD τ).loc main_arg0)) 0 _ _ (number_swap r q h)).trans ?_
  exact point_swap m c r q 0 h _

theorem main_v7_at (c : Dev nD) (r : Fin 160) (q : Fin 128) (h : number (r, q) < 20000) : V m c main_v7 (ix2 r q) = points m c ⟨number (r, q), h⟩ 1 := by
  unfold V
  simp only [hostOps0, hostOps0_1, hostOps0_2, hostOps0_3, hostOps0_4, List.flatten_cons, List.flatten_nil, List.append_nil, List.cons_append, List.nil_append]
  after_results_simp
  pointwise
  refine (pad_at (m ((c : Thread nD τ).loc main_arg0)) 1 _ _ (number_swap r q h)).trans ?_
  exact point_swap m c r q 1 h _

theorem main_v8_at (c : Dev nD) (p : Fin 20480) (h : p.val < 20000) : V m c main_v8 (ix1 p) = points m c ⟨p.val, h⟩ 0 := by
  unfold V
  simp only [hostOps0, hostOps0_1, hostOps0_2, hostOps0_3, hostOps0_4, List.flatten_cons, List.flatten_nil, List.append_nil, List.cons_append, List.nil_append]
  after_results_simp
  pointwise
  exact pad_at (m ((c : Thread nD τ).loc main_arg0)) 0 _ p h

theorem main_v9_at (c : Dev nD) (p : Fin 20480) (h : p.val < 20000) : V m c main_v9 (ix1 p) = points m c ⟨p.val, h⟩ 1 := by
  unfold V
  simp only [hostOps0, hostOps0_1, hostOps0_2, hostOps0_3, hostOps0_4, List.flatten_cons, List.flatten_nil, List.append_nil, List.cons_append, List.nil_append]
  after_results_simp
  pointwise
  exact pad_at (m ((c : Thread nD τ).loc main_arg0)) 1 _ p h

theorem main_v10_at (c : Dev nD) (y : S1.Idx) : V m c main_v10 y = 12644#32 := by
  unfold V
  simp only [hostOps0, hostOps0_1, hostOps0_2, hostOps0_3, hostOps0_4, List.flatten_cons, List.flatten_nil, List.append_nil, List.cons_append, List.nil_append]
  after_results_simp
  pointwise

theorem place_eq (p : Fin 20480) : place p.val = ix1 p := by
  funext a
  match a with
  | ⟨0, _⟩ =>
    have := p.isLt
    apply Fin.ext
    show min p.val 20479 = p.val
    omega

theorem index_0 : ∀ t : Fin cfg0.N, win0_0.index t = ![0] := by decide +kernel
theorem index_1 : ∀ t : Fin cfg0.N, win0_1.index t = ![0] := by decide +kernel
theorem index_2 : ∀ t : Fin cfg0.N, win0_2.index t = ![0] := by decide +kernel
theorem index_3 : ∀ t : Fin cfg0.N, win0_3.index t = ![0, 0] := by decide +kernel
theorem index_4 : ∀ t : Fin cfg0.N, win0_4.index t = ![0, 0] := by decide +kernel

theorem held_points (c : Dev nD) (t : Fin cfg0.N) : Held (points m c) (iblk m c 1 t) (iblk m c 2 t) (iblk m c 3 t) (iblk m c 4 t) := by
  refine ⟨fun n => ?_, fun n => ?_, fun r q h => ?_, fun r q h => ?_⟩
  · have hn := n.isLt
    rw [place_eq ⟨n.val, by omega⟩]
    blk_simp [iblk]
    have e : (win0_1.blk t).view.emb (ix1 (⟨n.val, by omega⟩ : Fin 20480)) = ix1 ⟨n.val, by omega⟩ := by blk_ext [index_1 t]
    rw [e]
    exact main_v8_at m c ⟨n.val, by omega⟩ hn
  · have hn := n.isLt
    rw [place_eq ⟨n.val, by omega⟩]
    blk_simp [iblk]
    have e : (win0_2.blk t).view.emb (ix1 (⟨n.val, by omega⟩ : Fin 20480)) = ix1 ⟨n.val, by omega⟩ := by blk_ext [index_2 t]
    rw [e]
    exact main_v9_at m c ⟨n.val, by omega⟩ hn
  · blk_simp [iblk]
    have e : (win0_3.blk t).view.emb (ix2 r q) = ix2 r q := by blk_ext [index_3 t]
    rw [e]
    exact main_v3_at m c r q h
  · blk_simp [iblk]
    have e : (win0_4.blk t).view.emb (ix2 r q) = ix2 r q := by blk_ext [index_4 t]
    rw [e]
    exact main_v7_at m c r q h

theorem first_word (c : Dev nD) (t : Fin cfg0.N) (x : S1.Idx) : iblk m c 0 t x = 12644#32 := by
  blk_simp [iblk]
  exact main_v10_at m c _

theorem safe : Safe m := fun c t => ⟨first_word m c t, fun k _ => by
  have e : pick (F := Ideal) (iblk m c 3 t) (iblk m c 4 t) (trace m c t k).1 (trace m c t k).2 = BitVec.ofNat 32 (far (closer (points m c) (chosen (points m c) k))).val :=
    pick_far (held_points m c t) (same_state (held_points m c t) k)
  rw [e]
  have hn := (far (closer (points m c) (chosen (points m c) k))).isLt
  intro a
  match a with
  | ⟨0, _⟩ =>
    show (BitVec.ofNat 32 (far (closer (points m c) (chosen (points m c) k))).val).toNat + 1 ≤ 20480
    rw [place_nat _ (by omega)]
    omega⟩

/-- The points chosen, one after another. -/
def out (x : Fin 20000 → Fin 2 → EReal) : Vec Ideal S512x2 .f32 := fun y => x (chosen x (y 0).val).1 (y 1)

theorem cents_eq (c : Dev nD) (t : Fin cfg0.N) : (cents fun n => (trace m c t n).1) = out (points m c) := by
  funext y
  have S := same_state (held_points m c t) (y 0).val
  unfold cents out
  obtain ⟨a, ha⟩ : ∃ a : Fin 2, y 1 = a := ⟨y 1, rfl⟩
  rw [ha]
  match a with
  | ⟨0, _⟩ => exact S.cx
  | ⟨1, _⟩ => exact S.cy

/-- The kernel's run. -/
theorem run_out : θ_run defs (onTc (τ := τ) (main (F := Ideal))) ⟨m, fun _ => 0, ρ⟩ fun r => (∀ c : Dev nD,
      r.2.mem ((c.tc : Thread nD τ).loc main_v11) = out (points m c)
      ∧ r.2.mem ((c.tc : Thread nD τ).loc main_arg0) = m ((c.tc : Thread nD τ).loc main_arg0))
      ∧ r.2.sem = fun _ => 0 :=
  (θ_run defs _ _).mono (fun r h => ⟨fun c => ⟨(h.1 c).1.trans (cents_eq m c t0_0), (h.1 c).2⟩, h.2⟩) (run_value m ρ (safe m))

end Cert.SampleIdeal.Far

end
-- ==== Proof.SampRef.lean ====
/- The run of farthest point sampling's reference, from what one turn of its loop does. -/
module

public import proofs.«01_k».proof.Proof.Gen.SampleRefIdeal
public import Idealize.ShloMosaic.Lib.StableHlo.Run
public import Idealize.ShloMosaic.Lib.StableHlo.RunLoop
public import Idealize.ShloMosaic.Lib.Scf.ExitTest
public import Idealize.ShloMosaic.Lib.Scf.Counter

@[expose] public section

noncomputable section

/-! The run of farthest point sampling's reference, from what one turn of its loop does. -/

namespace Cert.SampleRefIdeal.Far

open Cert.SampleRefIdeal Cert.SampleRefIdeal.Gen Idealize.ShloMosaic Idealize.ShloMosaic.TcCoe Idealize.SL.Sem Idealize.ShloMosaic.StableHlo
open Idealize.SL Idealize.SL.RA Idealize.SL.BI
open scoped Idealize.SL.BI
open Idealize.SL.BI.BIBase Idealize.SL.BI.Laws Idealize.SL.ProofMode
open Idealize.ShloMosaic.Pipeline (ucRefs sub_ucRefs)

variable {F : FTy → Type} [FloatOps F]

/-- The operations before the loop. -/
abbrev preOps : List (HloOp τ sig (Elt F)) :=
  [ unary main_arg0 main_v0 (extractStridedSlice S1x2 ![12644, 0] · slices_S20000x2_S1x2_12644_0),
    reshape main_v0 main_v1 (rfl : (.f32 : EltTy) = .f32) shapeCasts_S1x2_S2,
    nullary main_cst (constant S_ .f32 0x00000000#32),
    unary main_cst main_v2 (broadcastInDim S512x2 ![] bcast_S_S512x2),
    nullary main_c (constantI S_ 32 0#32),
    unary main_c main_v3 (broadcastInDim S1 ![] bcast_S_S1),
    ternary main_v2 main_v3 main_v1 main_v4 (fun x i u => Host.scatter scatter_S512x2_S1_S2_0_0_0_0 (fun _ b => b) x i u),
    nullary main_cst_0 (constant S_ .f32 0x7F800000#32),
    unary main_cst_0 main_v5 (broadcastInDim S20000 ![] bcast_S_S20000),
    nullary main_c_1 (constantI S_ 32 1#32),
    nullary main_c_2 (constantI S_ 32 0#32),
    unary main_arg0 main_v6_0 id,
    unary main_c_2 main_v6_1 id,
    unary main_c_1 main_v6_2 id,
    unary main_v5 main_v6_3 id,
    unary main_v4 main_v6_4 id,
    unary main_v1 main_v6_5 id ]

/-- The loop's condition. -/
abbrev condOps : List (HloOp τ sig (Elt F)) :=
  [ nullary main_while0c_c_8 (constantI S_ 32 511#32),
    binary main_v6_1 main_while0c_c_8 main_while0c_v7 (cmpi .slt) ]

/-- The distances of one turn of the loop. -/
abbrev distOps : List (HloOp τ sig (Elt F)) :=
  [ nullary main_while0b_c_8 (constantI S_ 32 1#32),
    binary main_v6_2 main_while0b_c_8 main_while0b_v7 addi,
    unary main_v6_5 main_while0b_v8 (broadcastInDim S1x2 ![1] bcast_S2_S1x2_1),
    unary main_while0b_v8 main_while0b_v9 (broadcastInDim S20000x2 ![0, 1] bcast_S1x2_S20000x2_0_1),
    binary main_v6_0 main_while0b_v9 main_while0b_v10 subf,
    binary main_while0b_v10 main_while0b_v10 main_while0b_v11 mulf,
    nullary main_while0b_cst_9 (constant S_ .f32 0x00000000#32),
    binary main_while0b_v11 main_while0b_cst_9 main_while0b_v12 (fun x v => Host.reduceAdd x v reducesTo_S20000x2_S20000_d1 h_S_),
    nullary main_while0b_cst_10 (constant S_ .f32 0x2B8CBCCC#32),
    unary main_while0b_cst_10 main_while0b_v13 (broadcastInDim S20000 ![] bcast_S_S20000),
    binary main_while0b_v12 main_while0b_v13 main_while0b_v14 addf,
    unary main_while0b_v14 main_while0b_v15 Host.sqrt,
    binary main_v6_3 main_while0b_v15 main_while0b_v16 minimumf ]

/-- The place of the greatest distance. -/
abbrev placeOps : List (HloOp τ sig (Elt F)) :=
  [ TRef.nullary main_while0b_call0.v0 (iotaInDim S20000 32 0),
    TRef.nullary main_while0b_call0.cst (constant S_ .f32 0xFF800000#32),
    TRef.nullary main_while0b_call0.c (constantI S_ 32 0#32),
    TRef.quaternary (.of main_while0b_v16 : TRef sig ⟨S20000, .f32⟩) main_while0b_call0.v0 main_while0b_call0.cst main_while0b_call0.c main_while0b_call0.v1_0
      (fun x y u v j => (Host.argReduce reducer_argmax_f32_i32 x y u v reducesTo_S20000_S_d0 h_S_ j).1),
    TRef.quaternary (.of main_while0b_v16 : TRef sig ⟨S20000, .f32⟩) main_while0b_call0.v0 main_while0b_call0.cst main_while0b_call0.c main_while0b_call0.v1_1
      (fun x y u v j => (Host.argReduce reducer_argmax_f32_i32 x y u v reducesTo_S20000_S_d0 h_S_ j).2) ]

/-- That place, a negative one counted from the end. -/
abbrev wrapOps : List (HloOp τ sig (Elt F)) :=
  [ TRef.nullary main_while0b_call1.c (constantI S_ 32 0#32),
    TRef.binary (.of main_while0b_v17 : TRef sig ⟨S_, .i32⟩) main_while0b_call1.c main_while0b_call1.v0 (cmpi .slt),
    TRef.nullary main_while0b_call1.c_0 (constantI S_ 32 20000#32),
    TRef.binary (.of main_while0b_v17 : TRef sig ⟨S_, .i32⟩) main_while0b_call1.c_0 main_while0b_call1.v1 addi,
    TRef.ternary main_while0b_call1.v0 main_while0b_call1.v1 (.of main_while0b_v17 : TRef sig ⟨S_, .i32⟩) main_while0b_call1.v2 select,
    TRef.nullary main_while0b_call1.c_1 (constantI S_ 32 0#32) ]

/-- The point at that place. -/
abbrev pointOps : List (HloOp τ sig (Elt F)) :=
  [ TRef.unaryIndexed (.of main_v6_0 : TRef sig ⟨S20000x2, .f32⟩) ![main_while0b_call1.v2, main_while0b_call1.c_1] main_while0b_call1.v3
      (fun x i => Host.dynamicSlice S1x2 x (fun k => (i k (Shape.Idx.first h_S_)).toInt) sliceFits_S20000x2_S1x2),
    TRef.reshape main_while0b_call1.v3 main_while0b_call1.v4 (rfl : (.f32 : EltTy) = .f32) shapeCasts_S1x2_S2 ]

/-- The row's place, a negative one counted from the end. -/
abbrev wrapRowOps : List (HloOp τ sig (Elt F)) :=
  [ TRef.unary (.of main_while0b_v18 : TRef sig ⟨S2, .f32⟩) main_while0b_call2.v0 (broadcastInDim S1x2 ![1] bcast_S2_S1x2_1),
    TRef.nullary main_while0b_call2.c (constantI S_ 32 0#32),
    TRef.binary (.of main_v6_2 : TRef sig ⟨S_, .i32⟩) main_while0b_call2.c main_while0b_call2.v1 (cmpi .slt),
    TRef.unary (.of main_v6_2 : TRef sig ⟨S_, .i32⟩) main_while0b_call2.v2 id,
    TRef.nullary main_while0b_call2.c_0 (constantI S_ 32 512#32),
    TRef.binary main_while0b_call2.v2 main_while0b_call2.c_0 main_while0b_call2.v3 addi,
    TRef.ternary main_while0b_call2.v1 main_while0b_call2.v3 (.of main_v6_2 : TRef sig ⟨S_, .i32⟩) main_while0b_call2.v4 select,
    TRef.nullary main_while0b_call2.c_1 (constantI S_ 32 0#32) ]

/-- The point put in its row. -/
abbrev rowOps : List (HloOp τ sig (Elt F)) :=
  [ TRef.binaryIndexed (.of main_v6_4 : TRef sig ⟨S512x2, .f32⟩) main_while0b_call2.v0 ![main_while0b_call2.v4, main_while0b_call2.c_1] main_while0b_call2.v5
      (fun x u i => Host.dynamicUpdateSlice x u (fun k => (i k (Shape.Idx.first h_S_)).toInt) updateFits_S512x2_S1x2) ]

/-- The rest of the turn: the chosen point's own distance made zero, and the values carried on. -/
abbrev restOps : List (HloOp τ sig (Elt F)) :=
  [ nullary main_while0b_v20 (iotaInDim S20000 32 0),
    unary main_while0b_v17 main_while0b_v21 (broadcastInDim S20000 ![] bcast_S_S20000),
    binary main_while0b_v20 main_while0b_v21 main_while0b_v22 (cmpi .eq),
    nullary main_while0b_cst_11 (constant S_ .f32 0x00000000#32),
    TRef.unary (.of main_while0b_cst_11 : TRef sig ⟨S_, .f32⟩) main_while0b_call3.v0 id,
    TRef.unary main_while0b_call3.v0 main_while0b_call3.v1 (broadcastInDim S20000 ![] bcast_S_S20000),
    TRef.ternary (.of main_while0b_v22 : TRef sig ⟨S20000, .i1⟩) main_while0b_call3.v1 (.of main_while0b_v16 : TRef sig ⟨S20000, .f32⟩) main_while0b_call3.v2 select,
    nullary main_while0b_c_12 (constantI S_ 32 1#32),
    binary main_v6_1 main_while0b_c_12 main_while0b_v24 addi,
    unary main_while0b_v24 main_v6_1 id,
    unary main_while0b_v7 main_v6_2 id,
    unary main_while0b_v23 main_v6_3 id,
    unary main_while0b_v19 main_v6_4 id,
    unary main_while0b_v18 main_v6_5 id ]

/-- One turn of the loop. -/
abbrev turn : List (List (HloOp τ sig (Elt F))) := [distOps, placeOps, wrapOps, pointOps, wrapRowOps, rowOps, restOps]

theorem main_eq (c : Dev nD) : main (F := F) c = Pipeline.chain (([preOps].map fun ops => (seq ops : Prog _ PUnit)) ++ HostLoop.enter 0 :: ([] : List (List (HloOp τ sig (Elt F)))).map fun ops => (seq ops : Prog _ PUnit)) := by
  simp only [main, List.map_cons, List.map_nil, List.cons_append, List.nil_append, Pipeline.chain, seq, bind_assoc, pure_bind]
  rfl

theorem body_eq : main_while0_body (F := F) = Pipeline.chain (turn.map fun ops => (seq ops : Prog _ PUnit)) := by
  simp only [main_while0_body, fn_argmax.body, fn_dynamic_index_in_dim.body, fn_dynamic_update_index_in_dim.body, fn_where.body, List.map_cons, List.map_nil, Pipeline.chain, seq, bind_assoc, pure_bind]
  rfl

theorem pre_sub : (preOps : List (HloOp τ sig (Elt F))).Forall fun op => op.bufs ⊆ tcRefs τ sig :=
  ⟨unary_bufs_sub .., reshape_bufs_sub .., nullary_bufs_sub .., unary_bufs_sub .., nullary_bufs_sub .., unary_bufs_sub ..,
    ternary_bufs_sub .., nullary_bufs_sub .., unary_bufs_sub .., nullary_bufs_sub .., nullary_bufs_sub .., unary_bufs_sub ..,
    unary_bufs_sub .., unary_bufs_sub .., unary_bufs_sub .., unary_bufs_sub .., unary_bufs_sub ..⟩

theorem dist_sub : (distOps : List (HloOp τ sig (Elt F))).Forall fun op => op.bufs ⊆ tcRefs τ sig :=
  ⟨nullary_bufs_sub .., binary_bufs_sub .., unary_bufs_sub .., unary_bufs_sub .., binary_bufs_sub .., binary_bufs_sub ..,
    nullary_bufs_sub .., binary_bufs_sub .., nullary_bufs_sub .., unary_bufs_sub .., binary_bufs_sub .., unary_bufs_sub ..,
    binary_bufs_sub ..⟩

theorem place_sub : (placeOps : List (HloOp τ sig (Elt F))).Forall fun op => op.bufs ⊆ tcRefs τ sig :=
  ⟨nullary_bufs_sub .., nullary_bufs_sub .., nullary_bufs_sub .., quaternary_bufs_sub .., quaternary_bufs_sub ..⟩

theorem wrap_sub : (wrapOps : List (HloOp τ sig (Elt F))).Forall fun op => op.bufs ⊆ tcRefs τ sig :=
  ⟨nullary_bufs_sub .., binary_bufs_sub .., nullary_bufs_sub .., binary_bufs_sub .., ternary_bufs_sub .., nullary_bufs_sub ..⟩

theorem point_sub : (pointOps : List (HloOp τ sig (Elt F))).Forall fun op => op.bufs ⊆ tcRefs τ sig :=
  ⟨unaryIndexed_bufs_sub .., reshape_bufs_sub ..⟩

theorem wrapRow_sub : (wrapRowOps : List (HloOp τ sig (Elt F))).Forall fun op => op.bufs ⊆ tcRefs τ sig :=
  ⟨unary_bufs_sub .., nullary_bufs_sub .., binary_bufs_sub .., unary_bufs_sub .., nullary_bufs_sub .., binary_bufs_sub ..,
    ternary_bufs_sub .., nullary_bufs_sub ..⟩

theorem row_sub : (rowOps : List (HloOp τ sig (Elt F))).Forall fun op => op.bufs ⊆ tcRefs τ sig :=
  binaryIndexed_bufs_sub ..

theorem rest_sub : (restOps : List (HloOp τ sig (Elt F))).Forall fun op => op.bufs ⊆ tcRefs τ sig :=
  ⟨nullary_bufs_sub .., unary_bufs_sub .., binary_bufs_sub .., nullary_bufs_sub .., unary_bufs_sub .., unary_bufs_sub ..,
    ternary_bufs_sub .., nullary_bufs_sub .., binary_bufs_sub .., unary_bufs_sub .., unary_bufs_sub .., unary_bufs_sub ..,
    unary_bufs_sub .., unary_bufs_sub ..⟩

theorem plain_pre : Plain [(preOps : List (HloOp τ sig (Elt F)))] := .cons pre_sub .nil
theorem plain_turn : Plain (turn : List (List (HloOp τ sig (Elt F)))) := .cons dist_sub (.cons place_sub (.cons wrap_sub (.cons point_sub (.cons wrapRow_sub (.cons row_sub (.cons rest_sub .nil))))))

/-- The second half of what a fold over pairs returns, at every place of the result. -/
def seconds {F : FTy → Type} [FloatOps F] {s t u : Shape} {axes : List (Fin s.rank)} (f : F .f32 × BitVec 32 → F .f32 × BitVec 32 → F .f32 × BitVec 32)
    (x : FVec F s .f32) (y : s.Idx → BitVec 32) (ix : u.Idx → F .f32) (iy : u.Idx → BitVec 32) (h : s.ReducesTo axes t) (hu : 0 < u.numel) : t.Idx → BitVec 32 :=
  fun j => (Host.argReduce f x y ix iy h hu j).2

/-- The differences of each point and the centroid chosen last. -/
def apart (x : Vec F S20000x2 .f32) (a : Vec F S2 .f32) : Vec F S20000x2 .f32 :=
  subf x (broadcastInDim S20000x2 ![0, 1] bcast_S1x2_S20000x2_0_1 (broadcastInDim S1x2 ![1] bcast_S2_S1x2_1 a))

/-- The distances from the centroids chosen. -/
def near (x : Vec F S20000x2 .f32) (d : Vec F S20000 .f32) (a : Vec F S2 .f32) : Vec F S20000 .f32 :=
  minimumf d (Host.sqrt (addf (Host.reduceAdd (mulf (apart x a) (apart x a)) (constant S_ .f32 0x00000000#32) reducesTo_S20000x2_S20000_d1 h_S_)
    (broadcastInDim S20000 ![] bcast_S_S20000 (constant S_ .f32 0x2B8CBCCC#32))))

/-- The place of the greatest distance. -/
def farthest (d : Vec F S20000 .f32) : Vec F S_ .i32 :=
  seconds reducer_argmax_f32_i32 d (iotaInDim S20000 32 0) (constant S_ .f32 0xFF800000#32) (constantI S_ 32 0#32) reducesTo_S20000_S_d0 h_S_

/-- An index, a negative one counted from the end. -/
def wrap (n : BitVec 32) (w : Vec F S_ .i32) : Vec F S_ .i32 := select (cmpi .slt w (constantI S_ 32 0#32)) (addi w (constantI S_ 32 n)) w

/-- The point at a pair of indices. -/
def pointAt (x : Vec F S20000x2 .f32) (w z : Vec F S_ .i32) : Vec F S2 .f32 :=
  shapeCast S2 (Host.dynamicSlice S1x2 x (fun k => ((![w, z] : Fin 2 → S_.Idx → BitVec 32) k (Shape.Idx.first h_S_)).toInt) sliceFits_S20000x2_S1x2) shapeCasts_S1x2_S2

/-- A row put at a pair of indices. -/
def putRow (g : Vec F S512x2 .f32) (a : Vec F S1x2 .f32) (w z : Vec F S_ .i32) : Vec F S512x2 .f32 :=
  Host.dynamicUpdateSlice g a (fun k => ((![w, z] : Fin 2 → S_.Idx → BitVec 32) k (Shape.Idx.first h_S_)).toInt) updateFits_S512x2_S1x2

/-- The chosen point's own distance made zero. -/
def clear (d : Vec F S20000 .f32) (w : Vec F S_ .i32) : Vec F S20000 .f32 :=
  select (cmpi .eq (iotaInDim S20000 32 0) (broadcastInDim S20000 ![] bcast_S_S20000 w)) (broadcastInDim S20000 ![] bcast_S_S20000 (constant S_ .f32 0x00000000#32)) d

section Turn

variable (X : Valuation τ sig (Elt F))

theorem cond_keep (b : Ref sig .tc) (h1 : b ≠ main_while0c_c_8) (h2 : b ≠ main_while0c_v7) : after condOps X (Proc.devRef .tc b) = X (Proc.devRef .tc b) := by
  rw [after_cons, after_cons, after_nil, binary_result_ne _ _ _ _ _ _ _ _ h2, nullary_result_ne _ _ _ _ h1]

theorem dist_v16 : after distOps X (Proc.devRef .tc main_while0b_v16)
    = near (X (Proc.devRef .tc main_v6_0)) (X (Proc.devRef .tc main_v6_3)) (X (Proc.devRef .tc main_v6_5)) := by
  after_results_simp <;> rfl
theorem dist_v7 : after distOps X (Proc.devRef .tc main_while0b_v7) = addi (X (Proc.devRef .tc main_v6_2)) (constantI S_ 32 1#32) := by
  after_results_simp <;> rfl
theorem place_v17 : after placeOps X (Proc.devRef .tc main_while0b_v17) = farthest (X (Proc.devRef .tc main_while0b_v16)) := by
  after_results_simp <;> rfl
theorem wrap_v2 : after wrapOps X (Proc.devRef .tc main_while0b_call1_v2) = wrap (F := F) 20000#32 (X (Proc.devRef .tc main_while0b_v17)) := by
  after_results_simp <;> rfl
theorem wrap_zero : after wrapOps X (Proc.devRef .tc main_while0b_call1_c_1) = constantI S_ 32 0#32 := by
  after_results_simp <;> rfl
theorem point_v18 : after pointOps X (Proc.devRef .tc main_while0b_v18)
    = pointAt (X (Proc.devRef .tc main_v6_0)) (X (Proc.devRef .tc main_while0b_call1_v2)) (X (Proc.devRef .tc main_while0b_call1_c_1)) := by
  after_results_simp
  unfold pointAt
  have h : ∀ i i' : Fin 2 → Int, i = i' → shapeCast S2 (Host.dynamicSlice S1x2 (X (Proc.devRef .tc main_v6_0) : Vec F S20000x2 .f32) i sliceFits_S20000x2_S1x2) shapeCasts_S1x2_S2
      = shapeCast S2 (Host.dynamicSlice S1x2 (X (Proc.devRef .tc main_v6_0) : Vec F S20000x2 .f32) i' sliceFits_S20000x2_S1x2) shapeCasts_S1x2_S2 := fun _ _ h => by rw [h]
  refine h _ _ (funext fun k => ?_)
  match k with
  | ⟨0, _⟩ => rfl
  | ⟨1, _⟩ => rfl
theorem wrapRow_v4 : after wrapRowOps X (Proc.devRef .tc main_while0b_call2_v4) = wrap (F := F) 512#32 (X (Proc.devRef .tc main_v6_2)) := by
  after_results_simp <;> rfl
theorem wrapRow_zero : after wrapRowOps X (Proc.devRef .tc main_while0b_call2_c_1) = constantI S_ 32 0#32 := by
  after_results_simp <;> rfl
theorem wrapRow_v0 : after wrapRowOps X (Proc.devRef .tc main_while0b_call2_v0) = broadcastInDim S1x2 ![1] bcast_S2_S1x2_1 (X (Proc.devRef .tc main_while0b_v18)) := by
  after_results_simp <;> rfl
theorem row_v19 : after rowOps X (Proc.devRef .tc main_while0b_v19)
    = putRow (X (Proc.devRef .tc main_v6_4)) (X (Proc.devRef .tc main_while0b_call2_v0)) (X (Proc.devRef .tc main_while0b_call2_v4)) (X (Proc.devRef .tc main_while0b_call2_c_1)) := by
  after_results_simp
  unfold putRow
  have h : ∀ i i' : Fin 2 → Int, i = i' →
      Host.dynamicUpdateSlice (X (Proc.devRef .tc main_v6_4) : Vec F S512x2 .f32) (X (Proc.devRef .tc main_while0b_call2_v0) : Vec F S1x2 .f32) i updateFits_S512x2_S1x2
      = Host.dynamicUpdateSlice (X (Proc.devRef .tc main_v6_4) : Vec F S512x2 .f32) (X (Proc.devRef .tc main_while0b_call2_v0) : Vec F S1x2 .f32) i' updateFits_S512x2_S1x2 := fun _ _ h => by rw [h]
  refine h _ _ (funext fun k => ?_)
  match k with
  | ⟨0, _⟩ => rfl
  | ⟨1, _⟩ => rfl
theorem rest_turn : after restOps X (Proc.devRef .tc main_v6_1) = addi (X (Proc.devRef .tc main_v6_1)) (constantI S_ 32 1#32) := by
  after_results_simp <;> rfl
theorem rest_row : after restOps X (Proc.devRef .tc main_v6_2) = X (Proc.devRef .tc main_while0b_v7) := by
  after_results_simp <;> rfl
theorem rest_dist : after restOps X (Proc.devRef .tc main_v6_3) = clear (X (Proc.devRef .tc main_while0b_v16)) (X (Proc.devRef .tc main_while0b_v17)) := by
  after_results_simp <;> rfl
theorem rest_rows : after restOps X (Proc.devRef .tc main_v6_4) = X (Proc.devRef .tc main_while0b_v19) := by
  after_results_simp <;> rfl
theorem rest_last : after restOps X (Proc.devRef .tc main_v6_5) = X (Proc.devRef .tc main_while0b_v18) := by
  after_results_simp <;> rfl

/-- The buffers each stretch writes, in order. -/
abbrev dist_W : List (Ref sig .tc) := [main_while0b_c_8, main_while0b_v7, main_while0b_v8, main_while0b_v9, main_while0b_v10, main_while0b_v11, main_while0b_cst_9, main_while0b_v12, main_while0b_cst_10, main_while0b_v13, main_while0b_v14, main_while0b_v15, main_while0b_v16]
abbrev place_W : List (Ref sig .tc) := [main_while0b_call0.v0.ref, main_while0b_call0.cst.ref, main_while0b_call0.c.ref, main_while0b_call0.v1_0.ref, main_while0b_v17]
abbrev wrap_W : List (Ref sig .tc) := [main_while0b_call1.c.ref, main_while0b_call1.v0.ref, main_while0b_call1.c_0.ref, main_while0b_call1.v1.ref, main_while0b_call1.v2.ref,
  main_while0b_call1.c_1.ref]
abbrev point_W : List (Ref sig .tc) := [main_while0b_call1.v3.ref, main_while0b_v18]
abbrev wrapRow_W : List (Ref sig .tc) := [main_while0b_call2.v0.ref, main_while0b_call2.c.ref, main_while0b_call2.v1.ref, main_while0b_call2.v2.ref, main_while0b_call2.c_0.ref,
  main_while0b_call2.v3.ref, main_while0b_call2.v4.ref, main_while0b_call2.c_1.ref]
abbrev row_W : List (Ref sig .tc) := [main_while0b_v19]
theorem dist_keep {b : Ref sig .tc} (h : b ∉ dist_W) : after distOps X (Proc.devRef .tc b) = X (Proc.devRef .tc b) :=
  after_of_writes_sub _ _ (forall_writes_sub_of_map rfl) h
theorem place_keep {b : Ref sig .tc} (h : b ∉ place_W) : after placeOps X (Proc.devRef .tc b) = X (Proc.devRef .tc b) :=
  after_of_writes_sub _ _ (forall_writes_sub_of_map rfl) h
theorem wrap_keep {b : Ref sig .tc} (h : b ∉ wrap_W) : after wrapOps X (Proc.devRef .tc b) = X (Proc.devRef .tc b) :=
  after_of_writes_sub _ _ (forall_writes_sub_of_map rfl) h
theorem point_keep {b : Ref sig .tc} (h : b ∉ point_W) : after pointOps X (Proc.devRef .tc b) = X (Proc.devRef .tc b) :=
  after_of_writes_sub _ _ (forall_writes_sub_of_map rfl) h
theorem wrapRow_keep {b : Ref sig .tc} (h : b ∉ wrapRow_W) : after wrapRowOps X (Proc.devRef .tc b) = X (Proc.devRef .tc b) :=
  after_of_writes_sub _ _ (forall_writes_sub_of_map rfl) h
theorem row_keep {b : Ref sig .tc} (h : b ∉ row_W) : after rowOps X (Proc.devRef .tc b) = X (Proc.devRef .tc b) :=
  after_of_writes_sub _ _ (forall_writes_sub_of_map rfl) h
theorem rest_points : after restOps X (Proc.devRef .tc main_v6_0) = X (Proc.devRef .tc main_v6_0) := by
  after_results_simp <;> rfl
theorem rest_arg : after restOps X (Proc.devRef .tc main_arg0) = X (Proc.devRef .tc main_arg0) := by
  after_results_simp <;> rfl

end Turn

end Cert.SampleRefIdeal.Far

end
-- ==== Proof.SampRefRun.lean ====
/- One turn of the reference's loop, and its run. -/
module

public import proofs.«01_k».proof.Proof.SampRef

@[expose] public section

noncomputable section

/-! One turn of the reference's loop as a whole, the loop's entry and its condition, and the run. -/

namespace Cert.SampleRefIdeal.Far

open Cert.SampleRefIdeal Cert.SampleRefIdeal.Gen Idealize.ShloMosaic Idealize.ShloMosaic.TcCoe Idealize.SL.Sem Idealize.ShloMosaic.StableHlo
open Idealize.SL Idealize.SL.RA Idealize.SL.BI
open scoped Idealize.SL.BI
open Idealize.SL.BI.BIBase Idealize.SL.BI.Laws Idealize.SL.ProofMode
open Idealize.ShloMosaic.Pipeline (ucRefs sub_ucRefs)

variable {F : FTy → Type} [FloatOps F]

section Turn

variable (X : Valuation τ sig (Elt F))

/-- The distances of one turn. -/
def newDist : Vec F S20000 .f32 := near (X (Proc.devRef .tc main_v6_0)) (X (Proc.devRef .tc main_v6_3)) (X (Proc.devRef .tc main_v6_5))

/-- The point one turn chooses. -/
def newPoint : Vec F S2 .f32 := pointAt (X (Proc.devRef .tc main_v6_0)) (wrap (F := F) 20000#32 (farthest (newDist X))) (constantI S_ 32 0#32)

theorem turn_points : afterL turn X (Proc.devRef .tc main_v6_0) = X (Proc.devRef .tc main_v6_0) := by
  simp only [afterL_cons, afterL_nil]
  rw [rest_points, row_keep _ (by decide), wrapRow_keep _ (by decide), point_keep _ (by decide), wrap_keep _ (by decide), place_keep _ (by decide), dist_keep _ (by decide)]

theorem turn_arg : afterL turn X (Proc.devRef .tc main_arg0) = X (Proc.devRef .tc main_arg0) := by
  simp only [afterL_cons, afterL_nil]
  rw [rest_arg, row_keep _ (by decide), wrapRow_keep _ (by decide), point_keep _ (by decide), wrap_keep _ (by decide), place_keep _ (by decide), dist_keep _ (by decide)]

theorem turn_turn : afterL turn X (Proc.devRef .tc main_v6_1) = addi (X (Proc.devRef .tc main_v6_1)) (constantI S_ 32 1#32) := by
  simp only [afterL_cons, afterL_nil]
  rw [rest_turn, row_keep _ (by decide), wrapRow_keep _ (by decide), point_keep _ (by decide), wrap_keep _ (by decide), place_keep _ (by decide), dist_keep _ (by decide)]

theorem turn_row : afterL turn X (Proc.devRef .tc main_v6_2) = addi (X (Proc.devRef .tc main_v6_2)) (constantI S_ 32 1#32) := by
  simp only [afterL_cons, afterL_nil]
  rw [rest_row, row_keep _ (by decide), wrapRow_keep _ (by decide), point_keep _ (by decide), wrap_keep _ (by decide), place_keep _ (by decide), dist_v7]

theorem turn_dist : afterL turn X (Proc.devRef .tc main_v6_3) = clear (newDist X) (farthest (newDist X)) := by
  simp only [afterL_cons, afterL_nil]
  rw [rest_dist, row_keep _ (by decide), wrapRow_keep _ (by decide), point_keep _ (by decide), wrap_keep _ (by decide), place_keep _ (by decide), dist_v16,
    row_keep _ (by decide), wrapRow_keep _ (by decide), point_keep _ (by decide), wrap_keep _ (by decide), place_v17, dist_v16]
  rfl

/-- What the point's buffer holds after the stretch that reads it. -/
theorem point_value : after pointOps (after wrapOps (after placeOps (after distOps X))) (Proc.devRef .tc main_while0b_v18) = newPoint X := by
  rw [point_v18, wrap_keep _ (by decide), wrap_v2, wrap_zero, place_keep _ (by decide), dist_keep _ (by decide), place_v17, dist_v16]
  rfl

theorem turn_last : afterL turn X (Proc.devRef .tc main_v6_5) = newPoint X := by
  simp only [afterL_cons, afterL_nil]
  rw [rest_last, row_keep _ (by decide), wrapRow_keep _ (by decide), point_value]

theorem turn_rows : afterL turn X (Proc.devRef .tc main_v6_4)
    = putRow (X (Proc.devRef .tc main_v6_4)) (broadcastInDim S1x2 ![1] bcast_S2_S1x2_1 (newPoint X)) (wrap (F := F) 512#32 (X (Proc.devRef .tc main_v6_2))) (constantI S_ 32 0#32) := by
  simp only [afterL_cons, afterL_nil]
  rw [rest_rows, row_v19, wrapRow_keep _ (by decide), point_keep _ (by decide), wrap_keep _ (by decide), place_keep _ (by decide), dist_keep _ (by decide),
    wrapRow_v0, wrapRow_v4, wrapRow_zero, point_value, point_keep _ (by decide), wrap_keep _ (by decide), place_keep _ (by decide), dist_keep _ (by decide)]

/-- The first centroid. -/
def firstPoint (x : Vec F S20000x2 .f32) : Vec F S2 .f32 :=
  shapeCast S2 (extractStridedSlice S1x2 ![12644, 0] x slices_S20000x2_S1x2_12644_0) shapeCasts_S1x2_S2

/-- The centroids before the loop: the first one, and zeros. -/
def firstRows (x : Vec F S20000x2 .f32) : Vec F S512x2 .f32 :=
  Host.scatter scatter_S512x2_S1_S2_0_0_0_0 (fun _ b => b) (broadcastInDim S512x2 ![] bcast_S_S512x2 (constant (F := F) S_ .f32 0x00000000#32))
    (broadcastInDim S1 ![] bcast_S_S1 (constantI S_ 32 0#32)) (firstPoint x)

theorem pre_points : after preOps X (Proc.devRef .tc main_v6_0) = X (Proc.devRef .tc main_arg0) := by
  after_results_simp <;> rfl
theorem pre_arg : after preOps X (Proc.devRef .tc main_arg0) = X (Proc.devRef .tc main_arg0) := by
  after_results_simp <;> rfl
theorem pre_turn : after preOps X (Proc.devRef .tc main_v6_1) = constantI S_ 32 0#32 := by
  after_results_simp <;> rfl
theorem pre_row : after preOps X (Proc.devRef .tc main_v6_2) = constantI S_ 32 1#32 := by
  after_results_simp <;> rfl
theorem pre_dist : after preOps X (Proc.devRef .tc main_v6_3) = broadcastInDim S20000 ![] bcast_S_S20000 (constant (F := F) S_ .f32 0x7F800000#32) := by
  after_results_simp <;> rfl
theorem pre_last : after preOps X (Proc.devRef .tc main_v6_5) = firstPoint (X (Proc.devRef .tc main_arg0)) := by
  after_results_simp <;> rfl
theorem pre_rows : after preOps X (Proc.devRef .tc main_v6_4) = firstRows (X (Proc.devRef .tc main_arg0)) := by
  after_results_simp <;> rfl

end Turn

section Loop

variable (m : (ℓ : Loc nD τ sig) → Buf (Elt F) ℓ) (c : Dev nD)

/-- The contents at the test before turn `k`. -/
abbrev atK (k : Nat) : Valuation τ sig (Elt F) := atTrip condOps turn (entryContents [preOps] m) k c

theorem atK_zero (b : Ref sig .tc) : atK m c 0 (Proc.devRef .tc b) = after preOps (launchContents m c) (Proc.devRef .tc b) := rfl

theorem atK_succ (k : Nat) (b : Ref sig .tc) : atK m c (k + 1) (Proc.devRef .tc b) = afterL turn (after condOps (atK m c k)) (Proc.devRef .tc b) :=
  congrFun (atTrip_succ _ _ _ _ c) _

theorem atK_turn (k : Nat) : atK m c k (Proc.devRef .tc main_v6_1) = fun _ => Scf.iv 0#32 1#32 k := by
  induction k with
  | zero =>
    rw [atK_zero, pre_turn]
    funext i
    exact (Scf.iv_zero ..).symm
  | succ k ih =>
    rw [atK_succ, turn_turn, cond_keep _ _ (by decide) (by decide), ih]
    funext i
    exact (Scf.iv_succ ..).symm

set_option backward.isDefEq.respectTransparency.types false in
theorem cond_spec [∀ e, Nonempty (Elt F e)] : CondSpec pcfgs defs₀ loops main_while0_cond condOps turn (entryContents [preOps] m) 511 := by
  intro k hk c bd
  have hctr := atK_turn m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m c k) main_v6_1 HostLoop.idx0) (HloOp.result _ (atK m c k) main_while0c_c_8 HostLoop.idx0) = 1#1) (k < 511)
    rw [nullary_result_ne _ _ _ _ (by decide), nullary_result, hctr]
    exact Scf.cmpi_slt_iv_ub_iff (lb := 0#32) (ub := 511#32) (st := 1#32) (by decide) (show k ≤ Scf.trips 0#32 511#32 1#32 from hk)
  isplitl [Hb]; · iexact Hb
  rw [after_cons, after_cons, after_nil]; exact Entails.rfl

theorem run [∀ e, Nonempty (Elt F e)] (ρ : Dev nD → PrngReg) : θ_run defs (onTc main) ⟨m, fun _ => 0, ρ⟩ fun r => ∀ c : Dev nD, ∀ b : Ref sig .tc,
    (Proc.devRef .tc b : DevRef τ sig).isScoped = false → r.2.mem (c.tc.loc b) = after condOps (atK m c 511) (Proc.devRef .tc b) :=
  run_loop pcfgs defs₀ loops main 0 main_while0_cond main_while0_body rfl [preOps] turn [] condOps plain_pre plain_turn .nil main_eq body_eq 511 m ρ (cond_spec m)

end Loop

end Cert.SampleRefIdeal.Far

end
-- ==== Proof.SampRefVal.lean ====
/- The values of one turn of the reference's loop. -/
module

public import proofs.«01_k».proof.Proof.SampRef
public import proofs.«01_k».proof.Proof.SampRefRun
public import proofs.«01_k».proof.Proof.Samp
public import Idealize.ShloMosaic.Lib.Pointwise
public import Idealize.ShloMosaic.Lib.Routing.OpsSet
public import Idealize.ShloMosaic.Lib.Routing.OpsPair

@[expose] public section

noncomputable section

/-! The values of one turn of the reference's loop, at each place. -/

namespace Cert.SampleRefIdeal.Far

open Cert.SampleRefIdeal Cert.SampleRefIdeal.Gen Cert.Far Idealize.ShloMosaic Idealize.ShloMosaic.Routing Idealize.ShloMosaic.TcCoe Idealize.ShloMosaic.StableHlo

theorem top_word : Ideal.ofBits .f32 0x7F800000#32 = ⊤ := by
  simp [Ideal.ofBits, Ideal.ieee]

theorem bot_word : Ideal.ofBits .f32 0xFF800000#32 = ⊥ := by
  simp [Ideal.ofBits, Ideal.ieee]

theorem near_at (x : Vec Ideal S20000x2 .f32) (d : Vec Ideal S20000 .f32) (a : Vec Ideal S2 .f32) (p : Fin 20000) :
    near (F := Ideal) x d a (ix1 p) = min (d (ix1 p)) (Ideal.sqrt (away (fun q b => x (ix2 q b)) (fun b => a (ix1 b)) p)) := by
  pointwise [near, apart]
  simp only [Fin.sum_univ_two]
  rfl

theorem clear_at (d : Vec Ideal S20000 .f32) (n p : Fin 20000) :
    clear (F := Ideal) d (fun _ => BitVec.ofNat 32 n.val) (ix1 p) = if p = n then 0 else d (ix1 p) := by
  have hz : Ideal.ofBits .f32 0x00000000#32 = 0 := by simp [Ideal.ofBits, Ideal.ieee]
  have h : clear (F := Ideal) d (fun _ => BitVec.ofNat 32 n.val) (ix1 p)
      = Scalar.select (IntOp.cmpi .eq (BitVec.ofNat 32 p.val) (BitVec.ofNat 32 n.val)) (Ideal.ofBits .f32 0x00000000#32) (d (ix1 p)) := rfl
  rw [h, hz]
  by_cases e : p = n
  · subst e
    simp [Scalar.select, IntOp.cmpi]
  · have hne : BitVec.ofNat 32 p.val ≠ BitVec.ofNat 32 n.val := fun h => e (Fin.ext (by
      have := congrArg BitVec.toNat h
      rwa [place_nat _ (by omega), place_nat _ (by omega)] at this))
    have hb : (BitVec.ofNat 32 p.val == BitVec.ofNat 32 n.val) = false := beq_eq_false_iff_ne.2 hne
    show (if BitVec.ofBool (BitVec.ofNat 32 p.val == BitVec.ofNat 32 n.val) = 1#1 then _ else _) = _
    rw [hb, if_neg e]
    rfl

theorem wrap_at (s : BitVec 32) (n : ℕ) (hn : n < 20000) : wrap (F := Ideal) s (fun _ => BitVec.ofNat 32 n) = fun _ => BitVec.ofNat 32 n := by
  funext i
  show Scalar.select (IntOp.cmpi .slt (BitVec.ofNat 32 n) 0#32) (BitVec.ofNat 32 n + s) (BitVec.ofNat 32 n) = _
  have h : IntOp.cmpi .slt (BitVec.ofNat 32 n) 0#32 = 0#1 := by
    show BitVec.ofBool (decide ((BitVec.ofNat 32 n).toInt < (0#32).toInt)) = 0#1
    rw [place_int n (by omega), decide_eq_false (by simp)]
    rfl
  rw [h]
  rfl

theorem pointAt_at (x : Vec Ideal S20000x2 .f32) (n : Fin 20000) (a : Fin 2) :
    pointAt (F := Ideal) x (fun _ => BitVec.ofNat 32 n.val) (constantI S_ 32 0#32) (ix1 a) = x (ix2 n a) := by
  unfold pointAt
  pointwise
  have h0 : Host.clampedStart S20000x2 S1x2 sliceFits_S20000x2_S1x2.1
      (fun k => ((![fun _ => BitVec.ofNat 32 n.val, constantI S_ 32 0#32] : Fin 2 → S_.Idx → BitVec 32) k (Shape.Idx.first h_S_)).toInt) 0 = n.val :=
    Host.clampedStart_of_le _ _ 0 n.val (place_int n.val (by omega)) n.isLt
  have h1 : Host.clampedStart S20000x2 S1x2 sliceFits_S20000x2_S1x2.1
      (fun k => ((![fun _ => BitVec.ofNat 32 n.val, constantI S_ 32 0#32] : Fin 2 → S_.Idx → BitVec 32) k (Shape.Idx.first h_S_)).toInt) 1 = 0 :=
    Host.clampedStart_of_le _ _ 1 0 rfl (by decide)
  simp only [h0, h1, Nat.zero_add]

theorem firstPoint_at (x : Vec Ideal S20000x2 .f32) (a : Fin 2) : firstPoint (F := Ideal) x (ix1 a) = x (ix2 ⟨12644, by decide⟩ a) := by
  pointwise [firstPoint]

theorem putRow_at (g : Vec Ideal S512x2 .f32) (a : Vec Ideal S2 .f32) (n r : Fin 512) (b : Fin 2) :
    putRow (F := Ideal) g (broadcastInDim S1x2 ![1] bcast_S2_S1x2_1 a) (fun _ => BitVec.ofNat 32 n.val) (constantI S_ 32 0#32) (ix2 r b)
      = if r = n then a (ix1 b) else g (ix2 r b) := by
  unfold putRow
  pointwise
  have h0 : Host.clampedStart S512x2 S1x2 updateFits_S512x2_S1x2.1
      (fun k => ((![fun _ => BitVec.ofNat 32 n.val, constantI S_ 32 0#32] : Fin 2 → S_.Idx → BitVec 32) k (Shape.Idx.first h_S_)).toInt) 0 = n.val :=
    Host.clampedStart_of_le _ _ 0 n.val (place_int n.val (by omega)) n.isLt
  have h1 : Host.clampedStart S512x2 S1x2 updateFits_S512x2_S1x2.1
      (fun k => ((![fun _ => BitVec.ofNat 32 n.val, constantI S_ 32 0#32] : Fin 2 → S_.Idx → BitVec 32) k (Shape.Idx.first h_S_)).toInt) 1 = 0 :=
    Host.clampedStart_of_le _ _ 1 0 rfl (by decide)
  simp only [h0, h1]
  by_cases e : r = n
  · subst e
    rw [dif_pos ⟨⟨le_refl _, Nat.lt_succ_self _⟩, Nat.zero_le _⟩, if_pos rfl]
    rfl
  · rw [dif_neg fun h => e (Fin.ext (by omega)), if_neg e]

/-- A scatter of one row, at that row. -/
theorem scatter_row {α : Type} {A N : Nat} (d : ScatterDims (shape2 N A) (shape1 1) (shape1 A)) (hiw : d.insertedWindowDims = [0])
    (hsd : d.scatterDimsToOperandDims = [0]) (x0 : (shape2 N A).Idx → α) (idx : IVec (shape1 1) 32) (upd : (shape1 A).Idx → α)
    (k : Fin N) (hidx : (idx (ix1 0)).toInt = (k.val : Int)) (w : Fin A) : Host.scatter d (fun _ b => b) x0 idx upd (ix2 k w) = upd (ix1 w) := by
  have lands : ∀ v : Fin A, d.resultIdx? (ix1 v) idx = some (ix2 k w) ↔ v = w := by
    intro v
    have hm : (0 : Fin 2) ∈ d.scatterDimsToOperandDims := by rw [hsd]; exact List.mem_singleton.2 rfl
    have hkept : d.sKept = [1] := by
      show (shape2 N A).kept d.insertedWindowDims = _
      rw [hiw]
      rfl
    have hwin0 : d.window (ix1 v) 0 = 0 := by
      unfold ScatterDims.window
      rw [dif_neg fun h => (of_decide_eq_true (List.mem_filter.1 h).2) (by rw [hiw]; exact List.mem_singleton.2 rfl)]
    have hwin1 : d.window (ix1 v) 1 = v.val := by
      unfold ScatterDims.window
      rw [dif_pos (by rw [hkept]; exact List.mem_singleton.2 rfl)]
      have q : ∀ X : Fin 1, (ix1 v X).val = v.val := fun X => by
        obtain rfl : X = 0 := Subsingleton.elim _ _
        rfl
      exact q _
    have hstart1 : d.start (ix1 v) idx 1 = 0 := by
      unfold ScatterDims.start
      rw [dif_neg fun h => by rw [hsd] at h; exact absurd (List.mem_singleton.1 h) (by decide : (1 : Fin 2) ≠ 0)]
    have hstart0 : d.start (ix1 v) idx 0 = (k.val : Int) := by
      unfold ScatterDims.start
      rw [dif_pos hm]
      have hsi : d.siIdx (ix1 v) ⟨d.scatterDimsToOperandDims.idxOf 0, List.idxOf_lt_length_iff.2 hm⟩ = ix1 (0 : Fin 1) := by
        funext b'
        match b' with
        | ⟨0, _⟩ => exact Subsingleton.elim (α := Fin 1) _ _
      rw [hsi, hidx]
    rw [Fin.ext_iff]
    refine (resultIdx?_ix2 d (ix1 v) idx k w).trans ?_
    rw [hstart0, hwin0, hstart1, hwin1]
    omega
  refine scatter_set_hit d x0 idx upd _ _ (fun j hj => ?_) (ix1 w) ((lands w).2 rfl)
  obtain ⟨v, rfl⟩ : ∃ v, j = ix1 v := ⟨j 0, eq_ix1 j⟩
  rw [(lands v).1 hj]

theorem firstRows_at (x : Vec Ideal S20000x2 .f32) (a : Fin 2) : firstRows (F := Ideal) x (ix2 0 a) = x (ix2 ⟨12644, by decide⟩ a) :=
  (scatter_row scatter_S512x2_S1_S2_0_0_0_0 rfl rfl _ (broadcastInDim S1 ![] bcast_S_S1 (constantI S_ 32 0#32)) (firstPoint x) (0 : Fin 512) rfl a).trans (firstPoint_at x a)

theorem reducer_eq (a b : EReal × BitVec 32) : reducer_argmax_f32_i32 (F := Ideal) a b = better a b := by
  obtain ⟨a, i⟩ := a
  obtain ⟨b, j⟩ := b
  unfold reducer_argmax_f32_i32 better
  have hs : ∀ x y : BitVec 32, IntOp.cmpi .slt x y = BitVec.ofBool (decide (x.toInt < y.toInt)) := fun x y => rfl
  simp only [Ideal.cmpf_def, Ideal.cmp, hs, ne_eq, not_true_eq_false]
  by_cases h : b < a
  · simp [h, h.ne', Scalar.select, IntOp.ori, IntOp.andi]
  · by_cases k : a = b
    · subst k
      by_cases l : i.toInt < j.toInt <;> simp [l, Scalar.select, IntOp.ori, IntOp.andi]
    · simp [h, k, Scalar.select, IntOp.ori, IntOp.andi]

/-- The pairs of the vector are its values and their places. -/
theorem all_mem (d : S20000.Idx → EReal) (j : S_.Idx) (q : EReal × BitVec 32) :
    q ∈ Host.argReduceFiber d (iotaInDim S20000 32 0) reducesTo_S20000_S_d0 j ↔ ∃ k : Fin 20000, q = (d (ix1 k), BitVec.ofNat 32 k.val) := by
  unfold Host.argReduceFiber
  rw [List.mem_map]
  constructor
  · rintro ⟨n, hn, rfl⟩
    generalize S20000.rowMajor.symm n = i
    obtain ⟨k, rfl⟩ : ∃ k : Fin 20000, i = ix1 k := ⟨i 0, eq_ix1 i⟩
    exact ⟨k, rfl⟩
  · rintro ⟨k, rfl⟩
    refine ⟨S20000.rowMajor (ix1 k), List.mem_filter.2 ⟨List.mem_finRange _, decide_eq_true ?_⟩, ?_⟩
    · funext b
      exact b.elim0
    · rw [Equiv.symm_apply_apply]
      rfl

/-- A fold by `better` over pairs that are 20000 values and their places returns the least place of the greatest value. -/
theorem fold_at {s t u : Shape} {axes : List (Fin s.rank)} (f : EReal × BitVec 32 → EReal × BitVec 32 → EReal × BitVec 32) (hf : ∀ a b, f a b = better a b)
    (x : FVec Ideal s .f32) (y : s.Idx → BitVec 32) (ix : u.Idx → EReal) (iy : u.Idx → BitVec 32) (h : s.ReducesTo axes t) (hu : 0 < u.numel)
    (hx : ix (Shape.Idx.first hu) = ⊥) (hy : iy (Shape.Idx.first hu) = 0#32) (j : t.Idx) (d : Fin 20000 → EReal)
    (hL : ∀ q, q ∈ Host.argReduceFiber x y h j ↔ ∃ k : Fin 20000, q = (d k, BitVec.ofNat 32 k.val)) :
    seconds (F := Ideal) f x y ix iy h hu j = BitVec.ofNat 32 (far d).val := by
  obtain rfl : f = better := funext fun a => funext fun b => hf a b
  unfold seconds
  rw [Ideal.argReduce_eq_reduce2, Host.reduce2_eq_foldl_fiber, hx, hy]
  exact fold_far d _ hL

/-- The least place of the greatest distance. -/
theorem farthest_eq (d : Vec Ideal S20000 .f32) : farthest (F := Ideal) d = fun _ => BitVec.ofNat 32 (far fun p => d (ix1 p)).val :=
  funext fun j => fold_at (reducer_argmax_f32_i32 (F := Ideal)) reducer_eq d (iotaInDim S20000 32 0) (constant (F := Ideal) S_ .f32 0xFF800000#32) (constantI S_ 32 0#32)
    reducesTo_S20000_S_d0 h_S_ bot_word rfl j (fun p => d (ix1 p)) (all_mem d j)

end Cert.SampleRefIdeal.Far

end
-- ==== Proof.SampEqual.lean ====
/- Farthest point sampling: what the kernel's run leaves is what the reference's run leaves. -/
module

public import proofs.«01_k».proof.Defs
public import proofs.«01_k».proof.Proof.SampEnd
public import proofs.«01_k».proof.Proof.SampRefVal
public import Idealize.ShloMosaic.Lib.Quiescent

@[expose] public section

noncomputable section

/-! Farthest point sampling: what the kernel's run leaves is what the reference's run leaves. -/

namespace Cert.SampleRefIdeal.Far

open Cert.SampleRefIdeal Cert.SampleRefIdeal.Gen Cert.Far Idealize.ShloMosaic Idealize.ShloMosaic.TcCoe Idealize.SL.Sem Idealize.ShloMosaic.StableHlo

/-- What the reference's buffers hold at the test before turn `k`: the points, the row to be written, the distances, the point chosen last and the rows written so far. -/
structure Holds (x : Vec Ideal S20000x2 .f32) (k : ℕ) (W : Valuation τ sig (Elt Ideal)) : Prop where
  points : W (Proc.devRef .tc main_v6_0) = x
  arg : W (Proc.devRef .tc main_arg0) = x
  row : W (Proc.devRef .tc main_v6_2) = fun _ => BitVec.ofNat 32 (k + 1)
  dist : ∀ p : Fin 20000, (W (Proc.devRef .tc main_v6_3) : Vec Ideal S20000 .f32) (ix1 p) = (chosen (fun q b => x (ix2 q b)) k).2 p
  last : ∀ b : Fin 2, (W (Proc.devRef .tc main_v6_5) : Vec Ideal S2 .f32) (ix1 b) = x (ix2 (chosen (fun q b => x (ix2 q b)) k).1 b)
  rows : ∀ (r : Fin 512) (b : Fin 2), r.val ≤ k →
    (W (Proc.devRef .tc main_v6_4) : Vec Ideal S512x2 .f32) (ix2 r b) = x (ix2 (chosen (fun q b => x (ix2 q b)) r.val).1 b)

variable (x : Vec Ideal S20000x2 .f32)

theorem holds_pre (X : Valuation τ sig (Elt Ideal)) (h : X (Proc.devRef .tc main_arg0) = x) : Holds x 0 (after preOps X) where
  points := (pre_points X).trans h
  arg := (pre_arg X).trans h
  row := pre_row X
  dist p := by
    rw [pre_dist]
    exact top_word
  last b := by
    rw [pre_last, h]
    exact firstPoint_at x b
  rows r b hr := by
    obtain rfl : r = 0 := Fin.ext (Nat.le_zero.1 hr)
    rw [pre_rows, h]
    exact firstRows_at x b

theorem holds_cond (k : ℕ) (W : Valuation τ sig (Elt Ideal)) (h : Holds x k W) : Holds x k (after condOps W) where
  points := (cond_keep W _ (by decide) (by decide)).trans h.points
  arg := (cond_keep W _ (by decide) (by decide)).trans h.arg
  row := (cond_keep W _ (by decide) (by decide)).trans h.row
  dist p := by rw [cond_keep W _ (by decide) (by decide)]; exact h.dist p
  last b := by rw [cond_keep W _ (by decide) (by decide)]; exact h.last b
  rows r b hr := by rw [cond_keep W _ (by decide) (by decide)]; exact h.rows r b hr

theorem newDist_at (k : ℕ) (W : Valuation τ sig (Elt Ideal)) (h : Holds x k W) (p : Fin 20000) :
    newDist W (ix1 p) = closer (fun q b => x (ix2 q b)) (chosen (fun q b => x (ix2 q b)) k) p := by
  unfold newDist
  rw [near_at, h.dist, h.points]
  simp only [h.last]
  rfl

theorem farthest_new (k : ℕ) (W : Valuation τ sig (Elt Ideal)) (h : Holds x k W) :
    farthest (newDist W) = fun _ => BitVec.ofNat 32 (chosen (fun q b => x (ix2 q b)) (k + 1)).1.val := by
  rw [farthest_eq, funext (newDist_at x k W h)]
  rfl

theorem newPoint_at (k : ℕ) (W : Valuation τ sig (Elt Ideal)) (h : Holds x k W) (b : Fin 2) :
    newPoint W (ix1 b) = x (ix2 (chosen (fun q b => x (ix2 q b)) (k + 1)).1 b) := by
  unfold newPoint
  rw [farthest_new x k W h, h.points, wrap_at _ _ (Fin.isLt _), pointAt_at]

theorem holds_turn (k : ℕ) (hk : k < 511) (W : Valuation τ sig (Elt Ideal)) (h : Holds x k W) : Holds x (k + 1) (afterL turn W) where
  points := (turn_points W).trans h.points
  arg := (turn_arg W).trans h.arg
  row := by
    rw [turn_row, h.row]
    funext i
    exact (BitVec.ofNat_add (n := 32) (k + 1) 1).symm
  dist p := by
    rw [turn_dist, farthest_new x k W h, clear_at, newDist_at x k W h]
    rfl
  last b := by
    rw [turn_last]
    exact newPoint_at x k W h b
  rows r b hr := by
    have e : wrap (F := Ideal) 512#32 (W (Proc.devRef .tc main_v6_2)) = fun _ => BitVec.ofNat 32 (k + 1) :=
      (congrArg (wrap (F := Ideal) 512#32) h.row).trans (wrap_at 512#32 (k + 1) (by omega))
    rw [turn_rows, e]
    refine (putRow_at _ _ ⟨k + 1, by omega⟩ r b).trans ?_
    by_cases e : r = ⟨k + 1, by omega⟩
    · rw [if_pos e, show r.val = k + 1 from congrArg Fin.val e]
      exact newPoint_at x k W h b
    · rw [if_neg e]
      have : r.val ≠ k + 1 := fun hv => e (Fin.ext hv)
      exact h.rows r b (by omega)

variable (m : (ℓ : Loc nD τ sig) → Buf (Elt Ideal) ℓ) (ρ : Dev nD → PrngReg)

theorem holds_at (c : Dev nD) (k : ℕ) (hk : k ≤ 511) : Holds (m ((c.tc : Thread nD τ).loc main_arg0)) k (atK m c k) := by
  induction k with
  | zero => exact holds_pre _ _ rfl
  | succ k ih =>
    have e : atK m c (k + 1) = afterL turn (after condOps (atK m c k)) := atTrip_succ _ _ _ _ c
    rw [e]
    exact holds_turn _ k (by omega) _ (holds_cond _ k _ (ih (by omega)))

/-- The rows of the points chosen, in the order they are chosen. -/
def out : Vec Ideal S512x2 .f32 := fun y => x (ix2 (chosen (fun q b => x (ix2 q b)) (y 0).val).1 (y 1))

theorem run_out : θ_run defs (onTc (τ := τ) (main (F := Ideal))) ⟨m, fun _ => 0, ρ⟩ fun r => ∀ c : Dev nD,
    r.2.mem ((c.tc : Thread nD τ).loc main_v6_4) = out (m ((c.tc : Thread nD τ).loc main_arg0))
    ∧ r.2.mem ((c.tc : Thread nD τ).loc main_arg0) = m ((c.tc : Thread nD τ).loc main_arg0) :=
  (θ_run defs _ _).mono (fun _ h c => by
    have H := holds_cond _ 511 _ (holds_at m c 511 le_rfl)
    refine ⟨(h c main_v6_4 rfl).trans (funext fun y => ?_), (h c main_arg0 rfl).trans H.arg⟩
    obtain ⟨r, b, rfl⟩ : ∃ (r : Fin 512) (b : Fin 2), y = ix2 r b := ⟨y 0, y 1, by funext a; match a with | ⟨0, _⟩ => rfl | ⟨1, _⟩ => rfl⟩
    exact H.rows r b (by omega)) (run m ρ)

end Cert.SampleRefIdeal.Far

namespace Cert.Samp

open Idealize.ShloMosaic Idealize.ShloMosaic.TcCoe Idealize.SL.Sem

/-- The sampling kernel leaves its argument and its semaphores as they were, over the extended reals. -/
theorem frame_ideal : @Cert.quiescent_SampleIdeal Cert.SampleIdeal.Gen.facts := fun m ρ _ =>
  (θ_run Cert.SampleIdeal.defs _ _).mono (fun _ h => ⟨fun c => (h.1 c).2, h.2⟩) (Cert.SampleIdeal.Far.run_out m ρ)

/-- The sampling reference leaves its argument as it was. -/
theorem frame_reference : @Cert.quiescent_SampleRefIdeal Cert.SampleRefIdeal.Gen.facts := fun m ρ _ =>
  (θ_run Cert.SampleRefIdeal.defs _ _).mono (fun r h => ⟨fun c => (h c).2, Idealize.ShloMosaic.sem_eq_zero_of_no_sems (by decide) r.2⟩)
    (Cert.SampleRefIdeal.Far.run_out m ρ)

/-- Over the extended reals the sampling kernel returns the centroids that its reference returns. -/
theorem equal : @Cert.algebraic_SampleIdeal_SampleRefIdeal Cert.SampleIdeal.Gen.facts Cert.SampleRefIdeal.Gen.facts := by
  intro m g m' g' _ hargs
  refine ⟨fun c => Cert.SampleIdeal.Far.out (Cert.SampleIdeal.Far.points m c), ?_, ?_⟩
  · exact (θ_run Cert.SampleIdeal.defs _ _).mono (fun _ h => h.1) (Cert.SampleIdeal.Far.run_out m g)
  · refine (θ_run Cert.SampleRefIdeal.defs _ _).mono (fun r h c => ⟨(h c).1.trans ?_, (h c).2⟩) (Cert.SampleRefIdeal.Far.run_out m' g')
    exact congrArg Cert.SampleRefIdeal.Far.out (hargs c)

end Cert.Samp

end
-- ==== Proof.lean ====
/- The claims: the frames of the kernel, of its ideal program and of the reference, that the ideal program keeps the kernel's operations, and that kernel and reference return the same values. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_near_named
public import proofs.«01_k».proof.Proof.Gen.Pre_near_named_cent_finite
public import proofs.«01_k».proof.Proof.Gen.Nearest
public import proofs.«01_k».proof.Proof.Gen.Nearest.Frame
public import proofs.«01_k».proof.Proof.Gen.NearestIdeal
public import proofs.«01_k».proof.Proof.Gen.NearestIdeal.Value
public import proofs.«01_k».proof.Proof.Gen.NearestRefIdeal
public import proofs.«01_k».proof.Proof.Gen.SampleIdeal
public import proofs.«01_k».proof.Proof.Gen.SampleIdeal.Skeleton
public import proofs.«01_k».proof.Proof.Gen.SampleIdeal.Launch
public import proofs.«01_k».proof.Proof.Gen.SampleIdeal.Points
public import proofs.«01_k».proof.Proof.Gen.SampleIdeal.Frame
public import proofs.«01_k».proof.Proof.Gen.SampleRefIdeal
public import proofs.«01_k».proof.Proof.Gen.Features
public import proofs.«01_k».proof.Proof.Gen.FeaturesIdeal
public import proofs.«01_k».proof.Proof.Gen.FeaturesIdeal.Value
public import proofs.«01_k».proof.Proof.Gen.FeaturesRefIdeal
public import proofs.«01_k».proof.Proof.Gen.FeaturesRefIdeal.Run
public import proofs.«01_k».proof.Proof.Gen.FeaturesRefIdeal.Read
public import proofs.«01_k».proof.Proof.Frames
public import proofs.«01_k».proof.Proof.Equal
public import proofs.«01_k».proof.Proof.Gen.Features.Frame
public import proofs.«01_k».proof.Proof.NetEqual
public import proofs.«01_k».proof.Proof.NearEqual
public import proofs.«01_k».proof.Proof.SampEqual
public import Idealize.ShloMosaic.Adequacy
public import Idealize.ShloMosaic.Init

@[expose] public section

noncomputable section

/-! The certificate. The SparseCore call leaves its arguments and its semaphores as they were, over words and over the
extended reals, and over the extended reals it returns what the plain grouping of the points returns. The search for the
nearest centre before it and the network after it do the same, and over the extended reals each returns what its plain
counterpart returns. So does the sampling of the centres at the start, over the extended reals. -/

namespace Cert.Proof

open Cert.KernelIdeal.Group

/-- Every claim of the statement: the frames of the SparseCore call, of its ideal program and of its reference, under each
precondition that a claim has; the frames of the three programs of the nearest centre and of the network, and of the two
of the sampling; that the ideal program of each but the sampling is its kernel; and that the results of each are its
reference's. -/
theorem claim : Cert.Claim :=
  ⟨Cert.Kernel.Gen.facts, Cert.KernelIdeal.Gen.facts, Cert.ReferenceIdeal.Gen.facts, Cert.Nearest.Gen.facts,
    Cert.NearestIdeal.Gen.facts, Cert.NearestRefIdeal.Gen.facts, Cert.SampleIdeal.Gen.facts,
    Cert.SampleRefIdeal.Gen.facts, Cert.Features.Gen.facts, Cert.FeaturesIdeal.Gen.facts,
    Cert.FeaturesRefIdeal.Gen.facts, Cert.Pre_near_named.Gen.facts, Cert.Pre_near_named_cent_finite.Gen.facts,
    frame_kernel, frame_ideal, frame_ideal₂, frame_reference, frame_reference₂, Cert.Near.frame_kernel,
    Cert.Near.frame_ideal, Cert.Near.frame_reference, Cert.Samp.frame_ideal, Cert.Samp.frame_reference,
    Cert.Net.frame_kernel, Cert.Net.frame_ideal, Cert.Net.frame_reference, trivial, equal, trivial, Cert.Near.equal,
    Cert.Samp.equal, trivial, Cert.Net.equal⟩

end Cert.Proof

end
